-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownEx [hPre_down_work_list : Cert.Pre_down_work_list.Facts] (m : (ℓ : Loc Cert.DownEx.nD Cert.DownEx.τ Cert.DownEx.sig) → Buf (Elt Bits) ℓ) : Prop :=
  ∀ c : Dev Cert.DownEx.nD,
    (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.2.2.2.2.2.1 = (fun _ => 1#1)
    ∧ (Cert.Pre_down_work_list.fn (F := Bits) (m ((c.tc : Thread Cert.DownEx.nD Cert.DownEx.τ).loc Cert.DownEx.main_arg0)) (m ((c.tc : Thread Cert.DownEx.nD Cert.DownEx.τ).loc Cert.DownEx.main_arg1)) (m ((c.tc : Thread Cert.DownEx.nD Cert.DownEx.τ).loc Cert.DownEx.main_arg2)) (m ((c.tc : Thread Cert.DownEx.nD Cert.DownEx.τ).loc Cert.DownEx.main_arg3)) (m ((c.tc : Thread Cert.DownEx.nD Cert.DownEx.τ).loc Cert.DownEx.main_arg4)) (m ((c.tc : Thread Cert.DownEx.nD Cert.DownEx.τ).loc Cert.DownEx.main_arg5)) (m ((c.tc : Thread Cert.DownEx.nD Cert.DownEx.τ).loc Cert.DownEx.main_arg6)) (m ((c.tc : Thread Cert.DownEx.nD Cert.DownEx.τ).loc Cert.DownEx.main_arg7)) (m ((c.tc : Thread Cert.DownEx.nD Cert.DownEx.τ).loc Cert.DownEx.main_arg8))).2.2.2.2.2.2.2.2.2.2.2 = (fun _ => 1#1)

def Pre_DownExIdeal [hPre_down_work_list : Cert.Pre_down_work_list.Facts] (m : (ℓ : Loc Cert.DownExIdeal.nD Cert.DownExIdeal.τ Cert.DownExIdeal.sig) → Buf (Elt Ideal) ℓ) : Prop :=
  ∀ c : Dev Cert.DownExIdeal.nD,
    (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.2.2.2.2.2.1 = (fun _ => 1#1)
    ∧ (Cert.Pre_down_work_list.fn (F := Ideal) (m ((c.tc : Thread Cert.DownExIdeal.nD Cert.DownExIdeal.τ).loc Cert.DownExIdeal.main_arg0)) (m ((c.tc : Thread Cert.DownExIdeal.nD Cert.DownExIdeal.τ).loc Cert.DownExIdeal.main_arg1)) (m ((c.tc : Thread Cert.DownExIdeal.nD Cert.DownExIdeal.τ).loc Cert.DownExIdeal.main_arg2)) (m ((c.tc : Thread Cert.DownExIdeal.nD Cert.DownExIdeal.τ).loc Cert.DownExIdeal.main_arg3)) (m ((c.tc : Thread Cert.DownExIdeal.nD Cert.DownExIdeal.τ).loc Cert.DownExIdeal.main_arg4)) (m ((c.tc : Thread Cert.DownExIdeal.nD Cert.DownExIdeal.τ).loc Cert.DownExIdeal.main_arg5)) (m ((c.tc : Thread Cert.DownExIdeal.nD Cert.DownExIdeal.τ).loc Cert.DownExIdeal.main_arg6)) (m ((c.tc : Thread Cert.DownExIdeal.nD Cert.DownExIdeal.τ).loc Cert.DownExIdeal.main_arg7)) (m ((c.tc : Thread Cert.DownExIdeal.nD Cert.DownExIdeal.τ).loc Cert.DownExIdeal.main_arg8))).2.2.2.2.2.2.2.2.2.2.2 = (fun _ => 1#1)

def Pre_DownExRefIdeal [hPre_down_work_list : Cert.Pre_down_work_list.Facts] (m : (ℓ : Loc Cert.DownExRefIdeal.nD Cert.DownExRefIdeal.τ Cert.DownExRefIdeal.sig) → Buf (Elt Ideal) ℓ) : Prop :=
  ∀ c : Dev Cert.DownExRefIdeal.nD,
    (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.2.2.2.2.2.1 = (fun _ => 1#1)
    ∧ (Cert.Pre_down_work_list.fn (F := Ideal) (m ((c.tc : Thread Cert.DownExRefIdeal.nD Cert.DownExRefIdeal.τ).loc Cert.DownExRefIdeal.main_arg0)) (m ((c.tc : Thread Cert.DownExRefIdeal.nD Cert.DownExRefIdeal.τ).loc Cert.DownExRefIdeal.main_arg1)) (m ((c.tc : Thread Cert.DownExRefIdeal.nD Cert.DownExRefIdeal.τ).loc Cert.DownExRefIdeal.main_arg2)) (m ((c.tc : Thread Cert.DownExRefIdeal.nD Cert.DownExRefIdeal.τ).loc Cert.DownExRefIdeal.main_arg3)) (m ((c.tc : Thread Cert.DownExRefIdeal.nD Cert.DownExRefIdeal.τ).loc Cert.DownExRefIdeal.main_arg4)) (m ((c.tc : Thread Cert.DownExRefIdeal.nD Cert.DownExRefIdeal.τ).loc Cert.DownExRefIdeal.main_arg5)) (m ((c.tc : Thread Cert.DownExRefIdeal.nD Cert.DownExRefIdeal.τ).loc Cert.DownExRefIdeal.main_arg6)) (m ((c.tc : Thread Cert.DownExRefIdeal.nD Cert.DownExRefIdeal.τ).loc Cert.DownExRefIdeal.main_arg7)) (m ((c.tc : Thread Cert.DownExRefIdeal.nD Cert.DownExRefIdeal.τ).loc Cert.DownExRefIdeal.main_arg8))).2.2.2.2.2.2.2.2.2.2.2 = (fun _ => 1#1)

def Pre_UpEx [hPre_up_work_list : Cert.Pre_up_work_list.Facts] (m : (ℓ : Loc Cert.UpEx.nD Cert.UpEx.τ Cert.UpEx.sig) → Buf (Elt Bits) ℓ) : Prop :=
  ∀ c : Dev Cert.UpEx.nD,
    (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.2.2.2.2.2.1 = (fun _ => 1#1)
    ∧ (Cert.Pre_up_work_list.fn (F := Bits) (m ((c.tc : Thread Cert.UpEx.nD Cert.UpEx.τ).loc Cert.UpEx.main_arg0)) (m ((c.tc : Thread Cert.UpEx.nD Cert.UpEx.τ).loc Cert.UpEx.main_arg1)) (m ((c.tc : Thread Cert.UpEx.nD Cert.UpEx.τ).loc Cert.UpEx.main_arg2)) (m ((c.tc : Thread Cert.UpEx.nD Cert.UpEx.τ).loc Cert.UpEx.main_arg3)) (m ((c.tc : Thread Cert.UpEx.nD Cert.UpEx.τ).loc Cert.UpEx.main_arg4)) (m ((c.tc : Thread Cert.UpEx.nD Cert.UpEx.τ).loc Cert.UpEx.main_arg5)) (m ((c.tc : Thread Cert.UpEx.nD Cert.UpEx.τ).loc Cert.UpEx.main_arg6)) (m ((c.tc : Thread Cert.UpEx.nD Cert.UpEx.τ).loc Cert.UpEx.main_arg7)) (m ((c.tc : Thread Cert.UpEx.nD Cert.UpEx.τ).loc Cert.UpEx.main_arg8)) (m ((c.tc : Thread Cert.UpEx.nD Cert.UpEx.τ).loc Cert.UpEx.main_arg9)) (m ((c.tc : Thread Cert.UpEx.nD Cert.UpEx.τ).loc Cert.UpEx.main_arg10))).2.2.2.2.2.2.2.2.2.2.2 = (fun _ => 1#1)

def Pre_UpExIdeal [hPre_up_work_list : Cert.Pre_up_work_list.Facts] (m : (ℓ : Loc Cert.UpExIdeal.nD Cert.UpExIdeal.τ Cert.UpExIdeal.sig) → Buf (Elt Ideal) ℓ) : Prop :=
  ∀ c : Dev Cert.UpExIdeal.nD,
    (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.2.2.2.2.2.1 = (fun _ => 1#1)
    ∧ (Cert.Pre_up_work_list.fn (F := Ideal) (m ((c.tc : Thread Cert.UpExIdeal.nD Cert.UpExIdeal.τ).loc Cert.UpExIdeal.main_arg0)) (m ((c.tc : Thread Cert.UpExIdeal.nD Cert.UpExIdeal.τ).loc Cert.UpExIdeal.main_arg1)) (m ((c.tc : Thread Cert.UpExIdeal.nD Cert.UpExIdeal.τ).loc Cert.UpExIdeal.main_arg2)) (m ((c.tc : Thread Cert.UpExIdeal.nD Cert.UpExIdeal.τ).loc Cert.UpExIdeal.main_arg3)) (m ((c.tc : Thread Cert.UpExIdeal.nD Cert.UpExIdeal.τ).loc Cert.UpExIdeal.main_arg4)) (m ((c.tc : Thread Cert.UpExIdeal.nD Cert.UpExIdeal.τ).loc Cert.UpExIdeal.main_arg5)) (m ((c.tc : Thread Cert.UpExIdeal.nD Cert.UpExIdeal.τ).loc Cert.UpExIdeal.main_arg6)) (m ((c.tc : Thread Cert.UpExIdeal.nD Cert.UpExIdeal.τ).loc Cert.UpExIdeal.main_arg7)) (m ((c.tc : Thread Cert.UpExIdeal.nD Cert.UpExIdeal.τ).loc Cert.UpExIdeal.main_arg8)) (m ((c.tc : Thread Cert.UpExIdeal.nD Cert.UpExIdeal.τ).loc Cert.UpExIdeal.main_arg9)) (m ((c.tc : Thread Cert.UpExIdeal.nD Cert.UpExIdeal.τ).loc Cert.UpExIdeal.main_arg10))).2.2.2.2.2.2.2.2.2.2.2 = (fun _ => 1#1)

def Pre_UpExRefIdeal [hPre_up_work_list : Cert.Pre_up_work_list.Facts] (m : (ℓ : Loc Cert.UpExRefIdeal.nD Cert.UpExRefIdeal.τ Cert.UpExRefIdeal.sig) → Buf (Elt Ideal) ℓ) : Prop :=
  ∀ c : Dev Cert.UpExRefIdeal.nD,
    (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.2.2.2.2.2.1 = (fun _ => 1#1)
    ∧ (Cert.Pre_up_work_list.fn (F := Ideal) (m ((c.tc : Thread Cert.UpExRefIdeal.nD Cert.UpExRefIdeal.τ).loc Cert.UpExRefIdeal.main_arg0)) (m ((c.tc : Thread Cert.UpExRefIdeal.nD Cert.UpExRefIdeal.τ).loc Cert.UpExRefIdeal.main_arg1)) (m ((c.tc : Thread Cert.UpExRefIdeal.nD Cert.UpExRefIdeal.τ).loc Cert.UpExRefIdeal.main_arg2)) (m ((c.tc : Thread Cert.UpExRefIdeal.nD Cert.UpExRefIdeal.τ).loc Cert.UpExRefIdeal.main_arg3)) (m ((c.tc : Thread Cert.UpExRefIdeal.nD Cert.UpExRefIdeal.τ).loc Cert.UpExRefIdeal.main_arg4)) (m ((c.tc : Thread Cert.UpExRefIdeal.nD Cert.UpExRefIdeal.τ).loc Cert.UpExRefIdeal.main_arg5)) (m ((c.tc : Thread Cert.UpExRefIdeal.nD Cert.UpExRefIdeal.τ).loc Cert.UpExRefIdeal.main_arg6)) (m ((c.tc : Thread Cert.UpExRefIdeal.nD Cert.UpExRefIdeal.τ).loc Cert.UpExRefIdeal.main_arg7)) (m ((c.tc : Thread Cert.UpExRefIdeal.nD Cert.UpExRefIdeal.τ).loc Cert.UpExRefIdeal.main_arg8)) (m ((c.tc : Thread Cert.UpExRefIdeal.nD Cert.UpExRefIdeal.τ).loc Cert.UpExRefIdeal.main_arg9)) (m ((c.tc : Thread Cert.UpExRefIdeal.nD Cert.UpExRefIdeal.τ).loc Cert.UpExRefIdeal.main_arg10))).2.2.2.2.2.2.2.2.2.2.2 = (fun _ => 1#1)

def Pre_DownSh (m : (ℓ : Loc Cert.DownSh.nD Cert.DownSh.τ Cert.DownSh.sig) → Buf (Elt Bits) ℓ) : Prop :=
  True

def Pre_DownShIdeal (m : (ℓ : Loc Cert.DownShIdeal.nD Cert.DownShIdeal.τ Cert.DownShIdeal.sig) → Buf (Elt Ideal) ℓ) : Prop :=
  True

def Pre_DownShRefIdeal (m : (ℓ : Loc Cert.DownShRefIdeal.nD Cert.DownShRefIdeal.τ Cert.DownShRefIdeal.sig) → Buf (Elt Ideal) ℓ) : Prop :=
  True

def Pre_DownTx (m : (ℓ : Loc Cert.DownTx.nD Cert.DownTx.τ Cert.DownTx.sig) → Buf (Elt Bits) ℓ) : Prop :=
  True

def Pre_DownTxIdeal (m : (ℓ : Loc Cert.DownTxIdeal.nD Cert.DownTxIdeal.τ Cert.DownTxIdeal.sig) → Buf (Elt Ideal) ℓ) : Prop :=
  True

def Pre_DownTxRefIdeal (m : (ℓ : Loc Cert.DownTxRefIdeal.nD Cert.DownTxRefIdeal.τ Cert.DownTxRefIdeal.sig) → Buf (Elt Ideal) ℓ) : Prop :=
  True

def Pre_LnIm (m : (ℓ : Loc Cert.LnIm.nD Cert.LnIm.τ Cert.LnIm.sig) → Buf (Elt Bits) ℓ) : Prop :=
  True

def Pre_LnImIdeal (m : (ℓ : Loc Cert.LnImIdeal.nD Cert.LnImIdeal.τ Cert.LnImIdeal.sig) → Buf (Elt Ideal) ℓ) : Prop :=
  True

def Pre_LnImRefIdeal (m : (ℓ : Loc Cert.LnImRefIdeal.nD Cert.LnImRefIdeal.τ Cert.LnImRefIdeal.sig) → Buf (Elt Ideal) ℓ) : Prop :=
  True

def Pre_LnTx (m : (ℓ : Loc Cert.LnTx.nD Cert.LnTx.τ Cert.LnTx.sig) → Buf (Elt Bits) ℓ) : Prop :=
  True

def Pre_LnTxIdeal (m : (ℓ : Loc Cert.LnTxIdeal.nD Cert.LnTxIdeal.τ Cert.LnTxIdeal.sig) → Buf (Elt Ideal) ℓ) : Prop :=
  True

def Pre_LnTxRefIdeal (m : (ℓ : Loc Cert.LnTxRefIdeal.nD Cert.LnTxRefIdeal.τ Cert.LnTxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownEx [hDownEx : Cert.DownEx.Facts] [hPre_down_work_list : Cert.Pre_down_work_list.Facts] : Prop :=
  ∀ (m : (ℓ : Loc Cert.DownEx.nD Cert.DownEx.τ Cert.DownEx.sig) → Buf (Elt Bits) ℓ) (g : Dev Cert.DownEx.nD → PrngReg), Pre_DownEx m →
    θ_run (Cert.DownEx.defs (F := Bits)) (onTc (τ := Cert.DownEx.τ) (Cert.DownEx.main (F := Bits))) ⟨m, fun _ => 0, g⟩ (fun r => (∀ c : Dev Cert.DownEx.nD,
      r.2.mem ((c.tc : Thread Cert.DownEx.nD Cert.DownEx.τ).loc Cert.DownEx.main_arg0) = m ((c.tc : Thread Cert.DownEx.nD Cert.DownEx.τ).loc Cert.DownEx.main_arg0)
      ∧ r.2.mem ((c.tc : Thread Cert.DownEx.nD Cert.DownEx.τ).loc Cert.DownEx.main_arg1) = m ((c.tc : Thread Cert.DownEx.nD Cert.DownEx.τ).loc Cert.DownEx.main_arg1)
      ∧ r.2.mem ((c.tc : Thread Cert.DownEx.nD Cert.DownEx.τ).loc Cert.DownEx.main_arg2) = m ((c.tc : Thread Cert.DownEx.nD Cert.DownEx.τ).loc Cert.DownEx.main_arg2)
      ∧ r.2.mem ((c.tc : Thread Cert.DownEx.nD Cert.DownEx.τ).loc Cert.DownEx.main_arg3) = m ((c.tc : Thread Cert.DownEx.nD Cert.DownEx.τ).loc Cert.DownEx.main_arg3)
      ∧ r.2.mem ((c.tc : Thread Cert.DownEx.nD Cert.DownEx.τ).loc Cert.DownEx.main_arg4) = m ((c.tc : Thread Cert.DownEx.nD Cert.DownEx.τ).loc Cert.DownEx.main_arg4)
      ∧ r.2.mem ((c.tc : Thread Cert.DownEx.nD Cert.DownEx.τ).loc Cert.DownEx.main_arg5) = m ((c.tc : Thread Cert.DownEx.nD Cert.DownEx.τ).loc Cert.DownEx.main_arg5)
      ∧ r.2.mem ((c.tc : Thread Cert.DownEx.nD Cert.DownEx.τ).loc Cert.DownEx.main_arg6) = m ((c.tc : Thread Cert.DownEx.nD Cert.DownEx.τ).loc Cert.DownEx.main_arg6)
      ∧ r.2.mem ((c.tc : Thread Cert.DownEx.nD Cert.DownEx.τ).loc Cert.DownEx.main_arg7) = m ((c.tc : Thread Cert.DownEx.nD Cert.DownEx.τ).loc Cert.DownEx.main_arg7)
      ∧ r.2.mem ((c.tc : Thread Cert.DownEx.nD Cert.DownEx.τ).loc Cert.DownEx.main_arg8) = m ((c.tc : Thread Cert.DownEx.nD Cert.DownEx.τ).loc Cert.DownEx.main_arg8))
      ∧ r.2.sem = fun _ => 0)

def quiescent_DownExIdeal [hDownExIdeal : Cert.DownExIdeal.Facts] [hPre_down_work_list : Cert.Pre_down_work_list.Facts] : Prop :=
  ∀ (m : (ℓ : Loc Cert.DownExIdeal.nD Cert.DownExIdeal.τ Cert.DownExIdeal.sig) → Buf (Elt Ideal) ℓ) (g : Dev Cert.DownExIdeal.nD → PrngReg), Pre_DownExIdeal m →
    θ_run (Cert.DownExIdeal.defs (F := Ideal)) (onTc (τ := Cert.DownExIdeal.τ) (Cert.DownExIdeal.main (F := Ideal))) ⟨m, fun _ => 0, g⟩ (fun r => (∀ c : Dev Cert.DownExIdeal.nD,
      r.2.mem ((c.tc : Thread Cert.DownExIdeal.nD Cert.DownExIdeal.τ).loc Cert.DownExIdeal.main_arg0) = m ((c.tc : Thread Cert.DownExIdeal.nD Cert.DownExIdeal.τ).loc Cert.DownExIdeal.main_arg0)
      ∧ r.2.mem ((c.tc : Thread Cert.DownExIdeal.nD Cert.DownExIdeal.τ).loc Cert.DownExIdeal.main_arg1) = m ((c.tc : Thread Cert.DownExIdeal.nD Cert.DownExIdeal.τ).loc Cert.DownExIdeal.main_arg1)
      ∧ r.2.mem ((c.tc : Thread Cert.DownExIdeal.nD Cert.DownExIdeal.τ).loc Cert.DownExIdeal.main_arg2) = m ((c.tc : Thread Cert.DownExIdeal.nD Cert.DownExIdeal.τ).loc Cert.DownExIdeal.main_arg2)
      ∧ r.2.mem ((c.tc : Thread Cert.DownExIdeal.nD Cert.DownExIdeal.τ).loc Cert.DownExIdeal.main_arg3) = m ((c.tc : Thread Cert.DownExIdeal.nD Cert.DownExIdeal.τ).loc Cert.DownExIdeal.main_arg3)
      ∧ r.2.mem ((c.tc : Thread Cert.DownExIdeal.nD Cert.DownExIdeal.τ).loc Cert.DownExIdeal.main_arg4) = m ((c.tc : Thread Cert.DownExIdeal.nD Cert.DownExIdeal.τ).loc Cert.DownExIdeal.main_arg4)
      ∧ r.2.mem ((c.tc : Thread Cert.DownExIdeal.nD Cert.DownExIdeal.τ).loc Cert.DownExIdeal.main_arg5) = m ((c.tc : Thread Cert.DownExIdeal.nD Cert.DownExIdeal.τ).loc Cert.DownExIdeal.main_arg5)
      ∧ r.2.mem ((c.tc : Thread Cert.DownExIdeal.nD Cert.DownExIdeal.τ).loc Cert.DownExIdeal.main_arg6) = m ((c.tc : Thread Cert.DownExIdeal.nD Cert.DownExIdeal.τ).loc Cert.DownExIdeal.main_arg6)
      ∧ r.2.mem ((c.tc : Thread Cert.DownExIdeal.nD Cert.DownExIdeal.τ).loc Cert.DownExIdeal.main_arg7) = m ((c.tc : Thread Cert.DownExIdeal.nD Cert.DownExIdeal.τ).loc Cert.DownExIdeal.main_arg7)
      ∧ r.2.mem ((c.tc : Thread Cert.DownExIdeal.nD Cert.DownExIdeal.τ).loc Cert.DownExIdeal.main_arg8) = m ((c.tc : Thread Cert.DownExIdeal.nD Cert.DownExIdeal.τ).loc Cert.DownExIdeal.main_arg8))
      ∧ r.2.sem = fun _ => 0)

def quiescent_DownExRefIdeal [hDownExRefIdeal : Cert.DownExRefIdeal.Facts] [hPre_down_work_list : Cert.Pre_down_work_list.Facts] : Prop :=
  ∀ (m : (ℓ : Loc Cert.DownExRefIdeal.nD Cert.DownExRefIdeal.τ Cert.DownExRefIdeal.sig) → Buf (Elt Ideal) ℓ) (g : Dev Cert.DownExRefIdeal.nD → PrngReg), Pre_DownExRefIdeal m →
    θ_run (Cert.DownExRefIdeal.defs (F := Ideal)) (onTc (τ := Cert.DownExRefIdeal.τ) (Cert.DownExRefIdeal.main (F := Ideal))) ⟨m, fun _ => 0, g⟩ (fun r => (∀ c : Dev Cert.DownExRefIdeal.nD,
      r.2.mem ((c.tc : Thread Cert.DownExRefIdeal.nD Cert.DownExRefIdeal.τ).loc Cert.DownExRefIdeal.main_arg0) = m ((c.tc : Thread Cert.DownExRefIdeal.nD Cert.DownExRefIdeal.τ).loc Cert.DownExRefIdeal.main_arg0)
      ∧ r.2.mem ((c.tc : Thread Cert.DownExRefIdeal.nD Cert.DownExRefIdeal.τ).loc Cert.DownExRefIdeal.main_arg1) = m ((c.tc : Thread Cert.DownExRefIdeal.nD Cert.DownExRefIdeal.τ).loc Cert.DownExRefIdeal.main_arg1)
      ∧ r.2.mem ((c.tc : Thread Cert.DownExRefIdeal.nD Cert.DownExRefIdeal.τ).loc Cert.DownExRefIdeal.main_arg2) = m ((c.tc : Thread Cert.DownExRefIdeal.nD Cert.DownExRefIdeal.τ).loc Cert.DownExRefIdeal.main_arg2)
      ∧ r.2.mem ((c.tc : Thread Cert.DownExRefIdeal.nD Cert.DownExRefIdeal.τ).loc Cert.DownExRefIdeal.main_arg3) = m ((c.tc : Thread Cert.DownExRefIdeal.nD Cert.DownExRefIdeal.τ).loc Cert.DownExRefIdeal.main_arg3)
      ∧ r.2.mem ((c.tc : Thread Cert.DownExRefIdeal.nD Cert.DownExRefIdeal.τ).loc Cert.DownExRefIdeal.main_arg4) = m ((c.tc : Thread Cert.DownExRefIdeal.nD Cert.DownExRefIdeal.τ).loc Cert.DownExRefIdeal.main_arg4)
      ∧ r.2.mem ((c.tc : Thread Cert.DownExRefIdeal.nD Cert.DownExRefIdeal.τ).loc Cert.DownExRefIdeal.main_arg5) = m ((c.tc : Thread Cert.DownExRefIdeal.nD Cert.DownExRefIdeal.τ).loc Cert.DownExRefIdeal.main_arg5)
      ∧ r.2.mem ((c.tc : Thread Cert.DownExRefIdeal.nD Cert.DownExRefIdeal.τ).loc Cert.DownExRefIdeal.main_arg6) = m ((c.tc : Thread Cert.DownExRefIdeal.nD Cert.DownExRefIdeal.τ).loc Cert.DownExRefIdeal.main_arg6)
      ∧ r.2.mem ((c.tc : Thread Cert.DownExRefIdeal.nD Cert.DownExRefIdeal.τ).loc Cert.DownExRefIdeal.main_arg7) = m ((c.tc : Thread Cert.DownExRefIdeal.nD Cert.DownExRefIdeal.τ).loc Cert.DownExRefIdeal.main_arg7)
      ∧ r.2.mem ((c.tc : Thread Cert.DownExRefIdeal.nD Cert.DownExRefIdeal.τ).loc Cert.DownExRefIdeal.main_arg8) = m ((c.tc : Thread Cert.DownExRefIdeal.nD Cert.DownExRefIdeal.τ).loc Cert.DownExRefIdeal.main_arg8))
      ∧ r.2.sem = fun _ => 0)

def quiescent_UpEx [hUpEx : Cert.UpEx.Facts] [hPre_up_work_list : Cert.Pre_up_work_list.Facts] : Prop :=
  ∀ (m : (ℓ : Loc Cert.UpEx.nD Cert.UpEx.τ Cert.UpEx.sig) → Buf (Elt Bits) ℓ) (g : Dev Cert.UpEx.nD → PrngReg), Pre_UpEx m →
    θ_run (Cert.UpEx.defs (F := Bits)) (onTc (τ := Cert.UpEx.τ) (Cert.UpEx.main (F := Bits))) ⟨m, fun _ => 0, g⟩ (fun r => (∀ c : Dev Cert.UpEx.nD,
      r.2.mem ((c.tc : Thread Cert.UpEx.nD Cert.UpEx.τ).loc Cert.UpEx.main_arg0) = m ((c.tc : Thread Cert.UpEx.nD Cert.UpEx.τ).loc Cert.UpEx.main_arg0)
      ∧ r.2.mem ((c.tc : Thread Cert.UpEx.nD Cert.UpEx.τ).loc Cert.UpEx.main_arg1) = m ((c.tc : Thread Cert.UpEx.nD Cert.UpEx.τ).loc Cert.UpEx.main_arg1)
      ∧ r.2.mem ((c.tc : Thread Cert.UpEx.nD Cert.UpEx.τ).loc Cert.UpEx.main_arg2) = m ((c.tc : Thread Cert.UpEx.nD Cert.UpEx.τ).loc Cert.UpEx.main_arg2)
      ∧ r.2.mem ((c.tc : Thread Cert.UpEx.nD Cert.UpEx.τ).loc Cert.UpEx.main_arg3) = m ((c.tc : Thread Cert.UpEx.nD Cert.UpEx.τ).loc Cert.UpEx.main_arg3)
      ∧ r.2.mem ((c.tc : Thread Cert.UpEx.nD Cert.UpEx.τ).loc Cert.UpEx.main_arg4) = m ((c.tc : Thread Cert.UpEx.nD Cert.UpEx.τ).loc Cert.UpEx.main_arg4)
      ∧ r.2.mem ((c.tc : Thread Cert.UpEx.nD Cert.UpEx.τ).loc Cert.UpEx.main_arg5) = m ((c.tc : Thread Cert.UpEx.nD Cert.UpEx.τ).loc Cert.UpEx.main_arg5)
      ∧ r.2.mem ((c.tc : Thread Cert.UpEx.nD Cert.UpEx.τ).loc Cert.UpEx.main_arg6) = m ((c.tc : Thread Cert.UpEx.nD Cert.UpEx.τ).loc Cert.UpEx.main_arg6)
      ∧ r.2.mem ((c.tc : Thread Cert.UpEx.nD Cert.UpEx.τ).loc Cert.UpEx.main_arg7) = m ((c.tc : Thread Cert.UpEx.nD Cert.UpEx.τ).loc Cert.UpEx.main_arg7)
      ∧ r.2.mem ((c.tc : Thread Cert.UpEx.nD Cert.UpEx.τ).loc Cert.UpEx.main_arg8) = m ((c.tc : Thread Cert.UpEx.nD Cert.UpEx.τ).loc Cert.UpEx.main_arg8)
      ∧ r.2.mem ((c.tc : Thread Cert.UpEx.nD Cert.UpEx.τ).loc Cert.UpEx.main_arg9) = m ((c.tc : Thread Cert.UpEx.nD Cert.UpEx.τ).loc Cert.UpEx.main_arg9)
      ∧ r.2.mem ((c.tc : Thread Cert.UpEx.nD Cert.UpEx.τ).loc Cert.UpEx.main_arg10) = m ((c.tc : Thread Cert.UpEx.nD Cert.UpEx.τ).loc Cert.UpEx.main_arg10))
      ∧ r.2.sem = fun _ => 0)

def quiescent_UpExIdeal [hUpExIdeal : Cert.UpExIdeal.Facts] [hPre_up_work_list : Cert.Pre_up_work_list.Facts] : Prop :=
  ∀ (m : (ℓ : Loc Cert.UpExIdeal.nD Cert.UpExIdeal.τ Cert.UpExIdeal.sig) → Buf (Elt Ideal) ℓ) (g : Dev Cert.UpExIdeal.nD → PrngReg), Pre_UpExIdeal m →
    θ_run (Cert.UpExIdeal.defs (F := Ideal)) (onTc (τ := Cert.UpExIdeal.τ) (Cert.UpExIdeal.main (F := Ideal))) ⟨m, fun _ => 0, g⟩ (fun r => (∀ c : Dev Cert.UpExIdeal.nD,
      r.2.mem ((c.tc : Thread Cert.UpExIdeal.nD Cert.UpExIdeal.τ).loc Cert.UpExIdeal.main_arg0) = m ((c.tc : Thread Cert.UpExIdeal.nD Cert.UpExIdeal.τ).loc Cert.UpExIdeal.main_arg0)
      ∧ r.2.mem ((c.tc : Thread Cert.UpExIdeal.nD Cert.UpExIdeal.τ).loc Cert.UpExIdeal.main_arg1) = m ((c.tc : Thread Cert.UpExIdeal.nD Cert.UpExIdeal.τ).loc Cert.UpExIdeal.main_arg1)
      ∧ r.2.mem ((c.tc : Thread Cert.UpExIdeal.nD Cert.UpExIdeal.τ).loc Cert.UpExIdeal.main_arg2) = m ((c.tc : Thread Cert.UpExIdeal.nD Cert.UpExIdeal.τ).loc Cert.UpExIdeal.main_arg2)
      ∧ r.2.mem ((c.tc : Thread Cert.UpExIdeal.nD Cert.UpExIdeal.τ).loc Cert.UpExIdeal.main_arg3) = m ((c.tc : Thread Cert.UpExIdeal.nD Cert.UpExIdeal.τ).loc Cert.UpExIdeal.main_arg3)
      ∧ r.2.mem ((c.tc : Thread Cert.UpExIdeal.nD Cert.UpExIdeal.τ).loc Cert.UpExIdeal.main_arg4) = m ((c.tc : Thread Cert.UpExIdeal.nD Cert.UpExIdeal.τ).loc Cert.UpExIdeal.main_arg4)
      ∧ r.2.mem ((c.tc : Thread Cert.UpExIdeal.nD Cert.UpExIdeal.τ).loc Cert.UpExIdeal.main_arg5) = m ((c.tc : Thread Cert.UpExIdeal.nD Cert.UpExIdeal.τ).loc Cert.UpExIdeal.main_arg5)
      ∧ r.2.mem ((c.tc : Thread Cert.UpExIdeal.nD Cert.UpExIdeal.τ).loc Cert.UpExIdeal.main_arg6) = m ((c.tc : Thread Cert.UpExIdeal.nD Cert.UpExIdeal.τ).loc Cert.UpExIdeal.main_arg6)
      ∧ r.2.mem ((c.tc : Thread Cert.UpExIdeal.nD Cert.UpExIdeal.τ).loc Cert.UpExIdeal.main_arg7) = m ((c.tc : Thread Cert.UpExIdeal.nD Cert.UpExIdeal.τ).loc Cert.UpExIdeal.main_arg7)
      ∧ r.2.mem ((c.tc : Thread Cert.UpExIdeal.nD Cert.UpExIdeal.τ).loc Cert.UpExIdeal.main_arg8) = m ((c.tc : Thread Cert.UpExIdeal.nD Cert.UpExIdeal.τ).loc Cert.UpExIdeal.main_arg8)
      ∧ r.2.mem ((c.tc : Thread Cert.UpExIdeal.nD Cert.UpExIdeal.τ).loc Cert.UpExIdeal.main_arg9) = m ((c.tc : Thread Cert.UpExIdeal.nD Cert.UpExIdeal.τ).loc Cert.UpExIdeal.main_arg9)
      ∧ r.2.mem ((c.tc : Thread Cert.UpExIdeal.nD Cert.UpExIdeal.τ).loc Cert.UpExIdeal.main_arg10) = m ((c.tc : Thread Cert.UpExIdeal.nD Cert.UpExIdeal.τ).loc Cert.UpExIdeal.main_arg10))
      ∧ r.2.sem = fun _ => 0)

def quiescent_UpExRefIdeal [hUpExRefIdeal : Cert.UpExRefIdeal.Facts] [hPre_up_work_list : Cert.Pre_up_work_list.Facts] : Prop :=
  ∀ (m : (ℓ : Loc Cert.UpExRefIdeal.nD Cert.UpExRefIdeal.τ Cert.UpExRefIdeal.sig) → Buf (Elt Ideal) ℓ) (g : Dev Cert.UpExRefIdeal.nD → PrngReg), Pre_UpExRefIdeal m →
    θ_run (Cert.UpExRefIdeal.defs (F := Ideal)) (onTc (τ := Cert.UpExRefIdeal.τ) (Cert.UpExRefIdeal.main (F := Ideal))) ⟨m, fun _ => 0, g⟩ (fun r => (∀ c : Dev Cert.UpExRefIdeal.nD,
      r.2.mem ((c.tc : Thread Cert.UpExRefIdeal.nD Cert.UpExRefIdeal.τ).loc Cert.UpExRefIdeal.main_arg0) = m ((c.tc : Thread Cert.UpExRefIdeal.nD Cert.UpExRefIdeal.τ).loc Cert.UpExRefIdeal.main_arg0)
      ∧ r.2.mem ((c.tc : Thread Cert.UpExRefIdeal.nD Cert.UpExRefIdeal.τ).loc Cert.UpExRefIdeal.main_arg1) = m ((c.tc : Thread Cert.UpExRefIdeal.nD Cert.UpExRefIdeal.τ).loc Cert.UpExRefIdeal.main_arg1)
      ∧ r.2.mem ((c.tc : Thread Cert.UpExRefIdeal.nD Cert.UpExRefIdeal.τ).loc Cert.UpExRefIdeal.main_arg2) = m ((c.tc : Thread Cert.UpExRefIdeal.nD Cert.UpExRefIdeal.τ).loc Cert.UpExRefIdeal.main_arg2)
      ∧ r.2.mem ((c.tc : Thread Cert.UpExRefIdeal.nD Cert.UpExRefIdeal.τ).loc Cert.UpExRefIdeal.main_arg3) = m ((c.tc : Thread Cert.UpExRefIdeal.nD Cert.UpExRefIdeal.τ).loc Cert.UpExRefIdeal.main_arg3)
      ∧ r.2.mem ((c.tc : Thread Cert.UpExRefIdeal.nD Cert.UpExRefIdeal.τ).loc Cert.UpExRefIdeal.main_arg4) = m ((c.tc : Thread Cert.UpExRefIdeal.nD Cert.UpExRefIdeal.τ).loc Cert.UpExRefIdeal.main_arg4)
      ∧ r.2.mem ((c.tc : Thread Cert.UpExRefIdeal.nD Cert.UpExRefIdeal.τ).loc Cert.UpExRefIdeal.main_arg5) = m ((c.tc : Thread Cert.UpExRefIdeal.nD Cert.UpExRefIdeal.τ).loc Cert.UpExRefIdeal.main_arg5)
      ∧ r.2.mem ((c.tc : Thread Cert.UpExRefIdeal.nD Cert.UpExRefIdeal.τ).loc Cert.UpExRefIdeal.main_arg6) = m ((c.tc : Thread Cert.UpExRefIdeal.nD Cert.UpExRefIdeal.τ).loc Cert.UpExRefIdeal.main_arg6)
      ∧ r.2.mem ((c.tc : Thread Cert.UpExRefIdeal.nD Cert.UpExRefIdeal.τ).loc Cert.UpExRefIdeal.main_arg7) = m ((c.tc : Thread Cert.UpExRefIdeal.nD Cert.UpExRefIdeal.τ).loc Cert.UpExRefIdeal.main_arg7)
      ∧ r.2.mem ((c.tc : Thread Cert.UpExRefIdeal.nD Cert.UpExRefIdeal.τ).loc Cert.UpExRefIdeal.main_arg8) = m ((c.tc : Thread Cert.UpExRefIdeal.nD Cert.UpExRefIdeal.τ).loc Cert.UpExRefIdeal.main_arg8)
      ∧ r.2.mem ((c.tc : Thread Cert.UpExRefIdeal.nD Cert.UpExRefIdeal.τ).loc Cert.UpExRefIdeal.main_arg9) = m ((c.tc : Thread Cert.UpExRefIdeal.nD Cert.UpExRefIdeal.τ).loc Cert.UpExRefIdeal.main_arg9)
      ∧ r.2.mem ((c.tc : Thread Cert.UpExRefIdeal.nD Cert.UpExRefIdeal.τ).loc Cert.UpExRefIdeal.main_arg10) = m ((c.tc : Thread Cert.UpExRefIdeal.nD Cert.UpExRefIdeal.τ).loc Cert.UpExRefIdeal.main_arg10))
      ∧ r.2.sem = fun _ => 0)

def quiescent_DownSh [hDownSh : Cert.DownSh.Facts] : Prop :=
  ∀ (m : (ℓ : Loc Cert.DownSh.nD Cert.DownSh.τ Cert.DownSh.sig) → Buf (Elt Bits) ℓ) (g : Dev Cert.DownSh.nD → PrngReg), Pre_DownSh m →
    θ_run (Cert.DownSh.defs (F := Bits)) (onTc (τ := Cert.DownSh.τ) (Cert.DownSh.main (F := Bits))) ⟨m, fun _ => 0, g⟩ (fun r => (∀ c : Dev Cert.DownSh.nD,
      r.2.mem ((c.tc : Thread Cert.DownSh.nD Cert.DownSh.τ).loc Cert.DownSh.main_arg0) = m ((c.tc : Thread Cert.DownSh.nD Cert.DownSh.τ).loc Cert.DownSh.main_arg0)
      ∧ r.2.mem ((c.tc : Thread Cert.DownSh.nD Cert.DownSh.τ).loc Cert.DownSh.main_arg1) = m ((c.tc : Thread Cert.DownSh.nD Cert.DownSh.τ).loc Cert.DownSh.main_arg1)
      ∧ r.2.mem ((c.tc : Thread Cert.DownSh.nD Cert.DownSh.τ).loc Cert.DownSh.main_arg2) = m ((c.tc : Thread Cert.DownSh.nD Cert.DownSh.τ).loc Cert.DownSh.main_arg2)
      ∧ r.2.mem ((c.tc : Thread Cert.DownSh.nD Cert.DownSh.τ).loc Cert.DownSh.main_arg3) = m ((c.tc : Thread Cert.DownSh.nD Cert.DownSh.τ).loc Cert.DownSh.main_arg3)
      ∧ r.2.mem ((c.tc : Thread Cert.DownSh.nD Cert.DownSh.τ).loc Cert.DownSh.main_arg4) = m ((c.tc : Thread Cert.DownSh.nD Cert.DownSh.τ).loc Cert.DownSh.main_arg4)
      ∧ r.2.mem ((c.tc : Thread Cert.DownSh.nD Cert.DownSh.τ).loc Cert.DownSh.main_arg5) = m ((c.tc : Thread Cert.DownSh.nD Cert.DownSh.τ).loc Cert.DownSh.main_arg5)
      ∧ r.2.mem ((c.tc : Thread Cert.DownSh.nD Cert.DownSh.τ).loc Cert.DownSh.main_arg6) = m ((c.tc : Thread Cert.DownSh.nD Cert.DownSh.τ).loc Cert.DownSh.main_arg6))
      ∧ r.2.sem = fun _ => 0)

def quiescent_DownShIdeal [hDownShIdeal : Cert.DownShIdeal.Facts] : Prop :=
  ∀ (m : (ℓ : Loc Cert.DownShIdeal.nD Cert.DownShIdeal.τ Cert.DownShIdeal.sig) → Buf (Elt Ideal) ℓ) (g : Dev Cert.DownShIdeal.nD → PrngReg), Pre_DownShIdeal m →
    θ_run (Cert.DownShIdeal.defs (F := Ideal)) (onTc (τ := Cert.DownShIdeal.τ) (Cert.DownShIdeal.main (F := Ideal))) ⟨m, fun _ => 0, g⟩ (fun r => (∀ c : Dev Cert.DownShIdeal.nD,
      r.2.mem ((c.tc : Thread Cert.DownShIdeal.nD Cert.DownShIdeal.τ).loc Cert.DownShIdeal.main_arg0) = m ((c.tc : Thread Cert.DownShIdeal.nD Cert.DownShIdeal.τ).loc Cert.DownShIdeal.main_arg0)
      ∧ r.2.mem ((c.tc : Thread Cert.DownShIdeal.nD Cert.DownShIdeal.τ).loc Cert.DownShIdeal.main_arg1) = m ((c.tc : Thread Cert.DownShIdeal.nD Cert.DownShIdeal.τ).loc Cert.DownShIdeal.main_arg1)
      ∧ r.2.mem ((c.tc : Thread Cert.DownShIdeal.nD Cert.DownShIdeal.τ).loc Cert.DownShIdeal.main_arg2) = m ((c.tc : Thread Cert.DownShIdeal.nD Cert.DownShIdeal.τ).loc Cert.DownShIdeal.main_arg2)
      ∧ r.2.mem ((c.tc : Thread Cert.DownShIdeal.nD Cert.DownShIdeal.τ).loc Cert.DownShIdeal.main_arg3) = m ((c.tc : Thread Cert.DownShIdeal.nD Cert.DownShIdeal.τ).loc Cert.DownShIdeal.main_arg3)
      ∧ r.2.mem ((c.tc : Thread Cert.DownShIdeal.nD Cert.DownShIdeal.τ).loc Cert.DownShIdeal.main_arg4) = m ((c.tc : Thread Cert.DownShIdeal.nD Cert.DownShIdeal.τ).loc Cert.DownShIdeal.main_arg4)
      ∧ r.2.mem ((c.tc : Thread Cert.DownShIdeal.nD Cert.DownShIdeal.τ).loc Cert.DownShIdeal.main_arg5) = m ((c.tc : Thread Cert.DownShIdeal.nD Cert.DownShIdeal.τ).loc Cert.DownShIdeal.main_arg5)
      ∧ r.2.mem ((c.tc : Thread Cert.DownShIdeal.nD Cert.DownShIdeal.τ).loc Cert.DownShIdeal.main_arg6) = m ((c.tc : Thread Cert.DownShIdeal.nD Cert.DownShIdeal.τ).loc Cert.DownShIdeal.main_arg6))
      ∧ r.2.sem = fun _ => 0)

def quiescent_DownShRefIdeal [hDownShRefIdeal : Cert.DownShRefIdeal.Facts] : Prop :=
  ∀ (m : (ℓ : Loc Cert.DownShRefIdeal.nD Cert.DownShRefIdeal.τ Cert.DownShRefIdeal.sig) → Buf (Elt Ideal) ℓ) (g : Dev Cert.DownShRefIdeal.nD → PrngReg), Pre_DownShRefIdeal m →
    θ_run (Cert.DownShRefIdeal.defs (F := Ideal)) (onTc (τ := Cert.DownShRefIdeal.τ) (Cert.DownShRefIdeal.main (F := Ideal))) ⟨m, fun _ => 0, g⟩ (fun r => (∀ c : Dev Cert.DownShRefIdeal.nD,
      r.2.mem ((c.tc : Thread Cert.DownShRefIdeal.nD Cert.DownShRefIdeal.τ).loc Cert.DownShRefIdeal.main_arg0) = m ((c.tc : Thread Cert.DownShRefIdeal.nD Cert.DownShRefIdeal.τ).loc Cert.DownShRefIdeal.main_arg0)
      ∧ r.2.mem ((c.tc : Thread Cert.DownShRefIdeal.nD Cert.DownShRefIdeal.τ).loc Cert.DownShRefIdeal.main_arg1) = m ((c.tc : Thread Cert.DownShRefIdeal.nD Cert.DownShRefIdeal.τ).loc Cert.DownShRefIdeal.main_arg1)
      ∧ r.2.mem ((c.tc : Thread Cert.DownShRefIdeal.nD Cert.DownShRefIdeal.τ).loc Cert.DownShRefIdeal.main_arg2) = m ((c.tc : Thread Cert.DownShRefIdeal.nD Cert.DownShRefIdeal.τ).loc Cert.DownShRefIdeal.main_arg2)
      ∧ r.2.mem ((c.tc : Thread Cert.DownShRefIdeal.nD Cert.DownShRefIdeal.τ).loc Cert.DownShRefIdeal.main_arg3) = m ((c.tc : Thread Cert.DownShRefIdeal.nD Cert.DownShRefIdeal.τ).loc Cert.DownShRefIdeal.main_arg3)
      ∧ r.2.mem ((c.tc : Thread Cert.DownShRefIdeal.nD Cert.DownShRefIdeal.τ).loc Cert.DownShRefIdeal.main_arg4) = m ((c.tc : Thread Cert.DownShRefIdeal.nD Cert.DownShRefIdeal.τ).loc Cert.DownShRefIdeal.main_arg4)
      ∧ r.2.mem ((c.tc : Thread Cert.DownShRefIdeal.nD Cert.DownShRefIdeal.τ).loc Cert.DownShRefIdeal.main_arg5) = m ((c.tc : Thread Cert.DownShRefIdeal.nD Cert.DownShRefIdeal.τ).loc Cert.DownShRefIdeal.main_arg5)
      ∧ r.2.mem ((c.tc : Thread Cert.DownShRefIdeal.nD Cert.DownShRefIdeal.τ).loc Cert.DownShRefIdeal.main_arg6) = m ((c.tc : Thread Cert.DownShRefIdeal.nD Cert.DownShRefIdeal.τ).loc Cert.DownShRefIdeal.main_arg6))
      ∧ r.2.sem = fun _ => 0)

def quiescent_DownTx [hDownTx : Cert.DownTx.Facts] : Prop :=
  ∀ (m : (ℓ : Loc Cert.DownTx.nD Cert.DownTx.τ Cert.DownTx.sig) → Buf (Elt Bits) ℓ) (g : Dev Cert.DownTx.nD → PrngReg), Pre_DownTx m →
    θ_run (Cert.DownTx.defs (F := Bits)) (onTc (τ := Cert.DownTx.τ) (Cert.DownTx.main (F := Bits))) ⟨m, fun _ => 0, g⟩ (fun r => (∀ c : Dev Cert.DownTx.nD,
      r.2.mem ((c.tc : Thread Cert.DownTx.nD Cert.DownTx.τ).loc Cert.DownTx.main_arg0) = m ((c.tc : Thread Cert.DownTx.nD Cert.DownTx.τ).loc Cert.DownTx.main_arg0)
      ∧ r.2.mem ((c.tc : Thread Cert.DownTx.nD Cert.DownTx.τ).loc Cert.DownTx.main_arg1) = m ((c.tc : Thread Cert.DownTx.nD Cert.DownTx.τ).loc Cert.DownTx.main_arg1)
      ∧ r.2.mem ((c.tc : Thread Cert.DownTx.nD Cert.DownTx.τ).loc Cert.DownTx.main_arg2) = m ((c.tc : Thread Cert.DownTx.nD Cert.DownTx.τ).loc Cert.DownTx.main_arg2)
      ∧ r.2.mem ((c.tc : Thread Cert.DownTx.nD Cert.DownTx.τ).loc Cert.DownTx.main_arg3) = m ((c.tc : Thread Cert.DownTx.nD Cert.DownTx.τ).loc Cert.DownTx.main_arg3)
      ∧ r.2.mem ((c.tc : Thread Cert.DownTx.nD Cert.DownTx.τ).loc Cert.DownTx.main_arg4) = m ((c.tc : Thread Cert.DownTx.nD Cert.DownTx.τ).loc Cert.DownTx.main_arg4)
      ∧ r.2.mem ((c.tc : Thread Cert.DownTx.nD Cert.DownTx.τ).loc Cert.DownTx.main_arg5) = m ((c.tc : Thread Cert.DownTx.nD Cert.DownTx.τ).loc Cert.DownTx.main_arg5))
      ∧ r.2.sem = fun _ => 0)

def quiescent_DownTxIdeal [hDownTxIdeal : Cert.DownTxIdeal.Facts] : Prop :=
  ∀ (m : (ℓ : Loc Cert.DownTxIdeal.nD Cert.DownTxIdeal.τ Cert.DownTxIdeal.sig) → Buf (Elt Ideal) ℓ) (g : Dev Cert.DownTxIdeal.nD → PrngReg), Pre_DownTxIdeal m →
    θ_run (Cert.DownTxIdeal.defs (F := Ideal)) (onTc (τ := Cert.DownTxIdeal.τ) (Cert.DownTxIdeal.main (F := Ideal))) ⟨m, fun _ => 0, g⟩ (fun r => (∀ c : Dev Cert.DownTxIdeal.nD,
      r.2.mem ((c.tc : Thread Cert.DownTxIdeal.nD Cert.DownTxIdeal.τ).loc Cert.DownTxIdeal.main_arg0) = m ((c.tc : Thread Cert.DownTxIdeal.nD Cert.DownTxIdeal.τ).loc Cert.DownTxIdeal.main_arg0)
      ∧ r.2.mem ((c.tc : Thread Cert.DownTxIdeal.nD Cert.DownTxIdeal.τ).loc Cert.DownTxIdeal.main_arg1) = m ((c.tc : Thread Cert.DownTxIdeal.nD Cert.DownTxIdeal.τ).loc Cert.DownTxIdeal.main_arg1)
      ∧ r.2.mem ((c.tc : Thread Cert.DownTxIdeal.nD Cert.DownTxIdeal.τ).loc Cert.DownTxIdeal.main_arg2) = m ((c.tc : Thread Cert.DownTxIdeal.nD Cert.DownTxIdeal.τ).loc Cert.DownTxIdeal.main_arg2)
      ∧ r.2.mem ((c.tc : Thread Cert.DownTxIdeal.nD Cert.DownTxIdeal.τ).loc Cert.DownTxIdeal.main_arg3) = m ((c.tc : Thread Cert.DownTxIdeal.nD Cert.DownTxIdeal.τ).loc Cert.DownTxIdeal.main_arg3)
      ∧ r.2.mem ((c.tc : Thread Cert.DownTxIdeal.nD Cert.DownTxIdeal.τ).loc Cert.DownTxIdeal.main_arg4) = m ((c.tc : Thread Cert.DownTxIdeal.nD Cert.DownTxIdeal.τ).loc Cert.DownTxIdeal.main_arg4)
      ∧ r.2.mem ((c.tc : Thread Cert.DownTxIdeal.nD Cert.DownTxIdeal.τ).loc Cert.DownTxIdeal.main_arg5) = m ((c.tc : Thread Cert.DownTxIdeal.nD Cert.DownTxIdeal.τ).loc Cert.DownTxIdeal.main_arg5))
      ∧ r.2.sem = fun _ => 0)

def quiescent_DownTxRefIdeal [hDownTxRefIdeal : Cert.DownTxRefIdeal.Facts] : Prop :=
  ∀ (m : (ℓ : Loc Cert.DownTxRefIdeal.nD Cert.DownTxRefIdeal.τ Cert.DownTxRefIdeal.sig) → Buf (Elt Ideal) ℓ) (g : Dev Cert.DownTxRefIdeal.nD → PrngReg), Pre_DownTxRefIdeal m →
    θ_run (Cert.DownTxRefIdeal.defs (F := Ideal)) (onTc (τ := Cert.DownTxRefIdeal.τ) (Cert.DownTxRefIdeal.main (F := Ideal))) ⟨m, fun _ => 0, g⟩ (fun r => (∀ c : Dev Cert.DownTxRefIdeal.nD,
      r.2.mem ((c.tc : Thread Cert.DownTxRefIdeal.nD Cert.DownTxRefIdeal.τ).loc Cert.DownTxRefIdeal.main_arg0) = m ((c.tc : Thread Cert.DownTxRefIdeal.nD Cert.DownTxRefIdeal.τ).loc Cert.DownTxRefIdeal.main_arg0)
      ∧ r.2.mem ((c.tc : Thread Cert.DownTxRefIdeal.nD Cert.DownTxRefIdeal.τ).loc Cert.DownTxRefIdeal.main_arg1) = m ((c.tc : Thread Cert.DownTxRefIdeal.nD Cert.DownTxRefIdeal.τ).loc Cert.DownTxRefIdeal.main_arg1)
      ∧ r.2.mem ((c.tc : Thread Cert.DownTxRefIdeal.nD Cert.DownTxRefIdeal.τ).loc Cert.DownTxRefIdeal.main_arg2) = m ((c.tc : Thread Cert.DownTxRefIdeal.nD Cert.DownTxRefIdeal.τ).loc Cert.DownTxRefIdeal.main_arg2)
      ∧ r.2.mem ((c.tc : Thread Cert.DownTxRefIdeal.nD Cert.DownTxRefIdeal.τ).loc Cert.DownTxRefIdeal.main_arg3) = m ((c.tc : Thread Cert.DownTxRefIdeal.nD Cert.DownTxRefIdeal.τ).loc Cert.DownTxRefIdeal.main_arg3)
      ∧ r.2.mem ((c.tc : Thread Cert.DownTxRefIdeal.nD Cert.DownTxRefIdeal.τ).loc Cert.DownTxRefIdeal.main_arg4) = m ((c.tc : Thread Cert.DownTxRefIdeal.nD Cert.DownTxRefIdeal.τ).loc Cert.DownTxRefIdeal.main_arg4)
      ∧ r.2.mem ((c.tc : Thread Cert.DownTxRefIdeal.nD Cert.DownTxRefIdeal.τ).loc Cert.DownTxRefIdeal.main_arg5) = m ((c.tc : Thread Cert.DownTxRefIdeal.nD Cert.DownTxRefIdeal.τ).loc Cert.DownTxRefIdeal.main_arg5))
      ∧ r.2.sem = fun _ => 0)

def quiescent_LnIm [hLnIm : Cert.LnIm.Facts] : Prop :=
  ∀ (m : (ℓ : Loc Cert.LnIm.nD Cert.LnIm.τ Cert.LnIm.sig) → Buf (Elt Bits) ℓ) (g : Dev Cert.LnIm.nD → PrngReg), Pre_LnIm m →
    θ_run (Cert.LnIm.defs (F := Bits)) (onTc (τ := Cert.LnIm.τ) (Cert.LnIm.main (F := Bits))) ⟨m, fun _ => 0, g⟩ (fun r => (∀ c : Dev Cert.LnIm.nD,
      r.2.mem ((c.tc : Thread Cert.LnIm.nD Cert.LnIm.τ).loc Cert.LnIm.main_arg0) = m ((c.tc : Thread Cert.LnIm.nD Cert.LnIm.τ).loc Cert.LnIm.main_arg0)
      ∧ r.2.mem ((c.tc : Thread Cert.LnIm.nD Cert.LnIm.τ).loc Cert.LnIm.main_arg1) = m ((c.tc : Thread Cert.LnIm.nD Cert.LnIm.τ).loc Cert.LnIm.main_arg1))
      ∧ r.2.sem = fun _ => 0)

def quiescent_LnImIdeal [hLnImIdeal : Cert.LnImIdeal.Facts] : Prop :=
  ∀ (m : (ℓ : Loc Cert.LnImIdeal.nD Cert.LnImIdeal.τ Cert.LnImIdeal.sig) → Buf (Elt Ideal) ℓ) (g : Dev Cert.LnImIdeal.nD → PrngReg), Pre_LnImIdeal m →
    θ_run (Cert.LnImIdeal.defs (F := Ideal)) (onTc (τ := Cert.LnImIdeal.τ) (Cert.LnImIdeal.main (F := Ideal))) ⟨m, fun _ => 0, g⟩ (fun r => (∀ c : Dev Cert.LnImIdeal.nD,
      r.2.mem ((c.tc : Thread Cert.LnImIdeal.nD Cert.LnImIdeal.τ).loc Cert.LnImIdeal.main_arg0) = m ((c.tc : Thread Cert.LnImIdeal.nD Cert.LnImIdeal.τ).loc Cert.LnImIdeal.main_arg0)
      ∧ r.2.mem ((c.tc : Thread Cert.LnImIdeal.nD Cert.LnImIdeal.τ).loc Cert.LnImIdeal.main_arg1) = m ((c.tc : Thread Cert.LnImIdeal.nD Cert.LnImIdeal.τ).loc Cert.LnImIdeal.main_arg1))
      ∧ r.2.sem = fun _ => 0)

def quiescent_LnImRefIdeal [hLnImRefIdeal : Cert.LnImRefIdeal.Facts] : Prop :=
  ∀ (m : (ℓ : Loc Cert.LnImRefIdeal.nD Cert.LnImRefIdeal.τ Cert.LnImRefIdeal.sig) → Buf (Elt Ideal) ℓ) (g : Dev Cert.LnImRefIdeal.nD → PrngReg), Pre_LnImRefIdeal m →
    θ_run (Cert.LnImRefIdeal.defs (F := Ideal)) (onTc (τ := Cert.LnImRefIdeal.τ) (Cert.LnImRefIdeal.main (F := Ideal))) ⟨m, fun _ => 0, g⟩ (fun r => (∀ c : Dev Cert.LnImRefIdeal.nD,
      r.2.mem ((c.tc : Thread Cert.LnImRefIdeal.nD Cert.LnImRefIdeal.τ).loc Cert.LnImRefIdeal.main_arg0) = m ((c.tc : Thread Cert.LnImRefIdeal.nD Cert.LnImRefIdeal.τ).loc Cert.LnImRefIdeal.main_arg0)
      ∧ r.2.mem ((c.tc : Thread Cert.LnImRefIdeal.nD Cert.LnImRefIdeal.τ).loc Cert.LnImRefIdeal.main_arg1) = m ((c.tc : Thread Cert.LnImRefIdeal.nD Cert.LnImRefIdeal.τ).loc Cert.LnImRefIdeal.main_arg1))
      ∧ r.2.sem = fun _ => 0)

def quiescent_LnTx [hLnTx : Cert.LnTx.Facts] : Prop :=
  ∀ (m : (ℓ : Loc Cert.LnTx.nD Cert.LnTx.τ Cert.LnTx.sig) → Buf (Elt Bits) ℓ) (g : Dev Cert.LnTx.nD → PrngReg), Pre_LnTx m →
    θ_run (Cert.LnTx.defs (F := Bits)) (onTc (τ := Cert.LnTx.τ) (Cert.LnTx.main (F := Bits))) ⟨m, fun _ => 0, g⟩ (fun r => (∀ c : Dev Cert.LnTx.nD,
      r.2.mem ((c.tc : Thread Cert.LnTx.nD Cert.LnTx.τ).loc Cert.LnTx.main_arg0) = m ((c.tc : Thread Cert.LnTx.nD Cert.LnTx.τ).loc Cert.LnTx.main_arg0)
      ∧ r.2.mem ((c.tc : Thread Cert.LnTx.nD Cert.LnTx.τ).loc Cert.LnTx.main_arg1) = m ((c.tc : Thread Cert.LnTx.nD Cert.LnTx.τ).loc Cert.LnTx.main_arg1))
      ∧ r.2.sem = fun _ => 0)

def quiescent_LnTxIdeal [hLnTxIdeal : Cert.LnTxIdeal.Facts] : Prop :=
  ∀ (m : (ℓ : Loc Cert.LnTxIdeal.nD Cert.LnTxIdeal.τ Cert.LnTxIdeal.sig) → Buf (Elt Ideal) ℓ) (g : Dev Cert.LnTxIdeal.nD → PrngReg), Pre_LnTxIdeal m →
    θ_run (Cert.LnTxIdeal.defs (F := Ideal)) (onTc (τ := Cert.LnTxIdeal.τ) (Cert.LnTxIdeal.main (F := Ideal))) ⟨m, fun _ => 0, g⟩ (fun r => (∀ c : Dev Cert.LnTxIdeal.nD,
      r.2.mem ((c.tc : Thread Cert.LnTxIdeal.nD Cert.LnTxIdeal.τ).loc Cert.LnTxIdeal.main_arg0) = m ((c.tc : Thread Cert.LnTxIdeal.nD Cert.LnTxIdeal.τ).loc Cert.LnTxIdeal.main_arg0)
      ∧ r.2.mem ((c.tc : Thread Cert.LnTxIdeal.nD Cert.LnTxIdeal.τ).loc Cert.LnTxIdeal.main_arg1) = m ((c.tc : Thread Cert.LnTxIdeal.nD Cert.LnTxIdeal.τ).loc Cert.LnTxIdeal.main_arg1))
      ∧ r.2.sem = fun _ => 0)

def quiescent_LnTxRefIdeal [hLnTxRefIdeal : Cert.LnTxRefIdeal.Facts] : Prop :=
  ∀ (m : (ℓ : Loc Cert.LnTxRefIdeal.nD Cert.LnTxRefIdeal.τ Cert.LnTxRefIdeal.sig) → Buf (Elt Ideal) ℓ) (g : Dev Cert.LnTxRefIdeal.nD → PrngReg), Pre_LnTxRefIdeal m →
    θ_run (Cert.LnTxRefIdeal.defs (F := Ideal)) (onTc (τ := Cert.LnTxRefIdeal.τ) (Cert.LnTxRefIdeal.main (F := Ideal))) ⟨m, fun _ => 0, g⟩ (fun r => (∀ c : Dev Cert.LnTxRefIdeal.nD,
      r.2.mem ((c.tc : Thread Cert.LnTxRefIdeal.nD Cert.LnTxRefIdeal.τ).loc Cert.LnTxRefIdeal.main_arg0) = m ((c.tc : Thread Cert.LnTxRefIdeal.nD Cert.LnTxRefIdeal.τ).loc Cert.LnTxRefIdeal.main_arg0)
      ∧ r.2.mem ((c.tc : Thread Cert.LnTxRefIdeal.nD Cert.LnTxRefIdeal.τ).loc Cert.LnTxRefIdeal.main_arg1) = m ((c.tc : Thread Cert.LnTxRefIdeal.nD Cert.LnTxRefIdeal.τ).loc Cert.LnTxRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownEx_DownExIdeal : Prop :=
  True

def algebraic_DownExIdeal_DownExRefIdeal [hDownExIdeal : Cert.DownExIdeal.Facts] [hDownExRefIdeal : Cert.DownExRefIdeal.Facts] [hPre_down_work_list : Cert.Pre_down_work_list.Facts] : Prop :=
  ∀ (m : (ℓ : Loc Cert.DownExIdeal.nD Cert.DownExIdeal.τ Cert.DownExIdeal.sig) → Buf (Elt Ideal) ℓ) (g : Dev Cert.DownExIdeal.nD → PrngReg)
    (m' : (ℓ : Loc Cert.DownExRefIdeal.nD Cert.DownExRefIdeal.τ Cert.DownExRefIdeal.sig) → Buf (Elt Ideal) ℓ) (g' : Dev Cert.DownExRefIdeal.nD → PrngReg), Pre_DownExIdeal m →
    (∀ c : Dev Cert.DownExIdeal.nD,
      m' ((c.tc : Thread Cert.DownExRefIdeal.nD Cert.DownExRefIdeal.τ).loc Cert.DownExRefIdeal.main_arg0) = m ((c.tc : Thread Cert.DownExIdeal.nD Cert.DownExIdeal.τ).loc Cert.DownExIdeal.main_arg0)
      ∧ m' ((c.tc : Thread Cert.DownExRefIdeal.nD Cert.DownExRefIdeal.τ).loc Cert.DownExRefIdeal.main_arg1) = m ((c.tc : Thread Cert.DownExIdeal.nD Cert.DownExIdeal.τ).loc Cert.DownExIdeal.main_arg1)
      ∧ m' ((c.tc : Thread Cert.DownExRefIdeal.nD Cert.DownExRefIdeal.τ).loc Cert.DownExRefIdeal.main_arg2) = m ((c.tc : Thread Cert.DownExIdeal.nD Cert.DownExIdeal.τ).loc Cert.DownExIdeal.main_arg2)
      ∧ m' ((c.tc : Thread Cert.DownExRefIdeal.nD Cert.DownExRefIdeal.τ).loc Cert.DownExRefIdeal.main_arg3) = m ((c.tc : Thread Cert.DownExIdeal.nD Cert.DownExIdeal.τ).loc Cert.DownExIdeal.main_arg3)
      ∧ m' ((c.tc : Thread Cert.DownExRefIdeal.nD Cert.DownExRefIdeal.τ).loc Cert.DownExRefIdeal.main_arg4) = m ((c.tc : Thread Cert.DownExIdeal.nD Cert.DownExIdeal.τ).loc Cert.DownExIdeal.main_arg4)
      ∧ m' ((c.tc : Thread Cert.DownExRefIdeal.nD Cert.DownExRefIdeal.τ).loc Cert.DownExRefIdeal.main_arg5) = m ((c.tc : Thread Cert.DownExIdeal.nD Cert.DownExIdeal.τ).loc Cert.DownExIdeal.main_arg5)
      ∧ m' ((c.tc : Thread Cert.DownExRefIdeal.nD Cert.DownExRefIdeal.τ).loc Cert.DownExRefIdeal.main_arg6) = m ((c.tc : Thread Cert.DownExIdeal.nD Cert.DownExIdeal.τ).loc Cert.DownExIdeal.main_arg6)
      ∧ m' ((c.tc : Thread Cert.DownExRefIdeal.nD Cert.DownExRefIdeal.τ).loc Cert.DownExRefIdeal.main_arg7) = m ((c.tc : Thread Cert.DownExIdeal.nD Cert.DownExIdeal.τ).loc Cert.DownExIdeal.main_arg7)
      ∧ m' ((c.tc : Thread Cert.DownExRefIdeal.nD Cert.DownExRefIdeal.τ).loc Cert.DownExRefIdeal.main_arg8) = m ((c.tc : Thread Cert.DownExIdeal.nD Cert.DownExIdeal.τ).loc Cert.DownExIdeal.main_arg8)) →
    ∃ (v0 : (c : Dev Cert.DownExIdeal.nD) → Buf (Elt Ideal) ((c.tc : Thread Cert.DownExIdeal.nD Cert.DownExIdeal.τ).loc Cert.DownExIdeal.main_v1)),
      θ_run (Cert.DownExIdeal.defs (F := Ideal)) (onTc (τ := Cert.DownExIdeal.τ) (Cert.DownExIdeal.main (F := Ideal))) ⟨m, fun _ => 0, g⟩ (fun r => ∀ c : Dev Cert.DownExIdeal.nD,
          r.2.mem ((c.tc : Thread Cert.DownExIdeal.nD Cert.DownExIdeal.τ).loc Cert.DownExIdeal.main_v1) = v0 c
          ∧ r.2.mem ((c.tc : Thread Cert.DownExIdeal.nD Cert.DownExIdeal.τ).loc Cert.DownExIdeal.main_arg0) = m ((c.tc : Thread Cert.DownExIdeal.nD Cert.DownExIdeal.τ).loc Cert.DownExIdeal.main_arg0)
          ∧ r.2.mem ((c.tc : Thread Cert.DownExIdeal.nD Cert.DownExIdeal.τ).loc Cert.DownExIdeal.main_arg1) = m ((c.tc : Thread Cert.DownExIdeal.nD Cert.DownExIdeal.τ).loc Cert.DownExIdeal.main_arg1)
          ∧ r.2.mem ((c.tc : Thread Cert.DownExIdeal.nD Cert.DownExIdeal.τ).loc Cert.DownExIdeal.main_arg2) = m ((c.tc : Thread Cert.DownExIdeal.nD Cert.DownExIdeal.τ).loc Cert.DownExIdeal.main_arg2)
          ∧ r.2.mem ((c.tc : Thread Cert.DownExIdeal.nD Cert.DownExIdeal.τ).loc Cert.DownExIdeal.main_arg3) = m ((c.tc : Thread Cert.DownExIdeal.nD Cert.DownExIdeal.τ).loc Cert.DownExIdeal.main_arg3)
          ∧ r.2.mem ((c.tc : Thread Cert.DownExIdeal.nD Cert.DownExIdeal.τ).loc Cert.DownExIdeal.main_arg4) = m ((c.tc : Thread Cert.DownExIdeal.nD Cert.DownExIdeal.τ).loc Cert.DownExIdeal.main_arg4)
          ∧ r.2.mem ((c.tc : Thread Cert.DownExIdeal.nD Cert.DownExIdeal.τ).loc Cert.DownExIdeal.main_arg5) = m ((c.tc : Thread Cert.DownExIdeal.nD Cert.DownExIdeal.τ).loc Cert.DownExIdeal.main_arg5)
          ∧ r.2.mem ((c.tc : Thread Cert.DownExIdeal.nD Cert.DownExIdeal.τ).loc Cert.DownExIdeal.main_arg6) = m ((c.tc : Thread Cert.DownExIdeal.nD Cert.DownExIdeal.τ).loc Cert.DownExIdeal.main_arg6)
          ∧ r.2.mem ((c.tc : Thread Cert.DownExIdeal.nD Cert.DownExIdeal.τ).loc Cert.DownExIdeal.main_arg7) = m ((c.tc : Thread Cert.DownExIdeal.nD Cert.DownExIdeal.τ).loc Cert.DownExIdeal.main_arg7)
          ∧ r.2.mem ((c.tc : Thread Cert.DownExIdeal.nD Cert.DownExIdeal.τ).loc Cert.DownExIdeal.main_arg8) = m ((c.tc : Thread Cert.DownExIdeal.nD Cert.DownExIdeal.τ).loc Cert.DownExIdeal.main_arg8))
      ∧ θ_run (Cert.DownExRefIdeal.defs (F := Ideal)) (onTc (τ := Cert.DownExRefIdeal.τ) (Cert.DownExRefIdeal.main (F := Ideal))) ⟨m', fun _ => 0, g'⟩ (fun r => ∀ c : Dev Cert.DownExRefIdeal.nD,
          r.2.mem ((c.tc : Thread Cert.DownExRefIdeal.nD Cert.DownExRefIdeal.τ).loc Cert.DownExRefIdeal.main_v1) = v0 c
          ∧ r.2.mem ((c.tc : Thread Cert.DownExRefIdeal.nD Cert.DownExRefIdeal.τ).loc Cert.DownExRefIdeal.main_arg0) = m' ((c.tc : Thread Cert.DownExRefIdeal.nD Cert.DownExRefIdeal.τ).loc Cert.DownExRefIdeal.main_arg0)
          ∧ r.2.mem ((c.tc : Thread Cert.DownExRefIdeal.nD Cert.DownExRefIdeal.τ).loc Cert.DownExRefIdeal.main_arg1) = m' ((c.tc : Thread Cert.DownExRefIdeal.nD Cert.DownExRefIdeal.τ).loc Cert.DownExRefIdeal.main_arg1)
          ∧ r.2.mem ((c.tc : Thread Cert.DownExRefIdeal.nD Cert.DownExRefIdeal.τ).loc Cert.DownExRefIdeal.main_arg2) = m' ((c.tc : Thread Cert.DownExRefIdeal.nD Cert.DownExRefIdeal.τ).loc Cert.DownExRefIdeal.main_arg2)
          ∧ r.2.mem ((c.tc : Thread Cert.DownExRefIdeal.nD Cert.DownExRefIdeal.τ).loc Cert.DownExRefIdeal.main_arg3) = m' ((c.tc : Thread Cert.DownExRefIdeal.nD Cert.DownExRefIdeal.τ).loc Cert.DownExRefIdeal.main_arg3)
          ∧ r.2.mem ((c.tc : Thread Cert.DownExRefIdeal.nD Cert.DownExRefIdeal.τ).loc Cert.DownExRefIdeal.main_arg4) = m' ((c.tc : Thread Cert.DownExRefIdeal.nD Cert.DownExRefIdeal.τ).loc Cert.DownExRefIdeal.main_arg4)
          ∧ r.2.mem ((c.tc : Thread Cert.DownExRefIdeal.nD Cert.DownExRefIdeal.τ).loc Cert.DownExRefIdeal.main_arg5) = m' ((c.tc : Thread Cert.DownExRefIdeal.nD Cert.DownExRefIdeal.τ).loc Cert.DownExRefIdeal.main_arg5)
          ∧ r.2.mem ((c.tc : Thread Cert.DownExRefIdeal.nD Cert.DownExRefIdeal.τ).loc Cert.DownExRefIdeal.main_arg6) = m' ((c.tc : Thread Cert.DownExRefIdeal.nD Cert.DownExRefIdeal.τ).loc Cert.DownExRefIdeal.main_arg6)
          ∧ r.2.mem ((c.tc : Thread Cert.DownExRefIdeal.nD Cert.DownExRefIdeal.τ).loc Cert.DownExRefIdeal.main_arg7) = m' ((c.tc : Thread Cert.DownExRefIdeal.nD Cert.DownExRefIdeal.τ).loc Cert.DownExRefIdeal.main_arg7)
          ∧ r.2.mem ((c.tc : Thread Cert.DownExRefIdeal.nD Cert.DownExRefIdeal.τ).loc Cert.DownExRefIdeal.main_arg8) = m' ((c.tc : Thread Cert.DownExRefIdeal.nD Cert.DownExRefIdeal.τ).loc Cert.DownExRefIdeal.main_arg8))

def preserves_UpEx_UpExIdeal : Prop :=
  True

def algebraic_UpExIdeal_UpExRefIdeal [hUpExIdeal : Cert.UpExIdeal.Facts] [hUpExRefIdeal : Cert.UpExRefIdeal.Facts] [hPre_up_work_list : Cert.Pre_up_work_list.Facts] : Prop :=
  ∀ (m : (ℓ : Loc Cert.UpExIdeal.nD Cert.UpExIdeal.τ Cert.UpExIdeal.sig) → Buf (Elt Ideal) ℓ) (g : Dev Cert.UpExIdeal.nD → PrngReg)
    (m' : (ℓ : Loc Cert.UpExRefIdeal.nD Cert.UpExRefIdeal.τ Cert.UpExRefIdeal.sig) → Buf (Elt Ideal) ℓ) (g' : Dev Cert.UpExRefIdeal.nD → PrngReg), Pre_UpExIdeal m →
    (∀ c : Dev Cert.UpExIdeal.nD,
      m' ((c.tc : Thread Cert.UpExRefIdeal.nD Cert.UpExRefIdeal.τ).loc Cert.UpExRefIdeal.main_arg0) = m ((c.tc : Thread Cert.UpExIdeal.nD Cert.UpExIdeal.τ).loc Cert.UpExIdeal.main_arg0)
      ∧ m' ((c.tc : Thread Cert.UpExRefIdeal.nD Cert.UpExRefIdeal.τ).loc Cert.UpExRefIdeal.main_arg1) = m ((c.tc : Thread Cert.UpExIdeal.nD Cert.UpExIdeal.τ).loc Cert.UpExIdeal.main_arg1)
      ∧ m' ((c.tc : Thread Cert.UpExRefIdeal.nD Cert.UpExRefIdeal.τ).loc Cert.UpExRefIdeal.main_arg2) = m ((c.tc : Thread Cert.UpExIdeal.nD Cert.UpExIdeal.τ).loc Cert.UpExIdeal.main_arg2)
      ∧ m' ((c.tc : Thread Cert.UpExRefIdeal.nD Cert.UpExRefIdeal.τ).loc Cert.UpExRefIdeal.main_arg3) = m ((c.tc : Thread Cert.UpExIdeal.nD Cert.UpExIdeal.τ).loc Cert.UpExIdeal.main_arg3)
      ∧ m' ((c.tc : Thread Cert.UpExRefIdeal.nD Cert.UpExRefIdeal.τ).loc Cert.UpExRefIdeal.main_arg4) = m ((c.tc : Thread Cert.UpExIdeal.nD Cert.UpExIdeal.τ).loc Cert.UpExIdeal.main_arg4)
      ∧ m' ((c.tc : Thread Cert.UpExRefIdeal.nD Cert.UpExRefIdeal.τ).loc Cert.UpExRefIdeal.main_arg5) = m ((c.tc : Thread Cert.UpExIdeal.nD Cert.UpExIdeal.τ).loc Cert.UpExIdeal.main_arg5)
      ∧ m' ((c.tc : Thread Cert.UpExRefIdeal.nD Cert.UpExRefIdeal.τ).loc Cert.UpExRefIdeal.main_arg6) = m ((c.tc : Thread Cert.UpExIdeal.nD Cert.UpExIdeal.τ).loc Cert.UpExIdeal.main_arg6)
      ∧ m' ((c.tc : Thread Cert.UpExRefIdeal.nD Cert.UpExRefIdeal.τ).loc Cert.UpExRefIdeal.main_arg7) = m ((c.tc : Thread Cert.UpExIdeal.nD Cert.UpExIdeal.τ).loc Cert.UpExIdeal.main_arg7)
      ∧ m' ((c.tc : Thread Cert.UpExRefIdeal.nD Cert.UpExRefIdeal.τ).loc Cert.UpExRefIdeal.main_arg8) = m ((c.tc : Thread Cert.UpExIdeal.nD Cert.UpExIdeal.τ).loc Cert.UpExIdeal.main_arg8)
      ∧ m' ((c.tc : Thread Cert.UpExRefIdeal.nD Cert.UpExRefIdeal.τ).loc Cert.UpExRefIdeal.main_arg9) = m ((c.tc : Thread Cert.UpExIdeal.nD Cert.UpExIdeal.τ).loc Cert.UpExIdeal.main_arg9)
      ∧ m' ((c.tc : Thread Cert.UpExRefIdeal.nD Cert.UpExRefIdeal.τ).loc Cert.UpExRefIdeal.main_arg10) = m ((c.tc : Thread Cert.UpExIdeal.nD Cert.UpExIdeal.τ).loc Cert.UpExIdeal.main_arg10)) →
    ∃ (v0 : (c : Dev Cert.UpExIdeal.nD) → Buf (Elt Ideal) ((c.tc : Thread Cert.UpExIdeal.nD Cert.UpExIdeal.τ).loc Cert.UpExIdeal.main_v2_0)) (v1 : (c : Dev Cert.UpExIdeal.nD) → Buf (Elt Ideal) ((c.tc : Thread Cert.UpExIdeal.nD Cert.UpExIdeal.τ).loc Cert.UpExIdeal.main_v2_1)),
      θ_run (Cert.UpExIdeal.defs (F := Ideal)) (onTc (τ := Cert.UpExIdeal.τ) (Cert.UpExIdeal.main (F := Ideal))) ⟨m, fun _ => 0, g⟩ (fun r => ∀ c : Dev Cert.UpExIdeal.nD,
          r.2.mem ((c.tc : Thread Cert.UpExIdeal.nD Cert.UpExIdeal.τ).loc Cert.UpExIdeal.main_v2_0) = v0 c
          ∧ r.2.mem ((c.tc : Thread Cert.UpExIdeal.nD Cert.UpExIdeal.τ).loc Cert.UpExIdeal.main_v2_1) = v1 c
          ∧ r.2.mem ((c.tc : Thread Cert.UpExIdeal.nD Cert.UpExIdeal.τ).loc Cert.UpExIdeal.main_arg0) = m ((c.tc : Thread Cert.UpExIdeal.nD Cert.UpExIdeal.τ).loc Cert.UpExIdeal.main_arg0)
          ∧ r.2.mem ((c.tc : Thread Cert.UpExIdeal.nD Cert.UpExIdeal.τ).loc Cert.UpExIdeal.main_arg1) = m ((c.tc : Thread Cert.UpExIdeal.nD Cert.UpExIdeal.τ).loc Cert.UpExIdeal.main_arg1)
          ∧ r.2.mem ((c.tc : Thread Cert.UpExIdeal.nD Cert.UpExIdeal.τ).loc Cert.UpExIdeal.main_arg2) = m ((c.tc : Thread Cert.UpExIdeal.nD Cert.UpExIdeal.τ).loc Cert.UpExIdeal.main_arg2)
          ∧ r.2.mem ((c.tc : Thread Cert.UpExIdeal.nD Cert.UpExIdeal.τ).loc Cert.UpExIdeal.main_arg3) = m ((c.tc : Thread Cert.UpExIdeal.nD Cert.UpExIdeal.τ).loc Cert.UpExIdeal.main_arg3)
          ∧ r.2.mem ((c.tc : Thread Cert.UpExIdeal.nD Cert.UpExIdeal.τ).loc Cert.UpExIdeal.main_arg4) = m ((c.tc : Thread Cert.UpExIdeal.nD Cert.UpExIdeal.τ).loc Cert.UpExIdeal.main_arg4)
          ∧ r.2.mem ((c.tc : Thread Cert.UpExIdeal.nD Cert.UpExIdeal.τ).loc Cert.UpExIdeal.main_arg5) = m ((c.tc : Thread Cert.UpExIdeal.nD Cert.UpExIdeal.τ).loc Cert.UpExIdeal.main_arg5)
          ∧ r.2.mem ((c.tc : Thread Cert.UpExIdeal.nD Cert.UpExIdeal.τ).loc Cert.UpExIdeal.main_arg6) = m ((c.tc : Thread Cert.UpExIdeal.nD Cert.UpExIdeal.τ).loc Cert.UpExIdeal.main_arg6)
          ∧ r.2.mem ((c.tc : Thread Cert.UpExIdeal.nD Cert.UpExIdeal.τ).loc Cert.UpExIdeal.main_arg7) = m ((c.tc : Thread Cert.UpExIdeal.nD Cert.UpExIdeal.τ).loc Cert.UpExIdeal.main_arg7)
          ∧ r.2.mem ((c.tc : Thread Cert.UpExIdeal.nD Cert.UpExIdeal.τ).loc Cert.UpExIdeal.main_arg8) = m ((c.tc : Thread Cert.UpExIdeal.nD Cert.UpExIdeal.τ).loc Cert.UpExIdeal.main_arg8)
          ∧ r.2.mem ((c.tc : Thread Cert.UpExIdeal.nD Cert.UpExIdeal.τ).loc Cert.UpExIdeal.main_arg9) = m ((c.tc : Thread Cert.UpExIdeal.nD Cert.UpExIdeal.τ).loc Cert.UpExIdeal.main_arg9)
          ∧ r.2.mem ((c.tc : Thread Cert.UpExIdeal.nD Cert.UpExIdeal.τ).loc Cert.UpExIdeal.main_arg10) = m ((c.tc : Thread Cert.UpExIdeal.nD Cert.UpExIdeal.τ).loc Cert.UpExIdeal.main_arg10))
      ∧ θ_run (Cert.UpExRefIdeal.defs (F := Ideal)) (onTc (τ := Cert.UpExRefIdeal.τ) (Cert.UpExRefIdeal.main (F := Ideal))) ⟨m', fun _ => 0, g'⟩ (fun r => ∀ c : Dev Cert.UpExRefIdeal.nD,
          r.2.mem ((c.tc : Thread Cert.UpExRefIdeal.nD Cert.UpExRefIdeal.τ).loc Cert.UpExRefIdeal.main_v2_0) = v0 c
          ∧ r.2.mem ((c.tc : Thread Cert.UpExRefIdeal.nD Cert.UpExRefIdeal.τ).loc Cert.UpExRefIdeal.main_v2_1) = v1 c
          ∧ r.2.mem ((c.tc : Thread Cert.UpExRefIdeal.nD Cert.UpExRefIdeal.τ).loc Cert.UpExRefIdeal.main_arg0) = m' ((c.tc : Thread Cert.UpExRefIdeal.nD Cert.UpExRefIdeal.τ).loc Cert.UpExRefIdeal.main_arg0)
          ∧ r.2.mem ((c.tc : Thread Cert.UpExRefIdeal.nD Cert.UpExRefIdeal.τ).loc Cert.UpExRefIdeal.main_arg1) = m' ((c.tc : Thread Cert.UpExRefIdeal.nD Cert.UpExRefIdeal.τ).loc Cert.UpExRefIdeal.main_arg1)
          ∧ r.2.mem ((c.tc : Thread Cert.UpExRefIdeal.nD Cert.UpExRefIdeal.τ).loc Cert.UpExRefIdeal.main_arg2) = m' ((c.tc : Thread Cert.UpExRefIdeal.nD Cert.UpExRefIdeal.τ).loc Cert.UpExRefIdeal.main_arg2)
          ∧ r.2.mem ((c.tc : Thread Cert.UpExRefIdeal.nD Cert.UpExRefIdeal.τ).loc Cert.UpExRefIdeal.main_arg3) = m' ((c.tc : Thread Cert.UpExRefIdeal.nD Cert.UpExRefIdeal.τ).loc Cert.UpExRefIdeal.main_arg3)
          ∧ r.2.mem ((c.tc : Thread Cert.UpExRefIdeal.nD Cert.UpExRefIdeal.τ).loc Cert.UpExRefIdeal.main_arg4) = m' ((c.tc : Thread Cert.UpExRefIdeal.nD Cert.UpExRefIdeal.τ).loc Cert.UpExRefIdeal.main_arg4)
          ∧ r.2.mem ((c.tc : Thread Cert.UpExRefIdeal.nD Cert.UpExRefIdeal.τ).loc Cert.UpExRefIdeal.main_arg5) = m' ((c.tc : Thread Cert.UpExRefIdeal.nD Cert.UpExRefIdeal.τ).loc Cert.UpExRefIdeal.main_arg5)
          ∧ r.2.mem ((c.tc : Thread Cert.UpExRefIdeal.nD Cert.UpExRefIdeal.τ).loc Cert.UpExRefIdeal.main_arg6) = m' ((c.tc : Thread Cert.UpExRefIdeal.nD Cert.UpExRefIdeal.τ).loc Cert.UpExRefIdeal.main_arg6)
          ∧ r.2.mem ((c.tc : Thread Cert.UpExRefIdeal.nD Cert.UpExRefIdeal.τ).loc Cert.UpExRefIdeal.main_arg7) = m' ((c.tc : Thread Cert.UpExRefIdeal.nD Cert.UpExRefIdeal.τ).loc Cert.UpExRefIdeal.main_arg7)
          ∧ r.2.mem ((c.tc : Thread Cert.UpExRefIdeal.nD Cert.UpExRefIdeal.τ).loc Cert.UpExRefIdeal.main_arg8) = m' ((c.tc : Thread Cert.UpExRefIdeal.nD Cert.UpExRefIdeal.τ).loc Cert.UpExRefIdeal.main_arg8)
          ∧ r.2.mem ((c.tc : Thread Cert.UpExRefIdeal.nD Cert.UpExRefIdeal.τ).loc Cert.UpExRefIdeal.main_arg9) = m' ((c.tc : Thread Cert.UpExRefIdeal.nD Cert.UpExRefIdeal.τ).loc Cert.UpExRefIdeal.main_arg9)
          ∧ r.2.mem ((c.tc : Thread Cert.UpExRefIdeal.nD Cert.UpExRefIdeal.τ).loc Cert.UpExRefIdeal.main_arg10) = m' ((c.tc : Thread Cert.UpExRefIdeal.nD Cert.UpExRefIdeal.τ).loc Cert.UpExRefIdeal.main_arg10))

def preserves_DownSh_DownShIdeal : Prop :=
  True

def algebraic_DownShIdeal_DownShRefIdeal [hDownShIdeal : Cert.DownShIdeal.Facts] [hDownShRefIdeal : Cert.DownShRefIdeal.Facts] : Prop :=
  ∀ (m : (ℓ : Loc Cert.DownShIdeal.nD Cert.DownShIdeal.τ Cert.DownShIdeal.sig) → Buf (Elt Ideal) ℓ) (g : Dev Cert.DownShIdeal.nD → PrngReg)
    (m' : (ℓ : Loc Cert.DownShRefIdeal.nD Cert.DownShRefIdeal.τ Cert.DownShRefIdeal.sig) → Buf (Elt Ideal) ℓ) (g' : Dev Cert.DownShRefIdeal.nD → PrngReg), Pre_DownShIdeal m →
    (∀ c : Dev Cert.DownShIdeal.nD,
      m' ((c.tc : Thread Cert.DownShRefIdeal.nD Cert.DownShRefIdeal.τ).loc Cert.DownShRefIdeal.main_arg0) = m ((c.tc : Thread Cert.DownShIdeal.nD Cert.DownShIdeal.τ).loc Cert.DownShIdeal.main_arg0)
      ∧ m' ((c.tc : Thread Cert.DownShRefIdeal.nD Cert.DownShRefIdeal.τ).loc Cert.DownShRefIdeal.main_arg1) = m ((c.tc : Thread Cert.DownShIdeal.nD Cert.DownShIdeal.τ).loc Cert.DownShIdeal.main_arg1)
      ∧ m' ((c.tc : Thread Cert.DownShRefIdeal.nD Cert.DownShRefIdeal.τ).loc Cert.DownShRefIdeal.main_arg2) = m ((c.tc : Thread Cert.DownShIdeal.nD Cert.DownShIdeal.τ).loc Cert.DownShIdeal.main_arg2)
      ∧ m' ((c.tc : Thread Cert.DownShRefIdeal.nD Cert.DownShRefIdeal.τ).loc Cert.DownShRefIdeal.main_arg3) = m ((c.tc : Thread Cert.DownShIdeal.nD Cert.DownShIdeal.τ).loc Cert.DownShIdeal.main_arg3)
      ∧ m' ((c.tc : Thread Cert.DownShRefIdeal.nD Cert.DownShRefIdeal.τ).loc Cert.DownShRefIdeal.main_arg4) = m ((c.tc : Thread Cert.DownShIdeal.nD Cert.DownShIdeal.τ).loc Cert.DownShIdeal.main_arg4)
      ∧ m' ((c.tc : Thread Cert.DownShRefIdeal.nD Cert.DownShRefIdeal.τ).loc Cert.DownShRefIdeal.main_arg5) = m ((c.tc : Thread Cert.DownShIdeal.nD Cert.DownShIdeal.τ).loc Cert.DownShIdeal.main_arg5)
      ∧ m' ((c.tc : Thread Cert.DownShRefIdeal.nD Cert.DownShRefIdeal.τ).loc Cert.DownShRefIdeal.main_arg6) = m ((c.tc : Thread Cert.DownShIdeal.nD Cert.DownShIdeal.τ).loc Cert.DownShIdeal.main_arg6)) →
    ∃ (v0 : (c : Dev Cert.DownShIdeal.nD) → Buf (Elt Ideal) ((c.tc : Thread Cert.DownShIdeal.nD Cert.DownShIdeal.τ).loc Cert.DownShIdeal.main_v1)),
      θ_run (Cert.DownShIdeal.defs (F := Ideal)) (onTc (τ := Cert.DownShIdeal.τ) (Cert.DownShIdeal.main (F := Ideal))) ⟨m, fun _ => 0, g⟩ (fun r => ∀ c : Dev Cert.DownShIdeal.nD,
          r.2.mem ((c.tc : Thread Cert.DownShIdeal.nD Cert.DownShIdeal.τ).loc Cert.DownShIdeal.main_v1) = v0 c
          ∧ r.2.mem ((c.tc : Thread Cert.DownShIdeal.nD Cert.DownShIdeal.τ).loc Cert.DownShIdeal.main_arg0) = m ((c.tc : Thread Cert.DownShIdeal.nD Cert.DownShIdeal.τ).loc Cert.DownShIdeal.main_arg0)
          ∧ r.2.mem ((c.tc : Thread Cert.DownShIdeal.nD Cert.DownShIdeal.τ).loc Cert.DownShIdeal.main_arg1) = m ((c.tc : Thread Cert.DownShIdeal.nD Cert.DownShIdeal.τ).loc Cert.DownShIdeal.main_arg1)
          ∧ r.2.mem ((c.tc : Thread Cert.DownShIdeal.nD Cert.DownShIdeal.τ).loc Cert.DownShIdeal.main_arg2) = m ((c.tc : Thread Cert.DownShIdeal.nD Cert.DownShIdeal.τ).loc Cert.DownShIdeal.main_arg2)
          ∧ r.2.mem ((c.tc : Thread Cert.DownShIdeal.nD Cert.DownShIdeal.τ).loc Cert.DownShIdeal.main_arg3) = m ((c.tc : Thread Cert.DownShIdeal.nD Cert.DownShIdeal.τ).loc Cert.DownShIdeal.main_arg3)
          ∧ r.2.mem ((c.tc : Thread Cert.DownShIdeal.nD Cert.DownShIdeal.τ).loc Cert.DownShIdeal.main_arg4) = m ((c.tc : Thread Cert.DownShIdeal.nD Cert.DownShIdeal.τ).loc Cert.DownShIdeal.main_arg4)
          ∧ r.2.mem ((c.tc : Thread Cert.DownShIdeal.nD Cert.DownShIdeal.τ).loc Cert.DownShIdeal.main_arg5) = m ((c.tc : Thread Cert.DownShIdeal.nD Cert.DownShIdeal.τ).loc Cert.DownShIdeal.main_arg5)
          ∧ r.2.mem ((c.tc : Thread Cert.DownShIdeal.nD Cert.DownShIdeal.τ).loc Cert.DownShIdeal.main_arg6) = m ((c.tc : Thread Cert.DownShIdeal.nD Cert.DownShIdeal.τ).loc Cert.DownShIdeal.main_arg6))
      ∧ θ_run (Cert.DownShRefIdeal.defs (F := Ideal)) (onTc (τ := Cert.DownShRefIdeal.τ) (Cert.DownShRefIdeal.main (F := Ideal))) ⟨m', fun _ => 0, g'⟩ (fun r => ∀ c : Dev Cert.DownShRefIdeal.nD,
          r.2.mem ((c.tc : Thread Cert.DownShRefIdeal.nD Cert.DownShRefIdeal.τ).loc Cert.DownShRefIdeal.main_v2) = v0 c
          ∧ r.2.mem ((c.tc : Thread Cert.DownShRefIdeal.nD Cert.DownShRefIdeal.τ).loc Cert.DownShRefIdeal.main_arg0) = m' ((c.tc : Thread Cert.DownShRefIdeal.nD Cert.DownShRefIdeal.τ).loc Cert.DownShRefIdeal.main_arg0)
          ∧ r.2.mem ((c.tc : Thread Cert.DownShRefIdeal.nD Cert.DownShRefIdeal.τ).loc Cert.DownShRefIdeal.main_arg1) = m' ((c.tc : Thread Cert.DownShRefIdeal.nD Cert.DownShRefIdeal.τ).loc Cert.DownShRefIdeal.main_arg1)
          ∧ r.2.mem ((c.tc : Thread Cert.DownShRefIdeal.nD Cert.DownShRefIdeal.τ).loc Cert.DownShRefIdeal.main_arg2) = m' ((c.tc : Thread Cert.DownShRefIdeal.nD Cert.DownShRefIdeal.τ).loc Cert.DownShRefIdeal.main_arg2)
          ∧ r.2.mem ((c.tc : Thread Cert.DownShRefIdeal.nD Cert.DownShRefIdeal.τ).loc Cert.DownShRefIdeal.main_arg3) = m' ((c.tc : Thread Cert.DownShRefIdeal.nD Cert.DownShRefIdeal.τ).loc Cert.DownShRefIdeal.main_arg3)
          ∧ r.2.mem ((c.tc : Thread Cert.DownShRefIdeal.nD Cert.DownShRefIdeal.τ).loc Cert.DownShRefIdeal.main_arg4) = m' ((c.tc : Thread Cert.DownShRefIdeal.nD Cert.DownShRefIdeal.τ).loc Cert.DownShRefIdeal.main_arg4)
          ∧ r.2.mem ((c.tc : Thread Cert.DownShRefIdeal.nD Cert.DownShRefIdeal.τ).loc Cert.DownShRefIdeal.main_arg5) = m' ((c.tc : Thread Cert.DownShRefIdeal.nD Cert.DownShRefIdeal.τ).loc Cert.DownShRefIdeal.main_arg5)
          ∧ r.2.mem ((c.tc : Thread Cert.DownShRefIdeal.nD Cert.DownShRefIdeal.τ).loc Cert.DownShRefIdeal.main_arg6) = m' ((c.tc : Thread Cert.DownShRefIdeal.nD Cert.DownShRefIdeal.τ).loc Cert.DownShRefIdeal.main_arg6))

def preserves_DownTx_DownTxIdeal : Prop :=
  True

def algebraic_DownTxIdeal_DownTxRefIdeal [hDownTxIdeal : Cert.DownTxIdeal.Facts] [hDownTxRefIdeal : Cert.DownTxRefIdeal.Facts] : Prop :=
  ∀ (m : (ℓ : Loc Cert.DownTxIdeal.nD Cert.DownTxIdeal.τ Cert.DownTxIdeal.sig) → Buf (Elt Ideal) ℓ) (g : Dev Cert.DownTxIdeal.nD → PrngReg)
    (m' : (ℓ : Loc Cert.DownTxRefIdeal.nD Cert.DownTxRefIdeal.τ Cert.DownTxRefIdeal.sig) → Buf (Elt Ideal) ℓ) (g' : Dev Cert.DownTxRefIdeal.nD → PrngReg), Pre_DownTxIdeal m →
    (∀ c : Dev Cert.DownTxIdeal.nD,
      m' ((c.tc : Thread Cert.DownTxRefIdeal.nD Cert.DownTxRefIdeal.τ).loc Cert.DownTxRefIdeal.main_arg0) = m ((c.tc : Thread Cert.DownTxIdeal.nD Cert.DownTxIdeal.τ).loc Cert.DownTxIdeal.main_arg0)
      ∧ m' ((c.tc : Thread Cert.DownTxRefIdeal.nD Cert.DownTxRefIdeal.τ).loc Cert.DownTxRefIdeal.main_arg1) = m ((c.tc : Thread Cert.DownTxIdeal.nD Cert.DownTxIdeal.τ).loc Cert.DownTxIdeal.main_arg1)
      ∧ m' ((c.tc : Thread Cert.DownTxRefIdeal.nD Cert.DownTxRefIdeal.τ).loc Cert.DownTxRefIdeal.main_arg2) = m ((c.tc : Thread Cert.DownTxIdeal.nD Cert.DownTxIdeal.τ).loc Cert.DownTxIdeal.main_arg2)
      ∧ m' ((c.tc : Thread Cert.DownTxRefIdeal.nD Cert.DownTxRefIdeal.τ).loc Cert.DownTxRefIdeal.main_arg3) = m ((c.tc : Thread Cert.DownTxIdeal.nD Cert.DownTxIdeal.τ).loc Cert.DownTxIdeal.main_arg3)
      ∧ m' ((c.tc : Thread Cert.DownTxRefIdeal.nD Cert.DownTxRefIdeal.τ).loc Cert.DownTxRefIdeal.main_arg4) = m ((c.tc : Thread Cert.DownTxIdeal.nD Cert.DownTxIdeal.τ).loc Cert.DownTxIdeal.main_arg4)
      ∧ m' ((c.tc : Thread Cert.DownTxRefIdeal.nD Cert.DownTxRefIdeal.τ).loc Cert.DownTxRefIdeal.main_arg5) = m ((c.tc : Thread Cert.DownTxIdeal.nD Cert.DownTxIdeal.τ).loc Cert.DownTxIdeal.main_arg5)) →
    ∃ (v0 : (c : Dev Cert.DownTxIdeal.nD) → Buf (Elt Ideal) ((c.tc : Thread Cert.DownTxIdeal.nD Cert.DownTxIdeal.τ).loc Cert.DownTxIdeal.main_v1)),
      θ_run (Cert.DownTxIdeal.defs (F := Ideal)) (onTc (τ := Cert.DownTxIdeal.τ) (Cert.DownTxIdeal.main (F := Ideal))) ⟨m, fun _ => 0, g⟩ (fun r => ∀ c : Dev Cert.DownTxIdeal.nD,
          r.2.mem ((c.tc : Thread Cert.DownTxIdeal.nD Cert.DownTxIdeal.τ).loc Cert.DownTxIdeal.main_v1) = v0 c
          ∧ r.2.mem ((c.tc : Thread Cert.DownTxIdeal.nD Cert.DownTxIdeal.τ).loc Cert.DownTxIdeal.main_arg0) = m ((c.tc : Thread Cert.DownTxIdeal.nD Cert.DownTxIdeal.τ).loc Cert.DownTxIdeal.main_arg0)
          ∧ r.2.mem ((c.tc : Thread Cert.DownTxIdeal.nD Cert.DownTxIdeal.τ).loc Cert.DownTxIdeal.main_arg1) = m ((c.tc : Thread Cert.DownTxIdeal.nD Cert.DownTxIdeal.τ).loc Cert.DownTxIdeal.main_arg1)
          ∧ r.2.mem ((c.tc : Thread Cert.DownTxIdeal.nD Cert.DownTxIdeal.τ).loc Cert.DownTxIdeal.main_arg2) = m ((c.tc : Thread Cert.DownTxIdeal.nD Cert.DownTxIdeal.τ).loc Cert.DownTxIdeal.main_arg2)
          ∧ r.2.mem ((c.tc : Thread Cert.DownTxIdeal.nD Cert.DownTxIdeal.τ).loc Cert.DownTxIdeal.main_arg3) = m ((c.tc : Thread Cert.DownTxIdeal.nD Cert.DownTxIdeal.τ).loc Cert.DownTxIdeal.main_arg3)
          ∧ r.2.mem ((c.tc : Thread Cert.DownTxIdeal.nD Cert.DownTxIdeal.τ).loc Cert.DownTxIdeal.main_arg4) = m ((c.tc : Thread Cert.DownTxIdeal.nD Cert.DownTxIdeal.τ).loc Cert.DownTxIdeal.main_arg4)
          ∧ r.2.mem ((c.tc : Thread Cert.DownTxIdeal.nD Cert.DownTxIdeal.τ).loc Cert.DownTxIdeal.main_arg5) = m ((c.tc : Thread Cert.DownTxIdeal.nD Cert.DownTxIdeal.τ).loc Cert.DownTxIdeal.main_arg5))
      ∧ θ_run (Cert.DownTxRefIdeal.defs (F := Ideal)) (onTc (τ := Cert.DownTxRefIdeal.τ) (Cert.DownTxRefIdeal.main (F := Ideal))) ⟨m', fun _ => 0, g'⟩ (fun r => ∀ c : Dev Cert.DownTxRefIdeal.nD,
          r.2.mem ((c.tc : Thread Cert.DownTxRefIdeal.nD Cert.DownTxRefIdeal.τ).loc Cert.DownTxRefIdeal.main_v2) = v0 c
          ∧ r.2.mem ((c.tc : Thread Cert.DownTxRefIdeal.nD Cert.DownTxRefIdeal.τ).loc Cert.DownTxRefIdeal.main_arg0) = m' ((c.tc : Thread Cert.DownTxRefIdeal.nD Cert.DownTxRefIdeal.τ).loc Cert.DownTxRefIdeal.main_arg0)
          ∧ r.2.mem ((c.tc : Thread Cert.DownTxRefIdeal.nD Cert.DownTxRefIdeal.τ).loc Cert.DownTxRefIdeal.main_arg1) = m' ((c.tc : Thread Cert.DownTxRefIdeal.nD Cert.DownTxRefIdeal.τ).loc Cert.DownTxRefIdeal.main_arg1)
          ∧ r.2.mem ((c.tc : Thread Cert.DownTxRefIdeal.nD Cert.DownTxRefIdeal.τ).loc Cert.DownTxRefIdeal.main_arg2) = m' ((c.tc : Thread Cert.DownTxRefIdeal.nD Cert.DownTxRefIdeal.τ).loc Cert.DownTxRefIdeal.main_arg2)
          ∧ r.2.mem ((c.tc : Thread Cert.DownTxRefIdeal.nD Cert.DownTxRefIdeal.τ).loc Cert.DownTxRefIdeal.main_arg3) = m' ((c.tc : Thread Cert.DownTxRefIdeal.nD Cert.DownTxRefIdeal.τ).loc Cert.DownTxRefIdeal.main_arg3)
          ∧ r.2.mem ((c.tc : Thread Cert.DownTxRefIdeal.nD Cert.DownTxRefIdeal.τ).loc Cert.DownTxRefIdeal.main_arg4) = m' ((c.tc : Thread Cert.DownTxRefIdeal.nD Cert.DownTxRefIdeal.τ).loc Cert.DownTxRefIdeal.main_arg4)
          ∧ r.2.mem ((c.tc : Thread Cert.DownTxRefIdeal.nD Cert.DownTxRefIdeal.τ).loc Cert.DownTxRefIdeal.main_arg5) = m' ((c.tc : Thread Cert.DownTxRefIdeal.nD Cert.DownTxRefIdeal.τ).loc Cert.DownTxRefIdeal.main_arg5))

def preserves_LnIm_LnImIdeal : Prop :=
  True

def algebraic_LnImIdeal_LnImRefIdeal [hLnImIdeal : Cert.LnImIdeal.Facts] [hLnImRefIdeal : Cert.LnImRefIdeal.Facts] : Prop :=
  ∀ (m : (ℓ : Loc Cert.LnImIdeal.nD Cert.LnImIdeal.τ Cert.LnImIdeal.sig) → Buf (Elt Ideal) ℓ) (g : Dev Cert.LnImIdeal.nD → PrngReg)
    (m' : (ℓ : Loc Cert.LnImRefIdeal.nD Cert.LnImRefIdeal.τ Cert.LnImRefIdeal.sig) → Buf (Elt Ideal) ℓ) (g' : Dev Cert.LnImRefIdeal.nD → PrngReg), Pre_LnImIdeal m →
    (∀ c : Dev Cert.LnImIdeal.nD,
      m' ((c.tc : Thread Cert.LnImRefIdeal.nD Cert.LnImRefIdeal.τ).loc Cert.LnImRefIdeal.main_arg0) = m ((c.tc : Thread Cert.LnImIdeal.nD Cert.LnImIdeal.τ).loc Cert.LnImIdeal.main_arg0)
      ∧ m' ((c.tc : Thread Cert.LnImRefIdeal.nD Cert.LnImRefIdeal.τ).loc Cert.LnImRefIdeal.main_arg1) = m ((c.tc : Thread Cert.LnImIdeal.nD Cert.LnImIdeal.τ).loc Cert.LnImIdeal.main_arg1)) →
    ∃ (v0 : (c : Dev Cert.LnImIdeal.nD) → Buf (Elt Ideal) ((c.tc : Thread Cert.LnImIdeal.nD Cert.LnImIdeal.τ).loc Cert.LnImIdeal.main_v0_0)) (v1 : (c : Dev Cert.LnImIdeal.nD) → Buf (Elt Ideal) ((c.tc : Thread Cert.LnImIdeal.nD Cert.LnImIdeal.τ).loc Cert.LnImIdeal.main_v0_1)),
      θ_run (Cert.LnImIdeal.defs (F := Ideal)) (onTc (τ := Cert.LnImIdeal.τ) (Cert.LnImIdeal.main (F := Ideal))) ⟨m, fun _ => 0, g⟩ (fun r => ∀ c : Dev Cert.LnImIdeal.nD,
          r.2.mem ((c.tc : Thread Cert.LnImIdeal.nD Cert.LnImIdeal.τ).loc Cert.LnImIdeal.main_v0_0) = v0 c
          ∧ r.2.mem ((c.tc : Thread Cert.LnImIdeal.nD Cert.LnImIdeal.τ).loc Cert.LnImIdeal.main_v0_1) = v1 c
          ∧ r.2.mem ((c.tc : Thread Cert.LnImIdeal.nD Cert.LnImIdeal.τ).loc Cert.LnImIdeal.main_arg0) = m ((c.tc : Thread Cert.LnImIdeal.nD Cert.LnImIdeal.τ).loc Cert.LnImIdeal.main_arg0)
          ∧ r.2.mem ((c.tc : Thread Cert.LnImIdeal.nD Cert.LnImIdeal.τ).loc Cert.LnImIdeal.main_arg1) = m ((c.tc : Thread Cert.LnImIdeal.nD Cert.LnImIdeal.τ).loc Cert.LnImIdeal.main_arg1))
      ∧ θ_run (Cert.LnImRefIdeal.defs (F := Ideal)) (onTc (τ := Cert.LnImRefIdeal.τ) (Cert.LnImRefIdeal.main (F := Ideal))) ⟨m', fun _ => 0, g'⟩ (fun r => ∀ c : Dev Cert.LnImRefIdeal.nD,
          r.2.mem ((c.tc : Thread Cert.LnImRefIdeal.nD Cert.LnImRefIdeal.τ).loc Cert.LnImRefIdeal.main_v2_0) = v0 c
          ∧ r.2.mem ((c.tc : Thread Cert.LnImRefIdeal.nD Cert.LnImRefIdeal.τ).loc Cert.LnImRefIdeal.main_v2_1) = v1 c
          ∧ r.2.mem ((c.tc : Thread Cert.LnImRefIdeal.nD Cert.LnImRefIdeal.τ).loc Cert.LnImRefIdeal.main_arg0) = m' ((c.tc : Thread Cert.LnImRefIdeal.nD Cert.LnImRefIdeal.τ).loc Cert.LnImRefIdeal.main_arg0)
          ∧ r.2.mem ((c.tc : Thread Cert.LnImRefIdeal.nD Cert.LnImRefIdeal.τ).loc Cert.LnImRefIdeal.main_arg1) = m' ((c.tc : Thread Cert.LnImRefIdeal.nD Cert.LnImRefIdeal.τ).loc Cert.LnImRefIdeal.main_arg1))

def preserves_LnTx_LnTxIdeal : Prop :=
  True

def algebraic_LnTxIdeal_LnTxRefIdeal [hLnTxIdeal : Cert.LnTxIdeal.Facts] [hLnTxRefIdeal : Cert.LnTxRefIdeal.Facts] : Prop :=
  ∀ (m : (ℓ : Loc Cert.LnTxIdeal.nD Cert.LnTxIdeal.τ Cert.LnTxIdeal.sig) → Buf (Elt Ideal) ℓ) (g : Dev Cert.LnTxIdeal.nD → PrngReg)
    (m' : (ℓ : Loc Cert.LnTxRefIdeal.nD Cert.LnTxRefIdeal.τ Cert.LnTxRefIdeal.sig) → Buf (Elt Ideal) ℓ) (g' : Dev Cert.LnTxRefIdeal.nD → PrngReg), Pre_LnTxIdeal m →
    (∀ c : Dev Cert.LnTxIdeal.nD,
      m' ((c.tc : Thread Cert.LnTxRefIdeal.nD Cert.LnTxRefIdeal.τ).loc Cert.LnTxRefIdeal.main_arg0) = m ((c.tc : Thread Cert.LnTxIdeal.nD Cert.LnTxIdeal.τ).loc Cert.LnTxIdeal.main_arg0)
      ∧ m' ((c.tc : Thread Cert.LnTxRefIdeal.nD Cert.LnTxRefIdeal.τ).loc Cert.LnTxRefIdeal.main_arg1) = m ((c.tc : Thread Cert.LnTxIdeal.nD Cert.LnTxIdeal.τ).loc Cert.LnTxIdeal.main_arg1)) →
    ∃ (v0 : (c : Dev Cert.LnTxIdeal.nD) → Buf (Elt Ideal) ((c.tc : Thread Cert.LnTxIdeal.nD Cert.LnTxIdeal.τ).loc Cert.LnTxIdeal.main_v0_0)) (v1 : (c : Dev Cert.LnTxIdeal.nD) → Buf (Elt Ideal) ((c.tc : Thread Cert.LnTxIdeal.nD Cert.LnTxIdeal.τ).loc Cert.LnTxIdeal.main_v0_1)),
      θ_run (Cert.LnTxIdeal.defs (F := Ideal)) (onTc (τ := Cert.LnTxIdeal.τ) (Cert.LnTxIdeal.main (F := Ideal))) ⟨m, fun _ => 0, g⟩ (fun r => ∀ c : Dev Cert.LnTxIdeal.nD,
          r.2.mem ((c.tc : Thread Cert.LnTxIdeal.nD Cert.LnTxIdeal.τ).loc Cert.LnTxIdeal.main_v0_0) = v0 c
          ∧ r.2.mem ((c.tc : Thread Cert.LnTxIdeal.nD Cert.LnTxIdeal.τ).loc Cert.LnTxIdeal.main_v0_1) = v1 c
          ∧ r.2.mem ((c.tc : Thread Cert.LnTxIdeal.nD Cert.LnTxIdeal.τ).loc Cert.LnTxIdeal.main_arg0) = m ((c.tc : Thread Cert.LnTxIdeal.nD Cert.LnTxIdeal.τ).loc Cert.LnTxIdeal.main_arg0)
          ∧ r.2.mem ((c.tc : Thread Cert.LnTxIdeal.nD Cert.LnTxIdeal.τ).loc Cert.LnTxIdeal.main_arg1) = m ((c.tc : Thread Cert.LnTxIdeal.nD Cert.LnTxIdeal.τ).loc Cert.LnTxIdeal.main_arg1))
      ∧ θ_run (Cert.LnTxRefIdeal.defs (F := Ideal)) (onTc (τ := Cert.LnTxRefIdeal.τ) (Cert.LnTxRefIdeal.main (F := Ideal))) ⟨m', fun _ => 0, g'⟩ (fun r => ∀ c : Dev Cert.LnTxRefIdeal.nD,
          r.2.mem ((c.tc : Thread Cert.LnTxRefIdeal.nD Cert.LnTxRefIdeal.τ).loc Cert.LnTxRefIdeal.main_v2_0) = v0 c
          ∧ r.2.mem ((c.tc : Thread Cert.LnTxRefIdeal.nD Cert.LnTxRefIdeal.τ).loc Cert.LnTxRefIdeal.main_v2_1) = v1 c
          ∧ r.2.mem ((c.tc : Thread Cert.LnTxRefIdeal.nD Cert.LnTxRefIdeal.τ).loc Cert.LnTxRefIdeal.main_arg0) = m' ((c.tc : Thread Cert.LnTxRefIdeal.nD Cert.LnTxRefIdeal.τ).loc Cert.LnTxRefIdeal.main_arg0)
          ∧ r.2.mem ((c.tc : Thread Cert.LnTxRefIdeal.nD Cert.LnTxRefIdeal.τ).loc Cert.LnTxRefIdeal.main_arg1) = m' ((c.tc : Thread Cert.LnTxRefIdeal.nD Cert.LnTxRefIdeal.τ).loc Cert.LnTxRefIdeal.main_arg1))

def Claim : Prop :=
  ∃ (hKernel : Cert.Kernel.Facts) (hKernelIdeal : Cert.KernelIdeal.Facts) (hReferenceIdeal : Cert.ReferenceIdeal.Facts) (hDownEx : Cert.DownEx.Facts) (hDownExIdeal : Cert.DownExIdeal.Facts) (hDownExRefIdeal : Cert.DownExRefIdeal.Facts) (hUpEx : Cert.UpEx.Facts) (hUpExIdeal : Cert.UpExIdeal.Facts) (hUpExRefIdeal : Cert.UpExRefIdeal.Facts) (hDownSh : Cert.DownSh.Facts) (hDownShIdeal : Cert.DownShIdeal.Facts) (hDownShRefIdeal : Cert.DownShRefIdeal.Facts) (hDownTx : Cert.DownTx.Facts) (hDownTxIdeal : Cert.DownTxIdeal.Facts) (hDownTxRefIdeal : Cert.DownTxRefIdeal.Facts) (hLnIm : Cert.LnIm.Facts) (hLnImIdeal : Cert.LnImIdeal.Facts) (hLnImRefIdeal : Cert.LnImRefIdeal.Facts) (hLnTx : Cert.LnTx.Facts) (hLnTxIdeal : Cert.LnTxIdeal.Facts) (hLnTxRefIdeal : Cert.LnTxRefIdeal.Facts) (hPre_down_work_list : Cert.Pre_down_work_list.Facts) (hPre_up_work_list : Cert.Pre_up_work_list.Facts),
    quiescent_Kernel (hKernel := hKernel)
    ∧ quiescent_KernelIdeal (hKernelIdeal := hKernelIdeal)
    ∧ quiescent_ReferenceIdeal (hReferenceIdeal := hReferenceIdeal)
    ∧ quiescent_DownEx (hDownEx := hDownEx) (hPre_down_work_list := hPre_down_work_list)
    ∧ quiescent_DownExIdeal (hDownExIdeal := hDownExIdeal) (hPre_down_work_list := hPre_down_work_list)
    ∧ quiescent_DownExRefIdeal (hDownExRefIdeal := hDownExRefIdeal) (hPre_down_work_list := hPre_down_work_list)
    ∧ quiescent_UpEx (hUpEx := hUpEx) (hPre_up_work_list := hPre_up_work_list)
    ∧ quiescent_UpExIdeal (hUpExIdeal := hUpExIdeal) (hPre_up_work_list := hPre_up_work_list)
    ∧ quiescent_UpExRefIdeal (hUpExRefIdeal := hUpExRefIdeal) (hPre_up_work_list := hPre_up_work_list)
    ∧ quiescent_DownSh (hDownSh := hDownSh)
    ∧ quiescent_DownShIdeal (hDownShIdeal := hDownShIdeal)
    ∧ quiescent_DownShRefIdeal (hDownShRefIdeal := hDownShRefIdeal)
    ∧ quiescent_DownTx (hDownTx := hDownTx)
    ∧ quiescent_DownTxIdeal (hDownTxIdeal := hDownTxIdeal)
    ∧ quiescent_DownTxRefIdeal (hDownTxRefIdeal := hDownTxRefIdeal)
    ∧ quiescent_LnIm (hLnIm := hLnIm)
    ∧ quiescent_LnImIdeal (hLnImIdeal := hLnImIdeal)
    ∧ quiescent_LnImRefIdeal (hLnImRefIdeal := hLnImRefIdeal)
    ∧ quiescent_LnTx (hLnTx := hLnTx)
    ∧ quiescent_LnTxIdeal (hLnTxIdeal := hLnTxIdeal)
    ∧ quiescent_LnTxRefIdeal (hLnTxRefIdeal := hLnTxRefIdeal)
    ∧ preserves_Kernel_KernelIdeal
    ∧ algebraic_KernelIdeal_ReferenceIdeal (hKernelIdeal := hKernelIdeal) (hReferenceIdeal := hReferenceIdeal)
    ∧ preserves_DownEx_DownExIdeal
    ∧ algebraic_DownExIdeal_DownExRefIdeal (hDownExIdeal := hDownExIdeal) (hDownExRefIdeal := hDownExRefIdeal) (hPre_down_work_list := hPre_down_work_list)
    ∧ preserves_UpEx_UpExIdeal
    ∧ algebraic_UpExIdeal_UpExRefIdeal (hUpExIdeal := hUpExIdeal) (hUpExRefIdeal := hUpExRefIdeal) (hPre_up_work_list := hPre_up_work_list)
    ∧ preserves_DownSh_DownShIdeal
    ∧ algebraic_DownShIdeal_DownShRefIdeal (hDownShIdeal := hDownShIdeal) (hDownShRefIdeal := hDownShRefIdeal)
    ∧ preserves_DownTx_DownTxIdeal
    ∧ algebraic_DownTxIdeal_DownTxRefIdeal (hDownTxIdeal := hDownTxIdeal) (hDownTxRefIdeal := hDownTxRefIdeal)
    ∧ preserves_LnIm_LnImIdeal
    ∧ algebraic_LnImIdeal_LnImRefIdeal (hLnImIdeal := hLnImIdeal) (hLnImRefIdeal := hLnImRefIdeal)
    ∧ preserves_LnTx_LnTxIdeal
    ∧ algebraic_LnTxIdeal_LnTxRefIdeal (hLnTxIdeal := hLnTxIdeal) (hLnTxRefIdeal := hLnTxRefIdeal)
-- ==== Pre_down_work_list.lean ====
abbrev S16384x1 : Shape := ⟨2, ![16384, 1]⟩
abbrev S35 : Shape := ⟨1, ![35]⟩
abbrev S16384x6912 : Shape := ⟨2, ![16384, 6912]⟩
abbrev S4x6912x2560 : Shape := ⟨3, ![4, 6912, 2560]⟩
abbrev S4x2560 : Shape := ⟨2, ![4, 2560]⟩
abbrev S16384 : Shape := ⟨1, ![16384]⟩
abbrev S34 : Shape := ⟨1, ![34]⟩
abbrev S1 : Shape := ⟨1, ![1]⟩
abbrev S_ : Shape := ⟨0, ![]⟩
abbrev S1x35 : Shape := ⟨2, ![1, 35]⟩
abbrev S16384x35 : Shape := ⟨2, ![16384, 35]⟩

class Facts : Prop where
  bcast_S16384_S16384x1_0 : S16384.BroadcastsInDim S16384x1 (![0] : Fin 1 → Fin S16384x1.rank)
  slices_S35_S34_0 : S35.Slices ![0] S34
  slices_S35_S34_1 : S35.Slices ![1] S34
  slices_S35_S1_0 : S35.Slices ![0] S1
  shapeCasts_S1_S_ : S1.ShapeCasts S_
  slices_S35_S1_34 : S35.Slices ![34] S1
  bcast_S_S35 : S_.BroadcastsInDim S35 (![] : Fin 0 → Fin S35.rank)
  bcast_S35_S1x35_1 : S35.BroadcastsInDim S1x35 (![1] : Fin 1 → Fin S1x35.rank)
  bcast_S16384x1_S16384x35_0_1 : S16384x1.BroadcastsInDim S16384x35 (![0, 1] : Fin 2 → Fin S16384x35.rank)
  bcast_S1x35_S16384x35_0_1 : S1x35.BroadcastsInDim S16384x35 (![0, 1] : Fin 2 → Fin S16384x35.rank)

variable [Facts]

def fn_part2 {F : FTy → Type} [FloatOps F] (main_arg0 : IVec S16384x1 32) (main_arg2 : IVec S35 32) (main_v6 : IVec S_ 1) (main_v9 : IVec S_ 1) (main_v12 : IVec S34 1) (main_v13 : IVec S35 1) (main_v16 : IVec S35 1) (main_v21 : IVec S35 1) (main_v22 : IVec S34 1) (main_v24 : IVec S35 1) (main_v26 : IVec S35 1) (main_v28 : IVec S35 1) (main_v30 : IVec S35 1) (main_v34 : IVec S16384x35 1) (main_v38 : IVec S16384x35 1) : IVec S_ 1 × IVec S_ 1 × IVec S34 1 × IVec S35 1 × IVec S35 1 × IVec S35 1 × IVec S34 1 × IVec S35 1 × IVec S35 1 × IVec S35 1 × IVec S35 1 × IVec S16384x35 1 :=
  let main_v39 : IVec S16384x35 1 := ori main_v34 main_v38
  let main_v40 : IVec S1x35 32 := broadcastInDim S1x35 ![1] bcast_S35_S1x35_1 main_arg2
  let main_v41 : IVec S16384x35 32 := broadcastInDim S16384x35 ![0, 1] bcast_S16384x1_S16384x35_0_1 main_arg0
  let main_v42 : IVec S16384x35 32 := broadcastInDim S16384x35 ![0, 1] bcast_S1x35_S16384x35_0_1 main_v40
  let main_v43 : IVec S16384x35 1 := cmpi .eq main_v41 main_v42
  let main_v44 : IVec S16384x35 1 := ori main_v39 main_v43
  (main_v6, main_v9, main_v12, main_v13, main_v16, main_v21, main_v22, main_v24, main_v26, main_v28, main_v30, main_v44)

def fn_part1 {F : FTy → Type} [FloatOps F] (main_arg0 : IVec S16384x1 32) (main_arg1 : IVec S35 32) (main_arg2 : IVec S35 32) (main_arg3 : IVec S35 32) (main_arg4 : IVec S35 32) (main_v1 : IVec S16384x1 32) (main_v2 : IVec S34 32) (main_v3 : IVec S34 32) (main_v6 : IVec S_ 1) (main_v9 : IVec S_ 1) (main_v12 : IVec S34 1) (main_v13 : IVec S35 1) (main_v16 : IVec S35 1) (main_v18 : IVec S35 32) (main_c_3 : IVec S_ 32) : IVec S_ 1 × IVec S_ 1 × IVec S34 1 × IVec S35 1 × IVec S35 1 × IVec S35 1 × IVec S34 1 × IVec S35 1 × IVec S35 1 × IVec S35 1 × IVec S35 1 × IVec S16384x35 1 :=
  let main_v19 : IVec S35 32 := broadcastInDim S35 ![] bcast_S_S35 main_c_3
  let main_v20 : IVec S35 32 := addi main_v18 main_v19
  let main_v21 : IVec S35 1 := cmpi .sle main_arg4 main_v20
  let main_v22 : IVec S34 1 := cmpi .sle main_v2 main_v3
  let main_c_4 : IVec S_ 32 := constantI S_ 32 0#32
  let main_v23 : IVec S35 32 := broadcastInDim S35 ![] bcast_S_S35 main_c_4
  let main_v24 : IVec S35 1 := cmpi .sge main_arg1 main_v23
  let main_c_5 : IVec S_ 32 := constantI S_ 32 32#32
  let main_v25 : IVec S35 32 := broadcastInDim S35 ![] bcast_S_S35 main_c_5
  let main_v26 : IVec S35 1 := cmpi .slt main_arg1 main_v25
  let main_c_6 : IVec S_ 32 := constantI S_ 32 0#32
  let main_v27 : IVec S35 32 := broadcastInDim S35 ![] bcast_S_S35 main_c_6
  let main_v28 : IVec S35 1 := cmpi .sge main_arg2 main_v27
  let main_c_7 : IVec S_ 32 := constantI S_ 32 4#32
  let main_v29 : IVec S35 32 := broadcastInDim S35 ![] bcast_S_S35 main_c_7
  let main_v30 : IVec S35 1 := cmpi .slt main_arg2 main_v29
  let main_v31 : IVec S1x35 32 := broadcastInDim S1x35 ![1] bcast_S35_S1x35_1 main_arg3
  let main_v32 : IVec S16384x35 32 := broadcastInDim S16384x35 ![0, 1] bcast_S16384x1_S16384x35_0_1 main_v1
  let main_v33 : IVec S16384x35 32 := broadcastInDim S16384x35 ![0, 1] bcast_S1x35_S16384x35_0_1 main_v31
  let main_v34 : IVec S16384x35 1 := cmpi .slt main_v32 main_v33
  let main_v35 : IVec S1x35 32 := broadcastInDim S1x35 ![1] bcast_S35_S1x35_1 main_arg4
  let main_v36 : IVec S16384x35 32 := broadcastInDim S16384x35 ![0, 1] bcast_S16384x1_S16384x35_0_1 main_v1
  let main_v37 : IVec S16384x35 32 := broadcastInDim S16384x35 ![0, 1] bcast_S1x35_S16384x35_0_1 main_v35
  let main_v38 : IVec S16384x35 1 := cmpi .sge main_v36 main_v37
  fn_part2 (F := F) main_arg0 main_arg2 main_v6 main_v9 main_v12 main_v13 main_v16 main_v21 main_v22 main_v24 main_v26 main_v28 main_v30 main_v34 main_v38

def fn {F : FTy → Type} [FloatOps F] (main_arg0 : IVec S16384x1 32) (main_arg1 : IVec S35 32) (main_arg2 : IVec S35 32) (main_arg3 : IVec S35 32) (main_arg4 : IVec S35 32) (main_arg5 : FVec F S16384x6912 .fp8e4m3) (main_arg6 : FVec F S16384x1 .f32) (main_arg7 : FVec F S4x6912x2560 .fp8e4m3) (main_arg8 : FVec F S4x2560 .f32) : IVec S_ 1 × IVec S_ 1 × IVec S34 1 × IVec S35 1 × IVec S35 1 × IVec S35 1 × IVec S34 1 × IVec S35 1 × IVec S35 1 × IVec S35 1 × IVec S35 1 × IVec S16384x35 1 :=
  let main_v0 : IVec S16384 32 := iotaInDim S16384 32 0
  let main_v1 : IVec S16384x1 32 := broadcastInDim S16384x1 ![0] bcast_S16384_S16384x1_0 main_v0
  let main_v2 : IVec S34 32 := (extractStridedSlice S34 ![0] · slices_S35_S34_0) main_arg1
  let main_v3 : IVec S34 32 := (extractStridedSlice S34 ![1] · slices_S35_S34_1) main_arg1
  let main_v4 : IVec S1 32 := (extractStridedSlice S1 ![0] · slices_S35_S1_0) main_arg3
  let main_v5 : IVec S_ 32 := shapeCast S_ main_v4 shapeCasts_S1_S_
  let main_c : IVec S_ 32 := constantI S_ 32 0#32
  let main_v6 : IVec S_ 1 := cmpi .eq main_v5 main_c
  let main_v7 : IVec S1 32 := (extractStridedSlice S1 ![34] · slices_S35_S1_34) main_arg4
  let main_v8 : IVec S_ 32 := shapeCast S_ main_v7 shapeCasts_S1_S_
  let main_c_0 : IVec S_ 32 := constantI S_ 32 16384#32
  let main_v9 : IVec S_ 1 := cmpi .eq main_v8 main_c_0
  let main_v10 : IVec S34 32 := (extractStridedSlice S34 ![1] · slices_S35_S34_1) main_arg3
  let main_v11 : IVec S34 32 := (extractStridedSlice S34 ![0] · slices_S35_S34_0) main_arg4
  let main_v12 : IVec S34 1 := cmpi .eq main_v10 main_v11
  let main_v13 : IVec S35 1 := cmpi .sle main_arg3 main_arg4
  let main_c_1 : IVec S_ 32 := constantI S_ 32 512#32
  let main_v14 : IVec S35 32 := broadcastInDim S35 ![] bcast_S_S35 main_c_1
  let main_v15 : IVec S35 32 := muli main_arg1 main_v14
  let main_v16 : IVec S35 1 := cmpi .sle main_v15 main_arg3
  let main_c_2 : IVec S_ 32 := constantI S_ 32 512#32
  let main_v17 : IVec S35 32 := broadcastInDim S35 ![] bcast_S_S35 main_c_2
  let main_v18 : IVec S35 32 := muli main_arg1 main_v17
  let main_c_3 : IVec S_ 32 := constantI S_ 32 512#32
  fn_part1 (F := F) main_arg0 main_arg1 main_arg2 main_arg3 main_arg4 main_v1 main_v2 main_v3 main_v6 main_v9 main_v12 main_v13 main_v16 main_v18 main_c_3
-- ==== Pre_up_work_list.lean ====
abbrev S16384x1 : Shape := ⟨2, ![16384, 1]⟩
abbrev S35 : Shape := ⟨1, ![35]⟩
abbrev S16384x640 : Shape := ⟨2, ![16384, 640]⟩
abbrev S4x2560x6912 : Shape := ⟨3, ![4, 2560, 6912]⟩
abbrev S4x6912 : Shape := ⟨2, ![4, 6912]⟩
abbrev S16384 : Shape := ⟨1, ![16384]⟩
abbrev S34 : Shape := ⟨1, ![34]⟩
abbrev S1 : Shape := ⟨1, ![1]⟩
abbrev S_ : Shape := ⟨0, ![]⟩
abbrev S1x35 : Shape := ⟨2, ![1, 35]⟩
abbrev S16384x35 : Shape := ⟨2, ![16384, 35]⟩

class Facts : Prop where
  bcast_S16384_S16384x1_0 : S16384.BroadcastsInDim S16384x1 (![0] : Fin 1 → Fin S16384x1.rank)
  slices_S35_S34_0 : S35.Slices ![0] S34
  slices_S35_S34_1 : S35.Slices ![1] S34
  slices_S35_S1_0 : S35.Slices ![0] S1
  shapeCasts_S1_S_ : S1.ShapeCasts S_
  slices_S35_S1_34 : S35.Slices ![34] S1
  bcast_S_S35 : S_.BroadcastsInDim S35 (![] : Fin 0 → Fin S35.rank)
  bcast_S35_S1x35_1 : S35.BroadcastsInDim S1x35 (![1] : Fin 1 → Fin S1x35.rank)
  bcast_S16384x1_S16384x35_0_1 : S16384x1.BroadcastsInDim S16384x35 (![0, 1] : Fin 2 → Fin S16384x35.rank)
  bcast_S1x35_S16384x35_0_1 : S1x35.BroadcastsInDim S16384x35 (![0, 1] : Fin 2 → Fin S16384x35.rank)

variable [Facts]

def fn_part2 {F : FTy → Type} [FloatOps F] (main_arg0 : IVec S16384x1 32) (main_arg2 : IVec S35 32) (main_v6 : IVec S_ 1) (main_v9 : IVec S_ 1) (main_v12 : IVec S34 1) (main_v13 : IVec S35 1) (main_v16 : IVec S35 1) (main_v21 : IVec S35 1) (main_v22 : IVec S34 1) (main_v24 : IVec S35 1) (main_v26 : IVec S35 1) (main_v28 : IVec S35 1) (main_v30 : IVec S35 1) (main_v34 : IVec S16384x35 1) (main_v38 : IVec S16384x35 1) : IVec S_ 1 × IVec S_ 1 × IVec S34 1 × IVec S35 1 × IVec S35 1 × IVec S35 1 × IVec S34 1 × IVec S35 1 × IVec S35 1 × IVec S35 1 × IVec S35 1 × IVec S16384x35 1 :=
  let main_v39 : IVec S16384x35 1 := ori main_v34 main_v38
  let main_v40 : IVec S1x35 32 := broadcastInDim S1x35 ![1] bcast_S35_S1x35_1 main_arg2
  let main_v41 : IVec S16384x35 32 := broadcastInDim S16384x35 ![0, 1] bcast_S16384x1_S16384x35_0_1 main_arg0
  let main_v42 : IVec S16384x35 32 := broadcastInDim S16384x35 ![0, 1] bcast_S1x35_S16384x35_0_1 main_v40
  let main_v43 : IVec S16384x35 1 := cmpi .eq main_v41 main_v42
  let main_v44 : IVec S16384x35 1 := ori main_v39 main_v43
  (main_v6, main_v9, main_v12, main_v13, main_v16, main_v21, main_v22, main_v24, main_v26, main_v28, main_v30, main_v44)

def fn_part1 {F : FTy → Type} [FloatOps F] (main_arg0 : IVec S16384x1 32) (main_arg1 : IVec S35 32) (main_arg2 : IVec S35 32) (main_arg3 : IVec S35 32) (main_arg4 : IVec S35 32) (main_v1 : IVec S16384x1 32) (main_v2 : IVec S34 32) (main_v3 : IVec S34 32) (main_v6 : IVec S_ 1) (main_v9 : IVec S_ 1) (main_v12 : IVec S34 1) (main_v13 : IVec S35 1) (main_v16 : IVec S35 1) (main_v18 : IVec S35 32) (main_c_3 : IVec S_ 32) : IVec S_ 1 × IVec S_ 1 × IVec S34 1 × IVec S35 1 × IVec S35 1 × IVec S35 1 × IVec S34 1 × IVec S35 1 × IVec S35 1 × IVec S35 1 × IVec S35 1 × IVec S16384x35 1 :=
  let main_v19 : IVec S35 32 := broadcastInDim S35 ![] bcast_S_S35 main_c_3
  let main_v20 : IVec S35 32 := addi main_v18 main_v19
  let main_v21 : IVec S35 1 := cmpi .sle main_arg4 main_v20
  let main_v22 : IVec S34 1 := cmpi .sle main_v2 main_v3
  let main_c_4 : IVec S_ 32 := constantI S_ 32 0#32
  let main_v23 : IVec S35 32 := broadcastInDim S35 ![] bcast_S_S35 main_c_4
  let main_v24 : IVec S35 1 := cmpi .sge main_arg1 main_v23
  let main_c_5 : IVec S_ 32 := constantI S_ 32 32#32
  let main_v25 : IVec S35 32 := broadcastInDim S35 ![] bcast_S_S35 main_c_5
  let main_v26 : IVec S35 1 := cmpi .slt main_arg1 main_v25
  let main_c_6 : IVec S_ 32 := constantI S_ 32 0#32
  let main_v27 : IVec S35 32 := broadcastInDim S35 ![] bcast_S_S35 main_c_6
  let main_v28 : IVec S35 1 := cmpi .sge main_arg2 main_v27
  let main_c_7 : IVec S_ 32 := constantI S_ 32 4#32
  let main_v29 : IVec S35 32 := broadcastInDim S35 ![] bcast_S_S35 main_c_7
  let main_v30 : IVec S35 1 := cmpi .slt main_arg2 main_v29
  let main_v31 : IVec S1x35 32 := broadcastInDim S1x35 ![1] bcast_S35_S1x35_1 main_arg3
  let main_v32 : IVec S16384x35 32 := broadcastInDim S16384x35 ![0, 1] bcast_S16384x1_S16384x35_0_1 main_v1
  let main_v33 : IVec S16384x35 32 := broadcastInDim S16384x35 ![0, 1] bcast_S1x35_S16384x35_0_1 main_v31
  let main_v34 : IVec S16384x35 1 := cmpi .slt main_v32 main_v33
  let main_v35 : IVec S1x35 32 := broadcastInDim S1x35 ![1] bcast_S35_S1x35_1 main_arg4
  let main_v36 : IVec S16384x35 32 := broadcastInDim S16384x35 ![0, 1] bcast_S16384x1_S16384x35_0_1 main_v1
  let main_v37 : IVec S16384x35 32 := broadcastInDim S16384x35 ![0, 1] bcast_S1x35_S16384x35_0_1 main_v35
  let main_v38 : IVec S16384x35 1 := cmpi .sge main_v36 main_v37
  fn_part2 (F := F) main_arg0 main_arg2 main_v6 main_v9 main_v12 main_v13 main_v16 main_v21 main_v22 main_v24 main_v26 main_v28 main_v30 main_v34 main_v38

def fn {F : FTy → Type} [FloatOps F] (main_arg0 : IVec S16384x1 32) (main_arg1 : IVec S35 32) (main_arg2 : IVec S35 32) (main_arg3 : IVec S35 32) (main_arg4 : IVec S35 32) (main_arg5 : IVec S16384x640 32) (main_arg6 : FVec F S16384x1 .f32) (main_arg7 : FVec F S4x2560x6912 .fp8e4m3) (main_arg8 : FVec F S4x6912 .f32) (main_arg9 : FVec F S4x2560x6912 .fp8e4m3) (main_arg10 : FVec F S4x6912 .f32) : IVec S_ 1 × IVec S_ 1 × IVec S34 1 × IVec S35 1 × IVec S35 1 × IVec S35 1 × IVec S34 1 × IVec S35 1 × IVec S35 1 × IVec S35 1 × IVec S35 1 × IVec S16384x35 1 :=
  let main_v0 : IVec S16384 32 := iotaInDim S16384 32 0
  let main_v1 : IVec S16384x1 32 := broadcastInDim S16384x1 ![0] bcast_S16384_S16384x1_0 main_v0
  let main_v2 : IVec S34 32 := (extractStridedSlice S34 ![0] · slices_S35_S34_0) main_arg1
  let main_v3 : IVec S34 32 := (extractStridedSlice S34 ![1] · slices_S35_S34_1) main_arg1
  let main_v4 : IVec S1 32 := (extractStridedSlice S1 ![0] · slices_S35_S1_0) main_arg3
  let main_v5 : IVec S_ 32 := shapeCast S_ main_v4 shapeCasts_S1_S_
  let main_c : IVec S_ 32 := constantI S_ 32 0#32
  let main_v6 : IVec S_ 1 := cmpi .eq main_v5 main_c
  let main_v7 : IVec S1 32 := (extractStridedSlice S1 ![34] · slices_S35_S1_34) main_arg4
  let main_v8 : IVec S_ 32 := shapeCast S_ main_v7 shapeCasts_S1_S_
  let main_c_0 : IVec S_ 32 := constantI S_ 32 16384#32
  let main_v9 : IVec S_ 1 := cmpi .eq main_v8 main_c_0
  let main_v10 : IVec S34 32 := (extractStridedSlice S34 ![1] · slices_S35_S34_1) main_arg3
  let main_v11 : IVec S34 32 := (extractStridedSlice S34 ![0] · slices_S35_S34_0) main_arg4
  let main_v12 : IVec S34 1 := cmpi .eq main_v10 main_v11
  let main_v13 : IVec S35 1 := cmpi .sle main_arg3 main_arg4
  let main_c_1 : IVec S_ 32 := constantI S_ 32 512#32
  let main_v14 : IVec S35 32 := broadcastInDim S35 ![] bcast_S_S35 main_c_1
  let main_v15 : IVec S35 32 := muli main_arg1 main_v14
  let main_v16 : IVec S35 1 := cmpi .sle main_v15 main_arg3
  let main_c_2 : IVec S_ 32 := constantI S_ 32 512#32
  let main_v17 : IVec S35 32 := broadcastInDim S35 ![] bcast_S_S35 main_c_2
  let main_v18 : IVec S35 32 := muli main_arg1 main_v17
  let main_c_3 : IVec S_ 32 := constantI S_ 32 512#32
  fn_part1 (F := F) main_arg0 main_arg1 main_arg2 main_arg3 main_arg4 main_v1 main_v2 main_v3 main_v6 main_v9 main_v12 main_v13 main_v16 main_v18 main_c_3
-- ==== Kernel.lean ====
abbrev S8192x2560 : Shape := ⟨2, ![8192, 2560]⟩
abbrev S8192x1 : Shape := ⟨2, ![8192, 1]⟩
abbrev S2560x3584 : Shape := ⟨2, ![2560, 3584]⟩
abbrev S3584 : Shape := ⟨1, ![3584]⟩
abbrev S1x3584 : Shape := ⟨2, ![1, 3584]⟩
abbrev S8192x3584 : Shape := ⟨2, ![8192, 3584]⟩
abbrev S512x2560 : Shape := ⟨2, ![512, 2560]⟩
abbrev S512x1 : Shape := ⟨2, ![512, 1]⟩
abbrev S512x3584 : Shape := ⟨2, ![512, 3584]⟩
abbrev S512x128 : Shape := ⟨2, ![512, 128]⟩
abbrev S2560x512 : Shape := ⟨2, ![2560, 512]⟩
abbrev S512x512 : Shape := ⟨2, ![512, 512]⟩
abbrev S1x512 : Shape := ⟨2, ![1, 512]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S8192x2560, .fp8e4m3⟩
  | .hbm, ⟨1, _⟩ => ⟨S8192x1, .f32⟩
  | .hbm, ⟨2, _⟩ => ⟨S2560x3584, .fp8e4m3⟩
  | .hbm, ⟨3, _⟩ => ⟨S3584, .f32⟩
  | .hbm, ⟨4, _⟩ => ⟨S2560x3584, .fp8e4m3⟩
  | .hbm, ⟨5, _⟩ => ⟨S3584, .f32⟩
  | .hbm, ⟨6, _⟩ => ⟨S1x3584, .f32⟩
  | .hbm, ⟨7, _⟩ => ⟨S1x3584, .f32⟩
  | .hbm, ⟨8, _⟩ => ⟨S8192x3584, .fp8e4m3⟩
  | .hbm, ⟨9, _⟩ => ⟨S8192x1, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S512x1, .f32⟩
  | .local _ .vmem, ⟨3, _⟩ => ⟨S512x1, .f32⟩
  | .local _ .vmem, ⟨4, _⟩ => ⟨S2560x3584, .fp8e4m3⟩
  | .local _ .vmem, ⟨5, _⟩ => ⟨S1x3584, .f32⟩
  | .local _ .vmem, ⟨6, _⟩ => ⟨S2560x3584, .fp8e4m3⟩
  | .local _ .vmem, ⟨7, _⟩ => ⟨S1x3584, .f32⟩
  | .local _ .vmem, ⟨8, _⟩ => ⟨S512x3584, .fp8e4m3⟩
  | .local _ .vmem, ⟨9, _⟩ => ⟨S512x3584, .fp8e4m3⟩
  | .local _ .vmem, ⟨10, _⟩ => ⟨S512x1, .f32⟩
  | .local _ .vmem, ⟨11, _⟩ => ⟨S512x1, .f32⟩
  | .local _ .vmem, ⟨12, _⟩ => ⟨S512x3584, .f32⟩
  | .local _ .vmem, ⟨13, _⟩ => ⟨S512x128, .f32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let arg1 : BitVec 32 := BitVec.ofNat 32 (i 1).val
  let c3584_i32 : BitVec 32 := 3584#32
  let v31 : BitVec 32 := Scalar.muli arg1 c3584_i32
  let c0_i32_18 : BitVec 32 := 0#32
  let v32 : BitVec 32 := Scalar.addi v31 c0_i32_18
  v32
def k0_off1 (i : grid0.Coords) (c0_i32_18 : BitVec 32) : Fin 2 → Nat :=
  let c0_19 : Index := 0#32
  let arg1 : BitVec 32 := BitVec.ofNat 32 (i 1).val
  let c3584_i32 : BitVec 32 := 3584#32
  let v31 : BitVec 32 := Scalar.muli arg1 c3584_i32
  let v32 : BitVec 32 := Scalar.addi v31 c0_i32_18
  let v33 : BitVec 32 := v32
  let v34 : Index := Scalar.indexCast v33
  ![0, v34.toNat]
def k0_mult2 (i : grid0.Coords) : BitVec 32 :=
  let arg1 : BitVec 32 := BitVec.ofNat 32 (i 1).val
  let c3584_i32_32 : BitVec 32 := 3584#32
  let v75 : BitVec 32 := Scalar.muli arg1 c3584_i32_32
  let c512_i32 : BitVec 32 := 512#32
  let v76 : BitVec 32 := Scalar.addi v75 c512_i32
  v76
def k0_mult3 (i : grid0.Coords) : BitVec 32 :=
  let arg1 : BitVec 32 := BitVec.ofNat 32 (i 1).val
  let c3584_i32_46 : BitVec 32 := 3584#32
  let v119 : BitVec 32 := Scalar.muli arg1 c3584_i32_46
  let c1024_i32 : BitVec 32 := 1024#32
  let v120 : BitVec 32 := Scalar.addi v119 c1024_i32
  v120
def k0_mult4 (i : grid0.Coords) : BitVec 32 :=
  let arg1 : BitVec 32 := BitVec.ofNat 32 (i 1).val
  let c3584_i32_60 : BitVec 32 := 3584#32
  let v163 : BitVec 32 := Scalar.muli arg1 c3584_i32_60
  let c1536_i32 : BitVec 32 := 1536#32
  let v164 : BitVec 32 := Scalar.addi v163 c1536_i32
  v164
def k0_mult5 (i : grid0.Coords) : BitVec 32 :=
  let arg1 : BitVec 32 := BitVec.ofNat 32 (i 1).val
  let c3584_i32_74 : BitVec 32 := 3584#32
  let v207 : BitVec 32 := Scalar.muli arg1 c3584_i32_74
  let c2048_i32 : BitVec 32 := 2048#32
  let v208 : BitVec 32 := Scalar.addi v207 c2048_i32
  v208
def k0_mult6 (i : grid0.Coords) : BitVec 32 :=
  let arg1 : BitVec 32 := BitVec.ofNat 32 (i 1).val
  let c3584_i32_88 : BitVec 32 := 3584#32
  let v251 : BitVec 32 := Scalar.muli arg1 c3584_i32_88
  let c2560_i32 : BitVec 32 := 2560#32
  let v252 : BitVec 32 := Scalar.addi v251 c2560_i32
  v252
def k0_mult7 (i : grid0.Coords) : BitVec 32 :=
  let arg1 : BitVec 32 := BitVec.ofNat 32 (i 1).val
  let c3584_i32_102 : BitVec 32 := 3584#32
  let v295 : BitVec 32 := Scalar.muli arg1 c3584_i32_102
  let c3072_i32 : BitVec 32 := 3072#32
  let v296 : BitVec 32 := Scalar.addi v295 c3072_i32
  v296
def k0_cond2 (i : grid0.Coords) : BitVec 1 :=
  let arg1 : BitVec 32 := BitVec.ofNat 32 (i 1).val
  let c0_i32_106 : BitVec 32 := 0#32
  let v317 : BitVec 1 := Scalar.cmpi .eq arg1 c0_i32_106
  let v318 : BitVec 32 := Scalar.extui v317
  let c0_i32_107 : BitVec 32 := 0#32
  let v319 : BitVec 1 := Scalar.cmpi .ne v318 c0_i32_107
  v319

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2560x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2560x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x2560 : Shape := ⟨2, ![8192, 2560]⟩
abbrev S8192x1 : Shape := ⟨2, ![8192, 1]⟩
abbrev S2560x3584 : Shape := ⟨2, ![2560, 3584]⟩
abbrev S3584 : Shape := ⟨1, ![3584]⟩
abbrev S1x3584 : Shape := ⟨2, ![1, 3584]⟩
abbrev S8192x3584 : Shape := ⟨2, ![8192, 3584]⟩
abbrev S8192 : Shape := ⟨1, ![8192]⟩

abbrev nBuf : Space → Nat
  | .hbm => 10
  | .vmem => 8
  | .smem => 0
  | _ => 0

abbrev bufTy : (tb : Table) → Fin (tcTables nBuf tb) → BufTy
  | .hbm, ⟨0, _⟩ => ⟨S8192x2560, .fp8e4m3⟩
  | .hbm, ⟨1, _⟩ => ⟨S8192x1, .f32⟩
  | .hbm, ⟨2, _⟩ => ⟨S2560x3584, .fp8e4m3⟩
  | .hbm, ⟨3, _⟩ => ⟨S3584, .f32⟩
  | .hbm, ⟨4, _⟩ => ⟨S2560x3584, .fp8e4m3⟩
  | .hbm, ⟨5, _⟩ => ⟨S3584, .f32⟩
  | .hbm, ⟨6, _⟩ => ⟨S1x3584, .f32⟩
  | .hbm, ⟨7, _⟩ => ⟨S1x3584, .f32⟩
  | .hbm, ⟨8, _⟩ => ⟨S8192x3584, .fp8e4m3⟩
  | .hbm, ⟨9, _⟩ => ⟨S8192x1, .f32⟩
  | .local _ .vmem, ⟨0, _⟩ => ⟨S8192x2560, .fp8e4m3⟩
  | .local _ .vmem, ⟨1, _⟩ => ⟨S8192x1, .f32⟩
  | .local _ .vmem, ⟨2, _⟩ => ⟨S2560x3584, .fp8e4m3⟩
  | .local _ .vmem, ⟨3, _⟩ => ⟨S1x3584, .f32⟩
  | .local _ .vmem, ⟨4, _⟩ => ⟨S2560x3584, .fp8e4m3⟩
  | .local _ .vmem, ⟨5, _⟩ => ⟨S1x3584, .f32⟩
  | .local _ .vmem, ⟨6, _⟩ => ⟨S8192x3584, .fp8e4m3⟩
  | .local _ .vmem, ⟨7, _⟩ => ⟨S8192x1, .f32⟩
  | _, _ => ⟨S8192x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DownEx.lean ====
abbrev S16384x1 : Shape := ⟨2, ![16384, 1]⟩
abbrev S35 : Shape := ⟨1, ![35]⟩
abbrev S16384x6912 : Shape := ⟨2, ![16384, 6912]⟩
abbrev S4x6912x2560 : Shape := ⟨3, ![4, 6912, 2560]⟩
abbrev S4x2560 : Shape := ⟨2, ![4, 2560]⟩
abbrev S4x1x2560 : Shape := ⟨3, ![4, 1, 2560]⟩
abbrev S16384x2560 : Shape := ⟨2, ![16384, 2560]⟩
abbrev S512x6912 : Shape := ⟨2, ![512, 6912]⟩
abbrev S1 : Shape := ⟨1, ![1]⟩
abbrev S512x1 : Shape := ⟨2, ![512, 1]⟩
abbrev S1x6912x2560 : Shape := ⟨3, ![1, 6912, 2560]⟩
abbrev S1x1x2560 : Shape := ⟨3, ![1, 1, 2560]⟩
abbrev S512x2560 : Shape := ⟨2, ![512, 2560]⟩
abbrev S256x6912 : Shape := ⟨2, ![256, 6912]⟩
abbrev S256x1 : Shape := ⟨2, ![256, 1]⟩
abbrev S1x6912x512 : Shape := ⟨3, ![1, 6912, 512]⟩
abbrev S6912x512 : Shape := ⟨2, ![6912, 512]⟩
abbrev S256x512 : Shape := ⟨2, ![256, 512]⟩
abbrev S1x1x512 : Shape := ⟨3, ![1, 1, 512]⟩
abbrev S1x512 : Shape := ⟨2, ![1, 512]⟩

abbrev nBuf : Space → Nat
  | .hbm => 7
  | .vmem => 10
  | .smem => 4
  | _ => 0

abbrev bufTy : (tb : Table) → Fin (tcTables nBuf tb) → BufTy
  | .hbm, ⟨0, _⟩ => ⟨S16384x1, .i32⟩
  | .hbm, ⟨1, _⟩ => ⟨S16384x6912, .fp8e4m3⟩
  | .hbm, ⟨2, _⟩ => ⟨S16384x1, .f32⟩
  | .hbm, ⟨3, _⟩ => ⟨S4x6912x2560, .fp8e4m3⟩
  | .hbm, ⟨4, _⟩ => ⟨S4x2560, .f32⟩
  | .hbm, ⟨5, _⟩ => ⟨S4x1x2560, .f32⟩
  | .hbm, ⟨6, _⟩ => ⟨S16384x2560, .f32⟩
  | .local _ .vmem, ⟨0, _⟩ => ⟨S512x6912, .fp8e4m3⟩
  | .local _ .vmem, ⟨1, _⟩ => ⟨S512x6912, .fp8e4m3⟩
  | .local _ .vmem, ⟨2, _⟩ => ⟨S512x1, .f32⟩
  | .local _ .vmem, ⟨3, _⟩ => ⟨S512x1, .f32⟩
  | .local _ .vmem, ⟨4, _⟩ => ⟨S1x6912x2560, .fp8e4m3⟩
  | .local _ .vmem, ⟨5, _⟩ => ⟨S1x6912x2560, .fp8e4m3⟩
  | .local _ .vmem, ⟨6, _⟩ => ⟨S1x1x2560, .f32⟩
  | .local _ .vmem, ⟨7, _⟩ => ⟨S1x1x2560, .f32⟩
  | .local _ .vmem, ⟨8, _⟩ => ⟨S512x2560, .f32⟩
  | .local _ .vmem, ⟨9, _⟩ => ⟨S512x2560, .f32⟩
  | .local _ .smem, ⟨0, _⟩ => ⟨S35, .i32⟩
  | .local _ .smem, ⟨1, _⟩ => ⟨S35, .i32⟩
  | .local _ .smem, ⟨2, _⟩ => ⟨S35, .i32⟩
  | .local _ .smem, ⟨3, _⟩ => ⟨S35, .i32⟩
  | _, _ => ⟨S16384x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_v1 : Ref sig .tc := ⟨.hbm, 6, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![35], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) (v4 : BitVec 32) (v7 : BitVec 32) : BitVec 1 :=
  let c512_i32 : BitVec 32 := 512#32
  let v2 : BitVec 32 := Scalar.muli v1 c512_i32
  let v5 : BitVec 32 := Scalar.subi v4 v2
  let c256_i32 : BitVec 32 := 256#32
  let v9 : BitVec 1 := Scalar.cmpi .slt v5 c256_i32
  let v8 : BitVec 32 := Scalar.subi v7 v2
  let c0_i32 : BitVec 32 := 0#32
  let v10 : BitVec 1 := Scalar.cmpi .sgt v8 c0_i32
  let v11 : BitVec 1 := Scalar.andi v9 v10
  let v12 : BitVec 32 := Scalar.extui v11
  let c0_i32_0 : BitVec 32 := 0#32
  let v13 : BitVec 1 := Scalar.cmpi .ne v12 c0_i32_0
  v13

def k0_cond2 (v1 : BitVec 32) (v4 : BitVec 32) (v7 : BitVec 32) : BitVec 1 :=
  let c512_i32 : BitVec 32 := 512#32
  let v2 : BitVec 32 := Scalar.muli v1 c512_i32
  let v5 : BitVec 32 := Scalar.subi v4 v2
  let c512_i32_1 : BitVec 32 := 512#32
  let v14 : BitVec 1 := Scalar.cmpi .slt v5 c512_i32_1
  let v8 : BitVec 32 := Scalar.subi v7 v2
  let c256_i32_2 : BitVec 32 := 256#32
  let v15 : BitVec 1 := Scalar.cmpi .sgt v8 c256_i32_2
  let v16 : BitVec 1 := Scalar.andi v14 v15
  let v17 : BitVec 32 := Scalar.extui v16
  let c0_i32_3 : BitVec 32 := 0#32
  let v18 : BitVec 1 := Scalar.cmpi .ne v17 c0_i32_3
  v18

def cc0_transform_0 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6912x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DownExRefIdeal.lean ====
abbrev S16384x1 : Shape := ⟨2, ![16384, 1]⟩
abbrev S35 : Shape := ⟨1, ![35]⟩
abbrev S16384x6912 : Shape := ⟨2, ![16384, 6912]⟩
abbrev S4x6912x2560 : Shape := ⟨3, ![4, 6912, 2560]⟩
abbrev S4x2560 : Shape := ⟨2, ![4, 2560]⟩
abbrev S4x1x2560 : Shape := ⟨3, ![4, 1, 2560]⟩
abbrev S16384x2560 : Shape := ⟨2, ![16384, 2560]⟩
abbrev S1x6912x2560 : Shape := ⟨3, ![1, 6912, 2560]⟩
abbrev S6912x2560 : Shape := ⟨2, ![6912, 2560]⟩
abbrev S1x1x2560 : Shape := ⟨3, ![1, 1, 2560]⟩
abbrev S1x2560 : Shape := ⟨2, ![1, 2560]⟩

abbrev nBuf : Space → Nat
  | .hbm => 11
  | .vmem => 6
  | .smem => 0
  | _ => 0

abbrev bufTy : (tb : Table) → Fin (tcTables nBuf tb) → BufTy
  | .hbm, ⟨0, _⟩ => ⟨S16384x1, .i32⟩
  | .hbm, ⟨1, _⟩ => ⟨S35, .i32⟩
  | .hbm, ⟨2, _⟩ => ⟨S35, .i32⟩
  | .hbm, ⟨3, _⟩ => ⟨S35, .i32⟩
  | .hbm, ⟨4, _⟩ => ⟨S35, .i32⟩
  | .hbm, ⟨5, _⟩ => ⟨S16384x6912, .fp8e4m3⟩
  | .hbm, ⟨6, _⟩ => ⟨S16384x1, .f32⟩
  | .hbm, ⟨7, _⟩ => ⟨S4x6912x2560, .fp8e4m3⟩
  | .hbm, ⟨8, _⟩ => ⟨S4x2560, .f32⟩
  | .hbm, ⟨9, _⟩ => ⟨S4x1x2560, .f32⟩
  | .hbm, ⟨10, _⟩ => ⟨S16384x2560, .f32⟩
  | .local _ .vmem, ⟨0, _⟩ => ⟨S16384x1, .i32⟩
  | .local _ .vmem, ⟨1, _⟩ => ⟨S16384x6912, .fp8e4m3⟩
  | .local _ .vmem, ⟨2, _⟩ => ⟨S16384x1, .f32⟩
  | .local _ .vmem, ⟨3, _⟩ => ⟨S4x6912x2560, .fp8e4m3⟩
  | .local _ .vmem, ⟨4, _⟩ => ⟨S4x1x2560, .f32⟩
  | .local _ .vmem, ⟨5, _⟩ => ⟨S16384x2560, .f32⟩
  | _, _ => ⟨S16384x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x6912x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== UpEx.lean ====
abbrev S16384x1 : Shape := ⟨2, ![16384, 1]⟩
abbrev S35 : Shape := ⟨1, ![35]⟩
abbrev S16384x640 : Shape := ⟨2, ![16384, 640]⟩
abbrev S4x2560x6912 : Shape := ⟨3, ![4, 2560, 6912]⟩
abbrev S4x6912 : Shape := ⟨2, ![4, 6912]⟩
abbrev S4x1x6912 : Shape := ⟨3, ![4, 1, 6912]⟩
abbrev S16384x6912 : Shape := ⟨2, ![16384, 6912]⟩
abbrev S512x640 : Shape := ⟨2, ![512, 640]⟩
abbrev S1 : Shape := ⟨1, ![1]⟩
abbrev S512x1 : Shape := ⟨2, ![512, 1]⟩
abbrev S1x2560x2304 : Shape := ⟨3, ![1, 2560, 2304]⟩
abbrev S1x1x2304 : Shape := ⟨3, ![1, 1, 2304]⟩
abbrev S512x6912 : Shape := ⟨2, ![512, 6912]⟩
abbrev S512x2560 : Shape := ⟨2, ![512, 2560]⟩
abbrev S512x128 : Shape := ⟨2, ![512, 128]⟩
abbrev S256x640 : Shape := ⟨2, ![256, 640]⟩
abbrev S256x2560 : Shape := ⟨2, ![256, 2560]⟩
abbrev S256x1 : Shape := ⟨2, ![256, 1]⟩
abbrev S256x128 : Shape := ⟨2, ![256, 128]⟩
abbrev S1x2560x384 : Shape := ⟨3, ![1, 2560, 384]⟩
abbrev S2560x384 : Shape := ⟨2, ![2560, 384]⟩
abbrev S256x384 : Shape := ⟨2, ![256, 384]⟩
abbrev S1x1x384 : Shape := ⟨3, ![1, 1, 384]⟩
abbrev S1x384 : Shape := ⟨2, ![1, 384]⟩
abbrev S512 : Shape := ⟨1, ![512]⟩
abbrev S512x384 : Shape := ⟨2, ![512, 384]⟩

abbrev nBuf : Space → Nat
  | .hbm => 11
  | .vmem => 19
  | .smem => 4
  | _ => 0

abbrev bufTy : (tb : Table) → Fin (tcTables nBuf tb) → BufTy
  | .hbm, ⟨0, _⟩ => ⟨S16384x1, .i32⟩
  | .hbm, ⟨1, _⟩ => ⟨S16384x640, .i32⟩
  | .hbm, ⟨2, _⟩ => ⟨S16384x1, .f32⟩
  | .hbm, ⟨3, _⟩ => ⟨S4x2560x6912, .fp8e4m3⟩
  | .hbm, ⟨4, _⟩ => ⟨S4x6912, .f32⟩
  | .hbm, ⟨5, _⟩ => ⟨S4x2560x6912, .fp8e4m3⟩
  | .hbm, ⟨6, _⟩ => ⟨S4x6912, .f32⟩
  | .hbm, ⟨7, _⟩ => ⟨S4x1x6912, .f32⟩
  | .hbm, ⟨8, _⟩ => ⟨S4x1x6912, .f32⟩
  | .hbm, ⟨9, _⟩ => ⟨S16384x6912, .fp8e4m3⟩
  | .hbm, ⟨10, _⟩ => ⟨S16384x1, .f32⟩
  | .local _ .vmem, ⟨0, _⟩ => ⟨S512x640, .i32⟩
  | .local _ .vmem, ⟨1, _⟩ => ⟨S512x640, .i32⟩
  | .local _ .vmem, ⟨2, _⟩ => ⟨S512x1, .f32⟩
  | .local _ .vmem, ⟨3, _⟩ => ⟨S512x1, .f32⟩
  | .local _ .vmem, ⟨4, _⟩ => ⟨S1x2560x2304, .fp8e4m3⟩
  | .local _ .vmem, ⟨5, _⟩ => ⟨S1x2560x2304, .fp8e4m3⟩
  | .local _ .vmem, ⟨6, _⟩ => ⟨S1x1x2304, .f32⟩
  | .local _ .vmem, ⟨7, _⟩ => ⟨S1x1x2304, .f32⟩
  | .local _ .vmem, ⟨8, _⟩ => ⟨S1x2560x2304, .fp8e4m3⟩
  | .local _ .vmem, ⟨9, _⟩ => ⟨S1x2560x2304, .fp8e4m3⟩
  | .local _ .vmem, ⟨10, _⟩ => ⟨S1x1x2304, .f32⟩
  | .local _ .vmem, ⟨11, _⟩ => ⟨S1x1x2304, .f32⟩
  | .local _ .vmem, ⟨12, _⟩ => ⟨S512x6912, .fp8e4m3⟩
  | .local _ .vmem, ⟨13, _⟩ => ⟨S512x6912, .fp8e4m3⟩
  | .local _ .vmem, ⟨14, _⟩ => ⟨S512x1, .f32⟩
  | .local _ .vmem, ⟨15, _⟩ => ⟨S512x1, .f32⟩
  | .local _ .vmem, ⟨16, _⟩ => ⟨S512x2560, .fp8e4m3⟩
  | .local _ .vmem, ⟨17, _⟩ => ⟨S512x6912, .f32⟩
  | .local _ .vmem, ⟨18, _⟩ => ⟨S512x128, .f32⟩
  | .local _ .smem, ⟨0, _⟩ => ⟨S35, .i32⟩
  | .local _ .smem, ⟨1, _⟩ => ⟨S35, .i32⟩
  | .local _ .smem, ⟨2, _⟩ => ⟨S35, .i32⟩
  | .local _ .smem, ⟨3, _⟩ => ⟨S35, .i32⟩
  | _, _ => ⟨S16384x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_arg9 : Ref sig .tc := ⟨.hbm, 5, rfl⟩
abbrev main_arg10 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![35, 3], ![false, false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c2304_i32 : BitVec 32 := 2304#32
  let v73 : BitVec 32 := Scalar.muli arg1 c2304_i32
  let c0_i32_29 : BitVec 32 := 0#32
  let v74 : BitVec 32 := Scalar.addi v73 c0_i32_29
  v74
def k0_off2 (i : grid0.Coords) (c0_i32_29 : BitVec 32) : Fin 2 → Nat :=
  let c0_30 : Index := 0#32
  let arg1 : BitVec 32 := BitVec.ofNat 32 (i 1).val
  let c2304_i32 : BitVec 32 := 2304#32
  let v73 : BitVec 32 := Scalar.muli arg1 c2304_i32
  let v74 : BitVec 32 := Scalar.addi v73 c0_i32_29
  let v75 : BitVec 32 := v74
  let v76 : Index := Scalar.indexCast v75
  ![0, v76.toNat]
def k0_mult2 (i : grid0.Coords) : BitVec 32 :=
  let arg1 : BitVec 32 := BitVec.ofNat 32 (i 1).val
  let c2304_i32_48 : BitVec 32 := 2304#32
  let v121 : BitVec 32 := Scalar.muli arg1 c2304_i32_48
  let c384_i32 : BitVec 32 := 384#32
  let v122 : BitVec 32 := Scalar.addi v121 c384_i32
  v122
def k0_mult3 (i : grid0.Coords) : BitVec 32 :=
  let arg1 : BitVec 32 := BitVec.ofNat 32 (i 1).val
  let c2304_i32_67 : BitVec 32 := 2304#32
  let v169 : BitVec 32 := Scalar.muli arg1 c2304_i32_67
  let c768_i32 : BitVec 32 := 768#32
  let v170 : BitVec 32 := Scalar.addi v169 c768_i32
  v170
def k0_mult4 (i : grid0.Coords) : BitVec 32 :=
  let arg1 : BitVec 32 := BitVec.ofNat 32 (i 1).val
  let c2304_i32_86 : BitVec 32 := 2304#32
  let v217 : BitVec 32 := Scalar.muli arg1 c2304_i32_86
  let c1152_i32 : BitVec 32 := 1152#32
  let v218 : BitVec 32 := Scalar.addi v217 c1152_i32
  v218
def k0_mult5 (i : grid0.Coords) : BitVec 32 :=
  let arg1 : BitVec 32 := BitVec.ofNat 32 (i 1).val
  let c2304_i32_105 : BitVec 32 := 2304#32
  let v265 : BitVec 32 := Scalar.muli arg1 c2304_i32_105
  let c1536_i32 : BitVec 32 := 1536#32
  let v266 : BitVec 32 := Scalar.addi v265 c1536_i32
  v266
def k0_mult6 (i : grid0.Coords) : BitVec 32 :=
  let arg1 : BitVec 32 := BitVec.ofNat 32 (i 1).val
  let c2304_i32_124 : BitVec 32 := 2304#32
  let v313 : BitVec 32 := Scalar.muli arg1 c2304_i32_124
  let c1920_i32 : BitVec 32 := 1920#32
  let v314 : BitVec 32 := Scalar.addi v313 c1920_i32
  v314
def k0_mult7 (i : grid0.Coords) : BitVec 32 :=
  let arg1 : BitVec 32 := BitVec.ofNat 32 (i 1).val
  let c2304_i32 : BitVec 32 := 2304#32
  let v73 : BitVec 32 := Scalar.muli arg1 c2304_i32
  let c0_i32_28 : BitVec 32 := 0#32
  let v74 : BitVec 32 := Scalar.addi v73 c0_i32_28
  v74
def k0_off3 (i : grid0.Coords) (c0_i32_28 : BitVec 32) : Fin 2 → Nat :=
  let c256_29 : Index := 256#32
  let arg1 : BitVec 32 := BitVec.ofNat 32 (i 1).val
  let c2304_i32 : BitVec 32 := 2304#32
  let v73 : BitVec 32 := Scalar.muli arg1 c2304_i32
  let v74 : BitVec 32 := Scalar.addi v73 c0_i32_28
  let v75 : BitVec 32 := v74
  let v76 : Index := Scalar.indexCast v75
  ![256, v76.toNat]
def k0_mult8 (i : grid0.Coords) : BitVec 32 :=
  let arg1 : BitVec 32 := BitVec.ofNat 32 (i 1).val
  let c2304_i32_47 : BitVec 32 := 2304#32
  let v121 : BitVec 32 := Scalar.muli arg1 c2304_i32_47
  let c384_i32 : BitVec 32 := 384#32
  let v122 : BitVec 32 := Scalar.addi v121 c384_i32
  v122
def k0_mult9 (i : grid0.Coords) : BitVec 32 :=
  let arg1 : BitVec 32 := BitVec.ofNat 32 (i 1).val
  let c2304_i32_66 : BitVec 32 := 2304#32
  let v169 : BitVec 32 := Scalar.muli arg1 c2304_i32_66
  let c768_i32 : BitVec 32 := 768#32
  let v170 : BitVec 32 := Scalar.addi v169 c768_i32
  v170
def k0_mult10 (i : grid0.Coords) : BitVec 32 :=
  let arg1 : BitVec 32 := BitVec.ofNat 32 (i 1).val
  let c2304_i32_85 : BitVec 32 := 2304#32
  let v217 : BitVec 32 := Scalar.muli arg1 c2304_i32_85
  let c1152_i32 : BitVec 32 := 1152#32
  let v218 : BitVec 32 := Scalar.addi v217 c1152_i32
  v218
def k0_mult11 (i : grid0.Coords) : BitVec 32 :=
  let arg1 : BitVec 32 := BitVec.ofNat 32 (i 1).val
  let c2304_i32_104 : BitVec 32 := 2304#32
  let v265 : BitVec 32 := Scalar.muli arg1 c2304_i32_104
  let c1536_i32 : BitVec 32 := 1536#32
  let v266 : BitVec 32 := Scalar.addi v265 c1536_i32
  v266
def k0_mult12 (i : grid0.Coords) : BitVec 32 :=
  let arg1 : BitVec 32 := BitVec.ofNat 32 (i 1).val
  let c2304_i32_123 : BitVec 32 := 2304#32
  let v313 : BitVec 32 := Scalar.muli arg1 c2304_i32_123
  let c1920_i32 : BitVec 32 := 1920#32
  let v314 : BitVec 32 := Scalar.addi v313 c1920_i32
  v314
def k0_off4 (i : grid0.Coords) : Fin 1 → Nat :=
  let arg0 : BitVec 32 := BitVec.ofNat 32 (i 0).val
  let c1_i32 : BitVec 32 := 1#32
  let v23 : BitVec 32 := Scalar.addi arg0 c1_i32
  let c34_i32 : BitVec 32 := 34#32
  let v24 : BitVec 32 := Scalar.minsi v23 c34_i32
  let v25 : Index := Scalar.indexCast v24
  ![v25.toNat]
def k0_off5 (i : grid0.Coords) : Fin 1 → Nat :=
  let arg0 : BitVec 32 := BitVec.ofNat 32 (i 0).val
  let v28 : Index := Scalar.indexCast arg0
  ![v28.toNat]
def k0_cond4 (i : grid0.Coords) (v26 : BitVec 32) (v29 : BitVec 32) : BitVec 1 :=
  let arg1 : BitVec 32 := BitVec.ofNat 32 (i 1).val
  let c2_i32 : BitVec 32 := 2#32
  let v22 : BitVec 1 := Scalar.cmpi .eq arg1 c2_i32
  let arg0 : BitVec 32 := BitVec.ofNat 32 (i 0).val
  let c34_i32_6 : BitVec 32 := 34#32
  let v27 : BitVec 1 := Scalar.cmpi .eq arg0 c34_i32_6
  let v30 : BitVec 1 := Scalar.cmpi .ne v26 v29
  let v31 : BitVec 1 := Scalar.ori v27 v30
  let v32 : BitVec 1 := Scalar.andi v22 v31
  let v33 : BitVec 32 := Scalar.extui v32
  let c0_i32_7 : BitVec 32 := 0#32
  let v34 : BitVec 1 := Scalar.cmpi .ne v33 c0_i32_7
  v34

def cc0_transform_0 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg1.toNat]

def cc0_transform_5 (k0_off1_inb : ∀ i : grid0.Coords, ∀ a, (k0_off1 i) a + S1.size a ≤ S35.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S35) ![v0.toNat] S1.size (k0_off1_inb i)) numel1_S1
  let c0_i32 : BitVec 32 := 0#32
  let c0_i32_0 : BitVec 32 := 0#32
  ![v1.toNat, c0_i32.toNat, arg1.toNat]

def cc0_transform_6 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

def cc0_transform_7 (k0_off1_inb : ∀ i : grid0.Coords, ∀ a, (k0_off1 i) a + S1.size a ≤ S35.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S35) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S512x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2560x2304 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2560x2304 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x6912 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== UpExRefIdeal.lean ====
abbrev S16384x1 : Shape := ⟨2, ![16384, 1]⟩
abbrev S35 : Shape := ⟨1, ![35]⟩
abbrev S16384x640 : Shape := ⟨2, ![16384, 640]⟩
abbrev S4x2560x6912 : Shape := ⟨3, ![4, 2560, 6912]⟩
abbrev S4x6912 : Shape := ⟨2, ![4, 6912]⟩
abbrev S4x1x6912 : Shape := ⟨3, ![4, 1, 6912]⟩
abbrev S16384x6912 : Shape := ⟨2, ![16384, 6912]⟩
abbrev S16384x2560 : Shape := ⟨2, ![16384, 2560]⟩
abbrev S1x2560x6912 : Shape := ⟨3, ![1, 2560, 6912]⟩
abbrev S2560x6912 : Shape := ⟨2, ![2560, 6912]⟩
abbrev S1x1x6912 : Shape := ⟨3, ![1, 1, 6912]⟩
abbrev S1x6912 : Shape := ⟨2, ![1, 6912]⟩
abbrev S16384 : Shape := ⟨1, ![16384]⟩

abbrev nBuf : Space → Nat
  | .hbm => 15
  | .vmem => 9
  | .smem => 0
  | _ => 0

abbrev bufTy : (tb : Table) → Fin (tcTables nBuf tb) → BufTy
  | .hbm, ⟨0, _⟩ => ⟨S16384x1, .i32⟩
  | .hbm, ⟨1, _⟩ => ⟨S35, .i32⟩
  | .hbm, ⟨2, _⟩ => ⟨S35, .i32⟩
  | .hbm, ⟨3, _⟩ => ⟨S35, .i32⟩
  | .hbm, ⟨4, _⟩ => ⟨S35, .i32⟩
  | .hbm, ⟨5, _⟩ => ⟨S16384x640, .i32⟩
  | .hbm, ⟨6, _⟩ => ⟨S16384x1, .f32⟩
  | .hbm, ⟨7, _⟩ => ⟨S4x2560x6912, .fp8e4m3⟩
  | .hbm, ⟨8, _⟩ => ⟨S4x6912, .f32⟩
  | .hbm, ⟨9, _⟩ => ⟨S4x2560x6912, .fp8e4m3⟩
  | .hbm, ⟨10, _⟩ => ⟨S4x6912, .f32⟩
  | .hbm, ⟨11, _⟩ => ⟨S4x1x6912, .f32⟩
  | .hbm, ⟨12, _⟩ => ⟨S4x1x6912, .f32⟩
  | .hbm, ⟨13, _⟩ => ⟨S16384x6912, .fp8e4m3⟩
  | .hbm, ⟨14, _⟩ => ⟨S16384x1, .f32⟩
  | .local _ .vmem, ⟨0, _⟩ => ⟨S16384x1, .i32⟩
  | .local _ .vmem, ⟨1, _⟩ => ⟨S16384x640, .i32⟩
  | .local _ .vmem, ⟨2, _⟩ => ⟨S16384x1, .f32⟩
  | .local _ .vmem, ⟨3, _⟩ => ⟨S4x2560x6912, .fp8e4m3⟩
  | .local _ .vmem, ⟨4, _⟩ => ⟨S4x1x6912, .f32⟩
  | .local _ .vmem, ⟨5, _⟩ => ⟨S4x2560x6912, .fp8e4m3⟩
  | .local _ .vmem, ⟨6, _⟩ => ⟨S4x1x6912, .f32⟩
  | .local _ .vmem, ⟨7, _⟩ => ⟨S16384x6912, .fp8e4m3⟩
  | .local _ .vmem, ⟨8, _⟩ => ⟨S16384x1, .f32⟩
  | _, _ => ⟨S16384x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x640 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2560x6912 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1x6912 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2560x6912 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1x6912 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x6912 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DownSh.lean ====
abbrev S2x4096x3584 : Shape := ⟨3, ![2, 4096, 3584]⟩
abbrev S2x4096x1 : Shape := ⟨3, ![2, 4096, 1]⟩
abbrev S3584x2560 : Shape := ⟨2, ![3584, 2560]⟩
abbrev S2560 : Shape := ⟨1, ![2560]⟩
abbrev S2x4096x2560 : Shape := ⟨3, ![2, 4096, 2560]⟩
abbrev S2x12x2560 : Shape := ⟨3, ![2, 12, 2560]⟩
abbrev S1x2560 : Shape := ⟨2, ![1, 2560]⟩
abbrev S1x256x3584 : Shape := ⟨3, ![1, 256, 3584]⟩
abbrev S1x256x1 : Shape := ⟨3, ![1, 256, 1]⟩
abbrev S1x256x2560 : Shape := ⟨3, ![1, 256, 2560]⟩
abbrev S1x12x2560 : Shape := ⟨3, ![1, 12, 2560]⟩
abbrev S256x3584 : Shape := ⟨2, ![256, 3584]⟩
abbrev S256x1 : Shape := ⟨2, ![256, 1]⟩
abbrev S1x1x2560 : Shape := ⟨3, ![1, 1, 2560]⟩
abbrev S3584x512 : Shape := ⟨2, ![3584, 512]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x4096x3584, .fp8e4m3⟩
  | .hbm, ⟨1, _⟩ => ⟨S2x4096x1, .f32⟩
  | .hbm, ⟨2, _⟩ => ⟨S3584x2560, .fp8e4m3⟩
  | .hbm, ⟨3, _⟩ => ⟨S2560, .f32⟩
  | .hbm, ⟨4, _⟩ => ⟨S2x4096x2560, .f32⟩
  | .hbm, ⟨5, _⟩ => ⟨S2x12x2560, .f32⟩
  | .hbm, ⟨6, _⟩ => ⟨S2x4096x2560, .f32⟩
  | .hbm, ⟨7, _⟩ => ⟨S1x2560, .f32⟩
  | .hbm, ⟨8, _⟩ => ⟨S2x4096x2560, .bf16⟩
  | .local _ .vmem, ⟨0, _⟩ => ⟨S1x256x3584, .fp8e4m3⟩
  | .local _ .vmem, ⟨1, _⟩ => ⟨S1x256x3584, .fp8e4m3⟩
  | .local _ .vmem, ⟨2, _⟩ => ⟨S1x256x1, .f32⟩
  | .local _ .vmem, ⟨3, _⟩ => ⟨S1x256x1, .f32⟩
  | .local _ .vmem, ⟨4, _⟩ => ⟨S3584x2560, .fp8e4m3⟩
  | .local _ .vmem, ⟨5, _⟩ => ⟨S1x2560, .f32⟩
  | .local _ .vmem, ⟨6, _⟩ => ⟨S1x256x2560, .f32⟩
  | .local _ .vmem, ⟨7, _⟩ => ⟨S1x256x2560, .f32⟩
  | .local _ .vmem, ⟨8, _⟩ => ⟨S1x12x2560, .f32⟩
  | .local _ .vmem, ⟨9, _⟩ => ⟨S1x12x2560, .f32⟩
  | .local _ .vmem, ⟨10, _⟩ => ⟨S1x256x2560, .f32⟩
  | .local _ .vmem, ⟨11, _⟩ => ⟨S1x256x2560, .f32⟩
  | .local _ .vmem, ⟨12, _⟩ => ⟨S1x256x2560, .bf16⟩
  | .local _ .vmem, ⟨13, _⟩ => ⟨S1x256x2560, .bf16⟩
  | _, _ => ⟨S2x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3584x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DownShRefIdeal.lean ====
abbrev S2x4096x3584 : Shape := ⟨3, ![2, 4096, 3584]⟩
abbrev S2x4096x1 : Shape := ⟨3, ![2, 4096, 1]⟩
abbrev S3584x2560 : Shape := ⟨2, ![3584, 2560]⟩
abbrev S2560 : Shape := ⟨1, ![2560]⟩
abbrev S2x4096x2560 : Shape := ⟨3, ![2, 4096, 2560]⟩
abbrev S2x12x2560 : Shape := ⟨3, ![2, 12, 2560]⟩
abbrev S2x1x2560 : Shape := ⟨3, ![2, 1, 2560]⟩
abbrev S1x2560 : Shape := ⟨2, ![1, 2560]⟩
abbrev S1x4096x3584 : Shape := ⟨3, ![1, 4096, 3584]⟩
abbrev S4096x3584 : Shape := ⟨2, ![4096, 3584]⟩
abbrev S1x4096x1 : Shape := ⟨3, ![1, 4096, 1]⟩
abbrev S4096x1 : Shape := ⟨2, ![4096, 1]⟩
abbrev S4096x2560 : Shape := ⟨2, ![4096, 2560]⟩
abbrev S1x4096x2560 : Shape := ⟨3, ![1, 4096, 2560]⟩
abbrev S1x1x2560 : Shape := ⟨3, ![1, 1, 2560]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x3584, .fp8e4m3⟩
  | .hbm, ⟨1, _⟩ => ⟨S2x4096x1, .f32⟩
  | .hbm, ⟨2, _⟩ => ⟨S3584x2560, .fp8e4m3⟩
  | .hbm, ⟨3, _⟩ => ⟨S2560, .f32⟩
  | .hbm, ⟨4, _⟩ => ⟨S2x4096x2560, .f32⟩
  | .hbm, ⟨5, _⟩ => ⟨S2x12x2560, .f32⟩
  | .hbm, ⟨6, _⟩ => ⟨S2x4096x2560, .f32⟩
  | .hbm, ⟨7, _⟩ => ⟨S2x1x2560, .f32⟩
  | .hbm, ⟨8, _⟩ => ⟨S1x2560, .f32⟩
  | .hbm, ⟨9, _⟩ => ⟨S2x4096x2560, .bf16⟩
  | .local _ .vmem, ⟨0, _⟩ => ⟨S2x4096x3584, .fp8e4m3⟩
  | .local _ .vmem, ⟨1, _⟩ => ⟨S2x4096x1, .f32⟩
  | .local _ .vmem, ⟨2, _⟩ => ⟨S3584x2560, .fp8e4m3⟩
  | .local _ .vmem, ⟨3, _⟩ => ⟨S1x2560, .f32⟩
  | .local _ .vmem, ⟨4, _⟩ => ⟨S2x4096x2560, .f32⟩
  | .local _ .vmem, ⟨5, _⟩ => ⟨S2x1x2560, .f32⟩
  | .local _ .vmem, ⟨6, _⟩ => ⟨S2x4096x2560, .f32⟩
  | .local _ .vmem, ⟨7, _⟩ => ⟨S2x4096x2560, .bf16⟩
  | _, _ => ⟨S2x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4096x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DownTx.lean ====
abbrev S2x256x6912 : Shape := ⟨3, ![2, 256, 6912]⟩
abbrev S2x256x1 : Shape := ⟨3, ![2, 256, 1]⟩
abbrev S6912x2560 : Shape := ⟨2, ![6912, 2560]⟩
abbrev S2560 : Shape := ⟨1, ![2560]⟩
abbrev S2x256x2560 : Shape := ⟨3, ![2, 256, 2560]⟩
abbrev S2x12x2560 : Shape := ⟨3, ![2, 12, 2560]⟩
abbrev S1x2560 : Shape := ⟨2, ![1, 2560]⟩
abbrev S1x256x6912 : Shape := ⟨3, ![1, 256, 6912]⟩
abbrev S1x256x1 : Shape := ⟨3, ![1, 256, 1]⟩
abbrev S1x256x2560 : Shape := ⟨3, ![1, 256, 2560]⟩
abbrev S1x12x2560 : Shape := ⟨3, ![1, 12, 2560]⟩
abbrev S256x6912 : Shape := ⟨2, ![256, 6912]⟩
abbrev S256x1 : Shape := ⟨2, ![256, 1]⟩
abbrev S1x1x2560 : Shape := ⟨3, ![1, 1, 2560]⟩
abbrev S6912x512 : Shape := ⟨2, ![6912, 512]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 8
  | .vmem => 12
  | .smem => 0
  | _ => 0

abbrev bufTy : (tb : Table) → Fin (tcTables nBuf tb) → BufTy
  | .hbm, ⟨0, _⟩ => ⟨S2x256x6912, .fp8e4m3⟩
  | .hbm, ⟨1, _⟩ => ⟨S2x256x1, .f32⟩
  | .hbm, ⟨2, _⟩ => ⟨S6912x2560, .fp8e4m3⟩
  | .hbm, ⟨3, _⟩ => ⟨S2560, .f32⟩
  | .hbm, ⟨4, _⟩ => ⟨S2x256x2560, .f32⟩
  | .hbm, ⟨5, _⟩ => ⟨S2x12x2560, .f32⟩
  | .hbm, ⟨6, _⟩ => ⟨S1x2560, .f32⟩
  | .hbm, ⟨7, _⟩ => ⟨S2x256x2560, .bf16⟩
  | .local _ .vmem, ⟨0, _⟩ => ⟨S1x256x6912, .fp8e4m3⟩
  | .local _ .vmem, ⟨1, _⟩ => ⟨S1x256x6912, .fp8e4m3⟩
  | .local _ .vmem, ⟨2, _⟩ => ⟨S1x256x1, .f32⟩
  | .local _ .vmem, ⟨3, _⟩ => ⟨S1x256x1, .f32⟩
  | .local _ .vmem, ⟨4, _⟩ => ⟨S6912x2560, .fp8e4m3⟩
  | .local _ .vmem, ⟨5, _⟩ => ⟨S1x2560, .f32⟩
  | .local _ .vmem, ⟨6, _⟩ => ⟨S1x256x2560, .f32⟩
  | .local _ .vmem, ⟨7, _⟩ => ⟨S1x256x2560, .f32⟩
  | .local _ .vmem, ⟨8, _⟩ => ⟨S1x12x2560, .f32⟩
  | .local _ .vmem, ⟨9, _⟩ => ⟨S1x12x2560, .f32⟩
  | .local _ .vmem, ⟨10, _⟩ => ⟨S1x256x2560, .bf16⟩
  | .local _ .vmem, ⟨11, _⟩ => ⟨S1x256x2560, .bf16⟩
  | _, _ => ⟨S2x256x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x12x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownTxRefIdeal.lean ====
abbrev S2x256x6912 : Shape := ⟨3, ![2, 256, 6912]⟩
abbrev S2x256x1 : Shape := ⟨3, ![2, 256, 1]⟩
abbrev S6912x2560 : Shape := ⟨2, ![6912, 2560]⟩
abbrev S2560 : Shape := ⟨1, ![2560]⟩
abbrev S2x256x2560 : Shape := ⟨3, ![2, 256, 2560]⟩
abbrev S2x12x2560 : Shape := ⟨3, ![2, 12, 2560]⟩
abbrev S2x1x2560 : Shape := ⟨3, ![2, 1, 2560]⟩
abbrev S1x2560 : Shape := ⟨2, ![1, 2560]⟩
abbrev S1x256x6912 : Shape := ⟨3, ![1, 256, 6912]⟩
abbrev S256x6912 : Shape := ⟨2, ![256, 6912]⟩
abbrev S1x256x1 : Shape := ⟨3, ![1, 256, 1]⟩
abbrev S256x1 : Shape := ⟨2, ![256, 1]⟩
abbrev S256x2560 : Shape := ⟨2, ![256, 2560]⟩
abbrev S1x256x2560 : Shape := ⟨3, ![1, 256, 2560]⟩
abbrev S1x1x2560 : Shape := ⟨3, ![1, 1, 2560]⟩

abbrev nBuf : Space → Nat
  | .hbm => 9
  | .vmem => 7
  | .smem => 0
  | _ => 0

abbrev bufTy : (tb : Table) → Fin (tcTables nBuf tb) → BufTy
  | .hbm, ⟨0, _⟩ => ⟨S2x256x6912, .fp8e4m3⟩
  | .hbm, ⟨1, _⟩ => ⟨S2x256x1, .f32⟩
  | .hbm, ⟨2, _⟩ => ⟨S6912x2560, .fp8e4m3⟩
  | .hbm, ⟨3, _⟩ => ⟨S2560, .f32⟩
  | .hbm, ⟨4, _⟩ => ⟨S2x256x2560, .f32⟩
  | .hbm, ⟨5, _⟩ => ⟨S2x12x2560, .f32⟩
  | .hbm, ⟨6, _⟩ => ⟨S2x1x2560, .f32⟩
  | .hbm, ⟨7, _⟩ => ⟨S1x2560, .f32⟩
  | .hbm, ⟨8, _⟩ => ⟨S2x256x2560, .bf16⟩
  | .local _ .vmem, ⟨0, _⟩ => ⟨S2x256x6912, .fp8e4m3⟩
  | .local _ .vmem, ⟨1, _⟩ => ⟨S2x256x1, .f32⟩
  | .local _ .vmem, ⟨2, _⟩ => ⟨S6912x2560, .fp8e4m3⟩
  | .local _ .vmem, ⟨3, _⟩ => ⟨S1x2560, .f32⟩
  | .local _ .vmem, ⟨4, _⟩ => ⟨S2x256x2560, .f32⟩
  | .local _ .vmem, ⟨5, _⟩ => ⟨S2x1x2560, .f32⟩
  | .local _ .vmem, ⟨6, _⟩ => ⟨S2x256x2560, .bf16⟩
  | _, _ => ⟨S2x256x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x256x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x2560 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== LnIm.lean ====
abbrev S2x4096x2560 : Shape := ⟨3, ![2, 4096, 2560]⟩
abbrev S2x12x2560 : Shape := ⟨3, ![2, 12, 2560]⟩
abbrev S2x4096x1 : Shape := ⟨3, ![2, 4096, 1]⟩
abbrev S1x256x2560 : Shape := ⟨3, ![1, 256, 2560]⟩
abbrev S1x12x2560 : Shape := ⟨3, ![1, 12, 2560]⟩
abbrev S1x256x1 : Shape := ⟨3, ![1, 256, 1]⟩
abbrev S1x1x2560 : Shape := ⟨3, ![1, 1, 2560]⟩
abbrev S1x2560 : Shape := ⟨2, ![1, 2560]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S1x32x1 : Shape := ⟨3, ![1, 32, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x4096x2560, .bf16⟩
  | .hbm, ⟨1, _⟩ => ⟨S2x12x2560, .f32⟩
  | .hbm, ⟨2, _⟩ => ⟨S2x4096x2560, .fp8e4m3⟩
  | .hbm, ⟨3, _⟩ => ⟨S2x4096x1, .f32⟩
  | .local _ .vmem, ⟨0, _⟩ => ⟨S1x256x2560, .bf16⟩
  | .local _ .vmem, ⟨1, _⟩ => ⟨S1x256x2560, .bf16⟩
  | .local _ .vmem, ⟨2, _⟩ => ⟨S1x12x2560, .f32⟩
  | .local _ .vmem, ⟨3, _⟩ => ⟨S1x12x2560, .f32⟩
  | .local _ .vmem, ⟨4, _⟩ => ⟨S1x256x2560, .fp8e4m3⟩
  | .local _ .vmem, ⟨5, _⟩ => ⟨S1x256x2560, .fp8e4m3⟩
  | .local _ .vmem, ⟨6, _⟩ => ⟨S1x256x1, .f32⟩
  | .local _ .vmem, ⟨7, _⟩ => ⟨S1x256x1, .f32⟩
  | _, _ => ⟨S2x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v5 : BitVec 32 := Scalar.muli arg6 c32_i32
  v5
def k0_off1 (k0_t1 : Fin k0_t1_loop.trips) : Fin 3 → Nat :=
  let c0_5 : Index := 0#32
  let c0_i32 : BitVec 32 := 0#32
  let c1_i32 : BitVec 32 := 1#32
  let arg6 : BitVec 32 := Scf.iv c0_i32 c1_i32 k0_t1
  let c32_i32 : BitVec 32 := 32#32
  let v5 : BitVec 32 := Scalar.muli arg6 c32_i32
  let v6 : BitVec 32 := v5
  let v7 : Index := Scalar.indexCast v6
  let c0_6 : Index := 0#32
  ![0, v7.toNat, 0]
def k0_off2 (k0_t1 : Fin k0_t1_loop.trips) : Fin 3 → Nat :=
  let c0_22 : Index := 0#32
  let c0_i32 : BitVec 32 := 0#32
  let c1_i32 : BitVec 32 := 1#32
  let arg6 : BitVec 32 := Scf.iv c0_i32 c1_i32 k0_t1
  let c32_i32 : BitVec 32 := 32#32
  let v5 : BitVec 32 := Scalar.muli arg6 c32_i32
  let v6 : BitVec 32 := v5
  let v57 : Index := Scalar.indexCast v6
  let c0_23 : Index := 0#32
  ![0, v57.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnImRefIdeal.lean ====
abbrev S2x4096x2560 : Shape := ⟨3, ![2, 4096, 2560]⟩
abbrev S2x12x2560 : Shape := ⟨3, ![2, 12, 2560]⟩
abbrev S2x1x2560 : Shape := ⟨3, ![2, 1, 2560]⟩
abbrev S2x4096x1 : Shape := ⟨3, ![2, 4096, 1]⟩
abbrev S1x4096x2560 : Shape := ⟨3, ![1, 4096, 2560]⟩
abbrev S4096x2560 : Shape := ⟨2, ![4096, 2560]⟩
abbrev S1x1x2560 : Shape := ⟨3, ![1, 1, 2560]⟩
abbrev S1x2560 : Shape := ⟨2, ![1, 2560]⟩
abbrev S4096 : Shape := ⟨1, ![4096]⟩
abbrev S4096x1 : Shape := ⟨2, ![4096, 1]⟩
abbrev S1x4096x1 : Shape := ⟨3, ![1, 4096, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x4096x2560, .bf16⟩
  | .hbm, ⟨1, _⟩ => ⟨S2x12x2560, .f32⟩
  | .hbm, ⟨2, _⟩ => ⟨S2x1x2560, .f32⟩
  | .hbm, ⟨3, _⟩ => ⟨S2x1x2560, .f32⟩
  | .hbm, ⟨4, _⟩ => ⟨S2x4096x2560, .fp8e4m3⟩
  | .hbm, ⟨5, _⟩ => ⟨S2x4096x1, .f32⟩
  | .local _ .vmem, ⟨0, _⟩ => ⟨S2x4096x2560, .bf16⟩
  | .local _ .vmem, ⟨1, _⟩ => ⟨S2x1x2560, .f32⟩
  | .local _ .vmem, ⟨2, _⟩ => ⟨S2x1x2560, .f32⟩
  | .local _ .vmem, ⟨3, _⟩ => ⟨S2x4096x2560, .fp8e4m3⟩
  | .local _ .vmem, ⟨4, _⟩ => ⟨S2x4096x1, .f32⟩
  | _, _ => ⟨S2x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x4096x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== LnTx.lean ====
abbrev S2x256x2560 : Shape := ⟨3, ![2, 256, 2560]⟩
abbrev S2x12x2560 : Shape := ⟨3, ![2, 12, 2560]⟩
abbrev S2x256x1 : Shape := ⟨3, ![2, 256, 1]⟩
abbrev S1x256x2560 : Shape := ⟨3, ![1, 256, 2560]⟩
abbrev S1x12x2560 : Shape := ⟨3, ![1, 12, 2560]⟩
abbrev S1x256x1 : Shape := ⟨3, ![1, 256, 1]⟩
abbrev S1x1x2560 : Shape := ⟨3, ![1, 1, 2560]⟩
abbrev S1x2560 : Shape := ⟨2, ![1, 2560]⟩
abbrev S1x32x2560 : Shape := ⟨3, ![1, 32, 2560]⟩
abbrev S32x2560 : Shape := ⟨2, ![32, 2560]⟩
abbrev S32 : Shape := ⟨1, ![32]⟩
abbrev S32x1 : Shape := ⟨2, ![32, 1]⟩
abbrev S1x32x1 : Shape := ⟨3, ![1, 32, 1]⟩

abbrev nBuf : Space → Nat
  | .hbm => 4
  | .vmem => 8
  | .smem => 0
  | _ => 0

abbrev bufTy : (tb : Table) → Fin (tcTables nBuf tb) → BufTy
  | .hbm, ⟨0, _⟩ => ⟨S2x256x2560, .bf16⟩
  | .hbm, ⟨1, _⟩ => ⟨S2x12x2560, .f32⟩
  | .hbm, ⟨2, _⟩ => ⟨S2x256x2560, .fp8e4m3⟩
  | .hbm, ⟨3, _⟩ => ⟨S2x256x1, .f32⟩
  | .local _ .vmem, ⟨0, _⟩ => ⟨S1x256x2560, .bf16⟩
  | .local _ .vmem, ⟨1, _⟩ => ⟨S1x256x2560, .bf16⟩
  | .local _ .vmem, ⟨2, _⟩ => ⟨S1x12x2560, .f32⟩
  | .local _ .vmem, ⟨3, _⟩ => ⟨S1x12x2560, .f32⟩
  | .local _ .vmem, ⟨4, _⟩ => ⟨S1x256x2560, .fp8e4m3⟩
  | .local _ .vmem, ⟨5, _⟩ => ⟨S1x256x2560, .fp8e4m3⟩
  | .local _ .vmem, ⟨6, _⟩ => ⟨S1x256x1, .f32⟩
  | .local _ .vmem, ⟨7, _⟩ => ⟨S1x256x1, .f32⟩
  | _, _ => ⟨S2x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v5 : BitVec 32 := Scalar.muli arg6 c32_i32
  v5
def k0_off1 (k0_t1 : Fin k0_t1_loop.trips) : Fin 3 → Nat :=
  let c0_4 : Index := 0#32
  let c0_i32 : BitVec 32 := 0#32
  let c1_i32 : BitVec 32 := 1#32
  let arg6 : BitVec 32 := Scf.iv c0_i32 c1_i32 k0_t1
  let c32_i32 : BitVec 32 := 32#32
  let v5 : BitVec 32 := Scalar.muli arg6 c32_i32
  let v6 : BitVec 32 := v5
  let v7 : Index := Scalar.indexCast v6
  let c0_5 : Index := 0#32
  ![0, v7.toNat, 0]
def k0_off2 (k0_t1 : Fin k0_t1_loop.trips) : Fin 3 → Nat :=
  let c0_21 : Index := 0#32
  let c0_i32 : BitVec 32 := 0#32
  let c1_i32 : BitVec 32 := 1#32
  let arg6 : BitVec 32 := Scf.iv c0_i32 c1_i32 k0_t1
  let c32_i32 : BitVec 32 := 32#32
  let v5 : BitVec 32 := Scalar.muli arg6 c32_i32
  let v6 : BitVec 32 := v5
  let v57 : Index := Scalar.indexCast v6
  let c0_22 : Index := 0#32
  ![0, v57.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x12x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2560 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LnTxRefIdeal.lean ====
abbrev S2x256x2560 : Shape := ⟨3, ![2, 256, 2560]⟩
abbrev S2x12x2560 : Shape := ⟨3, ![2, 12, 2560]⟩
abbrev S2x1x2560 : Shape := ⟨3, ![2, 1, 2560]⟩
abbrev S2x256x1 : Shape := ⟨3, ![2, 256, 1]⟩
abbrev S1x256x2560 : Shape := ⟨3, ![1, 256, 2560]⟩
abbrev S256x2560 : Shape := ⟨2, ![256, 2560]⟩
abbrev S1x1x2560 : Shape := ⟨3, ![1, 1, 2560]⟩
abbrev S1x2560 : Shape := ⟨2, ![1, 2560]⟩
abbrev S256 : Shape := ⟨1, ![256]⟩
abbrev S256x1 : Shape := ⟨2, ![256, 1]⟩
abbrev S1x256x1 : Shape := ⟨3, ![1, 256, 1]⟩

abbrev nBuf : Space → Nat
  | .hbm => 6
  | .vmem => 5
  | .smem => 0
  | _ => 0

abbrev bufTy : (tb : Table) → Fin (tcTables nBuf tb) → BufTy
  | .hbm, ⟨0, _⟩ => ⟨S2x256x2560, .bf16⟩
  | .hbm, ⟨1, _⟩ => ⟨S2x12x2560, .f32⟩
  | .hbm, ⟨2, _⟩ => ⟨S2x1x2560, .f32⟩
  | .hbm, ⟨3, _⟩ => ⟨S2x1x2560, .f32⟩
  | .hbm, ⟨4, _⟩ => ⟨S2x256x2560, .fp8e4m3⟩
  | .hbm, ⟨5, _⟩ => ⟨S2x256x1, .f32⟩
  | .local _ .vmem, ⟨0, _⟩ => ⟨S2x256x2560, .bf16⟩
  | .local _ .vmem, ⟨1, _⟩ => ⟨S2x1x2560, .f32⟩
  | .local _ .vmem, ⟨2, _⟩ => ⟨S2x1x2560, .f32⟩
  | .local _ .vmem, ⟨3, _⟩ => ⟨S2x256x2560, .fp8e4m3⟩
  | .local _ .vmem, ⟨4, _⟩ => ⟨S2x256x1, .f32⟩
  | _, _ => ⟨S2x256x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x256x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x2560 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Quant.lean ====
/- The mathematics that the calls share, over the extended reals: a row's greatest magnitude, the scale and the codes
   the quantiser takes from it, and the gated unit. No program occurs here. -/
module

public import Idealize.ShloMosaic.Lib.Pointwise
public import Idealize.ShloMosaic.PureOps.Ideal.Laws

@[expose] public section

set_option maxRecDepth 16384

noncomputable section

namespace Cert.Quant

open Idealize.ShloMosaic Idealize.SL.Sem

/-- 448, the greatest number of the format the codes are in. -/
abbrev top8 : EReal := Ideal.ofBits FTy.f32 0x43E00000#32
/-- −448. -/
abbrev bot8 : EReal := Ideal.ofBits FTy.f32 0xC3E00000#32

theorem top8_eq : top8 = ((448 : ℝ) : EReal) := by
  have h1 : (BitVec.extractLsb' (8 + 23) 1 (0x43E00000#32) == 1#1) = false := by decide
  have h2 : (BitVec.extractLsb' 23 8 (0x43E00000#32)).toNat = 135 := by decide
  have h3 : (BitVec.extractLsb' 0 23 (0x43E00000#32)).toNat = 6291456 := by decide
  simp only [top8, Ideal.ofBits, Ideal.ieee, h1, h2, h3]
  norm_num

theorem negInf_eq : Ideal.ofBits FTy.f32 0xFF800000#32 = (⊥ : EReal) := by
  have h1 : (BitVec.extractLsb' (8 + 23) 1 (0xFF800000#32) == 1#1) = true := by decide
  have h2 : (BitVec.extractLsb' 23 8 (0xFF800000#32)).toNat = 255 := by decide
  have h3 : (BitVec.extractLsb' 0 23 (0xFF800000#32)).toNat = 0 := by decide
  simp only [Ideal.ofBits, Ideal.ieee, h1, h2, h3]
  norm_num

/-- The magnitude. -/
abbrev mag (x : EReal) : EReal := max x (-x)

theorem mag_nonneg (x : EReal) : 0 ≤ mag x := by
  rcases le_total 0 x with h | h
  · exact le_max_of_le_left h
  · exact le_max_of_le_right (by simpa using EReal.neg_le_neg_iff.mpr h)

/-- A row's greatest magnitude. -/
def rowMax {n : Nat} (v : Fin n → EReal) : EReal := Finset.univ.fold max ⊥ fun k => mag (v k)

theorem rowMax_le {n : Nat} (v : Fin n → EReal) (z : EReal) : rowMax v ≤ z ↔ ∀ k, mag (v k) ≤ z := by
  unfold rowMax
  rw [Finset.fold_max_le]
  simp

theorem rowMax_nonneg {n : Nat} [NeZero n] (v : Fin n → EReal) : 0 ≤ rowMax v :=
  (mag_nonneg (v 0)).trans ((rowMax_le v _).mp le_rfl 0)

/-- The scale of a row of greatest magnitude `a`. -/
def scaleOf (a : EReal) : EReal := if a = 0 then 1 else Ideal.div a top8

/-- The code of `v` in a row of scale `s`: the quotient, clipped. -/
def codeOf (s v : EReal) : EReal := min top8 (max bot8 (Ideal.div v s))

theorem scaleOf_ne_zero (a : EReal) : scaleOf a ≠ 0 := by
  unfold scaleOf
  split
  · exact one_ne_zero
  · rename_i h
    have h8 : (top8 : EReal) ≠ 0 := by rw [top8_eq]; norm_num
    have h8' : (top8 : EReal)⁻¹ = ((448⁻¹ : ℝ) : EReal) := by rw [top8_eq, EReal.coe_inv]
    unfold Ideal.div
    rw [if_neg h8, h8']
    intro h0
    rcases mul_eq_zero.mp h0 with h1 | h1
    · exact h h1
    · norm_num at h1

/-- Multiplying by the scale's reciprocal is dividing by the scale: a scale is not zero. -/
theorem mul_inv_scale (v a : EReal) : v * Ideal.div 1 (scaleOf a) = Ideal.div v (scaleOf a) := by
  unfold Ideal.div
  rw [if_neg (scaleOf_ne_zero a), if_neg (scaleOf_ne_zero a), one_mul]

/-- The gated unit: `silu g · u`. -/
def hid (g u : EReal) : EReal := g * Ideal.logistic g * u

theorem hid_eq (g u : EReal) : g * Ideal.div 1 (1 + Ideal.exp (0 - g)) * u = hid g u := by
  unfold hid Ideal.logistic
  rw [sub_eq_add_neg, zero_add]

/-- One row of hidden activations, from the row's codes `x` and scale `rs` and the two weights with their column scales. -/
def hRow {d f : Nat} (x : Fin d → EReal) (rs : EReal) (w1 : Fin d → Fin f → EReal) (s1 : Fin f → EReal)
    (w3 : Fin d → Fin f → EReal) (s3 : Fin f → EReal) (n : Fin f) : EReal :=
  hid ((∑ k, x k * w1 k n) * rs * s1 n) ((∑ k, x k * w3 k n) * rs * s3 n)

/-- A row reduction by `max` from −∞, at any sizes. -/
theorem rowmax_apply {n m : Nat} (v : FVec Ideal ⟨2, ![n, m]⟩ .f32)
    (h : Shape.Reduces ⟨2, ![n, m]⟩ [1] ⟨1, ![n]⟩) (hφ : FKind.Formats .f32)
    (hacc : (0xFF800000#32 : BitVec 32) = FKind.maximumf.neutral .f32 hφ) (r : Fin n) :
    multiReduction .maximumf [1] ⟨1, ![n]⟩ v 0xFF800000#32 h hφ hacc (ix1 r)
      = Finset.univ.fold max ⊥ fun k : Fin m => v (ix2 r k) := by
  rw [multiReduction_maximumf_eq_fold, Shape.Reduces.fold_fiber_r2_a1]
  rw [show (FloatOps.ofBits FTy.f32 0xFF800000#32 : Ideal .f32) = ⊥ from negInf_eq]
  rfl

/-- The scale as the programs write it. -/
theorem scale_scalar (a : EReal) :
    Scalar.select (FloatOps.cmpf (F := Ideal) (φ := .f32) .oeq a (Scalar.ofBits .f32 0x00000000#32)) (Scalar.ofBits (F := Ideal) .f32 0x3F800000#32)
      (FloatOps.divf (F := Ideal) (φ := .f32) a (Scalar.ofBits .f32 0x43E00000#32)) = scaleOf a := by
  have h : ∀ v : FVec Ideal ⟨1, ![1]⟩ .f32, (select (cmpf .oeq v (broadcast _ (Scalar.ofBits .f32 0x00000000#32))) (broadcast _ (Scalar.ofBits .f32 0x3F800000#32))
      (divf v (broadcast _ (Scalar.ofBits .f32 0x43E00000#32))) : FVec Ideal ⟨1, ![1]⟩ .f32) (ix1 0) = scaleOf (v (ix1 0)) := by
    intro v
    pointwise []
    rfl
  exact h fun _ => a

/-- The code as the programs write it. -/
theorem code_scalar (s v : EReal) :
    FloatOps.minimumf (F := Ideal) (φ := .f32) (Scalar.ofBits .f32 0x43E00000#32) (FloatOps.maximumf (F := Ideal) (φ := .f32) (Scalar.ofBits .f32 0xC3E00000#32)
      (FloatOps.divf (F := Ideal) (φ := .f32) v s)) = codeOf s v := rfl
theorem code_vec {s : Shape} (H K : FVec Ideal s .f32) (i : s.Idx) (h : FTy.fp8e4m3.bits < FTy.f32.bits) :
   (truncf .fp8e4m3 (minimumf (broadcast s (Scalar.ofBits .f32 0x43E00000#32)) (maximumf (broadcast s (Scalar.ofBits .f32 0xC3E00000#32)) (divf H K))) h : FVec Ideal s .fp8e4m3) i = codeOf (K i) (H i) := code_scalar _ _
theorem scale_vec {s : Shape} (K : FVec Ideal s .f32) (i : s.Idx) :
   (select (cmpf .oeq K (broadcast s (Scalar.ofBits .f32 0x00000000#32))) (broadcast s (Scalar.ofBits .f32 0x3F800000#32))
      (divf K (broadcast s (Scalar.ofBits .f32 0x43E00000#32))) : FVec Ideal s .f32) i = scaleOf (K i) := scale_scalar _

end Cert.Quant

end
-- ==== Proof.UpBlock.lean ====
/- What one grid point of the kernel leaves in its two output blocks, read from the blocks it was given: each row of the
   gated hidden activations, quantised. The kernel computes the row in seven chunks of 512 columns, keeps 128 running
   maxima of the magnitudes, and quantises when the row is complete. -/
module

public import proofs.«01_k».proof.Proof.Gen.KernelIdeal.Frame
public import proofs.«01_k».proof.Proof.Quant
public import Idealize.ShloMosaic.Lib.Pipeline.ValueKit
public import Idealize.ShloMosaic.Lib.Pipeline.ReadBack
public import Idealize.ShloMosaic.Lib.Pointwise

@[expose] public section

set_option maxRecDepth 16384

noncomputable section

namespace Cert.UpBlock

open Idealize.ShloMosaic Idealize.SL.Sem Cert.KernelIdeal Cert.KernelIdeal.Gen Cert.Quant

/-- The hidden activation at row `r`, column `n` of a block. -/
def hB (x0 : Vec Ideal S512x2560 .fp8e4m3) (x1 : Vec Ideal S512x1 .f32) (x2 : Vec Ideal S2560x3584 .fp8e4m3)
    (x3 : Vec Ideal S1x3584 .f32) (x4 : Vec Ideal S2560x3584 .fp8e4m3) (x5 : Vec Ideal S1x3584 .f32)
    (r : Fin 512) (n : Fin 3584) : EReal :=
  hid ((∑ k : Fin 2560, x0 (ix2 r k) * x2 (ix2 k n)) * x1 (ix2 r 0) * x3 (ix2 0 n))
    ((∑ k : Fin 2560, x0 (ix2 r k) * x4 (ix2 k n)) * x1 (ix2 r 0) * x5 (ix2 0 n))

/-- A chunk of 512 columns from column `o` on. -/
theorem chunk (x0 : Vec Ideal S512x2560 .fp8e4m3) (x1 : Vec Ideal S512x1 .f32) (x2 : Vec Ideal S2560x3584 .fp8e4m3)
    (x3 : Vec Ideal S1x3584 .f32) (x4 : Vec Ideal S2560x3584 .fp8e4m3) (x5 : Vec Ideal S1x3584 .f32) (o : ℕ)
    (h1 : ∀ a, (![0, o] : Fin 2 → ℕ) a + (![2560, 512] : Fin 2 → ℕ) a ≤ S2560x3584.size a)
    (h2 : ∀ a, (![0, o] : Fin 2 → ℕ) a + (![1, 512] : Fin 2 → ℕ) a ≤ S1x3584.size a)
    (h3 : ∀ a, (![0, o] : Fin 2 → ℕ) a + (![2560, 512] : Fin 2 → ℕ) a ≤ S2560x3584.size a)
    (h4 : ∀ a, (![0, o] : Fin 2 → ℕ) a + (![1, 512] : Fin 2 → ℕ) a ≤ S1x3584.size a)
    (ho : o + 512 ≤ 3584) (r l : Fin 512) :
    k0_pay15 x0 x1 (View.ld x2 (Rect.unit ![0, o] ![2560, 512] h1)) (View.ld x3 (Rect.unit ![0, o] ![1, 512] h2))
        (View.ld x4 (Rect.unit ![0, o] ![2560, 512] h3)) (View.ld x5 (Rect.unit ![0, o] ![1, 512] h4)) (ix2 r l)
      = hB x0 x1 x2 x3 x4 x5 r ⟨o + l, by omega⟩ := by
  pointwise [k0_pay15]
  rw [hid_eq, hB]

theorem pay18_eq : @k0_pay18 = @k0_pay15 := rfl
theorem pay21_eq : @k0_pay21 = @k0_pay15 := rfl
theorem pay24_eq : @k0_pay24 = @k0_pay15 := rfl
theorem pay27_eq : @k0_pay27 = @k0_pay15 := rfl
theorem pay30_eq : @k0_pay30 = @k0_pay15 := rfl
theorem pay20_eq : @k0_pay20 = @k0_pay17 := rfl
theorem pay23_eq : @k0_pay23 = @k0_pay17 := rfl
theorem pay26_eq : @k0_pay26 = @k0_pay17 := rfl
theorem pay29_eq : @k0_pay29 = @k0_pay17 := rfl
theorem pay32_eq : @k0_pay32 = @k0_pay17 := rfl

theorem pay1_eq (x0 : Vec Ideal S512x2560 .fp8e4m3) (x1 : Vec Ideal S512x1 .f32) (w1 : Vec Ideal S2560x512 .fp8e4m3)
    (s1 : Vec Ideal S1x512 .f32) (w3 : Vec Ideal S2560x512 .fp8e4m3) (s3 : Vec Ideal S1x512 .f32) :
    k0_pay1 (k0_pay33 x0 x1 w3 s3) (k0_pay34 x0 x1 w1 s1) = k0_pay15 x0 x1 w1 s1 w3 s3 := rfl

theorem pay2_eq (a b : FVec Ideal S512x512 .f32) : k0_pay2 a b = k0_pay1 a b := by
  unfold k0_pay2
  rw [shapeCast_self]

theorem pay3_eq (v : FVec Ideal S512x128 .f32) (a b : FVec Ideal S512x512 .f32) :
    k0_pay3 v a b = k0_pay17 v (k0_pay1 a b) := by
  unfold k0_pay3 k0_pay17
  simp only [shapeCast_self]

theorem pay16_eq (v : FVec Ideal S512x512 .f32) : k0_pay16 v = v := by unfold k0_pay16; rw [shapeCast_self]

/-- The running maxima after one chunk. -/
theorem runmax_le (v5 : Vec Ideal S512x128 .f32) (v : Vec Ideal S512x512 .f32) (r : Fin 512) (l : Fin 128) (z : EReal) :
    k0_pay17 v5 v (ix2 r l) ≤ z ↔ v5 (ix2 r l) ≤ z ∧ ∀ t : Fin 4, mag (v (ix2 r ⟨128 * t + l, by omega⟩)) ≤ z := by
  pointwise [k0_pay17]
  have e (x : EReal) : (FloatOps.absf (F := Ideal) (φ := .f32) x : EReal) = max x (-x) := rfl
  simp only [Fin.forall_fin_succ, IsEmpty.forall_iff, and_true, max_le_iff (c := z), and_assoc, e]

/-- The scale of a row, from its running maxima. -/
theorem scale_apply (v : Vec Ideal S512x128 .f32) (r : Fin 512) :
    k0_pay5 v (ix2 r 0) = scaleOf (Finset.univ.fold max ⊥ fun l : Fin 128 => v (ix2 r l)) := by
  unfold k0_pay5
  rw [← rowmax_apply v reduces_S512x128_S512 (.inl rfl) rfl r]
  generalize multiReduction (F := Ideal) .maximumf [1] S512 v 0xFF800000#32 reduces_S512x128_S512 (.inl rfl) rfl = M
  pointwise []
  rfl

/-- A code, from a row's running maxima and its activation. -/
theorem code_apply (v : Vec Ideal S512x128 .f32) (w : Vec Ideal S512x512 .f32) (r l : Fin 512) :
    k0_pay7 v w (ix2 r l) = codeOf (scaleOf (Finset.univ.fold max ⊥ fun l : Fin 128 => v (ix2 r l))) (w (ix2 r l)) := by
  have h := scale_apply v r
  unfold k0_pay7 k0_pay6
  generalize k0_pay5 v = M at h ⊢
  pointwise []
  rw [h, mul_inv_scale]
  rfl

theorem pay8_eq : @k0_pay8 = @k0_pay7 := rfl
theorem pay10_eq (v : Vec Ideal S512x128 .f32) (w : Vec Ideal S512x512 .f32) :
    k0_pay10 (k0_pay9 v w) (FloatOps.ofBits FTy.f32 3286237184#32) = k0_pay7 v w := rfl
theorem pay11_eq (v : Vec Ideal S512x128 .f32) (w : Vec Ideal S512x512 .f32) : k0_pay11 (k0_pay6 v) w = k0_pay7 v w := rfl
theorem pay12_eq (v : Vec Ideal S512x128 .f32) (w : Vec Ideal S512x512 .f32) : k0_pay12 (k0_pay6 v) w = k0_pay7 v w := rfl
theorem pay13_eq (v : Vec Ideal S512x128 .f32) (w : Vec Ideal S512x512 .f32) : k0_pay13 (k0_pay6 v) w = k0_pay7 v w := rfl
theorem pay4_eq (v : Vec Ideal S512x128 .f32) (w : Vec Ideal S512x512 .f32) : k0_pay4 (k0_pay6 v) w = k0_pay7 v w := rfl

theorem start_apply (r : Fin 512) (l : Fin 128) : k0_pay14 (F := Ideal) (ix2 r l) = 0 := by pointwise [k0_pay14]

variable (c : Dev nD) (i : grid0.Coords) (arg2 : Memref sig .tc .vmem S512x2560 .fp8e4m3) (harg2 : arg2.IsWhole) (arg3 : Memref sig .tc .vmem S512x1 .f32) (harg3 : arg3.IsWhole) (arg4 : Memref sig .tc .vmem S2560x3584 .fp8e4m3) (harg4 : arg4.IsWhole) (arg5 : Memref sig .tc .vmem S1x3584 .f32) (harg5 : arg5.IsWhole) (arg6 : Memref sig .tc .vmem S2560x3584 .fp8e4m3) (harg6 : arg6.IsWhole) (arg7 : Memref sig .tc .vmem S1x3584 .f32) (harg7 : arg7.IsWhole) (arg8 : Memref sig .tc .vmem S512x3584 .fp8e4m3) (harg8 : arg8.IsWhole) (arg9 : Memref sig .tc .vmem S512x1 .f32) (harg9 : arg9.IsWhole) (arg10 : Memref sig .tc .vmem S512x3584 .f32) (harg10 : arg10.IsWhole) (arg11 : Memref sig .tc .vmem S512x128 .f32) (harg11 : arg11.IsWhole) (hc0 : cond0_0 i) (hc1 : cond0_1 i)
    (x0 : Vec Ideal S512x2560 .fp8e4m3) (x1 : Vec Ideal S512x1 .f32) (x2 : Vec Ideal S2560x3584 .fp8e4m3) (x3 : Vec Ideal S1x3584 .f32) (x4 : Vec Ideal S2560x3584 .fp8e4m3) (x5 : Vec Ideal S1x3584 .f32)

/-- The running maxima when the row is complete. -/
abbrev maxes : FVec Ideal S512x128 .f32 :=
  (k0_pay3 (k0_pay32 (k0_pay29 (k0_pay26 (k0_pay23 (k0_pay20 (k0_pay17 (k0_pay14 (F := Ideal))
    (k0_pay15 x0 x1 (View.ld x2 (Rect.unit ![0, 0] ![2560, 512] inb_S2560x3584_S2560x512_0_0))
                      (View.ld x3 (Rect.unit ![0, 0] ![1, 512] inb_S1x3584_S1x512_0_0))
                      (View.ld x4 (Rect.unit ![0, 0] ![2560, 512] inb_S2560x3584_S2560x512_0_0))
                      (View.ld x5 (Rect.unit ![0, 0] ![1, 512] inb_S1x3584_S1x512_0_0))))
                  (k0_pay18 x0 x1 (View.ld x2 (Rect.unit ![0, 512] ![2560, 512] inb_S2560x3584_S2560x512_0_512))
                    (View.ld x3 (Rect.unit ![0, 512] ![1, 512] inb_S1x3584_S1x512_0_512))
                    (View.ld x4 (Rect.unit ![0, 512] ![2560, 512] inb_S2560x3584_S2560x512_0_512))
                    (View.ld x5 (Rect.unit ![0, 512] ![1, 512] inb_S1x3584_S1x512_0_512))))
                (k0_pay21 x0 x1 (View.ld x2 (Rect.unit ![0, 1024] ![2560, 512] inb_S2560x3584_S2560x512_0_1024))
                  (View.ld x3 (Rect.unit ![0, 1024] ![1, 512] inb_S1x3584_S1x512_0_1024))
                  (View.ld x4 (Rect.unit ![0, 1024] ![2560, 512] inb_S2560x3584_S2560x512_0_1024))
                  (View.ld x5 (Rect.unit ![0, 1024] ![1, 512] inb_S1x3584_S1x512_0_1024))))
              (k0_pay24 x0 x1 (View.ld x2 (Rect.unit ![0, 1536] ![2560, 512] inb_S2560x3584_S2560x512_0_1536))
                (View.ld x3 (Rect.unit ![0, 1536] ![1, 512] inb_S1x3584_S1x512_0_1536))
                (View.ld x4 (Rect.unit ![0, 1536] ![2560, 512] inb_S2560x3584_S2560x512_0_1536))
                (View.ld x5 (Rect.unit ![0, 1536] ![1, 512] inb_S1x3584_S1x512_0_1536))))
            (k0_pay27 x0 x1 (View.ld x2 (Rect.unit ![0, 2048] ![2560, 512] inb_S2560x3584_S2560x512_0_2048))
              (View.ld x3 (Rect.unit ![0, 2048] ![1, 512] inb_S1x3584_S1x512_0_2048))
              (View.ld x4 (Rect.unit ![0, 2048] ![2560, 512] inb_S2560x3584_S2560x512_0_2048))
              (View.ld x5 (Rect.unit ![0, 2048] ![1, 512] inb_S1x3584_S1x512_0_2048))))
          (k0_pay30 x0 x1 (View.ld x2 (Rect.unit ![0, 2560] ![2560, 512] inb_S2560x3584_S2560x512_0_2560))
            (View.ld x3 (Rect.unit ![0, 2560] ![1, 512] inb_S1x3584_S1x512_0_2560))
            (View.ld x4 (Rect.unit ![0, 2560] ![2560, 512] inb_S2560x3584_S2560x512_0_2560))
            (View.ld x5 (Rect.unit ![0, 2560] ![1, 512] inb_S1x3584_S1x512_0_2560))))
        (k0_pay33 x0 x1 (View.ld x4 (Rect.unit ![0, 3072] ![2560, 512] inb_S2560x3584_S2560x512_0_3072))
          (View.ld x5 (Rect.unit ![0, 3072] ![1, 512] inb_S1x3584_S1x512_0_3072)))
        (k0_pay34 x0 x1 (View.ld x2 (Rect.unit ![0, 3072] ![2560, 512] inb_S2560x3584_S2560x512_0_3072))
          (View.ld x3 (Rect.unit ![0, 3072] ![1, 512] inb_S1x3584_S1x512_0_3072))))

theorem maxes_eq (r : Fin 512) : (Finset.univ.fold max ⊥ fun l : Fin 128 => maxes x0 x1 x2 x3 x4 x5 (ix2 r l)) = rowMax (hB x0 x1 x2 x3 x4 x5 r) := by
  refine eq_of_forall_ge_iff fun z => ?_
  rw [Finset.fold_max_le, rowMax_le]
  simp only [maxes, pay3_eq, pay1_eq, pay18_eq, pay21_eq, pay24_eq, pay27_eq, pay30_eq, pay20_eq, pay23_eq, pay26_eq, pay29_eq, pay32_eq, runmax_le, start_apply]
  simp only [bot_le, true_and, Finset.mem_univ, forall_true_left]
  simp (disch := omega) only [chunk]
  constructor
  · intro H k
    have hk := k.isLt
    obtain ⟨⟨⟨⟨⟨⟨⟨-, H0⟩, H1⟩, H2⟩, H3⟩, H4⟩, H5⟩, H6⟩ := H ⟨k % 128, by omega⟩
    have fin (o : ℕ) (hl : o ≤ k) (hu : k < o + 512) (ho : o % 512 = 0)
        (hh : ∀ t : Fin 4, ∀ h, mag (hB x0 x1 x2 x3 x4 x5 r ⟨o + (128 * t + (k : ℕ) % 128), h⟩) ≤ z) :
        mag (hB x0 x1 x2 x3 x4 x5 r k) ≤ z := by
      have h := hh ⟨(k - o) / 128, by omega⟩ (by simp only; omega)
      rwa [show (⟨o + (128 * ((k - o) / 128) + (k : ℕ) % 128), by omega⟩ : Fin 3584) = k from Fin.ext (by simp only; omega)] at h
    rcases Nat.lt_or_ge k 512 with g | g
    · exact fin 0 (by omega) (by omega) (by omega) fun t _ => H0 t
    rcases Nat.lt_or_ge k 1024 with g | g
    · exact fin 512 (by omega) (by omega) (by omega) fun t _ => H1 t
    rcases Nat.lt_or_ge k 1536 with g | g
    · exact fin 1024 (by omega) (by omega) (by omega) fun t _ => H2 t
    rcases Nat.lt_or_ge k 2048 with g | g
    · exact fin 1536 (by omega) (by omega) (by omega) fun t _ => H3 t
    rcases Nat.lt_or_ge k 2560 with g | g
    · exact fin 2048 (by omega) (by omega) (by omega) fun t _ => H4 t
    rcases Nat.lt_or_ge k 3072 with g | g
    · exact fin 2560 (by omega) (by omega) (by omega) fun t _ => H5 t
    · exact fin 3072 (by omega) (by omega) (by omega) fun t _ => H6 t
  · intro H l
    exact ⟨⟨⟨⟨⟨⟨⟨(mag_nonneg _).trans (H 0), fun t => H _⟩, fun t => H _⟩, fun t => H _⟩, fun t => H _⟩, fun t => H _⟩,
      fun t => H _⟩, fun t => H _⟩

theorem out7_apply (r : Fin 512) :
   out0_A_7 c i arg2 harg2 arg3 harg3 arg4 harg4 arg5 harg5 arg6 harg6 arg7 harg7 arg8 harg8 arg9 harg9 arg10 harg10 arg11 harg11 hc0 hc1 x0 x1 x2 x3 x4 x5 (ix2 r 0)
    = scaleOf (rowMax (hB x0 x1 x2 x3 x4 x5 r)) := by
  frame_out
  rw [← maxes_eq]
  exact scale_apply _ r

theorem canon_of_pieces {s : Shape} {e : EltTy} (G : s.Idx → Elt Ideal e) (L : List (View.Piece (Elt Ideal) s e))
    (h : View.PiecesOf G L) (y : s.Idx) (hc : ∃ p ∈ L, y ∈ p.1.set) : View.canon L y = G y := by
  have := View.canon_append_of_piecesOf G [] L h y hc
  rwa [List.append_nil] at this

theorem pay19_eq : @k0_pay19 = @k0_pay16 := rfl
theorem pay22_eq : @k0_pay22 = @k0_pay16 := rfl
theorem pay25_eq : @k0_pay25 = @k0_pay16 := rfl
theorem pay28_eq : @k0_pay28 = @k0_pay16 := rfl
theorem pay31_eq : @k0_pay31 = @k0_pay16 := rfl

/-- An element of a chunk, placed in the row. -/
theorem emb_chunk (o : ℕ) (h : ∀ a, (![0, o] : Fin 2 → ℕ) a + (![512, 512] : Fin 2 → ℕ) a ≤ S512x3584.size a) (ho : o + 512 ≤ 3584)
    (r l : Fin 512) : (Rect.unit (s := S512x3584) ![0, o] ![512, 512] h).emb (ix2 r l) = ix2 r ⟨o + l, by omega⟩ := by
  funext a
  apply Fin.ext
  fin_cases a <;> simp [Rect.emb, Rect.unit]

/-- The seven chunks stored in the scratch are the row. -/
theorem stored (p3072 : ∀ a, (![0, 3072] : Fin 2 → ℕ) a + (![512, 512] : Fin 2 → ℕ) a ≤ S512x3584.size a) (p2560 : ∀ a, (![0, 2560] : Fin 2 → ℕ) a + (![512, 512] : Fin 2 → ℕ) a ≤ S512x3584.size a) (p2048 : ∀ a, (![0, 2048] : Fin 2 → ℕ) a + (![512, 512] : Fin 2 → ℕ) a ≤ S512x3584.size a) (p1536 : ∀ a, (![0, 1536] : Fin 2 → ℕ) a + (![512, 512] : Fin 2 → ℕ) a ≤ S512x3584.size a) (p1024 : ∀ a, (![0, 1024] : Fin 2 → ℕ) a + (![512, 512] : Fin 2 → ℕ) a ≤ S512x3584.size a) (p512 : ∀ a, (![0, 512] : Fin 2 → ℕ) a + (![512, 512] : Fin 2 → ℕ) a ≤ S512x3584.size a) (p0 : ∀ a, (![0, 0] : Fin 2 → ℕ) a + (![512, 512] : Fin 2 → ℕ) a ≤ S512x3584.size a) (y : S512x3584.Idx) :
    View.canon (Val := Elt Ideal) (s := S512x3584) (e := EltTy.f32) [⟨Rect.unit ![0, 3072] ![512, 512] p3072, (k0_pay2 (k0_pay33 x0 x1 (View.ld x4 (Rect.unit ![0, 3072] ![2560, 512] inb_S2560x3584_S2560x512_0_3072)) (View.ld x5 (Rect.unit ![0, 3072] ![1, 512] inb_S1x3584_S1x512_0_3072))) (k0_pay34 x0 x1 (View.ld x2 (Rect.unit ![0, 3072] ![2560, 512] inb_S2560x3584_S2560x512_0_3072)) (View.ld x3 (Rect.unit ![0, 3072] ![1, 512] inb_S1x3584_S1x512_0_3072))))⟩,
      ⟨Rect.unit ![0, 2560] ![512, 512] p2560, (k0_pay31 (k0_pay30 x0 x1 (View.ld x2 (Rect.unit ![0, 2560] ![2560, 512] inb_S2560x3584_S2560x512_0_2560)) (View.ld x3 (Rect.unit ![0, 2560] ![1, 512] inb_S1x3584_S1x512_0_2560)) (View.ld x4 (Rect.unit ![0, 2560] ![2560, 512] inb_S2560x3584_S2560x512_0_2560)) (View.ld x5 (Rect.unit ![0, 2560] ![1, 512] inb_S1x3584_S1x512_0_2560))))⟩,
      ⟨Rect.unit ![0, 2048] ![512, 512] p2048, (k0_pay28 (k0_pay27 x0 x1 (View.ld x2 (Rect.unit ![0, 2048] ![2560, 512] inb_S2560x3584_S2560x512_0_2048)) (View.ld x3 (Rect.unit ![0, 2048] ![1, 512] inb_S1x3584_S1x512_0_2048)) (View.ld x4 (Rect.unit ![0, 2048] ![2560, 512] inb_S2560x3584_S2560x512_0_2048)) (View.ld x5 (Rect.unit ![0, 2048] ![1, 512] inb_S1x3584_S1x512_0_2048))))⟩,
      ⟨Rect.unit ![0, 1536] ![512, 512] p1536, (k0_pay25 (k0_pay24 x0 x1 (View.ld x2 (Rect.unit ![0, 1536] ![2560, 512] inb_S2560x3584_S2560x512_0_1536)) (View.ld x3 (Rect.unit ![0, 1536] ![1, 512] inb_S1x3584_S1x512_0_1536)) (View.ld x4 (Rect.unit ![0, 1536] ![2560, 512] inb_S2560x3584_S2560x512_0_1536)) (View.ld x5 (Rect.unit ![0, 1536] ![1, 512] inb_S1x3584_S1x512_0_1536))))⟩,
      ⟨Rect.unit ![0, 1024] ![512, 512] p1024, (k0_pay22 (k0_pay21 x0 x1 (View.ld x2 (Rect.unit ![0, 1024] ![2560, 512] inb_S2560x3584_S2560x512_0_1024)) (View.ld x3 (Rect.unit ![0, 1024] ![1, 512] inb_S1x3584_S1x512_0_1024)) (View.ld x4 (Rect.unit ![0, 1024] ![2560, 512] inb_S2560x3584_S2560x512_0_1024)) (View.ld x5 (Rect.unit ![0, 1024] ![1, 512] inb_S1x3584_S1x512_0_1024))))⟩,
      ⟨Rect.unit ![0, 512] ![512, 512] p512, (k0_pay19 (k0_pay18 x0 x1 (View.ld x2 (Rect.unit ![0, 512] ![2560, 512] inb_S2560x3584_S2560x512_0_512)) (View.ld x3 (Rect.unit ![0, 512] ![1, 512] inb_S1x3584_S1x512_0_512)) (View.ld x4 (Rect.unit ![0, 512] ![2560, 512] inb_S2560x3584_S2560x512_0_512)) (View.ld x5 (Rect.unit ![0, 512] ![1, 512] inb_S1x3584_S1x512_0_512))))⟩,
      ⟨Rect.unit ![0, 0] ![512, 512] p0, (k0_pay16 (k0_pay15 x0 x1 (View.ld x2 (Rect.unit ![0, 0] ![2560, 512] inb_S2560x3584_S2560x512_0_0)) (View.ld x3 (Rect.unit ![0, 0] ![1, 512] inb_S1x3584_S1x512_0_0)) (View.ld x4 (Rect.unit ![0, 0] ![2560, 512] inb_S2560x3584_S2560x512_0_0)) (View.ld x5 (Rect.unit ![0, 0] ![1, 512] inb_S1x3584_S1x512_0_0))))⟩] y = hB x0 x1 x2 x3 x4 x5 (y 0) (y 1) := by
  refine canon_of_pieces (e := EltTy.f32) (fun y : S512x3584.Idx => hB x0 x1 x2 x3 x4 x5 (y 0) (y 1)) _ ?_ y ?_
  · refine ⟨?_, ?_, ?_, ?_, ?_, ?_, ?_, trivial⟩
    all_goals
      intro x
      obtain ⟨r, l, rfl⟩ : ∃ (r l : Fin 512), x = ix2 r l := ⟨x 0, x 1, by ext a; fin_cases a <;> rfl⟩
      rw [emb_chunk _ _ (by omega)]
      simp only [pay2_eq, pay1_eq, pay19_eq, pay22_eq, pay25_eq, pay28_eq, pay31_eq, pay16_eq, pay18_eq, pay21_eq, pay24_eq, pay27_eq, pay30_eq]
      exact chunk x0 x1 x2 x3 x4 x5 _ _ _ _ _ (by omega) r l
  · exact View.cover_of_tiledL (s := S512x3584) _ (![512, 512]) (by sl_kernel_rfl) _

/-- A chunk of codes, from the row's running maxima `M`. -/
theorem code_chunk (M : Vec Ideal S512x128 .f32) (H : Fin 512 → Fin 3584 → EReal)
    (hm : ∀ r : Fin 512, (Finset.univ.fold max ⊥ fun l : Fin 128 => M (ix2 r l)) = rowMax (H r)) (o : ℕ)
    (h h' : ∀ a, (![0, o] : Fin 2 → ℕ) a + (![512, 512] : Fin 2 → ℕ) a ≤ S512x3584.size a) (ho : o + 512 ≤ 3584) (x : S512x512.Idx) :
    k0_pay7 M (fun j => H ((Rect.unit (s := S512x3584) ![0, o] ![512, 512] h').idx j 0)
        ((Rect.unit (s := S512x3584) ![0, o] ![512, 512] h').idx j 1)) x
      = codeOf (scaleOf (rowMax (H ((Rect.unit (s := S512x3584) ![0, o] ![512, 512] h).emb x 0))))
          (H ((Rect.unit (s := S512x3584) ![0, o] ![512, 512] h).emb x 0) ((Rect.unit (s := S512x3584) ![0, o] ![512, 512] h).emb x 1)) := by
  obtain ⟨r, l, rfl⟩ : ∃ (r l : Fin 512), x = ix2 r l := ⟨x 0, x 1, by ext a; fin_cases a <;> rfl⟩
  refine (code_apply _ _ r l).trans ?_
  rw [hm, emb_chunk o h ho]
  have e := emb_chunk o h' ho r l
  rw [show (Rect.unit (s := S512x3584) ![0, o] ![512, 512] h').idx (ix2 r l) = ix2 r ⟨o + l, by omega⟩ from e]
  rfl

theorem out6_apply (r : Fin 512) (n : Fin 3584) :
   out0_A_6 c i arg2 harg2 arg3 harg3 arg4 harg4 arg5 harg5 arg6 harg6 arg7 harg7 arg8 harg8 arg9 harg9 arg10 harg10 arg11 harg11 hc0 hc1 x0 x1 x2 x3 x4 x5 (ix2 r n)
    = codeOf (scaleOf (rowMax (hB x0 x1 x2 x3 x4 x5 r))) (hB x0 x1 x2 x3 x4 x5 r n) := by
  frame_out
  simp only [View.readCov_eq_canon', stored]
  have hm := maxes_eq x0 x1 x2 x3 x4 x5
  unfold maxes at hm
  generalize k0_pay3 (F := Ideal) _ _ _ = M at hm ⊢
  refine canon_of_pieces (e := EltTy.fp8e4m3) (fun y : S512x3584.Idx => codeOf (scaleOf (rowMax (hB x0 x1 x2 x3 x4 x5 (y 0)))) (hB x0 x1 x2 x3 x4 x5 (y 0) (y 1))) _ ?_ (ix2 r n) ?_
  · refine ⟨?_, ?_, ?_, ?_, ?_, ?_, ?_, trivial⟩
    all_goals
      intro x
      simp only [pay8_eq, pay10_eq, pay11_eq, pay12_eq, pay13_eq, pay4_eq]
      exact code_chunk M (hB x0 x1 x2 x3 x4 x5) hm _ _ _ (by omega) x
  · exact View.cover_of_tiledL (s := S512x3584) _ (![512, 512]) (by sl_kernel_rfl) _

end Cert.UpBlock

end
-- ==== Proof.LnMath.lean ====
/- The mathematics of the modulated layer norm, over the extended reals. No program occurs here. -/
module

public import proofs.«01_k».proof.Proof.Quant

@[expose] public section

set_option maxRecDepth 16384

noncomputable section

namespace Cert.LnMath

open Idealize.ShloMosaic Idealize.SL.Sem Cert.Quant

/-- The length of a row, as a number of the format. -/
abbrev len : EReal := Ideal.ofBits FTy.f32 1159725056#32
/-- The small number added to the variance. -/
abbrev eps : EReal := Ideal.ofBits FTy.f32 897988541#32

theorem len_eq : len = ((2560 : ℝ) : EReal) := by
  have h1 : (BitVec.extractLsb' (8 + 23) 1 (1159725056#32) == 1#1) = false := by decide
  have h2 : (BitVec.extractLsb' 23 8 (1159725056#32)).toNat = 138 := by decide
  have h3 : (BitVec.extractLsb' 0 23 (1159725056#32)).toNat = 2097152 := by decide
  simp only [len, Ideal.ofBits, Ideal.ieee, h1, h2, h3]
  norm_num

theorem eps_pos : ∃ e : ℝ, eps = (e : EReal) ∧ 0 < e := by
  have h1 : (BitVec.extractLsb' (8 + 23) 1 (897988541#32) == 1#1) = false := by decide
  have h2 : (BitVec.extractLsb' 23 8 (897988541#32)).toNat = 107 := by decide
  have h3 : (BitVec.extractLsb' 0 23 (897988541#32)).toNat = 407485 := by decide
  simp only [eps, Ideal.ofBits, Ideal.ieee, h1, h2, h3]
  refine ⟨_, rfl, ?_⟩
  norm_num

theorem sq_nonneg' (x : EReal) : 0 ≤ x * x := by
  rcases le_total 0 x with h | h
  · exact mul_nonneg h h
  · have h' : 0 ≤ -x := by simpa using EReal.neg_le_neg_iff.mpr h
    rw [← neg_mul_neg]
    exact mul_nonneg h' h'

/-- The square root of a number that is not negative plus the small number is not zero. -/
theorem sqrt_ne_zero (v : EReal) (h : 0 ≤ v) : Ideal.sqrt (v + eps) ≠ 0 := by
  obtain ⟨e, he, hp⟩ := eps_pos
  rw [he]
  induction v with
  | bot => simp at h
  | top => simp
  | coe r =>
    have hr : 0 ≤ r := by exact_mod_cast h
    rw [← EReal.coe_add, Ideal.sqrt_coe, if_neg (by linarith)]
    have : 0 < Real.sqrt (r + e) := Real.sqrt_pos.mpr (by linarith)
    exact_mod_cast this.ne'

/-- The mean of a row. -/
def mean {n : ℕ} (x : Fin n → EReal) : EReal := Ideal.div (∑ k, x k) len
/-- The mean square of a row's distances from its mean. -/
def var {n : ℕ} (x : Fin n → EReal) : EReal := Ideal.div (∑ k, (x k - mean x) * (x k - mean x)) len
/-- The row with its mean taken off and divided by its deviation, scaled and shifted. -/
def norm {n : ℕ} (x sh sc : Fin n → EReal) (k : Fin n) : EReal :=
  Ideal.div (x k - mean x) (Ideal.sqrt (var x + eps)) * (1 + sc k) + sh k

theorem var_nonneg {n : ℕ} (x : Fin n → EReal) : 0 ≤ var x := by
  unfold var
  rw [len_eq, Ideal.div_coe (by norm_num)]
  refine mul_nonneg (Finset.sum_nonneg fun k _ => sq_nonneg' _) ?_
  exact_mod_cast (by norm_num : (0 : ℝ) ≤ 1 / 2560)

/-- Multiplying by the deviation's reciprocal is dividing by the deviation: it is not zero. -/
theorem norm_eq {n : ℕ} (x sh sc : Fin n → EReal) (k : Fin n) :
    (x k - mean x) * Ideal.div 1 (Ideal.sqrt (var x + eps)) * (1 + sc k) + sh k = norm x sh sc k := by
  have h := sqrt_ne_zero _ (var_nonneg x)
  unfold norm Ideal.div
  rw [if_neg h, if_neg h, one_mul]

end Cert.LnMath

end
-- ==== Proof.LnImBlock.lean ====
/- What one grid point of the image rows' layer norm leaves in its two output blocks, and the arrays after the run. The body
   is a loop of eight trips of 32 rows: the rows are normalised, scaled and shifted, and quantised. -/
module
public import proofs.«01_k».proof.Proof.Gen.LnImIdeal.Value
public import proofs.«01_k».proof.Proof.UpBlock
public import proofs.«01_k».proof.Proof.LnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnImBlock

open Idealize.ShloMosaic Idealize.ShloMosaic.TcCoe Idealize.SL.Sem Cert.LnImIdeal Cert.LnImIdeal.Gen Cert.Quant
open Cert.LnMath (norm norm_eq)

section payloads
variable (v1 v3 : Vec Ideal S1x2560 .f32) (v8 : Vec Ideal S1x32x2560 .bf16)

/-- The normalised row `r` of a trip. -/
abbrev nP (r : Fin 32) : Fin 2560 → EReal := norm (fun k : Fin 2560 => v8 (ix3 0 r k)) (fun k => v1 (ix2 0 k)) (fun k => v3 (ix2 0 k))

/-- The payload that normalises. -/
theorem norm_apply (r : Fin 32) (n : Fin 2560) : k0_pay5 v1 v3 v8 (ix2 r n) = nP v1 v3 v8 r n := by
  unfold nP
  rw [← norm_eq]
  pointwise [k0_pay5]
  rfl

theorem scale_lay (r : Fin 32) : k0_pay6 v1 v3 v8 (ix2 r 0) = scaleOf (multiReduction (F := Ideal) .maximumf [1] S32 (absf (k0_pay5 v1 v3 v8)) 0xFF800000#32 reduces_S32x2560_S32 (.inl rfl) rfl (ix1 r)) := by
  unfold k0_pay6
  generalize multiReduction (F := Ideal) .maximumf [1] S32 (absf (k0_pay5 v1 v3 v8)) 0xFF800000#32 reduces_S32x2560_S32 (.inl rfl) rfl = M
  have e : shapeCast S32x1 M shapeCasts_S32_S32x1 (ix2 r 0) = M (ix1 r) := by pointwise []
  rw [← e]
  clear e
  generalize shapeCast S32x1 M shapeCasts_S32_S32x1 = K
  exact scale_vec K (ix2 r 0)

/-- The payload that is stored as scales. -/
theorem scale_apply (r : Fin 32) : k0_pay6 v1 v3 v8 (ix2 r 0) = scaleOf (rowMax (nP v1 v3 v8 r)) := by
  have e : multiReduction (F := Ideal) .maximumf [1] S32 (absf (k0_pay5 v1 v3 v8)) 0xFF800000#32 reduces_S32x2560_S32 (.inl rfl) rfl (ix1 r)
      = rowMax (nP v1 v3 v8 r) := by
    refine (rowmax_apply _ _ _ _ r).trans ?_
    unfold rowMax
    refine congrArg (fun f => Finset.fold max ⊥ f Finset.univ) (funext fun k => ?_)
    rw [← norm_apply]
    rfl
  rw [scale_lay, e]

/-- The payload that is stored as codes. -/
theorem code_apply (r : Fin 32) (n : Fin 2560) : k0_pay3 (k0_pay7 v1 v3 v8) (Scalar.ofBits .f32 0xC3E00000#32) (ix3 0 r n)
    = codeOf (scaleOf (rowMax (nP v1 v3 v8 r))) (nP v1 v3 v8 r n) := by
  rw [← scale_apply, ← norm_apply]
  have h := mul_inv_scale (k0_pay5 v1 v3 v8 (ix2 r n)) (rowMax (nP v1 v3 v8 r))
  rw [← scale_apply] at h
  unfold codeOf
  rw [← h]
  unfold k0_pay7
  generalize k0_pay6 v1 v3 v8 = M
  generalize k0_pay5 v1 v3 v8 = H
  pointwise [k0_pay3]

end payloads
variable (c : Dev nD) (i : grid0.Coords) (arg2 : Memref sig .tc .vmem S1x256x2560 .bf16) (harg2 : arg2.IsWhole) (arg3 : Memref sig .tc .vmem S1x12x2560 .f32) (harg3 : arg3.IsWhole) (arg4 : Memref sig .tc .vmem S1x256x2560 .fp8e4m3) (harg4 : arg4.IsWhole) (arg5 : Memref sig .tc .vmem S1x256x1 .f32) (harg5 : arg5.IsWhole)
    (x0 : Vec Ideal S1x256x2560 .bf16) (x1 : Vec Ideal S1x12x2560 .f32)

/-- The rows trip `k` reads. -/
def rows (k : Fin k0_t1_loop.trips) : Vec Ideal S1x32x2560 .bf16 :=
  View.ld x0 (Rect.unit (s := S1x256x2560) (k0_off1 k) S1x32x2560.size (k0_off1_inb k))

/-- A trip stores one piece in each output. -/
theorem trip_eq (v0 v2 : Vec Ideal S1x1x2560 .f32) (k : Fin k0_t1_loop.trips) :
   tripL_k0_t1 (F := Ideal) Variants.none c none i arg2 harg2 arg3 harg3 arg4 harg4 arg5 harg5 v0 v2 (harg2.unread x0) k
   = ([⟨Rect.unit (s := S1x256x2560) (k0_off1 k) S1x32x2560.size (k0_off1_inb k), k0_pay3 (k0_pay7 (k0_pay1 v0) (k0_pay2 v2) (rows x0 k)) (Scalar.ofBits .f32 0xC3E00000#32)⟩],
      [⟨Rect.unit (s := S1x256x1) (k0_off2 k) S1x32x1.size (k0_off2_inb k), k0_pay4 (k0_pay6 (k0_pay1 v0) (k0_pay2 v2) (rows x0 k))⟩]) := by
  unfold tripL_k0_t1 trip_k0_t1
  dsimp only
  unfold trip_k0_t1.sl.r trip_k0_t1.sl.r_1 trip_k0_t1.sl.cst_18
  simp only [View.readAt_eq_ld, Memref.IsWhole.read_unread]
  rfl

/-- A trip's element of codes, placed in the block. -/
theorem emb_code (k : Fin k0_t1_loop.trips) (r : Fin 32) (n : Fin 2560) (h : 32 * k.val + r < 256) :
    (Rect.unit (s := S1x256x2560) (k0_off1 k) S1x32x2560.size (k0_off1_inb k)).emb (ix3 0 r n) = ix3 0 ⟨32 * k.val + r, h⟩ n := by
  funext a
  apply Fin.ext
  have e := k0_off1_eq k
  fin_cases a <;> simp [Rect.emb, Rect.unit, e]

/-- A trip's scale, placed in the block. -/
theorem emb_scale (k : Fin k0_t1_loop.trips) (r : Fin 32) (h : 32 * k.val + r < 256) :
    (Rect.unit (s := S1x256x1) (k0_off2 k) S1x32x1.size (k0_off2_inb k)).emb (ix3 0 r 0) = ix3 0 ⟨32 * k.val + r, h⟩ 0 := by
  funext a
  apply Fin.ext
  have e := k0_off2_eq k
  fin_cases a <;> simp [Rect.emb, Rect.unit, e]

/-- A rectangle holds what it places. -/
theorem idx_mem' {s : Shape} (R : Rect s) (j : R.shape.Idx) : R.emb j ∈ R.set := R.idx_mem j

theorem trip_lt (k : Fin k0_t1_loop.trips) (r : Fin 32) : 32 * k.val + r < 256 := by
  have := Nat.lt_of_lt_of_le k.isLt k0_t1_abs.2.1
  omega

/-- The normalised row `r` of a block. -/
abbrev nB (r : Fin 256) : Fin 2560 → EReal := norm (fun k : Fin 2560 => x0 (ix3 0 r k)) (fun k => x1 (ix3 0 0 k)) (fun k => x1 (ix3 0 1 k))

/-- The shift's and the scale's rows of the modulation block, as the body reads them. -/
abbrev row0 : Vec Ideal S1x1x2560 .f32 := View.ld x1 (Rect.unit (s := S1x12x2560) ![0, 0, 0] ![1, 1, 2560] inb_S1x12x2560_S1x1x2560_0_0_0)
abbrev row1 : Vec Ideal S1x1x2560 .f32 := View.ld x1 (Rect.unit (s := S1x12x2560) ![0, 1, 0] ![1, 1, 2560] inb_S1x12x2560_S1x1x2560_0_1_0)

theorem nP_eq (k : Fin k0_t1_loop.trips) (r : Fin 32) :
    nP (k0_pay1 (row0 x1)) (k0_pay2 (row1 x1)) (rows x0 k) r = nB x0 x1 ⟨32 * k.val + r, trip_lt k r⟩ := by
  unfold nP nB
  have e (n : Fin 2560) : rows x0 k (ix3 0 r n) = x0 (ix3 0 ⟨32 * k.val + r, trip_lt k r⟩ n) := congrArg x0 (emb_code k r n (trip_lt k r))
  have e1 (n : Fin 2560) : k0_pay1 (row0 x1) (ix2 0 n) = x1 (ix3 0 0 n) := by
    pointwise [k0_pay1]
    unfold row0
    pointwise []
  have e2 (n : Fin 2560) : k0_pay2 (row1 x1) (ix2 0 n) = x1 (ix3 0 1 n) := by
    pointwise [k0_pay2]
    unfold row1
    pointwise []
  simp only [e, e1, e2]

/-- The pieces the trips before `n` leave. -/
abbrev pbs (n : ℕ) := pb_k0_t1 (F := Ideal) Variants.none c none i arg2 harg2 arg3 harg3 arg4 harg4 arg5 harg5 (row0 x1) (row1 x1) (harg2.unread x0) n

/-- The codes of a block. -/
def codeB (y : S1x256x2560.Idx) : EReal := codeOf (scaleOf (rowMax (nB x0 x1 (y 1)))) (nB x0 x1 (y 1) (y 2))
/-- The scales of a block. -/
def scaleB (y : S1x256x1.Idx) : EReal := scaleOf (rowMax (nB x0 x1 (y 1)))

theorem trip_code (k : Fin k0_t1_loop.trips) (x : S1x32x2560.Idx) :
    k0_pay3 (k0_pay7 (k0_pay1 (row0 x1)) (k0_pay2 (row1 x1)) (rows x0 k)) (Scalar.ofBits .f32 0xC3E00000#32) x
      = codeB x0 x1 ((Rect.unit (s := S1x256x2560) (k0_off1 k) S1x32x2560.size (k0_off1_inb k)).emb x) := by
  obtain ⟨r, l, rfl⟩ : ∃ (r : Fin 32) (l : Fin 2560), x = ix3 0 r l := ⟨x 1, x 2, by
    funext a
    match a with
    | ⟨0, _⟩ => exact Subsingleton.elim (α := Fin 1) _ _
    | ⟨1, _⟩ => rfl
    | ⟨2, _⟩ => rfl⟩
  rw [emb_code k r l (trip_lt k r), code_apply, nP_eq]
  rfl

theorem trip_scale (k : Fin k0_t1_loop.trips) (x : S1x32x1.Idx) :
    k0_pay4 (k0_pay6 (k0_pay1 (row0 x1)) (k0_pay2 (row1 x1)) (rows x0 k)) x
      = scaleB x0 x1 ((Rect.unit (s := S1x256x1) (k0_off2 k) S1x32x1.size (k0_off2_inb k)).emb x) := by
  obtain ⟨r, rfl⟩ : ∃ (r : Fin 32), x = ix3 0 r 0 := ⟨x 1, by
    funext a
    match a with
    | ⟨0, _⟩ => exact Subsingleton.elim (α := Fin 1) _ _
    | ⟨1, _⟩ => rfl
    | ⟨2, _⟩ => exact Subsingleton.elim (α := Fin 1) _ _⟩
  rw [emb_scale k r (trip_lt k r)]
  show _ = scaleOf (rowMax (nB x0 x1 ⟨32 * k.val + r, trip_lt k r⟩))
  rw [← nP_eq, ← scale_apply]
  generalize k0_pay6 (k0_pay1 (row0 x1)) (k0_pay2 (row1 x1)) (rows x0 k) = M
  pointwise [k0_pay4]

/-- The trips before `n` store the codes and the scales of the first `32 * n` rows. -/
theorem pieces (n : ℕ) (hn : n ≤ k0_t1_loop.trips) :
    (View.PiecesOf (codeB x0 x1) (pbs c i arg2 harg2 arg3 harg3 arg4 harg4 arg5 harg5 x0 x1 n).1
      ∧ ∀ (r : Fin 256) (l : Fin 2560), r.val < 32 * n → ∃ p ∈ (pbs c i arg2 harg2 arg3 harg3 arg4 harg4 arg5 harg5 x0 x1 n).1, (ix3 0 r l : S1x256x2560.Idx) ∈ p.1.set)
    ∧ (View.PiecesOf (scaleB x0 x1) (pbs c i arg2 harg2 arg3 harg3 arg4 harg4 arg5 harg5 x0 x1 n).2
      ∧ ∀ r : Fin 256, r.val < 32 * n → ∃ p ∈ (pbs c i arg2 harg2 arg3 harg3 arg4 harg4 arg5 harg5 x0 x1 n).2, (ix3 0 r 0 : S1x256x1.Idx) ∈ p.1.set) := by
  induction n with
  | zero =>
    refine ⟨⟨?_, fun r l h => absurd h (by omega)⟩, ?_, fun r h => absurd h (by omega)⟩ <;> trivial
  | succ n ih =>
    obtain ⟨⟨h1, h2⟩, h3, h4⟩ := ih (by omega)
    have hs := pb_k0_t1_succ (F := Ideal) Variants.none c none i arg2 harg2 arg3 harg3 arg4 harg4 arg5 harg5 (row0 x1) (row1 x1) (harg2.unread x0) ⟨n, hn⟩
    rw [trip_eq] at hs
    unfold pbs
    unfold pbs at h1 h2 h3 h4
    rw [hs]
    refine ⟨⟨?_, fun r l h => ?_⟩, ?_, fun r h => ?_⟩
    · exact And.intro (trip_code x0 x1 ⟨n, hn⟩) h1
    rotate_left
    · refine And.intro (fun x => ?_) h3
      have h := trip_scale x0 x1 ⟨n, hn⟩ x
      revert h
      generalize k0_pay4 (k0_pay6 (k0_pay1 (row0 x1)) (k0_pay2 (row1 x1)) (rows x0 ⟨n, hn⟩)) = P
      exact fun h => h
    rotate_left
    · by_cases hr : r.val < 32 * n
      · obtain ⟨p, hp, hy⟩ := h2 r l hr
        exact ⟨p, List.mem_cons_of_mem _ hp, hy⟩
      · refine ⟨_, List.mem_cons_self, ?_⟩
        have hb : 32 * n + (r.val - 32 * n) < 256 := by omega
        have e := emb_code ⟨n, hn⟩ ⟨r.val - 32 * n, by omega⟩ l hb
        have e' : (⟨32 * n + (r.val - 32 * n), hb⟩ : Fin 256) = r := Fin.ext (show 32 * n + (r.val - 32 * n) = r.val by omega)
        have e2 := e.trans (congrArg (fun q : Fin 256 => (ix3 0 q l : S1x256x2560.Idx)) e')
        rw [← e2]
        apply idx_mem'
    · by_cases hr : r.val < 32 * n
      · obtain ⟨p, hp, hy⟩ := h4 r hr
        exact ⟨p, List.mem_cons_of_mem _ hp, hy⟩
      · refine ⟨_, List.mem_cons_self, ?_⟩
        have hb : 32 * n + (r.val - 32 * n) < 256 := by omega
        have e := emb_scale ⟨n, hn⟩ ⟨r.val - 32 * n, by omega⟩ hb
        have e' : (⟨32 * n + (r.val - 32 * n), hb⟩ : Fin 256) = r := Fin.ext (show 32 * n + (r.val - 32 * n) = r.val by omega)
        have e2 := e.trans (congrArg (fun q : Fin 256 => (ix3 0 q 0 : S1x256x1.Idx)) e')
        rw [← e2]
        apply idx_mem'

theorem trips_eq : k0_t1_loop.trips = 8 := by decide +kernel

/-- The codes a point leaves. -/
theorem out2_apply (r : Fin 256) (l : Fin 2560) :
    out0_A_2 c i arg2 harg2 arg3 harg3 arg4 harg4 arg5 harg5 x0 x1 (ix3 0 r l) = codeOf (scaleOf (rowMax (nB x0 x1 r))) (nB x0 x1 r l) := by
  unfold out0_A_2
  rw [View.read_writes_junk_eq_canon]
  unfold kernelRun0_A
  dsimp only
  simp only [View.readAt_eq_ld, Memref.IsWhole.read_unread]
  have h := (pieces c i arg2 harg2 arg3 harg3 arg4 harg4 arg5 harg5 x0 x1 _ le_rfl).1
  exact Cert.UpBlock.canon_of_pieces (e := EltTy.fp8e4m3) (codeB x0 x1) _ h.1 (ix3 0 r l) (h.2 r l (by rw [trips_eq]; omega))

/-- The scales a point leaves. -/
theorem out3_apply (r : Fin 256) :
    out0_A_3 c i arg2 harg2 arg3 harg3 arg4 harg4 arg5 harg5 x0 x1 (ix3 0 r 0) = scaleOf (rowMax (nB x0 x1 r)) := by
  unfold out0_A_3
  rw [View.read_writes_junk_eq_canon]
  unfold kernelRun0_A
  dsimp only
  simp only [View.readAt_eq_ld, Memref.IsWhole.read_unread]
  have h := (pieces c i arg2 harg2 arg3 harg3 arg4 harg4 arg5 harg5 x0 x1 _ le_rfl).2
  exact Cert.UpBlock.canon_of_pieces (e := EltTy.f32) (scaleB x0 x1) _ h.1 (ix3 0 r 0) (h.2 r (by rw [trips_eq]; omega))

variable (m : (ℓ : Loc nD τ sig) → Buf (Elt Ideal) ℓ)

/-- The normalised row `r` of batch `b`, from the arguments. -/
def nA (X : Vec Ideal S2x4096x2560 .bf16) (M : Vec Ideal S2x12x2560 .f32) (b : Fin 2) (r : Fin 4096) : Fin 2560 → EReal :=
  norm (fun k : Fin 2560 => X (ix3 b r k)) (fun k => M (ix3 b 0 k)) (fun k => M (ix3 b 1 k))

abbrev nM (c : Dev nD) : Fin 2 → Fin 4096 → Fin 2560 → EReal := nA (m ((c : Thread nD τ).loc main_arg0)) (m ((c : Thread nD τ).loc main_arg1))

/-- The block point `t` computes: batch `t / 16`, rows from `256 * (t % 16)`. -/
theorem idx : ∀ t : Fin cfg0.N, win0_0.index t = ![t.val / 16, t.val % 16, 0] ∧ win0_1.index t = ![t.val / 16, 0, 0]
    ∧ win0_2.index t = ![t.val / 16, t.val % 16, 0] ∧ win0_3.index t = ![t.val / 16, t.val % 16, 0] :=
  (by decide +kernel : ∀ t : Fin grid0.N, _)

/-- A block's normalised row is the arguments'. -/
theorem nB_eq (c : Dev nD) (t : Fin cfg0.N) (r : Fin 256) (b : Fin 2) (R : Fin 4096)
    (hb : (b : ℕ) = t.val / 16) (hR : (R : ℕ) = t.val % 16 * 256 + r) : nB (iblk m c 0 t) (iblk m c 1 t) r = nM m c b R := by
  have e0 (k : Fin 2560) : iblk m c 0 t (ix3 0 r k) = m ((c : Thread nD τ).loc main_arg0) (ix3 b R k) := by blk_ext [iblk, V, idx t]
  have e1 (k : Fin 2560) : iblk m c 1 t (ix3 0 0 k) = m ((c : Thread nD τ).loc main_arg1) (ix3 b 0 k) := by blk_ext [iblk, V, idx t]
  have e2 (k : Fin 2560) : iblk m c 1 t (ix3 0 1 k) = m ((c : Thread nD τ).loc main_arg1) (ix3 b 1 k) := by blk_ext [iblk, V, idx t]
  unfold nM nA nB
  simp only [e0, e1, e2]

/-- The array of codes after the run. -/
theorem out2 (c : Dev nD) : (dats m 0 c).arrAt 2 cfg0.N
    = fun y : S2x4096x2560.Idx => codeOf (scaleOf (rowMax (nM m c (y 0) (y 1)))) (nM m c (y 0) (y 1) (y 2)) := by
  refine (dats m 0 c).arrAt_eq_of_covers 2 _ (by decide +kernel) fun t hf y => ?_
  rw [after0_2]
  blk_simp
  obtain ⟨r, n, rfl⟩ : ∃ (r : Fin 256) (n : Fin 2560), y = (ix3 0 r n : S1x256x2560.Idx) := ⟨y 1, y 2, by
    funext a
    match a with
    | ⟨0, _⟩ => exact Subsingleton.elim (α := Fin 1) _ _
    | ⟨1, _⟩ => rfl
    | ⟨2, _⟩ => rfl⟩
  unfold outsAt0
  dsimp only
  rw [out2_apply, nB_eq m c t r ((win0_2.blk t).view.emb (ix3 0 r n : S1x256x2560.Idx) 0) ((win0_2.blk t).view.emb (ix3 0 r n : S1x256x2560.Idx) 1)
    (by blk_simp [idx t]; exact Nat.add_zero _) (by blk_simp [idx t])]
  have e : (win0_2.blk t).view.emb (ix3 0 r n : S1x256x2560.Idx) 2 = n := Fin.ext (by blk_simp [idx t])
  rw [e]

/-- The array of scales after the run. -/
theorem out3 (c : Dev nD) : (dats m 0 c).arrAt 3 cfg0.N = fun y : S2x4096x1.Idx => scaleOf (rowMax (nM m c (y 0) (y 1))) := by
  refine (dats m 0 c).arrAt_eq_of_covers 3 _ (by decide +kernel) fun t hf y => ?_
  rw [after0_3]
  blk_simp
  obtain ⟨r, rfl⟩ : ∃ r : Fin 256, y = (ix3 0 r 0 : S1x256x1.Idx) := ⟨y 1, by
    funext a
    match a with
    | ⟨0, _⟩ => exact Subsingleton.elim (α := Fin 1) _ _
    | ⟨1, _⟩ => rfl
    | ⟨2, _⟩ => exact Subsingleton.elim (α := Fin 1) _ _⟩
  unfold outsAt0
  dsimp only
  rw [out3_apply, nB_eq m c t r ((win0_3.blk t).view.emb (ix3 0 r 0 : S1x256x1.Idx) 0) ((win0_3.blk t).view.emb (ix3 0 r 0 : S1x256x1.Idx) 1)
    (by blk_simp [idx t]; exact Nat.add_zero _) (by blk_simp [idx t])]

end Cert.LnImBlock
end
-- ==== Proof.LnImRefValue.lean ====
/- The two arrays the reference of the image rows' layer norm leaves after the run: the same functions of its arguments. -/
module

public import proofs.«01_k».proof.Proof.Gen.LnImRefIdeal.Value
public import proofs.«01_k».proof.Proof.UpBlock
public import proofs.«01_k».proof.Proof.LnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnImRefValue

open Idealize.ShloMosaic Idealize.ShloMosaic.TcCoe Idealize.SL.Sem Cert.LnImRefIdeal Cert.LnImRefIdeal.Gen Cert.Quant
open Cert.LnMath (norm)

section quantiser
variable (H : FVec Ideal S4096x2560 .f32)

/-- The scales of the rows of `H`. -/
def scalesOf : FVec Ideal S4096x1 .f32 :=
  select (cmpf .oeq (shapeCast S4096x1 (multiReduction (F := Ideal) .maximumf [1] S4096 (absf H) 0xFF800000#32 reduces_S4096x2560_S4096 (.inl rfl) rfl) shapeCasts_S4096_S4096x1) (broadcast S4096x1 (Scalar.ofBits .f32 0x00000000#32)))
    (broadcast S4096x1 (Scalar.ofBits .f32 0x3F800000#32))
    (divf (shapeCast S4096x1 (multiReduction (F := Ideal) .maximumf [1] S4096 (absf H) 0xFF800000#32 reduces_S4096x2560_S4096 (.inl rfl) rfl) shapeCasts_S4096_S4096x1) (broadcast S4096x1 (Scalar.ofBits .f32 0x43E00000#32)))

theorem scalesOf_apply (r : Fin 4096) : scalesOf H (ix2 r 0) = scaleOf (rowMax fun k : Fin 2560 => H (ix2 r k)) := by
  have e : multiReduction (F := Ideal) .maximumf [1] S4096 (absf H) 0xFF800000#32 reduces_S4096x2560_S4096 (.inl rfl) rfl (ix1 r)
      = rowMax fun k : Fin 2560 => H (ix2 r k) := by
    refine (rowmax_apply _ _ _ _ r).trans ?_
    rfl
  rw [← e]
  unfold scalesOf
  generalize multiReduction (F := Ideal) .maximumf [1] S4096 (absf H) 0xFF800000#32 reduces_S4096x2560_S4096 (.inl rfl) rfl = M
  have e : shapeCast S4096x1 M shapeCasts_S4096_S4096x1 (ix2 r 0) = M (ix1 r) := by pointwise []
  rw [← e]
  clear e
  generalize shapeCast S4096x1 M shapeCasts_S4096_S4096x1 = K
  exact scale_vec K (ix2 r 0)

/-- The codes of the rows of `H`. -/
def codesOf : FVec Ideal S1x4096x2560 .fp8e4m3 :=
  k0_pay8 (divf H (broadcastTo S4096x2560 (scalesOf H) broadcasts_S4096x1_S4096x2560)) (Scalar.ofBits .f32 0xC3E00000#32)

theorem clip_lay (Q : FVec Ideal S4096x2560 .f32) (r : Fin 4096) (n : Fin 2560) :
    k0_pay8 Q (Scalar.ofBits .f32 0xC3E00000#32) (ix3 0 r n) = min top8 (max bot8 (Q (ix2 r n))) := by
  pointwise [k0_pay8]

theorem quot_lay (K : FVec Ideal S4096x1 .f32) (r : Fin 4096) (n : Fin 2560) :
    divf H (broadcastTo S4096x2560 K broadcasts_S4096x1_S4096x2560) (ix2 r n) = Ideal.div (H (ix2 r n)) (K (ix2 r 0)) := by
  pointwise []

theorem codesOf_apply (r : Fin 4096) (n : Fin 2560) : codesOf H (ix3 0 r n) = codeOf (scaleOf (rowMax fun k : Fin 2560 => H (ix2 r k))) (H (ix2 r n)) := by
  unfold codesOf
  rw [clip_lay, quot_lay, scalesOf_apply, codeOf]

end quantiser

/-- A batch's element of codes, placed in the array. -/
theorem emb_code (o : ℕ) (h : ∀ a, (![o, 0, 0] : Fin 3 → ℕ) a + (![1, 4096, 2560] : Fin 3 → ℕ) a ≤ S2x4096x2560.size a) (ho : o < 2)
    (r : Fin 4096) (n : Fin 2560) : (Rect.unit (s := S2x4096x2560) ![o, 0, 0] ![1, 4096, 2560] h).emb (ix3 0 r n) = ix3 ⟨o, ho⟩ r n := by
  funext a
  apply Fin.ext
  fin_cases a <;> simp [Rect.emb, Rect.unit]

/-- A batch's scale, placed in the array. -/
theorem emb_scale (o : ℕ) (h : ∀ a, (![o, 0, 0] : Fin 3 → ℕ) a + (![1, 4096, 1] : Fin 3 → ℕ) a ≤ S2x4096x1.size a) (ho : o < 2)
    (r : Fin 4096) : (Rect.unit (s := S2x4096x1) ![o, 0, 0] ![1, 4096, 1] h).emb (ix3 0 r 0) = ix3 ⟨o, ho⟩ r 0 := by
  funext a
  apply Fin.ext
  fin_cases a <;> simp [Rect.emb, Rect.unit]

variable (x0 : Vec Ideal S2x4096x2560 .bf16) (x1 x2 : Vec Ideal S2x1x2560 .f32)

/-- The normalised row `r` of batch `b`. -/
def nB (b : Fin 2) (r : Fin 4096) : Fin 2560 → EReal :=
  norm (fun k : Fin 2560 => x0 (ix3 b r k)) (fun k => x1 (ix3 b 0 k)) (fun k => x2 (ix3 b 0 k))

theorem norm0 (r : Fin 4096) (n : Fin 2560) : k0_pay5 (View.ld x0 r0_0) (View.ld x1 r0_1) (View.ld x2 r0_1) (ix2 r n) = nB x0 x1 x2 0 r n := by
  pointwise [k0_pay5]
  rfl

theorem norm1 (r : Fin 4096) (n : Fin 2560) : k0_pay1 (k0_pay13 x0 x1 x2) (k0_pay14 x0 x1 x2) (k0_pay15 x0 x1 x2) (ix2 r n) = nB x0 x1 x2 1 r n := by
  pointwise [k0_pay1, k0_pay13, k0_pay14, k0_pay15, k0_pay10, k0_pay11, k0_pay12]
  rfl

theorem code0 (r : Fin 4096) (n : Fin 2560) : k0_pay8 (k0_pay7 (View.ld x0 r0_0) (View.ld x1 r0_1) (View.ld x2 r0_1)) (Scalar.ofBits .f32 0xC3E00000#32) (ix3 0 r n)
    = codeOf (scaleOf (rowMax (nB x0 x1 x2 0 r))) (nB x0 x1 x2 0 r n) := by
  refine (codesOf_apply (k0_pay5 (View.ld x0 r0_0) (View.ld x1 r0_1) (View.ld x2 r0_1)) r n).trans ?_
  simp only [norm0]

theorem code1 (r : Fin 4096) (n : Fin 2560) : k0_pay3 (k0_pay13 x0 x1 x2) (k0_pay14 x0 x1 x2) (k0_pay15 x0 x1 x2) (ix3 0 r n)
    = codeOf (scaleOf (rowMax (nB x0 x1 x2 1 r))) (nB x0 x1 x2 1 r n) := by
  refine (codesOf_apply (k0_pay1 (k0_pay13 x0 x1 x2) (k0_pay14 x0 x1 x2) (k0_pay15 x0 x1 x2)) r n).trans ?_
  simp only [norm1]

theorem scale0 (r : Fin 4096) : k0_pay9 (k0_pay6 (View.ld x0 r0_0) (View.ld x1 r0_1) (View.ld x2 r0_1)) (ix3 0 r 0) = scaleOf (rowMax (nB x0 x1 x2 0 r)) := by
  have h := scalesOf_apply (k0_pay5 (View.ld x0 r0_0) (View.ld x1 r0_1) (View.ld x2 r0_1)) r
  simp only [norm0] at h
  rw [show k0_pay6 (View.ld x0 r0_0) (View.ld x1 r0_1) (View.ld x2 r0_1) = scalesOf (k0_pay5 (View.ld x0 r0_0) (View.ld x1 r0_1) (View.ld x2 r0_1)) from rfl]
  refine Eq.trans ?_ h
  generalize scalesOf (k0_pay5 (View.ld x0 r0_0) (View.ld x1 r0_1) (View.ld x2 r0_1)) = K
  pointwise [k0_pay9]

theorem scale1 (r : Fin 4096) : k0_pay4 (k0_pay13 x0 x1 x2) (k0_pay14 x0 x1 x2) (k0_pay15 x0 x1 x2) (ix3 0 r 0) = scaleOf (rowMax (nB x0 x1 x2 1 r)) := by
  have h := scalesOf_apply (k0_pay1 (k0_pay13 x0 x1 x2) (k0_pay14 x0 x1 x2) (k0_pay15 x0 x1 x2)) r
  simp only [norm1] at h
  rw [show k0_pay4 (k0_pay13 x0 x1 x2) (k0_pay14 x0 x1 x2) (k0_pay15 x0 x1 x2) = k0_pay9 (scalesOf (k0_pay1 (k0_pay13 x0 x1 x2) (k0_pay14 x0 x1 x2) (k0_pay15 x0 x1 x2))) from rfl]
  refine Eq.trans ?_ h
  generalize scalesOf (k0_pay1 (k0_pay13 x0 x1 x2) (k0_pay14 x0 x1 x2) (k0_pay15 x0 x1 x2)) = K
  pointwise [k0_pay9]

/-- The codes of the whole array. -/
def codeB (y : S2x4096x2560.Idx) : EReal := codeOf (scaleOf (rowMax (nB x0 x1 x2 (y 0) (y 1)))) (nB x0 x1 x2 (y 0) (y 1) (y 2))
/-- The scales of the whole array. -/
def scaleB (y : S2x4096x1.Idx) : EReal := scaleOf (rowMax (nB x0 x1 x2 (y 0) (y 1)))

theorem out3_apply (y : S2x4096x2560.Idx) : out0_3 x0 x1 x2 y = codeB x0 x1 x2 y := by
  unfold out0_3
  have h0 := code0 x0 x1 x2
  have h1 := code1 x0 x1 x2
  generalize k0_pay8 (k0_pay7 (View.ld x0 r0_0) (View.ld x1 r0_1) (View.ld x2 r0_1)) (Scalar.ofBits .f32 0xC3E00000#32) = P0 at h0 ⊢
  generalize k0_pay3 (k0_pay13 x0 x1 x2) (k0_pay14 x0 x1 x2) (k0_pay15 x0 x1 x2) = P1 at h1 ⊢
  refine Cert.UpBlock.canon_of_pieces (e := EltTy.fp8e4m3) (codeB x0 x1 x2) _ ?_ y ?_
  · refine ⟨?_, ?_, trivial⟩
    all_goals
      intro x
      obtain ⟨r, n, rfl⟩ : ∃ (r : Fin 4096) (n : Fin 2560), x = ix3 0 r n := ⟨x 1, x 2, by
        funext a
        match a with
        | ⟨0, _⟩ => exact Subsingleton.elim (α := Fin 1) _ _
        | ⟨1, _⟩ => rfl
        | ⟨2, _⟩ => rfl⟩
      rw [emb_code _ _ (by omega)]
    · exact h1 r n
    · exact h0 r n
  · exact View.cover_of_tiledL (s := S2x4096x2560) _ (![1, 4096, 2560]) (by sl_kernel_rfl) _

theorem out4_apply (y : S2x4096x1.Idx) : out0_4 x0 x1 x2 y = scaleB x0 x1 x2 y := by
  unfold out0_4
  have h0 := scale0 x0 x1 x2
  have h1 := scale1 x0 x1 x2
  generalize k0_pay9 (k0_pay6 (View.ld x0 r0_0) (View.ld x1 r0_1) (View.ld x2 r0_1)) = P0 at h0 ⊢
  generalize k0_pay4 (k0_pay13 x0 x1 x2) (k0_pay14 x0 x1 x2) (k0_pay15 x0 x1 x2) = P1 at h1 ⊢
  refine Cert.UpBlock.canon_of_pieces (e := EltTy.f32) (scaleB x0 x1 x2) _ ?_ y ?_
  · refine ⟨?_, ?_, trivial⟩
    all_goals
      intro x
      obtain ⟨r, rfl⟩ : ∃ (r : Fin 4096), x = ix3 0 r 0 := ⟨x 1, by
        funext a
        match a with
        | ⟨0, _⟩ => exact Subsingleton.elim (α := Fin 1) _ _
        | ⟨1, _⟩ => rfl
        | ⟨2, _⟩ => exact Subsingleton.elim (α := Fin 1) _ _⟩
      rw [emb_scale _ _ (by omega)]
    · exact h1 r
    · exact h0 r
  · exact View.cover_of_tiledL (s := S2x4096x1) _ (![1, 4096, 1]) (by sl_kernel_rfl) _

variable (m : (ℓ : Loc nD τ sig) → Buf (Elt Ideal) ℓ)

/-- The normalised row `r` of batch `b`, from the arguments. -/
def nA (X : Vec Ideal S2x4096x2560 .bf16) (M : Vec Ideal S2x12x2560 .f32) (b : Fin 2) (r : Fin 4096) : Fin 2560 → EReal :=
  norm (fun k : Fin 2560 => X (ix3 b r k)) (fun k => M (ix3 b 0 k)) (fun k => M (ix3 b 1 k))

abbrev nM (c : Dev nD) : Fin 2 → Fin 4096 → Fin 2560 → EReal := nA (m ((c : Thread nD τ).loc main_arg0)) (m ((c : Thread nD τ).loc main_arg1))

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] :=
  (by decide +kernel : ∀ t : Fin grid0.N, _)

theorem hostShift (c : Dev nD) (b : Fin 2) (n : Fin 2560) : V m c main_v0 (ix3 b 0 n : S2x1x2560.Idx) = m ((c : Thread nD τ).loc main_arg1) (ix3 b 0 n) := by
  unfold V hostOps0
  simp only [StableHlo.after_cons, StableHlo.after_nil]
  rw [StableHlo.unary_result_ne (h := by decide), StableHlo.unary_result]
  pointwise []

theorem hostScale (c : Dev nD) (b : Fin 2) (n : Fin 2560) : V m c main_v1 (ix3 b 0 n : S2x1x2560.Idx) = m ((c : Thread nD τ).loc main_arg1) (ix3 b 1 n) := by
  unfold V hostOps0
  simp only [StableHlo.after_cons, StableHlo.after_nil]
  rw [StableHlo.unary_result, StableHlo.unary_result_ne (h := by decide)]
  pointwise []

theorem nB_eq (c : Dev nD) (t : Fin cfg0.N) : nB (iblk m c 0 t) (iblk m c 1 t) (iblk m c 2 t) = nM m c := by
  funext b r
  have e0 (k : Fin 2560) : iblk m c 0 t (ix3 b r k) = m ((c : Thread nD τ).loc main_arg0) (ix3 b r k) := by
    refine Eq.trans ?_ (congrFun (V_main_arg0 m c) _)
    blk_ext [iblk, idx t]
  have e1 (k : Fin 2560) : iblk m c 1 t (ix3 b 0 k) = m ((c : Thread nD τ).loc main_arg1) (ix3 b 0 k) := by
    refine Eq.trans ?_ (hostShift m c b k)
    blk_ext [iblk, idx t]
  have e2 (k : Fin 2560) : iblk m c 2 t (ix3 b 0 k) = m ((c : Thread nD τ).loc main_arg1) (ix3 b 1 k) := by
    refine Eq.trans ?_ (hostScale m c b k)
    blk_ext [iblk, idx t]
  unfold nM nA nB
  simp only [e0, e1, e2]

/-- The array of codes after the run. -/
theorem out3 (c : Dev nD) : (dats m 0 c).arrAt 3 cfg0.N
    = fun y : S2x4096x2560.Idx => codeOf (scaleOf (rowMax (nM m c (y 0) (y 1)))) (nM m c (y 0) (y 1) (y 2)) := by
  refine (dats m 0 c).arrAt_eq_of_covers 3 _ (by decide +kernel) fun t hf y => ?_
  rw [after0_3]
  blk_simp
  have e : (win0_3.blk t).view.emb (y : S2x4096x2560.Idx) = y := by
    obtain ⟨b, r, n, rfl⟩ : ∃ (b : Fin 2) (r : Fin 4096) (n : Fin 2560), y = (ix3 b r n : S2x4096x2560.Idx) :=
      ⟨y 0, y 1, y 2, by ext a; fin_cases a <;> rfl⟩
    blk_ext [idx t]
  rw [e, out3_apply]
  unfold codeB
  rw [nB_eq]

/-- The array of scales after the run. -/
theorem out4 (c : Dev nD) : (dats m 0 c).arrAt 4 cfg0.N = fun y : S2x4096x1.Idx => scaleOf (rowMax (nM m c (y 0) (y 1))) := by
  refine (dats m 0 c).arrAt_eq_of_covers 4 _ (by decide +kernel) fun t hf y => ?_
  rw [after0_4]
  blk_simp
  have e : (win0_4.blk t).view.emb (y : S2x4096x1.Idx) = y := by
    obtain ⟨b, r, n, rfl⟩ : ∃ (b : Fin 2) (r : Fin 4096) (n : Fin 1), y = (ix3 b r n : S2x4096x1.Idx) :=
      ⟨y 0, y 1, y 2, by ext a; fin_cases a <;> rfl⟩
    blk_ext [idx t]
  rw [e, out4_apply]
  unfold scaleB
  rw [nB_eq]

end Cert.LnImRefValue
end
-- ==== Proof.LnTxBlock.lean ====
/- What one grid point of the text rows' layer norm leaves in its two output blocks, and the arrays after the run. The body
   is a loop of eight trips of 32 rows: the rows are normalised, scaled and shifted, and quantised. -/
module
public import proofs.«01_k».proof.Proof.Gen.LnTxIdeal.Value
public import proofs.«01_k».proof.Proof.UpBlock
public import proofs.«01_k».proof.Proof.LnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnTxBlock

open Idealize.ShloMosaic Idealize.ShloMosaic.TcCoe Idealize.SL.Sem Cert.LnTxIdeal Cert.LnTxIdeal.Gen Cert.Quant
open Cert.LnMath (norm norm_eq)

section payloads
variable (v1 v3 : Vec Ideal S1x2560 .f32) (v8 : Vec Ideal S1x32x2560 .bf16)

/-- The normalised row `r` of a trip. -/
abbrev nP (r : Fin 32) : Fin 2560 → EReal := norm (fun k : Fin 2560 => v8 (ix3 0 r k)) (fun k => v1 (ix2 0 k)) (fun k => v3 (ix2 0 k))

/-- The payload that normalises. -/
theorem norm_apply (r : Fin 32) (n : Fin 2560) : k0_pay5 v1 v3 v8 (ix2 r n) = nP v1 v3 v8 r n := by
  unfold nP
  rw [← norm_eq]
  pointwise [k0_pay5]
  rfl

theorem scale_lay (r : Fin 32) : k0_pay6 v1 v3 v8 (ix2 r 0) = scaleOf (multiReduction (F := Ideal) .maximumf [1] S32 (absf (k0_pay5 v1 v3 v8)) 0xFF800000#32 reduces_S32x2560_S32 (.inl rfl) rfl (ix1 r)) := by
  unfold k0_pay6
  generalize multiReduction (F := Ideal) .maximumf [1] S32 (absf (k0_pay5 v1 v3 v8)) 0xFF800000#32 reduces_S32x2560_S32 (.inl rfl) rfl = M
  have e : shapeCast S32x1 M shapeCasts_S32_S32x1 (ix2 r 0) = M (ix1 r) := by pointwise []
  rw [← e]
  clear e
  generalize shapeCast S32x1 M shapeCasts_S32_S32x1 = K
  exact scale_vec K (ix2 r 0)

/-- The payload that is stored as scales. -/
theorem scale_apply (r : Fin 32) : k0_pay6 v1 v3 v8 (ix2 r 0) = scaleOf (rowMax (nP v1 v3 v8 r)) := by
  have e : multiReduction (F := Ideal) .maximumf [1] S32 (absf (k0_pay5 v1 v3 v8)) 0xFF800000#32 reduces_S32x2560_S32 (.inl rfl) rfl (ix1 r)
      = rowMax (nP v1 v3 v8 r) := by
    refine (rowmax_apply _ _ _ _ r).trans ?_
    unfold rowMax
    refine congrArg (fun f => Finset.fold max ⊥ f Finset.univ) (funext fun k => ?_)
    rw [← norm_apply]
    rfl
  rw [scale_lay, e]

/-- The payload that is stored as codes. -/
theorem code_apply (r : Fin 32) (n : Fin 2560) : k0_pay3 (k0_pay7 v1 v3 v8) (Scalar.ofBits .f32 0xC3E00000#32) (ix3 0 r n)
    = codeOf (scaleOf (rowMax (nP v1 v3 v8 r))) (nP v1 v3 v8 r n) := by
  rw [← scale_apply, ← norm_apply]
  have h := mul_inv_scale (k0_pay5 v1 v3 v8 (ix2 r n)) (rowMax (nP v1 v3 v8 r))
  rw [← scale_apply] at h
  unfold codeOf
  rw [← h]
  unfold k0_pay7
  generalize k0_pay6 v1 v3 v8 = M
  generalize k0_pay5 v1 v3 v8 = H
  pointwise [k0_pay3]

end payloads
variable (c : Dev nD) (i : grid0.Coords) (arg2 : Memref sig .tc .vmem S1x256x2560 .bf16) (harg2 : arg2.IsWhole) (arg3 : Memref sig .tc .vmem S1x12x2560 .f32) (harg3 : arg3.IsWhole) (arg4 : Memref sig .tc .vmem S1x256x2560 .fp8e4m3) (harg4 : arg4.IsWhole) (arg5 : Memref sig .tc .vmem S1x256x1 .f32) (harg5 : arg5.IsWhole)
    (x0 : Vec Ideal S1x256x2560 .bf16) (x1 : Vec Ideal S1x12x2560 .f32)

/-- The rows trip `k` reads. -/
def rows (k : Fin k0_t1_loop.trips) : Vec Ideal S1x32x2560 .bf16 :=
  View.ld x0 (Rect.unit (s := S1x256x2560) (k0_off1 k) S1x32x2560.size (k0_off1_inb k))

/-- A trip stores one piece in each output. -/
theorem trip_eq (v0 v2 : Vec Ideal S1x1x2560 .f32) (k : Fin k0_t1_loop.trips) :
   tripL_k0_t1 (F := Ideal) Variants.none c none i arg2 harg2 arg3 harg3 arg4 harg4 arg5 harg5 v0 v2 (harg2.unread x0) k
   = ([⟨Rect.unit (s := S1x256x2560) (k0_off1 k) S1x32x2560.size (k0_off1_inb k), k0_pay3 (k0_pay7 (k0_pay1 v0) (k0_pay2 v2) (rows x0 k)) (Scalar.ofBits .f32 0xC3E00000#32)⟩],
      [⟨Rect.unit (s := S1x256x1) (k0_off2 k) S1x32x1.size (k0_off2_inb k), k0_pay4 (k0_pay6 (k0_pay1 v0) (k0_pay2 v2) (rows x0 k))⟩]) := by
  unfold tripL_k0_t1 trip_k0_t1
  dsimp only
  unfold trip_k0_t1.sl.r trip_k0_t1.sl.r_1 trip_k0_t1.sl.cst_17
  simp only [View.readAt_eq_ld, Memref.IsWhole.read_unread]
  rfl

/-- A trip's element of codes, placed in the block. -/
theorem emb_code (k : Fin k0_t1_loop.trips) (r : Fin 32) (n : Fin 2560) (h : 32 * k.val + r < 256) :
    (Rect.unit (s := S1x256x2560) (k0_off1 k) S1x32x2560.size (k0_off1_inb k)).emb (ix3 0 r n) = ix3 0 ⟨32 * k.val + r, h⟩ n := by
  funext a
  apply Fin.ext
  have e := k0_off1_eq k
  fin_cases a <;> simp [Rect.emb, Rect.unit, e]

/-- A trip's scale, placed in the block. -/
theorem emb_scale (k : Fin k0_t1_loop.trips) (r : Fin 32) (h : 32 * k.val + r < 256) :
    (Rect.unit (s := S1x256x1) (k0_off2 k) S1x32x1.size (k0_off2_inb k)).emb (ix3 0 r 0) = ix3 0 ⟨32 * k.val + r, h⟩ 0 := by
  funext a
  apply Fin.ext
  have e := k0_off2_eq k
  fin_cases a <;> simp [Rect.emb, Rect.unit, e]

/-- A rectangle holds what it places. -/
theorem idx_mem' {s : Shape} (R : Rect s) (j : R.shape.Idx) : R.emb j ∈ R.set := R.idx_mem j

theorem trip_lt (k : Fin k0_t1_loop.trips) (r : Fin 32) : 32 * k.val + r < 256 := by
  have := Nat.lt_of_lt_of_le k.isLt k0_t1_abs.2.1
  omega

/-- The normalised row `r` of a block. -/
abbrev nB (r : Fin 256) : Fin 2560 → EReal := norm (fun k : Fin 2560 => x0 (ix3 0 r k)) (fun k => x1 (ix3 0 6 k)) (fun k => x1 (ix3 0 7 k))

/-- The shift's and the scale's rows of the modulation block, as the body reads them. -/
abbrev row0 : Vec Ideal S1x1x2560 .f32 := View.ld x1 (Rect.unit (s := S1x12x2560) ![0, 6, 0] ![1, 1, 2560] inb_S1x12x2560_S1x1x2560_0_6_0)
abbrev row1 : Vec Ideal S1x1x2560 .f32 := View.ld x1 (Rect.unit (s := S1x12x2560) ![0, 7, 0] ![1, 1, 2560] inb_S1x12x2560_S1x1x2560_0_7_0)

theorem nP_eq (k : Fin k0_t1_loop.trips) (r : Fin 32) :
    nP (k0_pay1 (row0 x1)) (k0_pay2 (row1 x1)) (rows x0 k) r = nB x0 x1 ⟨32 * k.val + r, trip_lt k r⟩ := by
  unfold nP nB
  have e (n : Fin 2560) : rows x0 k (ix3 0 r n) = x0 (ix3 0 ⟨32 * k.val + r, trip_lt k r⟩ n) := congrArg x0 (emb_code k r n (trip_lt k r))
  have e1 (n : Fin 2560) : k0_pay1 (row0 x1) (ix2 0 n) = x1 (ix3 0 6 n) := by
    pointwise [k0_pay1]
    unfold row0
    pointwise []
  have e2 (n : Fin 2560) : k0_pay2 (row1 x1) (ix2 0 n) = x1 (ix3 0 7 n) := by
    pointwise [k0_pay2]
    unfold row1
    pointwise []
  simp only [e, e1, e2]

/-- The pieces the trips before `n` leave. -/
abbrev pbs (n : ℕ) := pb_k0_t1 (F := Ideal) Variants.none c none i arg2 harg2 arg3 harg3 arg4 harg4 arg5 harg5 (row0 x1) (row1 x1) (harg2.unread x0) n

/-- The codes of a block. -/
def codeB (y : S1x256x2560.Idx) : EReal := codeOf (scaleOf (rowMax (nB x0 x1 (y 1)))) (nB x0 x1 (y 1) (y 2))
/-- The scales of a block. -/
def scaleB (y : S1x256x1.Idx) : EReal := scaleOf (rowMax (nB x0 x1 (y 1)))

theorem trip_code (k : Fin k0_t1_loop.trips) (x : S1x32x2560.Idx) :
    k0_pay3 (k0_pay7 (k0_pay1 (row0 x1)) (k0_pay2 (row1 x1)) (rows x0 k)) (Scalar.ofBits .f32 0xC3E00000#32) x
      = codeB x0 x1 ((Rect.unit (s := S1x256x2560) (k0_off1 k) S1x32x2560.size (k0_off1_inb k)).emb x) := by
  obtain ⟨r, l, rfl⟩ : ∃ (r : Fin 32) (l : Fin 2560), x = ix3 0 r l := ⟨x 1, x 2, by
    funext a
    match a with
    | ⟨0, _⟩ => exact Subsingleton.elim (α := Fin 1) _ _
    | ⟨1, _⟩ => rfl
    | ⟨2, _⟩ => rfl⟩
  rw [emb_code k r l (trip_lt k r), code_apply, nP_eq]
  rfl

theorem trip_scale (k : Fin k0_t1_loop.trips) (x : S1x32x1.Idx) :
    k0_pay4 (k0_pay6 (k0_pay1 (row0 x1)) (k0_pay2 (row1 x1)) (rows x0 k)) x
      = scaleB x0 x1 ((Rect.unit (s := S1x256x1) (k0_off2 k) S1x32x1.size (k0_off2_inb k)).emb x) := by
  obtain ⟨r, rfl⟩ : ∃ (r : Fin 32), x = ix3 0 r 0 := ⟨x 1, by
    funext a
    match a with
    | ⟨0, _⟩ => exact Subsingleton.elim (α := Fin 1) _ _
    | ⟨1, _⟩ => rfl
    | ⟨2, _⟩ => exact Subsingleton.elim (α := Fin 1) _ _⟩
  rw [emb_scale k r (trip_lt k r)]
  show _ = scaleOf (rowMax (nB x0 x1 ⟨32 * k.val + r, trip_lt k r⟩))
  rw [← nP_eq, ← scale_apply]
  generalize k0_pay6 (k0_pay1 (row0 x1)) (k0_pay2 (row1 x1)) (rows x0 k) = M
  pointwise [k0_pay4]

/-- The trips before `n` store the codes and the scales of the first `32 * n` rows. -/
theorem pieces (n : ℕ) (hn : n ≤ k0_t1_loop.trips) :
    (View.PiecesOf (codeB x0 x1) (pbs c i arg2 harg2 arg3 harg3 arg4 harg4 arg5 harg5 x0 x1 n).1
      ∧ ∀ (r : Fin 256) (l : Fin 2560), r.val < 32 * n → ∃ p ∈ (pbs c i arg2 harg2 arg3 harg3 arg4 harg4 arg5 harg5 x0 x1 n).1, (ix3 0 r l : S1x256x2560.Idx) ∈ p.1.set)
    ∧ (View.PiecesOf (scaleB x0 x1) (pbs c i arg2 harg2 arg3 harg3 arg4 harg4 arg5 harg5 x0 x1 n).2
      ∧ ∀ r : Fin 256, r.val < 32 * n → ∃ p ∈ (pbs c i arg2 harg2 arg3 harg3 arg4 harg4 arg5 harg5 x0 x1 n).2, (ix3 0 r 0 : S1x256x1.Idx) ∈ p.1.set) := by
  induction n with
  | zero =>
    refine ⟨⟨?_, fun r l h => absurd h (by omega)⟩, ?_, fun r h => absurd h (by omega)⟩ <;> trivial
  | succ n ih =>
    obtain ⟨⟨h1, h2⟩, h3, h4⟩ := ih (by omega)
    have hs := pb_k0_t1_succ (F := Ideal) Variants.none c none i arg2 harg2 arg3 harg3 arg4 harg4 arg5 harg5 (row0 x1) (row1 x1) (harg2.unread x0) ⟨n, hn⟩
    rw [trip_eq] at hs
    unfold pbs
    unfold pbs at h1 h2 h3 h4
    rw [hs]
    refine ⟨⟨?_, fun r l h => ?_⟩, ?_, fun r h => ?_⟩
    · exact And.intro (trip_code x0 x1 ⟨n, hn⟩) h1
    rotate_left
    · refine And.intro (fun x => ?_) h3
      have h := trip_scale x0 x1 ⟨n, hn⟩ x
      revert h
      generalize k0_pay4 (k0_pay6 (k0_pay1 (row0 x1)) (k0_pay2 (row1 x1)) (rows x0 ⟨n, hn⟩)) = P
      exact fun h => h
    rotate_left
    · by_cases hr : r.val < 32 * n
      · obtain ⟨p, hp, hy⟩ := h2 r l hr
        exact ⟨p, List.mem_cons_of_mem _ hp, hy⟩
      · refine ⟨_, List.mem_cons_self, ?_⟩
        have hb : 32 * n + (r.val - 32 * n) < 256 := by omega
        have e := emb_code ⟨n, hn⟩ ⟨r.val - 32 * n, by omega⟩ l hb
        have e' : (⟨32 * n + (r.val - 32 * n), hb⟩ : Fin 256) = r := Fin.ext (show 32 * n + (r.val - 32 * n) = r.val by omega)
        have e2 := e.trans (congrArg (fun q : Fin 256 => (ix3 0 q l : S1x256x2560.Idx)) e')
        rw [← e2]
        apply idx_mem'
    · by_cases hr : r.val < 32 * n
      · obtain ⟨p, hp, hy⟩ := h4 r hr
        exact ⟨p, List.mem_cons_of_mem _ hp, hy⟩
      · refine ⟨_, List.mem_cons_self, ?_⟩
        have hb : 32 * n + (r.val - 32 * n) < 256 := by omega
        have e := emb_scale ⟨n, hn⟩ ⟨r.val - 32 * n, by omega⟩ hb
        have e' : (⟨32 * n + (r.val - 32 * n), hb⟩ : Fin 256) = r := Fin.ext (show 32 * n + (r.val - 32 * n) = r.val by omega)
        have e2 := e.trans (congrArg (fun q : Fin 256 => (ix3 0 q 0 : S1x256x1.Idx)) e')
        rw [← e2]
        apply idx_mem'

theorem trips_eq : k0_t1_loop.trips = 8 := by decide +kernel

/-- The codes a point leaves. -/
theorem out2_apply (r : Fin 256) (l : Fin 2560) :
    out0_A_2 c i arg2 harg2 arg3 harg3 arg4 harg4 arg5 harg5 x0 x1 (ix3 0 r l) = codeOf (scaleOf (rowMax (nB x0 x1 r))) (nB x0 x1 r l) := by
  unfold out0_A_2
  rw [View.read_writes_junk_eq_canon]
  unfold kernelRun0_A
  dsimp only
  simp only [View.readAt_eq_ld, Memref.IsWhole.read_unread]
  have h := (pieces c i arg2 harg2 arg3 harg3 arg4 harg4 arg5 harg5 x0 x1 _ le_rfl).1
  exact Cert.UpBlock.canon_of_pieces (e := EltTy.fp8e4m3) (codeB x0 x1) _ h.1 (ix3 0 r l) (h.2 r l (by rw [trips_eq]; omega))

/-- The scales a point leaves. -/
theorem out3_apply (r : Fin 256) :
    out0_A_3 c i arg2 harg2 arg3 harg3 arg4 harg4 arg5 harg5 x0 x1 (ix3 0 r 0) = scaleOf (rowMax (nB x0 x1 r)) := by
  unfold out0_A_3
  rw [View.read_writes_junk_eq_canon]
  unfold kernelRun0_A
  dsimp only
  simp only [View.readAt_eq_ld, Memref.IsWhole.read_unread]
  have h := (pieces c i arg2 harg2 arg3 harg3 arg4 harg4 arg5 harg5 x0 x1 _ le_rfl).2
  exact Cert.UpBlock.canon_of_pieces (e := EltTy.f32) (scaleB x0 x1) _ h.1 (ix3 0 r 0) (h.2 r (by rw [trips_eq]; omega))

variable (m : (ℓ : Loc nD τ sig) → Buf (Elt Ideal) ℓ)

/-- The normalised row `r` of batch `b`, from the arguments. -/
def nA (X : Vec Ideal S2x256x2560 .bf16) (M : Vec Ideal S2x12x2560 .f32) (b : Fin 2) (r : Fin 256) : Fin 2560 → EReal :=
  norm (fun k : Fin 2560 => X (ix3 b r k)) (fun k => M (ix3 b 6 k)) (fun k => M (ix3 b 7 k))

abbrev nM (c : Dev nD) : Fin 2 → Fin 256 → Fin 2560 → EReal := nA (m ((c : Thread nD τ).loc main_arg0)) (m ((c : Thread nD τ).loc main_arg1))

/-- The block point `t` computes: batch `t`. -/
theorem idx : ∀ t : Fin cfg0.N, win0_0.index t = ![t.val, 0, 0] ∧ win0_1.index t = ![t.val, 0, 0]
    ∧ win0_2.index t = ![t.val, 0, 0] ∧ win0_3.index t = ![t.val, 0, 0] :=
  (by decide +kernel : ∀ t : Fin grid0.N, _)

/-- A block's normalised row is the arguments'. -/
theorem nB_eq (c : Dev nD) (t : Fin cfg0.N) (r : Fin 256) (b : Fin 2) (R : Fin 256)
    (hb : (b : ℕ) = t.val) (hR : (R : ℕ) = r) : nB (iblk m c 0 t) (iblk m c 1 t) r = nM m c b R := by
  have e0 (k : Fin 2560) : iblk m c 0 t (ix3 0 r k) = m ((c : Thread nD τ).loc main_arg0) (ix3 b R k) := by blk_ext [iblk, V, idx t]
  have e1 (k : Fin 2560) : iblk m c 1 t (ix3 0 6 k) = m ((c : Thread nD τ).loc main_arg1) (ix3 b 6 k) := by blk_ext [iblk, V, idx t]
  have e2 (k : Fin 2560) : iblk m c 1 t (ix3 0 7 k) = m ((c : Thread nD τ).loc main_arg1) (ix3 b 7 k) := by blk_ext [iblk, V, idx t]
  unfold nM nA nB
  simp only [e0, e1, e2]

/-- The array of codes after the run. -/
theorem out2 (c : Dev nD) : (dats m 0 c).arrAt 2 cfg0.N
    = fun y : S2x256x2560.Idx => codeOf (scaleOf (rowMax (nM m c (y 0) (y 1)))) (nM m c (y 0) (y 1) (y 2)) := by
  refine (dats m 0 c).arrAt_eq_of_covers 2 _ (by decide +kernel) fun t hf y => ?_
  rw [after0_2]
  blk_simp
  obtain ⟨r, n, rfl⟩ : ∃ (r : Fin 256) (n : Fin 2560), y = (ix3 0 r n : S1x256x2560.Idx) := ⟨y 1, y 2, by
    funext a
    match a with
    | ⟨0, _⟩ => exact Subsingleton.elim (α := Fin 1) _ _
    | ⟨1, _⟩ => rfl
    | ⟨2, _⟩ => rfl⟩
  unfold outsAt0
  dsimp only
  rw [out2_apply, nB_eq m c t r ((win0_2.blk t).view.emb (ix3 0 r n : S1x256x2560.Idx) 0) ((win0_2.blk t).view.emb (ix3 0 r n : S1x256x2560.Idx) 1)
    (by blk_simp [idx t]; exact Nat.add_zero _) (by blk_simp [idx t])]
  have e : (win0_2.blk t).view.emb (ix3 0 r n : S1x256x2560.Idx) 2 = n := Fin.ext (by blk_simp [idx t])
  rw [e]

/-- The array of scales after the run. -/
theorem out3 (c : Dev nD) : (dats m 0 c).arrAt 3 cfg0.N = fun y : S2x256x1.Idx => scaleOf (rowMax (nM m c (y 0) (y 1))) := by
  refine (dats m 0 c).arrAt_eq_of_covers 3 _ (by decide +kernel) fun t hf y => ?_
  rw [after0_3]
  blk_simp
  obtain ⟨r, rfl⟩ : ∃ r : Fin 256, y = (ix3 0 r 0 : S1x256x1.Idx) := ⟨y 1, by
    funext a
    match a with
    | ⟨0, _⟩ => exact Subsingleton.elim (α := Fin 1) _ _
    | ⟨1, _⟩ => rfl
    | ⟨2, _⟩ => exact Subsingleton.elim (α := Fin 1) _ _⟩
  unfold outsAt0
  dsimp only
  rw [out3_apply, nB_eq m c t r ((win0_3.blk t).view.emb (ix3 0 r 0 : S1x256x1.Idx) 0) ((win0_3.blk t).view.emb (ix3 0 r 0 : S1x256x1.Idx) 1)
    (by blk_simp [idx t]; exact Nat.add_zero _) (by blk_simp [idx t])]

end Cert.LnTxBlock
end
-- ==== Proof.LnTxRefValue.lean ====
/- The two arrays the reference of the text rows' layer norm leaves after the run: the same functions of its arguments. -/
module

public import proofs.«01_k».proof.Proof.Gen.LnTxRefIdeal.Value
public import proofs.«01_k».proof.Proof.UpBlock
public import proofs.«01_k».proof.Proof.LnMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LnTxRefValue

open Idealize.ShloMosaic Idealize.ShloMosaic.TcCoe Idealize.SL.Sem Cert.LnTxRefIdeal Cert.LnTxRefIdeal.Gen Cert.Quant
open Cert.LnMath (norm)

section quantiser
variable (H : FVec Ideal S256x2560 .f32)

/-- The scales of the rows of `H`. -/
def scalesOf : FVec Ideal S256x1 .f32 :=
  select (cmpf .oeq (shapeCast S256x1 (multiReduction (F := Ideal) .maximumf [1] S256 (absf H) 0xFF800000#32 reduces_S256x2560_S256 (.inl rfl) rfl) shapeCasts_S256_S256x1) (broadcast S256x1 (Scalar.ofBits .f32 0x00000000#32)))
    (broadcast S256x1 (Scalar.ofBits .f32 0x3F800000#32))
    (divf (shapeCast S256x1 (multiReduction (F := Ideal) .maximumf [1] S256 (absf H) 0xFF800000#32 reduces_S256x2560_S256 (.inl rfl) rfl) shapeCasts_S256_S256x1) (broadcast S256x1 (Scalar.ofBits .f32 0x43E00000#32)))

theorem scalesOf_apply (r : Fin 256) : scalesOf H (ix2 r 0) = scaleOf (rowMax fun k : Fin 2560 => H (ix2 r k)) := by
  have e : multiReduction (F := Ideal) .maximumf [1] S256 (absf H) 0xFF800000#32 reduces_S256x2560_S256 (.inl rfl) rfl (ix1 r)
      = rowMax fun k : Fin 2560 => H (ix2 r k) := by
    refine (rowmax_apply _ _ _ _ r).trans ?_
    rfl
  rw [← e]
  unfold scalesOf
  generalize multiReduction (F := Ideal) .maximumf [1] S256 (absf H) 0xFF800000#32 reduces_S256x2560_S256 (.inl rfl) rfl = M
  have e : shapeCast S256x1 M shapeCasts_S256_S256x1 (ix2 r 0) = M (ix1 r) := by pointwise []
  rw [← e]
  clear e
  generalize shapeCast S256x1 M shapeCasts_S256_S256x1 = K
  exact scale_vec K (ix2 r 0)

/-- The codes of the rows of `H`. -/
def codesOf : FVec Ideal S1x256x2560 .fp8e4m3 :=
  k0_pay8 (divf H (broadcastTo S256x2560 (scalesOf H) broadcasts_S256x1_S256x2560)) (Scalar.ofBits .f32 0xC3E00000#32)

theorem clip_lay (Q : FVec Ideal S256x2560 .f32) (r : Fin 256) (n : Fin 2560) :
    k0_pay8 Q (Scalar.ofBits .f32 0xC3E00000#32) (ix3 0 r n) = min top8 (max bot8 (Q (ix2 r n))) := by
  pointwise [k0_pay8]

theorem quot_lay (K : FVec Ideal S256x1 .f32) (r : Fin 256) (n : Fin 2560) :
    divf H (broadcastTo S256x2560 K broadcasts_S256x1_S256x2560) (ix2 r n) = Ideal.div (H (ix2 r n)) (K (ix2 r 0)) := by
  pointwise []

theorem codesOf_apply (r : Fin 256) (n : Fin 2560) : codesOf H (ix3 0 r n) = codeOf (scaleOf (rowMax fun k : Fin 2560 => H (ix2 r k))) (H (ix2 r n)) := by
  unfold codesOf
  rw [clip_lay, quot_lay, scalesOf_apply, codeOf]

end quantiser

/-- A batch's element of codes, placed in the array. -/
theorem emb_code (o : ℕ) (h : ∀ a, (![o, 0, 0] : Fin 3 → ℕ) a + (![1, 256, 2560] : Fin 3 → ℕ) a ≤ S2x256x2560.size a) (ho : o < 2)
    (r : Fin 256) (n : Fin 2560) : (Rect.unit (s := S2x256x2560) ![o, 0, 0] ![1, 256, 2560] h).emb (ix3 0 r n) = ix3 ⟨o, ho⟩ r n := by
  funext a
  apply Fin.ext
  fin_cases a <;> simp [Rect.emb, Rect.unit]

/-- A batch's scale, placed in the array. -/
theorem emb_scale (o : ℕ) (h : ∀ a, (![o, 0, 0] : Fin 3 → ℕ) a + (![1, 256, 1] : Fin 3 → ℕ) a ≤ S2x256x1.size a) (ho : o < 2)
    (r : Fin 256) : (Rect.unit (s := S2x256x1) ![o, 0, 0] ![1, 256, 1] h).emb (ix3 0 r 0) = ix3 ⟨o, ho⟩ r 0 := by
  funext a
  apply Fin.ext
  fin_cases a <;> simp [Rect.emb, Rect.unit]

variable (x0 : Vec Ideal S2x256x2560 .bf16) (x1 x2 : Vec Ideal S2x1x2560 .f32)

/-- The normalised row `r` of batch `b`. -/
def nB (b : Fin 2) (r : Fin 256) : Fin 2560 → EReal :=
  norm (fun k : Fin 2560 => x0 (ix3 b r k)) (fun k => x1 (ix3 b 0 k)) (fun k => x2 (ix3 b 0 k))

theorem norm0 (r : Fin 256) (n : Fin 2560) : k0_pay5 (View.ld x0 r0_0) (View.ld x1 r0_1) (View.ld x2 r0_1) (ix2 r n) = nB x0 x1 x2 0 r n := by
  pointwise [k0_pay5]
  rfl

theorem norm1 (r : Fin 256) (n : Fin 2560) : k0_pay1 (k0_pay13 x0 x1 x2) (k0_pay14 x0 x1 x2) (k0_pay15 x0 x1 x2) (ix2 r n) = nB x0 x1 x2 1 r n := by
  pointwise [k0_pay1, k0_pay13, k0_pay14, k0_pay15, k0_pay10, k0_pay11, k0_pay12]
  rfl

theorem code0 (r : Fin 256) (n : Fin 2560) : k0_pay8 (k0_pay7 (View.ld x0 r0_0) (View.ld x1 r0_1) (View.ld x2 r0_1)) (Scalar.ofBits .f32 0xC3E00000#32) (ix3 0 r n)
    = codeOf (scaleOf (rowMax (nB x0 x1 x2 0 r))) (nB x0 x1 x2 0 r n) := by
  refine (codesOf_apply (k0_pay5 (View.ld x0 r0_0) (View.ld x1 r0_1) (View.ld x2 r0_1)) r n).trans ?_
  simp only [norm0]

theorem code1 (r : Fin 256) (n : Fin 2560) : k0_pay3 (k0_pay13 x0 x1 x2) (k0_pay14 x0 x1 x2) (k0_pay15 x0 x1 x2) (ix3 0 r n)
    = codeOf (scaleOf (rowMax (nB x0 x1 x2 1 r))) (nB x0 x1 x2 1 r n) := by
  refine (codesOf_apply (k0_pay1 (k0_pay13 x0 x1 x2) (k0_pay14 x0 x1 x2) (k0_pay15 x0 x1 x2)) r n).trans ?_
  simp only [norm1]

theorem scale0 (r : Fin 256) : k0_pay9 (k0_pay6 (View.ld x0 r0_0) (View.ld x1 r0_1) (View.ld x2 r0_1)) (ix3 0 r 0) = scaleOf (rowMax (nB x0 x1 x2 0 r)) := by
  have h := scalesOf_apply (k0_pay5 (View.ld x0 r0_0) (View.ld x1 r0_1) (View.ld x2 r0_1)) r
  simp only [norm0] at h
  rw [show k0_pay6 (View.ld x0 r0_0) (View.ld x1 r0_1) (View.ld x2 r0_1) = scalesOf (k0_pay5 (View.ld x0 r0_0) (View.ld x1 r0_1) (View.ld x2 r0_1)) from rfl]
  refine Eq.trans ?_ h
  generalize scalesOf (k0_pay5 (View.ld x0 r0_0) (View.ld x1 r0_1) (View.ld x2 r0_1)) = K
  pointwise [k0_pay9]

theorem scale1 (r : Fin 256) : k0_pay4 (k0_pay13 x0 x1 x2) (k0_pay14 x0 x1 x2) (k0_pay15 x0 x1 x2) (ix3 0 r 0) = scaleOf (rowMax (nB x0 x1 x2 1 r)) := by
  have h := scalesOf_apply (k0_pay1 (k0_pay13 x0 x1 x2) (k0_pay14 x0 x1 x2) (k0_pay15 x0 x1 x2)) r
  simp only [norm1] at h
  rw [show k0_pay4 (k0_pay13 x0 x1 x2) (k0_pay14 x0 x1 x2) (k0_pay15 x0 x1 x2) = k0_pay9 (scalesOf (k0_pay1 (k0_pay13 x0 x1 x2) (k0_pay14 x0 x1 x2) (k0_pay15 x0 x1 x2))) from rfl]
  refine Eq.trans ?_ h
  generalize scalesOf (k0_pay1 (k0_pay13 x0 x1 x2) (k0_pay14 x0 x1 x2) (k0_pay15 x0 x1 x2)) = K
  pointwise [k0_pay9]

/-- The codes of the whole array. -/
def codeB (y : S2x256x2560.Idx) : EReal := codeOf (scaleOf (rowMax (nB x0 x1 x2 (y 0) (y 1)))) (nB x0 x1 x2 (y 0) (y 1) (y 2))
/-- The scales of the whole array. -/
def scaleB (y : S2x256x1.Idx) : EReal := scaleOf (rowMax (nB x0 x1 x2 (y 0) (y 1)))

theorem out3_apply (y : S2x256x2560.Idx) : out0_3 x0 x1 x2 y = codeB x0 x1 x2 y := by
  unfold out0_3
  have h0 := code0 x0 x1 x2
  have h1 := code1 x0 x1 x2
  generalize k0_pay8 (k0_pay7 (View.ld x0 r0_0) (View.ld x1 r0_1) (View.ld x2 r0_1)) (Scalar.ofBits .f32 0xC3E00000#32) = P0 at h0 ⊢
  generalize k0_pay3 (k0_pay13 x0 x1 x2) (k0_pay14 x0 x1 x2) (k0_pay15 x0 x1 x2) = P1 at h1 ⊢
  refine Cert.UpBlock.canon_of_pieces (e := EltTy.fp8e4m3) (codeB x0 x1 x2) _ ?_ y ?_
  · refine ⟨?_, ?_, trivial⟩
    all_goals
      intro x
      obtain ⟨r, n, rfl⟩ : ∃ (r : Fin 256) (n : Fin 2560), x = ix3 0 r n := ⟨x 1, x 2, by
        funext a
        match a with
        | ⟨0, _⟩ => exact Subsingleton.elim (α := Fin 1) _ _
        | ⟨1, _⟩ => rfl
        | ⟨2, _⟩ => rfl⟩
      rw [emb_code _ _ (by omega)]
    · exact h1 r n
    · exact h0 r n
  · exact View.cover_of_tiledL (s := S2x256x2560) _ (![1, 256, 2560]) (by sl_kernel_rfl) _

theorem out4_apply (y : S2x256x1.Idx) : out0_4 x0 x1 x2 y = scaleB x0 x1 x2 y := by
  unfold out0_4
  have h0 := scale0 x0 x1 x2
  have h1 := scale1 x0 x1 x2
  generalize k0_pay9 (k0_pay6 (View.ld x0 r0_0) (View.ld x1 r0_1) (View.ld x2 r0_1)) = P0 at h0 ⊢
  generalize k0_pay4 (k0_pay13 x0 x1 x2) (k0_pay14 x0 x1 x2) (k0_pay15 x0 x1 x2) = P1 at h1 ⊢
  refine Cert.UpBlock.canon_of_pieces (e := EltTy.f32) (scaleB x0 x1 x2) _ ?_ y ?_
  · refine ⟨?_, ?_, trivial⟩
    all_goals
      intro x
      obtain ⟨r, rfl⟩ : ∃ (r : Fin 256), x = ix3 0 r 0 := ⟨x 1, by
        funext a
        match a with
        | ⟨0, _⟩ => exact Subsingleton.elim (α := Fin 1) _ _
        | ⟨1, _⟩ => rfl
        | ⟨2, _⟩ => exact Subsingleton.elim (α := Fin 1) _ _⟩
      rw [emb_scale _ _ (by omega)]
    · exact h1 r
    · exact h0 r
  · exact View.cover_of_tiledL (s := S2x256x1) _ (![1, 256, 1]) (by sl_kernel_rfl) _

variable (m : (ℓ : Loc nD τ sig) → Buf (Elt Ideal) ℓ)

/-- The normalised row `r` of batch `b`, from the arguments. -/
def nA (X : Vec Ideal S2x256x2560 .bf16) (M : Vec Ideal S2x12x2560 .f32) (b : Fin 2) (r : Fin 256) : Fin 2560 → EReal :=
  norm (fun k : Fin 2560 => X (ix3 b r k)) (fun k => M (ix3 b 6 k)) (fun k => M (ix3 b 7 k))

abbrev nM (c : Dev nD) : Fin 2 → Fin 256 → Fin 2560 → EReal := nA (m ((c : Thread nD τ).loc main_arg0)) (m ((c : Thread nD τ).loc main_arg1))

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] :=
  (by decide +kernel : ∀ t : Fin grid0.N, _)

theorem hostShift (c : Dev nD) (b : Fin 2) (n : Fin 2560) : V m c main_v0 (ix3 b 0 n : S2x1x2560.Idx) = m ((c : Thread nD τ).loc main_arg1) (ix3 b 6 n) := by
  unfold V hostOps0
  simp only [StableHlo.after_cons, StableHlo.after_nil]
  rw [StableHlo.unary_result_ne (h := by decide), StableHlo.unary_result]
  pointwise []

theorem hostScale (c : Dev nD) (b : Fin 2) (n : Fin 2560) : V m c main_v1 (ix3 b 0 n : S2x1x2560.Idx) = m ((c : Thread nD τ).loc main_arg1) (ix3 b 7 n) := by
  unfold V hostOps0
  simp only [StableHlo.after_cons, StableHlo.after_nil]
  rw [StableHlo.unary_result, StableHlo.unary_result_ne (h := by decide)]
  pointwise []

theorem nB_eq (c : Dev nD) (t : Fin cfg0.N) : nB (iblk m c 0 t) (iblk m c 1 t) (iblk m c 2 t) = nM m c := by
  funext b r
  have e0 (k : Fin 2560) : iblk m c 0 t (ix3 b r k) = m ((c : Thread nD τ).loc main_arg0) (ix3 b r k) := by
    refine Eq.trans ?_ (congrFun (V_main_arg0 m c) _)
    blk_ext [iblk, idx t]
  have e1 (k : Fin 2560) : iblk m c 1 t (ix3 b 0 k) = m ((c : Thread nD τ).loc main_arg1) (ix3 b 6 k) := by
    refine Eq.trans ?_ (hostShift m c b k)
    blk_ext [iblk, idx t]
  have e2 (k : Fin 2560) : iblk m c 2 t (ix3 b 0 k) = m ((c : Thread nD τ).loc main_arg1) (ix3 b 7 k) := by
    refine Eq.trans ?_ (hostScale m c b k)
    blk_ext [iblk, idx t]
  unfold nM nA nB
  simp only [e0, e1, e2]

/-- The array of codes after the run. -/
theorem out3 (c : Dev nD) : (dats m 0 c).arrAt 3 cfg0.N
    = fun y : S2x256x2560.Idx => codeOf (scaleOf (rowMax (nM m c (y 0) (y 1)))) (nM m c (y 0) (y 1) (y 2)) := by
  refine (dats m 0 c).arrAt_eq_of_covers 3 _ (by decide +kernel) fun t hf y => ?_
  rw [after0_3]
  blk_simp
  have e : (win0_3.blk t).view.emb (y : S2x256x2560.Idx) = y := by
    obtain ⟨b, r, n, rfl⟩ : ∃ (b : Fin 2) (r : Fin 256) (n : Fin 2560), y = (ix3 b r n : S2x256x2560.Idx) :=
      ⟨y 0, y 1, y 2, by ext a; fin_cases a <;> rfl⟩
    blk_ext [idx t]
  rw [e, out3_apply]
  unfold codeB
  rw [nB_eq]

/-- The array of scales after the run. -/
theorem out4 (c : Dev nD) : (dats m 0 c).arrAt 4 cfg0.N = fun y : S2x256x1.Idx => scaleOf (rowMax (nM m c (y 0) (y 1))) := by
  refine (dats m 0 c).arrAt_eq_of_covers 4 _ (by decide +kernel) fun t hf y => ?_
  rw [after0_4]
  blk_simp
  have e : (win0_4.blk t).view.emb (y : S2x256x1.Idx) = y := by
    obtain ⟨b, r, n, rfl⟩ : ∃ (b : Fin 2) (r : Fin 256) (n : Fin 1), y = (ix3 b r n : S2x256x1.Idx) :=
      ⟨y 0, y 1, y 2, by ext a; fin_cases a <;> rfl⟩
    blk_ext [idx t]
  rw [e, out4_apply]
  unfold scaleB
  rw [nB_eq]

end Cert.LnTxRefValue
end
-- ==== Proof.UpValue.lean ====
/- The kernel's two result arrays after the run: the gated hidden activations of the whole arguments, quantised row by row. -/
module

public import proofs.«01_k».proof.Proof.Gen.KernelIdeal.Value
public import proofs.«01_k».proof.Proof.UpBlock

@[expose] public section

set_option maxRecDepth 16384

noncomputable section

namespace Cert.UpValue

open Idealize.ShloMosaic Idealize.ShloMosaic.TcCoe Idealize.SL.Sem Cert.KernelIdeal Cert.KernelIdeal.Gen Cert.Quant Cert.UpBlock

variable (m : (ℓ : Loc nD τ sig) → Buf (Elt Ideal) ℓ)

/-- The hidden activations of row `r`, from the arguments. -/
abbrev hA (X : Vec Ideal S8192x2560 .fp8e4m3) (S : Vec Ideal S8192x1 .f32) (W1 : Vec Ideal S2560x3584 .fp8e4m3) (S1 : Vec Ideal S3584 .f32)
    (W3 : Vec Ideal S2560x3584 .fp8e4m3) (S3 : Vec Ideal S3584 .f32) (r : Fin 8192) : Fin 3584 → EReal :=
  hRow (fun k => X (ix2 r k)) (S (ix2 r 0)) (fun k n => W1 (ix2 k n)) (fun n => S1 (ix1 n)) (fun k n => W3 (ix2 k n)) (fun n => S3 (ix1 n))

abbrev hM (c : Dev nD) : Fin 8192 → Fin 3584 → EReal :=
  hA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

/-- A block's row is a row of the arguments. -/
theorem hB_eq (c : Dev nD) (t : Fin cfg0.N) (r : Fin 512) (R : Fin 8192) (hR : (R : ℕ) = t.val * 512 + r) :
    hB (iblk m c 0 t) (iblk m c 1 t) (iblk m c 2 t) (iblk m c 3 t) (iblk m c 4 t) (iblk m c 5 t) r = hM m c R := by
  funext n
  have e0 (k : Fin 2560) : iblk m c 0 t (ix2 r k) = m ((c : Thread nD τ).loc main_arg0) (ix2 R k) := by blk_ext [iblk, V, idx t]
  have e1 : iblk m c 1 t (ix2 r 0) = m ((c : Thread nD τ).loc main_arg1) (ix2 R 0) := by blk_ext [iblk, V, idx t]
  have e2 (k : Fin 2560) : iblk m c 2 t (ix2 k n) = m ((c : Thread nD τ).loc main_arg2) (ix2 k n) := by blk_ext [iblk, V, idx t]
  have e3 : iblk m c 3 t (ix2 0 n) = m ((c : Thread nD τ).loc main_arg3) (ix1 n) := by blk_ext! [iblk, V, idx t]
  have e4 (k : Fin 2560) : iblk m c 4 t (ix2 k n) = m ((c : Thread nD τ).loc main_arg4) (ix2 k n) := by blk_ext [iblk, V, idx t]
  have e5 : iblk m c 5 t (ix2 0 n) = m ((c : Thread nD τ).loc main_arg5) (ix1 n) := by blk_ext! [iblk, V, idx t]
  unfold hB hM hA hRow
  simp only [e0, e1, e2, e3, e4, e5]

theorem out7 (c : Dev nD) : (dats m 0 c).arrAt 7 cfg0.N = fun y : S8192x1.Idx => scaleOf (rowMax (hM m c (y 0))) := by
  refine (dats m 0 c).arrAt_eq_of_covers 7 _ (by decide +kernel) fun t hf y => ?_
  rw [after0_7]
  blk_simp
  obtain ⟨r, rfl⟩ : ∃ r : Fin 512, y = (ix2 r 0 : S512x1.Idx) := ⟨y 0, by
    funext a
    fin_cases a
    · rfl
    · exact Subsingleton.elim (α := Fin 1) _ _⟩
  unfold outsAt0
  dsimp only
  rw [out7_apply, hB_eq m c t r ((win0_7.blk t).view.emb (ix2 r 0 : S512x1.Idx) 0) (by blk_simp [idx t])]

theorem out6 (c : Dev nD) : (dats m 0 c).arrAt 6 cfg0.N
    = fun y : S8192x3584.Idx => codeOf (scaleOf (rowMax (hM m c (y 0)))) (hM m c (y 0) (y 1)) := by
  refine (dats m 0 c).arrAt_eq_of_covers 6 _ (by decide +kernel) fun t hf y => ?_
  rw [after0_6]
  blk_simp
  obtain ⟨r, n, rfl⟩ : ∃ (r : Fin 512) (n : Fin 3584), y = (ix2 r n : S512x3584.Idx) := ⟨y 0, y 1, by ext a; fin_cases a <;> rfl⟩
  unfold outsAt0
  dsimp only
  rw [out6_apply, hB_eq m c t r ((win0_6.blk t).view.emb (ix2 r n : S512x3584.Idx) 0) (by blk_simp [idx t])]
  have e : (win0_6.blk t).view.emb (ix2 r n : S512x3584.Idx) 1 = n := Fin.ext (by blk_simp [idx t])
  rw [e]

end Cert.UpValue

end
-- ==== Proof.RefValue.lean ====
/- The reference's two result arrays after the run: the same function of its arguments. -/
module

public import proofs.«01_k».proof.Proof.Gen.ReferenceIdeal.Value
public import proofs.«01_k».proof.Proof.Quant
public import Idealize.ShloMosaic.Lib.Pipeline.ValueKit

@[expose] public section

set_option maxRecDepth 16384

noncomputable section

namespace Cert.RefValue

open Idealize.ShloMosaic Idealize.ShloMosaic.TcCoe Idealize.SL.Sem Cert.ReferenceIdeal Cert.ReferenceIdeal.Gen Cert.Quant

/-- The hidden activations of row `r`, from the arguments. -/
abbrev hA (X : Vec Ideal S8192x2560 .fp8e4m3) (S : Vec Ideal S8192x1 .f32) (W1 : Vec Ideal S2560x3584 .fp8e4m3) (S1 : Vec Ideal S3584 .f32)
    (W3 : Vec Ideal S2560x3584 .fp8e4m3) (S3 : Vec Ideal S3584 .f32) (r : Fin 8192) : Fin 3584 → EReal :=
  hRow (fun k => X (ix2 r k)) (S (ix2 r 0)) (fun k n => W1 (ix2 k n)) (fun n => S1 (ix1 n)) (fun k n => W3 (ix2 k n)) (fun n => S3 (ix1 n))

section payloads
variable (P0 : Vec Ideal S8192x2560 .fp8e4m3) (P1 : Vec Ideal S8192x1 .f32) (P2 : Vec Ideal S2560x3584 .fp8e4m3) (P3 : Vec Ideal S1x3584 .f32)
  (P4 : Vec Ideal S2560x3584 .fp8e4m3) (P5 : Vec Ideal S1x3584 .f32)

abbrev hP (r : Fin 8192) : Fin 3584 → EReal :=
  hRow (fun k => P0 (ix2 r k)) (P1 (ix2 r 0)) (fun k n => P2 (ix2 k n)) (fun n => P3 (ix2 0 n)) (fun k n => P4 (ix2 k n)) (fun n => P5 (ix2 0 n))

theorem hidden_apply (r : Fin 8192) (n : Fin 3584) : k0_pay1 P0 P1 P2 P3 P4 P5 (ix2 r n) = hP P0 P1 P2 P3 P4 P5 r n := by
  pointwise [k0_pay1]
  rfl

theorem code_lay (r : Fin 8192) (n : Fin 3584) : k0_pay3 P0 P1 P2 P3 P4 P5 (ix2 r n)
    = codeOf (k0_pay2 P0 P1 P2 P3 P4 P5 (ix2 r 0)) (k0_pay1 P0 P1 P2 P3 P4 P5 (ix2 r n)) := by
  rw [Value.lay6_0_eq, ← Value.lay7_0_eq]
  generalize k0_pay2 P0 P1 P2 P3 P4 P5 = M
  generalize k0_pay1 P0 P1 P2 P3 P4 P5 = H
  have e : broadcastTo S8192x3584 M broadcasts_S8192x1_S8192x3584 (ix2 r n) = M (ix2 r 0) := by pointwise []
  rw [← e]
  clear e
  generalize broadcastTo S8192x3584 M broadcasts_S8192x1_S8192x3584 = K
  exact code_vec H K (ix2 r n) _
theorem scale_lay (r : Fin 8192) : k0_pay2 P0 P1 P2 P3 P4 P5 (ix2 r 0) = scaleOf (multiReduction (F := Ideal) .maximumf [1] S8192 (absf (k0_pay1 P0 P1 P2 P3 P4 P5)) 0xFF800000#32 reduces_S8192x3584_S8192 (.inl rfl) rfl (ix1 r)) := by
  rw [Value.lay7_0_eq]
  generalize multiReduction (F := Ideal) .maximumf [1] S8192 (absf (k0_pay1 P0 P1 P2 P3 P4 P5)) 0xFF800000#32 reduces_S8192x3584_S8192 (.inl rfl) rfl = M
  have e : shapeCast S8192x1 M shapeCasts_S8192_S8192x1 (ix2 r 0) = M (ix1 r) := by pointwise []
  rw [← e]
  clear e
  generalize shapeCast S8192x1 M shapeCasts_S8192_S8192x1 = K
  exact scale_vec K (ix2 r 0)

theorem scale_apply (r : Fin 8192) : k0_pay2 P0 P1 P2 P3 P4 P5 (ix2 r 0) = scaleOf (rowMax (hP P0 P1 P2 P3 P4 P5 r)) := by
  have e : multiReduction (F := Ideal) .maximumf [1] S8192 (absf (k0_pay1 P0 P1 P2 P3 P4 P5)) 0xFF800000#32 reduces_S8192x3584_S8192 (.inl rfl) rfl (ix1 r)
      = rowMax (hP P0 P1 P2 P3 P4 P5 r) := by
    refine (rowmax_apply _ _ _ _ r).trans ?_
    unfold rowMax
    refine congrArg (fun f => Finset.fold max ⊥ f Finset.univ) (funext fun k => ?_)
    rw [← hidden_apply]
    rfl
  rw [scale_lay, e]

theorem code_apply (r : Fin 8192) (n : Fin 3584) : k0_pay3 P0 P1 P2 P3 P4 P5 (ix2 r n)
    = codeOf (scaleOf (rowMax (hP P0 P1 P2 P3 P4 P5 r))) (hP P0 P1 P2 P3 P4 P5 r n) := by
  rw [code_lay, scale_apply, hidden_apply]

end payloads

variable (m : (ℓ : Loc nD τ sig) → Buf (Elt Ideal) ℓ)

abbrev hM (c : Dev nD) : Fin 8192 → Fin 3584 → EReal :=
  hA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

theorem hP_eq (c : Dev nD) (t : Fin cfg0.N) (r R : Fin 8192) (hR : R = r) :
    hP (iblk m c 0 t) (iblk m c 1 t) (iblk m c 2 t) (iblk m c 3 t) (iblk m c 4 t) (iblk m c 5 t) r = hM m c R := by
  subst hR
  funext n
  have e0 (k : Fin 2560) : iblk m c 0 t (ix2 R k) = m ((c : Thread nD τ).loc main_arg0) (ix2 R k) := by blk_ext [iblk, V, idx t]
  have e1 : iblk m c 1 t (ix2 R 0) = m ((c : Thread nD τ).loc main_arg1) (ix2 R 0) := by blk_ext [iblk, V, idx t]
  have e2 (k : Fin 2560) : iblk m c 2 t (ix2 k n) = m ((c : Thread nD τ).loc main_arg2) (ix2 k n) := by blk_ext [iblk, V, idx t]
  have e3 : iblk m c 3 t (ix2 0 n) = m ((c : Thread nD τ).loc main_arg3) (ix1 n) := by blk_ext! [iblk, V, idx t]
  have e4 (k : Fin 2560) : iblk m c 4 t (ix2 k n) = m ((c : Thread nD τ).loc main_arg4) (ix2 k n) := by blk_ext [iblk, V, idx t]
  have e5 : iblk m c 5 t (ix2 0 n) = m ((c : Thread nD τ).loc main_arg5) (ix1 n) := by blk_ext! [iblk, V, idx t]
  unfold hP hM hA hRow
  simp only [e0, e1, e2, e3, e4, e5]

theorem out7 (c : Dev nD) : (dats m 0 c).arrAt 7 cfg0.N = fun y : S8192x1.Idx => scaleOf (rowMax (hM m c (y 0))) := by
  refine (dats m 0 c).arrAt_eq_of_covers 7 _ (by decide +kernel) fun t hf y => ?_
  rw [after0_7]
  blk_simp
  obtain ⟨r, rfl⟩ : ∃ r : Fin 8192, y = (ix2 r 0 : S8192x1.Idx) := ⟨y 0, by
    funext a
    fin_cases a
    · rfl
    · exact Subsingleton.elim (α := Fin 1) _ _⟩
  frame_out
  rw [scale_apply, hP_eq m c t r ((win0_7.blk t).view.emb (ix2 r 0 : S8192x1.Idx) 0) (Fin.ext (by blk_simp [idx t]))]

theorem out6 (c : Dev nD) : (dats m 0 c).arrAt 6 cfg0.N
    = fun y : S8192x3584.Idx => codeOf (scaleOf (rowMax (hM m c (y 0)))) (hM m c (y 0) (y 1)) := by
  refine (dats m 0 c).arrAt_eq_of_covers 6 _ (by decide +kernel) fun t hf y => ?_
  rw [after0_6]
  blk_simp
  obtain ⟨r, n, rfl⟩ : ∃ (r : Fin 8192) (n : Fin 3584), y = (ix2 r n : S8192x3584.Idx) := ⟨y 0, y 1, by ext a; fin_cases a <;> rfl⟩
  frame_out
  rw [code_apply, hP_eq m c t r ((win0_6.blk t).view.emb (ix2 r n : S8192x3584.Idx) 0) (Fin.ext (by blk_simp [idx t]))]
  have e : (win0_6.blk t).view.emb (ix2 r n : S8192x3584.Idx) 1 = n := Fin.ext (by blk_simp [idx t])
  rw [e]

end Cert.RefValue

end
-- ==== Proof.DownBitsKit.lean ====
/- The frame kit of the expert down projection: what the region finds in every buffer, the tables as the region reads
   them, the windows' blocks, and the staging memrefs at a grid point. Everything is stated for every launch memory whose
   tables keep the blocks inside their arrays (`Ok`). -/
module

public import proofs.«01_k».proof.Proof.Gen.DownEx.Launch
public import proofs.«01_k».proof.Proof.Gen.DownEx.Skeleton
public import proofs.«01_k».proof.Proof.Gen.DownEx
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownEx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_down (grid0.coords t) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S35 .i32 := Memref.whole main_arg1
abbrev htbM0_0 : tbM0_0.IsWhole := Memref.isWhole_whole _
abbrev tbM0_1 : Memref sig .tc .smem S35 .i32 := Memref.whole main_arg2
abbrev htbM0_1 : tbM0_1.IsWhole := Memref.isWhole_whole _
abbrev tbM0_2 : Memref sig .tc .smem S35 .i32 := Memref.whole main_arg3
abbrev htbM0_2 : tbM0_2.IsWhole := Memref.isWhole_whole _
abbrev tbM0_3 : Memref sig .tc .smem S35 .i32 := Memref.whole main_arg4
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DownEx`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).2 main_arg8 (by decide : main_arg8 ∈ Pipeline.restRefs sig spec0)).trans (V_main_arg8 m c)⟩) h

/-! ## The kernel body on any staging memrefs: a subtype the run finds -/

/-- One staging buffer of output window 4, through which its contents are stated (`View.read_writes_of_cover`: the
    choice does not matter). -/
abbrev VO0_4 : View sig .tc .vmem S512x2560 .f32 := (Memref.whole cc0_stg4_0 : Memref sig .tc .vmem S512x2560 .f32).view
/-- Each window's current staging memref at point `t`, spelled as the pipeline passes it (`bodyAt0`), and its wholeness. -/
abbrev ms0_0 (hO : Ok m) (t : Fin (cfgM m hO).N) : Memref sig .tc .vmem S512x6912 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x6912x2560 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2560 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2560 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.DownEx.Gen

end
-- ==== Proof.DownBitsRun.lean ====
/- One run of the expert down projection's body on any whole staging memrefs, from any old contents of the output block. -/
module

public import proofs.«01_k».proof.Proof.DownBitsKit

@[expose] public section

-- membership in a rectangle of production extents (`View.cover_of_tiled`): the elaborator's structural look
-- recurses once per coordinate of the long axes
set_option maxRecDepth 16384

noncomputable section

namespace Cert.DownEx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The contents of the output's staging buffer after the body, found by running it: on whole staging memrefs, the inputs'
    at their contents and the output's at `x4`, the body runs to the continuation that holds the inputs' as they were and
    the output's at the contents found. Each half of the block is written only if some of its rows are this work item's. -/
noncomputable def kernelRun0_A (c : Dev nD) (i : grid0.Coords) (arg5 : Memref sig .tc .vmem S512x6912 .fp8e4m3) (harg5 : arg5.IsWhole) (arg6 : Memref sig .tc .vmem S512x1 .f32) (harg6 : arg6.IsWhole) (arg7 : Memref sig .tc .vmem S1x6912x2560 .fp8e4m3) (harg7 : arg7.IsWhole) (arg8 : Memref sig .tc .vmem S1x1x2560 .f32) (harg8 : arg8.IsWhole) (arg9 : Memref sig .tc .vmem S512x2560 .f32) (harg9 : arg9.IsWhole)
    (x0 : Vec F S512x6912 .fp8e4m3) (x1 : Vec F S512x1 .f32) (x2 : Vec F S1x6912x2560 .fp8e4m3) (x3 : Vec F S1x1x2560 .f32) (x4 : Vec F S512x2560 .f32) (xt0 : TbBuf0 (F := F) c tbM0_0) (xt1 : TbBuf0 (F := F) c tbM0_1) (xt2 : TbBuf0 (F := F) c tbM0_2) (xt3 : TbBuf0 (F := F) c tbM0_3) :
    { g : Buf (Elt F) (arg9.view.loc (c : Thread nD τ)) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (arg9.view.read (Elt F) g) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_down i tbM0_0 htbM0_0 tbM0_1 htbM0_1 tbM0_2 htbM0_2 tbM0_3 htbM0_3 arg5 harg5 arg6 harg6 arg7 harg7 arg8 harg8 arg9 harg9) K } := by
  refine ⟨?_, fun E K => ?run⟩
  case run =>
    simp only [cc0_expert_down_eq_skeleton]; unfold cc0_expert_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr
      swap
      · iexact H4
      ipureintro; rfl
    isplitl [HT0]; · iexact HT0
    isplitl [HT1]; · iexact HT1
    isplitl [HT2]; · iexact HT2
    iexact HT3

end Cert.DownEx.Gen

end
-- ==== Proof.DownBitsFrame.lean ====
/- The run of the expert down projection, for every launch memory whose tables keep the blocks inside their arrays. The
   output block of a work item keeps the rows of earlier work items, so the proof data relate what the body leaves in it to
   what it found there, instead of naming it. -/
module

public import proofs.«01_k».proof.Proof.DownBitsRun
public import Idealize.ShloMosaic.Lib.Claim

@[expose] public section

-- membership in a rectangle of production extents (`View.cover_of_tiled`): the elaborator's structural look
-- recurses once per coordinate of the long axes
set_option maxRecDepth 16384

noncomputable section

namespace Cert.DownEx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data: inputs named, the output block related to what the body found in it -/

/-- What the body leaves in the output's staging buffer at point `t` when it found `Y` there. -/
def left0 (hO : Ok m) (c : Dev nD) (t : Fin (cfgM m hO).N) (Y : Vec F S512x2560 .f32) : Vec F S512x2560 .f32 :=
  (ms0_4 m hO t).view.read (Elt F) (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) Y (tbl m 0) (tbl m 1) (tbl m 2) (tbl m 3)).1

/-- Data that name every window: the inputs' blocks, and nothing of interest for the output. -/
def dats (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => VO0_4.read (Elt F) VO0_4.junk
  Φ _ := iprop(Pipeline.ΦA spec0 c ∗ Pipeline.ΦT pre0 (tbl m) c)
  q _ := fullShare
  owed _ := 0

/-- The output window's relation: what the body leaves is `left0` of what it found. -/
def ovr (hO : Ok m) (c : Dev nD) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => none
  | ⟨3, _⟩ => none
  | ⟨4, _⟩ => some fun t Y X => X = left0 m hO c t Y

/-- The proof data: the inputs named, the output related. -/
def rdats (hO : Ok m) (c : Dev nD) : RDat τ (Elt F) Unit ℕ (UR sig nD τ) ℕ (cfgM m hO) c := (dats m hO c).toR.override (ovr m hO c)

theorem A_eq (hO : Ok m) (c : Dev nD) (w : Fin (cfgM m hO).W) : (dats m hO c).A w = V m c (Pipeline.arrRef spec0 w) := by
  dsimp only [dats]

theorem after0_0 (hO : Ok m) (c : Dev nD) (t : Fin (cfgM m hO).N) : (dats m hO c).after 0 t = iblk m hO c 0 t := by dsimp only [dats]; try rfl
theorem after0_1 (hO : Ok m) (c : Dev nD) (t : Fin (cfgM m hO).N) : (dats m hO c).after 1 t = iblk m hO c 1 t := by dsimp only [dats]; try rfl
theorem after0_2 (hO : Ok m) (c : Dev nD) (t : Fin (cfgM m hO).N) : (dats m hO c).after 2 t = iblk m hO c 2 t := by dsimp only [dats]; try rfl
theorem after0_3 (hO : Ok m) (c : Dev nD) (t : Fin (cfgM m hO).N) : (dats m hO c).after 3 t = iblk m hO c 3 t := by dsimp only [dats]; try rfl
theorem before0_0 (hO : Ok m) (c : Dev nD) (t : Fin (cfgM m hO).N) (d) : (dats m hO c).before 0 t d = iblk m hO c 0 t :=
  before0_0_of m hO (dats m hO c) (A_eq m hO c 0) (after0_0 m hO c) t d
theorem before0_1 (hO : Ok m) (c : Dev nD) (t : Fin (cfgM m hO).N) (d) : (dats m hO c).before 1 t d = iblk m hO c 1 t :=
  before0_1_of m hO (dats m hO c) (A_eq m hO c 1) (after0_1 m hO c) t d
theorem before0_2 (hO : Ok m) (c : Dev nD) (t : Fin (cfgM m hO).N) (d) : (dats m hO c).before 2 t d = iblk m hO c 2 t :=
  before0_2_of m hO (dats m hO c) (A_eq m hO c 2) (after0_2 m hO c) t d
theorem before0_3 (hO : Ok m) (c : Dev nD) (t : Fin (cfgM m hO).N) (d) : (dats m hO c).before 3 t d = iblk m hO c 3 t :=
  before0_3_of m hO (dats m hO c) (A_eq m hO c 3) (after0_3 m hO c) t d
/-- The body finds input 0's block in its staging buffer, and must leave it there. -/
theorem finds0_0 (hO : Ok m) (c : Dev nD) (t : Fin (cfgM m hO).N) (X) (h : (rdats m hO c).Finds 0 t X) : X = iblk m hO c 0 t := by
  obtain ⟨d, hd⟩ := (dats m hO c).toR_finds 0 t X (((dats m hO c).toR.override_finds (ovr := ovr m hO c) (w := 0) rfl t X).mp h)
  rw [hd]; exact before0_0 m hO c t d
theorem rafter0_0 (hO : Ok m) (c : Dev nD) (t : Fin (cfgM m hO).N) (Y) : (rdats m hO c).after 0 t Y (iblk m hO c 0 t) := by
  show ((dats m hO c).toR.override (ovr m hO c)).after 0 t Y _
  rw [(dats m hO c).toR.override_after_of_eq_none (ovr := ovr m hO c) (w := 0) rfl]
  first | exact after0_0 m hO c t | exact (after0_0 m hO c t).symm | exact Or.inl (after0_0 m hO c t).symm
/-- The body finds input 1's block in its staging buffer, and must leave it there. -/
theorem finds0_1 (hO : Ok m) (c : Dev nD) (t : Fin (cfgM m hO).N) (X) (h : (rdats m hO c).Finds 1 t X) : X = iblk m hO c 1 t := by
  obtain ⟨d, hd⟩ := (dats m hO c).toR_finds 1 t X (((dats m hO c).toR.override_finds (ovr := ovr m hO c) (w := 1) rfl t X).mp h)
  rw [hd]; exact before0_1 m hO c t d
theorem rafter0_1 (hO : Ok m) (c : Dev nD) (t : Fin (cfgM m hO).N) (Y) : (rdats m hO c).after 1 t Y (iblk m hO c 1 t) := by
  show ((dats m hO c).toR.override (ovr m hO c)).after 1 t Y _
  rw [(dats m hO c).toR.override_after_of_eq_none (ovr := ovr m hO c) (w := 1) rfl]
  first | exact after0_1 m hO c t | exact (after0_1 m hO c t).symm | exact Or.inl (after0_1 m hO c t).symm
/-- The body finds input 2's block in its staging buffer, and must leave it there. -/
theorem finds0_2 (hO : Ok m) (c : Dev nD) (t : Fin (cfgM m hO).N) (X) (h : (rdats m hO c).Finds 2 t X) : X = iblk m hO c 2 t := by
  obtain ⟨d, hd⟩ := (dats m hO c).toR_finds 2 t X (((dats m hO c).toR.override_finds (ovr := ovr m hO c) (w := 2) rfl t X).mp h)
  rw [hd]; exact before0_2 m hO c t d
theorem rafter0_2 (hO : Ok m) (c : Dev nD) (t : Fin (cfgM m hO).N) (Y) : (rdats m hO c).after 2 t Y (iblk m hO c 2 t) := by
  show ((dats m hO c).toR.override (ovr m hO c)).after 2 t Y _
  rw [(dats m hO c).toR.override_after_of_eq_none (ovr := ovr m hO c) (w := 2) rfl]
  first | exact after0_2 m hO c t | exact (after0_2 m hO c t).symm | exact Or.inl (after0_2 m hO c t).symm
/-- The body finds input 3's block in its staging buffer, and must leave it there. -/
theorem finds0_3 (hO : Ok m) (c : Dev nD) (t : Fin (cfgM m hO).N) (X) (h : (rdats m hO c).Finds 3 t X) : X = iblk m hO c 3 t := by
  obtain ⟨d, hd⟩ := (dats m hO c).toR_finds 3 t X (((dats m hO c).toR.override_finds (ovr := ovr m hO c) (w := 3) rfl t X).mp h)
  rw [hd]; exact before0_3 m hO c t d
theorem rafter0_3 (hO : Ok m) (c : Dev nD) (t : Fin (cfgM m hO).N) (Y) : (rdats m hO c).after 3 t Y (iblk m hO c 3 t) := by
  show ((dats m hO c).toR.override (ovr m hO c)).after 3 t Y _
  rw [(dats m hO c).toR.override_after_of_eq_none (ovr := ovr m hO c) (w := 3) rfl]
  first | exact after0_3 m hO c t | exact (after0_3 m hO c t).symm | exact Or.inl (after0_3 m hO c t).symm
theorem rafter0_4 (hO : Ok m) (c : Dev nD) (t : Fin (cfgM m hO).N) (Y X) : (rdats m hO c).after 4 t Y X ↔ X = left0 m hO c t Y := by
  show ((dats m hO c).toR.override (ovr m hO c)).after 4 t Y X ↔ _
  rw [(dats m hO c).toR.override_after_of_eq_some (ovr := ovr m hO c) (w := 4) rfl]
  exact Iff.rfl

/-! ## The body obligation, at a generic point -/

/-- The body at any point: from the inputs' blocks, the tables and the output's buffer at `Y`, to the same with the output's
    buffer at `left0` of `Y`. -/
theorem sound_body (hO : Ok m) (c : Dev nD) (t : Fin (cfgM m hO).N) (Y : Vec F S512x2560 .f32) :
    iprop(iprop(Pipeline.ΦA spec0 c ∗ Pipeline.ΦT pre0 (tbl m) c) ∗ (dats m hO c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare Y)
    ⊢ wp frame (wpE (defs₀ (F := F)) Variants.none c none) Set.univ (bodyAt0 (adm m hO) t) (fun _ =>
      iprop(iprop(Pipeline.ΦA spec0 c ∗ Pipeline.ΦT pre0 (tbl m) c) ∗ (dats m hO c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (left0 m hO c t Y))) := by
  unfold bodyAt0
  rw [PhiT0_eq]
  unfold left0
  iintro ⟨⟨HΦ, ⟨HT0, HT1, HT2, HT3⟩⟩, Ho, H0, H1, H2, H3, H4⟩
  iapply ((kernelRun0_A c (grid0.coords t) _ _ _ _ _ _ _ _ _ _ (iblk m hO c 0 t) (iblk m hO c 1 t) (iblk m hO c 2 t) (iblk m hO c 3 t) Y (tbl m 0) (tbl m 1) (tbl m 2) (tbl m 3)).2 Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : (rdats (F := F) m hO c).BodyObligation (defs₀ (F := F)) Variants.none () Set.univ := fun t Y hY => by
  rw [bigSep_W0, bigSep_W0, defs₀_row m hO]
  rw [finds0_0 m hO c t _ (hY 0), finds0_1 m hO c t _ (hY 1), finds0_2 m hO c t _ (hY 2), finds0_3 m hO c t _ (hY 3)]
  refine triple_restated (sound_body m hO c t (Y 4)) rfl .rfl fun _ => ?_
  rw [show (rdats m hO c).Φ t.succ = iprop(Pipeline.ΦA spec0 c ∗ Pipeline.ΦT pre0 (tbl m) c) from rfl,
    show (rdats m hO c).owesAt () t.succ = (dats m hO c).owesAt () t.castSucc from rfl]
  iintro ⟨HΦ, Ho, H0, H1, H2, H3, H4⟩
  isplitl [HΦ]; · iexact HΦ
  isplitl [Ho]; · iexact Ho
  isplitl [H0]
  · iexists _; isplitr
    · ipureintro; exact rafter0_0 m hO c t _
    iexact H0
  isplitl [H1]
  · iexists _; isplitr
    · ipureintro; exact rafter0_1 m hO c t _
    iexact H1
  isplitl [H2]
  · iexists _; isplitr
    · ipureintro; exact rafter0_2 m hO c t _
    iexact H2
  isplitl [H3]
  · iexists _; isplitr
    · ipureintro; exact rafter0_3 m hO c t _
    iexact H3
  iexists _; isplitr
  · ipureintro; exact (rafter0_4 m hO c t _ _).mpr rfl
  iexact H4

/-! ## The run and the frame -/

set_option backward.isDefEq.respectTransparency.types false in
/-- The launch: every fair execution ends, with every array as the proof data relate it, every other buffer as the region
    found it, and every semaphore counter at zero. -/
theorem run_main_quiescent (hO : Ok m) : θ_run defs (onTc (τ := τ) (main (F := F))) (s₀ m ρ) (fun r => RDat.FramePost (cfgM m hO) (rdats m hO) (V m) r ∧ r.2.sem = fun _ => 0) :=
  Pipeline.RDat.θ_run_frameP (Q' := _) pcfgs (fun _ => adm m hO) (0 : Fin 1) launch0 defs₀ Variants.none (rdats m hO) m ρ main
    (hbody := fun c => body_obligation m hO c) (hshare := fun c => (dats m hO c).share_full fun _ => rfl)
    (howed := fun _ _ => rfl) (V := V m) (hmain := hmain m Variants.none) (hA := A_eq m hO) (hpf := V_pre m)
    (hΦ := fun _ _ => rfl)

/-- The argument arrays end as they were. -/
theorem args_kept (hO : Ok m) (r : PUnit × MemSt nD τ sig (Elt F)) (h : RDat.FramePost (cfgM m hO) (rdats m hO) (V m) r) (c : Dev nD) :
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((cast (congrFun ((rdats m hO c).ArrAt_in 0 rfl _) _) ((h c).1 0)).trans (A_eq m hO c 0)).trans (V_main_arg5 m c),
      ((cast (congrFun ((rdats m hO c).ArrAt_in 1 rfl _) _) ((h c).1 1)).trans (A_eq m hO c 1)).trans (V_main_arg6 m c),
      ((cast (congrFun ((rdats m hO c).ArrAt_in 2 rfl _) _) ((h c).1 2)).trans (A_eq m hO c 2)).trans (V_main_arg7 m c),
      ((h c).2 main_arg8 (by decide : main_arg8 ∈ Pipeline.restRefs sig spec0)).trans (V_main_arg8 m c)⟩

/-- The frame: every fair execution ends with the argument arrays as they were and every semaphore counter at zero. -/
theorem frame (hO : Ok m) : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_kept m hO r h.1 c, h.2⟩) (run_main_quiescent m ρ hO)

end Cert.DownEx.Gen

end
-- ==== Proof.DownPre.lean ====
/- What the precondition `down_work_list` says of the tables, in natural numbers. -/
module

public import proofs.«01_k».proof.Pre_down_work_list
public import proofs.«01_k».proof.Proof.Gen.Pre_down_work_list
public import Idealize.ShloMosaic.Lib.WordCmp
public import Idealize.ShloMosaic.Lib.Pointwise

@[expose] public section

set_option maxRecDepth 16384

noncomputable section

namespace Cert.Down

open Idealize.ShloMosaic Idealize.ShloMosaic.WordCmp Cert.Pre_down_work_list

/-- The tables of a work list in order: item `t` covers the rows `lo t ≤ r < hi t` of tile `tile t`, all of expert `ex t`; the items follow
    one another from row 0 to row 16384. -/
structure WorkList (e : Fin 16384 → BitVec 32) (tile ex lo hi : Fin 35 → BitVec 32) : Prop where
  first : (lo 0).toNat = 0
  last : (hi 34).toNat = 16384
  next : ∀ (t : ℕ) (h : t + 1 < 35), (lo ⟨t + 1, h⟩).toNat = (hi ⟨t, by omega⟩).toNat
  le : ∀ t, (lo t).toNat ≤ (hi t).toNat
  tile_le : ∀ t, (tile t).toNat * 512 ≤ (lo t).toNat
  le_tile : ∀ t, (hi t).toNat ≤ (tile t).toNat * 512 + 512
  mono : ∀ (t : ℕ) (h : t + 1 < 35), (tile ⟨t, by omega⟩).toNat ≤ (tile ⟨t + 1, h⟩).toNat
  tile_lt : ∀ t, (tile t).toNat < 32
  ex_lt : ∀ t, (ex t).toNat < 4
  own : ∀ (r : Fin 16384) t, (lo t).toNat ≤ r.val → r.val < (hi t).toNat → e r = ex t

private theorem ofBool_one (b : Bool) : BitVec.ofBool b = 1#1 ↔ b = true := by cases b <;> decide
private theorem ori_one (a b : BitVec 1) : IntOp.ori a b = 1#1 ↔ a = 1#1 ∨ b = 1#1 := by revert a b; decide
private theorem toInt_small (x : BitVec 32) (h : 0 ≤ x.toInt) : x.toInt = (x.toNat : ℤ) := by
  have := x.isLt
  rw [BitVec.toInt_eq_toNat_cond] at h ⊢; split at h <;> simp_all; omega

/-- The precondition's twelve arrays all ones: the tables are a work list in order. -/
theorem workList_of_fn {F : FTy → Type} [FloatOps F] (a0 : IVec S16384x1 32) (a1 a2 a3 a4 : IVec S35 32)
    (a5 : FVec F S16384x6912 .fp8e4m3) (a6 : FVec F S16384x1 .f32) (a7 : FVec F S4x6912x2560 .fp8e4m3) (a8 : FVec F S4x2560 .f32)
    (h : (fn a0 a1 a2 a3 a4 a5 a6 a7 a8).1 = (fun _ => 1#1) ∧ (fn a0 a1 a2 a3 a4 a5 a6 a7 a8).2.1 = (fun _ => 1#1)
      ∧ (fn a0 a1 a2 a3 a4 a5 a6 a7 a8).2.2.1 = (fun _ => 1#1) ∧ (fn a0 a1 a2 a3 a4 a5 a6 a7 a8).2.2.2.1 = (fun _ => 1#1)
      ∧ (fn a0 a1 a2 a3 a4 a5 a6 a7 a8).2.2.2.2.1 = (fun _ => 1#1) ∧ (fn a0 a1 a2 a3 a4 a5 a6 a7 a8).2.2.2.2.2.1 = (fun _ => 1#1)
      ∧ (fn a0 a1 a2 a3 a4 a5 a6 a7 a8).2.2.2.2.2.2.1 = (fun _ => 1#1) ∧ (fn a0 a1 a2 a3 a4 a5 a6 a7 a8).2.2.2.2.2.2.2.1 = (fun _ => 1#1)
      ∧ (fn a0 a1 a2 a3 a4 a5 a6 a7 a8).2.2.2.2.2.2.2.2.1 = (fun _ => 1#1) ∧ (fn a0 a1 a2 a3 a4 a5 a6 a7 a8).2.2.2.2.2.2.2.2.2.1 = (fun _ => 1#1)
      ∧ (fn a0 a1 a2 a3 a4 a5 a6 a7 a8).2.2.2.2.2.2.2.2.2.2.1 = (fun _ => 1#1) ∧ (fn a0 a1 a2 a3 a4 a5 a6 a7 a8).2.2.2.2.2.2.2.2.2.2.2 = (fun _ => 1#1)) :
    WorkList (fun r => a0 (ix2 r (0 : Fin 1))) (fun t => a1 (ix1 t)) (fun t => a2 (ix1 t)) (fun t => a3 (ix1 t)) (fun t => a4 (ix1 t)) := by
  obtain ⟨h0, h1, h2, h3, h4, h5, h6, h7, h8, h9, h10, h11⟩ := h
  have tile0 (t : Fin 35) : 0 ≤ (a1 (ix1 t)).toInt := by
    have := congrFun h7 (ix1 t)
    simp only [fn, fn_part1, fn_part2, cmpi, broadcastInDim, constantI, cmpi_sge_eq, ofBool_one, decide_eq_true_eq] at this
    simpa using this
  have tile1 (t : Fin 35) : (a1 (ix1 t)).toInt < 32 := by
    have := congrFun h8 (ix1 t)
    simp only [fn, fn_part1, fn_part2, cmpi, broadcastInDim, constantI, cmpi_slt_eq, ofBool_one, decide_eq_true_eq] at this
    simpa using this
  have ex0 (t : Fin 35) : 0 ≤ (a2 (ix1 t)).toInt := by
    have := congrFun h9 (ix1 t)
    simp only [fn, fn_part1, fn_part2, cmpi, broadcastInDim, constantI, cmpi_sge_eq, ofBool_one, decide_eq_true_eq] at this
    simpa using this
  have ex1 (t : Fin 35) : (a2 (ix1 t)).toInt < 4 := by
    have := congrFun h10 (ix1 t)
    simp only [fn, fn_part1, fn_part2, cmpi, broadcastInDim, constantI, cmpi_slt_eq, ofBool_one, decide_eq_true_eq] at this
    simpa using this
  have tileN (t : Fin 35) : (a1 (ix1 t)).toNat < 32 := by
    have := tile0 t; have := tile1 t; rw [toInt_small _ (tile0 t)] at this; omega
  have mulN (t : Fin 35) : (IntOp.muli (a1 (ix1 t)) 512#32).toInt = ((a1 (ix1 t)).toNat * 512 : ℤ) := by
    have := tileN t
    have e : (IntOp.muli (a1 (ix1 t)) 512#32).toNat = (a1 (ix1 t)).toNat * 512 := by
      simp only [IntOp.muli, BitVec.toNat_mul, BitVec.toNat_ofNat]; omega
    rw [BitVec.toInt_eq_toNat_cond, e, if_pos (by omega)]; push_cast; rfl
  have addN (t : Fin 35) : (IntOp.addi (IntOp.muli (a1 (ix1 t)) 512#32) 512#32).toInt = ((a1 (ix1 t)).toNat * 512 + 512 : ℤ) := by
    have := tileN t
    have e : (IntOp.addi (IntOp.muli (a1 (ix1 t)) 512#32) 512#32).toNat = (a1 (ix1 t)).toNat * 512 + 512 := by
      simp only [IntOp.addi, IntOp.muli, BitVec.toNat_add, BitVec.toNat_mul, BitVec.toNat_ofNat]; omega
    rw [BitVec.toInt_eq_toNat_cond, e, if_pos (by omega)]; push_cast; rfl
  have tileLo (t : Fin 35) : ((a1 (ix1 t)).toNat * 512 : ℤ) ≤ (a3 (ix1 t)).toInt := by
    have := congrFun h4 (ix1 t)
    simp only [fn, fn_part1, fn_part2, cmpi, muli, broadcastInDim, constantI, cmpi_sle_eq, ofBool_one, decide_eq_true_eq] at this
    rw [← mulN]; exact this
  have loHi (t : Fin 35) : (a3 (ix1 t)).toInt ≤ (a4 (ix1 t)).toInt := by
    have := congrFun h3 (ix1 t)
    simp only [fn, fn_part1, fn_part2, cmpi, cmpi_sle_eq, ofBool_one, decide_eq_true_eq] at this
    exact this
  have hiTile (t : Fin 35) : (a4 (ix1 t)).toInt ≤ ((a1 (ix1 t)).toNat * 512 + 512 : ℤ) := by
    have := congrFun h5 (ix1 t)
    simp only [fn, fn_part1, fn_part2, cmpi, muli, addi, broadcastInDim, constantI, cmpi_sle_eq, ofBool_one, decide_eq_true_eq] at this
    rw [← addN]; exact this
  have loI (t : Fin 35) : (a3 (ix1 t)).toInt = ((a3 (ix1 t)).toNat : ℤ) := toInt_small _ (by have := tileLo t; omega)
  have hiI (t : Fin 35) : (a4 (ix1 t)).toInt = ((a4 (ix1 t)).toNat : ℤ) := toInt_small _ (by have := tileLo t; have := loHi t; omega)
  have at_t (P : BitVec 32 → Prop) (a : IVec S35 32) (I : S35.Idx) (t : Fin 35) (hI : (I 0).val = t.val) : P (a I) ↔ P (a (ix1 t)) := by
    have e : I = ix1 t := by
      funext d
      obtain rfl : d = 0 := Subsingleton.elim _ _
      exact Fin.ext hI
    rw [e]
  have to_t (P : BitVec 32 → Prop) (a : IVec S35 32) (I : S35.Idx) (t : Fin 35) (h : P (a I)) (hI : (I 0).val = t.val) : P (a (ix1 t)) :=
    (at_t P a I t hI).1 h
  have one_zero (j : S1.Idx) : (j 0).val = 0 := Nat.lt_one_iff.1 (j 0).isLt
  refine ⟨?_, ?_, ?_, ?_, ?_, ?_, ?_, tileN, ?_, ?_⟩
  · have := congrFun h0 (fun d => d.elim0)
    simp only [fn, fn_part1, fn_part2, cmpi, shapeCast, extractStridedSlice, constantI, cmpi_eq_eq, ofBool_one, decide_eq_true_eq] at this
    rw [at_t (fun v => v = 0#32) a3 _ 0 ((Nat.zero_add _).trans (one_zero _))] at this
    rw [this]; rfl
  · have := congrFun h1 (fun d => d.elim0)
    simp only [fn, fn_part1, fn_part2, cmpi, shapeCast, extractStridedSlice, constantI, cmpi_eq_eq, ofBool_one, decide_eq_true_eq] at this
    rw [at_t (fun v => v = 16384#32) a4 _ 34 (congrArg (34 + ·) (one_zero _))] at this
    rw [this]; rfl
  · intro t h
    have := congrFun h2 (ix1 (⟨t, by omega⟩ : Fin 34))
    simp only [fn, fn_part1, fn_part2, cmpi, extractStridedSlice, cmpi_eq_eq, ofBool_one, decide_eq_true_eq] at this
    rw [at_t (fun v => v = _) a3 _ ⟨t + 1, h⟩ (Nat.add_comm _ _), at_t (fun v => _ = v) a4 _ ⟨t, by omega⟩ (Nat.zero_add _)] at this
    rw [this]
  · intro t; have := loHi t; rw [loI, hiI] at this; exact_mod_cast this
  · intro t; have := tileLo t; rw [loI] at this; exact_mod_cast this
  · intro t; have := hiTile t; rw [hiI] at this; exact_mod_cast this
  · intro t h
    have := congrFun h6 (ix1 (⟨t, by omega⟩ : Fin 34))
    simp only [fn, fn_part1, fn_part2, cmpi, extractStridedSlice, cmpi_sle_eq, ofBool_one, decide_eq_true_eq] at this
    have p := to_t (fun v => v.toInt ≤ _) a1 _ ⟨t, by omega⟩ this (Nat.zero_add _)
    have q := to_t (fun v => (a1 (ix1 (⟨t, by omega⟩ : Fin 35))).toInt ≤ v.toInt) a1 _ ⟨t + 1, h⟩ p (Nat.add_comm _ _)
    rw [toInt_small _ (tile0 _), toInt_small _ (tile0 _)] at q
    exact_mod_cast q
  · intro t; have := ex0 t; have := ex1 t; rw [toInt_small _ (ex0 t)] at this; omega
  · intro r t hl hh
    have := congrFun h11 (ix2 r t)
    simp only [fn, fn_part1, fn_part2, cmpi, ori, ori_one, broadcastInDim, iotaInDim] at this
    have hr : (BitVec.ofNat 32 r.val).toInt = (r.val : ℤ) := by
      rw [BitVec.toInt_eq_toNat_cond, BitVec.toNat_ofNat]; have := r.isLt; omega
    rcases this with (z | z) | z
    · have z := to_t (fun v => IntOp.cmpi .slt (BitVec.ofNat 32 r.val) v = 1#1) a3 _ t z (by simp)
      rw [cmpi_slt_eq, ofBool_one, decide_eq_true_eq, loI, hr] at z; omega
    · have z := to_t (fun v => IntOp.cmpi .sge (BitVec.ofNat 32 r.val) v = 1#1) a4 _ t z (by simp)
      rw [cmpi_sge_eq, ofBool_one, decide_eq_true_eq, hiI, hr] at z; omega
    · have z := to_t (fun v => IntOp.cmpi .eq (a0 _) v = 1#1) a2 _ t z (by simp)
      rw [cmpi_eq_eq, ofBool_one, decide_eq_true_eq] at z
      rw [← z]
      congr 1
      funext d; match d with | 0 => rfl | 1 => rfl

end Cert.Down

end
-- ==== Proof.DownBitsOk.lean ====
/- The precondition gives the tables' contents their side condition, and the tables as a work list in order. -/
module

public import proofs.«01_k».proof.Proof.DownPre
public import proofs.«01_k».proof.Proof.DownBitsKit
public import proofs.«01_k».proof.Defs

@[expose] public section

set_option maxRecDepth 16384

noncomputable section

namespace Cert.DownEx.Gen

open Idealize.ShloMosaic Idealize.ShloMosaic.TcCoe Idealize.SL.Sem

variable {F : FTy → Type} [FloatOps F]
variable (m : (ℓ : Loc nD τ sig) → Buf (Elt F) ℓ)

/-- Row `r`'s expert. -/
abbrev rowEx (r : Fin 16384) : BitVec 32 := m ((0 : Dev nD).tc.loc main_arg0) (ix2 r (0 : Fin 1))
/-- Item `t`'s tile, expert, first row and row bound. -/
abbrev wTile (t : Fin 35) : BitVec 32 := m ((0 : Dev nD).tc.loc main_arg1) (ix1 t)
abbrev wEx (t : Fin 35) : BitVec 32 := m ((0 : Dev nD).tc.loc main_arg2) (ix1 t)
abbrev wLo (t : Fin 35) : BitVec 32 := m ((0 : Dev nD).tc.loc main_arg3) (ix1 t)
abbrev wHi (t : Fin 35) : BitVec 32 := m ((0 : Dev nD).tc.loc main_arg4) (ix1 t)
/-- The tables are a work list in order. -/
abbrev Items : Prop := Cert.Down.WorkList (rowEx m) (wTile m) (wEx m) (wLo m) (wHi m)

theorem off1_eq (i : grid0.Coords) : (k0_off1 i) 0 = (i 0).val := by
  have : (i 0).val < 35 := (i 0).isLt
  show (BitVec.ofNat 32 (i 0).val).toNat = _
  rw [BitVec.toNat_ofNat]; omega

theorem idx_point (i : grid0.Coords) (t : Fin 35) (ht : (i 0).val = t.val) (h1 : (Rect.unit (s := S35) (k0_off1 i) S1.size (k0_off1_inb i)).shape.numel = 1) :
    (Rect.unit (s := S35) (k0_off1 i) S1.size (k0_off1_inb i)).emb (Shape.Idx.first (h1.symm ▸ Nat.one_pos)) = ix1 t := by
  funext d
  obtain rfl : d = 0 := Subsingleton.elim _ _
  refine Fin.ext ?_
  have e := off1_eq i
  have q (j : (Rect.unit (s := S35) (k0_off1 i) S1.size (k0_off1_inb i)).shape.Idx) : (j 0).val = 0 := Nat.lt_one_iff.1 (j 0).isLt
  have z := q (Shape.Idx.first (h1.symm ▸ Nat.one_pos))
  show (k0_off1 i) 0 + 1 * (Shape.Idx.first (h1.symm ▸ Nat.one_pos) : (Rect.unit (s := S35) (k0_off1 i) S1.size (k0_off1_inb i)).shape.Idx) 0 = t.val
  rw [z]; omega

/-- The word a table's block index is computed from is item `t`'s. -/
theorem tile_at (i : grid0.Coords) (t : Fin 35) (ht : (i 0).val = t.val) :
    (tbl m).at 0 (Rect.unit (s := S35) (k0_off1 i) S1.size (k0_off1_inb i)) numel1_S1 = wTile m t := by
  refine (congrArg (tbl m 0) (idx_point i t ht numel1_S1)).trans ?_
  exact congrFun (V_main_arg1 m 0) _

theorem ex_at (i : grid0.Coords) (t : Fin 35) (ht : (i 0).val = t.val) :
    (tbl m).at 1 (Rect.unit (s := S35) (k0_off1 i) S1.size (k0_off1_inb i)) numel1_S1 = wEx m t := by
  refine (congrArg (tbl m 1) (idx_point i t ht numel1_S1)).trans ?_
  exact congrFun (V_main_arg2 m 0) _

theorem ix_row (i : grid0.Coords) (t : Fin 35) (ht : (i 0).val = t.val) :
    cc0_transform_0 k0_off1_inb numel1_S1 (tbl m) i = ![(wTile m t).toNat, 0] ∧ cc0_transform_1 k0_off1_inb numel1_S1 (tbl m) i = ![(wTile m t).toNat, 0]
    ∧ cc0_transform_2 k0_off1_inb numel1_S1 (tbl m) i = ![(wEx m t).toNat, 0, 0] ∧ cc0_transform_3 k0_off1_inb numel1_S1 (tbl m) i = ![(wEx m t).toNat, 0, 0]
    ∧ cc0_transform_4 k0_off1_inb numel1_S1 (tbl m) i = ![(wTile m t).toNat, 0] := by
  rw [← tile_at m i t ht, ← ex_at m i t ht]
  exact ⟨rfl, rfl, rfl, rfl, rfl⟩

/-- A work list's blocks are inside their arrays, and end on whole words. -/
theorem ok_of_items (hw : Items m) : Ok m := by
  have ht (i : grid0.Coords) : ∃ t : Fin 35, (i 0).val = t.val := ⟨i 0, rfl⟩
  refine ⟨fun i => ?_, fun i => ?_, fun i => ?_, fun i => ?_, fun i => ?_⟩ <;> obtain ⟨t, e⟩ := ht i <;>
    have h1 := hw.tile_lt t <;> have h2 := hw.ex_lt t <;> obtain ⟨e0, e1, e2, e3, e4⟩ := ix_row m i t e
  · rw [e0]; generalize (wTile m t).toNat = n at h1
    refine ⟨?_, .inr (.inl (.inr ⟨by decide, rfl, .inl ⟨?_, ?_⟩⟩))⟩
    · intro a; match a with
      | 0 => show (n + 1) * 512 ≤ 16384; omega
      | 1 => show (0 + 1) * 6912 ≤ 6912; omega
    · show 4 ∣ n * 512; omega
    · show 4 ∣ 512; omega
  · rw [e1]; generalize (wTile m t).toNat = n at h1
    refine ⟨?_, .inl rfl⟩
    intro a; match a with
    | 0 => show (n + 1) * 512 ≤ 16384; omega
    | 1 => exact le_rfl
  · rw [e2]; generalize (wEx m t).toNat = n at h2
    refine ⟨?_, .inr (.inr ⟨by decide, rfl, rfl, rfl⟩)⟩
    intro a; match a with
    | 0 => show (n + 1) * 1 ≤ 4; omega
    | 1 => show (0 + 1) * 6912 ≤ 6912; omega
    | 2 => exact le_rfl
  · rw [e3]; generalize (wEx m t).toNat = n at h2
    refine ⟨?_, .inl rfl⟩
    intro a; match a with
    | 0 => show (n + 1) * 1 ≤ 4; omega
    | 1 => exact le_rfl
    | 2 => exact le_rfl
  · rw [e4]; generalize (wTile m t).toNat = n at h1
    refine ⟨?_, .inl rfl⟩
    intro a; match a with
    | 0 => show (n + 1) * 512 ≤ 16384; omega
    | 1 => exact le_rfl

/-- The precondition says that the tables are a work list in order. -/
theorem items_of_pre (m : (ℓ : Loc nD τ sig) → Buf (Elt Bits) ℓ) (h : Cert.Pre_DownEx m) : Items m :=
  Cert.Down.workList_of_fn _ _ _ _ _ _ _ _ _ (h 0)

end Cert.DownEx.Gen

end
-- ==== Proof.DownChain.lean ====
/- What a work list in order says of its items' rows: every row has an owner, and a tile is complete when the next item has another tile. -/
module

public import proofs.«01_k».proof.Proof.DownPre

@[expose] public section

namespace Cert.Down

variable {e : Fin 16384 → BitVec 32} {tile ex lo hi : Fin 35 → BitVec 32} (hw : WorkList e tile ex lo hi)

/-- Item `t` is the last of its tile. -/
def Ends (tile : Fin 35 → BitVec 32) (t : Fin 35) : Prop := t.val = 34 ∨ ∃ h : t.val + 1 < 35, (tile ⟨t.val + 1, h⟩).toNat ≠ (tile t).toNat

include hw in
/-- The last item of a tile ends at the tile's end. -/
theorem WorkList.hi_of_ends (t : Fin 35) (h : Ends tile t) : (hi t).toNat = (tile t).toNat * 512 + 512 := by
  have a := hw.le_tile t
  rcases h with h | ⟨h, hne⟩
  · obtain rfl : t = 34 := Fin.ext h
    have b := hw.last
    have c := hw.tile_lt 34
    omega
  · have b := hw.next t.val h
    have c := hw.mono t.val h
    have d := hw.tile_le ⟨t.val + 1, h⟩
    have c' : (tile t).toNat ≤ (tile ⟨t.val + 1, h⟩).toNat := c
    have b' : (lo ⟨t.val + 1, h⟩).toNat = (hi t).toNat := b
    omega

include hw in
/-- Every row has an item that owns it. -/
theorem WorkList.owner (r : Nat) (hr : r < 16384) : ∃ t : Fin 35, (lo t).toNat ≤ r ∧ r < (hi t).toNat := by
  have hex : ∃ n, ∃ h : n < 35, r < (hi ⟨n, h⟩).toNat := ⟨34, by omega, by have := hw.last; show r < (hi 34).toNat; omega⟩
  classical
  obtain ⟨h, hlt⟩ := Nat.find_spec hex
  refine ⟨⟨Nat.find hex, h⟩, ?_, hlt⟩
  have hmin := fun k hk => Nat.find_min hex (m := k) hk
  generalize Nat.find hex = n at *
  cases n with
  | zero => have := hw.first; show (lo 0).toNat ≤ r; omega
  | succ k =>
    have hk := hmin k (by omega)
    have b := hw.next k h
    rw [b]
    by_contra hc
    exact hk ⟨by omega, by omega⟩

include hw in
/-- Every row is in a tile whose last item is in the list. -/
theorem WorkList.ender (r : Nat) (hr : r < 16384) : ∃ t : Fin 35, Ends tile t ∧ (tile t).toNat * 512 ≤ r ∧ r < (tile t).toNat * 512 + 512 := by
  obtain ⟨t0, h0, h1⟩ := hw.owner r hr
  have key : ∀ n (t : Fin 35), 34 - t.val = n → (tile t).toNat * 512 ≤ r → ∃ t : Fin 35, Ends tile t ∧ (tile t).toNat * 512 ≤ r ∧ r < (tile t).toNat * 512 + 512 := by
    intro n
    induction n with
    | zero =>
      intro t ht hle
      have ht34 : t.val = 34 := by omega
      obtain rfl : t = 34 := Fin.ext ht34
      refine ⟨34, .inl rfl, hle, ?_⟩
      have a := hw.hi_of_ends 34 (.inl rfl)
      have b := hw.last
      omega
    | succ n ih =>
      intro t ht hle
      have h : t.val + 1 < 35 := by omega
      by_cases hc : (tile ⟨t.val + 1, h⟩).toNat * 512 ≤ r
      · exact ih ⟨t.val + 1, h⟩ (by show 34 - (t.val + 1) = n; omega) hc
      · have he : Ends tile t := .inr ⟨h, fun q => hc (by omega)⟩
        refine ⟨t, he, hle, ?_⟩
        have a := hw.hi_of_ends t he
        have b : (lo ⟨t.val + 1, h⟩).toNat = (hi t).toNat := hw.next t.val h
        have d := hw.tile_le ⟨t.val + 1, h⟩
        omega
  exact key _ t0 rfl (by have := hw.tile_le t0; omega)

include hw in
/-- An item's expert is its rows'. -/
theorem WorkList.row_lt (r : Fin 16384) : (e r).toNat < 4 := by
  obtain ⟨t, h0, h1⟩ := hw.owner r.val r.isLt
  rw [hw.own r t h0 h1]
  exact hw.ex_lt t

include hw in
/-- WHAT A BLOCK HOLDS AFTER ITS ITEMS. If item `t` leaves in its own rows the target and elsewhere what it found, and finds what
    the item before left while the tile stays, the rows of the tile below the item's row bound hold the target. -/
theorem WorkList.filled {α : Type} (Finds Leaves : Fin 35 → (Fin 512 → α) → Prop) (G : Fin 16384 → α)
    (leaves : ∀ t X, Leaves t X → ∃ Y, Finds t Y ∧ ∀ (p : Fin 512) (R : Fin 16384), R.val = (tile t).toNat * 512 + p.val →
      ((lo t).toNat ≤ R.val ∧ R.val < (hi t).toNat → X p = G R) ∧ (¬ ((lo t).toNat ≤ R.val ∧ R.val < (hi t).toNat) → X p = Y p))
    (finds : ∀ t (h : t + 1 < 35) Y, Finds ⟨t + 1, h⟩ Y → Ends tile ⟨t, by omega⟩ ∨ Leaves ⟨t, by omega⟩ Y)
    (t : Fin 35) (X : Fin 512 → α) (hX : Leaves t X) (p : Fin 512) (R : Fin 16384) (hR : R.val = (tile t).toNat * 512 + p.val)
    (hlt : R.val < (hi t).toNat) : X p = G R := by
  suffices key : ∀ n (hn : n < 35) (X : Fin 512 → α), Leaves ⟨n, hn⟩ X → ∀ (p : Fin 512) (R : Fin 16384),
      R.val = (tile ⟨n, hn⟩).toNat * 512 + p.val → R.val < (hi ⟨n, hn⟩).toNat → X p = G R from key t.val t.isLt X hX p R hR hlt
  clear hlt hR R p hX X t
  intro n
  induction n with
  | zero =>
    intro hn X hX p R hR hlt
    obtain ⟨Y, _, h⟩ := leaves _ _ hX
    have a := hw.first
    exact (h p R hR).1 ⟨by show (lo 0).toNat ≤ _; omega, hlt⟩
  | succ n ih =>
    intro hn X hX p R hR hlt
    obtain ⟨Y, hY, h⟩ := leaves _ _ hX
    by_cases hl : (lo ⟨n + 1, hn⟩).toNat ≤ R.val
    · exact (h p R hR).1 ⟨hl, hlt⟩
    · rw [(h p R hR).2 fun q => hl q.1]
      have b := hw.next n hn
      have c := hw.mono n hn
      have d := hw.le_tile ⟨n, by omega⟩
      by_cases he : Ends tile ⟨n, by omega⟩
      · exfalso
        have f := hw.hi_of_ends _ he
        rcases he with he | ⟨_, hne⟩
        · have : n = 34 := he
          omega
        · have hne' : (tile ⟨n + 1, hn⟩).toNat ≠ (tile ⟨n, by omega⟩).toNat := hne
          omega
      · rcases finds n hn Y hY with q | q
        · exact absurd q he
        · have e : (tile ⟨n + 1, hn⟩).toNat = (tile ⟨n, by omega⟩).toNat := by
            by_contra q
            exact he (.inr ⟨hn, q⟩)
          exact ih _ Y q p R (by rw [hR, e]) (by omega)

end Cert.Down
-- ==== Proof.DownIdealKit.lean ====
/- The frame kit of the expert down projection: what the region finds in every buffer, the tables as the region reads
   them, the windows' blocks, and the staging memrefs at a grid point. Everything is stated for every launch memory whose
   tables keep the blocks inside their arrays (`Ok`). -/
module

public import proofs.«01_k».proof.Proof.Gen.DownExIdeal.Launch
public import proofs.«01_k».proof.Proof.Gen.DownExIdeal.Skeleton
public import proofs.«01_k».proof.Proof.Gen.DownExIdeal
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownExIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_down (grid0.coords t) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S35 .i32 := Memref.whole main_arg1
abbrev htbM0_0 : tbM0_0.IsWhole := Memref.isWhole_whole _
abbrev tbM0_1 : Memref sig .tc .smem S35 .i32 := Memref.whole main_arg2
abbrev htbM0_1 : tbM0_1.IsWhole := Memref.isWhole_whole _
abbrev tbM0_2 : Memref sig .tc .smem S35 .i32 := Memref.whole main_arg3
abbrev htbM0_2 : tbM0_2.IsWhole := Memref.isWhole_whole _
abbrev tbM0_3 : Memref sig .tc .smem S35 .i32 := Memref.whole main_arg4
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DownExIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).2 main_arg8 (by decide : main_arg8 ∈ Pipeline.restRefs sig spec0)).trans (V_main_arg8 m c)⟩) h

/-! ## The kernel body on any staging memrefs: a subtype the run finds -/

/-- One staging buffer of output window 4, through which its contents are stated (`View.read_writes_of_cover`: the
    choice does not matter). -/
abbrev VO0_4 : View sig .tc .vmem S512x2560 .f32 := (Memref.whole cc0_stg4_0 : Memref sig .tc .vmem S512x2560 .f32).view
/-- Each window's current staging memref at point `t`, spelled as the pipeline passes it (`bodyAt0`), and its wholeness. -/
abbrev ms0_0 (hO : Ok m) (t : Fin (cfgM m hO).N) : Memref sig .tc .vmem S512x6912 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x6912x2560 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2560 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x2560 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.DownExIdeal.Gen

end
-- ==== Proof.DownIdealOk.lean ====
/- The precondition gives the tables' contents their side condition, and the tables as a work list in order. -/
module

public import proofs.«01_k».proof.Proof.DownPre
public import proofs.«01_k».proof.Proof.DownIdealKit
public import proofs.«01_k».proof.Defs

@[expose] public section

set_option maxRecDepth 16384

noncomputable section

namespace Cert.DownExIdeal.Gen

open Idealize.ShloMosaic Idealize.ShloMosaic.TcCoe Idealize.SL.Sem

variable {F : FTy → Type} [FloatOps F]
variable (m : (ℓ : Loc nD τ sig) → Buf (Elt F) ℓ)

/-- Row `r`'s expert. -/
abbrev rowEx (r : Fin 16384) : BitVec 32 := m ((0 : Dev nD).tc.loc main_arg0) (ix2 r (0 : Fin 1))
/-- Item `t`'s tile, expert, first row and row bound. -/
abbrev wTile (t : Fin 35) : BitVec 32 := m ((0 : Dev nD).tc.loc main_arg1) (ix1 t)
abbrev wEx (t : Fin 35) : BitVec 32 := m ((0 : Dev nD).tc.loc main_arg2) (ix1 t)
abbrev wLo (t : Fin 35) : BitVec 32 := m ((0 : Dev nD).tc.loc main_arg3) (ix1 t)
abbrev wHi (t : Fin 35) : BitVec 32 := m ((0 : Dev nD).tc.loc main_arg4) (ix1 t)
/-- The tables are a work list in order. -/
abbrev Items : Prop := Cert.Down.WorkList (rowEx m) (wTile m) (wEx m) (wLo m) (wHi m)

theorem off1_eq (i : grid0.Coords) : (k0_off1 i) 0 = (i 0).val := by
  have : (i 0).val < 35 := (i 0).isLt
  show (BitVec.ofNat 32 (i 0).val).toNat = _
  rw [BitVec.toNat_ofNat]; omega

theorem idx_point (i : grid0.Coords) (t : Fin 35) (ht : (i 0).val = t.val) (h1 : (Rect.unit (s := S35) (k0_off1 i) S1.size (k0_off1_inb i)).shape.numel = 1) :
    (Rect.unit (s := S35) (k0_off1 i) S1.size (k0_off1_inb i)).emb (Shape.Idx.first (h1.symm ▸ Nat.one_pos)) = ix1 t := by
  funext d
  obtain rfl : d = 0 := Subsingleton.elim _ _
  refine Fin.ext ?_
  have e := off1_eq i
  have q (j : (Rect.unit (s := S35) (k0_off1 i) S1.size (k0_off1_inb i)).shape.Idx) : (j 0).val = 0 := Nat.lt_one_iff.1 (j 0).isLt
  have z := q (Shape.Idx.first (h1.symm ▸ Nat.one_pos))
  show (k0_off1 i) 0 + 1 * (Shape.Idx.first (h1.symm ▸ Nat.one_pos) : (Rect.unit (s := S35) (k0_off1 i) S1.size (k0_off1_inb i)).shape.Idx) 0 = t.val
  rw [z]; omega

/-- The word a table's block index is computed from is item `t`'s. -/
theorem tile_at (i : grid0.Coords) (t : Fin 35) (ht : (i 0).val = t.val) :
    (tbl m).at 0 (Rect.unit (s := S35) (k0_off1 i) S1.size (k0_off1_inb i)) numel1_S1 = wTile m t := by
  refine (congrArg (tbl m 0) (idx_point i t ht numel1_S1)).trans ?_
  exact congrFun (V_main_arg1 m 0) _

theorem ex_at (i : grid0.Coords) (t : Fin 35) (ht : (i 0).val = t.val) :
    (tbl m).at 1 (Rect.unit (s := S35) (k0_off1 i) S1.size (k0_off1_inb i)) numel1_S1 = wEx m t := by
  refine (congrArg (tbl m 1) (idx_point i t ht numel1_S1)).trans ?_
  exact congrFun (V_main_arg2 m 0) _

theorem ix_row (i : grid0.Coords) (t : Fin 35) (ht : (i 0).val = t.val) :
    cc0_transform_0 k0_off1_inb numel1_S1 (tbl m) i = ![(wTile m t).toNat, 0] ∧ cc0_transform_1 k0_off1_inb numel1_S1 (tbl m) i = ![(wTile m t).toNat, 0]
    ∧ cc0_transform_2 k0_off1_inb numel1_S1 (tbl m) i = ![(wEx m t).toNat, 0, 0] ∧ cc0_transform_3 k0_off1_inb numel1_S1 (tbl m) i = ![(wEx m t).toNat, 0, 0]
    ∧ cc0_transform_4 k0_off1_inb numel1_S1 (tbl m) i = ![(wTile m t).toNat, 0] := by
  rw [← tile_at m i t ht, ← ex_at m i t ht]
  exact ⟨rfl, rfl, rfl, rfl, rfl⟩

/-- A work list's blocks are inside their arrays, and end on whole words. -/
theorem ok_of_items (hw : Items m) : Ok m := by
  have ht (i : grid0.Coords) : ∃ t : Fin 35, (i 0).val = t.val := ⟨i 0, rfl⟩
  refine ⟨fun i => ?_, fun i => ?_, fun i => ?_, fun i => ?_, fun i => ?_⟩ <;> obtain ⟨t, e⟩ := ht i <;>
    have h1 := hw.tile_lt t <;> have h2 := hw.ex_lt t <;> obtain ⟨e0, e1, e2, e3, e4⟩ := ix_row m i t e
  · rw [e0]; generalize (wTile m t).toNat = n at h1
    refine ⟨?_, .inr (.inl (.inr ⟨by decide, rfl, .inl ⟨?_, ?_⟩⟩))⟩
    · intro a; match a with
      | 0 => show (n + 1) * 512 ≤ 16384; omega
      | 1 => show (0 + 1) * 6912 ≤ 6912; omega
    · show 4 ∣ n * 512; omega
    · show 4 ∣ 512; omega
  · rw [e1]; generalize (wTile m t).toNat = n at h1
    refine ⟨?_, .inl rfl⟩
    intro a; match a with
    | 0 => show (n + 1) * 512 ≤ 16384; omega
    | 1 => exact le_rfl
  · rw [e2]; generalize (wEx m t).toNat = n at h2
    refine ⟨?_, .inr (.inr ⟨by decide, rfl, rfl, rfl⟩)⟩
    intro a; match a with
    | 0 => show (n + 1) * 1 ≤ 4; omega
    | 1 => show (0 + 1) * 6912 ≤ 6912; omega
    | 2 => exact le_rfl
  · rw [e3]; generalize (wEx m t).toNat = n at h2
    refine ⟨?_, .inl rfl⟩
    intro a; match a with
    | 0 => show (n + 1) * 1 ≤ 4; omega
    | 1 => exact le_rfl
    | 2 => exact le_rfl
  · rw [e4]; generalize (wTile m t).toNat = n at h1
    refine ⟨?_, .inl rfl⟩
    intro a; match a with
    | 0 => show (n + 1) * 512 ≤ 16384; omega
    | 1 => exact le_rfl

/-- The precondition says that the tables are a work list in order. -/
theorem items_of_pre (m : (ℓ : Loc nD τ sig) → Buf (Elt Ideal) ℓ) (h : Cert.Pre_DownExIdeal m) : Items m :=
  Cert.Down.workList_of_fn _ _ _ _ _ _ _ _ _ (h 0)

end Cert.DownExIdeal.Gen

end
-- ==== Proof.DownIdealRun.lean ====
/- One run of the expert down projection's body on any whole staging memrefs, from any old contents of the output block. -/
module

public import proofs.«01_k».proof.Proof.DownIdealKit

@[expose] public section

-- membership in a rectangle of production extents (`View.cover_of_tiled`): the elaborator's structural look
-- recurses once per coordinate of the long axes
set_option maxRecDepth 16384

noncomputable section

namespace Cert.DownExIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The contents of the output's staging buffer after the body, found by running it: on whole staging memrefs, the inputs'
    at their contents and the output's at `x4`, the body runs to the continuation that holds the inputs' as they were and
    the output's at the contents found. Each half of the block is written only if some of its rows are this work item's. -/
noncomputable def kernelRun0_A (c : Dev nD) (i : grid0.Coords) (arg5 : Memref sig .tc .vmem S512x6912 .fp8e4m3) (harg5 : arg5.IsWhole) (arg6 : Memref sig .tc .vmem S512x1 .f32) (harg6 : arg6.IsWhole) (arg7 : Memref sig .tc .vmem S1x6912x2560 .fp8e4m3) (harg7 : arg7.IsWhole) (arg8 : Memref sig .tc .vmem S1x1x2560 .f32) (harg8 : arg8.IsWhole) (arg9 : Memref sig .tc .vmem S512x2560 .f32) (harg9 : arg9.IsWhole)
    (x0 : Vec F S512x6912 .fp8e4m3) (x1 : Vec F S512x1 .f32) (x2 : Vec F S1x6912x2560 .fp8e4m3) (x3 : Vec F S1x1x2560 .f32) (x4 : Vec F S512x2560 .f32) (xt0 : TbBuf0 (F := F) c tbM0_0) (xt1 : TbBuf0 (F := F) c tbM0_1) (xt2 : TbBuf0 (F := F) c tbM0_2) (xt3 : TbBuf0 (F := F) c tbM0_3) :
    { g : Buf (Elt F) (arg9.view.loc (c : Thread nD τ)) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (arg9.view.read (Elt F) g) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_down i tbM0_0 htbM0_0 tbM0_1 htbM0_1 tbM0_2 htbM0_2 tbM0_3 htbM0_3 arg5 harg5 arg6 harg6 arg7 harg7 arg8 harg8 arg9 harg9) K } := by
  refine ⟨?_, fun E K => ?run⟩
  case run =>
    simp only [cc0_expert_down_eq_skeleton]; unfold cc0_expert_down_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr
      swap
      · iexact H4
      ipureintro; rfl
    isplitl [HT0]; · iexact HT0
    isplitl [HT1]; · iexact HT1
    isplitl [HT2]; · iexact HT2
    iexact HT3

end Cert.DownExIdeal.Gen

end
-- ==== Proof.DownIdealBlock.lean ====
/- What one grid point leaves in its output block: on the item's rows the products with the item's expert, elsewhere what the block held. -/
module

public import proofs.«01_k».proof.Proof.DownIdealRun
public import Idealize.ShloMosaic.Lib.Pipeline.ValueKit
public import Idealize.ShloMosaic.Lib.Pipeline.ReadBack
public import Idealize.ShloMosaic.Lib.Pointwise
public import Idealize.ShloMosaic.Lib.WholeRead
public import Idealize.ShloMosaic.Lib.WordCmp

@[expose] public section

set_option maxRecDepth 16384

noncomputable section

namespace Cert.DownExIdeal.Gen

open Idealize.ShloMosaic Idealize.ShloMosaic.TcCoe Idealize.ShloMosaic.WordCmp Idealize.SL Idealize.SL.Sem

/-- Pieces that each hold one function's values, written over contents that hold them wherever no piece lies: the whole holds them. -/
theorem read_writes_fn {sig : RefSig} {κ : Kind} {sp : Space} {s : Shape} {e : EltTy} {Val : EltTy → Type} (v : View sig κ sp s e)
    (f : v.ty.Contents Val) (G : s.Idx → Val e) (y : s.Idx) : ∀ (L : List (View.Piece Val s e)),
    (∀ p ∈ L, ∀ x, p.2 x = G (p.1.emb x)) → (v.read Val f y = G y ∨ ∃ p ∈ L, y ∈ p.1.set) → v.read Val (v.writes Val f L) y = G y
  | [], _, h => by rcases h with h | ⟨p, hp, _⟩; exacts [h, absurd hp (by simp)]
  | p :: L, hG, h => by
    by_cases hy : y ∈ p.1.set
    · obtain ⟨x, rfl⟩ : ∃ x, p.1.emb x = y := by
        rw [← Rect.map_emb_univ] at hy
        obtain ⟨x, _, hx⟩ := Finset.mem_map.1 hy
        exact ⟨x, hx⟩
      exact (View.read_writes_cons_emb v f p.1 p.2 L x).trans (hG p List.mem_cons_self x)
    · rw [View.read_writes_cons_miss v f p L y hy]
      refine read_writes_fn v f G y L (fun q hq => hG q (List.mem_cons_of_mem _ hq)) ?_
      rcases h with h | ⟨q, hq, hyq⟩
      · exact .inl h
      · rcases List.mem_cons.1 hq with rfl | hq
        · exact absurd hyq hy
        · exact .inr ⟨q, hq, hyq⟩

/-- The product of row `r` with column `n` of the expert, scaled. -/
def prodB (x0 : Vec Ideal S512x6912 .fp8e4m3) (x1 : Vec Ideal S512x1 .f32) (x2 : Vec Ideal S1x6912x2560 .fp8e4m3)
    (x3 : Vec Ideal S1x1x2560 .f32) (r : Fin 512) (n : Fin 2560) : EReal :=
  (∑ k : Fin 6912, x0 (ix2 r k) * x2 (ix3 0 k n)) * x1 (ix2 r 0) * x3 (ix3 0 0 n)

/-- One chunk of 512 columns, on 256 rows. -/
theorem half_apply (v19 : Vec Ideal S256x6912 .fp8e4m3) (v20 : Vec Ideal S256x1 .f32) (v28 : IVec S256x1 1) (v89 : Vec Ideal S1x6912x512 .fp8e4m3)
    (v94 : Vec Ideal S1x1x512 .f32) (v98 : Vec Ideal S256x512 .f32) (p : Fin 256) (q : Fin 512) :
    k0_pay2 v19 v20 v28 v89 v94 v98 (ix2 p q)
      = if v28 (ix2 p 0) = 1#1 then (∑ k : Fin 6912, v19 (ix2 p k) * v89 (ix3 0 k q)) * v20 (ix2 p 0) * v94 (ix3 0 0 q) else v98 (ix2 p q) := by
  pointwise [k0_pay2]
  rfl

private theorem ofBool_one (b : Bool) : BitVec.ofBool b = 1#1 ↔ b = true := by cases b <;> decide
private theorem andi_one (a b : BitVec 1) : IntOp.andi a b = 1#1 ↔ a = 1#1 ∧ b = 1#1 := by revert a b; decide
private theorem extui_one (a : BitVec 1) : Scalar.cmpi .ne (Scalar.extui a : BitVec 32) 0#32 = 1#1 ↔ a = 1#1 := by revert a; decide

private theorem toInt_small (x : BitVec 32) (h : x.toNat ≤ 1024) : x.toInt = (x.toNat : ℤ) := by
  rw [BitVec.toInt_eq_toNat_cond, if_pos (by omega)]

/-- The rows of the upper half that the item owns, -/
theorem mine_first (v5 v8 : BitVec 32) (h5 : v5.toNat ≤ 512) (h8 : v8.toNat ≤ 512) (p : Fin 256) :
    k0_pay3 v5 v8 (ix2 p 0) = 1#1 ↔ v5.toNat ≤ p.val ∧ p.val < v8.toNat := by
  pointwise [k0_pay3]
  have e : (IntOp.addi (BitVec.ofNat 32 p.val) 0#32).toNat = p.val := by
    simp only [IntOp.addi, BitVec.toNat_add, BitVec.toNat_ofNat]; omega
  rw [andi_one, cmpi_sge_eq, cmpi_slt_eq, ofBool_one, ofBool_one, decide_eq_true_eq, decide_eq_true_eq,
    toInt_small _ (by omega : v5.toNat ≤ 1024), toInt_small _ (by omega : v8.toNat ≤ 1024), toInt_small _ (by omega), e]
  omega

/-- and of the lower half. -/
theorem mine_second (v5 v8 : BitVec 32) (h5 : v5.toNat ≤ 512) (h8 : v8.toNat ≤ 512) (p : Fin 256) :
    k0_pay9 v5 v8 (ix2 p 0) = 1#1 ↔ v5.toNat ≤ 256 + p.val ∧ 256 + p.val < v8.toNat := by
  pointwise [k0_pay9]
  have e : (IntOp.addi (BitVec.ofNat 32 p.val) 256#32).toNat = 256 + p.val := by
    simp only [IntOp.addi, BitVec.toNat_add, BitVec.toNat_ofNat]; omega
  rw [andi_one, cmpi_sge_eq, cmpi_slt_eq, ofBool_one, ofBool_one, decide_eq_true_eq, decide_eq_true_eq,
    toInt_small _ (by omega : v5.toNat ≤ 1024), toInt_small _ (by omega : v8.toNat ≤ 1024), toInt_small _ (by omega), e]
  omega

/-- The upper half is computed when it has rows of the item, -/
theorem cond1_iff (v1 v4 v7 : BitVec 32) (h5 : (Scalar.subi v4 (Scalar.muli v1 512#32)).toNat ≤ 512) (h8 : (Scalar.subi v7 (Scalar.muli v1 512#32)).toNat ≤ 512) :
    k0_cond1 v1 v4 v7 = 1#1 ↔ (Scalar.subi v4 (Scalar.muli v1 512#32)).toNat < 256 ∧ 0 < (Scalar.subi v7 (Scalar.muli v1 512#32)).toNat := by
  unfold k0_cond1
  dsimp only
  rw [extui_one]
  generalize Scalar.subi v4 (Scalar.muli v1 512#32) = a at *
  generalize Scalar.subi v7 (Scalar.muli v1 512#32) = b at *
  show IntOp.andi (IntOp.cmpi .slt a 256#32) (IntOp.cmpi .sgt b 0#32) = 1#1 ↔ _
  rw [andi_one, cmpi_slt_eq, cmpi_sgt_eq, ofBool_one, ofBool_one, decide_eq_true_eq, decide_eq_true_eq,
    toInt_small _ (by omega : a.toNat ≤ 1024), toInt_small _ (by omega : b.toNat ≤ 1024)]
  simp

/-- the lower half likewise. -/
theorem cond2_iff (v1 v4 v7 : BitVec 32) (h5 : (Scalar.subi v4 (Scalar.muli v1 512#32)).toNat ≤ 512) (h8 : (Scalar.subi v7 (Scalar.muli v1 512#32)).toNat ≤ 512) :
    k0_cond2 v1 v4 v7 = 1#1 ↔ (Scalar.subi v4 (Scalar.muli v1 512#32)).toNat < 512 ∧ 256 < (Scalar.subi v7 (Scalar.muli v1 512#32)).toNat := by
  unfold k0_cond2
  dsimp only
  rw [extui_one]
  generalize Scalar.subi v4 (Scalar.muli v1 512#32) = a at *
  generalize Scalar.subi v7 (Scalar.muli v1 512#32) = b at *
  show IntOp.andi (IntOp.cmpi .slt a 512#32) (IntOp.cmpi .sgt b 256#32) = 1#1 ↔ _
  rw [andi_one, cmpi_slt_eq, cmpi_sgt_eq, ofBool_one, ofBool_one, decide_eq_true_eq, decide_eq_true_eq,
    toInt_small _ (by omega : a.toNat ≤ 1024), toInt_small _ (by omega : b.toNat ≤ 1024)]
  simp

variable (c : Dev nD) (i : grid0.Coords) (arg5 : Memref sig .tc .vmem S512x6912 .fp8e4m3) (harg5 : arg5.IsWhole) (arg6 : Memref sig .tc .vmem S512x1 .f32) (harg6 : arg6.IsWhole) (arg7 : Memref sig .tc .vmem S1x6912x2560 .fp8e4m3) (harg7 : arg7.IsWhole) (arg8 : Memref sig .tc .vmem S1x1x2560 .f32) (harg8 : arg8.IsWhole) (arg9 : Memref sig .tc .vmem S512x2560 .f32) (harg9 : arg9.IsWhole)
    (x0 : Vec Ideal S512x6912 .fp8e4m3) (x1 : Vec Ideal S512x1 .f32) (x2 : Vec Ideal S1x6912x2560 .fp8e4m3) (x3 : Vec Ideal S1x1x2560 .f32) (x4 : Vec Ideal S512x2560 .f32)

/-- A chunk of the block from row `b` and column `o` on. -/
theorem piece_apply (b o : ℕ) (hb : b + 256 ≤ 512) (ho : o + 512 ≤ 2560)
    (h1 : ∀ a, (![b, 0] : Fin 2 → ℕ) a + S256x6912.size a ≤ S512x6912.size a) (h2 : ∀ a, (![b, 0] : Fin 2 → ℕ) a + S256x1.size a ≤ S512x1.size a)
    (h3 : ∀ a, (![0, 0, o] : Fin 3 → ℕ) a + S1x6912x512.size a ≤ S1x6912x2560.size a) (h4 : ∀ a, (![0, 0, o] : Fin 3 → ℕ) a + S1x1x512.size a ≤ S1x1x2560.size a)
    (h5 : ∀ a, (![b, o] : Fin 2 → ℕ) a + S256x512.size a ≤ S512x2560.size a) (mine : IVec S256x1 1) (g : arg9.view.ty.Contents (Elt Ideal)) (p : Fin 256) (q : Fin 512) :
    k0_pay2 (View.readAt (Elt Ideal) arg5.view (Rect.unit (s := S512x6912) ![b, 0] S256x6912.size h1).toLoadRect (harg5.unread x0))
        (View.readAt (Elt Ideal) arg6.view (Rect.unit (s := S512x1) ![b, 0] S256x1.size h2).toLoadRect (harg6.unread x1)) mine
        (View.readAt (Elt Ideal) arg7.view (Rect.unit (s := S1x6912x2560) ![0, 0, o] S1x6912x512.size h3).toLoadRect (harg7.unread x2))
        (View.readAt (Elt Ideal) arg8.view (Rect.unit (s := S1x1x2560) ![0, 0, o] S1x1x512.size h4).toLoadRect (harg8.unread x3))
        (View.readAt (Elt Ideal) arg9.view (Rect.unit (s := S512x2560) ![b, o] S256x512.size h5).toLoadRect g) (ix2 p q)
      = if mine (ix2 p 0) = 1#1 then prodB x0 x1 x2 x3 ⟨b + p, by omega⟩ ⟨o + q, by omega⟩
        else arg9.view.read (Elt Ideal) g (ix2 ⟨b + p, by omega⟩ ⟨o + q, by omega⟩) := by
  rw [half_apply]
  have e0 (k : Fin 6912) : View.readAt (Elt Ideal) arg5.view (Rect.unit (s := S512x6912) ![b, 0] S256x6912.size h1).toLoadRect (harg5.unread x0) (ix2 p k) = x0 (ix2 ⟨b + p, by omega⟩ k) :=
    (harg5.readAt_unread x0 _ _).trans (congrArg x0 (funext fun | 0 => Fin.ext (by show b + 1 * p.val = b + p.val; omega) | 1 => Fin.ext (by show 0 + 1 * k.val = k.val; omega)))
  have e1 : View.readAt (Elt Ideal) arg6.view (Rect.unit (s := S512x1) ![b, 0] S256x1.size h2).toLoadRect (harg6.unread x1) (ix2 p 0) = x1 (ix2 ⟨b + p, by omega⟩ 0) :=
    (harg6.readAt_unread x1 _ _).trans (congrArg x1 (funext fun | 0 => Fin.ext (by show b + 1 * p.val = b + p.val; omega) | 1 => Fin.ext (by show 0 + 1 * 0 = 0; omega)))
  have e2 (k : Fin 6912) : View.readAt (Elt Ideal) arg7.view (Rect.unit (s := S1x6912x2560) ![0, 0, o] S1x6912x512.size h3).toLoadRect (harg7.unread x2) (ix3 0 k q) = x2 (ix3 0 k ⟨o + q, by omega⟩) :=
    (harg7.readAt_unread x2 _ _).trans (congrArg x2 (funext fun | 0 => Fin.ext (by show 0 + 1 * 0 = 0; omega) | 1 => Fin.ext (by show 0 + 1 * k.val = k.val; omega) | 2 => Fin.ext (by show o + 1 * q.val = o + q.val; omega)))
  have e3 : View.readAt (Elt Ideal) arg8.view (Rect.unit (s := S1x1x2560) ![0, 0, o] S1x1x512.size h4).toLoadRect (harg8.unread x3) (ix3 0 0 q) = x3 (ix3 0 0 ⟨o + q, by omega⟩) :=
    (harg8.readAt_unread x3 _ _).trans (congrArg x3 (funext fun | 0 => Fin.ext (by show 0 + 1 * 0 = 0; omega) | 1 => Fin.ext (by show 0 + 1 * 0 = 0; omega) | 2 => Fin.ext (by show o + 1 * q.val = o + q.val; omega)))
  have e4 : View.readAt (Elt Ideal) arg9.view (Rect.unit (s := S512x2560) ![b, o] S256x512.size h5).toLoadRect g (ix2 p q) = arg9.view.read (Elt Ideal) g (ix2 ⟨b + p, by omega⟩ ⟨o + q, by omega⟩) :=
    congrArg (arg9.view.read (Elt Ideal) g) (funext fun | 0 => Fin.ext (by show b + 1 * p.val = b + p.val; omega) | 1 => Fin.ext (by show o + 1 * q.val = o + q.val; omega))
  rw [e4, e3, e1]
  simp only [e0, e2]
  rfl

/-- The block that the point leaves, at row `r` and column `n`, its rows from `z` on as they were. -/
def blockG (lo hi z : ℕ) (y : S512x2560.Idx) : EReal :=
  if (lo ≤ (y 0).val ∧ (y 0).val < hi) ∧ (y 0).val < z then prodB x0 x1 x2 x3 (y 0) (y 1) else x4 y

theorem inbRow {n N b : ℕ} (hb : b + 256 ≤ 512) (hn : n ≤ N) : ∀ a, (![b, 0] : Fin 2 → ℕ) a + (⟨2, ![256, n]⟩ : Shape).size a ≤ (⟨2, ![512, N]⟩ : Shape).size a
  | 0 => hb
  | 1 => by show 0 + n ≤ N; omega
theorem inbCol {n o : ℕ} (ho : o + 512 ≤ 2560) : ∀ a, (![0, 0, o] : Fin 3 → ℕ) a + (⟨3, ![1, n, 512]⟩ : Shape).size a ≤ (⟨3, ![1, n, 2560]⟩ : Shape).size a
  | 0 => le_rfl
  | 1 => by show 0 + n ≤ n; omega
  | 2 => ho
theorem inbOut {b o : ℕ} (hb : b + 256 ≤ 512) (ho : o + 512 ≤ 2560) : ∀ a, (![b, o] : Fin 2 → ℕ) a + S256x512.size a ≤ S512x2560.size a
  | 0 => hb
  | 1 => ho

/-- The chunk from row `b` and column `o` on, over the block's contents `g`. -/
def chunkP (b o : ℕ) (hb : b + 256 ≤ 512) (ho : o + 512 ≤ 2560) (mine : IVec S256x1 1) (g : arg9.view.ty.Contents (Elt Ideal)) : Vec Ideal S256x512 .f32 :=
  k0_pay2 (View.readAt (Elt Ideal) arg5.view (Rect.unit (s := S512x6912) ![b, 0] S256x6912.size (inbRow hb le_rfl)).toLoadRect (harg5.unread x0))
    (View.readAt (Elt Ideal) arg6.view (Rect.unit (s := S512x1) ![b, 0] S256x1.size (inbRow hb le_rfl)).toLoadRect (harg6.unread x1)) mine
    (View.readAt (Elt Ideal) arg7.view (Rect.unit (s := S1x6912x2560) ![0, 0, o] S1x6912x512.size (inbCol ho)).toLoadRect (harg7.unread x2))
    (View.readAt (Elt Ideal) arg8.view (Rect.unit (s := S1x1x2560) ![0, 0, o] S1x1x512.size (inbCol ho)).toLoadRect (harg8.unread x3))
    (View.readAt (Elt Ideal) arg9.view (Rect.unit (s := S512x2560) ![b, o] S256x512.size (inbOut hb ho)).toLoadRect g)

/-- The five chunks of 256 rows. -/
def chunks (b : ℕ) (hb : b + 256 ≤ 512) (mine : IVec S256x1 1) (g : arg9.view.ty.Contents (Elt Ideal)) : List (View.Piece (Elt Ideal) S512x2560 .f32) :=
  [⟨Rect.unit (s := S512x2560) ![b, 2048] ![256, 512] (inbOut hb (by omega)), chunkP arg5 harg5 arg6 harg6 arg7 harg7 arg8 harg8 arg9 x0 x1 x2 x3 b 2048 hb (by omega) mine g⟩,
    ⟨Rect.unit (s := S512x2560) ![b, 1536] ![256, 512] (inbOut hb (by omega)), chunkP arg5 harg5 arg6 harg6 arg7 harg7 arg8 harg8 arg9 x0 x1 x2 x3 b 1536 hb (by omega) mine g⟩,
    ⟨Rect.unit (s := S512x2560) ![b, 1024] ![256, 512] (inbOut hb (by omega)), chunkP arg5 harg5 arg6 harg6 arg7 harg7 arg8 harg8 arg9 x0 x1 x2 x3 b 1024 hb (by omega) mine g⟩,
    ⟨Rect.unit (s := S512x2560) ![b, 512] ![256, 512] (inbOut hb (by omega)), chunkP arg5 harg5 arg6 harg6 arg7 harg7 arg8 harg8 arg9 x0 x1 x2 x3 b 512 hb (by omega) mine g⟩,
    ⟨Rect.unit (s := S512x2560) ![b, 0] ![256, 512] (inbOut hb (by omega)), chunkP arg5 harg5 arg6 harg6 arg7 harg7 arg8 harg8 arg9 x0 x1 x2 x3 b 0 hb (by omega) mine g⟩]

/-- A chunk holds the values of the block left, if the old contents are the block's on the rows below. -/
theorem chunk_G (b o lo hi z : ℕ) (hb : b + 256 ≤ 512) (hz : b + 256 ≤ z) (ho : o + 512 ≤ 2560) (mine : IVec S256x1 1) (g : arg9.view.ty.Contents (Elt Ideal))
    (hm : ∀ p : Fin 256, mine (ix2 p 0) = 1#1 ↔ lo ≤ b + p.val ∧ b + p.val < hi)
    (hg : ∀ y : S512x2560.Idx, b ≤ (y 0).val → arg9.view.read (Elt Ideal) g y = x4 y)
    (x : S256x512.Idx) : chunkP arg5 harg5 arg6 harg6 arg7 harg7 arg8 harg8 arg9 x0 x1 x2 x3 b o hb ho mine g x
      = blockG x0 x1 x2 x3 x4 lo hi z ((Rect.unit (s := S512x2560) ![b, o] S256x512.size (inbOut hb ho)).emb x) := by
  obtain ⟨p, q, rfl⟩ : ∃ (p : Fin 256) (q : Fin 512), x = ix2 p q := ⟨x 0, x 1, funext fun | 0 => rfl | 1 => rfl⟩
  have e : (Rect.unit (s := S512x2560) ![b, o] S256x512.size (inbOut hb ho)).emb (ix2 p q) = ix2 (⟨b + p, by omega⟩ : Fin 512) (⟨o + q, by omega⟩ : Fin 2560) :=
    funext fun | 0 => Fin.ext (by show b + 1 * p.val = b + p.val; omega) | 1 => Fin.ext (by show o + 1 * q.val = o + q.val; omega)
  unfold chunkP
  rw [piece_apply arg5 harg5 arg6 harg6 arg7 harg7 arg8 harg8 arg9 x0 x1 x2 x3 b o (by omega) ho _ _ _ _ _ mine g p q, e, hg _ (by show b ≤ b + p.val; omega)]
  have hp : b + p.val < z := by omega
  by_cases h : lo ≤ b + p.val ∧ b + p.val < hi
  · rw [if_pos ((hm p).2 h)]
    exact (if_pos ⟨h, hp⟩).symm
  · rw [if_neg (fun k => h ((hm p).1 k))]
    exact (if_neg (fun k : (lo ≤ b + p.val ∧ b + p.val < hi) ∧ b + p.val < z => h k.1)).symm

/-- Five chunks of 512 columns cover 256 rows. -/
theorem cover5 (b : ℕ) (h0 : ∀ a, (![b, 0] : Fin 2 → ℕ) a + (![256, 512] : Fin 2 → ℕ) a ≤ S512x2560.size a) (h1 : ∀ a, (![b, 512] : Fin 2 → ℕ) a + (![256, 512] : Fin 2 → ℕ) a ≤ S512x2560.size a) (h2 : ∀ a, (![b, 1024] : Fin 2 → ℕ) a + (![256, 512] : Fin 2 → ℕ) a ≤ S512x2560.size a) (h3 : ∀ a, (![b, 1536] : Fin 2 → ℕ) a + (![256, 512] : Fin 2 → ℕ) a ≤ S512x2560.size a) (h4 : ∀ a, (![b, 2048] : Fin 2 → ℕ) a + (![256, 512] : Fin 2 → ℕ) a ≤ S512x2560.size a)
    (w0 w1 w2 w3 w4 : S256x512.Idx → EReal) (y : S512x2560.Idx) (h : b ≤ (y 0).val) (h' : (y 0).val < b + 256) :
    ∃ p ∈ ([⟨Rect.unit (s := S512x2560) ![b, 2048] ![256, 512] h4, w4⟩, ⟨Rect.unit (s := S512x2560) ![b, 1536] ![256, 512] h3, w3⟩,
      ⟨Rect.unit (s := S512x2560) ![b, 1024] ![256, 512] h2, w2⟩, ⟨Rect.unit (s := S512x2560) ![b, 512] ![256, 512] h1, w1⟩,
      ⟨Rect.unit (s := S512x2560) ![b, 0] ![256, 512] h0, w0⟩] : List (View.Piece (Elt Ideal) S512x2560 .f32)), y ∈ p.1.set := by
  have hn : (y 1).val < 2560 := (y 1).isLt
  have key (o : ℕ) (ho : ∀ a, (![b, o] : Fin 2 → ℕ) a + (![256, 512] : Fin 2 → ℕ) a ≤ S512x2560.size a) (k : o ≤ (y 1).val ∧ (y 1).val < o + 512) :
      y ∈ (Rect.unit (s := S512x2560) ![b, o] ![256, 512] ho).set := by
    rw [Rect.mem_set_unit]
    intro a; match a with
    | 0 => exact ⟨h, h'⟩
    | 1 => exact k
  rcases (by omega : (2048 ≤ (y 1).val ∧ (y 1).val < 2048 + 512) ∨ (1536 ≤ (y 1).val ∧ (y 1).val < 1536 + 512) ∨ (1024 ≤ (y 1).val ∧ (y 1).val < 1024 + 512)
      ∨ (512 ≤ (y 1).val ∧ (y 1).val < 512 + 512) ∨ (0 ≤ (y 1).val ∧ (y 1).val < 0 + 512)) with k | k | k | k | k
  · exact ⟨_, .head _, key _ h4 k⟩
  · exact ⟨_, .tail _ (.head _), key _ h3 k⟩
  · exact ⟨_, .tail _ (.tail _ (.head _)), key _ h2 k⟩
  · exact ⟨_, .tail _ (.tail _ (.tail _ (.head _))), key _ h1 k⟩
  · exact ⟨_, .tail _ (.tail _ (.tail _ (.tail _ (.head _)))), key _ h0 k⟩

/-- What 256 rows' chunks leave over contents that are the block's from row `b` on and the new values above. -/
theorem chunks_G (b lo hi : ℕ) (hb : b + 256 ≤ 512) (mine : IVec S256x1 1) (g : arg9.view.ty.Contents (Elt Ideal))
    (hm : ∀ p : Fin 256, mine (ix2 p 0) = 1#1 ↔ lo ≤ b + p.val ∧ b + p.val < hi)
    (hg : ∀ y : S512x2560.Idx, arg9.view.read (Elt Ideal) g y = blockG x0 x1 x2 x3 x4 lo hi b y) (y : S512x2560.Idx) :
    arg9.view.read (Elt Ideal) (arg9.view.writes (Elt Ideal) g (chunks arg5 harg5 arg6 harg6 arg7 harg7 arg8 harg8 arg9 x0 x1 x2 x3 b hb mine g)) y
      = blockG x0 x1 x2 x3 x4 lo hi (b + 256) y := by
  have hg' (y : S512x2560.Idx) (h : b ≤ (y 0).val) : arg9.view.read (Elt Ideal) g y = x4 y := (hg y).trans (if_neg fun k => by omega)
  refine read_writes_fn (Val := Elt Ideal) (e := .f32) _ _ (blockG x0 x1 x2 x3 x4 lo hi (b + 256)) y _ ?_ ?_
  · unfold chunks
    simp only [List.forall_mem_cons, List.not_mem_nil, false_imp_iff, implies_true, and_true]
    refine ⟨?_, ?_, ?_, ?_, ?_⟩
    · exact chunk_G arg5 harg5 arg6 harg6 arg7 harg7 arg8 harg8 arg9 x0 x1 x2 x3 x4 b 2048 lo hi (b + 256) hb le_rfl (by omega) mine g hm hg'
    · exact chunk_G arg5 harg5 arg6 harg6 arg7 harg7 arg8 harg8 arg9 x0 x1 x2 x3 x4 b 1536 lo hi (b + 256) hb le_rfl (by omega) mine g hm hg'
    · exact chunk_G arg5 harg5 arg6 harg6 arg7 harg7 arg8 harg8 arg9 x0 x1 x2 x3 x4 b 1024 lo hi (b + 256) hb le_rfl (by omega) mine g hm hg'
    · exact chunk_G arg5 harg5 arg6 harg6 arg7 harg7 arg8 harg8 arg9 x0 x1 x2 x3 x4 b 512 lo hi (b + 256) hb le_rfl (by omega) mine g hm hg'
    · exact chunk_G arg5 harg5 arg6 harg6 arg7 harg7 arg8 harg8 arg9 x0 x1 x2 x3 x4 b 0 lo hi (b + 256) hb le_rfl (by omega) mine g hm hg'
  · by_cases h : b ≤ (y 0).val ∧ (y 0).val < b + 256
    · exact .inr (cover5 b _ _ _ _ _ _ _ _ _ _ y h.1 h.2)
    · refine .inl ((hg y).trans ?_)
      unfold blockG
      congr 1
      rw [eq_iff_iff]
      omega

/-- The contents after the upper half. -/
def midC (u : BitVec 1) (mine : IVec S256x1 1) : arg9.view.ty.Contents (Elt Ideal) :=
  if _hc : u = 1#1 then arg9.view.writes (Elt Ideal) (harg9.unread x4) (chunks arg5 harg5 arg6 harg6 arg7 harg7 arg8 harg8 arg9 x0 x1 x2 x3 0 (by omega) mine (harg9.unread x4))
  else harg9.unread x4

/-- The contents after both halves. -/
def endC (u u' : BitVec 1) (mine mine' : IVec S256x1 1) : arg9.view.ty.Contents (Elt Ideal) :=
  if _hc : u' = 1#1 then arg9.view.writes (Elt Ideal) (midC arg5 harg5 arg6 harg6 arg7 harg7 arg8 harg8 arg9 harg9 x0 x1 x2 x3 x4 u mine)
    (chunks arg5 harg5 arg6 harg6 arg7 harg7 arg8 harg8 arg9 x0 x1 x2 x3 256 (by omega) mine' (midC arg5 harg5 arg6 harg6 arg7 harg7 arg8 harg8 arg9 harg9 x0 x1 x2 x3 x4 u mine))
  else midC arg5 harg5 arg6 harg6 arg7 harg7 arg8 harg8 arg9 harg9 x0 x1 x2 x3 x4 u mine

theorem run_apply (xt0 : TbBuf0 (F := Ideal) c tbM0_0) (xt1 : TbBuf0 (F := Ideal) c tbM0_1) (xt2 : TbBuf0 (F := Ideal) c tbM0_2) (xt3 : TbBuf0 (F := Ideal) c tbM0_3)
    (hlo : (Scalar.subi (kernelRun0_A.sl.r_1 c i xt2) (Scalar.muli (kernelRun0_A.sl.r c i xt0) 512#32)).toNat ≤ 512)
    (hhi : (Scalar.subi (kernelRun0_A.sl.r_2 c i xt3) (Scalar.muli (kernelRun0_A.sl.r c i xt0) 512#32)).toNat ≤ 512) (y : S512x2560.Idx) :
    arg9.view.read (Elt Ideal) (kernelRun0_A c i arg5 harg5 arg6 harg6 arg7 harg7 arg8 harg8 arg9 harg9 x0 x1 x2 x3 x4 xt0 xt1 xt2 xt3).1 y
      = blockG x0 x1 x2 x3 x4 (Scalar.subi (kernelRun0_A.sl.r_1 c i xt2) (Scalar.muli (kernelRun0_A.sl.r c i xt0) 512#32)).toNat
        (Scalar.subi (kernelRun0_A.sl.r_2 c i xt3) (Scalar.muli (kernelRun0_A.sl.r c i xt0) 512#32)).toNat 512 y := by
  have hc1 := cond1_iff (kernelRun0_A.sl.r c i xt0) (kernelRun0_A.sl.r_1 c i xt2) (kernelRun0_A.sl.r_2 c i xt3) hlo hhi
  have hc2 := cond2_iff (kernelRun0_A.sl.r c i xt0) (kernelRun0_A.sl.r_1 c i xt2) (kernelRun0_A.sl.r_2 c i xt3) hlo hhi
  have hm1 := mine_first _ _ hlo hhi
  have hm2 := mine_second _ _ hlo hhi
  have e : (kernelRun0_A c i arg5 harg5 arg6 harg6 arg7 harg7 arg8 harg8 arg9 harg9 x0 x1 x2 x3 x4 xt0 xt1 xt2 xt3).1
      = endC arg5 harg5 arg6 harg6 arg7 harg7 arg8 harg8 arg9 harg9 x0 x1 x2 x3 x4
        (k0_cond1 (kernelRun0_A.sl.r c i xt0) (kernelRun0_A.sl.r_1 c i xt2) (kernelRun0_A.sl.r_2 c i xt3))
        (k0_cond2 (kernelRun0_A.sl.r c i xt0) (kernelRun0_A.sl.r_1 c i xt2) (kernelRun0_A.sl.r_2 c i xt3))
        (k0_pay3 (Scalar.subi (kernelRun0_A.sl.r_1 c i xt2) (Scalar.muli (kernelRun0_A.sl.r c i xt0) 512#32)) (Scalar.subi (kernelRun0_A.sl.r_2 c i xt3) (Scalar.muli (kernelRun0_A.sl.r c i xt0) 512#32)))
        (k0_pay9 (Scalar.subi (kernelRun0_A.sl.r_1 c i xt2) (Scalar.muli (kernelRun0_A.sl.r c i xt0) 512#32)) (Scalar.subi (kernelRun0_A.sl.r_2 c i xt3) (Scalar.muli (kernelRun0_A.sl.r c i xt0) 512#32))) := rfl
  rw [e]
  generalize Scalar.subi (kernelRun0_A.sl.r_1 c i xt2) (Scalar.muli (kernelRun0_A.sl.r c i xt0) 512#32) = lo at *
  generalize Scalar.subi (kernelRun0_A.sl.r_2 c i xt3) (Scalar.muli (kernelRun0_A.sl.r c i xt0) 512#32) = hi at *
  have old (y : S512x2560.Idx) : arg9.view.read (Elt Ideal) (harg9.unread x4) y = blockG x0 x1 x2 x3 x4 lo.toNat hi.toNat 0 y :=
    (congrFun (harg9.read_unread x4) y).trans (if_neg fun k => by omega).symm
  generalize k0_cond1 (kernelRun0_A.sl.r c i xt0) (kernelRun0_A.sl.r_1 c i xt2) (kernelRun0_A.sl.r_2 c i xt3) = u at *
  generalize k0_cond2 (kernelRun0_A.sl.r c i xt0) (kernelRun0_A.sl.r_1 c i xt2) (kernelRun0_A.sl.r_2 c i xt3) = u' at *
  have mid (y : S512x2560.Idx) : arg9.view.read (Elt Ideal) (midC arg5 harg5 arg6 harg6 arg7 harg7 arg8 harg8 arg9 harg9 x0 x1 x2 x3 x4 u (k0_pay3 lo hi)) y
      = blockG x0 x1 x2 x3 x4 lo.toNat hi.toNat 256 y := by
    unfold midC
    split
    · exact chunks_G arg5 harg5 arg6 harg6 arg7 harg7 arg8 harg8 arg9 x0 x1 x2 x3 x4 0 _ _ _ _ _ (fun p => by rw [Nat.zero_add]; exact hm1 p) old y
    · rename_i hn
      refine (old y).trans ?_
      unfold blockG
      congr 1
      rw [eq_iff_iff]
      refine ⟨fun k => by omega, fun k => absurd (hc1.2 ⟨by omega, by omega⟩) hn⟩
  unfold endC
  split
  · exact chunks_G arg5 harg5 arg6 harg6 arg7 harg7 arg8 harg8 arg9 x0 x1 x2 x3 x4 256 _ _ _ _ _ hm2 mid y
  · rename_i hn
    refine (mid y).trans ?_
    have hy : (y 0).val < 512 := (y 0).isLt
    unfold blockG
    congr 1
    rw [eq_iff_iff]
    refine ⟨fun k => by omega, fun k => ⟨k.1, by_contra fun z => absurd (hc2.2 ⟨by omega, by omega⟩) hn⟩⟩

end Cert.DownExIdeal.Gen

end
-- ==== Proof.DownIdealFrame.lean ====
/- The run of the expert down projection, for every launch memory whose tables keep the blocks inside their arrays. The
   output block of a work item keeps the rows of earlier work items, so the proof data relate what the body leaves in it to
   what it found there, instead of naming it. -/
module

public import proofs.«01_k».proof.Proof.DownIdealRun
public import Idealize.ShloMosaic.Lib.Claim

@[expose] public section

-- membership in a rectangle of production extents (`View.cover_of_tiled`): the elaborator's structural look
-- recurses once per coordinate of the long axes
set_option maxRecDepth 16384

noncomputable section

namespace Cert.DownExIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data: inputs named, the output block related to what the body found in it -/

/-- What the body leaves in the output's staging buffer at point `t` when it found `Y` there. -/
def left0 (hO : Ok m) (c : Dev nD) (t : Fin (cfgM m hO).N) (Y : Vec F S512x2560 .f32) : Vec F S512x2560 .f32 :=
  (ms0_4 m hO t).view.read (Elt F) (kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) Y (tbl m 0) (tbl m 1) (tbl m 2) (tbl m 3)).1

/-- Data that name every window: the inputs' blocks, and nothing of interest for the output. -/
def dats (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => VO0_4.read (Elt F) VO0_4.junk
  Φ _ := iprop(Pipeline.ΦA spec0 c ∗ Pipeline.ΦT pre0 (tbl m) c)
  q _ := fullShare
  owed _ := 0

/-- The output window's relation: what the body leaves is `left0` of what it found. -/
def ovr (hO : Ok m) (c : Dev nD) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => none
  | ⟨3, _⟩ => none
  | ⟨4, _⟩ => some fun t Y X => X = left0 m hO c t Y

/-- The proof data: the inputs named, the output related. -/
def rdats (hO : Ok m) (c : Dev nD) : RDat τ (Elt F) Unit ℕ (UR sig nD τ) ℕ (cfgM m hO) c := (dats m hO c).toR.override (ovr m hO c)

theorem A_eq (hO : Ok m) (c : Dev nD) (w : Fin (cfgM m hO).W) : (dats m hO c).A w = V m c (Pipeline.arrRef spec0 w) := by
  dsimp only [dats]

theorem after0_0 (hO : Ok m) (c : Dev nD) (t : Fin (cfgM m hO).N) : (dats m hO c).after 0 t = iblk m hO c 0 t := by dsimp only [dats]; try rfl
theorem after0_1 (hO : Ok m) (c : Dev nD) (t : Fin (cfgM m hO).N) : (dats m hO c).after 1 t = iblk m hO c 1 t := by dsimp only [dats]; try rfl
theorem after0_2 (hO : Ok m) (c : Dev nD) (t : Fin (cfgM m hO).N) : (dats m hO c).after 2 t = iblk m hO c 2 t := by dsimp only [dats]; try rfl
theorem after0_3 (hO : Ok m) (c : Dev nD) (t : Fin (cfgM m hO).N) : (dats m hO c).after 3 t = iblk m hO c 3 t := by dsimp only [dats]; try rfl
theorem before0_0 (hO : Ok m) (c : Dev nD) (t : Fin (cfgM m hO).N) (d) : (dats m hO c).before 0 t d = iblk m hO c 0 t :=
  before0_0_of m hO (dats m hO c) (A_eq m hO c 0) (after0_0 m hO c) t d
theorem before0_1 (hO : Ok m) (c : Dev nD) (t : Fin (cfgM m hO).N) (d) : (dats m hO c).before 1 t d = iblk m hO c 1 t :=
  before0_1_of m hO (dats m hO c) (A_eq m hO c 1) (after0_1 m hO c) t d
theorem before0_2 (hO : Ok m) (c : Dev nD) (t : Fin (cfgM m hO).N) (d) : (dats m hO c).before 2 t d = iblk m hO c 2 t :=
  before0_2_of m hO (dats m hO c) (A_eq m hO c 2) (after0_2 m hO c) t d
theorem before0_3 (hO : Ok m) (c : Dev nD) (t : Fin (cfgM m hO).N) (d) : (dats m hO c).before 3 t d = iblk m hO c 3 t :=
  before0_3_of m hO (dats m hO c) (A_eq m hO c 3) (after0_3 m hO c) t d
/-- The body finds input 0's block in its staging buffer, and must leave it there. -/
theorem finds0_0 (hO : Ok m) (c : Dev nD) (t : Fin (cfgM m hO).N) (X) (h : (rdats m hO c).Finds 0 t X) : X = iblk m hO c 0 t := by
  obtain ⟨d, hd⟩ := (dats m hO c).toR_finds 0 t X (((dats m hO c).toR.override_finds (ovr := ovr m hO c) (w := 0) rfl t X).mp h)
  rw [hd]; exact before0_0 m hO c t d
theorem rafter0_0 (hO : Ok m) (c : Dev nD) (t : Fin (cfgM m hO).N) (Y) : (rdats m hO c).after 0 t Y (iblk m hO c 0 t) := by
  show ((dats m hO c).toR.override (ovr m hO c)).after 0 t Y _
  rw [(dats m hO c).toR.override_after_of_eq_none (ovr := ovr m hO c) (w := 0) rfl]
  first | exact after0_0 m hO c t | exact (after0_0 m hO c t).symm | exact Or.inl (after0_0 m hO c t).symm
/-- The body finds input 1's block in its staging buffer, and must leave it there. -/
theorem finds0_1 (hO : Ok m) (c : Dev nD) (t : Fin (cfgM m hO).N) (X) (h : (rdats m hO c).Finds 1 t X) : X = iblk m hO c 1 t := by
  obtain ⟨d, hd⟩ := (dats m hO c).toR_finds 1 t X (((dats m hO c).toR.override_finds (ovr := ovr m hO c) (w := 1) rfl t X).mp h)
  rw [hd]; exact before0_1 m hO c t d
theorem rafter0_1 (hO : Ok m) (c : Dev nD) (t : Fin (cfgM m hO).N) (Y) : (rdats m hO c).after 1 t Y (iblk m hO c 1 t) := by
  show ((dats m hO c).toR.override (ovr m hO c)).after 1 t Y _
  rw [(dats m hO c).toR.override_after_of_eq_none (ovr := ovr m hO c) (w := 1) rfl]
  first | exact after0_1 m hO c t | exact (after0_1 m hO c t).symm | exact Or.inl (after0_1 m hO c t).symm
/-- The body finds input 2's block in its staging buffer, and must leave it there. -/
theorem finds0_2 (hO : Ok m) (c : Dev nD) (t : Fin (cfgM m hO).N) (X) (h : (rdats m hO c).Finds 2 t X) : X = iblk m hO c 2 t := by
  obtain ⟨d, hd⟩ := (dats m hO c).toR_finds 2 t X (((dats m hO c).toR.override_finds (ovr := ovr m hO c) (w := 2) rfl t X).mp h)
  rw [hd]; exact before0_2 m hO c t d
theorem rafter0_2 (hO : Ok m) (c : Dev nD) (t : Fin (cfgM m hO).N) (Y) : (rdats m hO c).after 2 t Y (iblk m hO c 2 t) := by
  show ((dats m hO c).toR.override (ovr m hO c)).after 2 t Y _
  rw [(dats m hO c).toR.override_after_of_eq_none (ovr := ovr m hO c) (w := 2) rfl]
  first | exact after0_2 m hO c t | exact (after0_2 m hO c t).symm | exact Or.inl (after0_2 m hO c t).symm
/-- The body finds input 3's block in its staging buffer, and must leave it there. -/
theorem finds0_3 (hO : Ok m) (c : Dev nD) (t : Fin (cfgM m hO).N) (X) (h : (rdats m hO c).Finds 3 t X) : X = iblk m hO c 3 t := by
  obtain ⟨d, hd⟩ := (dats m hO c).toR_finds 3 t X (((dats m hO c).toR.override_finds (ovr := ovr m hO c) (w := 3) rfl t X).mp h)
  rw [hd]; exact before0_3 m hO c t d
theorem rafter0_3 (hO : Ok m) (c : Dev nD) (t : Fin (cfgM m hO).N) (Y) : (rdats m hO c).after 3 t Y (iblk m hO c 3 t) := by
  show ((dats m hO c).toR.override (ovr m hO c)).after 3 t Y _
  rw [(dats m hO c).toR.override_after_of_eq_none (ovr := ovr m hO c) (w := 3) rfl]
  first | exact after0_3 m hO c t | exact (after0_3 m hO c t).symm | exact Or.inl (after0_3 m hO c t).symm
theorem rafter0_4 (hO : Ok m) (c : Dev nD) (t : Fin (cfgM m hO).N) (Y X) : (rdats m hO c).after 4 t Y X ↔ X = left0 m hO c t Y := by
  show ((dats m hO c).toR.override (ovr m hO c)).after 4 t Y X ↔ _
  rw [(dats m hO c).toR.override_after_of_eq_some (ovr := ovr m hO c) (w := 4) rfl]
  exact Iff.rfl

/-! ## The body obligation, at a generic point -/

/-- The body at any point: from the inputs' blocks, the tables and the output's buffer at `Y`, to the same with the output's
    buffer at `left0` of `Y`. -/
theorem sound_body (hO : Ok m) (c : Dev nD) (t : Fin (cfgM m hO).N) (Y : Vec F S512x2560 .f32) :
    iprop(iprop(Pipeline.ΦA spec0 c ∗ Pipeline.ΦT pre0 (tbl m) c) ∗ (dats m hO c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare Y)
    ⊢ wp frame (wpE (defs₀ (F := F)) Variants.none c none) Set.univ (bodyAt0 (adm m hO) t) (fun _ =>
      iprop(iprop(Pipeline.ΦA spec0 c ∗ Pipeline.ΦT pre0 (tbl m) c) ∗ (dats m hO c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (left0 m hO c t Y))) := by
  unfold bodyAt0
  rw [PhiT0_eq]
  unfold left0
  iintro ⟨⟨HΦ, ⟨HT0, HT1, HT2, HT3⟩⟩, Ho, H0, H1, H2, H3, H4⟩
  iapply ((kernelRun0_A c (grid0.coords t) _ _ _ _ _ _ _ _ _ _ (iblk m hO c 0 t) (iblk m hO c 1 t) (iblk m hO c 2 t) (iblk m hO c 3 t) Y (tbl m 0) (tbl m 1) (tbl m 2) (tbl m 3)).2 Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) : (rdats (F := F) m hO c).BodyObligation (defs₀ (F := F)) Variants.none () Set.univ := fun t Y hY => by
  rw [bigSep_W0, bigSep_W0, defs₀_row m hO]
  rw [finds0_0 m hO c t _ (hY 0), finds0_1 m hO c t _ (hY 1), finds0_2 m hO c t _ (hY 2), finds0_3 m hO c t _ (hY 3)]
  refine triple_restated (sound_body m hO c t (Y 4)) rfl .rfl fun _ => ?_
  rw [show (rdats m hO c).Φ t.succ = iprop(Pipeline.ΦA spec0 c ∗ Pipeline.ΦT pre0 (tbl m) c) from rfl,
    show (rdats m hO c).owesAt () t.succ = (dats m hO c).owesAt () t.castSucc from rfl]
  iintro ⟨HΦ, Ho, H0, H1, H2, H3, H4⟩
  isplitl [HΦ]; · iexact HΦ
  isplitl [Ho]; · iexact Ho
  isplitl [H0]
  · iexists _; isplitr
    · ipureintro; exact rafter0_0 m hO c t _
    iexact H0
  isplitl [H1]
  · iexists _; isplitr
    · ipureintro; exact rafter0_1 m hO c t _
    iexact H1
  isplitl [H2]
  · iexists _; isplitr
    · ipureintro; exact rafter0_2 m hO c t _
    iexact H2
  isplitl [H3]
  · iexists _; isplitr
    · ipureintro; exact rafter0_3 m hO c t _
    iexact H3
  iexists _; isplitr
  · ipureintro; exact (rafter0_4 m hO c t _ _).mpr rfl
  iexact H4

/-! ## The run and the frame -/

set_option backward.isDefEq.respectTransparency.types false in
/-- The launch: every fair execution ends, with every array as the proof data relate it, every other buffer as the region
    found it, and every semaphore counter at zero. -/
theorem run_main_quiescent (hO : Ok m) : θ_run defs (onTc (τ := τ) (main (F := F))) (s₀ m ρ) (fun r => RDat.FramePost (cfgM m hO) (rdats m hO) (V m) r ∧ r.2.sem = fun _ => 0) :=
  Pipeline.RDat.θ_run_frameP (Q' := _) pcfgs (fun _ => adm m hO) (0 : Fin 1) launch0 defs₀ Variants.none (rdats m hO) m ρ main
    (hbody := fun c => body_obligation m hO c) (hshare := fun c => (dats m hO c).share_full fun _ => rfl)
    (howed := fun _ _ => rfl) (V := V m) (hmain := hmain m Variants.none) (hA := A_eq m hO) (hpf := V_pre m)
    (hΦ := fun _ _ => rfl)

/-- The argument arrays end as they were. -/
theorem args_kept (hO : Ok m) (r : PUnit × MemSt nD τ sig (Elt F)) (h : RDat.FramePost (cfgM m hO) (rdats m hO) (V m) r) (c : Dev nD) :
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((cast (congrFun ((rdats m hO c).ArrAt_in 0 rfl _) _) ((h c).1 0)).trans (A_eq m hO c 0)).trans (V_main_arg5 m c),
      ((cast (congrFun ((rdats m hO c).ArrAt_in 1 rfl _) _) ((h c).1 1)).trans (A_eq m hO c 1)).trans (V_main_arg6 m c),
      ((cast (congrFun ((rdats m hO c).ArrAt_in 2 rfl _) _) ((h c).1 2)).trans (A_eq m hO c 2)).trans (V_main_arg7 m c),
      ((h c).2 main_arg8 (by decide : main_arg8 ∈ Pipeline.restRefs sig spec0)).trans (V_main_arg8 m c)⟩

/-- The frame: every fair execution ends with the argument arrays as they were and every semaphore counter at zero. -/
theorem frame (hO : Ok m) : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => args_kept m hO r h.1 c, h.2⟩) (run_main_quiescent m ρ hO)

end Cert.DownExIdeal.Gen

end
-- ==== Proof.DownIdealValue.lean ====
/- The array after the run: every row's product with its expert. -/
module

public import proofs.«01_k».proof.Proof.DownChain
public import proofs.«01_k».proof.Proof.DownIdealOk
public import proofs.«01_k».proof.Proof.DownIdealBlock
public import proofs.«01_k».proof.Proof.DownIdealFrame
public import Idealize.ShloMosaic.Lib.Pipeline.ArrRel

@[expose] public section

set_option maxRecDepth 16384

noncomputable section

namespace Cert.DownExIdeal.Gen

open Idealize.ShloMosaic Idealize.ShloMosaic.TcCoe Idealize.SL Idealize.SL.Sem
open Idealize.ShloMosaic.Pipeline (Dat RDat Cfg Window)

variable (m : (ℓ : Loc nD τ sig) → Buf (Elt Ideal) ℓ) (hO : Ok m) (hw : Items m)

/-- Grid point `t` as an item. -/
abbrev item (t : Fin (cfgM m hO).N) : Fin 35 := ⟨t.val, t.isLt⟩

theorem point_val (t : Fin (cfgM m hO).N) : (grid0.coords t 0).val = t.val :=
  (by decide +kernel : ∀ t : Fin grid0.N, (grid0.coords t 0).val = t.val) t

/-! ## The words the body reads -/

theorem word_tile (t : Fin (cfgM m hO).N) : kernelRun0_A.sl.r 0 (grid0.coords t) (tbl m 0) = wTile m (item m hO t) :=
  (congrArg (tbl m 0) (idx_point (grid0.coords t) (item m hO t) (point_val m hO t) numel1_S1)).trans (congrFun (V_main_arg1 m 0) _)

theorem word_lo (t : Fin (cfgM m hO).N) : kernelRun0_A.sl.r_1 0 (grid0.coords t) (tbl m 2) = wLo m (item m hO t) :=
  (congrArg (tbl m 2) (idx_point (grid0.coords t) (item m hO t) (point_val m hO t) numel1_S1)).trans (congrFun (V_main_arg3 m 0) _)

theorem word_hi (t : Fin (cfgM m hO).N) : kernelRun0_A.sl.r_2 0 (grid0.coords t) (tbl m 3) = wHi m (item m hO t) :=
  (congrArg (tbl m 3) (idx_point (grid0.coords t) (item m hO t) (point_val m hO t) numel1_S1)).trans (congrFun (V_main_arg4 m 0) _)

/-- A bound inside a tile, less the tile's first row. -/
theorem sub_toNat (a b : BitVec 32) (hb : b.toNat < 32) (h1 : b.toNat * 512 ≤ a.toNat) :
    (Scalar.subi a (Scalar.muli b 512#32)).toNat = a.toNat - b.toNat * 512 := by
  have ha := a.isLt
  show (a - b * 512#32).toNat = _
  rw [BitVec.toNat_sub, BitVec.toNat_mul]
  have : (512#32).toNat = 512 := rfl
  rw [this]
  omega

/-! ## The blocks -/

/-- The arguments: codes, scales, weights, weight scales. -/
abbrev codesA : Vec Ideal S16384x6912 .fp8e4m3 := m ((0 : Dev nD).tc.loc main_arg5)
abbrev scalesA : Vec Ideal S16384x1 .f32 := m ((0 : Dev nD).tc.loc main_arg6)
abbrev wA : Vec Ideal S4x6912x2560 .fp8e4m3 := m ((0 : Dev nD).tc.loc main_arg7)
abbrev sA : Vec Ideal S4x2560 .f32 := m ((0 : Dev nD).tc.loc main_arg8)

/-- Row `r` of the result: the products with expert `e`, times the row's scale and the expert's. -/
def linear (X : Vec Ideal S16384x6912 .fp8e4m3) (S : Vec Ideal S16384x1 .f32) (W : Vec Ideal S4x6912x2560 .fp8e4m3) (T : Vec Ideal S4x2560 .f32)
    (e : Fin 4) (r : Fin 16384) (n : Fin 2560) : EReal :=
  (∑ k : Fin 6912, X (ix2 r k) * W (ix3 e k n)) * S (ix2 r 0) * T (ix2 e n)

theorem blk0 (t : Fin (cfgM m hO).N) (r : Fin 512) (R : Fin 16384) (hR : R.val = (wTile m (item m hO t)).toNat * 512 + r.val) (k : Fin 6912) :
    iblk m hO 0 0 t (ix2 r k) = codesA m (ix2 R k) := by
  refine Eq.trans ?_ (congrFun (V_main_arg5 m 0) (ix2 R k))
  have e := (ix_row m (grid0.coords t) (item m hO t) (point_val m hO t)).1
  show V m 0 main_arg5 ((((cfgM m hO).win 0).rect t).emb (ix2 r k)) = _
  refine congrArg (V m 0 main_arg5) (funext fun a => Fin.ext ?_)
  refine (Window.rect_emb_val ((cfgM m hO).win 0) t (ix2 r k) a rfl).trans ?_
  show cc0_transform_0 k0_off1_inb numel1_S1 (tbl m) (grid0.coords t) a * _ + _ = _
  rw [e]
  match a with
  | ⟨0, _⟩ => exact hR.symm
  | ⟨1, _⟩ => show 0 * 6912 + k.val = k.val; omega

theorem blk1 (t : Fin (cfgM m hO).N) (r : Fin 512) (R : Fin 16384) (hR : R.val = (wTile m (item m hO t)).toNat * 512 + r.val) :
    iblk m hO 0 1 t (ix2 r 0) = scalesA m (ix2 R 0) := by
  refine Eq.trans ?_ (congrFun (V_main_arg6 m 0) (ix2 R 0))
  have e := (ix_row m (grid0.coords t) (item m hO t) (point_val m hO t)).2.1
  show V m 0 main_arg6 ((((cfgM m hO).win 1).rect t).emb (ix2 r 0)) = _
  refine congrArg (V m 0 main_arg6) (funext fun a => Fin.ext ?_)
  refine (Window.rect_emb_val ((cfgM m hO).win 1) t (ix2 r 0) a rfl).trans ?_
  show cc0_transform_1 k0_off1_inb numel1_S1 (tbl m) (grid0.coords t) a * _ + _ = _
  rw [e]
  match a with
  | ⟨0, _⟩ => exact hR.symm
  | ⟨1, _⟩ => rfl

theorem blk2 (t : Fin (cfgM m hO).N) (x : Fin 4) (hx : x.val = (wEx m (item m hO t)).toNat) (k : Fin 6912) (n : Fin 2560) :
    iblk m hO 0 2 t (ix3 0 k n) = wA m (ix3 x k n) := by
  refine Eq.trans ?_ (congrFun (V_main_arg7 m 0) (ix3 x k n))
  have e := (ix_row m (grid0.coords t) (item m hO t) (point_val m hO t)).2.2.1
  show V m 0 main_arg7 ((((cfgM m hO).win 2).rect t).emb (ix3 0 k n)) = _
  refine congrArg (V m 0 main_arg7) (funext fun a => Fin.ext ?_)
  refine (Window.rect_emb_val ((cfgM m hO).win 2) t (ix3 0 k n) a rfl).trans ?_
  show cc0_transform_2 k0_off1_inb numel1_S1 (tbl m) (grid0.coords t) a * _ + _ = _
  rw [e]
  match a with
  | ⟨0, _⟩ => show _ * 1 + 0 = x.val; rw [hx]; exact Nat.mul_one _
  | ⟨1, _⟩ => show 0 * 6912 + k.val = k.val; omega
  | ⟨2, _⟩ => show 0 * 2560 + n.val = n.val; omega

theorem hostScale (x : Fin 4) (n : Fin 2560) : V m 0 main_v0 (ix3 x 0 n : S4x1x2560.Idx) = sA m (ix2 x n) := by
  unfold V hostOps0
  simp only [StableHlo.after_cons, StableHlo.after_nil]
  rw [StableHlo.unary_result]
  pointwise []

theorem blk3 (t : Fin (cfgM m hO).N) (x : Fin 4) (hx : x.val = (wEx m (item m hO t)).toNat) (n : Fin 2560) :
    iblk m hO 0 3 t (ix3 0 0 n) = sA m (ix2 x n) := by
  refine Eq.trans ?_ (hostScale m x n)
  have e := (ix_row m (grid0.coords t) (item m hO t) (point_val m hO t)).2.2.2.1
  show V m 0 main_v0 ((((cfgM m hO).win 3).rect t).emb (ix3 0 0 n)) = _
  refine congrArg (V m 0 main_v0) (funext fun a => Fin.ext ?_)
  refine (Window.rect_emb_val ((cfgM m hO).win 3) t (ix3 0 0 n) a rfl).trans ?_
  show cc0_transform_3 k0_off1_inb numel1_S1 (tbl m) (grid0.coords t) a * _ + _ = _
  rw [e]
  match a with
  | ⟨0, _⟩ => show _ * 1 + 0 = x.val; rw [hx]; exact Nat.mul_one _
  | ⟨1, _⟩ => rfl
  | ⟨2, _⟩ => show 0 * 2560 + n.val = n.val; omega

theorem prod_eq (t : Fin (cfgM m hO).N) (x : Fin 4) (hx : x.val = (wEx m (item m hO t)).toNat) (r : Fin 512) (R : Fin 16384)
    (hR : R.val = (wTile m (item m hO t)).toNat * 512 + r.val) (n : Fin 2560) :
    prodB (iblk m hO 0 0 t) (iblk m hO 0 1 t) (iblk m hO 0 2 t) (iblk m hO 0 3 t) r n
      = linear (codesA m) (scalesA m) (wA m) (sA m) x R n := by
  unfold prodB linear
  rw [blk1 m hO t r R hR, blk3 m hO t x hx n]
  refine congrArg (· * _ * _) (Finset.sum_congr rfl fun k _ => ?_)
  rw [blk0 m hO t r R hR k, blk2 m hO t x hx k n]

/-! ## What a point leaves -/

/-- The expert of row `R`, as an index. -/
def exF (R : Fin 16384) : Fin 4 := ⟨(rowEx m R).toNat % 4, Nat.mod_lt _ (by omega)⟩

/-- The whole result. -/
def target (R : Fin 16384) : Fin 2560 → EReal := linear (codesA m) (scalesA m) (wA m) (sA m) (exF m R) R

include hw in
/-- A point leaves the target in its item's rows and what it found in the others. -/
theorem left_apply (t : Fin (cfgM m hO).N) (Y : Vec Ideal S512x2560 .f32) (p : Fin 512) (n : Fin 2560) (R : Fin 16384)
    (hR : R.val = (wTile m (item m hO t)).toNat * 512 + p.val) :
    left0 m hO 0 t Y (ix2 p n) = if (wLo m (item m hO t)).toNat ≤ R.val ∧ R.val < (wHi m (item m hO t)).toNat then target m R n else Y (ix2 p n) := by
  have a1 := hw.tile_le (item m hO t)
  have a2 := hw.le (item m hO t)
  have a3 := hw.le_tile (item m hO t)
  have a4 := hw.tile_lt (item m hO t)
  have elo := sub_toNat (wLo m (item m hO t)) (wTile m (item m hO t)) a4 a1
  have ehi := sub_toNat (wHi m (item m hO t)) (wTile m (item m hO t)) a4 (a1.trans a2)
  rw [← word_tile m hO t, ← word_lo m hO t] at elo
  rw [← word_tile m hO t, ← word_hi m hO t] at ehi
  have hp := p.isLt
  unfold left0
  refine (run_apply 0 (grid0.coords t) _ _ _ _ _ _ _ _ _ _ _ _ _ _ _ (tbl m 0) (tbl m 1) (tbl m 2) (tbl m 3) ?_ ?_ (ix2 p n)).trans ?_
  · rw [elo, word_tile, word_lo]; omega
  · rw [ehi, word_tile, word_hi]; omega
  unfold blockG
  rw [elo, ehi, word_tile, word_lo, word_hi]
  by_cases h : (wLo m (item m hO t)).toNat ≤ R.val ∧ R.val < (wHi m (item m hO t)).toNat
  · rw [if_pos h, if_pos ⟨⟨by show _ ≤ p.val; omega, by show p.val < _; omega⟩, hp⟩]
    refine prod_eq m hO t (exF m R) ?_ p R hR n
    have b := hw.own R (item m hO t) h.1 h.2
    have c := hw.ex_lt (item m hO t)
    show (rowEx m R).toNat % 4 = _
    rw [b]
    exact Nat.mod_eq_of_lt c
  · rw [if_neg h, if_neg fun k => h ⟨by have : _ ≤ p.val := k.1.1; omega, by have : p.val < _ := k.1.2; omega⟩]

/-! ## The array -/

theorem index4 (t : Fin (cfgM m hO).N) : ((cfgM m hO).win 4).index t = ![(wTile m (item m hO t)).toNat, 0] :=
  (ix_row m (grid0.coords t) (item m hO t) (point_val m hO t)).2.2.2.2

/-- The output block is written back at the points whose item is the last of its tile. -/
theorem flush_iff (t : Fin (cfgM m hO).N) : ((cfgM m hO).win 4).flush t = true ↔ Cert.Down.Ends (wTile m) (item m hO t) := by
  unfold Window.flush Cert.Down.Ends
  rw [show ((cfgM m hO).win 4).isOut = true from rfl, Bool.true_and, Bool.or_eq_true, decide_eq_true_iff, decide_eq_true_iff]
  refine or_congr ?_ ?_
  · show t.val + 1 = 35 ↔ t.val = 34
    omega
  · refine exists_congr fun h => ?_
    rw [index4, index4]
    refine not_congr ⟨fun k => congrFun k 0, fun k => ?_⟩
    have k' : (wTile m (item m hO ⟨t.val + 1, h⟩)).toNat = (wTile m (item m hO t)).toNat := k
    rw [k']

/-- Item `t` as a grid point. -/
abbrev pt (t : Fin 35) : Fin (cfgM m hO).N := ⟨t.val, t.isLt⟩

/-- What point `t` may find and may leave in the output's buffer, row by row. -/
def FindsR (t : Fin 35) (Y : Fin 512 → Fin 2560 → EReal) : Prop :=
  ∃ Z : Vec Ideal S512x2560 .f32, (rdats m hO 0).Finds 4 (pt m hO t) Z ∧ Y = fun p n => Z (ix2 p n)
def LeavesR (t : Fin 35) (Y : Fin 512 → Fin 2560 → EReal) : Prop :=
  ∃ Z : Vec Ideal S512x2560 .f32, (rdats m hO 0).Leaves 4 (pt m hO t) Z ∧ Y = fun p n => Z (ix2 p n)

include hw in
theorem leavesR (t : Fin 35) (X : Fin 512 → Fin 2560 → EReal) (h : LeavesR m hO t X) :
    ∃ Y, FindsR m hO t Y ∧ ∀ (p : Fin 512) (R : Fin 16384), R.val = (wTile m t).toNat * 512 + p.val →
      ((wLo m t).toNat ≤ R.val ∧ R.val < (wHi m t).toNat → X p = target m R) ∧ (¬ ((wLo m t).toNat ≤ R.val ∧ R.val < (wHi m t).toNat) → X p = Y p) := by
  obtain ⟨Z, ⟨Y, hY, hZ⟩, rfl⟩ := h
  refine ⟨fun p n => Y (ix2 p n), ⟨Y, hY, rfl⟩, fun p R hR => ?_⟩
  have e (n : Fin 2560) : Z (ix2 p n) = _ := (congrFun ((rafter0_4 m hO 0 (pt m hO t) Y Z).1 hZ) (ix2 p n)).trans (left_apply m hO hw (pt m hO t) Y p n R hR)
  exact ⟨fun h => funext fun n => (e n).trans (if_pos h), fun h => funext fun n => (e n).trans (if_neg h)⟩

theorem findsR (t : Nat) (h : t + 1 < 35) (Y : Fin 512 → Fin 2560 → EReal) (hY : FindsR m hO ⟨t + 1, h⟩ Y) :
    Cert.Down.Ends (wTile m) ⟨t, by omega⟩ ∨ LeavesR m hO ⟨t, by omega⟩ Y := by
  obtain ⟨Z, hZ, rfl⟩ := hY
  have hZ := (RDat.finds_of_pos (rdats m hO 0) (w := 4) (t := pt m hO ⟨t + 1, h⟩) rfl (Nat.succ_ne_zero t) Z).1 hZ
  exact hZ.imp (fun k => (flush_iff m hO (pt m hO ⟨t, by omega⟩)).1 k) fun k => ⟨Z, k, rfl⟩

include hw in
/-- What a written-back block holds: the target, in every row. -/
theorem block_target (t : Fin (cfgM m hO).N) (hf : ((cfgM m hO).win 4).flush t = true) (X : Vec Ideal S512x2560 .f32)
    (hX : (rdats m hO 0).Leaves 4 t X) (p : Fin 512) (n : Fin 2560) (R : Fin 16384)
    (hR : R.val = (wTile m (item m hO t)).toNat * 512 + p.val) : X (ix2 p n) = target m R n := by
  have hend := hw.hi_of_ends _ ((flush_iff m hO t).1 hf)
  have hp := p.isLt
  exact congrFun (hw.filled (FindsR m hO) (LeavesR m hO) (target m) (leavesR m hO hw) (findsR m hO) (item m hO t) (fun p n => X (ix2 p n))
    ⟨X, hX, rfl⟩ p R hR (by omega)) n

include hw in
/-- Every row is in a block that is written back. -/
theorem covered (i : S16384x2560.Idx) : ∃ t : Fin (cfgM m hO).N, ((cfgM m hO).win 4).flush t = true ∧ i ∈ (((cfgM m hO).win 4).blk t).view.set := by
  obtain ⟨t, ht, h1, h2⟩ := hw.ender (i 0).val (i 0).isLt
  obtain ⟨t, rfl⟩ : ∃ u : Fin (cfgM m hO).N, t = item m hO u := ⟨pt m hO t, rfl⟩
  refine ⟨t, (flush_iff m hO t).2 ht, ?_⟩
  have h : (((cfgM m hO).win 4).blk t).view.emb (ix2 (⟨(i 0).val - (wTile m (item m hO t)).toNat * 512, by omega⟩ : Fin 512) (i 1 : Fin 2560) : S512x2560.Idx) = i := ?_
  · exact h ▸ View.emb_mem_set _ _
  funext a
  refine Fin.ext ?_
  refine (Window.rect_emb_val ((cfgM m hO).win 4) t _ a rfl).trans ?_
  rw [index4]
  match a with
  | ⟨0, _⟩ => show (wTile m (item m hO t)).toNat * 512 + ((i 0).val - (wTile m (item m hO t)).toNat * 512) = (i 0).val; omega
  | ⟨1, _⟩ => show 0 * 2560 + (i 1).val = (i 1).val; omega

include hw in
/-- The array, whatever the blocks were found to hold: the target. -/
theorem arr_target (after : (w : Fin (cfgM m hO).W) → Fin (cfgM m hO).N → ((cfgM m hO).win w).block.Idx → Elt Ideal ((cfgM m hO).win w).elt)
    (hL : ∀ w u, ((cfgM m hO).win w).flush u = true → (rdats m hO 0).Leaves w u (after w u)) :
    ((rdats m hO 0).withAfter after).arrAt 4 (cfgM m hO).N = fun y : S16384x2560.Idx => target m (y 0) (y 1) := by
  refine Dat.arrAt_eq_of_emb _ 4 _ (fun t hf y => ?_) (covered m hO hw)
  revert y
  suffices key : ∀ (y : S512x2560.Idx) (z : S16384x2560.Idx), (∀ a : Fin 2, (z a).val = (![(wTile m (item m hO t)).toNat, 0] : Fin 2 → ℕ) a * S512x2560.size a + (y a).val) →
      (after 4 t : Vec Ideal S512x2560 .f32) y = target m (z 0) (z 1) from fun y => key y _ fun a =>
        (Window.rect_emb_val ((cfgM m hO).win 4) t y a rfl).trans (by rw [index4]; rfl)
  intro y z hz
  obtain ⟨p, n, rfl⟩ : ∃ (p : Fin 512) (n : Fin 2560), y = (ix2 p n : S512x2560.Idx) := ⟨y 0, y 1, by ext a; fin_cases a <;> rfl⟩
  have h1 : z 1 = n := Fin.ext ((hz 1).trans (by show 0 * 2560 + n.val = n.val; omega))
  rw [h1]
  exact block_target m hO hw t hf (after 4 t) (hL 4 t hf) p n (z 0) (hz 0)

include hw in
/-- The run: the result array ends holding the target, the arguments as they were. -/
theorem run_target (ρ : Dev nD → PrngReg) : θ_run defs (onTc (τ := τ) (main (F := Ideal))) (s₀ m ρ) (fun r => ∀ c : Dev nD,
    r.2.mem ((c.tc : Thread nD τ).loc main_v1) = (fun y : S16384x2560.Idx => target m (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hO := ok_of_items m hw
  refine (θ_run _ _ _).mono (fun r h c => ⟨?_, args_kept m hO r h.1 c⟩) (run_main_quiescent m ρ hO)
  obtain rfl : c = 0 := Subsingleton.elim _ _
  obtain ⟨after, hL, hA⟩ := h.1.exists_exact 0
  exact (hA 4).trans (arr_target m hO hw after hL)

end Cert.DownExIdeal.Gen

end
-- ==== Proof.DownRefValue.lean ====
/- The expert reference's result array after the run: every row's product with its expert, chosen by comparisons. -/
module

public import proofs.«01_k».proof.Proof.Gen.DownExRefIdeal.Value
public import Idealize.ShloMosaic.Lib.Pipeline.ValueKit
public import Idealize.ShloMosaic.Lib.Pointwise
public import Idealize.ShloMosaic.Lib.WordCmp

@[expose] public section

set_option maxRecDepth 16384

noncomputable section

namespace Cert.DownRefValue

open Idealize.ShloMosaic Idealize.ShloMosaic.TcCoe Idealize.SL.Sem Idealize.ShloMosaic.WordCmp Cert.DownExRefIdeal Cert.DownExRefIdeal.Gen

/-- One expert's linear map on one row. -/
def lin (X : Vec Ideal S16384x6912 .fp8e4m3) (S : Vec Ideal S16384x1 .f32) (W : Vec Ideal S1x6912x2560 .fp8e4m3) (T : Vec Ideal S1x1x2560 .f32)
    (r : Fin 16384) (n : Fin 2560) : EReal :=
  (∑ k : Fin 6912, X (ix2 r k) * W (ix3 0 k n)) * S (ix2 r 0) * T (ix3 0 0 n)

section payloads
variable (E : Vec Ideal S16384x1 .i32) (X : Vec Ideal S16384x6912 .fp8e4m3) (S : Vec Ideal S16384x1 .f32)
  (W0 W1 W2 W3 : Vec Ideal S1x6912x2560 .fp8e4m3) (T0 T1 T2 T3 : Vec Ideal S1x1x2560 .f32)

theorem sel_eq (a b : BitVec 32) (x y : EReal) : Scalar.select (IntOp.cmpi .eq a b) x y = if a = b then x else y := by
  by_cases h : a = b
  · rw [if_pos h, h, show IntOp.cmpi .eq b b = 1#1 from by unfold IntOp.cmpi; simp]; rfl
  · rw [if_neg h, show IntOp.cmpi .eq a b = 0#1 from by show BitVec.ofBool (a == b) = 0#1; rw [beq_false_of_ne h]; rfl]; rfl

theorem pick0 (r : Fin 16384) (n : Fin 2560) :
    k0_pay2 E X S W0 T0 (ix2 r n) = if E (ix2 r 0) = 0#32 then lin X S W0 T0 r n else 0 := by
  rw [← sel_eq]
  pointwise [k0_pay2]
  rfl

theorem pick2 (r : Fin 16384) (n : Fin 2560) (A : FVec Ideal S16384x2560 .f32) :
    k0_pay6 A (k0_pay3 E) (k0_pay4 X S W1) (k0_pay5 T1) E X S W2 T2 (ix2 r n)
      = if E (ix2 r 0) = 2#32 then lin X S W2 T2 r n else if E (ix2 r 0) = 1#32 then lin X S W1 T1 r n else A (ix2 r n) := by
  rw [← sel_eq, ← sel_eq]
  pointwise [k0_pay6, k0_pay3, k0_pay4, k0_pay5]
  rfl

theorem pick3 (r : Fin 16384) (n : Fin 2560) (A : FVec Ideal S16384x2560 .f32) :
    k0_pay1 A (k0_pay7 E) (k0_pay8 T3) (k0_pay9 X W3) (k0_pay10 S) (ix2 r n)
      = if E (ix2 r 0) = 3#32 then lin X S W3 T3 r n else A (ix2 r n) := by
  rw [← sel_eq]
  pointwise [k0_pay1, k0_pay7, k0_pay8, k0_pay9, k0_pay10]
  rfl

end payloads

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0, 0]
    ∧ win0_4.index t = ![0, 0, 0] ∧ win0_5.index t = ![0, 0] :=
  (by decide +kernel : ∀ t : Fin grid0.N, _)

/-- One element of the result, from the row's expert, codes and scale and the experts' columns. -/
def pickF (e : BitVec 32) (x : Fin 6912 → EReal) (s : EReal) (w : Fin 4 → Fin 6912 → EReal) (t : Fin 4 → EReal) : EReal :=
  if e = 3#32 then (∑ k, x k * w 3 k) * s * t 3 else if e = 2#32 then (∑ k, x k * w 2 k) * s * t 2
    else if e = 1#32 then (∑ k, x k * w 1 k) * s * t 1 else if e = 0#32 then (∑ k, x k * w 0 k) * s * t 0 else 0

theorem pickF_congr {e e' : BitVec 32} {x x' : Fin 6912 → EReal} {s s' : EReal} {w w' : Fin 4 → Fin 6912 → EReal} {t t' : Fin 4 → EReal}
    (h0 : e = e') (h1 : ∀ k, x k = x' k) (h2 : s = s') (h3 : ∀ a k, w a k = w' a k) (h4 : ∀ a, t a = t' a) : pickF e x s w t = pickF e' x' s' w' t' := by
  obtain rfl : x = x' := funext h1
  obtain rfl : w = w' := funext fun a => funext (h3 a)
  obtain rfl : t = t' := funext h4
  rw [h0, h2]

/-- The choice by comparisons is the row's expert's product, when the row's expert is one of the four. -/
theorem pickF_of_lt {e : BitVec 32} (x : Fin 6912 → EReal) (s : EReal) (w : Fin 4 → Fin 6912 → EReal) (t : Fin 4 → EReal) (a : Fin 4)
    (h : e.toNat = a.val) : pickF e x s w t = (∑ k, x k * w a k) * s * t a := by
  obtain rfl : e = BitVec.ofNat 32 a.val := BitVec.eq_of_toNat_eq (by rw [h, BitVec.toNat_ofNat]; have := a.isLt; omega)
  fin_cases a <;> rfl

/-- The result, row by row. -/
def pick (c : Dev nD) (r : Fin 16384) (n : Fin 2560) : EReal :=
  pickF (m ((c : Thread nD τ).loc main_arg0) (ix2 r (0 : Fin 1))) (fun k => m ((c : Thread nD τ).loc main_arg5) (ix2 r k))
    (m ((c : Thread nD τ).loc main_arg6) (ix2 r (0 : Fin 1))) (fun e k => m ((c : Thread nD τ).loc main_arg7) (ix3 e k n))
    (fun e => m ((c : Thread nD τ).loc main_arg8) (ix2 e n))

theorem ldw0 (x : Vec Ideal S4x6912x2560 .fp8e4m3) (k : Fin 6912) (n : Fin 2560) : View.ld x r0_2 (ix3 0 k n) = x (ix3 0 k n) :=
  congrArg x (funext fun a => Fin.ext (match a with
    | ⟨0, _⟩ => rfl
    | ⟨1, _⟩ => by show 0 + 1 * k.val = k.val; omega
    | ⟨2, _⟩ => by show 0 + 1 * n.val = n.val; omega))
theorem lds0 (x : Vec Ideal S4x1x2560 .f32) (n : Fin 2560) : View.ld x r0_3 (ix3 0 0 n) = x (ix3 0 0 n) :=
  congrArg x (funext fun a => Fin.ext (match a with
    | ⟨0, _⟩ => rfl
    | ⟨1, _⟩ => rfl
    | ⟨2, _⟩ => by show 0 + 1 * n.val = n.val; omega))
theorem ldw1 (x : Vec Ideal S4x6912x2560 .fp8e4m3) (k : Fin 6912) (n : Fin 2560) : View.ld x r0_4 (ix3 0 k n) = x (ix3 1 k n) :=
  congrArg x (funext fun a => Fin.ext (match a with
    | ⟨0, _⟩ => rfl
    | ⟨1, _⟩ => by show 0 + 1 * k.val = k.val; omega
    | ⟨2, _⟩ => by show 0 + 1 * n.val = n.val; omega))
theorem lds1 (x : Vec Ideal S4x1x2560 .f32) (n : Fin 2560) : View.ld x r0_5 (ix3 0 0 n) = x (ix3 1 0 n) :=
  congrArg x (funext fun a => Fin.ext (match a with
    | ⟨0, _⟩ => rfl
    | ⟨1, _⟩ => rfl
    | ⟨2, _⟩ => by show 0 + 1 * n.val = n.val; omega))
theorem ldw2 (x : Vec Ideal S4x6912x2560 .fp8e4m3) (k : Fin 6912) (n : Fin 2560) : View.ld x r0_6 (ix3 0 k n) = x (ix3 2 k n) :=
  congrArg x (funext fun a => Fin.ext (match a with
    | ⟨0, _⟩ => rfl
    | ⟨1, _⟩ => by show 0 + 1 * k.val = k.val; omega
    | ⟨2, _⟩ => by show 0 + 1 * n.val = n.val; omega))
theorem lds2 (x : Vec Ideal S4x1x2560 .f32) (n : Fin 2560) : View.ld x r0_7 (ix3 0 0 n) = x (ix3 2 0 n) :=
  congrArg x (funext fun a => Fin.ext (match a with
    | ⟨0, _⟩ => rfl
    | ⟨1, _⟩ => rfl
    | ⟨2, _⟩ => by show 0 + 1 * n.val = n.val; omega))
theorem ldw3 (x : Vec Ideal S4x6912x2560 .fp8e4m3) (k : Fin 6912) (n : Fin 2560) : View.ld x r0_8 (ix3 0 k n) = x (ix3 3 k n) :=
  congrArg x (funext fun a => Fin.ext (match a with
    | ⟨0, _⟩ => rfl
    | ⟨1, _⟩ => by show 0 + 1 * k.val = k.val; omega
    | ⟨2, _⟩ => by show 0 + 1 * n.val = n.val; omega))
theorem lds3 (x : Vec Ideal S4x1x2560 .f32) (n : Fin 2560) : View.ld x r0_9 (ix3 0 0 n) = x (ix3 3 0 n) :=
  congrArg x (funext fun a => Fin.ext (match a with
    | ⟨0, _⟩ => rfl
    | ⟨1, _⟩ => rfl
    | ⟨2, _⟩ => by show 0 + 1 * n.val = n.val; omega))
theorem lin0 (X : Vec Ideal S16384x6912 .fp8e4m3) (S : Vec Ideal S16384x1 .f32) (x : Vec Ideal S4x6912x2560 .fp8e4m3) (z : Vec Ideal S4x1x2560 .f32)
    (r : Fin 16384) (n : Fin 2560) : lin X S (View.ld x r0_2) (View.ld z r0_3) r n
      = (∑ k : Fin 6912, X (ix2 r k) * x (ix3 0 k n)) * S (ix2 r 0) * z (ix3 0 0 n) :=
  congrArg₂ (fun a b : EReal => a * S (ix2 r 0) * b) (Finset.sum_congr rfl fun k _ => congrArg (fun b : EReal => X (ix2 r k) * b) (ldw0 x k n)) (lds0 z n)
theorem lin1 (X : Vec Ideal S16384x6912 .fp8e4m3) (S : Vec Ideal S16384x1 .f32) (x : Vec Ideal S4x6912x2560 .fp8e4m3) (z : Vec Ideal S4x1x2560 .f32)
    (r : Fin 16384) (n : Fin 2560) : lin X S (View.ld x r0_4) (View.ld z r0_5) r n
      = (∑ k : Fin 6912, X (ix2 r k) * x (ix3 1 k n)) * S (ix2 r 0) * z (ix3 1 0 n) :=
  congrArg₂ (fun a b : EReal => a * S (ix2 r 0) * b) (Finset.sum_congr rfl fun k _ => congrArg (fun b : EReal => X (ix2 r k) * b) (ldw1 x k n)) (lds1 z n)
theorem lin2 (X : Vec Ideal S16384x6912 .fp8e4m3) (S : Vec Ideal S16384x1 .f32) (x : Vec Ideal S4x6912x2560 .fp8e4m3) (z : Vec Ideal S4x1x2560 .f32)
    (r : Fin 16384) (n : Fin 2560) : lin X S (View.ld x r0_6) (View.ld z r0_7) r n
      = (∑ k : Fin 6912, X (ix2 r k) * x (ix3 2 k n)) * S (ix2 r 0) * z (ix3 2 0 n) :=
  congrArg₂ (fun a b : EReal => a * S (ix2 r 0) * b) (Finset.sum_congr rfl fun k _ => congrArg (fun b : EReal => X (ix2 r k) * b) (ldw2 x k n)) (lds2 z n)
theorem lin3 (X : Vec Ideal S16384x6912 .fp8e4m3) (S : Vec Ideal S16384x1 .f32) (x : Vec Ideal S4x6912x2560 .fp8e4m3) (z : Vec Ideal S4x1x2560 .f32)
    (r : Fin 16384) (n : Fin 2560) : lin X S (View.ld x r0_8) (View.ld z r0_9) r n
      = (∑ k : Fin 6912, X (ix2 r k) * x (ix3 3 k n)) * S (ix2 r 0) * z (ix3 3 0 n) :=
  congrArg₂ (fun a b : EReal => a * S (ix2 r 0) * b) (Finset.sum_congr rfl fun k _ => congrArg (fun b : EReal => X (ix2 r k) * b) (ldw3 x k n)) (lds3 z n)

theorem out_apply (x0 : Vec Ideal S16384x1 .i32) (x1 : Vec Ideal S16384x6912 .fp8e4m3) (x2 : Vec Ideal S16384x1 .f32) (x3 : Vec Ideal S4x6912x2560 .fp8e4m3)
    (x4 : Vec Ideal S4x1x2560 .f32) (r : Fin 16384) (n : Fin 2560) : out0_5 x0 x1 x2 x3 x4 (ix2 r n)
      = pickF (x0 (ix2 r 0)) (fun k => x1 (ix2 r k)) (x2 (ix2 r 0)) (fun e k => x3 (ix3 e k n)) (fun e => x4 (ix3 e 0 n)) := by
  frame_out
  rw [pick3, pick2, pick0]
  rw [lin0, lin1, lin2, lin3]
  rfl

theorem hostScale (c : Dev nD) (x : Fin 4) (n : Fin 2560) : V m c main_v0 (ix3 x 0 n : S4x1x2560.Idx) = m ((c : Thread nD τ).loc main_arg8) (ix2 x n) := by
  unfold V hostOps0
  simp only [StableHlo.after_cons, StableHlo.after_nil]
  rw [StableHlo.unary_result]
  pointwise []

theorem out5 (c : Dev nD) : (dats m 0 c).arrAt 5 cfg0.N = fun y : S16384x2560.Idx => pick m c (y 0) (y 1) := by
  refine (dats m 0 c).arrAt_eq_of_covers 5 _ (by decide +kernel) fun t hf y => ?_
  rw [after0_5]
  blk_simp
  obtain ⟨r, n, rfl⟩ : ∃ (r : Fin 16384) (n : Fin 2560), y = (ix2 r n : S16384x2560.Idx) := ⟨y 0, y 1, by ext a; fin_cases a <;> rfl⟩
  rw [out_apply]
  have h0 : (win0_5.blk t).view.emb (ix2 r n : S16384x2560.Idx) 0 = r := Fin.ext (by blk_simp [idx t])
  have h1 : (win0_5.blk t).view.emb (ix2 r n : S16384x2560.Idx) 1 = n := Fin.ext (by blk_simp [idx t])
  rw [h0, h1]
  have e0 : iblk m c 0 t (ix2 r 0) = m ((c : Thread nD τ).loc main_arg0) (ix2 r 0) := by blk_ext [iblk, V, idx t]
  have e1 (k : Fin 6912) : iblk m c 1 t (ix2 r k) = m ((c : Thread nD τ).loc main_arg5) (ix2 r k) := by blk_ext [iblk, V, idx t]
  have e2 : iblk m c 2 t (ix2 r 0) = m ((c : Thread nD τ).loc main_arg6) (ix2 r 0) := by blk_ext [iblk, V, idx t]
  have e3 (e : Fin 4) (k : Fin 6912) : iblk m c 3 t (ix3 e k n) = m ((c : Thread nD τ).loc main_arg7) (ix3 e k n) := by blk_ext [iblk, V, idx t]
  have e4 (e : Fin 4) : iblk m c 4 t (ix3 e 0 n) = m ((c : Thread nD τ).loc main_arg8) (ix2 e n) := by
    refine Eq.trans ?_ (hostScale m c e n)
    blk_ext [iblk, idx t]
  exact pickF_congr e0 e1 e2 e3 e4

end Cert.DownRefValue

end
-- ==== Proof.UpExBitsKit.lean ====
/- The frame kit of the expert up projection: what the region finds in every buffer, the tables as the region reads
   them, the windows' blocks, and the staging memrefs at a grid point. Everything is stated for every launch memory whose
   tables keep the blocks inside their arrays (`Ok`). -/
module

public import proofs.«01_k».proof.Proof.Gen.UpEx.Launch
public import proofs.«01_k».proof.Proof.Gen.UpEx.Skeleton
public import proofs.«01_k».proof.Proof.Gen.UpEx
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.UpEx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_up (grid0.coords t) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S35 .i32 := Memref.whole main_arg1
abbrev htbM0_0 : tbM0_0.IsWhole := Memref.isWhole_whole _
abbrev tbM0_1 : Memref sig .tc .smem S35 .i32 := Memref.whole main_arg2
abbrev htbM0_1 : tbM0_1.IsWhole := Memref.isWhole_whole _
abbrev tbM0_2 : Memref sig .tc .smem S35 .i32 := Memref.whole main_arg3
abbrev htbM0_2 : tbM0_2.IsWhole := Memref.isWhole_whole _
abbrev tbM0_3 : Memref sig .tc .smem S35 .i32 := Memref.whole main_arg4
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_UpEx`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).2 main_arg8 (by decide : main_arg8 ∈ Pipeline.restRefs sig spec0)).trans (V_main_arg8 m c),
      ((h c).1 4).trans (((dats 0 c).arrAt_in 4 rfl _).trans ((hA c 4).trans (V_main_arg9 m c))),
      ((h c).2 main_arg10 (by decide : main_arg10 ∈ Pipeline.restRefs sig spec0)).trans (V_main_arg10 m c)⟩) h

/-! ## The kernel body on any staging memrefs: a subtype the run finds -/

/-- One staging buffer of output window 6, through which its contents are stated (`View.read_writes_of_cover`: the
    choice does not matter). -/
abbrev VO0_6 : View sig .tc .vmem S512x6912 .fp8e4m3 := (Memref.whole cc0_stg6_0 : Memref sig .tc .vmem S512x6912 .fp8e4m3).view
/-- One staging buffer of output window 7, through which its contents are stated (`View.read_writes_of_cover`: the
    choice does not matter). -/
abbrev VO0_7 : View sig .tc .vmem S512x1 .f32 := (Memref.whole cc0_stg7_0 : Memref sig .tc .vmem S512x1 .f32).view
/-- Each window's current staging memref at point `t`, spelled as the pipeline passes it (`bodyAt0`), and its wholeness. -/
abbrev ms0_0 (hO : Ok m) (t : Fin (cfgM m hO).N) : Memref sig .tc .vmem S512x640 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2560x2304 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2304 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2560x2304 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x2304 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x6912 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x1 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x2560 .fp8e4m3 := Memref.whole cc0_scratch0
abbrev scM0_1 : Memref sig .tc .vmem S512x6912 .f32 := Memref.whole cc0_scratch1
abbrev scM0_2 : Memref sig .tc .vmem S512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.UpEx.Gen

end
-- ==== Proof.UpExBitsRun.lean ====
/- One run of the expert up projection's body on any whole memrefs, from any old contents of the output blocks and of the
   scratch buffers. -/
module

public import proofs.«01_k».proof.Proof.UpExBitsKit

@[expose] public section

-- membership in a rectangle of production extents (`View.cover_of_tiled`): the elaborator's structural look
-- recurses once per coordinate of the long axes
set_option maxRecDepth 16384

noncomputable section

namespace Cert.UpEx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The contents of the output blocks and of the three scratch buffers after the body, found by running it: on whole memrefs,
    each at given contents, the body runs to the continuation that holds the inputs' as they were and the others' at the
    contents found. -/
noncomputable def kernelRun0_A (c : Dev nD) (i : grid0.Coords) (arg6 : Memref sig .tc .vmem S512x640 .i32) (harg6 : arg6.IsWhole) (arg7 : Memref sig .tc .vmem S512x1 .f32) (harg7 : arg7.IsWhole) (arg8 : Memref sig .tc .vmem S1x2560x2304 .fp8e4m3) (harg8 : arg8.IsWhole) (arg9 : Memref sig .tc .vmem S1x1x2304 .f32) (harg9 : arg9.IsWhole) (arg10 : Memref sig .tc .vmem S1x2560x2304 .fp8e4m3) (harg10 : arg10.IsWhole) (arg11 : Memref sig .tc .vmem S1x1x2304 .f32) (harg11 : arg11.IsWhole) (arg12 : Memref sig .tc .vmem S512x6912 .fp8e4m3) (harg12 : arg12.IsWhole) (arg13 : Memref sig .tc .vmem S512x1 .f32) (harg13 : arg13.IsWhole) (arg14 : Memref sig .tc .vmem S512x2560 .fp8e4m3) (harg14 : arg14.IsWhole) (arg15 : Memref sig .tc .vmem S512x6912 .f32) (harg15 : arg15.IsWhole) (arg16 : Memref sig .tc .vmem S512x128 .f32) (harg16 : arg16.IsWhole)
    (x0 : Vec F S512x640 .i32) (x1 : Vec F S512x1 .f32) (x2 : Vec F S1x2560x2304 .fp8e4m3) (x3 : Vec F S1x1x2304 .f32) (x4 : Vec F S1x2560x2304 .fp8e4m3) (x5 : Vec F S1x1x2304 .f32) (x6 : Vec F S512x6912 .fp8e4m3) (x7 : Vec F S512x1 .f32) (x8 : Vec F S512x2560 .fp8e4m3) (x9 : Vec F S512x6912 .f32) (x10 : Vec F S512x128 .f32) (xt0 : TbBuf0 (F := F) c tbM0_0) (xt1 : TbBuf0 (F := F) c tbM0_1) (xt2 : TbBuf0 (F := F) c tbM0_2) (xt3 : TbBuf0 (F := F) c tbM0_3) :
    Σ' (g6 : Buf (Elt F) (arg12.view.loc (c : Thread nD τ))) (g7 : Buf (Elt F) (arg13.view.loc (c : Thread nD τ))) (g8 : Buf (Elt F) (arg14.view.loc (c : Thread nD τ))) (g9 : Buf (Elt F) (arg15.view.loc (c : Thread nD τ))), { g10 : Buf (Elt F) (arg16.view.loc (c : Thread nD τ)) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare (arg12.view.read (Elt F) g6) ∗ owns (c : Thread nD τ) arg13 fullShare (arg13.view.read (Elt F) g7) ∗ owns (c : Thread nD τ) arg14 fullShare (arg14.view.read (Elt F) g8) ∗ owns (c : Thread nD τ) arg15 fullShare (arg15.view.read (Elt F) g9) ∗ owns (c : Thread nD τ) arg16 fullShare (arg16.view.read (Elt F) g10) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_expert_up_eq_skeleton]; unfold cc0_expert_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HS0⟩, ⟨%f9, %hf9, HS1⟩, ⟨%f10, %hf10, HS2⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hf8; obtain rfl := harg15.eq_unread hf9; obtain rfl := harg16.eq_unread hf10
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]
    · iexists _; isplitr; swap; · iexact H6
      ipureintro; rfl
    isplitl [H7]
    · iexists _; isplitr; swap; · iexact H7
      ipureintro; rfl
    isplitl [HS0]
    · iexists _; isplitr; swap; · iexact HS0
      ipureintro; rfl
    isplitl [HS1]
    · iexists _; isplitr; swap; · iexact HS1
      ipureintro; rfl
    isplitl [HS2]
    · iexists _; isplitr; swap; · iexact HS2
      ipureintro; rfl
    isplitl [HT0]; · iexact HT0
    isplitl [HT1]; · iexact HT1
    isplitl [HT2]; · iexact HT2
    iexact HT3

end Cert.UpEx.Gen

end
-- ==== Proof.UpExBitsFrame.lean ====
/- The run of the expert up projection, for every launch memory whose tables keep the blocks inside their arrays. The
   scratch buffers carry the hidden values of a tile from one work item to the next, so the proof data carry an invariant of
   the scratch contents, and relate what a point leaves in its output blocks to it. -/
module

public import proofs.«01_k».proof.Proof.UpExBitsRun
public import Idealize.ShloMosaic.Lib.Claim

@[expose] public section

-- membership in a rectangle of production extents (`View.cover_of_tiled`): the elaborator's structural look
-- recurses once per coordinate of the long axes
set_option maxRecDepth 16384

noncomputable section

namespace Cert.UpEx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold: the row codes, the hidden values, the running row maxima. -/
structure St (F : FTy → Type) where
  x8 : Vec F S512x2560 .fp8e4m3
  h : Vec F S512x6912 .f32
  amax : Vec F S512x128 .f32

/-- The run of point `t` from output blocks `Y6`, `Y7` and scratch contents `s`. -/
def runAt (hO : Ok m) (c : Dev nD) (t : Fin (cfgM m hO).N) (Y6 : Vec F S512x6912 .fp8e4m3) (Y7 : Vec F S512x1 .f32) (s : St F) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) Y6 Y7 s.x8 s.h s.amax (tbl m 0) (tbl m 1) (tbl m 2) (tbl m 3)

/-- What the body leaves in the two output blocks -/
def left6 (hO : Ok m) (c : Dev nD) (t : Fin (cfgM m hO).N) (Y6 : Vec F S512x6912 .fp8e4m3) (Y7 : Vec F S512x1 .f32) (s : St F) : Vec F S512x6912 .fp8e4m3 :=
  (ms0_6 m hO t).view.read (Elt F) (runAt m hO c t Y6 Y7 s).1
def left7 (hO : Ok m) (c : Dev nD) (t : Fin (cfgM m hO).N) (Y6 : Vec F S512x6912 .fp8e4m3) (Y7 : Vec F S512x1 .f32) (s : St F) : Vec F S512x1 .f32 :=
  (ms0_7 m hO t).view.read (Elt F) (runAt m hO c t Y6 Y7 s).2.1
/-- and in the scratch buffers. -/
def stepS (hO : Ok m) (c : Dev nD) (t : Fin (cfgM m hO).N) (Y6 : Vec F S512x6912 .fp8e4m3) (Y7 : Vec F S512x1 .f32) (s : St F) : St F where
  x8 := scM0_0.view.read (Elt F) (runAt m hO c t Y6 Y7 s).2.2.1
  h := scM0_1.view.read (Elt F) (runAt m hO c t Y6 Y7 s).2.2.2.1
  amax := scM0_2.view.read (Elt F) (runAt m hO c t Y6 Y7 s).2.2.2.2.1

/-- What a proof tracks: an invariant of the scratch buffers before each point, and what each point leaves in the outputs. -/
structure Track (hO : Ok m) (c : Dev nD) where
  inv : ℕ → St F → Prop
  post6 : Fin (cfgM m hO).N → Vec F S512x6912 .fp8e4m3 → Prop
  post7 : Fin (cfgM m hO).N → Vec F S512x1 .f32 → Prop
  init : ∀ s, inv 0 s
  step : ∀ (t : Fin (cfgM m hO).N) Y6 Y7 s, inv t.val s → inv (t.val + 1) (stepS m hO c t Y6 Y7 s) ∧ post6 t (left6 m hO c t Y6 Y7 s) ∧ post7 t (left7 m hO c t Y6 Y7 s)

/-- The proof that tracks nothing. -/
def Track.none (hO : Ok m) (c : Dev nD) : Track m hO c where
  inv _ _ := True
  post6 _ _ := True
  post7 _ _ := True
  init _ := trivial
  step _ _ _ _ _ := ⟨trivial, trivial, trivial⟩

/-- The scratch buffers at contents that satisfy `P`. -/
def scr (c : Dev nD) (P : St F → Prop) : sProp 𝕄 :=
  iprop(∃ s : St F, ⌜P s⌝ ∗ owns (c : Thread nD τ) scM0_0 fullShare s.x8 ∗ owns (c : Thread nD τ) scM0_1 fullShare s.h ∗ owns (c : Thread nD τ) scM0_2 fullShare s.amax)

/-- Data that name every window: the inputs' blocks, and nothing of interest for the outputs. -/
def dats (hO : Ok m) (c : Dev nD) (T : Track m hO c) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => VO0_6.read (Elt F) VO0_6.junk
    | ⟨7, _⟩ => VO0_7.read (Elt F) VO0_7.junk
  Φ t := iprop((scr c (T.inv t.val) ∗ ∃ r, prngReg c r) ∗ Pipeline.ΦT pre0 (tbl m) c)
  q _ := fullShare
  owed _ := 0

/-- The output windows' relations: what `T` says of what the body leaves. -/
def ovr (hO : Ok m) (c : Dev nD) (T : Track m hO c) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => none
  | ⟨3, _⟩ => none
  | ⟨4, _⟩ => none
  | ⟨5, _⟩ => none
  | ⟨6, _⟩ => some fun t _ X => T.post6 t X
  | ⟨7, _⟩ => some fun t _ X => T.post7 t X

/-- The proof data: the inputs named, the outputs related. -/
def rdats (hO : Ok m) (c : Dev nD) (T : Track m hO c) : RDat τ (Elt F) Unit ℕ (UR sig nD τ) ℕ (cfgM m hO) c := (dats m hO c T).toR.override (ovr m hO c T)

theorem A_eq (hO : Ok m) (c : Dev nD) (T : Track m hO c) (w : Fin (cfgM m hO).W) : (dats m hO c T).A w = V m c (Pipeline.arrRef spec0 w) := by
  dsimp only [dats]

theorem after0_0 (hO : Ok m) (c : Dev nD) (T : Track m hO c) (t : Fin (cfgM m hO).N) : (dats m hO c T).after 0 t = iblk m hO c 0 t := by dsimp only [dats]; try rfl
theorem after0_1 (hO : Ok m) (c : Dev nD) (T : Track m hO c) (t : Fin (cfgM m hO).N) : (dats m hO c T).after 1 t = iblk m hO c 1 t := by dsimp only [dats]; try rfl
theorem after0_2 (hO : Ok m) (c : Dev nD) (T : Track m hO c) (t : Fin (cfgM m hO).N) : (dats m hO c T).after 2 t = iblk m hO c 2 t := by dsimp only [dats]; try rfl
theorem after0_3 (hO : Ok m) (c : Dev nD) (T : Track m hO c) (t : Fin (cfgM m hO).N) : (dats m hO c T).after 3 t = iblk m hO c 3 t := by dsimp only [dats]; try rfl
theorem after0_4 (hO : Ok m) (c : Dev nD) (T : Track m hO c) (t : Fin (cfgM m hO).N) : (dats m hO c T).after 4 t = iblk m hO c 4 t := by dsimp only [dats]; try rfl
theorem after0_5 (hO : Ok m) (c : Dev nD) (T : Track m hO c) (t : Fin (cfgM m hO).N) : (dats m hO c T).after 5 t = iblk m hO c 5 t := by dsimp only [dats]; try rfl
theorem before0_0 (hO : Ok m) (c : Dev nD) (T : Track m hO c) (t : Fin (cfgM m hO).N) (d) : (dats m hO c T).before 0 t d = iblk m hO c 0 t :=
  before0_0_of m hO (dats m hO c T) (A_eq m hO c T 0) (after0_0 m hO c T) t d
theorem before0_1 (hO : Ok m) (c : Dev nD) (T : Track m hO c) (t : Fin (cfgM m hO).N) (d) : (dats m hO c T).before 1 t d = iblk m hO c 1 t :=
  before0_1_of m hO (dats m hO c T) (A_eq m hO c T 1) (after0_1 m hO c T) t d
theorem before0_2 (hO : Ok m) (c : Dev nD) (T : Track m hO c) (t : Fin (cfgM m hO).N) (d) : (dats m hO c T).before 2 t d = iblk m hO c 2 t :=
  before0_2_of m hO (dats m hO c T) (A_eq m hO c T 2) (after0_2 m hO c T) t d
theorem before0_3 (hO : Ok m) (c : Dev nD) (T : Track m hO c) (t : Fin (cfgM m hO).N) (d) : (dats m hO c T).before 3 t d = iblk m hO c 3 t :=
  before0_3_of m hO (dats m hO c T) (A_eq m hO c T 3) (after0_3 m hO c T) t d
theorem before0_4 (hO : Ok m) (c : Dev nD) (T : Track m hO c) (t : Fin (cfgM m hO).N) (d) : (dats m hO c T).before 4 t d = iblk m hO c 4 t :=
  before0_4_of m hO (dats m hO c T) (A_eq m hO c T 4) (after0_4 m hO c T) t d
theorem before0_5 (hO : Ok m) (c : Dev nD) (T : Track m hO c) (t : Fin (cfgM m hO).N) (d) : (dats m hO c T).before 5 t d = iblk m hO c 5 t :=
  before0_5_of m hO (dats m hO c T) (A_eq m hO c T 5) (after0_5 m hO c T) t d
/-- The body finds input 0's block in its staging buffer, and must leave it there. -/
theorem finds0_0 (hO : Ok m) (c : Dev nD) (T : Track m hO c) (t : Fin (cfgM m hO).N) (X) (h : (rdats m hO c T).Finds 0 t X) : X = iblk m hO c 0 t := by
  obtain ⟨d, hd⟩ := (dats m hO c T).toR_finds 0 t X (((dats m hO c T).toR.override_finds (ovr := ovr m hO c T) (w := 0) rfl t X).mp h)
  rw [hd]; exact before0_0 m hO c T t d
theorem rafter0_0 (hO : Ok m) (c : Dev nD) (T : Track m hO c) (t : Fin (cfgM m hO).N) (Y) : (rdats m hO c T).after 0 t Y (iblk m hO c 0 t) := by
  show ((dats m hO c T).toR.override (ovr m hO c T)).after 0 t Y _
  rw [(dats m hO c T).toR.override_after_of_eq_none (ovr := ovr m hO c T) (w := 0) rfl]
  first | exact after0_0 m hO c T t | exact (after0_0 m hO c T t).symm | exact Or.inl (after0_0 m hO c T t).symm
/-- The body finds input 1's block in its staging buffer, and must leave it there. -/
theorem finds0_1 (hO : Ok m) (c : Dev nD) (T : Track m hO c) (t : Fin (cfgM m hO).N) (X) (h : (rdats m hO c T).Finds 1 t X) : X = iblk m hO c 1 t := by
  obtain ⟨d, hd⟩ := (dats m hO c T).toR_finds 1 t X (((dats m hO c T).toR.override_finds (ovr := ovr m hO c T) (w := 1) rfl t X).mp h)
  rw [hd]; exact before0_1 m hO c T t d
theorem rafter0_1 (hO : Ok m) (c : Dev nD) (T : Track m hO c) (t : Fin (cfgM m hO).N) (Y) : (rdats m hO c T).after 1 t Y (iblk m hO c 1 t) := by
  show ((dats m hO c T).toR.override (ovr m hO c T)).after 1 t Y _
  rw [(dats m hO c T).toR.override_after_of_eq_none (ovr := ovr m hO c T) (w := 1) rfl]
  first | exact after0_1 m hO c T t | exact (after0_1 m hO c T t).symm | exact Or.inl (after0_1 m hO c T t).symm
/-- The body finds input 2's block in its staging buffer, and must leave it there. -/
theorem finds0_2 (hO : Ok m) (c : Dev nD) (T : Track m hO c) (t : Fin (cfgM m hO).N) (X) (h : (rdats m hO c T).Finds 2 t X) : X = iblk m hO c 2 t := by
  obtain ⟨d, hd⟩ := (dats m hO c T).toR_finds 2 t X (((dats m hO c T).toR.override_finds (ovr := ovr m hO c T) (w := 2) rfl t X).mp h)
  rw [hd]; exact before0_2 m hO c T t d
theorem rafter0_2 (hO : Ok m) (c : Dev nD) (T : Track m hO c) (t : Fin (cfgM m hO).N) (Y) : (rdats m hO c T).after 2 t Y (iblk m hO c 2 t) := by
  show ((dats m hO c T).toR.override (ovr m hO c T)).after 2 t Y _
  rw [(dats m hO c T).toR.override_after_of_eq_none (ovr := ovr m hO c T) (w := 2) rfl]
  first | exact after0_2 m hO c T t | exact (after0_2 m hO c T t).symm | exact Or.inl (after0_2 m hO c T t).symm
/-- The body finds input 3's block in its staging buffer, and must leave it there. -/
theorem finds0_3 (hO : Ok m) (c : Dev nD) (T : Track m hO c) (t : Fin (cfgM m hO).N) (X) (h : (rdats m hO c T).Finds 3 t X) : X = iblk m hO c 3 t := by
  obtain ⟨d, hd⟩ := (dats m hO c T).toR_finds 3 t X (((dats m hO c T).toR.override_finds (ovr := ovr m hO c T) (w := 3) rfl t X).mp h)
  rw [hd]; exact before0_3 m hO c T t d
theorem rafter0_3 (hO : Ok m) (c : Dev nD) (T : Track m hO c) (t : Fin (cfgM m hO).N) (Y) : (rdats m hO c T).after 3 t Y (iblk m hO c 3 t) := by
  show ((dats m hO c T).toR.override (ovr m hO c T)).after 3 t Y _
  rw [(dats m hO c T).toR.override_after_of_eq_none (ovr := ovr m hO c T) (w := 3) rfl]
  first | exact after0_3 m hO c T t | exact (after0_3 m hO c T t).symm | exact Or.inl (after0_3 m hO c T t).symm
/-- The body finds input 4's block in its staging buffer, and must leave it there. -/
theorem finds0_4 (hO : Ok m) (c : Dev nD) (T : Track m hO c) (t : Fin (cfgM m hO).N) (X) (h : (rdats m hO c T).Finds 4 t X) : X = iblk m hO c 4 t := by
  obtain ⟨d, hd⟩ := (dats m hO c T).toR_finds 4 t X (((dats m hO c T).toR.override_finds (ovr := ovr m hO c T) (w := 4) rfl t X).mp h)
  rw [hd]; exact before0_4 m hO c T t d
theorem rafter0_4 (hO : Ok m) (c : Dev nD) (T : Track m hO c) (t : Fin (cfgM m hO).N) (Y) : (rdats m hO c T).after 4 t Y (iblk m hO c 4 t) := by
  show ((dats m hO c T).toR.override (ovr m hO c T)).after 4 t Y _
  rw [(dats m hO c T).toR.override_after_of_eq_none (ovr := ovr m hO c T) (w := 4) rfl]
  first | exact after0_4 m hO c T t | exact (after0_4 m hO c T t).symm | exact Or.inl (after0_4 m hO c T t).symm
/-- The body finds input 5's block in its staging buffer, and must leave it there. -/
theorem finds0_5 (hO : Ok m) (c : Dev nD) (T : Track m hO c) (t : Fin (cfgM m hO).N) (X) (h : (rdats m hO c T).Finds 5 t X) : X = iblk m hO c 5 t := by
  obtain ⟨d, hd⟩ := (dats m hO c T).toR_finds 5 t X (((dats m hO c T).toR.override_finds (ovr := ovr m hO c T) (w := 5) rfl t X).mp h)
  rw [hd]; exact before0_5 m hO c T t d
theorem rafter0_5 (hO : Ok m) (c : Dev nD) (T : Track m hO c) (t : Fin (cfgM m hO).N) (Y) : (rdats m hO c T).after 5 t Y (iblk m hO c 5 t) := by
  show ((dats m hO c T).toR.override (ovr m hO c T)).after 5 t Y _
  rw [(dats m hO c T).toR.override_after_of_eq_none (ovr := ovr m hO c T) (w := 5) rfl]
  first | exact after0_5 m hO c T t | exact (after0_5 m hO c T t).symm | exact Or.inl (after0_5 m hO c T t).symm
theorem rafter0_6 (hO : Ok m) (c : Dev nD) (T : Track m hO c) (t : Fin (cfgM m hO).N) (Y X) : (rdats m hO c T).after 6 t Y X ↔ T.post6 t X := by
  show ((dats m hO c T).toR.override (ovr m hO c T)).after 6 t Y X ↔ _
  rw [(dats m hO c T).toR.override_after_of_eq_some (ovr := ovr m hO c T) (w := 6) rfl]
theorem rafter0_7 (hO : Ok m) (c : Dev nD) (T : Track m hO c) (t : Fin (cfgM m hO).N) (Y X) : (rdats m hO c T).after 7 t Y X ↔ T.post7 t X := by
  show ((dats m hO c T).toR.override (ovr m hO c T)).after 7 t Y X ↔ _
  rw [(dats m hO c T).toR.override_after_of_eq_some (ovr := ovr m hO c T) (w := 7) rfl]

/-! ## The body obligation, at a generic point -/

/-- The body at any point: from the inputs' blocks, the tables, the outputs' buffers at `Y6`, `Y7` and scratch contents that
    satisfy the invariant, to the same with the invariant of the next point and outputs as tracked. -/
theorem sound_body (hO : Ok m) (c : Dev nD) (T : Track m hO c) (t : Fin (cfgM m hO).N) (Y6 : Vec F S512x6912 .fp8e4m3) (Y7 : Vec F S512x1 .f32) :
    iprop(iprop((scr c (T.inv t.val) ∗ ∃ r, prngReg c r) ∗ Pipeline.ΦT pre0 (tbl m) c) ∗ (dats m hO c T).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ owns (c : Thread nD τ) (ms0_6 m hO t) fullShare Y6
      ∗ owns (c : Thread nD τ) (ms0_7 m hO t) fullShare Y7)
    ⊢ wp frame (wpE (defs₀ (F := F)) Variants.none c none) Set.univ (bodyAt0 (adm m hO) t) (fun _ =>
      iprop(iprop((scr c (T.inv (t.val + 1)) ∗ ∃ r, prngReg c r) ∗ Pipeline.ΦT pre0 (tbl m) c) ∗ (dats m hO c T).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ (∃ X, ⌜T.post6 t X⌝ ∗ owns (c : Thread nD τ) (ms0_6 m hO t) fullShare X)
      ∗ (∃ X, ⌜T.post7 t X⌝ ∗ owns (c : Thread nD τ) (ms0_7 m hO t) fullShare X))) := by
  unfold bodyAt0
  rw [PhiT0_eq]
  unfold scr
  iintro ⟨⟨⟨⟨%s, %hs, HS0, HS1, HS2⟩, Hg⟩, ⟨HT0, HT1, HT2, HT3⟩⟩, Ho, H0, H1, H2, H3, H4, H5, H6, H7⟩
  obtain ⟨p1, p6, p7⟩ := T.step t Y6 Y7 s hs
  iapply ((runAt m hO c t Y6 Y7 s).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  iintro ⟨H0, H1, H2, H3, H4, H5, H6, H7, HS0, HS1, HS2, HT0, HT1, HT2, HT3⟩
  isplitl [HS0 HS1 HS2 Hg HT0 HT1 HT2 HT3]
  · isplitl [HS0 HS1 HS2 Hg]
    · isplitl [HS0 HS1 HS2]
      · iexists (stepS m hO c t Y6 Y7 s)
        isplitr; · ipureintro; exact p1
        isplitl [HS0]; · iexact HS0
        isplitl [HS1]; · iexact HS1
        iexact HS2
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists (left6 m hO c t Y6 Y7 s); isplitr; · ipureintro; exact p6
    iexact H6
  iexists (left7 m hO c t Y6 Y7 s); isplitr; · ipureintro; exact p7
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) (T : Track m hO c) : (rdats (F := F) m hO c T).BodyObligation (defs₀ (F := F)) Variants.none () Set.univ := fun t Y hY => by
  rw [bigSep_W0, bigSep_W0, defs₀_row m hO]
  rw [finds0_0 m hO c T t _ (hY 0), finds0_1 m hO c T t _ (hY 1), finds0_2 m hO c T t _ (hY 2), finds0_3 m hO c T t _ (hY 3),
    finds0_4 m hO c T t _ (hY 4), finds0_5 m hO c T t _ (hY 5)]
  refine triple_restated (sound_body m hO c T t (Y 6) (Y 7)) rfl .rfl fun _ => ?_
  rw [show (rdats m hO c T).Φ t.succ = iprop((scr c (T.inv (t.val + 1)) ∗ ∃ r, prngReg c r) ∗ Pipeline.ΦT pre0 (tbl m) c) from rfl,
    show (rdats m hO c T).owesAt () t.succ = (dats m hO c T).owesAt () t.castSucc from rfl]
  iintro ⟨HΦ, Ho, H0, H1, H2, H3, H4, H5, ⟨%X6, %h6, H6⟩, ⟨%X7, %h7, H7⟩⟩
  isplitl [HΦ]; · iexact HΦ
  isplitl [Ho]; · iexact Ho
  isplitl [H0]
  · iexists _; isplitr
    · ipureintro; exact rafter0_0 m hO c T t _
    iexact H0
  isplitl [H1]
  · iexists _; isplitr
    · ipureintro; exact rafter0_1 m hO c T t _
    iexact H1
  isplitl [H2]
  · iexists _; isplitr
    · ipureintro; exact rafter0_2 m hO c T t _
    iexact H2
  isplitl [H3]
  · iexists _; isplitr
    · ipureintro; exact rafter0_3 m hO c T t _
    iexact H3
  isplitl [H4]
  · iexists _; isplitr
    · ipureintro; exact rafter0_4 m hO c T t _
    iexact H4
  isplitl [H5]
  · iexists _; isplitr
    · ipureintro; exact rafter0_5 m hO c T t _
    iexact H5
  isplitl [H6]
  · iexists X6; isplitr
    · ipureintro; exact (rafter0_6 m hO c T t _ _).mpr h6
    iexact H6
  iexists X7; isplitr
  · ipureintro; exact (rafter0_7 m hO c T t _ _).mpr h7
  iexact H7

/-! ## The run and the frame -/

/-- Any scratch contents satisfy the first point's invariant. -/
theorem phi_in (hO : Ok m) (c : Dev nD) (T : Track m hO c) :
    iprop(Pipeline.ΦA spec0 c ∗ Pipeline.ΦT pre0 (tbl m) c) ⊢ (rdats m hO c T).Φ 0 := by
  rw [show (rdats m hO c T).Φ 0 = iprop((scr c (T.inv 0) ∗ ∃ r, prngReg c r) ∗ Pipeline.ΦT pre0 (tbl m) c) from rfl, PhiA0_eq]
  unfold scr
  iintro ⟨⟨⟨⟨%d0, HS0⟩, ⟨%d1, HS1⟩, ⟨%d2, HS2⟩⟩, Hg⟩, HT⟩
  isplitr [HT]
  · isplitr [Hg]
    · iexists (⟨d0, d1, d2⟩ : St F)
      isplitr; · ipureintro; exact T.init _
      isplitl [HS0]; · iexact HS0
      isplitl [HS1]; · iexact HS1
      iexact HS2
    iexact Hg
  iexact HT

/-- After the last point the scratch contents are let go. -/
theorem phi_out (hO : Ok m) (c : Dev nD) (T : Track m hO c) : (rdats m hO c T).Φ (Fin.last (cfgM m hO).N) ⊢ Pipeline.ΦA spec0 c := by
  rw [show (rdats m hO c T).Φ (Fin.last (cfgM m hO).N) = iprop((scr c (T.inv (cfgM m hO).N) ∗ ∃ r, prngReg c r) ∗ Pipeline.ΦT pre0 (tbl m) c) from rfl, PhiA0_eq]
  unfold scr
  iintro ⟨⟨⟨%s, -, HS0, HS1, HS2⟩, Hg⟩, -⟩
  isplitr [Hg]
  · isplitl [HS0]; · iexists _; iexact HS0
    isplitl [HS1]; · iexists _; iexact HS1
    iexists _; iexact HS2
  iexact Hg

set_option backward.isDefEq.respectTransparency.types false in
/-- The launch: every fair execution ends, with every array as the proof data relate it, every other buffer as the region
    found it, and every semaphore counter at zero. -/
theorem run_main_quiescent (hO : Ok m) (T : (c : Dev nD) → Track m hO c) : θ_run defs (onTc (τ := τ) (main (F := F))) (s₀ m ρ) (fun r => RDat.FramePost (cfgM m hO) (fun c => rdats m hO c (T c)) (V m) r ∧ r.2.sem = fun _ => 0) :=
  Pipeline.RDat.θ_run_frameP_track (Q' := _) pcfgs (fun _ => adm m hO) (0 : Fin 1) launch0 defs₀ Variants.none (fun c => rdats m hO c (T c)) m ρ main
    (hbody := fun c => body_obligation m hO c (T c)) (hshare := fun c => (dats m hO c (T c)).share_full fun _ => rfl)
    (howed := fun _ _ => rfl) (V := V m) (hmain := hmain m Variants.none) (hA := fun c => A_eq m hO c (T c)) (hpf := V_pre m)
    (hin := fun c => phi_in m hO c (T c)) (hout := fun c => phi_out m hO c (T c))

/-- The argument arrays end as they were. -/
theorem args_kept (hO : Ok m) (T : (c : Dev nD) → Track m hO c) (r : PUnit × MemSt nD τ sig (Elt F)) (h : RDat.FramePost (cfgM m hO) (fun c => rdats m hO c (T c)) (V m) r) (c : Dev nD) :
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((cast (congrFun ((rdats m hO c (T c)).ArrAt_in 0 rfl _) _) ((h c).1 0)).trans (A_eq m hO c (T c) 0)).trans (V_main_arg5 m c),
      ((cast (congrFun ((rdats m hO c (T c)).ArrAt_in 1 rfl _) _) ((h c).1 1)).trans (A_eq m hO c (T c) 1)).trans (V_main_arg6 m c),
      ((cast (congrFun ((rdats m hO c (T c)).ArrAt_in 2 rfl _) _) ((h c).1 2)).trans (A_eq m hO c (T c) 2)).trans (V_main_arg7 m c),
      ((h c).2 main_arg8 (by decide : main_arg8 ∈ Pipeline.restRefs sig spec0)).trans (V_main_arg8 m c),
      ((cast (congrFun ((rdats m hO c (T c)).ArrAt_in 4 rfl _) _) ((h c).1 4)).trans (A_eq m hO c (T c) 4)).trans (V_main_arg9 m c),
      ((h c).2 main_arg10 (by decide : main_arg10 ∈ Pipeline.restRefs sig spec0)).trans (V_main_arg10 m c)⟩

/-- The frame: every fair execution ends with the argument arrays as they were and every semaphore counter at zero. -/
theorem frame (hO : Ok m) : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_kept m hO (fun c => Track.none m hO c) r h.1 c, h.2⟩) (run_main_quiescent m ρ hO fun c => Track.none m hO c)

end Cert.UpEx.Gen

end
-- ==== Proof.UpExPre.lean ====
/- What the precondition `up_work_list` says of the tables, in natural numbers. -/
module

public import proofs.«01_k».proof.Pre_up_work_list
public import proofs.«01_k».proof.Proof.Gen.Pre_up_work_list
public import proofs.«01_k».proof.Proof.DownPre
public import Idealize.ShloMosaic.Lib.WordCmp
public import Idealize.ShloMosaic.Lib.Pointwise

@[expose] public section

set_option maxRecDepth 16384

noncomputable section

namespace Cert.Up

open Idealize.ShloMosaic Idealize.ShloMosaic.WordCmp Cert.Pre_up_work_list Cert.Down

private theorem ofBool_one (b : Bool) : BitVec.ofBool b = 1#1 ↔ b = true := by cases b <;> decide
private theorem ori_one (a b : BitVec 1) : IntOp.ori a b = 1#1 ↔ a = 1#1 ∨ b = 1#1 := by revert a b; decide
private theorem toInt_small (x : BitVec 32) (h : 0 ≤ x.toInt) : x.toInt = (x.toNat : ℤ) := by
  have := x.isLt
  rw [BitVec.toInt_eq_toNat_cond] at h ⊢; split at h <;> simp_all; omega

/-- The precondition's twelve arrays all ones: the tables are a work list in order. -/
theorem workList_of_fn {F : FTy → Type} [FloatOps F] (a0 : IVec S16384x1 32) (a1 a2 a3 a4 : IVec S35 32)
    (a5 : IVec S16384x640 32) (a6 : FVec F S16384x1 .f32) (a7 : FVec F S4x2560x6912 .fp8e4m3) (a8 : FVec F S4x6912 .f32)
    (a9 : FVec F S4x2560x6912 .fp8e4m3) (a10 : FVec F S4x6912 .f32)
    (h : (fn a0 a1 a2 a3 a4 a5 a6 a7 a8 a9 a10).1 = (fun _ => 1#1) ∧ (fn a0 a1 a2 a3 a4 a5 a6 a7 a8 a9 a10).2.1 = (fun _ => 1#1)
      ∧ (fn a0 a1 a2 a3 a4 a5 a6 a7 a8 a9 a10).2.2.1 = (fun _ => 1#1) ∧ (fn a0 a1 a2 a3 a4 a5 a6 a7 a8 a9 a10).2.2.2.1 = (fun _ => 1#1)
      ∧ (fn a0 a1 a2 a3 a4 a5 a6 a7 a8 a9 a10).2.2.2.2.1 = (fun _ => 1#1) ∧ (fn a0 a1 a2 a3 a4 a5 a6 a7 a8 a9 a10).2.2.2.2.2.1 = (fun _ => 1#1)
      ∧ (fn a0 a1 a2 a3 a4 a5 a6 a7 a8 a9 a10).2.2.2.2.2.2.1 = (fun _ => 1#1) ∧ (fn a0 a1 a2 a3 a4 a5 a6 a7 a8 a9 a10).2.2.2.2.2.2.2.1 = (fun _ => 1#1)
      ∧ (fn a0 a1 a2 a3 a4 a5 a6 a7 a8 a9 a10).2.2.2.2.2.2.2.2.1 = (fun _ => 1#1) ∧ (fn a0 a1 a2 a3 a4 a5 a6 a7 a8 a9 a10).2.2.2.2.2.2.2.2.2.1 = (fun _ => 1#1)
      ∧ (fn a0 a1 a2 a3 a4 a5 a6 a7 a8 a9 a10).2.2.2.2.2.2.2.2.2.2.1 = (fun _ => 1#1) ∧ (fn a0 a1 a2 a3 a4 a5 a6 a7 a8 a9 a10).2.2.2.2.2.2.2.2.2.2.2 = (fun _ => 1#1)) :
    WorkList (fun r => a0 (ix2 r (0 : Fin 1))) (fun t => a1 (ix1 t)) (fun t => a2 (ix1 t)) (fun t => a3 (ix1 t)) (fun t => a4 (ix1 t)) := by
  obtain ⟨h0, h1, h2, h3, h4, h5, h6, h7, h8, h9, h10, h11⟩ := h
  have tile0 (t : Fin 35) : 0 ≤ (a1 (ix1 t)).toInt := by
    have := congrFun h7 (ix1 t)
    simp only [fn, fn_part1, fn_part2, cmpi, broadcastInDim, constantI, cmpi_sge_eq, ofBool_one, decide_eq_true_eq] at this
    simpa using this
  have tile1 (t : Fin 35) : (a1 (ix1 t)).toInt < 32 := by
    have := congrFun h8 (ix1 t)
    simp only [fn, fn_part1, fn_part2, cmpi, broadcastInDim, constantI, cmpi_slt_eq, ofBool_one, decide_eq_true_eq] at this
    simpa using this
  have ex0 (t : Fin 35) : 0 ≤ (a2 (ix1 t)).toInt := by
    have := congrFun h9 (ix1 t)
    simp only [fn, fn_part1, fn_part2, cmpi, broadcastInDim, constantI, cmpi_sge_eq, ofBool_one, decide_eq_true_eq] at this
    simpa using this
  have ex1 (t : Fin 35) : (a2 (ix1 t)).toInt < 4 := by
    have := congrFun h10 (ix1 t)
    simp only [fn, fn_part1, fn_part2, cmpi, broadcastInDim, constantI, cmpi_slt_eq, ofBool_one, decide_eq_true_eq] at this
    simpa using this
  have tileN (t : Fin 35) : (a1 (ix1 t)).toNat < 32 := by
    have := tile0 t; have := tile1 t; rw [toInt_small _ (tile0 t)] at this; omega
  have mulN (t : Fin 35) : (IntOp.muli (a1 (ix1 t)) 512#32).toInt = ((a1 (ix1 t)).toNat * 512 : ℤ) := by
    have := tileN t
    have e : (IntOp.muli (a1 (ix1 t)) 512#32).toNat = (a1 (ix1 t)).toNat * 512 := by
      simp only [IntOp.muli, BitVec.toNat_mul, BitVec.toNat_ofNat]; omega
    rw [BitVec.toInt_eq_toNat_cond, e, if_pos (by omega)]; push_cast; rfl
  have addN (t : Fin 35) : (IntOp.addi (IntOp.muli (a1 (ix1 t)) 512#32) 512#32).toInt = ((a1 (ix1 t)).toNat * 512 + 512 : ℤ) := by
    have := tileN t
    have e : (IntOp.addi (IntOp.muli (a1 (ix1 t)) 512#32) 512#32).toNat = (a1 (ix1 t)).toNat * 512 + 512 := by
      simp only [IntOp.addi, IntOp.muli, BitVec.toNat_add, BitVec.toNat_mul, BitVec.toNat_ofNat]; omega
    rw [BitVec.toInt_eq_toNat_cond, e, if_pos (by omega)]; push_cast; rfl
  have tileLo (t : Fin 35) : ((a1 (ix1 t)).toNat * 512 : ℤ) ≤ (a3 (ix1 t)).toInt := by
    have := congrFun h4 (ix1 t)
    simp only [fn, fn_part1, fn_part2, cmpi, muli, broadcastInDim, constantI, cmpi_sle_eq, ofBool_one, decide_eq_true_eq] at this
    rw [← mulN]; exact this
  have loHi (t : Fin 35) : (a3 (ix1 t)).toInt ≤ (a4 (ix1 t)).toInt := by
    have := congrFun h3 (ix1 t)
    simp only [fn, fn_part1, fn_part2, cmpi, cmpi_sle_eq, ofBool_one, decide_eq_true_eq] at this
    exact this
  have hiTile (t : Fin 35) : (a4 (ix1 t)).toInt ≤ ((a1 (ix1 t)).toNat * 512 + 512 : ℤ) := by
    have := congrFun h5 (ix1 t)
    simp only [fn, fn_part1, fn_part2, cmpi, muli, addi, broadcastInDim, constantI, cmpi_sle_eq, ofBool_one, decide_eq_true_eq] at this
    rw [← addN]; exact this
  have loI (t : Fin 35) : (a3 (ix1 t)).toInt = ((a3 (ix1 t)).toNat : ℤ) := toInt_small _ (by have := tileLo t; omega)
  have hiI (t : Fin 35) : (a4 (ix1 t)).toInt = ((a4 (ix1 t)).toNat : ℤ) := toInt_small _ (by have := tileLo t; have := loHi t; omega)
  have at_t (P : BitVec 32 → Prop) (a : IVec S35 32) (I : S35.Idx) (t : Fin 35) (hI : (I 0).val = t.val) : P (a I) ↔ P (a (ix1 t)) := by
    have e : I = ix1 t := by
      funext d
      obtain rfl : d = 0 := Subsingleton.elim _ _
      exact Fin.ext hI
    rw [e]
  have to_t (P : BitVec 32 → Prop) (a : IVec S35 32) (I : S35.Idx) (t : Fin 35) (h : P (a I)) (hI : (I 0).val = t.val) : P (a (ix1 t)) :=
    (at_t P a I t hI).1 h
  have one_zero (j : S1.Idx) : (j 0).val = 0 := Nat.lt_one_iff.1 (j 0).isLt
  refine ⟨?_, ?_, ?_, ?_, ?_, ?_, ?_, tileN, ?_, ?_⟩
  · have := congrFun h0 (fun d => d.elim0)
    simp only [fn, fn_part1, fn_part2, cmpi, shapeCast, extractStridedSlice, constantI, cmpi_eq_eq, ofBool_one, decide_eq_true_eq] at this
    rw [at_t (fun v => v = 0#32) a3 _ 0 ((Nat.zero_add _).trans (one_zero _))] at this
    rw [this]; rfl
  · have := congrFun h1 (fun d => d.elim0)
    simp only [fn, fn_part1, fn_part2, cmpi, shapeCast, extractStridedSlice, constantI, cmpi_eq_eq, ofBool_one, decide_eq_true_eq] at this
    rw [at_t (fun v => v = 16384#32) a4 _ 34 (congrArg (34 + ·) (one_zero _))] at this
    rw [this]; rfl
  · intro t h
    have := congrFun h2 (ix1 (⟨t, by omega⟩ : Fin 34))
    simp only [fn, fn_part1, fn_part2, cmpi, extractStridedSlice, cmpi_eq_eq, ofBool_one, decide_eq_true_eq] at this
    rw [at_t (fun v => v = _) a3 _ ⟨t + 1, h⟩ (Nat.add_comm _ _), at_t (fun v => _ = v) a4 _ ⟨t, by omega⟩ (Nat.zero_add _)] at this
    rw [this]
  · intro t; have := loHi t; rw [loI, hiI] at this; exact_mod_cast this
  · intro t; have := tileLo t; rw [loI] at this; exact_mod_cast this
  · intro t; have := hiTile t; rw [hiI] at this; exact_mod_cast this
  · intro t h
    have := congrFun h6 (ix1 (⟨t, by omega⟩ : Fin 34))
    simp only [fn, fn_part1, fn_part2, cmpi, extractStridedSlice, cmpi_sle_eq, ofBool_one, decide_eq_true_eq] at this
    have p := to_t (fun v => v.toInt ≤ _) a1 _ ⟨t, by omega⟩ this (Nat.zero_add _)
    have q := to_t (fun v => (a1 (ix1 (⟨t, by omega⟩ : Fin 35))).toInt ≤ v.toInt) a1 _ ⟨t + 1, h⟩ p (Nat.add_comm _ _)
    rw [toInt_small _ (tile0 _), toInt_small _ (tile0 _)] at q
    exact_mod_cast q
  · intro t; have := ex0 t; have := ex1 t; rw [toInt_small _ (ex0 t)] at this; omega
  · intro r t hl hh
    have := congrFun h11 (ix2 r t)
    simp only [fn, fn_part1, fn_part2, cmpi, ori, ori_one, broadcastInDim, iotaInDim] at this
    have hr : (BitVec.ofNat 32 r.val).toInt = (r.val : ℤ) := by
      rw [BitVec.toInt_eq_toNat_cond, BitVec.toNat_ofNat]; have := r.isLt; omega
    rcases this with (z | z) | z
    · have z := to_t (fun v => IntOp.cmpi .slt (BitVec.ofNat 32 r.val) v = 1#1) a3 _ t z (by simp)
      rw [cmpi_slt_eq, ofBool_one, decide_eq_true_eq, loI, hr] at z; omega
    · have z := to_t (fun v => IntOp.cmpi .sge (BitVec.ofNat 32 r.val) v = 1#1) a4 _ t z (by simp)
      rw [cmpi_sge_eq, ofBool_one, decide_eq_true_eq, hiI, hr] at z; omega
    · have z := to_t (fun v => IntOp.cmpi .eq (a0 _) v = 1#1) a2 _ t z (by simp)
      rw [cmpi_eq_eq, ofBool_one, decide_eq_true_eq] at z
      rw [← z]
      congr 1
      funext d; match d with | 0 => rfl | 1 => rfl

end Cert.Up

end
-- ==== Proof.UpExBitsOk.lean ====
/- The precondition gives the tables' contents their side condition, and the tables as a work list in order. -/
module

public import proofs.«01_k».proof.Proof.UpExPre
public import proofs.«01_k».proof.Proof.UpExBitsKit
public import proofs.«01_k».proof.Defs

@[expose] public section

set_option maxRecDepth 16384

noncomputable section

namespace Cert.UpEx.Gen

open Idealize.ShloMosaic Idealize.ShloMosaic.TcCoe Idealize.SL.Sem

variable {F : FTy → Type} [FloatOps F]
variable (m : (ℓ : Loc nD τ sig) → Buf (Elt F) ℓ)

/-- Row `r`'s expert. -/
abbrev rowEx (r : Fin 16384) : BitVec 32 := m ((0 : Dev nD).tc.loc main_arg0) (ix2 r (0 : Fin 1))
/-- Item `t`'s tile, expert, first row and row bound. -/
abbrev wTile (t : Fin 35) : BitVec 32 := m ((0 : Dev nD).tc.loc main_arg1) (ix1 t)
abbrev wEx (t : Fin 35) : BitVec 32 := m ((0 : Dev nD).tc.loc main_arg2) (ix1 t)
abbrev wLo (t : Fin 35) : BitVec 32 := m ((0 : Dev nD).tc.loc main_arg3) (ix1 t)
abbrev wHi (t : Fin 35) : BitVec 32 := m ((0 : Dev nD).tc.loc main_arg4) (ix1 t)
/-- The tables are a work list in order. -/
abbrev Items : Prop := Cert.Down.WorkList (rowEx m) (wTile m) (wEx m) (wLo m) (wHi m)

theorem off1_eq (i : grid0.Coords) : (k0_off1 i) 0 = (i 0).val := by
  have : (i 0).val < 35 := (i 0).isLt
  show (BitVec.ofNat 32 (i 0).val).toNat = _
  rw [BitVec.toNat_ofNat]; omega

theorem idx_point (i : grid0.Coords) (t : Fin 35) (ht : (i 0).val = t.val) (h1 : (Rect.unit (s := S35) (k0_off1 i) S1.size (k0_off1_inb i)).shape.numel = 1) :
    (Rect.unit (s := S35) (k0_off1 i) S1.size (k0_off1_inb i)).emb (Shape.Idx.first (h1.symm ▸ Nat.one_pos)) = ix1 t := by
  funext d
  obtain rfl : d = 0 := Subsingleton.elim _ _
  refine Fin.ext ?_
  have e := off1_eq i
  have q (j : (Rect.unit (s := S35) (k0_off1 i) S1.size (k0_off1_inb i)).shape.Idx) : (j 0).val = 0 := Nat.lt_one_iff.1 (j 0).isLt
  have z := q (Shape.Idx.first (h1.symm ▸ Nat.one_pos))
  show (k0_off1 i) 0 + 1 * (Shape.Idx.first (h1.symm ▸ Nat.one_pos) : (Rect.unit (s := S35) (k0_off1 i) S1.size (k0_off1_inb i)).shape.Idx) 0 = t.val
  rw [z]; omega

/-- The word a table's block index is computed from is item `t`'s. -/
theorem tile_at (i : grid0.Coords) (t : Fin 35) (ht : (i 0).val = t.val) :
    (tbl m).at 0 (Rect.unit (s := S35) (k0_off1 i) S1.size (k0_off1_inb i)) numel1_S1 = wTile m t := by
  refine (congrArg (tbl m 0) (idx_point i t ht numel1_S1)).trans ?_
  exact congrFun (V_main_arg1 m 0) _

theorem ex_at (i : grid0.Coords) (t : Fin 35) (ht : (i 0).val = t.val) :
    (tbl m).at 1 (Rect.unit (s := S35) (k0_off1 i) S1.size (k0_off1_inb i)) numel1_S1 = wEx m t := by
  refine (congrArg (tbl m 1) (idx_point i t ht numel1_S1)).trans ?_
  exact congrFun (V_main_arg2 m 0) _

/-- The second grid coordinate as the index maps read it. -/
theorem chunk_at (i : grid0.Coords) : (BitVec.ofNat 32 (i 1).val).toNat = (i 1).val := by
  have : (i 1).val < 3 := (i 1).isLt
  rw [BitVec.toNat_ofNat]; omega

theorem ix_row (i : grid0.Coords) (t : Fin 35) (ht : (i 0).val = t.val) :
    cc0_transform_0 k0_off1_inb numel1_S1 (tbl m) i = ![(wTile m t).toNat, 0] ∧ cc0_transform_1 k0_off1_inb numel1_S1 (tbl m) i = ![(wTile m t).toNat, 0]
    ∧ cc0_transform_2 k0_off1_inb numel1_S1 (tbl m) i = ![(wEx m t).toNat, 0, (i 1).val] ∧ cc0_transform_3 k0_off1_inb numel1_S1 (tbl m) i = ![(wEx m t).toNat, 0, (i 1).val]
    ∧ cc0_transform_4 k0_off1_inb numel1_S1 (tbl m) i = ![(wEx m t).toNat, 0, (i 1).val] ∧ cc0_transform_5 k0_off1_inb numel1_S1 (tbl m) i = ![(wEx m t).toNat, 0, (i 1).val]
    ∧ cc0_transform_6 k0_off1_inb numel1_S1 (tbl m) i = ![(wTile m t).toNat, 0] ∧ cc0_transform_7 k0_off1_inb numel1_S1 (tbl m) i = ![(wTile m t).toNat, 0] := by
  rw [← tile_at m i t ht, ← ex_at m i t ht, ← chunk_at i]
  exact ⟨rfl, rfl, rfl, rfl, rfl, rfl, rfl, rfl⟩

/-- A work list's blocks are inside their arrays, and end on whole words. -/
theorem ok_of_items (hw : Items m) : Ok m := by
  have ht (i : grid0.Coords) : ∃ t : Fin 35, (i 0).val = t.val := ⟨i 0, rfl⟩
  have h3 (i : grid0.Coords) : (i 1).val < 3 := (i 1).isLt
  refine ⟨fun i => ?_, fun i => ?_, fun i => ?_, fun i => ?_, fun i => ?_, fun i => ?_, fun i => ?_, fun i => ?_⟩ <;> obtain ⟨t, e⟩ := ht i <;>
    have h1 := hw.tile_lt t <;> have h2 := hw.ex_lt t <;> have h3 := h3 i <;> obtain ⟨e0, e1, e2, e3, e4, e5, e6, e7⟩ := ix_row m i t e
  · rw [e0]; generalize (wTile m t).toNat = n at h1
    refine ⟨?_, .inl rfl⟩
    intro a; match a with
    | 0 => show (n + 1) * 512 ≤ 16384; omega
    | 1 => exact le_rfl
  · rw [e1]; generalize (wTile m t).toNat = n at h1
    refine ⟨?_, .inl rfl⟩
    intro a; match a with
    | 0 => show (n + 1) * 512 ≤ 16384; omega
    | 1 => exact le_rfl
  · rw [e2]; generalize (wEx m t).toNat = n at h2; generalize (i 1).val = k at h3
    refine ⟨?_, .inr (.inr ⟨by decide, rfl, rfl, rfl⟩)⟩
    intro a; match a with
    | 0 => show (n + 1) * 1 ≤ 4; omega
    | 1 => show (0 + 1) * 2560 ≤ 2560; omega
    | 2 => show (k + 1) * 2304 ≤ 6912; omega
  · rw [e3]; generalize (wEx m t).toNat = n at h2; generalize (i 1).val = k at h3
    refine ⟨?_, .inl rfl⟩
    intro a; match a with
    | 0 => show (n + 1) * 1 ≤ 4; omega
    | 1 => exact le_rfl
    | 2 => show (k + 1) * 2304 ≤ 6912; omega
  · rw [e4]; generalize (wEx m t).toNat = n at h2; generalize (i 1).val = k at h3
    refine ⟨?_, .inr (.inr ⟨by decide, rfl, rfl, rfl⟩)⟩
    intro a; match a with
    | 0 => show (n + 1) * 1 ≤ 4; omega
    | 1 => show (0 + 1) * 2560 ≤ 2560; omega
    | 2 => show (k + 1) * 2304 ≤ 6912; omega
  · rw [e5]; generalize (wEx m t).toNat = n at h2; generalize (i 1).val = k at h3
    refine ⟨?_, .inl rfl⟩
    intro a; match a with
    | 0 => show (n + 1) * 1 ≤ 4; omega
    | 1 => exact le_rfl
    | 2 => show (k + 1) * 2304 ≤ 6912; omega
  · rw [e6]; generalize (wTile m t).toNat = n at h1
    refine ⟨?_, .inr (.inl (.inr ⟨by decide, rfl, .inl ⟨?_, ?_⟩⟩))⟩
    · intro a; match a with
      | 0 => show (n + 1) * 512 ≤ 16384; omega
      | 1 => show (0 + 1) * 6912 ≤ 6912; omega
    · show 4 ∣ n * 512; omega
    · show 4 ∣ 512; omega
  · rw [e7]; generalize (wTile m t).toNat = n at h1
    refine ⟨?_, .inl rfl⟩
    intro a; match a with
    | 0 => show (n + 1) * 512 ≤ 16384; omega
    | 1 => exact le_rfl

/-- The precondition says that the tables are a work list in order. -/
theorem items_of_pre (m : (ℓ : Loc nD τ sig) → Buf (Elt Bits) ℓ) (h : Cert.Pre_UpEx m) : Items m :=
  Cert.Up.workList_of_fn _ _ _ _ _ _ _ _ _ _ _ (h 0)

end Cert.UpEx.Gen

end
-- ==== Proof.UpExMath.lean ====
/- What the expert kernel and its reference share: the code a byte of a word stands for, and a lane's greatest magnitude. No program occurs here. -/
module

public import proofs.«01_k».proof.Proof.Quant

@[expose] public section

set_option maxRecDepth 16384

noncomputable section

namespace Cert.Up

open Idealize.ShloMosaic Idealize.SL.Sem Cert.Quant

/-- The code in the byte of `w` at bit `sh`. -/
def dec (sh w : BitVec 32) : EReal := Ideal.ofBits FTy.fp8e4m3 (BitVec.setWidth 8 (IntOp.andi (IntOp.shrui ArithUnit.vector w sh) 255#32))

/-- Code `k` of a row of 640 words: the first bytes of all words come first, then the second bytes, and so on. -/
def decAt (w : Fin 640 → BitVec 32) (k : Fin 2560) : EReal := dec (BitVec.ofNat 32 (8 * (k.val / 640))) (w ⟨k.val % 640, Nat.mod_lt _ (by omega)⟩)

theorem decAt_eq (w : Fin 640 → BitVec 32) (s : ℕ) (q : Fin 640) (k : Fin 2560) (h : k.val = 640 * s + q.val) : decAt w k = dec (BitVec.ofNat 32 (8 * s)) (w q) := by
  unfold decAt
  have h1 : k.val / 640 = s := by omega
  have h2 : (⟨k.val % 640, Nat.mod_lt _ (by omega)⟩ : Fin 640) = q := Fin.ext (by show k.val % 640 = q.val; omega)
  rw [h1, h2]

/-- The greatest magnitude, and 0, of the columns `128 t + l`, `t < b`. -/
def lane (b : ℕ) (h : ℕ → EReal) (l : ℕ) : EReal := (Finset.range b).fold max 0 fun t => mag (h (128 * t + l))

theorem lane_le (b : ℕ) (h : ℕ → EReal) (l : Fin 128) (z : EReal) : lane b h l.val ≤ z ↔ 0 ≤ z ∧ ∀ n < 128 * b, n % 128 = l.val → mag (h n) ≤ z := by
  unfold lane
  rw [Finset.fold_max_le]
  refine and_congr Iff.rfl ⟨fun H n hn hl => ?_, fun H t ht => H _ ?_ ?_⟩
  · have := H (n / 128) (Finset.mem_range.2 (by omega))
    rwa [show 128 * (n / 128) + l.val = n by omega] at this
  · have := Finset.mem_range.1 ht
    omega
  · omega

end Cert.Up

end
-- ==== Proof.UpExChain.lean ====
/- How the expert kernel's scratch fills: what holds of the codes, the hidden activations and the running maxima before each
   chunk of each item, over a work list in order. No program occurs here. -/
module

public import proofs.«01_k».proof.Proof.DownChain
public import proofs.«01_k».proof.Proof.UpExMath

@[expose] public section

noncomputable section

namespace Cert.Up

open Idealize.ShloMosaic Cert.Quant Cert.Down

/-- Columns `b` to `c` joined to the columns before. -/
theorem lane_join (h f : ℕ → EReal) (j : ℕ) (hf : ∀ n < 2304, f n = h (2304 * j + n)) (l : Fin 128) :
    max (lane 18 f l.val) (lane (18 * j) h l.val) = lane (18 * (j + 1)) h l.val := by
  refine eq_of_forall_ge_iff fun z => ?_
  rw [max_le_iff, lane_le, lane_le, lane_le]
  constructor
  · rintro ⟨⟨h0, h1⟩, -, h2⟩
    refine ⟨h0, fun n hn hl => ?_⟩
    by_cases hc : n < 2304 * j
    · exact h2 n (by omega) hl
    · have := h1 (n - 2304 * j) (by omega) (by omega)
      rwa [hf _ (by omega), show 2304 * j + (n - 2304 * j) = n by omega] at this
  · rintro ⟨h0, h1⟩
    refine ⟨⟨h0, fun n hn hl => ?_⟩, h0, fun n hn hl => h1 n (by omega) hl⟩
    rw [hf n (by omega)]
    exact h1 _ (by omega) (by omega)

theorem lane_zero (h : ℕ → EReal) (l : ℕ) : lane 0 h l = 0 := rfl

theorem lane_first (h f : ℕ → EReal) (hf : ∀ n < 2304, f n = h n) (l : Fin 128) : lane 18 f l.val = lane 18 h l.val := by
  refine eq_of_forall_ge_iff fun z => ?_
  rw [lane_le, lane_le]
  exact and_congr Iff.rfl ⟨fun H n hn hl => by rw [← hf n (by omega)]; exact H n hn hl, fun H n hn hl => by rw [hf n (by omega)]; exact H n hn hl⟩

/-- The greatest of the lanes' maxima is the row's. -/
theorem lanes_row (h : ℕ → EReal) (v : Fin 6912 → EReal) (hv : ∀ n : Fin 6912, h n.val = v n) :
    (Finset.univ.fold max ⊥ fun l : Fin 128 => lane 54 h l.val) = rowMax v := by
  refine eq_of_forall_ge_iff fun z => ?_
  rw [Finset.fold_max_le, rowMax_le]
  constructor
  · rintro ⟨-, H⟩ n
    rw [← hv]
    exact ((lane_le 54 h ⟨n.val % 128, Nat.mod_lt _ (by omega)⟩ z).1 (H _ (Finset.mem_univ _))).2 n.val (by omega) rfl
  · intro H
    refine ⟨bot_le, fun l _ => (lane_le 54 h l z).2 ⟨(mag_nonneg (v 0)).trans (H 0), fun n hn _ => ?_⟩⟩
    have := H ⟨n, by omega⟩
    rwa [← hv] at this

variable {e : Fin 16384 → BitVec 32} {tile ex lo hi : Fin 35 → BitVec 32} (hw : WorkList e tile ex lo hi)
  (xT : Fin 16384 → Fin 2560 → EReal) (hT : Fin 16384 → ℕ → EReal)

/-- Before chunk `j` of item `t`: from the second chunk on the codes are the tile's; the rows before the item are complete; the item's rows hold `j` chunks. -/
structure Inv (tile lo hi : Fin 35 → BitVec 32) (t : Fin 35) (j : ℕ) (x : Fin 512 → Fin 2560 → EReal) (h : Fin 512 → Fin 6912 → EReal) (a : Fin 512 → Fin 128 → EReal) : Prop where
  codes : 0 < j → ∀ (p : Fin 512) (R : Fin 16384), R.val = (tile t).toNat * 512 + p.val → ∀ k, x p k = xT R k
  doneH : ∀ (p : Fin 512) (R : Fin 16384), R.val = (tile t).toNat * 512 + p.val → R.val < (lo t).toNat → ∀ c : Fin 6912, h p c = hT R c.val
  doneA : ∀ (p : Fin 512) (R : Fin 16384), R.val = (tile t).toNat * 512 + p.val → R.val < (lo t).toNat → ∀ l : Fin 128, a p l = lane 54 (hT R) l.val
  partH : ∀ (p : Fin 512) (R : Fin 16384), R.val = (tile t).toNat * 512 + p.val → (lo t).toNat ≤ R.val → R.val < (hi t).toNat → ∀ c : Fin 6912, c.val < 2304 * j → h p c = hT R c.val
  partA : 0 < j → ∀ (p : Fin 512) (R : Fin 16384), R.val = (tile t).toNat * 512 + p.val → (lo t).toNat ≤ R.val → R.val < (hi t).toNat → ∀ l : Fin 128, a p l = lane (18 * j) (hT R) l.val

variable {xT hT} {x x' : Fin 512 → Fin 2560 → EReal} {h h' : Fin 512 → Fin 6912 → EReal} {a a' : Fin 512 → Fin 128 → EReal}

/-- A chunk done. -/
theorem Inv.step {t : Fin 35} {j : ℕ} (I : Inv xT hT tile lo hi t j x h a)
    (hx : ∀ (p : Fin 512) (R : Fin 16384), R.val = (tile t).toNat * 512 + p.val → ∀ k, x' p k = xT R k)
    (hm : ∀ (p : Fin 512) (R : Fin 16384), R.val = (tile t).toNat * 512 + p.val → (lo t).toNat ≤ R.val → R.val < (hi t).toNat →
      (∀ c : Fin 6912, h' p c = if 2304 * j ≤ c.val ∧ c.val < 2304 * j + 2304 then hT R c.val else h p c)
      ∧ ∃ f : ℕ → EReal, (∀ n < 2304, f n = hT R (2304 * j + n)) ∧ ∀ l : Fin 128, a' p l = if j = 0 then lane 18 f l.val else max (lane 18 f l.val) (a p l))
    (hk : ∀ (p : Fin 512) (R : Fin 16384), R.val = (tile t).toNat * 512 + p.val → ¬ ((lo t).toNat ≤ R.val ∧ R.val < (hi t).toNat) →
      (∀ c : Fin 6912, h' p c = h p c) ∧ ∀ l : Fin 128, a' p l = a p l) : Inv xT hT tile lo hi t (j + 1) x' h' a' where
  codes _ := hx
  doneH p R hR hl c := by rw [(hk p R hR fun k => by omega).1 c]; exact I.doneH p R hR hl c
  doneA p R hR hl l := by rw [(hk p R hR fun k => by omega).2 l]; exact I.doneA p R hR hl l
  partH p R hR h1 h2 c hc := by
    rw [(hm p R hR h1 h2).1 c]
    split
    · rfl
    · exact I.partH p R hR h1 h2 c (by omega)
  partA _ p R hR h1 h2 l := by
    obtain ⟨f, hf, ha⟩ := (hm p R hR h1 h2).2
    rw [ha l]
    by_cases hj : j = 0
    · subst hj
      rw [if_pos rfl]
      exact lane_first _ _ (fun n hn => by rw [hf n hn]; congr 1; omega) l
    · rw [if_neg hj, I.partA (by omega) p R hR h1 h2 l]
      exact lane_join _ _ j hf l

include hw in
/-- After an item's three chunks, the next item's invariant holds. -/
theorem Inv.carry {t : ℕ} (ht : t + 1 < 35) (I : Inv xT hT tile lo hi ⟨t, by omega⟩ 3 x h a) : Inv xT hT tile lo hi ⟨t + 1, ht⟩ 0 x h a := by
  have b := hw.next t ht
  have c := hw.mono t ht
  have key (p : Fin 512) (R : Fin 16384) (hR : R.val = (tile ⟨t + 1, ht⟩).toNat * 512 + p.val) (hl : R.val < (lo ⟨t + 1, ht⟩).toNat) :
      R.val = (tile ⟨t, by omega⟩).toNat * 512 + p.val ∧ R.val < (hi ⟨t, by omega⟩).toNat := by
    have hlt : R.val < (hi ⟨t, by omega⟩).toNat := by rw [b] at hl; exact hl
    refine ⟨?_, hlt⟩
    by_contra hne
    have hne' : (tile ⟨t + 1, ht⟩).toNat ≠ (tile ⟨t, by omega⟩).toNat := fun q => hne (by rw [hR, q])
    have f := hw.hi_of_ends ⟨t, by omega⟩ (.inr ⟨ht, hne'⟩)
    have c' : (tile ⟨t, by omega⟩).toNat ≤ (tile ⟨t + 1, ht⟩).toNat := c
    omega
  refine ⟨fun q => absurd q (by omega), fun p R hR hl => ?_, fun p R hR hl => ?_, fun p R hR h1 h2 c hc => absurd hc (by omega), fun q => absurd q (by omega)⟩
  · obtain ⟨h1, h2⟩ := key p R hR hl
    by_cases hc : R.val < (lo ⟨t, by omega⟩).toNat
    · exact I.doneH p R h1 hc
    · exact fun c => I.partH p R h1 (by omega) h2 c (by omega)
  · obtain ⟨h1, h2⟩ := key p R hR hl
    by_cases hc : R.val < (lo ⟨t, by omega⟩).toNat
    · exact I.doneA p R h1 hc
    · exact fun l => I.partA (by omega) p R h1 (by omega) h2 l

include hw in
theorem Inv.start : Inv xT hT tile lo hi 0 0 x h a := by
  have f := hw.first
  exact ⟨fun q => absurd q (by omega), fun p R hR hl => absurd hl (by omega), fun p R hR hl => absurd hl (by omega),
    fun p R hR h1 h2 c hc => absurd hc (by omega), fun q => absurd q (by omega)⟩

include hw in
/-- After a tile's last item, all its rows are complete. -/
theorem Inv.done {t : Fin 35} (I : Inv xT hT tile lo hi t 3 x h a) (he : Ends tile t) (p : Fin 512) (R : Fin 16384) (hR : R.val = (tile t).toNat * 512 + p.val) :
    (∀ c : Fin 6912, h p c = hT R c.val) ∧ ∀ l : Fin 128, a p l = lane 54 (hT R) l.val := by
  have f := hw.hi_of_ends t he
  have hp := p.isLt
  by_cases hc : R.val < (lo t).toNat
  · exact ⟨I.doneH p R hR hc, I.doneA p R hR hc⟩
  · exact ⟨fun c => I.partH p R hR (by omega) (by omega) c (by omega), I.partA (by omega) p R hR (by omega) (by omega)⟩

end Cert.Up

end
-- ==== Proof.UpExIdealKit.lean ====
/- The frame kit of the expert up projection: what the region finds in every buffer, the tables as the region reads
   them, the windows' blocks, and the staging memrefs at a grid point. Everything is stated for every launch memory whose
   tables keep the blocks inside their arrays (`Ok`). -/
module

public import proofs.«01_k».proof.Proof.Gen.UpExIdeal.Launch
public import proofs.«01_k».proof.Proof.Gen.UpExIdeal.Skeleton
public import proofs.«01_k».proof.Proof.Gen.UpExIdeal
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.UpExIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_up (grid0.coords t) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S35 .i32 := Memref.whole main_arg1
abbrev htbM0_0 : tbM0_0.IsWhole := Memref.isWhole_whole _
abbrev tbM0_1 : Memref sig .tc .smem S35 .i32 := Memref.whole main_arg2
abbrev htbM0_1 : tbM0_1.IsWhole := Memref.isWhole_whole _
abbrev tbM0_2 : Memref sig .tc .smem S35 .i32 := Memref.whole main_arg3
abbrev htbM0_2 : tbM0_2.IsWhole := Memref.isWhole_whole _
abbrev tbM0_3 : Memref sig .tc .smem S35 .i32 := Memref.whole main_arg4
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_UpExIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).2 main_arg8 (by decide : main_arg8 ∈ Pipeline.restRefs sig spec0)).trans (V_main_arg8 m c),
      ((h c).1 4).trans (((dats 0 c).arrAt_in 4 rfl _).trans ((hA c 4).trans (V_main_arg9 m c))),
      ((h c).2 main_arg10 (by decide : main_arg10 ∈ Pipeline.restRefs sig spec0)).trans (V_main_arg10 m c)⟩) h

/-! ## The kernel body on any staging memrefs: a subtype the run finds -/

/-- One staging buffer of output window 6, through which its contents are stated (`View.read_writes_of_cover`: the
    choice does not matter). -/
abbrev VO0_6 : View sig .tc .vmem S512x6912 .fp8e4m3 := (Memref.whole cc0_stg6_0 : Memref sig .tc .vmem S512x6912 .fp8e4m3).view
/-- One staging buffer of output window 7, through which its contents are stated (`View.read_writes_of_cover`: the
    choice does not matter). -/
abbrev VO0_7 : View sig .tc .vmem S512x1 .f32 := (Memref.whole cc0_stg7_0 : Memref sig .tc .vmem S512x1 .f32).view
/-- Each window's current staging memref at point `t`, spelled as the pipeline passes it (`bodyAt0`), and its wholeness. -/
abbrev ms0_0 (hO : Ok m) (t : Fin (cfgM m hO).N) : Memref sig .tc .vmem S512x640 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2560x2304 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2304 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2560x2304 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x2304 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x6912 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x1 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x2560 .fp8e4m3 := Memref.whole cc0_scratch0
abbrev scM0_1 : Memref sig .tc .vmem S512x6912 .f32 := Memref.whole cc0_scratch1
abbrev scM0_2 : Memref sig .tc .vmem S512x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.UpExIdeal.Gen

end
-- ==== Proof.UpExIdealOk.lean ====
/- The precondition gives the tables' contents their side condition, and the tables as a work list in order. -/
module

public import proofs.«01_k».proof.Proof.UpExPre
public import proofs.«01_k».proof.Proof.UpExIdealKit
public import proofs.«01_k».proof.Defs

@[expose] public section

set_option maxRecDepth 16384

noncomputable section

namespace Cert.UpExIdeal.Gen

open Idealize.ShloMosaic Idealize.ShloMosaic.TcCoe Idealize.SL.Sem

variable {F : FTy → Type} [FloatOps F]
variable (m : (ℓ : Loc nD τ sig) → Buf (Elt F) ℓ)

/-- Row `r`'s expert. -/
abbrev rowEx (r : Fin 16384) : BitVec 32 := m ((0 : Dev nD).tc.loc main_arg0) (ix2 r (0 : Fin 1))
/-- Item `t`'s tile, expert, first row and row bound. -/
abbrev wTile (t : Fin 35) : BitVec 32 := m ((0 : Dev nD).tc.loc main_arg1) (ix1 t)
abbrev wEx (t : Fin 35) : BitVec 32 := m ((0 : Dev nD).tc.loc main_arg2) (ix1 t)
abbrev wLo (t : Fin 35) : BitVec 32 := m ((0 : Dev nD).tc.loc main_arg3) (ix1 t)
abbrev wHi (t : Fin 35) : BitVec 32 := m ((0 : Dev nD).tc.loc main_arg4) (ix1 t)
/-- The tables are a work list in order. -/
abbrev Items : Prop := Cert.Down.WorkList (rowEx m) (wTile m) (wEx m) (wLo m) (wHi m)

theorem off1_eq (i : grid0.Coords) : (k0_off1 i) 0 = (i 0).val := by
  have : (i 0).val < 35 := (i 0).isLt
  show (BitVec.ofNat 32 (i 0).val).toNat = _
  rw [BitVec.toNat_ofNat]; omega

theorem idx_point (i : grid0.Coords) (t : Fin 35) (ht : (i 0).val = t.val) (h1 : (Rect.unit (s := S35) (k0_off1 i) S1.size (k0_off1_inb i)).shape.numel = 1) :
    (Rect.unit (s := S35) (k0_off1 i) S1.size (k0_off1_inb i)).emb (Shape.Idx.first (h1.symm ▸ Nat.one_pos)) = ix1 t := by
  funext d
  obtain rfl : d = 0 := Subsingleton.elim _ _
  refine Fin.ext ?_
  have e := off1_eq i
  have q (j : (Rect.unit (s := S35) (k0_off1 i) S1.size (k0_off1_inb i)).shape.Idx) : (j 0).val = 0 := Nat.lt_one_iff.1 (j 0).isLt
  have z := q (Shape.Idx.first (h1.symm ▸ Nat.one_pos))
  show (k0_off1 i) 0 + 1 * (Shape.Idx.first (h1.symm ▸ Nat.one_pos) : (Rect.unit (s := S35) (k0_off1 i) S1.size (k0_off1_inb i)).shape.Idx) 0 = t.val
  rw [z]; omega

/-- The word a table's block index is computed from is item `t`'s. -/
theorem tile_at (i : grid0.Coords) (t : Fin 35) (ht : (i 0).val = t.val) :
    (tbl m).at 0 (Rect.unit (s := S35) (k0_off1 i) S1.size (k0_off1_inb i)) numel1_S1 = wTile m t := by
  refine (congrArg (tbl m 0) (idx_point i t ht numel1_S1)).trans ?_
  exact congrFun (V_main_arg1 m 0) _

theorem ex_at (i : grid0.Coords) (t : Fin 35) (ht : (i 0).val = t.val) :
    (tbl m).at 1 (Rect.unit (s := S35) (k0_off1 i) S1.size (k0_off1_inb i)) numel1_S1 = wEx m t := by
  refine (congrArg (tbl m 1) (idx_point i t ht numel1_S1)).trans ?_
  exact congrFun (V_main_arg2 m 0) _

/-- The second grid coordinate as the index maps read it. -/
theorem chunk_at (i : grid0.Coords) : (BitVec.ofNat 32 (i 1).val).toNat = (i 1).val := by
  have : (i 1).val < 3 := (i 1).isLt
  rw [BitVec.toNat_ofNat]; omega

theorem ix_row (i : grid0.Coords) (t : Fin 35) (ht : (i 0).val = t.val) :
    cc0_transform_0 k0_off1_inb numel1_S1 (tbl m) i = ![(wTile m t).toNat, 0] ∧ cc0_transform_1 k0_off1_inb numel1_S1 (tbl m) i = ![(wTile m t).toNat, 0]
    ∧ cc0_transform_2 k0_off1_inb numel1_S1 (tbl m) i = ![(wEx m t).toNat, 0, (i 1).val] ∧ cc0_transform_3 k0_off1_inb numel1_S1 (tbl m) i = ![(wEx m t).toNat, 0, (i 1).val]
    ∧ cc0_transform_4 k0_off1_inb numel1_S1 (tbl m) i = ![(wEx m t).toNat, 0, (i 1).val] ∧ cc0_transform_5 k0_off1_inb numel1_S1 (tbl m) i = ![(wEx m t).toNat, 0, (i 1).val]
    ∧ cc0_transform_6 k0_off1_inb numel1_S1 (tbl m) i = ![(wTile m t).toNat, 0] ∧ cc0_transform_7 k0_off1_inb numel1_S1 (tbl m) i = ![(wTile m t).toNat, 0] := by
  rw [← tile_at m i t ht, ← ex_at m i t ht, ← chunk_at i]
  exact ⟨rfl, rfl, rfl, rfl, rfl, rfl, rfl, rfl⟩

/-- A work list's blocks are inside their arrays, and end on whole words. -/
theorem ok_of_items (hw : Items m) : Ok m := by
  have ht (i : grid0.Coords) : ∃ t : Fin 35, (i 0).val = t.val := ⟨i 0, rfl⟩
  have h3 (i : grid0.Coords) : (i 1).val < 3 := (i 1).isLt
  refine ⟨fun i => ?_, fun i => ?_, fun i => ?_, fun i => ?_, fun i => ?_, fun i => ?_, fun i => ?_, fun i => ?_⟩ <;> obtain ⟨t, e⟩ := ht i <;>
    have h1 := hw.tile_lt t <;> have h2 := hw.ex_lt t <;> have h3 := h3 i <;> obtain ⟨e0, e1, e2, e3, e4, e5, e6, e7⟩ := ix_row m i t e
  · rw [e0]; generalize (wTile m t).toNat = n at h1
    refine ⟨?_, .inl rfl⟩
    intro a; match a with
    | 0 => show (n + 1) * 512 ≤ 16384; omega
    | 1 => exact le_rfl
  · rw [e1]; generalize (wTile m t).toNat = n at h1
    refine ⟨?_, .inl rfl⟩
    intro a; match a with
    | 0 => show (n + 1) * 512 ≤ 16384; omega
    | 1 => exact le_rfl
  · rw [e2]; generalize (wEx m t).toNat = n at h2; generalize (i 1).val = k at h3
    refine ⟨?_, .inr (.inr ⟨by decide, rfl, rfl, rfl⟩)⟩
    intro a; match a with
    | 0 => show (n + 1) * 1 ≤ 4; omega
    | 1 => show (0 + 1) * 2560 ≤ 2560; omega
    | 2 => show (k + 1) * 2304 ≤ 6912; omega
  · rw [e3]; generalize (wEx m t).toNat = n at h2; generalize (i 1).val = k at h3
    refine ⟨?_, .inl rfl⟩
    intro a; match a with
    | 0 => show (n + 1) * 1 ≤ 4; omega
    | 1 => exact le_rfl
    | 2 => show (k + 1) * 2304 ≤ 6912; omega
  · rw [e4]; generalize (wEx m t).toNat = n at h2; generalize (i 1).val = k at h3
    refine ⟨?_, .inr (.inr ⟨by decide, rfl, rfl, rfl⟩)⟩
    intro a; match a with
    | 0 => show (n + 1) * 1 ≤ 4; omega
    | 1 => show (0 + 1) * 2560 ≤ 2560; omega
    | 2 => show (k + 1) * 2304 ≤ 6912; omega
  · rw [e5]; generalize (wEx m t).toNat = n at h2; generalize (i 1).val = k at h3
    refine ⟨?_, .inl rfl⟩
    intro a; match a with
    | 0 => show (n + 1) * 1 ≤ 4; omega
    | 1 => exact le_rfl
    | 2 => show (k + 1) * 2304 ≤ 6912; omega
  · rw [e6]; generalize (wTile m t).toNat = n at h1
    refine ⟨?_, .inr (.inl (.inr ⟨by decide, rfl, .inl ⟨?_, ?_⟩⟩))⟩
    · intro a; match a with
      | 0 => show (n + 1) * 512 ≤ 16384; omega
      | 1 => show (0 + 1) * 6912 ≤ 6912; omega
    · show 4 ∣ n * 512; omega
    · show 4 ∣ 512; omega
  · rw [e7]; generalize (wTile m t).toNat = n at h1
    refine ⟨?_, .inl rfl⟩
    intro a; match a with
    | 0 => show (n + 1) * 512 ≤ 16384; omega
    | 1 => exact le_rfl

/-- The precondition says that the tables are a work list in order. -/
theorem items_of_pre (m : (ℓ : Loc nD τ sig) → Buf (Elt Ideal) ℓ) (h : Cert.Pre_UpExIdeal m) : Items m :=
  Cert.Up.workList_of_fn _ _ _ _ _ _ _ _ _ _ _ (h 0)

end Cert.UpExIdeal.Gen

end
-- ==== Proof.UpExIdealRun.lean ====
/- One run of the expert up projection's body on any whole memrefs, from any old contents of the output blocks and of the
   scratch buffers. -/
module

public import proofs.«01_k».proof.Proof.UpExIdealKit

@[expose] public section

-- membership in a rectangle of production extents (`View.cover_of_tiled`): the elaborator's structural look
-- recurses once per coordinate of the long axes
set_option maxRecDepth 16384

noncomputable section

namespace Cert.UpExIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The contents of the output blocks and of the three scratch buffers after the body, found by running it: on whole memrefs,
    each at given contents, the body runs to the continuation that holds the inputs' as they were and the others' at the
    contents found. -/
noncomputable def kernelRun0_A (c : Dev nD) (i : grid0.Coords) (arg6 : Memref sig .tc .vmem S512x640 .i32) (harg6 : arg6.IsWhole) (arg7 : Memref sig .tc .vmem S512x1 .f32) (harg7 : arg7.IsWhole) (arg8 : Memref sig .tc .vmem S1x2560x2304 .fp8e4m3) (harg8 : arg8.IsWhole) (arg9 : Memref sig .tc .vmem S1x1x2304 .f32) (harg9 : arg9.IsWhole) (arg10 : Memref sig .tc .vmem S1x2560x2304 .fp8e4m3) (harg10 : arg10.IsWhole) (arg11 : Memref sig .tc .vmem S1x1x2304 .f32) (harg11 : arg11.IsWhole) (arg12 : Memref sig .tc .vmem S512x6912 .fp8e4m3) (harg12 : arg12.IsWhole) (arg13 : Memref sig .tc .vmem S512x1 .f32) (harg13 : arg13.IsWhole) (arg14 : Memref sig .tc .vmem S512x2560 .fp8e4m3) (harg14 : arg14.IsWhole) (arg15 : Memref sig .tc .vmem S512x6912 .f32) (harg15 : arg15.IsWhole) (arg16 : Memref sig .tc .vmem S512x128 .f32) (harg16 : arg16.IsWhole)
    (x0 : Vec F S512x640 .i32) (x1 : Vec F S512x1 .f32) (x2 : Vec F S1x2560x2304 .fp8e4m3) (x3 : Vec F S1x1x2304 .f32) (x4 : Vec F S1x2560x2304 .fp8e4m3) (x5 : Vec F S1x1x2304 .f32) (x6 : Vec F S512x6912 .fp8e4m3) (x7 : Vec F S512x1 .f32) (x8 : Vec F S512x2560 .fp8e4m3) (x9 : Vec F S512x6912 .f32) (x10 : Vec F S512x128 .f32) (xt0 : TbBuf0 (F := F) c tbM0_0) (xt1 : TbBuf0 (F := F) c tbM0_1) (xt2 : TbBuf0 (F := F) c tbM0_2) (xt3 : TbBuf0 (F := F) c tbM0_3) :
    Σ' (g6 : Buf (Elt F) (arg12.view.loc (c : Thread nD τ))) (g7 : Buf (Elt F) (arg13.view.loc (c : Thread nD τ))) (g8 : Buf (Elt F) (arg14.view.loc (c : Thread nD τ))) (g9 : Buf (Elt F) (arg15.view.loc (c : Thread nD τ))), { g10 : Buf (Elt F) (arg16.view.loc (c : Thread nD τ)) //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) arg14 fullShare x8 ∗ owns (c : Thread nD τ) arg15 fullShare x9 ∗ owns (c : Thread nD τ) arg16 fullShare x10 ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare (arg12.view.read (Elt F) g6) ∗ owns (c : Thread nD τ) arg13 fullShare (arg13.view.read (Elt F) g7) ∗ owns (c : Thread nD τ) arg14 fullShare (arg14.view.read (Elt F) g8) ∗ owns (c : Thread nD τ) arg15 fullShare (arg15.view.read (Elt F) g9) ∗ owns (c : Thread nD τ) arg16 fullShare (arg16.view.read (Elt F) g10) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_expert_up i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_expert_up_eq_skeleton]; unfold cc0_expert_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, HS0⟩, ⟨%f9, %hf9, HS1⟩, ⟨%f10, %hf10, HS2⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5; obtain rfl := harg12.eq_unread hf6; obtain rfl := harg13.eq_unread hf7; obtain rfl := harg14.eq_unread hf8; obtain rfl := harg15.eq_unread hf9; obtain rfl := harg16.eq_unread hf10
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]
    · iexists _; isplitr; swap; · iexact H6
      ipureintro; rfl
    isplitl [H7]
    · iexists _; isplitr; swap; · iexact H7
      ipureintro; rfl
    isplitl [HS0]
    · iexists _; isplitr; swap; · iexact HS0
      ipureintro; rfl
    isplitl [HS1]
    · iexists _; isplitr; swap; · iexact HS1
      ipureintro; rfl
    isplitl [HS2]
    · iexists _; isplitr; swap; · iexact HS2
      ipureintro; rfl
    isplitl [HT0]; · iexact HT0
    isplitl [HT1]; · iexact HT1
    isplitl [HT2]; · iexact HT2
    iexact HT3

end Cert.UpExIdeal.Gen

end
-- ==== Proof.UpExPay.lean ====
/- The values one grid point of the expert kernel computes: a chunk of 384 columns of the gated hidden activations, the running maxima of
   their magnitudes, the quantiser, and the codes of a word. -/
module

public import proofs.«01_k».proof.Proof.Gen.UpExIdeal.Skeleton
public import proofs.«01_k».proof.Proof.Quant
public import Idealize.ShloMosaic.Lib.Pointwise
public import Idealize.ShloMosaic.Lib.WordCmp

@[expose] public section

set_option maxRecDepth 16384

noncomputable section

namespace Cert.UpExIdeal.Gen

open Idealize.ShloMosaic Idealize.ShloMosaic.WordCmp Idealize.SL Idealize.SL.Sem Cert.Quant

section generic
variable {F : FTy → Type} [FloatOps F] (X : Vec F S256x2560 .fp8e4m3) (S : Vec F S256x1 .f32) (W1 : Vec F S1x2560x384 .fp8e4m3) (S1 : Vec F S1x1x384 .f32)
  (W3 : Vec F S1x2560x384 .fp8e4m3) (S3 : Vec F S1x1x384 .f32) (mine : IVec S256x1 1) (old : Vec F S256x384 .f32) (a : FVec F S256x128 .f32)

/-- A chunk of the hidden activations, -/
abbrev hV : FVec F S256x384 .f32 := k0_pay39 X S W1 S1 W3 S3
/-- put on the item's rows, the others as they were, -/
abbrev putV (h : FVec F S256x384 .f32) : FVec F S256x384 .f32 := k0_pay5 h old mine
/-- and the running maxima with the chunk's. -/
abbrev maxV (h : FVec F S256x384 .f32) : FVec F S256x128 .f32 := k0_pay38 a h (absf (extractStridedSlice S256x128 ![0, 0] h slices_S256x384_o0_0_S256x128))

theorem put0 : k0_pay19 mine (k0_pay16 X S W3 S3) (k0_pay17 X S W1 S1) old = putV mine old (hV X S W1 S1 W3 S3) := by
  unfold k0_pay19; rw [shapeCast_self]; rfl
theorem put1 : k0_pay24 mine (k0_pay21 X S W1 S1) (k0_pay22 X S W3 S3) (FloatOps.ofBits FTy.f32 0#32) old = putV mine old (hV X S W1 S1 W3 S3) := by
  unfold k0_pay24; rw [shapeCast_self]; rfl
theorem put2 : k0_pay29 S mine (k0_pay26 X S W1 S1) (k0_pay27 X W3) S3 old = putV mine old (hV X S W1 S1 W3 S3) := by
  unfold k0_pay29; rw [shapeCast_self]; rfl
theorem put3 : k0_pay33 X S mine (k0_pay31 X S W1) S1 W3 S3 old = putV mine old (hV X S W1 S1 W3 S3) := by
  unfold k0_pay33; rw [shapeCast_self]; rfl
theorem put4 : k0_pay36 X S mine W1 S1 W3 S3 old = putV mine old (hV X S W1 S1 W3 S3) := by
  unfold k0_pay36; rw [shapeCast_self]; rfl
theorem put5 : k0_pay5 (k0_pay39 X S W1 S1 W3 S3) old (k0_pay40 mine) = putV mine old (hV X S W1 S1 W3 S3) := by
  unfold k0_pay40; rw [shapeCast_self]

theorem max0 : k0_pay20 a (k0_pay16 X S W3 S3) (k0_pay17 X S W1 S1) = maxV a (hV X S W1 S1 W3 S3) := rfl
theorem max1 : k0_pay25 a (k0_pay21 X S W1 S1) (k0_pay22 X S W3 S3) (FloatOps.ofBits FTy.f32 0#32) = maxV a (hV X S W1 S1 W3 S3) := rfl
theorem max2 : k0_pay30 S a (k0_pay26 X S W1 S1) (k0_pay27 X W3) S3 = maxV a (hV X S W1 S1 W3 S3) := rfl
theorem max3 : k0_pay34 X S a (k0_pay31 X S W1) S1 W3 S3 = maxV a (hV X S W1 S1 W3 S3) := rfl
theorem max4 : k0_pay38 a (k0_pay35 X S W1 S1 W3 S3) (k0_pay37 X S W1 S1 W3 S3) = maxV a (hV X S W1 S1 W3 S3) := rfl

theorem put0' : k0_pay46 mine (k0_pay43 X S W3 S3) (k0_pay44 X S W1 S1) old = putV mine old (hV X S W1 S1 W3 S3) := put0 X S W1 S1 W3 S3 mine old
theorem put1' : k0_pay51 mine (k0_pay48 X S W1 S1) (k0_pay49 X S W3 S3) (FloatOps.ofBits FTy.f32 0#32) old = putV mine old (hV X S W1 S1 W3 S3) := put1 X S W1 S1 W3 S3 mine old
theorem put2' : k0_pay56 S mine (k0_pay53 X S W1 S1) (k0_pay54 X W3) S3 old = putV mine old (hV X S W1 S1 W3 S3) := put2 X S W1 S1 W3 S3 mine old
theorem put3' : k0_pay60 X S mine (k0_pay58 X S W1) S1 W3 S3 old = putV mine old (hV X S W1 S1 W3 S3) := put3 X S W1 S1 W3 S3 mine old
theorem put4' : k0_pay63 X S mine W1 S1 W3 S3 old = putV mine old (hV X S W1 S1 W3 S3) := put4 X S W1 S1 W3 S3 mine old
theorem put5' : k0_pay7 (k0_pay66 X S W1 S1 W3 S3) old (k0_pay67 mine) = putV mine old (hV X S W1 S1 W3 S3) := put5 X S W1 S1 W3 S3 mine old

theorem max0' : k0_pay47 a (k0_pay43 X S W3 S3) (k0_pay44 X S W1 S1) = maxV a (hV X S W1 S1 W3 S3) := rfl
theorem max1' : k0_pay52 a (k0_pay48 X S W1 S1) (k0_pay49 X S W3 S3) (FloatOps.ofBits FTy.f32 0#32) = maxV a (hV X S W1 S1 W3 S3) := rfl
theorem max2' : k0_pay57 S a (k0_pay53 X S W1 S1) (k0_pay54 X W3) S3 = maxV a (hV X S W1 S1 W3 S3) := rfl
theorem max3' : k0_pay61 X S a (k0_pay58 X S W1) S1 W3 S3 = maxV a (hV X S W1 S1 W3 S3) := rfl
theorem max4' : k0_pay65 a (k0_pay62 X S W1 S1 W3 S3) (k0_pay64 X S W1 S1 W3 S3) = maxV a (hV X S W1 S1 W3 S3) := rfl
end generic

variable (X : Vec Ideal S256x2560 .fp8e4m3) (S : Vec Ideal S256x1 .f32) (W1 : Vec Ideal S1x2560x384 .fp8e4m3) (S1 : Vec Ideal S1x1x384 .f32)
  (W3 : Vec Ideal S1x2560x384 .fp8e4m3) (S3 : Vec Ideal S1x1x384 .f32) (mine : IVec S256x1 1) (old : Vec Ideal S256x384 .f32) (a : FVec Ideal S256x128 .f32)

theorem hV_apply (p : Fin 256) (l : Fin 384) : hV X S W1 S1 W3 S3 (ix2 p l)
    = hid ((∑ k : Fin 2560, X (ix2 p k) * W1 (ix3 0 k l)) * S (ix2 p 0) * S1 (ix3 0 0 l))
      ((∑ k : Fin 2560, X (ix2 p k) * W3 (ix3 0 k l)) * S (ix2 p 0) * S3 (ix3 0 0 l)) := by
  pointwise [k0_pay39]
  rw [hid_eq]

theorem putV_apply (h : FVec Ideal S256x384 .f32) (p : Fin 256) (l : Fin 384) :
    putV mine old h (ix2 p l) = if mine (ix2 p 0) = 1#1 then h (ix2 p l) else old (ix2 p l) := by
  pointwise [k0_pay5]
  rfl

theorem maxV_le (h : FVec Ideal S256x384 .f32) (p : Fin 256) (l : Fin 128) (z : EReal) :
    maxV a h (ix2 p l) ≤ z ↔ a (ix2 p l) ≤ z ∧ ∀ t : Fin 3, mag (h (ix2 p ⟨128 * t + l, by omega⟩)) ≤ z := by
  pointwise [k0_pay38]
  have e (x : EReal) : (FloatOps.absf (F := Ideal) (φ := .f32) x : EReal) = max x (-x) := rfl
  simp only [Fin.forall_fin_succ, IsEmpty.forall_iff, and_true, max_le_iff (c := z), and_assoc, e]

/-- The maxima are kept on the item's rows, from the first chunk on afresh. -/
theorem keep_apply (i : grid0.Coords) (h : FVec Ideal S256x384 .f32) (o : Vec Ideal S256x128 .f32) (p : Fin 256) (l : Fin 128) :
    k0_pay6 i mine a h o (ix2 p l) = if mine (ix2 p 0) = 1#1 then (if (i 1).val = 0 then maxV a h (ix2 p l) else max (maxV a h (ix2 p l)) (o (ix2 p l)))
      else o (ix2 p l) := by
  have e : k0_pay6 i mine a h o (ix2 p l) = if mine (ix2 p 0) = 1#1 then (Scalar.select (Scalar.cmpi .eq (BitVec.ofNat 32 (i 1).val) 0#32) (maxV a h) (maximumf (maxV a h) o)) (ix2 p l)
      else o (ix2 p l) := by
    unfold k0_pay6 maxV k0_pay38
    generalize Scalar.cmpi .eq (BitVec.ofNat 32 (i 1).val) 0#32 = b
    dsimp only
    generalize Scalar.select b _ _ = q
    pointwise []
    rfl
  rw [e]
  have h3 : (i 1).val < 3 := (i 1).isLt
  by_cases g : (i 1).val = 0
  · rw [if_pos g, g]; rfl
  · rw [if_neg g]
    congr 1
    have : Scalar.cmpi .eq (BitVec.ofNat 32 (i 1).val) 0#32 = 0#1 := by
      have : (i 1).val = 1 ∨ (i 1).val = 2 := by omega
      rcases this with g | g <;> rw [g] <;> rfl
    rw [this]; rfl

theorem keep_eq : @k0_pay8 = @k0_pay6 := rfl

theorem zero_apply (p : Fin 256) (l : Fin 128) : k0_pay15 (F := Ideal) (ix2 p l) = 0 := by pointwise [k0_pay15]
theorem zero_eq : @k0_pay42 = @k0_pay15 := rfl

/-- The scale of a row, from its running maxima. -/
theorem scaleV_apply (v : Vec Ideal S512x128 .f32) (r : Fin 512) :
    k0_pay68 v (ix2 r 0) = scaleOf (Finset.univ.fold max ⊥ fun l : Fin 128 => v (ix2 r l)) := by
  unfold k0_pay68
  rw [← rowmax_apply v reduces_S512x128_S512 (.inl rfl) rfl r]
  generalize multiReduction (F := Ideal) .maximumf [1] S512 v 0xFF800000#32 reduces_S512x128_S512 (.inl rfl) rfl = M
  pointwise []
  rfl

/-- A code, from a row's running maxima and its activation. -/
theorem codeV_apply (v : Vec Ideal S512x128 .f32) (w : Vec Ideal S512x384 .f32) (r : Fin 512) (l : Fin 384) :
    k0_pay70 v w (ix2 r l) = codeOf (scaleOf (Finset.univ.fold max ⊥ fun l : Fin 128 => v (ix2 r l))) (w (ix2 r l)) := by
  have h := scaleV_apply v r
  unfold k0_pay70 k0_pay69
  generalize k0_pay68 v = M at h ⊢
  pointwise []
  rw [h, mul_inv_scale]
  rfl

end Cert.UpExIdeal.Gen

end
-- ==== Proof.UpExLists.lean ====
/- What one grid point of the expert kernel writes: the pieces, as lists. -/
module

public import proofs.«01_k».proof.Proof.UpExIdealRun
public import proofs.«01_k».proof.Proof.UpExPay
public import Idealize.ShloMosaic.Lib.Pipeline.ValueKit
public import Idealize.ShloMosaic.Lib.Pipeline.ReadBack
public import Idealize.ShloMosaic.Lib.WholeRead

@[expose] public section

set_option maxRecDepth 16384

noncomputable section

namespace Cert.UpExIdeal.Gen

open Idealize.ShloMosaic Idealize.ShloMosaic.TcCoe Idealize.ShloMosaic.WordCmp Idealize.SL Idealize.SL.Sem Cert.Quant

section chunks
variable (X : Vec Ideal S256x2560 .fp8e4m3) (S : Vec Ideal S256x1 .f32) (W1 : Fin 6 → Vec Ideal S1x2560x384 .fp8e4m3) (S1 : Fin 6 → Vec Ideal S1x1x384 .f32)
  (W3 : Fin 6 → Vec Ideal S1x2560x384 .fp8e4m3) (S3 : Fin 6 → Vec Ideal S1x1x384 .f32) (mine : IVec S256x1 1)
  (off : Fin 6 → Fin 2 → ℕ) (inb : ∀ q a, off q a + S256x384.size a ≤ S512x6912.size a) (old : Fin 6 → Vec Ideal S256x384 .f32)

/-- The six chunks of the hidden activations' upper half, -/
def hL : List (View.Piece (Elt Ideal) S512x6912 .f32) :=
  [⟨Rect.unit (s := S512x6912) (off 5) ![256, 384] (inb 5), k0_pay5 (k0_pay39 X S (W1 5) (S1 5) (W3 5) (S3 5)) (old 5) (k0_pay40 mine)⟩,
    ⟨Rect.unit (s := S512x6912) (off 4) S256x384.size (inb 4), k0_pay36 X S mine (W1 4) (S1 4) (W3 4) (S3 4) (old 4)⟩,
    ⟨Rect.unit (s := S512x6912) (off 3) S256x384.size (inb 3), k0_pay33 X S mine (k0_pay31 X S (W1 3)) (S1 3) (W3 3) (S3 3) (old 3)⟩,
    ⟨Rect.unit (s := S512x6912) (off 2) S256x384.size (inb 2), k0_pay29 S mine (k0_pay26 X S (W1 2) (S1 2)) (k0_pay27 X (W3 2)) (S3 2) (old 2)⟩,
    ⟨Rect.unit (s := S512x6912) (off 1) S256x384.size (inb 1), k0_pay24 mine (k0_pay21 X S (W1 1) (S1 1)) (k0_pay22 X S (W3 1) (S3 1)) (FloatOps.ofBits FTy.f32 0#32) (old 1)⟩,
    ⟨Rect.unit (s := S512x6912) (off 0) S256x384.size (inb 0), k0_pay19 mine (k0_pay16 X S (W3 0) (S3 0)) (k0_pay17 X S (W1 0) (S1 0)) (old 0)⟩]
/-- of the lower half, -/
def hL' : List (View.Piece (Elt Ideal) S512x6912 .f32) :=
  [⟨Rect.unit (s := S512x6912) (off 5) ![256, 384] (inb 5), k0_pay7 (k0_pay66 X S (W1 5) (S1 5) (W3 5) (S3 5)) (old 5) (k0_pay67 mine)⟩,
    ⟨Rect.unit (s := S512x6912) (off 4) S256x384.size (inb 4), k0_pay63 X S mine (W1 4) (S1 4) (W3 4) (S3 4) (old 4)⟩,
    ⟨Rect.unit (s := S512x6912) (off 3) S256x384.size (inb 3), k0_pay60 X S mine (k0_pay58 X S (W1 3)) (S1 3) (W3 3) (S3 3) (old 3)⟩,
    ⟨Rect.unit (s := S512x6912) (off 2) S256x384.size (inb 2), k0_pay56 S mine (k0_pay53 X S (W1 2) (S1 2)) (k0_pay54 X (W3 2)) (S3 2) (old 2)⟩,
    ⟨Rect.unit (s := S512x6912) (off 1) S256x384.size (inb 1), k0_pay51 mine (k0_pay48 X S (W1 1) (S1 1)) (k0_pay49 X S (W3 1) (S3 1)) (FloatOps.ofBits FTy.f32 0#32) (old 1)⟩,
    ⟨Rect.unit (s := S512x6912) (off 0) S256x384.size (inb 0), k0_pay46 mine (k0_pay43 X S (W3 0) (S3 0)) (k0_pay44 X S (W1 0) (S1 0)) (old 0)⟩]
/-- and what both are. -/
def hLs : List (View.Piece (Elt Ideal) S512x6912 .f32) :=
  [⟨Rect.unit (s := S512x6912) (off 5) ![256, 384] (inb 5), putV mine (old 5) (hV X S (W1 5) (S1 5) (W3 5) (S3 5))⟩,
    ⟨Rect.unit (s := S512x6912) (off 4) S256x384.size (inb 4), putV mine (old 4) (hV X S (W1 4) (S1 4) (W3 4) (S3 4))⟩,
    ⟨Rect.unit (s := S512x6912) (off 3) S256x384.size (inb 3), putV mine (old 3) (hV X S (W1 3) (S1 3) (W3 3) (S3 3))⟩,
    ⟨Rect.unit (s := S512x6912) (off 2) S256x384.size (inb 2), putV mine (old 2) (hV X S (W1 2) (S1 2) (W3 2) (S3 2))⟩,
    ⟨Rect.unit (s := S512x6912) (off 1) S256x384.size (inb 1), putV mine (old 1) (hV X S (W1 1) (S1 1) (W3 1) (S3 1))⟩,
    ⟨Rect.unit (s := S512x6912) (off 0) S256x384.size (inb 0), putV mine (old 0) (hV X S (W1 0) (S1 0) (W3 0) (S3 0))⟩]

theorem hL_eq : hL X S W1 S1 W3 S3 mine off inb old = hLs X S W1 S1 W3 S3 mine off inb old := by
  unfold hL hLs
  rw [put0, put1, put2, put3, put4, put5]
theorem hL'_eq : hL' X S W1 S1 W3 S3 mine off inb old = hLs X S W1 S1 W3 S3 mine off inb old := by
  unfold hL' hLs
  rw [put0', put1', put2', put3', put4', put5']

/-- The running maxima over the first five chunks, -/
def mC : FVec Ideal S256x128 .f32 := k0_pay38 (k0_pay34 X S (k0_pay30 S (k0_pay25 (k0_pay20 k0_pay15 (k0_pay16 X S (W3 0) (S3 0)) (k0_pay17 X S (W1 0) (S1 0))) (k0_pay21 X S (W1 1) (S1 1)) (k0_pay22 X S (W3 1) (S3 1)) (FloatOps.ofBits FTy.f32 0#32)) (k0_pay26 X S (W1 2) (S1 2)) (k0_pay27 X (W3 2)) (S3 2)) (k0_pay31 X S (W1 3)) (S1 3) (W3 3) (S3 3)) (k0_pay35 X S (W1 4) (S1 4) (W3 4) (S3 4)) (k0_pay37 X S (W1 4) (S1 4) (W3 4) (S3 4))
def mC' : FVec Ideal S256x128 .f32 := k0_pay65 (k0_pay61 X S (k0_pay57 S (k0_pay52 (k0_pay47 k0_pay42 (k0_pay43 X S (W3 0) (S3 0)) (k0_pay44 X S (W1 0) (S1 0))) (k0_pay48 X S (W1 1) (S1 1)) (k0_pay49 X S (W3 1) (S3 1)) (FloatOps.ofBits FTy.f32 0#32)) (k0_pay53 X S (W1 2) (S1 2)) (k0_pay54 X (W3 2)) (S3 2)) (k0_pay58 X S (W1 3)) (S1 3) (W3 3) (S3 3)) (k0_pay62 X S (W1 4) (S1 4) (W3 4) (S3 4)) (k0_pay64 X S (W1 4) (S1 4) (W3 4) (S3 4))
/-- and what both are. -/
def mCs : FVec Ideal S256x128 .f32 :=
  maxV (maxV (maxV (maxV (maxV k0_pay15 (hV X S (W1 0) (S1 0) (W3 0) (S3 0))) (hV X S (W1 1) (S1 1) (W3 1) (S3 1))) (hV X S (W1 2) (S1 2) (W3 2) (S3 2)))
    (hV X S (W1 3) (S1 3) (W3 3) (S3 3))) (hV X S (W1 4) (S1 4) (W3 4) (S3 4))
theorem mC_eq : mC X S W1 S1 W3 S3 = mCs X S W1 S1 W3 S3 := by
  unfold mC mCs
  rw [max0, max1, max2, max3, max4]
theorem mC'_eq : mC' X S W1 S1 W3 S3 = mCs X S W1 S1 W3 S3 := by
  unfold mC' mCs
  rw [max0', max1', max2', max3', max4', zero_eq]

/-- What the rows' lanes hold after the six chunks: the greatest magnitude among the columns of the lane. -/
theorem lanes_le (hf : Fin 256 → ℕ → EReal) (hh : ∀ q : Fin 6, ∀ p l, hV X S (W1 q) (S1 q) (W3 q) (S3 q) (ix2 p l) = hf p (384 * q.val + l.val))
    (p : Fin 256) (l : Fin 128) (z : EReal) :
    maxV (mCs X S W1 S1 W3 S3) (hV X S (W1 5) (S1 5) (W3 5) (S3 5)) (ix2 p l) ≤ z ↔ 0 ≤ z ∧ ∀ n < 2304, n % 128 = l.val → mag (hf p n) ≤ z := by
  unfold mCs
  rw [maxV_le, maxV_le, maxV_le, maxV_le, maxV_le, maxV_le, zero_apply]
  simp only [hh]
  constructor
  · intro H
    obtain ⟨⟨⟨⟨⟨⟨H0, h0⟩, h1⟩, h2⟩, h3⟩, h4⟩, h5⟩ := H
    refine ⟨H0, fun n hn hl => ?_⟩
    have fin (q : ℕ) (hq : n / 384 = q) (h : ∀ t : Fin 3, mag (hf p (384 * q + (128 * t.val + l.val))) ≤ z) : mag (hf p n) ≤ z := by
      have := h ⟨(n - 384 * q) / 128, by omega⟩
      rwa [show 384 * q + (128 * ((n - 384 * q) / 128) + l.val) = n by omega] at this
    rcases (by omega : n / 384 = 0 ∨ n / 384 = 1 ∨ n / 384 = 2 ∨ n / 384 = 3 ∨ n / 384 = 4 ∨ n / 384 = 5) with g | g | g | g | g | g
    · exact fin 0 g h0
    · exact fin 1 g h1
    · exact fin 2 g h2
    · exact fin 3 g h3
    · exact fin 4 g h4
    · exact fin 5 g h5
  · intro ⟨H0, H⟩
    have all (q : Fin 6) (t : Fin 3) : mag (hf p (384 * q.val + (128 * t.val + l.val))) ≤ z :=
      H _ (by omega) (by omega)
    exact ⟨⟨⟨⟨⟨⟨H0, all 0⟩, all 1⟩, all 2⟩, all 3⟩, all 4⟩, all 5⟩

end chunks

section codes
variable (A : Vec Ideal S512x128 .f32) (H : Fin 18 → Vec Ideal S512x384 .f32) (inb : ∀ (q : Fin 18) (a : Fin 2), (![0, 384 * q.val] : Fin 2 → ℕ) a + S512x384.size a ≤ S512x6912.size a)

/-- The eighteen chunks of codes, -/
def cL : List (View.Piece (Elt Ideal) S512x6912 .fp8e4m3) :=
  [⟨Rect.unit (s := S512x6912) ![0, 6528] ![512, 384] (inb 17), k0_pay9 (k0_pay90 (k0_pay69 A) (H 17)) (FloatOps.ofBits FTy.f32 3286237184#32)⟩,
    ⟨Rect.unit (s := S512x6912) ![0, 6144] S512x384.size (inb 16), k0_pay89 (k0_pay69 A) (H 16)⟩,
    ⟨Rect.unit (s := S512x6912) ![0, 5760] S512x384.size (inb 15), k0_pay88 (k0_pay69 A) (H 15)⟩,
    ⟨Rect.unit (s := S512x6912) ![0, 5376] S512x384.size (inb 14), k0_pay87 (k0_pay69 A) (H 14)⟩,
    ⟨Rect.unit (s := S512x6912) ![0, 4992] S512x384.size (inb 13), k0_pay86 (k0_pay84 (k0_pay69 A) (H 13)) k0_pay85⟩,
    ⟨Rect.unit (s := S512x6912) ![0, 4608] S512x384.size (inb 12), k0_pay83 (k0_pay69 A) (H 12)⟩,
    ⟨Rect.unit (s := S512x6912) ![0, 4224] S512x384.size (inb 11), k0_pay82 (k0_pay69 A) (H 11)⟩,
    ⟨Rect.unit (s := S512x6912) ![0, 3840] S512x384.size (inb 10), k0_pay81 (k0_pay69 A) (H 10)⟩,
    ⟨Rect.unit (s := S512x6912) ![0, 3456] S512x384.size (inb 9), k0_pay80 (k0_pay69 A) (H 9)⟩,
    ⟨Rect.unit (s := S512x6912) ![0, 3072] S512x384.size (inb 8), k0_pay79 (k0_pay69 A) (H 8)⟩,
    ⟨Rect.unit (s := S512x6912) ![0, 2688] S512x384.size (inb 7), k0_pay78 (k0_pay69 A) (H 7)⟩,
    ⟨Rect.unit (s := S512x6912) ![0, 2304] S512x384.size (inb 6), k0_pay77 (k0_pay69 A) (H 6)⟩,
    ⟨Rect.unit (s := S512x6912) ![0, 1920] S512x384.size (inb 5), k0_pay76 (k0_pay69 A) (H 5)⟩,
    ⟨Rect.unit (s := S512x6912) ![0, 1536] S512x384.size (inb 4), k0_pay75 (k0_pay69 A) (H 4)⟩,
    ⟨Rect.unit (s := S512x6912) ![0, 1152] S512x384.size (inb 3), k0_pay74 (k0_pay69 A) (H 3)⟩,
    ⟨Rect.unit (s := S512x6912) ![0, 768] S512x384.size (inb 2), k0_pay73 (k0_pay72 A (H 2)) (FloatOps.ofBits FTy.f32 3286237184#32)⟩,
    ⟨Rect.unit (s := S512x6912) ![0, 384] S512x384.size (inb 1), k0_pay71 A (H 1)⟩,
    ⟨Rect.unit (s := S512x6912) ![0, 0] S512x384.size (inb 0), k0_pay70 A (H 0)⟩]
/-- and what they are. -/
def cLs : List (View.Piece (Elt Ideal) S512x6912 .fp8e4m3) :=
  [⟨Rect.unit (s := S512x6912) ![0, 6528] ![512, 384] (inb 17), k0_pay70 A (H 17)⟩,
    ⟨Rect.unit (s := S512x6912) ![0, 6144] S512x384.size (inb 16), k0_pay70 A (H 16)⟩,
    ⟨Rect.unit (s := S512x6912) ![0, 5760] S512x384.size (inb 15), k0_pay70 A (H 15)⟩,
    ⟨Rect.unit (s := S512x6912) ![0, 5376] S512x384.size (inb 14), k0_pay70 A (H 14)⟩,
    ⟨Rect.unit (s := S512x6912) ![0, 4992] S512x384.size (inb 13), k0_pay70 A (H 13)⟩,
    ⟨Rect.unit (s := S512x6912) ![0, 4608] S512x384.size (inb 12), k0_pay70 A (H 12)⟩,
    ⟨Rect.unit (s := S512x6912) ![0, 4224] S512x384.size (inb 11), k0_pay70 A (H 11)⟩,
    ⟨Rect.unit (s := S512x6912) ![0, 3840] S512x384.size (inb 10), k0_pay70 A (H 10)⟩,
    ⟨Rect.unit (s := S512x6912) ![0, 3456] S512x384.size (inb 9), k0_pay70 A (H 9)⟩,
    ⟨Rect.unit (s := S512x6912) ![0, 3072] S512x384.size (inb 8), k0_pay70 A (H 8)⟩,
    ⟨Rect.unit (s := S512x6912) ![0, 2688] S512x384.size (inb 7), k0_pay70 A (H 7)⟩,
    ⟨Rect.unit (s := S512x6912) ![0, 2304] S512x384.size (inb 6), k0_pay70 A (H 6)⟩,
    ⟨Rect.unit (s := S512x6912) ![0, 1920] S512x384.size (inb 5), k0_pay70 A (H 5)⟩,
    ⟨Rect.unit (s := S512x6912) ![0, 1536] S512x384.size (inb 4), k0_pay70 A (H 4)⟩,
    ⟨Rect.unit (s := S512x6912) ![0, 1152] S512x384.size (inb 3), k0_pay70 A (H 3)⟩,
    ⟨Rect.unit (s := S512x6912) ![0, 768] S512x384.size (inb 2), k0_pay70 A (H 2)⟩,
    ⟨Rect.unit (s := S512x6912) ![0, 384] S512x384.size (inb 1), k0_pay70 A (H 1)⟩,
    ⟨Rect.unit (s := S512x6912) ![0, 0] S512x384.size (inb 0), k0_pay70 A (H 0)⟩]
theorem cL_eq : cL A H inb = cLs A H inb := rfl
end codes

/-- The codes of the words of the two halves. -/
def xL (w w' : Vec Ideal S256x640 .i32) : List (View.Piece (Elt Ideal) S512x2560 .fp8e4m3) :=
  [⟨Rect.unit (s := S512x2560) ![256, 1920] ![256, 640] inb_S512x2560_S256x640_256_1920, k0_pay4 w'⟩,
    ⟨Rect.unit (s := S512x2560) ![256, 1280] ![256, 640] inb_S512x2560_S256x640_256_1280, k0_pay3 w'⟩,
    ⟨Rect.unit (s := S512x2560) ![256, 640] ![256, 640] inb_S512x2560_S256x640_256_640, k0_pay2 w'⟩,
    ⟨Rect.unit (s := S512x2560) ![256, 0] ![256, 640] inb_S512x2560_S256x640_256_0, k0_pay1 w'⟩,
    ⟨Rect.unit (s := S512x2560) ![0, 1920] S256x640.size inb_S512x2560_S256x640_0_1920, k0_pay13 w⟩,
    ⟨Rect.unit (s := S512x2560) ![0, 1280] S256x640.size inb_S512x2560_S256x640_0_1280, k0_pay12 w⟩,
    ⟨Rect.unit (s := S512x2560) ![0, 640] S256x640.size inb_S512x2560_S256x640_0_640, k0_pay11 w⟩,
    ⟨Rect.unit (s := S512x2560) ![0, 0] S256x640.size inb_S512x2560_S256x640_0_0, k0_pay10 w⟩]

end Cert.UpExIdeal.Gen

end
-- ==== Proof.UpExBlock.lean ====
/- What one grid point of the expert kernel leaves in its buffers: the contents found by running the body, as the lists of pieces. -/
module

public import proofs.«01_k».proof.Proof.UpExLists

@[expose] public section

set_option maxRecDepth 65536

noncomputable section

namespace Cert.UpExIdeal.Gen

open Idealize.ShloMosaic Idealize.ShloMosaic.TcCoe Idealize.ShloMosaic.WordCmp Idealize.SL Idealize.SL.Sem Cert.Quant

variable (c : Dev nD) (i : grid0.Coords) (arg6 : Memref sig .tc .vmem S512x640 .i32) (harg6 : arg6.IsWhole) (arg7 : Memref sig .tc .vmem S512x1 .f32) (harg7 : arg7.IsWhole) (arg8 : Memref sig .tc .vmem S1x2560x2304 .fp8e4m3) (harg8 : arg8.IsWhole) (arg9 : Memref sig .tc .vmem S1x1x2304 .f32) (harg9 : arg9.IsWhole) (arg10 : Memref sig .tc .vmem S1x2560x2304 .fp8e4m3) (harg10 : arg10.IsWhole) (arg11 : Memref sig .tc .vmem S1x1x2304 .f32) (harg11 : arg11.IsWhole) (arg12 : Memref sig .tc .vmem S512x6912 .fp8e4m3) (harg12 : arg12.IsWhole) (arg13 : Memref sig .tc .vmem S512x1 .f32) (harg13 : arg13.IsWhole) (arg14 : Memref sig .tc .vmem S512x2560 .fp8e4m3) (harg14 : arg14.IsWhole) (arg15 : Memref sig .tc .vmem S512x6912 .f32) (harg15 : arg15.IsWhole) (arg16 : Memref sig .tc .vmem S512x128 .f32) (harg16 : arg16.IsWhole)
    (x0 : Vec Ideal S512x640 .i32) (x1 : Vec Ideal S512x1 .f32) (x2 : Vec Ideal S1x2560x2304 .fp8e4m3) (x3 : Vec Ideal S1x1x2304 .f32) (x4 : Vec Ideal S1x2560x2304 .fp8e4m3) (x5 : Vec Ideal S1x1x2304 .f32) (x6 : Vec Ideal S512x6912 .fp8e4m3) (x7 : Vec Ideal S512x1 .f32) (x8 : Vec Ideal S512x2560 .fp8e4m3) (x9 : Vec Ideal S512x6912 .f32) (x10 : Vec Ideal S512x128 .f32) (xt0 : TbBuf0 (F := Ideal) c tbM0_0) (xt1 : TbBuf0 (F := Ideal) c tbM0_1) (xt2 : TbBuf0 (F := Ideal) c tbM0_2) (xt3 : TbBuf0 (F := Ideal) c tbM0_3)

theorem inbX {b : ℕ} (hb : b + 256 ≤ 512) {n N : ℕ} (hn : n ≤ N) : ∀ a, (![b, 0] : Fin 2 → ℕ) a + (⟨2, ![256, n]⟩ : Shape).size a ≤ (⟨2, ![512, N]⟩ : Shape).size a
  | 0 => hb
  | 1 => by show 0 + n ≤ N; omega
theorem inbW (q : Fin 6) {n : ℕ} : ∀ a, (![0, 0, 384 * q.val] : Fin 3 → ℕ) a + (⟨3, ![1, n, 384]⟩ : Shape).size a ≤ (⟨3, ![1, n, 2304]⟩ : Shape).size a
  | 0 => le_rfl
  | 1 => by show 0 + n ≤ n; omega
  | 2 => by show 384 * q.val + 384 ≤ 2304; omega
theorem inbC (q : Fin 18) (a : Fin 2) : (![0, 384 * q.val] : Fin 2 → ℕ) a + S512x384.size a ≤ S512x6912.size a := match a with
  | 0 => le_rfl
  | 1 => by show 384 * q.val + 384 ≤ 6912; omega

/-- The words of 256 rows from row `b` on, -/
def wordsP (b : ℕ) (hb : b + 256 ≤ 512) : Vec Ideal S256x640 .i32 :=
  View.readAt (Elt Ideal) arg6.view (Rect.unit (s := S512x640) ![b, 0] S256x640.size (inbX hb le_rfl)).toLoadRect (harg6.unread x0)
/-- their scales, -/
def rowsP (b : ℕ) (hb : b + 256 ≤ 512) : Vec Ideal S256x1 .f32 :=
  View.readAt (Elt Ideal) arg7.view (Rect.unit (s := S512x1) ![b, 0] S256x1.size (inbX hb le_rfl)).toLoadRect (harg7.unread x1)
/-- the weights' chunks of 384 columns, and their scales. -/
def w1P (q : Fin 6) : Vec Ideal S1x2560x384 .fp8e4m3 :=
  View.readAt (Elt Ideal) arg8.view (Rect.unit (s := S1x2560x2304) ![0, 0, 384 * q.val] S1x2560x384.size (inbW q)).toLoadRect (harg8.unread x2)
def s1P (q : Fin 6) : Vec Ideal S1x1x384 .f32 :=
  View.readAt (Elt Ideal) arg9.view (Rect.unit (s := S1x1x2304) ![0, 0, 384 * q.val] S1x1x384.size (inbW q)).toLoadRect (harg9.unread x3)
def w3P (q : Fin 6) : Vec Ideal S1x2560x384 .fp8e4m3 :=
  View.readAt (Elt Ideal) arg10.view (Rect.unit (s := S1x2560x2304) ![0, 0, 384 * q.val] S1x2560x384.size (inbW q)).toLoadRect (harg10.unread x4)
def s3P (q : Fin 6) : Vec Ideal S1x1x384 .f32 :=
  View.readAt (Elt Ideal) arg11.view (Rect.unit (s := S1x1x2304) ![0, 0, 384 * q.val] S1x1x384.size (inbW q)).toLoadRect (harg11.unread x5)

/-- The codes' scratch after the item's first chunk has filled it. -/
def xC (u : BitVec 1) (w w' : Vec Ideal S256x640 .i32) : arg14.view.ty.Contents (Elt Ideal) :=
  if _hc : u = 1#1 then arg14.view.writes (Elt Ideal) (harg14.unread x8) (xL w w') else harg14.unread x8
/-- 256 rows of it. -/
def xP (b : ℕ) (hb : b + 256 ≤ 512) (g : arg14.view.ty.Contents (Elt Ideal)) : Vec Ideal S256x2560 .fp8e4m3 :=
  View.readAt (Elt Ideal) arg14.view (Rect.unit (s := S512x2560) ![b, 0] S256x2560.size (inbX hb le_rfl)).toLoadRect g

/-- The columns of the hidden activations' chunks, and the chunks read. -/
def off2 (q : Fin 6) : Fin 2 → ℕ := k0_off2 i (BitVec.ofNat 32 (384 * q.val))
def off3 (q : Fin 6) : Fin 2 → ℕ := k0_off3 i (BitVec.ofNat 32 (384 * q.val))
theorem inb2 (q : Fin 6) (a : Fin 2) : off2 i q a + S256x384.size a ≤ S512x6912.size a := k0_off2_inb i q a
theorem inb3 (q : Fin 6) (a : Fin 2) : off3 i q a + S256x384.size a ≤ S512x6912.size a := k0_off3_inb i q a
def oldP (off : Fin 6 → Fin 2 → ℕ) (inb : ∀ q a, off q a + S256x384.size a ≤ S512x6912.size a) (g : arg15.view.ty.Contents (Elt Ideal)) (q : Fin 6) : Vec Ideal S256x384 .f32 :=
  View.readAt (Elt Ideal) arg15.view (Rect.unit (s := S512x6912) (off q) S256x384.size (inb q)).toLoadRect g

section halves
variable (X X' : Vec Ideal S256x2560 .fp8e4m3) (S S' : Vec Ideal S256x1 .f32) (W1 : Fin 6 → Vec Ideal S1x2560x384 .fp8e4m3) (T1 : Fin 6 → Vec Ideal S1x1x384 .f32)
  (W3 : Fin 6 → Vec Ideal S1x2560x384 .fp8e4m3) (T3 : Fin 6 → Vec Ideal S1x1x384 .f32) (u u' : BitVec 1) (mine mine' : IVec S256x1 1)

/-- The hidden activations after the upper half, -/
def hMid : arg15.view.ty.Contents (Elt Ideal) :=
  if _hc : u = 1#1 then arg15.view.writes (Elt Ideal) (harg15.unread x9) (hL X S W1 T1 W3 T3 mine (off2 i) (inb2 i) (oldP arg15 (off2 i) (inb2 i) (harg15.unread x9)))
  else harg15.unread x9
/-- after both, -/
def hEnd (g : arg15.view.ty.Contents (Elt Ideal)) : arg15.view.ty.Contents (Elt Ideal) :=
  if _hc : u' = 1#1 then arg15.view.writes (Elt Ideal) g (hL' X' S' W1 T1 W3 T3 mine' (off3 i) (inb3 i) (oldP arg15 (off3 i) (inb3 i) g)) else g

def lanesP (b : ℕ) (hb : b + 256 ≤ 512) (g : arg16.view.ty.Contents (Elt Ideal)) : Vec Ideal S256x128 .f32 :=
  View.readAt (Elt Ideal) arg16.view (Rect.unit (s := S512x128) ![b, 0] ![256, 128] (inbX hb le_rfl)).toLoadRect g
/-- and the maxima likewise. -/
def aMid : arg16.view.ty.Contents (Elt Ideal) :=
  if _hc : u = 1#1 then arg16.view.writes (Elt Ideal) (harg16.unread x10) [⟨Rect.unit (s := S512x128) ![0, 0] ![256, 128] inb_S512x128_S256x128_0_0,
    k0_pay6 i mine (mC X S W1 T1 W3 T3) (k0_pay39 X S (W1 5) (T1 5) (W3 5) (T3 5)) (lanesP arg16 0 (by omega) (harg16.unread x10))⟩]
  else harg16.unread x10
def aEnd (g : arg16.view.ty.Contents (Elt Ideal)) : arg16.view.ty.Contents (Elt Ideal) :=
  if _hc : u' = 1#1 then arg16.view.writes (Elt Ideal) g [⟨Rect.unit (s := S512x128) ![256, 0] ![256, 128] inb_S512x128_S256x128_256_0,
    k0_pay8 i mine' (mC' X' S' W1 T1 W3 T3) (k0_pay66 X' S' (W1 5) (T1 5) (W3 5) (T3 5)) (lanesP arg16 256 (by omega) g)⟩]
  else g
end halves

def allP (g : arg16.view.ty.Contents (Elt Ideal)) : Vec Ideal S512x128 .f32 :=
  View.readAt (Elt Ideal) arg16.view (Rect.unit (s := S512x128) ![0, 0] S512x128.size inb_S512x128_S512x128_0_0).toLoadRect g
def colP (g : arg15.view.ty.Contents (Elt Ideal)) (q : Fin 18) : Vec Ideal S512x384 .f32 :=
  View.readAt (Elt Ideal) arg15.view (Rect.unit (s := S512x6912) ![0, 384 * q.val] S512x384.size (inbC q)).toLoadRect g

/-- The codes and the scales, written at a tile's last item. -/
def codesC (u : BitVec 1) (A : Vec Ideal S512x128 .f32) (H : Fin 18 → Vec Ideal S512x384 .f32) : arg12.view.ty.Contents (Elt Ideal) :=
  if _hc : u = 1#1 then arg12.view.writes (Elt Ideal) (harg12.unread x6) (cL A H inbC) else harg12.unread x6
def scalesC (u : BitVec 1) (A : Vec Ideal S512x128 .f32) : arg13.view.ty.Contents (Elt Ideal) :=
  if _hc : u = 1#1 then arg13.view.writes (Elt Ideal) (harg13.unread x7) [⟨Rect.unit (s := S512x1) ![0, 0] S512x1.size inb_S512x1_S512x1_0_0, k0_pay68 A⟩] else harg13.unread x7

/-- The tests, as the body's scalars. -/
def cond0 : BitVec 1 := Scalar.cmpi .ne (Scalar.extui (Scalar.cmpi .eq (BitVec.ofNat 32 (i 1).val) 0#32) : BitVec 32) 0#32
def condA (a b : BitVec 32) : BitVec 1 := Scalar.cmpi .ne (Scalar.extui (Scalar.andi (Scalar.cmpi .slt a 256#32) (Scalar.cmpi .sgt b 0#32)) : BitVec 32) 0#32
def condB (a b : BitVec 32) : BitVec 1 := Scalar.cmpi .ne (Scalar.extui (Scalar.andi (Scalar.cmpi .slt a 512#32) (Scalar.cmpi .sgt b 256#32)) : BitVec 32) 0#32

/-- The item's first and last row within the tile. -/
def loP : BitVec 32 := Scalar.subi (kernelRun0_A.sl.r_1 c i xt2) (Scalar.muli (kernelRun0_A.sl.r c i xt0) 512#32)
def hiP : BitVec 32 := Scalar.subi (kernelRun0_A.sl.r_2 c i xt3) (Scalar.muli (kernelRun0_A.sl.r c i xt0) 512#32)

/-- The buffers' contents after the body. -/
def xR : arg14.view.ty.Contents (Elt Ideal) := xC arg14 harg14 x8 (cond0 i) (wordsP arg6 harg6 x0 0 (by omega)) (wordsP arg6 harg6 x0 256 (by omega))
def hM : arg15.view.ty.Contents (Elt Ideal) :=
  hMid i arg15 harg15 x9 (xP arg14 0 (by omega) (xR i arg6 harg6 arg14 harg14 x0 x8)) (rowsP arg7 harg7 x1 0 (by omega)) (w1P arg8 harg8 x2) (s1P arg9 harg9 x3) (w3P arg10 harg10 x4) (s3P arg11 harg11 x5)
    (condA (loP c i xt0 xt2) (hiP c i xt0 xt3)) (k0_pay14 (loP c i xt0 xt2) (hiP c i xt0 xt3))
def hR : arg15.view.ty.Contents (Elt Ideal) :=
  hEnd i arg15 (xP arg14 256 (by omega) (xR i arg6 harg6 arg14 harg14 x0 x8)) (rowsP arg7 harg7 x1 256 (by omega)) (w1P arg8 harg8 x2) (s1P arg9 harg9 x3) (w3P arg10 harg10 x4) (s3P arg11 harg11 x5)
    (condB (loP c i xt0 xt2) (hiP c i xt0 xt3)) (k0_pay41 (loP c i xt0 xt2) (hiP c i xt0 xt3))
    (hM c i arg6 harg6 arg7 harg7 arg8 harg8 arg9 harg9 arg10 harg10 arg11 harg11 arg14 harg14 arg15 harg15 x0 x1 x2 x3 x4 x5 x8 x9 xt0 xt2 xt3)
def aM : arg16.view.ty.Contents (Elt Ideal) :=
  aMid i arg16 harg16 x10 (xP arg14 0 (by omega) (xR i arg6 harg6 arg14 harg14 x0 x8)) (rowsP arg7 harg7 x1 0 (by omega)) (w1P arg8 harg8 x2) (s1P arg9 harg9 x3) (w3P arg10 harg10 x4) (s3P arg11 harg11 x5)
    (condA (loP c i xt0 xt2) (hiP c i xt0 xt3)) (k0_pay14 (loP c i xt0 xt2) (hiP c i xt0 xt3))
def aR : arg16.view.ty.Contents (Elt Ideal) :=
  aEnd i arg16 (xP arg14 256 (by omega) (xR i arg6 harg6 arg14 harg14 x0 x8)) (rowsP arg7 harg7 x1 256 (by omega)) (w1P arg8 harg8 x2) (s1P arg9 harg9 x3) (w3P arg10 harg10 x4) (s3P arg11 harg11 x5)
    (condB (loP c i xt0 xt2) (hiP c i xt0 xt3)) (k0_pay41 (loP c i xt0 xt2) (hiP c i xt0 xt3))
    (aM c i arg6 harg6 arg7 harg7 arg8 harg8 arg9 harg9 arg10 harg10 arg11 harg11 arg14 harg14 arg16 harg16 x0 x1 x2 x3 x4 x5 x8 x10 xt0 xt2 xt3)

theorem run8 : (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.1 = xR i arg6 harg6 arg14 harg14 x0 x8 := rfl
theorem run9 : (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.1 = (hR c i arg6 harg6 arg7 harg7 arg8 harg8 arg9 harg9 arg10 harg10 arg11 harg11 arg14 harg14 arg15 harg15 x0 x1 x2 x3 x4 x5 x8 x9 xt0 xt2 xt3) := rfl
theorem run10 : (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.2.1 = (aR c i arg6 harg6 arg7 harg7 arg8 harg8 arg9 harg9 arg10 harg10 arg11 harg11 arg14 harg14 arg16 harg16 x0 x1 x2 x3 x4 x5 x8 x10 xt0 xt2 xt3) := rfl
theorem run7 : (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.1 = scalesC arg13 harg13 x7 (k0_cond4 i (kernelRun0_A.sl.r_40 c i xt0) (kernelRun0_A.sl.r_41 c i xt0)) (allP arg16 (aR c i arg6 harg6 arg7 harg7 arg8 harg8 arg9 harg9 arg10 harg10 arg11 harg11 arg14 harg14 arg16 harg16 x0 x1 x2 x3 x4 x5 x8 x10 xt0 xt2 xt3)) := rfl
theorem run6 : (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).1 = codesC arg12 harg12 x6 (k0_cond4 i (kernelRun0_A.sl.r_40 c i xt0) (kernelRun0_A.sl.r_41 c i xt0)) (allP arg16 (aR c i arg6 harg6 arg7 harg7 arg8 harg8 arg9 harg9 arg10 harg10 arg11 harg11 arg14 harg14 arg16 harg16 x0 x1 x2 x3 x4 x5 x8 x10 xt0 xt2 xt3)) (colP arg15 (hR c i arg6 harg6 arg7 harg7 arg8 harg8 arg9 harg9 arg10 harg10 arg11 harg11 arg14 harg14 arg15 harg15 x0 x1 x2 x3 x4 x5 x8 x9 xt0 xt2 xt3)) := rfl

end Cert.UpExIdeal.Gen

end
-- ==== Proof.UpExRead.lean ====
/- What the lists of pieces hold, read back: the codes decoded, the hidden activations, the running maxima. -/
module

public import proofs.«01_k».proof.Proof.UpExBlock
public import proofs.«01_k».proof.Proof.UpExMath
public import proofs.«01_k».proof.Proof.DownIdealBlock

@[expose] public section

set_option maxRecDepth 16384

noncomputable section

namespace Cert.UpExIdeal.Gen

open Idealize.ShloMosaic Idealize.ShloMosaic.TcCoe Idealize.ShloMosaic.WordCmp Idealize.SL Idealize.SL.Sem Cert.Quant Cert.Up

/-- A point in a rectangle of given corner and extents. -/
theorem mem_rect {n N b o h w : ℕ} (inb : ∀ a, (![b, o] : Fin 2 → ℕ) a + (![h, w] : Fin 2 → ℕ) a ≤ (⟨2, ![n, N]⟩ : Shape).size a) (y : (⟨2, ![n, N]⟩ : Shape).Idx)
    (h0 : b ≤ (y 0).val ∧ (y 0).val < b + h) (h1 : o ≤ (y 1).val ∧ (y 1).val < o + w) : y ∈ (Rect.unit (s := ⟨2, ![n, N]⟩) ![b, o] ![h, w] inb).set := by
  rw [Rect.mem_set_unit]
  intro a; match a with
  | 0 => exact h0
  | 1 => exact h1
theorem mem_rect' {n N b o h w : ℕ} (off : Fin 2 → ℕ) (hoff : off = ![b, o]) (inb : ∀ a, off a + (![h, w] : Fin 2 → ℕ) a ≤ (⟨2, ![n, N]⟩ : Shape).size a) (y : (⟨2, ![n, N]⟩ : Shape).Idx)
    (h0 : b ≤ (y 0).val ∧ (y 0).val < b + h) (h1 : o ≤ (y 1).val ∧ (y 1).val < o + w) : y ∈ (Rect.unit (s := ⟨2, ![n, N]⟩) off ![h, w] inb).set := by
  subst hoff; exact mem_rect inb y h0 h1

/-! ## The codes -/

theorem word10 (w : Vec Ideal S256x640 .i32) (p : Fin 256) (q : Fin 640) : k0_pay10 w (ix2 p q) = dec 0#32 (w (ix2 p q)) := by pointwise [k0_pay10]; rfl
theorem word11 (w : Vec Ideal S256x640 .i32) (p : Fin 256) (q : Fin 640) : k0_pay11 w (ix2 p q) = dec 8#32 (w (ix2 p q)) := by pointwise [k0_pay11]; rfl
theorem word12 (w : Vec Ideal S256x640 .i32) (p : Fin 256) (q : Fin 640) : k0_pay12 w (ix2 p q) = dec 16#32 (w (ix2 p q)) := by pointwise [k0_pay12]; rfl
theorem word13 (w : Vec Ideal S256x640 .i32) (p : Fin 256) (q : Fin 640) : k0_pay13 w (ix2 p q) = dec 24#32 (w (ix2 p q)) := by pointwise [k0_pay13]; rfl
theorem word1 (w : Vec Ideal S256x640 .i32) (p : Fin 256) (q : Fin 640) : k0_pay1 w (ix2 p q) = dec 0#32 (w (ix2 p q)) := by pointwise [k0_pay1]; rfl
theorem word2 (w : Vec Ideal S256x640 .i32) (p : Fin 256) (q : Fin 640) : k0_pay2 w (ix2 p q) = dec 8#32 (w (ix2 p q)) := by pointwise [k0_pay2]; rfl
theorem word3 (w : Vec Ideal S256x640 .i32) (p : Fin 256) (q : Fin 640) : k0_pay3 w (ix2 p q) = dec 16#32 (w (ix2 p q)) := by pointwise [k0_pay3]; rfl
theorem word4 (w : Vec Ideal S256x640 .i32) (p : Fin 256) (q : Fin 640) : k0_pay4 w (ix2 p q) = dec 24#32 (w (ix2 p q)) := by pointwise [k0_pay4]; rfl

/-- All the codes of a block of words. -/
def decG (x0 : Vec Ideal S512x640 .i32) (y : S512x2560.Idx) : EReal := decAt (fun q => x0 (ix2 (y 0) q)) (y 1)
theorem decG_ix (x0 : Vec Ideal S512x640 .i32) (r : Fin 512) (k : Fin 2560) : decG x0 (ix2 r k) = decAt (fun q => x0 (ix2 r q)) k := rfl

theorem word_piece (x0 : Vec Ideal S512x640 .i32) (b s o : ℕ) (ho : o = 640 * s) (inb : ∀ a, (![b, o] : Fin 2 → ℕ) a + S256x640.size a ≤ S512x2560.size a)
    (w : Vec Ideal S256x640 .i32) (hb : b + 256 ≤ 512) (hw : ∀ p q, w (ix2 p q) = x0 (ix2 (⟨b + p.val, by omega⟩ : Fin 512) q))
    (v : FVec Ideal S256x640 .fp8e4m3) (hv : ∀ p q, v (ix2 p q) = dec (BitVec.ofNat 32 (8 * s)) (w (ix2 p q))) (x : S256x640.Idx) :
    v x = decG x0 ((Rect.unit (s := S512x2560) ![b, o] S256x640.size inb).emb x) := by
  obtain ⟨p, q, rfl⟩ : ∃ (p : Fin 256) (q : Fin 640), x = ix2 p q := ⟨x 0, x 1, funext fun | 0 => rfl | 1 => rfl⟩
  have hs := inb 1
  have hs' : o + 640 ≤ 2560 := hs
  have e : (Rect.unit (s := S512x2560) ![b, o] S256x640.size inb).emb (ix2 p q) = ix2 (⟨b + p.val, by omega⟩ : Fin 512) (⟨o + q.val, by omega⟩ : Fin 2560) :=
    funext fun | 0 => Fin.ext (by show b + 1 * p.val = b + p.val; omega) | 1 => Fin.ext (by show o + 1 * q.val = o + q.val; omega)
  rw [hv, hw, e, decG_ix, decAt_eq _ s q _ (by show o + q.val = _; omega)]

variable (c : Dev nD) (i : grid0.Coords) (arg6 : Memref sig .tc .vmem S512x640 .i32) (harg6 : arg6.IsWhole) (arg7 : Memref sig .tc .vmem S512x1 .f32) (harg7 : arg7.IsWhole) (arg8 : Memref sig .tc .vmem S1x2560x2304 .fp8e4m3) (harg8 : arg8.IsWhole) (arg9 : Memref sig .tc .vmem S1x1x2304 .f32) (harg9 : arg9.IsWhole) (arg10 : Memref sig .tc .vmem S1x2560x2304 .fp8e4m3) (harg10 : arg10.IsWhole) (arg11 : Memref sig .tc .vmem S1x1x2304 .f32) (harg11 : arg11.IsWhole) (arg12 : Memref sig .tc .vmem S512x6912 .fp8e4m3) (harg12 : arg12.IsWhole) (arg13 : Memref sig .tc .vmem S512x1 .f32) (harg13 : arg13.IsWhole) (arg14 : Memref sig .tc .vmem S512x2560 .fp8e4m3) (harg14 : arg14.IsWhole) (arg15 : Memref sig .tc .vmem S512x6912 .f32) (harg15 : arg15.IsWhole) (arg16 : Memref sig .tc .vmem S512x128 .f32) (harg16 : arg16.IsWhole)
    (x0 : Vec Ideal S512x640 .i32) (x1 : Vec Ideal S512x1 .f32) (x2 : Vec Ideal S1x2560x2304 .fp8e4m3) (x3 : Vec Ideal S1x1x2304 .f32) (x4 : Vec Ideal S1x2560x2304 .fp8e4m3) (x5 : Vec Ideal S1x1x2304 .f32) (x6 : Vec Ideal S512x6912 .fp8e4m3) (x7 : Vec Ideal S512x1 .f32) (x8 : Vec Ideal S512x2560 .fp8e4m3) (x9 : Vec Ideal S512x6912 .f32) (x10 : Vec Ideal S512x128 .f32) (xt0 : TbBuf0 (F := Ideal) c tbM0_0) (xt1 : TbBuf0 (F := Ideal) c tbM0_1) (xt2 : TbBuf0 (F := Ideal) c tbM0_2) (xt3 : TbBuf0 (F := Ideal) c tbM0_3)

theorem wordsP_apply (b : ℕ) (hb : b + 256 ≤ 512) (p : Fin 256) (q : Fin 640) : wordsP arg6 harg6 x0 b hb (ix2 p q) = x0 (ix2 (⟨b + p.val, by omega⟩ : Fin 512) q) :=
  (harg6.readAt_unread x0 _ _).trans (congrArg x0 (funext fun | 0 => Fin.ext (by show b + 1 * p.val = b + p.val; omega) | 1 => Fin.ext (by show 0 + 1 * q.val = q.val; omega)))
theorem rowsP_apply (b : ℕ) (hb : b + 256 ≤ 512) (p : Fin 256) : rowsP arg7 harg7 x1 b hb (ix2 p 0) = x1 (ix2 (⟨b + p.val, by omega⟩ : Fin 512) 0) :=
  (harg7.readAt_unread x1 _ _).trans (congrArg x1 (funext fun | 0 => Fin.ext (by show b + 1 * p.val = b + p.val; omega) | 1 => Fin.ext (by show 0 + 1 * 0 = 0; omega)))
theorem w1P_apply (q : Fin 6) (k : Fin 2560) (l : Fin 384) : w1P arg8 harg8 x2 q (ix3 0 k l) = x2 (ix3 0 k (⟨384 * q.val + l.val, by omega⟩ : Fin 2304)) :=
  (harg8.readAt_unread x2 _ _).trans (congrArg x2 (funext fun | 0 => Fin.ext (by show 0 + 1 * 0 = 0; omega) | 1 => Fin.ext (by show 0 + 1 * k.val = k.val; omega) | 2 => Fin.ext (by show 384 * q.val + 1 * l.val = 384 * q.val + l.val; omega)))
theorem s1P_apply (q : Fin 6) (l : Fin 384) : s1P arg9 harg9 x3 q (ix3 0 0 l) = x3 (ix3 0 0 (⟨384 * q.val + l.val, by omega⟩ : Fin 2304)) :=
  (harg9.readAt_unread x3 _ _).trans (congrArg x3 (funext fun | 0 => Fin.ext (by show 0 + 1 * 0 = 0; omega) | 1 => Fin.ext (by show 0 + 1 * 0 = 0; omega) | 2 => Fin.ext (by show 384 * q.val + 1 * l.val = 384 * q.val + l.val; omega)))
theorem w3P_apply (q : Fin 6) (k : Fin 2560) (l : Fin 384) : w3P arg10 harg10 x4 q (ix3 0 k l) = x4 (ix3 0 k (⟨384 * q.val + l.val, by omega⟩ : Fin 2304)) :=
  (harg10.readAt_unread x4 _ _).trans (congrArg x4 (funext fun | 0 => Fin.ext (by show 0 + 1 * 0 = 0; omega) | 1 => Fin.ext (by show 0 + 1 * k.val = k.val; omega) | 2 => Fin.ext (by show 384 * q.val + 1 * l.val = 384 * q.val + l.val; omega)))
theorem s3P_apply (q : Fin 6) (l : Fin 384) : s3P arg11 harg11 x5 q (ix3 0 0 l) = x5 (ix3 0 0 (⟨384 * q.val + l.val, by omega⟩ : Fin 2304)) :=
  (harg11.readAt_unread x5 _ _).trans (congrArg x5 (funext fun | 0 => Fin.ext (by show 0 + 1 * 0 = 0; omega) | 1 => Fin.ext (by show 0 + 1 * 0 = 0; omega) | 2 => Fin.ext (by show 384 * q.val + 1 * l.val = 384 * q.val + l.val; omega)))
theorem xP_apply (b : ℕ) (hb : b + 256 ≤ 512) (g : arg14.view.ty.Contents (Elt Ideal)) (p : Fin 256) (k : Fin 2560) :
    xP arg14 b hb g (ix2 p k) = arg14.view.read (Elt Ideal) g (ix2 (⟨b + p.val, by omega⟩ : Fin 512) k) :=
  congrArg (arg14.view.read (Elt Ideal) g) (funext fun | 0 => Fin.ext (by show b + 1 * p.val = b + p.val; omega) | 1 => Fin.ext (by show 0 + 1 * k.val = k.val; omega))

theorem cond0_iff : cond0 i = 1#1 ↔ (i 1).val = 0 := by
  have h3 : (i 1).val < 3 := (i 1).isLt
  unfold cond0
  generalize (i 1).val = j at *
  rcases (by omega : j = 0 ∨ j = 1 ∨ j = 2) with rfl | rfl | rfl <;> decide

/-- The codes' scratch after the body. -/
theorem xR_apply (y : S512x2560.Idx) : arg14.view.read (Elt Ideal) (xR i arg6 harg6 arg14 harg14 x0 x8) y = if (i 1).val = 0 then decG x0 y else x8 y := by
  unfold xR xC
  split
  · rename_i hc
    rw [if_pos ((cond0_iff i).1 hc)]
    refine Cert.DownExIdeal.Gen.read_writes_fn (Val := Elt Ideal) (e := .fp8e4m3) _ _ (decG x0) y _ ?_ (.inr ?_)
    · unfold xL
      simp only [List.forall_mem_cons, List.not_mem_nil, false_imp_iff, implies_true, and_true]
      refine ⟨?_, ?_, ?_, ?_, ?_, ?_, ?_, ?_⟩
      · exact word_piece x0 256 3 1920 rfl inb_S512x2560_S256x640_256_1920 _ (by omega) (wordsP_apply arg6 harg6 x0 256 (by omega)) _ (word4 _)
      · exact word_piece x0 256 2 1280 rfl inb_S512x2560_S256x640_256_1280 _ (by omega) (wordsP_apply arg6 harg6 x0 256 (by omega)) _ (word3 _)
      · exact word_piece x0 256 1 640 rfl inb_S512x2560_S256x640_256_640 _ (by omega) (wordsP_apply arg6 harg6 x0 256 (by omega)) _ (word2 _)
      · exact word_piece x0 256 0 0 rfl inb_S512x2560_S256x640_256_0 _ (by omega) (wordsP_apply arg6 harg6 x0 256 (by omega)) _ (word1 _)
      · exact word_piece x0 0 3 1920 rfl inb_S512x2560_S256x640_0_1920 _ (by omega) (wordsP_apply arg6 harg6 x0 0 (by omega)) _ (word13 _)
      · exact word_piece x0 0 2 1280 rfl inb_S512x2560_S256x640_0_1280 _ (by omega) (wordsP_apply arg6 harg6 x0 0 (by omega)) _ (word12 _)
      · exact word_piece x0 0 1 640 rfl inb_S512x2560_S256x640_0_640 _ (by omega) (wordsP_apply arg6 harg6 x0 0 (by omega)) _ (word11 _)
      · exact word_piece x0 0 0 0 rfl inb_S512x2560_S256x640_0_0 _ (by omega) (wordsP_apply arg6 harg6 x0 0 (by omega)) _ (word10 _)
    · have h0 : (y 0).val < 512 := (y 0).isLt
      have h1 : (y 1).val < 2560 := (y 1).isLt
      unfold xL
      by_cases hb : (y 0).val < 256
      · rcases (by omega : (1920 ≤ (y 1).val) ∨ (1280 ≤ (y 1).val ∧ (y 1).val < 1920) ∨ (640 ≤ (y 1).val ∧ (y 1).val < 1280) ∨ (y 1).val < 640) with k | k | k | k
        · exact ⟨_, .tail _ (.tail _ (.tail _ (.tail _ (.head _)))), mem_rect inb_S512x2560_S256x640_0_1920 y (by omega) (by omega)⟩
        · exact ⟨_, .tail _ (.tail _ (.tail _ (.tail _ (.tail _ (.head _))))), mem_rect inb_S512x2560_S256x640_0_1280 y (by omega) (by omega)⟩
        · exact ⟨_, .tail _ (.tail _ (.tail _ (.tail _ (.tail _ (.tail _ (.head _)))))), mem_rect inb_S512x2560_S256x640_0_640 y (by omega) (by omega)⟩
        · exact ⟨_, .tail _ (.tail _ (.tail _ (.tail _ (.tail _ (.tail _ (.tail _ (.head _))))))), mem_rect inb_S512x2560_S256x640_0_0 y (by omega) (by omega)⟩
      · rcases (by omega : (1920 ≤ (y 1).val) ∨ (1280 ≤ (y 1).val ∧ (y 1).val < 1920) ∨ (640 ≤ (y 1).val ∧ (y 1).val < 1280) ∨ (y 1).val < 640) with k | k | k | k
        · exact ⟨_, .head _, mem_rect inb_S512x2560_S256x640_256_1920 y (by omega) (by omega)⟩
        · exact ⟨_, .tail _ (.head _), mem_rect inb_S512x2560_S256x640_256_1280 y (by omega) (by omega)⟩
        · exact ⟨_, .tail _ (.tail _ (.head _)), mem_rect inb_S512x2560_S256x640_256_640 y (by omega) (by omega)⟩
        · exact ⟨_, .tail _ (.tail _ (.tail _ (.head _))), mem_rect inb_S512x2560_S256x640_256_0 y (by omega) (by omega)⟩
  · rename_i hc
    rw [if_neg fun k => hc ((cond0_iff i).2 k)]
    exact congrFun (harg14.read_unread x8) y

/-- The hidden activation of row `r` and the chunk's column `n`, from the codes `X`. -/
def hF (X : S512x2560.Idx → EReal) (r : Fin 512) (n : ℕ) : EReal :=
  if hn : n < 2304 then hid ((∑ k : Fin 2560, X (ix2 r k) * x2 (ix3 0 k ⟨n, hn⟩)) * x1 (ix2 r 0) * x3 (ix3 0 0 ⟨n, hn⟩))
    ((∑ k : Fin 2560, X (ix2 r k) * x4 (ix3 0 k ⟨n, hn⟩)) * x1 (ix2 r 0) * x5 (ix3 0 0 ⟨n, hn⟩)) else 0

theorem hV_F (b : ℕ) (hb : b + 256 ≤ 512) (g : arg14.view.ty.Contents (Elt Ideal)) (q : Fin 6) (p : Fin 256) (l : Fin 384) :
    hV (xP arg14 b hb g) (rowsP arg7 harg7 x1 b hb) (w1P arg8 harg8 x2 q) (s1P arg9 harg9 x3 q) (w3P arg10 harg10 x4 q) (s3P arg11 harg11 x5 q) (ix2 p l)
      = hF x1 x2 x3 x4 x5 (arg14.view.read (Elt Ideal) g) ⟨b + p.val, by omega⟩ (384 * q.val + l.val) := by
  rw [hV_apply]
  simp only [xP_apply, w1P_apply, w3P_apply, s1P_apply, s3P_apply, rowsP_apply]
  unfold hF
  rw [dif_pos (by omega : 384 * q.val + l.val < 2304)]

/-! ## The hidden activations -/

theorem off2_eq (q : Fin 6) : off2 i q = ![0, 2304 * (i 1).val + 384 * q.val] := by
  have h3 : (i 1).val < 3 := (i 1).isLt
  show ![0, (Scalar.indexCast (Scalar.addi (Scalar.muli (BitVec.ofNat 32 (i 1).val) 2304#32) (BitVec.ofNat 32 (384 * q.val)))).toNat] = _
  generalize (i 1).val = j at *
  rcases (by omega : j = 0 ∨ j = 1 ∨ j = 2) with rfl | rfl | rfl <;> revert q <;> decide
theorem off3_eq (q : Fin 6) : off3 i q = ![256, 2304 * (i 1).val + 384 * q.val] := by
  have h3 : (i 1).val < 3 := (i 1).isLt
  show ![256, (Scalar.indexCast (Scalar.addi (Scalar.muli (BitVec.ofNat 32 (i 1).val) 2304#32) (BitVec.ofNat 32 (384 * q.val)))).toNat] = _
  generalize (i 1).val = j at *
  rcases (by omega : j = 0 ∨ j = 1 ∨ j = 2) with rfl | rfl | rfl <;> revert q <;> decide

/-- What a point leaves of the hidden activations: the item's rows from `lo` to `hi`, above row `z`, get the chunk's 2304 columns. -/
def blockH (hf : Fin 512 → ℕ → EReal) (old : S512x6912.Idx → EReal) (lo hi z j : ℕ) (y : S512x6912.Idx) : EReal :=
  if (lo ≤ (y 0).val ∧ (y 0).val < hi) ∧ (y 0).val < z ∧ 2304 * j ≤ (y 1).val ∧ (y 1).val < 2304 * j + 2304 then hf (y 0) ((y 1).val - 2304 * j) else old y

theorem putV_H (hf : Fin 512 → ℕ → EReal) (old9 : S512x6912.Idx → EReal) (lo hi z j b : ℕ) (hb : b + 256 ≤ 512) (hz : b + 256 ≤ z) (q : Fin 6)
    (off : Fin 2 → ℕ) (hoff : off = ![b, 2304 * j + 384 * q.val]) (inb : ∀ a, off a + S256x384.size a ≤ S512x6912.size a)
    (mine : IVec S256x1 1) (hm : ∀ p : Fin 256, mine (ix2 p 0) = 1#1 ↔ lo ≤ b + p.val ∧ b + p.val < hi)
    (v : FVec Ideal S256x384 .f32) (hv : ∀ p l, v (ix2 p l) = hf ⟨b + p.val, by omega⟩ (384 * q.val + l.val)) (g : arg15.view.ty.Contents (Elt Ideal))
    (hg : ∀ y : S512x6912.Idx, b ≤ (y 0).val → arg15.view.read (Elt Ideal) g y = old9 y) (x : S256x384.Idx) :
    putV mine (View.readAt (Elt Ideal) arg15.view (Rect.unit (s := S512x6912) off S256x384.size inb).toLoadRect g) v x
      = blockH hf old9 lo hi z j ((Rect.unit (s := S512x6912) off S256x384.size inb).emb x) := by
  obtain ⟨p, l, rfl⟩ : ∃ (p : Fin 256) (l : Fin 384), x = ix2 p l := ⟨x 0, x 1, funext fun | 0 => rfl | 1 => rfl⟩
  subst hoff
  have hq := q.isLt
  have hl := l.isLt
  rw [putV_apply, hv]
  have r : View.readAt (Elt Ideal) arg15.view (Rect.unit (s := S512x6912) ![b, 2304 * j + 384 * q.val] S256x384.size inb).toLoadRect g (ix2 p l)
      = old9 ((Rect.unit (s := S512x6912) ![b, 2304 * j + 384 * q.val] S256x384.size inb).emb (ix2 p l)) := hg _ (by show b ≤ b + 1 * p.val; omega)
  rw [r]
  have e0 : (Rect.unit (s := S512x6912) ![b, 2304 * j + 384 * q.val] S256x384.size inb).emb (ix2 p l) 0 = (⟨b + p.val, by omega⟩ : Fin 512) := Fin.ext (by show b + 1 * p.val = b + p.val; omega)
  have e1 : ((Rect.unit (s := S512x6912) ![b, 2304 * j + 384 * q.val] S256x384.size inb).emb (ix2 p l) 1).val = 2304 * j + 384 * q.val + l.val := by
    show 2304 * j + 384 * q.val + 1 * l.val = _; omega
  unfold blockH
  rw [e0, e1]
  have c : (lo ≤ b + p.val ∧ b + p.val < hi) ↔ ((lo ≤ (⟨b + p.val, by omega⟩ : Fin 512).val ∧ (⟨b + p.val, by omega⟩ : Fin 512).val < hi) ∧ (⟨b + p.val, by omega⟩ : Fin 512).val < z
      ∧ 2304 * j ≤ 2304 * j + 384 * q.val + l.val ∧ 2304 * j + 384 * q.val + l.val < 2304 * j + 2304) :=
    ⟨fun h => ⟨h, by show b + p.val < z; omega, by omega, by omega⟩, fun h => h.1⟩
  by_cases h : lo ≤ b + p.val ∧ b + p.val < hi
  · rw [if_pos ((hm p).2 h), if_pos (c.1 h)]
    congr 1
    omega
  · rw [if_neg (fun k => h ((hm p).1 k)), if_neg (fun k => h (c.2 k))]

/-- Six chunks over contents that are the old ones from row `b` on. -/
theorem list_H (hf : Fin 512 → ℕ → EReal) (old9 : S512x6912.Idx → EReal) (lo hi j b : ℕ) (hb : b + 256 ≤ 512)
    (off : Fin 6 → Fin 2 → ℕ) (hoff : ∀ q, off q = ![b, 2304 * j + 384 * q.val]) (inb : ∀ q a, off q a + S256x384.size a ≤ S512x6912.size a)
    (mine : IVec S256x1 1) (hm : ∀ p : Fin 256, mine (ix2 p 0) = 1#1 ↔ lo ≤ b + p.val ∧ b + p.val < hi)
    (X : Vec Ideal S256x2560 .fp8e4m3) (S : Vec Ideal S256x1 .f32) (W1 : Fin 6 → Vec Ideal S1x2560x384 .fp8e4m3) (S1 : Fin 6 → Vec Ideal S1x1x384 .f32)
    (W3 : Fin 6 → Vec Ideal S1x2560x384 .fp8e4m3) (S3 : Fin 6 → Vec Ideal S1x1x384 .f32)
    (hv : ∀ q : Fin 6, ∀ p l, hV X S (W1 q) (S1 q) (W3 q) (S3 q) (ix2 p l) = hf ⟨b + p.val, by omega⟩ (384 * q.val + l.val)) (g : arg15.view.ty.Contents (Elt Ideal))
    (hg : ∀ y : S512x6912.Idx, arg15.view.read (Elt Ideal) g y = blockH hf old9 lo hi b j y) (y : S512x6912.Idx) :
    arg15.view.read (Elt Ideal) (arg15.view.writes (Elt Ideal) g (hLs X S W1 S1 W3 S3 mine off inb (oldP arg15 off inb g))) y = blockH hf old9 lo hi (b + 256) j y := by
  have hg' (y : S512x6912.Idx) (h : b ≤ (y 0).val) : arg15.view.read (Elt Ideal) g y = old9 y := (hg y).trans (if_neg fun k => by omega)
  refine Cert.DownExIdeal.Gen.read_writes_fn (Val := Elt Ideal) (e := .f32) _ _ (blockH hf old9 lo hi (b + 256) j) y _ ?_ ?_
  · unfold hLs
    simp only [List.forall_mem_cons, List.not_mem_nil, false_imp_iff, implies_true, and_true]
    refine ⟨?_, ?_, ?_, ?_, ?_, ?_⟩
    · exact putV_H arg15 hf old9 lo hi (b + 256) j b hb le_rfl 5 _ (hoff 5) (inb 5) mine hm _ (hv 5) g hg'
    · exact putV_H arg15 hf old9 lo hi (b + 256) j b hb le_rfl 4 _ (hoff 4) (inb 4) mine hm _ (hv 4) g hg'
    · exact putV_H arg15 hf old9 lo hi (b + 256) j b hb le_rfl 3 _ (hoff 3) (inb 3) mine hm _ (hv 3) g hg'
    · exact putV_H arg15 hf old9 lo hi (b + 256) j b hb le_rfl 2 _ (hoff 2) (inb 2) mine hm _ (hv 2) g hg'
    · exact putV_H arg15 hf old9 lo hi (b + 256) j b hb le_rfl 1 _ (hoff 1) (inb 1) mine hm _ (hv 1) g hg'
    · exact putV_H arg15 hf old9 lo hi (b + 256) j b hb le_rfl 0 _ (hoff 0) (inb 0) mine hm _ (hv 0) g hg'
  · by_cases h : (b ≤ (y 0).val ∧ (y 0).val < b + 256) ∧ 2304 * j ≤ (y 1).val ∧ (y 1).val < 2304 * j + 2304
    · refine .inr ?_
      have key (q : Fin 6) (k : 384 * q.val ≤ (y 1).val - 2304 * j ∧ (y 1).val - 2304 * j < 384 * q.val + 384) : y ∈ (Rect.unit (s := S512x6912) (off q) S256x384.size (inb q)).set :=
        mem_rect' (off q) (hoff q) (inb q) y h.1 (by omega)
      unfold hLs
      obtain ⟨n, hn⟩ : ∃ n, n = ((y 1).val - 2304 * j) / 384 := ⟨_, rfl⟩
      rcases (by omega : n = 0 ∨ n = 1 ∨ n = 2 ∨ n = 3 ∨ n = 4 ∨ n = 5) with k | k | k | k | k | k
      · exact ⟨_, .tail _ (.tail _ (.tail _ (.tail _ (.tail _ (.head _))))), key 0 (by show 384 * 0 ≤ _ ∧ _; omega)⟩
      · exact ⟨_, .tail _ (.tail _ (.tail _ (.tail _ (.head _)))), key 1 (by show 384 * 1 ≤ _ ∧ _ < 384 * 1 + 384; omega)⟩
      · exact ⟨_, .tail _ (.tail _ (.tail _ (.head _))), key 2 (by show 384 * 2 ≤ _ ∧ _ < 384 * 2 + 384; omega)⟩
      · exact ⟨_, .tail _ (.tail _ (.head _)), key 3 (by show 384 * 3 ≤ _ ∧ _ < 384 * 3 + 384; omega)⟩
      · exact ⟨_, .tail _ (.head _), key 4 (by show 384 * 4 ≤ _ ∧ _ < 384 * 4 + 384; omega)⟩
      · exact ⟨_, .head _, key 5 (by show 384 * 5 ≤ _ ∧ _ < 384 * 5 + 384; omega)⟩
    · refine .inl ((hg y).trans ?_)
      unfold blockH
      congr 1
      rw [eq_iff_iff]
      omega

/-! ## The tests -/

private theorem ofBool_one (b : Bool) : BitVec.ofBool b = 1#1 ↔ b = true := by cases b <;> decide
private theorem andi_one (a b : BitVec 1) : IntOp.andi a b = 1#1 ↔ a = 1#1 ∧ b = 1#1 := by revert a b; decide
private theorem extui_one (a : BitVec 1) : Scalar.cmpi .ne (Scalar.extui a : BitVec 32) 0#32 = 1#1 ↔ a = 1#1 := by revert a; decide
private theorem toInt_small (x : BitVec 32) (h : x.toNat ≤ 1024) : x.toInt = (x.toNat : ℤ) := by
  rw [BitVec.toInt_eq_toNat_cond, if_pos (by omega)]

theorem mine_upper (v5 v8 : BitVec 32) (h5 : v5.toNat ≤ 512) (h8 : v8.toNat ≤ 512) (p : Fin 256) :
    k0_pay14 v5 v8 (ix2 p 0) = 1#1 ↔ v5.toNat ≤ 0 + p.val ∧ 0 + p.val < v8.toNat := by
  pointwise [k0_pay14]
  have e : (IntOp.addi (BitVec.ofNat 32 p.val) 0#32).toNat = p.val := by
    simp only [IntOp.addi, BitVec.toNat_add, BitVec.toNat_ofNat]; omega
  rw [andi_one, cmpi_sge_eq, cmpi_slt_eq, ofBool_one, ofBool_one, decide_eq_true_eq, decide_eq_true_eq,
    toInt_small _ (by omega : v5.toNat ≤ 1024), toInt_small _ (by omega : v8.toNat ≤ 1024), toInt_small _ (by omega), e]
  omega
theorem mine_lower (v5 v8 : BitVec 32) (h5 : v5.toNat ≤ 512) (h8 : v8.toNat ≤ 512) (p : Fin 256) :
    k0_pay41 v5 v8 (ix2 p 0) = 1#1 ↔ v5.toNat ≤ 256 + p.val ∧ 256 + p.val < v8.toNat := by
  pointwise [k0_pay41]
  have e : (IntOp.addi (BitVec.ofNat 32 p.val) 256#32).toNat = 256 + p.val := by
    simp only [IntOp.addi, BitVec.toNat_add, BitVec.toNat_ofNat]; omega
  rw [andi_one, cmpi_sge_eq, cmpi_slt_eq, ofBool_one, ofBool_one, decide_eq_true_eq, decide_eq_true_eq,
    toInt_small _ (by omega : v5.toNat ≤ 1024), toInt_small _ (by omega : v8.toNat ≤ 1024), toInt_small _ (by omega), e]
  omega
theorem condA_iff (a b : BitVec 32) (h5 : a.toNat ≤ 512) (h8 : b.toNat ≤ 512) : condA a b = 1#1 ↔ a.toNat < 256 ∧ 0 < b.toNat := by
  unfold condA
  rw [extui_one]
  show IntOp.andi (IntOp.cmpi .slt a 256#32) (IntOp.cmpi .sgt b 0#32) = 1#1 ↔ _
  rw [andi_one, cmpi_slt_eq, cmpi_sgt_eq, ofBool_one, ofBool_one, decide_eq_true_eq, decide_eq_true_eq,
    toInt_small _ (by omega : a.toNat ≤ 1024), toInt_small _ (by omega : b.toNat ≤ 1024)]
  simp
theorem condB_iff (a b : BitVec 32) (h5 : a.toNat ≤ 512) (h8 : b.toNat ≤ 512) : condB a b = 1#1 ↔ a.toNat < 512 ∧ 256 < b.toNat := by
  unfold condB
  rw [extui_one]
  show IntOp.andi (IntOp.cmpi .slt a 512#32) (IntOp.cmpi .sgt b 256#32) = 1#1 ↔ _
  rw [andi_one, cmpi_slt_eq, cmpi_sgt_eq, ofBool_one, ofBool_one, decide_eq_true_eq, decide_eq_true_eq,
    toInt_small _ (by omega : a.toNat ≤ 1024), toInt_small _ (by omega : b.toNat ≤ 1024)]
  simp

/-! ## The running maxima -/

/-- What a point leaves of the maxima. -/
def blockA (hf : Fin 512 → ℕ → EReal) (old : S512x128.Idx → EReal) (lo hi z j : ℕ) (y : S512x128.Idx) : EReal :=
  if (lo ≤ (y 0).val ∧ (y 0).val < hi) ∧ (y 0).val < z then (if j = 0 then lane 18 (hf (y 0)) (y 1).val else max (lane 18 (hf (y 0)) (y 1).val) (old y)) else old y

theorem list_A (hf : Fin 512 → ℕ → EReal) (old10 : S512x128.Idx → EReal) (lo hi b : ℕ) (hb : b + 256 ≤ 512)
    (inb : ∀ a, (![b, 0] : Fin 2 → ℕ) a + (![256, 128] : Fin 2 → ℕ) a ≤ S512x128.size a)
    (mine : IVec S256x1 1) (hm : ∀ p : Fin 256, mine (ix2 p 0) = 1#1 ↔ lo ≤ b + p.val ∧ b + p.val < hi)
    (X : Vec Ideal S256x2560 .fp8e4m3) (S : Vec Ideal S256x1 .f32) (W1 : Fin 6 → Vec Ideal S1x2560x384 .fp8e4m3) (S1 : Fin 6 → Vec Ideal S1x1x384 .f32)
    (W3 : Fin 6 → Vec Ideal S1x2560x384 .fp8e4m3) (S3 : Fin 6 → Vec Ideal S1x1x384 .f32)
    (hv : ∀ q : Fin 6, ∀ p l, hV X S (W1 q) (S1 q) (W3 q) (S3 q) (ix2 p l) = hf ⟨b + p.val, by omega⟩ (384 * q.val + l.val)) (g : arg16.view.ty.Contents (Elt Ideal))
    (hg : ∀ y : S512x128.Idx, arg16.view.read (Elt Ideal) g y = blockA hf old10 lo hi b (i 1).val y) (y : S512x128.Idx) :
    arg16.view.read (Elt Ideal) (arg16.view.writes (Elt Ideal) g [⟨Rect.unit (s := S512x128) ![b, 0] ![256, 128] inb,
      k0_pay6 i mine (mCs X S W1 S1 W3 S3) (hV X S (W1 5) (S1 5) (W3 5) (S3 5)) (lanesP arg16 b hb g)⟩]) y = blockA hf old10 lo hi (b + 256) (i 1).val y := by
  refine Cert.DownExIdeal.Gen.read_writes_fn (Val := Elt Ideal) (e := .f32) _ _ (blockA hf old10 lo hi (b + 256) (i 1).val) y _ ?_ ?_
  · simp only [List.forall_mem_cons, List.not_mem_nil, false_imp_iff, implies_true, and_true]
    intro x
    obtain ⟨p, l, rfl⟩ : ∃ (p : Fin 256) (l : Fin 128), x = ix2 p l := ⟨x 0, x 1, funext fun | 0 => rfl | 1 => rfl⟩
    rw [keep_apply]
    have r : lanesP arg16 b hb g (ix2 p l) = old10 ((Rect.unit (s := S512x128) ![b, 0] ![256, 128] inb).emb (ix2 p l)) := by
      refine (hg ((Rect.unit (s := S512x128) ![b, 0] ![256, 128] inb).emb (ix2 p l))).trans (if_neg fun k => ?_)
      have : b + 1 * p.val < b := k.2
      omega
    have e0 : (Rect.unit (s := S512x128) ![b, 0] ![256, 128] inb).emb (ix2 p l) 0 = (⟨b + p.val, by omega⟩ : Fin 512) := Fin.ext (by show b + 1 * p.val = b + p.val; omega)
    have e1 : ((Rect.unit (s := S512x128) ![b, 0] ![256, 128] inb).emb (ix2 p l) 1).val = l.val := by show 0 + 1 * l.val = _; omega
    have mx : maxV (mCs X S W1 S1 W3 S3) (hV X S (W1 5) (S1 5) (W3 5) (S3 5)) (ix2 p l) = lane 18 (hf ⟨b + p.val, by omega⟩) l.val :=
      eq_of_forall_ge_iff fun z => (lanes_le X S W1 S1 W3 S3 (fun p n => hf ⟨b + p.val, by omega⟩ n) hv p l z).trans (lane_le 18 _ l z).symm
    rw [r, mx]
    unfold blockA
    rw [e0, e1]
    by_cases h : lo ≤ b + p.val ∧ b + p.val < hi
    · rw [if_pos ((hm p).2 h), if_pos (⟨h, by show b + p.val < b + 256; omega⟩ : (lo ≤ (⟨b + p.val, by omega⟩ : Fin 512).val ∧ (⟨b + p.val, by omega⟩ : Fin 512).val < hi) ∧ (⟨b + p.val, by omega⟩ : Fin 512).val < b + 256)]
    · rw [if_neg (fun k => h ((hm p).1 k)), if_neg (fun k => h k.1)]
  · by_cases h : b ≤ (y 0).val ∧ (y 0).val < b + 256
    · refine .inr ⟨_, .head _, mem_rect inb y h ?_⟩
      have : (y 1).val < 128 := (y 1).isLt
      omega
    · refine .inl ((hg y).trans ?_)
      unfold blockA
      congr 1
      rw [eq_iff_iff]
      omega

end Cert.UpExIdeal.Gen

end
-- ==== Proof.UpExPoint.lean ====
/- What one grid point of the expert kernel leaves in its five buffers, as values. -/
module

public import proofs.«01_k».proof.Proof.UpExRead

@[expose] public section

set_option maxRecDepth 16384

noncomputable section

namespace Cert.UpExIdeal.Gen

open Idealize.ShloMosaic Idealize.ShloMosaic.TcCoe Idealize.ShloMosaic.WordCmp Idealize.SL Idealize.SL.Sem Cert.Quant Cert.Up

variable (c : Dev nD) (i : grid0.Coords) (arg6 : Memref sig .tc .vmem S512x640 .i32) (harg6 : arg6.IsWhole) (arg7 : Memref sig .tc .vmem S512x1 .f32) (harg7 : arg7.IsWhole) (arg8 : Memref sig .tc .vmem S1x2560x2304 .fp8e4m3) (harg8 : arg8.IsWhole) (arg9 : Memref sig .tc .vmem S1x1x2304 .f32) (harg9 : arg9.IsWhole) (arg10 : Memref sig .tc .vmem S1x2560x2304 .fp8e4m3) (harg10 : arg10.IsWhole) (arg11 : Memref sig .tc .vmem S1x1x2304 .f32) (harg11 : arg11.IsWhole) (arg12 : Memref sig .tc .vmem S512x6912 .fp8e4m3) (harg12 : arg12.IsWhole) (arg13 : Memref sig .tc .vmem S512x1 .f32) (harg13 : arg13.IsWhole) (arg14 : Memref sig .tc .vmem S512x2560 .fp8e4m3) (harg14 : arg14.IsWhole) (arg15 : Memref sig .tc .vmem S512x6912 .f32) (harg15 : arg15.IsWhole) (arg16 : Memref sig .tc .vmem S512x128 .f32) (harg16 : arg16.IsWhole)
    (x0 : Vec Ideal S512x640 .i32) (x1 : Vec Ideal S512x1 .f32) (x2 : Vec Ideal S1x2560x2304 .fp8e4m3) (x3 : Vec Ideal S1x1x2304 .f32) (x4 : Vec Ideal S1x2560x2304 .fp8e4m3) (x5 : Vec Ideal S1x1x2304 .f32) (x6 : Vec Ideal S512x6912 .fp8e4m3) (x7 : Vec Ideal S512x1 .f32) (x8 : Vec Ideal S512x2560 .fp8e4m3) (x9 : Vec Ideal S512x6912 .f32) (x10 : Vec Ideal S512x128 .f32) (xt0 : TbBuf0 (F := Ideal) c tbM0_0) (xt1 : TbBuf0 (F := Ideal) c tbM0_1) (xt2 : TbBuf0 (F := Ideal) c tbM0_2) (xt3 : TbBuf0 (F := Ideal) c tbM0_3)

/-- The codes that the point works with. -/
def xV (y : S512x2560.Idx) : EReal := if (i 1).val = 0 then decG x0 y else x8 y
/-- The hidden activations that it computes. -/
def hW : Fin 512 → ℕ → EReal := hF x1 x2 x3 x4 x5 (xV i x0 x8)

theorem hF_eq : hF x1 x2 x3 x4 x5 (arg14.view.read (Elt Ideal) (xR i arg6 harg6 arg14 harg14 x0 x8)) = hW i x0 x1 x2 x3 x4 x5 x8 := by
  unfold hW
  congr 1
  exact funext (xR_apply i arg6 harg6 arg14 harg14 x0 x8)

section
variable (hlo : (loP c i xt0 xt2).toNat ≤ 512) (hhi : (hiP c i xt0 xt3).toNat ≤ 512)
include hlo hhi

theorem hM_apply (y : S512x6912.Idx) : arg15.view.read (Elt Ideal) (hM c i arg6 harg6 arg7 harg7 arg8 harg8 arg9 harg9 arg10 harg10 arg11 harg11 arg14 harg14 arg15 harg15 x0 x1 x2 x3 x4 x5 x8 x9 xt0 xt2 xt3) y
    = blockH (hW i x0 x1 x2 x3 x4 x5 x8) x9 (loP c i xt0 xt2).toNat (hiP c i xt0 xt3).toNat 256 (i 1).val y := by
  have hc := condA_iff _ _ hlo hhi
  have hm := mine_upper _ _ hlo hhi
  have hv := (hV_F arg7 harg7 arg8 harg8 arg9 harg9 arg10 harg10 arg11 harg11 arg14 x1 x2 x3 x4 x5 0 (by omega) (xR i arg6 harg6 arg14 harg14 x0 x8))
  rw [hF_eq i arg6 harg6 arg14 harg14 x0 x1 x2 x3 x4 x5 x8] at hv
  have old (y : S512x6912.Idx) : arg15.view.read (Elt Ideal) (harg15.unread x9) y = blockH (hW i x0 x1 x2 x3 x4 x5 x8) x9 (loP c i xt0 xt2).toNat (hiP c i xt0 xt3).toNat 0 (i 1).val y :=
    (congrFun (harg15.read_unread x9) y).trans (if_neg fun k => by omega).symm
  unfold hM hMid
  split
  · rw [hL_eq]
    exact list_H arg15 _ x9 _ _ _ 0 (by omega) (off2 i) (off2_eq i) (inb2 i) _ hm _ _ (w1P arg8 harg8 x2) (s1P arg9 harg9 x3) (w3P arg10 harg10 x4) (s3P arg11 harg11 x5) hv _ old y
  · rename_i hn
    refine (old y).trans ?_
    unfold blockH
    congr 1
    rw [eq_iff_iff]
    exact ⟨fun k => by omega, fun k => absurd (hc.2 ⟨by omega, by omega⟩) hn⟩

/-- The hidden activations after the body. -/
theorem hR_apply (y : S512x6912.Idx) : arg15.view.read (Elt Ideal) (hR c i arg6 harg6 arg7 harg7 arg8 harg8 arg9 harg9 arg10 harg10 arg11 harg11 arg14 harg14 arg15 harg15 x0 x1 x2 x3 x4 x5 x8 x9 xt0 xt2 xt3) y
    = blockH (hW i x0 x1 x2 x3 x4 x5 x8) x9 (loP c i xt0 xt2).toNat (hiP c i xt0 xt3).toNat 512 (i 1).val y := by
  have hc := condB_iff _ _ hlo hhi
  have hm := mine_lower _ _ hlo hhi
  have hv := (hV_F arg7 harg7 arg8 harg8 arg9 harg9 arg10 harg10 arg11 harg11 arg14 x1 x2 x3 x4 x5 256 (by omega) (xR i arg6 harg6 arg14 harg14 x0 x8))
  rw [hF_eq i arg6 harg6 arg14 harg14 x0 x1 x2 x3 x4 x5 x8] at hv
  have old := hM_apply c i arg6 harg6 arg7 harg7 arg8 harg8 arg9 harg9 arg10 harg10 arg11 harg11 arg14 harg14 arg15 harg15 x0 x1 x2 x3 x4 x5 x8 x9 xt0 xt2 xt3 hlo hhi
  unfold hR hEnd
  generalize (hM c i arg6 harg6 arg7 harg7 arg8 harg8 arg9 harg9 arg10 harg10 arg11 harg11 arg14 harg14 arg15 harg15 x0 x1 x2 x3 x4 x5 x8 x9 xt0 xt2 xt3) = g at old ⊢
  split
  · rw [hL'_eq]
    exact list_H arg15 _ x9 _ _ _ 256 (by omega) (off3 i) (off3_eq i) (inb3 i) _ hm _ _ (w1P arg8 harg8 x2) (s1P arg9 harg9 x3) (w3P arg10 harg10 x4) (s3P arg11 harg11 x5) hv _ old y
  · rename_i hn
    refine (old y).trans ?_
    have hy : (y 0).val < 512 := (y 0).isLt
    unfold blockH
    congr 1
    rw [eq_iff_iff]
    exact ⟨fun k => by omega, fun k => ⟨k.1, by_contra fun z => absurd (hc.2 ⟨by omega, by omega⟩) hn, k.2.2⟩⟩

theorem aM_apply (y : S512x128.Idx) : arg16.view.read (Elt Ideal) (aM c i arg6 harg6 arg7 harg7 arg8 harg8 arg9 harg9 arg10 harg10 arg11 harg11 arg14 harg14 arg16 harg16 x0 x1 x2 x3 x4 x5 x8 x10 xt0 xt2 xt3) y
    = blockA (hW i x0 x1 x2 x3 x4 x5 x8) x10 (loP c i xt0 xt2).toNat (hiP c i xt0 xt3).toNat 256 (i 1).val y := by
  have hc := condA_iff _ _ hlo hhi
  have hm := mine_upper _ _ hlo hhi
  have hv := (hV_F arg7 harg7 arg8 harg8 arg9 harg9 arg10 harg10 arg11 harg11 arg14 x1 x2 x3 x4 x5 0 (by omega) (xR i arg6 harg6 arg14 harg14 x0 x8))
  rw [hF_eq i arg6 harg6 arg14 harg14 x0 x1 x2 x3 x4 x5 x8] at hv
  have old (y : S512x128.Idx) : arg16.view.read (Elt Ideal) (harg16.unread x10) y = blockA (hW i x0 x1 x2 x3 x4 x5 x8) x10 (loP c i xt0 xt2).toNat (hiP c i xt0 xt3).toNat 0 (i 1).val y :=
    (congrFun (harg16.read_unread x10) y).trans (if_neg fun k => by omega).symm
  unfold aM aMid
  split
  · rw [mC_eq]
    exact list_A i arg16 _ x10 _ _ 0 (by omega) inb_S512x128_S256x128_0_0 _ hm _ _ (w1P arg8 harg8 x2) (s1P arg9 harg9 x3) (w3P arg10 harg10 x4) (s3P arg11 harg11 x5) hv _ old y
  · rename_i hn
    refine (old y).trans ?_
    unfold blockA
    congr 1
    rw [eq_iff_iff]
    exact ⟨fun k => by omega, fun k => absurd (hc.2 ⟨by omega, by omega⟩) hn⟩

/-- The running maxima after the body. -/
theorem aR_apply (y : S512x128.Idx) : arg16.view.read (Elt Ideal) (aR c i arg6 harg6 arg7 harg7 arg8 harg8 arg9 harg9 arg10 harg10 arg11 harg11 arg14 harg14 arg16 harg16 x0 x1 x2 x3 x4 x5 x8 x10 xt0 xt2 xt3) y
    = blockA (hW i x0 x1 x2 x3 x4 x5 x8) x10 (loP c i xt0 xt2).toNat (hiP c i xt0 xt3).toNat 512 (i 1).val y := by
  have hc := condB_iff _ _ hlo hhi
  have hm := mine_lower _ _ hlo hhi
  have hv := (hV_F arg7 harg7 arg8 harg8 arg9 harg9 arg10 harg10 arg11 harg11 arg14 x1 x2 x3 x4 x5 256 (by omega) (xR i arg6 harg6 arg14 harg14 x0 x8))
  rw [hF_eq i arg6 harg6 arg14 harg14 x0 x1 x2 x3 x4 x5 x8] at hv
  have old := aM_apply c i arg6 harg6 arg7 harg7 arg8 harg8 arg9 harg9 arg10 harg10 arg11 harg11 arg14 harg14 arg16 harg16 x0 x1 x2 x3 x4 x5 x8 x10 xt0 xt2 xt3 hlo hhi
  unfold aR aEnd
  generalize (aM c i arg6 harg6 arg7 harg7 arg8 harg8 arg9 harg9 arg10 harg10 arg11 harg11 arg14 harg14 arg16 harg16 x0 x1 x2 x3 x4 x5 x8 x10 xt0 xt2 xt3) = g at old ⊢
  split
  · rw [mC'_eq]
    exact list_A i arg16 _ x10 _ _ 256 (by omega) inb_S512x128_S256x128_256_0 _ hm _ _ (w1P arg8 harg8 x2) (s1P arg9 harg9 x3) (w3P arg10 harg10 x4) (s3P arg11 harg11 x5) hv _ old y
  · rename_i hn
    refine (old y).trans ?_
    have hy : (y 0).val < 512 := (y 0).isLt
    unfold blockA
    congr 1
    rw [eq_iff_iff]
    exact ⟨fun k => by omega, fun k => ⟨k.1, by_contra fun z => absurd (hc.2 ⟨by omega, by omega⟩) hn⟩⟩
end

/-! ## The codes and the scales -/

theorem allP_apply (g : arg16.view.ty.Contents (Elt Ideal)) (r : Fin 512) (l : Fin 128) : allP arg16 g (ix2 r l) = arg16.view.read (Elt Ideal) g (ix2 r l) :=
  congrArg (arg16.view.read (Elt Ideal) g) (funext fun | 0 => Fin.ext (by show 0 + 1 * r.val = r.val; omega) | 1 => Fin.ext (by show 0 + 1 * l.val = l.val; omega))
theorem colP_apply (g : arg15.view.ty.Contents (Elt Ideal)) (q : Fin 18) (r : Fin 512) (l : Fin 384) : colP arg15 g q (ix2 r l)
    = arg15.view.read (Elt Ideal) g (ix2 r (⟨384 * q.val + l.val, by omega⟩ : Fin 6912)) :=
  congrArg (arg15.view.read (Elt Ideal) g) (funext fun | 0 => Fin.ext (by show 0 + 1 * r.val = r.val; omega) | 1 => Fin.ext (by show 384 * q.val + 1 * l.val = 384 * q.val + l.val; omega))

/-- A row's scale, from its running maxima, -/
def sG (a : S512x128.Idx → EReal) (r : Fin 512) : EReal := scaleOf (Finset.univ.fold max ⊥ fun l : Fin 128 => a (ix2 r l))
/-- and its codes. -/
def cG (a : S512x128.Idx → EReal) (h : S512x6912.Idx → EReal) (y : S512x6912.Idx) : EReal := codeOf (sG a (y 0)) (h y)
theorem cG_ix (a : S512x128.Idx → EReal) (h : S512x6912.Idx → EReal) (r : Fin 512) (n : Fin 6912) : cG a h (ix2 r n) = codeOf (sG a r) (h (ix2 r n)) := rfl

theorem scales_apply (u : BitVec 1) (g : arg16.view.ty.Contents (Elt Ideal)) (r : Fin 512) :
    arg13.view.read (Elt Ideal) (scalesC arg13 harg13 x7 u (allP arg16 g)) (ix2 r 0) = if u = 1#1 then sG (arg16.view.read (Elt Ideal) g) r else x7 (ix2 r 0) := by
  unfold scalesC
  split
  · refine Cert.DownExIdeal.Gen.read_writes_fn (Val := Elt Ideal) (e := .f32) _ _ (fun y : S512x1.Idx => sG (arg16.view.read (Elt Ideal) g) (y 0)) (ix2 r 0) _ ?_ (.inr ⟨_, .head _, mem_rect inb_S512x1_S512x1_0_0 _ ?_ ?_⟩)
    · simp only [List.forall_mem_cons, List.not_mem_nil, false_imp_iff, implies_true, and_true]
      intro x
      obtain ⟨p, rfl⟩ : ∃ p : Fin 512, x = ix2 p (0 : Fin 1) := ⟨x 0, funext fun | 0 => rfl | 1 => Subsingleton.elim (α := Fin 1) _ _⟩
      have e0 : (Rect.unit (s := S512x1) ![0, 0] S512x1.size inb_S512x1_S512x1_0_0).emb (ix2 p 0) 0 = p := Fin.ext (by show 0 + 1 * p.val = p.val; omega)
      rw [e0, scaleV_apply]
      simp only [allP_apply]
      rfl
    · have := r.isLt
      exact ⟨Nat.zero_le _, by show r.val < 0 + 512; omega⟩
    · exact ⟨le_rfl, by show 0 < 0 + 1; omega⟩
  · exact congrFun (harg13.read_unread x7) _

theorem code_piece (q : Fin 18) (o : ℕ) (ho : o = 384 * q.val) (inb : ∀ a, (![0, o] : Fin 2 → ℕ) a + S512x384.size a ≤ S512x6912.size a)
    (g : arg16.view.ty.Contents (Elt Ideal)) (g' : arg15.view.ty.Contents (Elt Ideal)) (x : S512x384.Idx) :
    k0_pay70 (allP arg16 g) (colP arg15 g' q) x = cG (arg16.view.read (Elt Ideal) g) (arg15.view.read (Elt Ideal) g') ((Rect.unit (s := S512x6912) ![0, o] S512x384.size inb).emb x) := by
  obtain ⟨p, l, rfl⟩ : ∃ (p : Fin 512) (l : Fin 384), x = ix2 p l := ⟨x 0, x 1, funext fun | 0 => rfl | 1 => rfl⟩
  have e : (Rect.unit (s := S512x6912) ![0, o] S512x384.size inb).emb (ix2 p l) = ix2 p (⟨384 * q.val + l.val, by omega⟩ : Fin 6912) :=
    funext fun | 0 => Fin.ext (by show 0 + 1 * p.val = p.val; omega) | 1 => Fin.ext (by show o + 1 * l.val = 384 * q.val + l.val; omega)
  rw [e, codeV_apply, colP_apply, cG_ix]
  simp only [allP_apply]
  rfl

theorem codes_apply (u : BitVec 1) (g : arg16.view.ty.Contents (Elt Ideal)) (g' : arg15.view.ty.Contents (Elt Ideal)) (y : S512x6912.Idx) :
    arg12.view.read (Elt Ideal) (codesC arg12 harg12 x6 u (allP arg16 g) (colP arg15 g')) y
      = if u = 1#1 then cG (arg16.view.read (Elt Ideal) g) (arg15.view.read (Elt Ideal) g') y else x6 y := by
  unfold codesC
  split
  · rw [cL_eq]
    refine Cert.DownExIdeal.Gen.read_writes_fn (Val := Elt Ideal) (e := .fp8e4m3) _ _ (cG (arg16.view.read (Elt Ideal) g) (arg15.view.read (Elt Ideal) g')) y _ ?_ (.inr ?_)
    · unfold cLs
      simp only [List.forall_mem_cons, List.not_mem_nil, false_imp_iff, implies_true, and_true]
      refine ⟨?_, ?_, ?_, ?_, ?_, ?_, ?_, ?_, ?_, ?_, ?_, ?_, ?_, ?_, ?_, ?_, ?_, ?_⟩
      · exact code_piece arg15 arg16 17 6528 rfl (inbC 17) g g'
      · exact code_piece arg15 arg16 16 6144 rfl (inbC 16) g g'
      · exact code_piece arg15 arg16 15 5760 rfl (inbC 15) g g'
      · exact code_piece arg15 arg16 14 5376 rfl (inbC 14) g g'
      · exact code_piece arg15 arg16 13 4992 rfl (inbC 13) g g'
      · exact code_piece arg15 arg16 12 4608 rfl (inbC 12) g g'
      · exact code_piece arg15 arg16 11 4224 rfl (inbC 11) g g'
      · exact code_piece arg15 arg16 10 3840 rfl (inbC 10) g g'
      · exact code_piece arg15 arg16 9 3456 rfl (inbC 9) g g'
      · exact code_piece arg15 arg16 8 3072 rfl (inbC 8) g g'
      · exact code_piece arg15 arg16 7 2688 rfl (inbC 7) g g'
      · exact code_piece arg15 arg16 6 2304 rfl (inbC 6) g g'
      · exact code_piece arg15 arg16 5 1920 rfl (inbC 5) g g'
      · exact code_piece arg15 arg16 4 1536 rfl (inbC 4) g g'
      · exact code_piece arg15 arg16 3 1152 rfl (inbC 3) g g'
      · exact code_piece arg15 arg16 2 768 rfl (inbC 2) g g'
      · exact code_piece arg15 arg16 1 384 rfl (inbC 1) g g'
      · exact code_piece arg15 arg16 0 0 rfl (inbC 0) g g'
    · have h0 : (y 0).val < 512 := (y 0).isLt
      have h1 : (y 1).val < 6912 := (y 1).isLt
      unfold cLs
      obtain ⟨n, hn⟩ : ∃ n, n = (y 1).val / 384 := ⟨_, rfl⟩
      rcases (by omega : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 ∨ n = 16 ∨ n = 17) with k | k | k | k | k | k | k | k | k | k | k | k | k | k | k | k | k | k
      · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_rect (inbC 0) y (by omega) (by show 0 ≤ _ ∧ _ < 0 + 384; omega)⟩
      · exact ⟨_, .tail _ (.tail _ (.tail _ (.tail _ (.tail _ (.tail _ (.tail _ (.tail _ (.tail _ (.tail _ (.tail _ (.tail _ (.tail _ (.tail _ (.tail _ (.tail _ (.head _)))))))))))))))), mem_rect (inbC 1) y (by omega) (by show 384 ≤ _ ∧ _ < 384 + 384; omega)⟩
      · exact ⟨_, .tail _ (.tail _ (.tail _ (.tail _ (.tail _ (.tail _ (.tail _ (.tail _ (.tail _ (.tail _ (.tail _ (.tail _ (.tail _ (.tail _ (.tail _ (.head _))))))))))))))), mem_rect (inbC 2) y (by omega) (by show 768 ≤ _ ∧ _ < 768 + 384; omega)⟩
      · exact ⟨_, .tail _ (.tail _ (.tail _ (.tail _ (.tail _ (.tail _ (.tail _ (.tail _ (.tail _ (.tail _ (.tail _ (.tail _ (.tail _ (.tail _ (.head _)))))))))))))), mem_rect (inbC 3) y (by omega) (by show 1152 ≤ _ ∧ _ < 1152 + 384; omega)⟩
      · exact ⟨_, .tail _ (.tail _ (.tail _ (.tail _ (.tail _ (.tail _ (.tail _ (.tail _ (.tail _ (.tail _ (.tail _ (.tail _ (.tail _ (.head _))))))))))))), mem_rect (inbC 4) y (by omega) (by show 1536 ≤ _ ∧ _ < 1536 + 384; omega)⟩
      · exact ⟨_, .tail _ (.tail _ (.tail _ (.tail _ (.tail _ (.tail _ (.tail _ (.tail _ (.tail _ (.tail _ (.tail _ (.tail _ (.head _)))))))))))), mem_rect (inbC 5) y (by omega) (by show 1920 ≤ _ ∧ _ < 1920 + 384; omega)⟩
      · exact ⟨_, .tail _ (.tail _ (.tail _ (.tail _ (.tail _ (.tail _ (.tail _ (.tail _ (.tail _ (.tail _ (.tail _ (.head _))))))))))), mem_rect (inbC 6) y (by omega) (by show 2304 ≤ _ ∧ _ < 2304 + 384; omega)⟩
      · exact ⟨_, .tail _ (.tail _ (.tail _ (.tail _ (.tail _ (.tail _ (.tail _ (.tail _ (.tail _ (.tail _ (.head _)))))))))), mem_rect (inbC 7) y (by omega) (by show 2688 ≤ _ ∧ _ < 2688 + 384; omega)⟩
      · exact ⟨_, .tail _ (.tail _ (.tail _ (.tail _ (.tail _ (.tail _ (.tail _ (.tail _ (.tail _ (.head _))))))))), mem_rect (inbC 8) y (by omega) (by show 3072 ≤ _ ∧ _ < 3072 + 384; omega)⟩
      · exact ⟨_, .tail _ (.tail _ (.tail _ (.tail _ (.tail _ (.tail _ (.tail _ (.tail _ (.head _)))))))), mem_rect (inbC 9) y (by omega) (by show 3456 ≤ _ ∧ _ < 3456 + 384; omega)⟩
      · exact ⟨_, .tail _ (.tail _ (.tail _ (.tail _ (.tail _ (.tail _ (.tail _ (.head _))))))), mem_rect (inbC 10) y (by omega) (by show 3840 ≤ _ ∧ _ < 3840 + 384; omega)⟩
      · exact ⟨_, .tail _ (.tail _ (.tail _ (.tail _ (.tail _ (.tail _ (.head _)))))), mem_rect (inbC 11) y (by omega) (by show 4224 ≤ _ ∧ _ < 4224 + 384; omega)⟩
      · exact ⟨_, .tail _ (.tail _ (.tail _ (.tail _ (.tail _ (.head _))))), mem_rect (inbC 12) y (by omega) (by show 4608 ≤ _ ∧ _ < 4608 + 384; omega)⟩
      · exact ⟨_, .tail _ (.tail _ (.tail _ (.tail _ (.head _)))), mem_rect (inbC 13) y (by omega) (by show 4992 ≤ _ ∧ _ < 4992 + 384; omega)⟩
      · exact ⟨_, .tail _ (.tail _ (.tail _ (.head _))), mem_rect (inbC 14) y (by omega) (by show 5376 ≤ _ ∧ _ < 5376 + 384; omega)⟩
      · exact ⟨_, .tail _ (.tail _ (.head _)), mem_rect (inbC 15) y (by omega) (by show 5760 ≤ _ ∧ _ < 5760 + 384; omega)⟩
      · exact ⟨_, .tail _ (.head _), mem_rect (inbC 16) y (by omega) (by show 6144 ≤ _ ∧ _ < 6144 + 384; omega)⟩
      · exact ⟨_, .head _, mem_rect (inbC 17) y (by omega) (by show 6528 ≤ _ ∧ _ < 6528 + 384; omega)⟩
  · exact congrFun (harg12.read_unread x6) y

theorem cond4_iff (a b : BitVec 32) : k0_cond4 i a b = 1#1 ↔ (i 1).val = 2 ∧ ((i 0).val = 34 ∨ a ≠ b) := by
  have h3 : (i 1).val < 3 := (i 1).isLt
  have h35 : (i 0).val < 35 := (i 0).isLt
  have e1 : Scalar.cmpi .eq (BitVec.ofNat 32 (i 1).val) 2#32 = 1#1 ↔ (i 1).val = 2 := by
    generalize (i 1).val = j at *
    rcases (by omega : j = 0 ∨ j = 1 ∨ j = 2) with rfl | rfl | rfl <;> decide
  have e2 : Scalar.cmpi .eq (BitVec.ofNat 32 (i 0).val) 34#32 = 1#1 ↔ (i 0).val = 34 := by
    generalize (i 0).val = j at *
    interval_cases j <;> decide
  have e3 : Scalar.cmpi .ne a b = 1#1 ↔ a ≠ b := by
    show BitVec.ofBool (a != b) = 1#1 ↔ _
    by_cases h : a = b
    · simp [h]
    · have e : (a != b) = true := bne_iff_ne.2 h
      simp [h, e]
  have ao (x y z : BitVec 1) : Scalar.cmpi .ne (Scalar.extui (Scalar.andi x (Scalar.ori y z)) : BitVec 32) 0#32 = 1#1 ↔ x = 1#1 ∧ (y = 1#1 ∨ z = 1#1) := by
    revert x y z; decide
  unfold k0_cond4
  dsimp only
  rw [ao, e1, e2, e3]

/-! ## The run's contents, read -/

theorem rd8 (y : S512x2560.Idx) : arg14.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.1 y = xV i x0 x8 y := by
  rw [run8]
  exact xR_apply i arg6 harg6 arg14 harg14 x0 x8 y
theorem rd9 (hlo : (loP c i xt0 xt2).toNat ≤ 512) (hhi : (hiP c i xt0 xt3).toNat ≤ 512) (y : S512x6912.Idx) : arg15.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.1 y
    = blockH (hW i x0 x1 x2 x3 x4 x5 x8) x9 (loP c i xt0 xt2).toNat (hiP c i xt0 xt3).toNat 512 (i 1).val y := by
  rw [run9]
  exact hR_apply c i arg6 harg6 arg7 harg7 arg8 harg8 arg9 harg9 arg10 harg10 arg11 harg11 arg14 harg14 arg15 harg15 x0 x1 x2 x3 x4 x5 x8 x9 xt0 xt2 xt3 hlo hhi y
theorem rd10 (hlo : (loP c i xt0 xt2).toNat ≤ 512) (hhi : (hiP c i xt0 xt3).toNat ≤ 512) (y : S512x128.Idx) : arg16.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.2.1 y
    = blockA (hW i x0 x1 x2 x3 x4 x5 x8) x10 (loP c i xt0 xt2).toNat (hiP c i xt0 xt3).toNat 512 (i 1).val y := by
  rw [run10]
  exact aR_apply c i arg6 harg6 arg7 harg7 arg8 harg8 arg9 harg9 arg10 harg10 arg11 harg11 arg14 harg14 arg16 harg16 x0 x1 x2 x3 x4 x5 x8 x10 xt0 xt2 xt3 hlo hhi y
theorem rd6 (hc : (k0_cond4 i (kernelRun0_A.sl.r_40 c i xt0) (kernelRun0_A.sl.r_41 c i xt0)) = 1#1) (y : S512x6912.Idx) : arg12.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).1 y
    = cG (arg16.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.2.1) (arg15.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.1) y := by
  refine (congrArg (fun C => arg12.view.read (Elt Ideal) C y) (run6 _ _ _ _ _ _ _ _ _ _ _ _ _ _ _ _ _ _ _ _ _ _ _ _ _ _ _ _ _ _ _ _ _ _ _ _ _ _ _)).trans ((codes_apply arg12 harg12 arg15 arg16 x6 _ (aR c i arg6 harg6 arg7 harg7 arg8 harg8 arg9 harg9 arg10 harg10 arg11 harg11 arg14 harg14 arg16 harg16 x0 x1 x2 x3 x4 x5 x8 x10 xt0 xt2 xt3) (hR c i arg6 harg6 arg7 harg7 arg8 harg8 arg9 harg9 arg10 harg10 arg11 harg11 arg14 harg14 arg15 harg15 x0 x1 x2 x3 x4 x5 x8 x9 xt0 xt2 xt3) y).trans ((if_pos hc).trans ?_))
  exact congrArg₂ (fun a h => cG (arg16.view.read (Elt Ideal) a) (arg15.view.read (Elt Ideal) h) y) (run10 _ _ _ _ _ _ _ _ _ _ _ _ _ _ _ _ _ _ _ _ _ _ _ _ _ _ _ _ _ _ _ _ _ _ _ _ _ _ _).symm (run9 _ _ _ _ _ _ _ _ _ _ _ _ _ _ _ _ _ _ _ _ _ _ _ _ _ _ _ _ _ _ _ _ _ _ _ _ _ _ _).symm
theorem rd7 (hc : (k0_cond4 i (kernelRun0_A.sl.r_40 c i xt0) (kernelRun0_A.sl.r_41 c i xt0)) = 1#1) (r : Fin 512) : arg13.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.1 (ix2 r 0)
    = sG (arg16.view.read (Elt Ideal) (kernelRun0_A c i arg6 harg6 arg7 harg7 arg8 harg8 arg9 harg9 arg10 harg10 arg11 harg11 arg12 harg12 arg13 harg13 arg14 harg14 arg15 harg15 arg16 harg16 x0 x1 x2 x3 x4 x5 x6 x7 x8 x9 x10 xt0 xt1 xt2 xt3).2.2.2.2.1) r := by
  refine (congrArg (fun C => arg13.view.read (Elt Ideal) C (ix2 r 0)) (run7 _ _ _ _ _ _ _ _ _ _ _ _ _ _ _ _ _ _ _ _ _ _ _ _ _ _ _ _ _ _ _ _ _ _ _ _ _ _ _)).trans ((scales_apply arg13 harg13 arg16 x7 _ (aR c i arg6 harg6 arg7 harg7 arg8 harg8 arg9 harg9 arg10 harg10 arg11 harg11 arg14 harg14 arg16 harg16 x0 x1 x2 x3 x4 x5 x8 x10 xt0 xt2 xt3) r).trans ((if_pos hc).trans ?_))
  exact congrArg (fun a => sG (arg16.view.read (Elt Ideal) a) r) (run10 _ _ _ _ _ _ _ _ _ _ _ _ _ _ _ _ _ _ _ _ _ _ _ _ _ _ _ _ _ _ _ _ _ _ _ _ _ _ _).symm

end Cert.UpExIdeal.Gen

end
-- ==== Proof.UpExIdealFrame.lean ====
/- The run of the expert up projection, for every launch memory whose tables keep the blocks inside their arrays. The
   scratch buffers carry the hidden values of a tile from one work item to the next, so the proof data carry an invariant of
   the scratch contents, and relate what a point leaves in its output blocks to it. -/
module

public import proofs.«01_k».proof.Proof.UpExIdealRun
public import Idealize.ShloMosaic.Lib.Claim

@[expose] public section

-- membership in a rectangle of production extents (`View.cover_of_tiled`): the elaborator's structural look
-- recurses once per coordinate of the long axes
set_option maxRecDepth 16384

noncomputable section

namespace Cert.UpExIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold: the row codes, the hidden values, the running row maxima. -/
structure St (F : FTy → Type) where
  x8 : Vec F S512x2560 .fp8e4m3
  h : Vec F S512x6912 .f32
  amax : Vec F S512x128 .f32

/-- The run of point `t` from output blocks `Y6`, `Y7` and scratch contents `s`. -/
def runAt (hO : Ok m) (c : Dev nD) (t : Fin (cfgM m hO).N) (Y6 : Vec F S512x6912 .fp8e4m3) (Y7 : Vec F S512x1 .f32) (s : St F) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (iblk m hO c 5 t) Y6 Y7 s.x8 s.h s.amax (tbl m 0) (tbl m 1) (tbl m 2) (tbl m 3)

/-- What the body leaves in the two output blocks -/
def left6 (hO : Ok m) (c : Dev nD) (t : Fin (cfgM m hO).N) (Y6 : Vec F S512x6912 .fp8e4m3) (Y7 : Vec F S512x1 .f32) (s : St F) : Vec F S512x6912 .fp8e4m3 :=
  (ms0_6 m hO t).view.read (Elt F) (runAt m hO c t Y6 Y7 s).1
def left7 (hO : Ok m) (c : Dev nD) (t : Fin (cfgM m hO).N) (Y6 : Vec F S512x6912 .fp8e4m3) (Y7 : Vec F S512x1 .f32) (s : St F) : Vec F S512x1 .f32 :=
  (ms0_7 m hO t).view.read (Elt F) (runAt m hO c t Y6 Y7 s).2.1
/-- and in the scratch buffers. -/
def stepS (hO : Ok m) (c : Dev nD) (t : Fin (cfgM m hO).N) (Y6 : Vec F S512x6912 .fp8e4m3) (Y7 : Vec F S512x1 .f32) (s : St F) : St F where
  x8 := scM0_0.view.read (Elt F) (runAt m hO c t Y6 Y7 s).2.2.1
  h := scM0_1.view.read (Elt F) (runAt m hO c t Y6 Y7 s).2.2.2.1
  amax := scM0_2.view.read (Elt F) (runAt m hO c t Y6 Y7 s).2.2.2.2.1

/-- What a proof tracks: an invariant of the scratch buffers before each point, and what each point leaves in the outputs. -/
structure Track (hO : Ok m) (c : Dev nD) where
  inv : ℕ → St F → Prop
  post6 : Fin (cfgM m hO).N → Vec F S512x6912 .fp8e4m3 → Prop
  post7 : Fin (cfgM m hO).N → Vec F S512x1 .f32 → Prop
  init : ∀ s, inv 0 s
  step : ∀ (t : Fin (cfgM m hO).N) Y6 Y7 s, inv t.val s → inv (t.val + 1) (stepS m hO c t Y6 Y7 s) ∧ post6 t (left6 m hO c t Y6 Y7 s) ∧ post7 t (left7 m hO c t Y6 Y7 s)

/-- The proof that tracks nothing. -/
def Track.none (hO : Ok m) (c : Dev nD) : Track m hO c where
  inv _ _ := True
  post6 _ _ := True
  post7 _ _ := True
  init _ := trivial
  step _ _ _ _ _ := ⟨trivial, trivial, trivial⟩

/-- The scratch buffers at contents that satisfy `P`. -/
def scr (c : Dev nD) (P : St F → Prop) : sProp 𝕄 :=
  iprop(∃ s : St F, ⌜P s⌝ ∗ owns (c : Thread nD τ) scM0_0 fullShare s.x8 ∗ owns (c : Thread nD τ) scM0_1 fullShare s.h ∗ owns (c : Thread nD τ) scM0_2 fullShare s.amax)

/-- Data that name every window: the inputs' blocks, and nothing of interest for the outputs. -/
def dats (hO : Ok m) (c : Dev nD) (T : Track m hO c) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => VO0_6.read (Elt F) VO0_6.junk
    | ⟨7, _⟩ => VO0_7.read (Elt F) VO0_7.junk
  Φ t := iprop((scr c (T.inv t.val) ∗ ∃ r, prngReg c r) ∗ Pipeline.ΦT pre0 (tbl m) c)
  q _ := fullShare
  owed _ := 0

/-- The output windows' relations: what `T` says of what the body leaves. -/
def ovr (hO : Ok m) (c : Dev nD) (T : Track m hO c) : (w : Fin (cfgM m hO).W) → Option (Fin (cfgM m hO).N → (Y X : ((cfgM m hO).win w).block.Idx → Elt F ((cfgM m hO).win w).elt) → Prop)
  | ⟨0, _⟩ => none
  | ⟨1, _⟩ => none
  | ⟨2, _⟩ => none
  | ⟨3, _⟩ => none
  | ⟨4, _⟩ => none
  | ⟨5, _⟩ => none
  | ⟨6, _⟩ => some fun t _ X => T.post6 t X
  | ⟨7, _⟩ => some fun t _ X => T.post7 t X

/-- The proof data: the inputs named, the outputs related. -/
def rdats (hO : Ok m) (c : Dev nD) (T : Track m hO c) : RDat τ (Elt F) Unit ℕ (UR sig nD τ) ℕ (cfgM m hO) c := (dats m hO c T).toR.override (ovr m hO c T)

theorem A_eq (hO : Ok m) (c : Dev nD) (T : Track m hO c) (w : Fin (cfgM m hO).W) : (dats m hO c T).A w = V m c (Pipeline.arrRef spec0 w) := by
  dsimp only [dats]

theorem after0_0 (hO : Ok m) (c : Dev nD) (T : Track m hO c) (t : Fin (cfgM m hO).N) : (dats m hO c T).after 0 t = iblk m hO c 0 t := by dsimp only [dats]; try rfl
theorem after0_1 (hO : Ok m) (c : Dev nD) (T : Track m hO c) (t : Fin (cfgM m hO).N) : (dats m hO c T).after 1 t = iblk m hO c 1 t := by dsimp only [dats]; try rfl
theorem after0_2 (hO : Ok m) (c : Dev nD) (T : Track m hO c) (t : Fin (cfgM m hO).N) : (dats m hO c T).after 2 t = iblk m hO c 2 t := by dsimp only [dats]; try rfl
theorem after0_3 (hO : Ok m) (c : Dev nD) (T : Track m hO c) (t : Fin (cfgM m hO).N) : (dats m hO c T).after 3 t = iblk m hO c 3 t := by dsimp only [dats]; try rfl
theorem after0_4 (hO : Ok m) (c : Dev nD) (T : Track m hO c) (t : Fin (cfgM m hO).N) : (dats m hO c T).after 4 t = iblk m hO c 4 t := by dsimp only [dats]; try rfl
theorem after0_5 (hO : Ok m) (c : Dev nD) (T : Track m hO c) (t : Fin (cfgM m hO).N) : (dats m hO c T).after 5 t = iblk m hO c 5 t := by dsimp only [dats]; try rfl
theorem before0_0 (hO : Ok m) (c : Dev nD) (T : Track m hO c) (t : Fin (cfgM m hO).N) (d) : (dats m hO c T).before 0 t d = iblk m hO c 0 t :=
  before0_0_of m hO (dats m hO c T) (A_eq m hO c T 0) (after0_0 m hO c T) t d
theorem before0_1 (hO : Ok m) (c : Dev nD) (T : Track m hO c) (t : Fin (cfgM m hO).N) (d) : (dats m hO c T).before 1 t d = iblk m hO c 1 t :=
  before0_1_of m hO (dats m hO c T) (A_eq m hO c T 1) (after0_1 m hO c T) t d
theorem before0_2 (hO : Ok m) (c : Dev nD) (T : Track m hO c) (t : Fin (cfgM m hO).N) (d) : (dats m hO c T).before 2 t d = iblk m hO c 2 t :=
  before0_2_of m hO (dats m hO c T) (A_eq m hO c T 2) (after0_2 m hO c T) t d
theorem before0_3 (hO : Ok m) (c : Dev nD) (T : Track m hO c) (t : Fin (cfgM m hO).N) (d) : (dats m hO c T).before 3 t d = iblk m hO c 3 t :=
  before0_3_of m hO (dats m hO c T) (A_eq m hO c T 3) (after0_3 m hO c T) t d
theorem before0_4 (hO : Ok m) (c : Dev nD) (T : Track m hO c) (t : Fin (cfgM m hO).N) (d) : (dats m hO c T).before 4 t d = iblk m hO c 4 t :=
  before0_4_of m hO (dats m hO c T) (A_eq m hO c T 4) (after0_4 m hO c T) t d
theorem before0_5 (hO : Ok m) (c : Dev nD) (T : Track m hO c) (t : Fin (cfgM m hO).N) (d) : (dats m hO c T).before 5 t d = iblk m hO c 5 t :=
  before0_5_of m hO (dats m hO c T) (A_eq m hO c T 5) (after0_5 m hO c T) t d
/-- The body finds input 0's block in its staging buffer, and must leave it there. -/
theorem finds0_0 (hO : Ok m) (c : Dev nD) (T : Track m hO c) (t : Fin (cfgM m hO).N) (X) (h : (rdats m hO c T).Finds 0 t X) : X = iblk m hO c 0 t := by
  obtain ⟨d, hd⟩ := (dats m hO c T).toR_finds 0 t X (((dats m hO c T).toR.override_finds (ovr := ovr m hO c T) (w := 0) rfl t X).mp h)
  rw [hd]; exact before0_0 m hO c T t d
theorem rafter0_0 (hO : Ok m) (c : Dev nD) (T : Track m hO c) (t : Fin (cfgM m hO).N) (Y) : (rdats m hO c T).after 0 t Y (iblk m hO c 0 t) := by
  show ((dats m hO c T).toR.override (ovr m hO c T)).after 0 t Y _
  rw [(dats m hO c T).toR.override_after_of_eq_none (ovr := ovr m hO c T) (w := 0) rfl]
  first | exact after0_0 m hO c T t | exact (after0_0 m hO c T t).symm | exact Or.inl (after0_0 m hO c T t).symm
/-- The body finds input 1's block in its staging buffer, and must leave it there. -/
theorem finds0_1 (hO : Ok m) (c : Dev nD) (T : Track m hO c) (t : Fin (cfgM m hO).N) (X) (h : (rdats m hO c T).Finds 1 t X) : X = iblk m hO c 1 t := by
  obtain ⟨d, hd⟩ := (dats m hO c T).toR_finds 1 t X (((dats m hO c T).toR.override_finds (ovr := ovr m hO c T) (w := 1) rfl t X).mp h)
  rw [hd]; exact before0_1 m hO c T t d
theorem rafter0_1 (hO : Ok m) (c : Dev nD) (T : Track m hO c) (t : Fin (cfgM m hO).N) (Y) : (rdats m hO c T).after 1 t Y (iblk m hO c 1 t) := by
  show ((dats m hO c T).toR.override (ovr m hO c T)).after 1 t Y _
  rw [(dats m hO c T).toR.override_after_of_eq_none (ovr := ovr m hO c T) (w := 1) rfl]
  first | exact after0_1 m hO c T t | exact (after0_1 m hO c T t).symm | exact Or.inl (after0_1 m hO c T t).symm
/-- The body finds input 2's block in its staging buffer, and must leave it there. -/
theorem finds0_2 (hO : Ok m) (c : Dev nD) (T : Track m hO c) (t : Fin (cfgM m hO).N) (X) (h : (rdats m hO c T).Finds 2 t X) : X = iblk m hO c 2 t := by
  obtain ⟨d, hd⟩ := (dats m hO c T).toR_finds 2 t X (((dats m hO c T).toR.override_finds (ovr := ovr m hO c T) (w := 2) rfl t X).mp h)
  rw [hd]; exact before0_2 m hO c T t d
theorem rafter0_2 (hO : Ok m) (c : Dev nD) (T : Track m hO c) (t : Fin (cfgM m hO).N) (Y) : (rdats m hO c T).after 2 t Y (iblk m hO c 2 t) := by
  show ((dats m hO c T).toR.override (ovr m hO c T)).after 2 t Y _
  rw [(dats m hO c T).toR.override_after_of_eq_none (ovr := ovr m hO c T) (w := 2) rfl]
  first | exact after0_2 m hO c T t | exact (after0_2 m hO c T t).symm | exact Or.inl (after0_2 m hO c T t).symm
/-- The body finds input 3's block in its staging buffer, and must leave it there. -/
theorem finds0_3 (hO : Ok m) (c : Dev nD) (T : Track m hO c) (t : Fin (cfgM m hO).N) (X) (h : (rdats m hO c T).Finds 3 t X) : X = iblk m hO c 3 t := by
  obtain ⟨d, hd⟩ := (dats m hO c T).toR_finds 3 t X (((dats m hO c T).toR.override_finds (ovr := ovr m hO c T) (w := 3) rfl t X).mp h)
  rw [hd]; exact before0_3 m hO c T t d
theorem rafter0_3 (hO : Ok m) (c : Dev nD) (T : Track m hO c) (t : Fin (cfgM m hO).N) (Y) : (rdats m hO c T).after 3 t Y (iblk m hO c 3 t) := by
  show ((dats m hO c T).toR.override (ovr m hO c T)).after 3 t Y _
  rw [(dats m hO c T).toR.override_after_of_eq_none (ovr := ovr m hO c T) (w := 3) rfl]
  first | exact after0_3 m hO c T t | exact (after0_3 m hO c T t).symm | exact Or.inl (after0_3 m hO c T t).symm
/-- The body finds input 4's block in its staging buffer, and must leave it there. -/
theorem finds0_4 (hO : Ok m) (c : Dev nD) (T : Track m hO c) (t : Fin (cfgM m hO).N) (X) (h : (rdats m hO c T).Finds 4 t X) : X = iblk m hO c 4 t := by
  obtain ⟨d, hd⟩ := (dats m hO c T).toR_finds 4 t X (((dats m hO c T).toR.override_finds (ovr := ovr m hO c T) (w := 4) rfl t X).mp h)
  rw [hd]; exact before0_4 m hO c T t d
theorem rafter0_4 (hO : Ok m) (c : Dev nD) (T : Track m hO c) (t : Fin (cfgM m hO).N) (Y) : (rdats m hO c T).after 4 t Y (iblk m hO c 4 t) := by
  show ((dats m hO c T).toR.override (ovr m hO c T)).after 4 t Y _
  rw [(dats m hO c T).toR.override_after_of_eq_none (ovr := ovr m hO c T) (w := 4) rfl]
  first | exact after0_4 m hO c T t | exact (after0_4 m hO c T t).symm | exact Or.inl (after0_4 m hO c T t).symm
/-- The body finds input 5's block in its staging buffer, and must leave it there. -/
theorem finds0_5 (hO : Ok m) (c : Dev nD) (T : Track m hO c) (t : Fin (cfgM m hO).N) (X) (h : (rdats m hO c T).Finds 5 t X) : X = iblk m hO c 5 t := by
  obtain ⟨d, hd⟩ := (dats m hO c T).toR_finds 5 t X (((dats m hO c T).toR.override_finds (ovr := ovr m hO c T) (w := 5) rfl t X).mp h)
  rw [hd]; exact before0_5 m hO c T t d
theorem rafter0_5 (hO : Ok m) (c : Dev nD) (T : Track m hO c) (t : Fin (cfgM m hO).N) (Y) : (rdats m hO c T).after 5 t Y (iblk m hO c 5 t) := by
  show ((dats m hO c T).toR.override (ovr m hO c T)).after 5 t Y _
  rw [(dats m hO c T).toR.override_after_of_eq_none (ovr := ovr m hO c T) (w := 5) rfl]
  first | exact after0_5 m hO c T t | exact (after0_5 m hO c T t).symm | exact Or.inl (after0_5 m hO c T t).symm
theorem rafter0_6 (hO : Ok m) (c : Dev nD) (T : Track m hO c) (t : Fin (cfgM m hO).N) (Y X) : (rdats m hO c T).after 6 t Y X ↔ T.post6 t X := by
  show ((dats m hO c T).toR.override (ovr m hO c T)).after 6 t Y X ↔ _
  rw [(dats m hO c T).toR.override_after_of_eq_some (ovr := ovr m hO c T) (w := 6) rfl]
theorem rafter0_7 (hO : Ok m) (c : Dev nD) (T : Track m hO c) (t : Fin (cfgM m hO).N) (Y X) : (rdats m hO c T).after 7 t Y X ↔ T.post7 t X := by
  show ((dats m hO c T).toR.override (ovr m hO c T)).after 7 t Y X ↔ _
  rw [(dats m hO c T).toR.override_after_of_eq_some (ovr := ovr m hO c T) (w := 7) rfl]

/-! ## The body obligation, at a generic point -/

/-- The body at any point: from the inputs' blocks, the tables, the outputs' buffers at `Y6`, `Y7` and scratch contents that
    satisfy the invariant, to the same with the invariant of the next point and outputs as tracked. -/
theorem sound_body (hO : Ok m) (c : Dev nD) (T : Track m hO c) (t : Fin (cfgM m hO).N) (Y6 : Vec F S512x6912 .fp8e4m3) (Y7 : Vec F S512x1 .f32) :
    iprop(iprop((scr c (T.inv t.val) ∗ ∃ r, prngReg c r) ∗ Pipeline.ΦT pre0 (tbl m) c) ∗ (dats m hO c T).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ owns (c : Thread nD τ) (ms0_6 m hO t) fullShare Y6
      ∗ owns (c : Thread nD τ) (ms0_7 m hO t) fullShare Y7)
    ⊢ wp frame (wpE (defs₀ (F := F)) Variants.none c none) Set.univ (bodyAt0 (adm m hO) t) (fun _ =>
      iprop(iprop((scr c (T.inv (t.val + 1)) ∗ ∃ r, prngReg c r) ∗ Pipeline.ΦT pre0 (tbl m) c) ∗ (dats m hO c T).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ (∃ X, ⌜T.post6 t X⌝ ∗ owns (c : Thread nD τ) (ms0_6 m hO t) fullShare X)
      ∗ (∃ X, ⌜T.post7 t X⌝ ∗ owns (c : Thread nD τ) (ms0_7 m hO t) fullShare X))) := by
  unfold bodyAt0
  rw [PhiT0_eq]
  unfold scr
  iintro ⟨⟨⟨⟨%s, %hs, HS0, HS1, HS2⟩, Hg⟩, ⟨HT0, HT1, HT2, HT3⟩⟩, Ho, H0, H1, H2, H3, H4, H5, H6, H7⟩
  obtain ⟨p1, p6, p7⟩ := T.step t Y6 Y7 s hs
  iapply ((runAt m hO c t Y6 Y7 s).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HT0]; · iexact HT0
  isplitl [HT1]; · iexact HT1
  isplitl [HT2]; · iexact HT2
  isplitl [HT3]; · iexact HT3
  iintro ⟨H0, H1, H2, H3, H4, H5, H6, H7, HS0, HS1, HS2, HT0, HT1, HT2, HT3⟩
  isplitl [HS0 HS1 HS2 Hg HT0 HT1 HT2 HT3]
  · isplitl [HS0 HS1 HS2 Hg]
    · isplitl [HS0 HS1 HS2]
      · iexists (stepS m hO c t Y6 Y7 s)
        isplitr; · ipureintro; exact p1
        isplitl [HS0]; · iexact HS0
        isplitl [HS1]; · iexact HS1
        iexact HS2
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists (left6 m hO c t Y6 Y7 s); isplitr; · ipureintro; exact p6
    iexact H6
  iexists (left7 m hO c t Y6 Y7 s); isplitr; · ipureintro; exact p7
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (c : Dev nD) (T : Track m hO c) : (rdats (F := F) m hO c T).BodyObligation (defs₀ (F := F)) Variants.none () Set.univ := fun t Y hY => by
  rw [bigSep_W0, bigSep_W0, defs₀_row m hO]
  rw [finds0_0 m hO c T t _ (hY 0), finds0_1 m hO c T t _ (hY 1), finds0_2 m hO c T t _ (hY 2), finds0_3 m hO c T t _ (hY 3),
    finds0_4 m hO c T t _ (hY 4), finds0_5 m hO c T t _ (hY 5)]
  refine triple_restated (sound_body m hO c T t (Y 6) (Y 7)) rfl .rfl fun _ => ?_
  rw [show (rdats m hO c T).Φ t.succ = iprop((scr c (T.inv (t.val + 1)) ∗ ∃ r, prngReg c r) ∗ Pipeline.ΦT pre0 (tbl m) c) from rfl,
    show (rdats m hO c T).owesAt () t.succ = (dats m hO c T).owesAt () t.castSucc from rfl]
  iintro ⟨HΦ, Ho, H0, H1, H2, H3, H4, H5, ⟨%X6, %h6, H6⟩, ⟨%X7, %h7, H7⟩⟩
  isplitl [HΦ]; · iexact HΦ
  isplitl [Ho]; · iexact Ho
  isplitl [H0]
  · iexists _; isplitr
    · ipureintro; exact rafter0_0 m hO c T t _
    iexact H0
  isplitl [H1]
  · iexists _; isplitr
    · ipureintro; exact rafter0_1 m hO c T t _
    iexact H1
  isplitl [H2]
  · iexists _; isplitr
    · ipureintro; exact rafter0_2 m hO c T t _
    iexact H2
  isplitl [H3]
  · iexists _; isplitr
    · ipureintro; exact rafter0_3 m hO c T t _
    iexact H3
  isplitl [H4]
  · iexists _; isplitr
    · ipureintro; exact rafter0_4 m hO c T t _
    iexact H4
  isplitl [H5]
  · iexists _; isplitr
    · ipureintro; exact rafter0_5 m hO c T t _
    iexact H5
  isplitl [H6]
  · iexists X6; isplitr
    · ipureintro; exact (rafter0_6 m hO c T t _ _).mpr h6
    iexact H6
  iexists X7; isplitr
  · ipureintro; exact (rafter0_7 m hO c T t _ _).mpr h7
  iexact H7

/-! ## The run and the frame -/

/-- Any scratch contents satisfy the first point's invariant. -/
theorem phi_in (hO : Ok m) (c : Dev nD) (T : Track m hO c) :
    iprop(Pipeline.ΦA spec0 c ∗ Pipeline.ΦT pre0 (tbl m) c) ⊢ (rdats m hO c T).Φ 0 := by
  rw [show (rdats m hO c T).Φ 0 = iprop((scr c (T.inv 0) ∗ ∃ r, prngReg c r) ∗ Pipeline.ΦT pre0 (tbl m) c) from rfl, PhiA0_eq]
  unfold scr
  iintro ⟨⟨⟨⟨%d0, HS0⟩, ⟨%d1, HS1⟩, ⟨%d2, HS2⟩⟩, Hg⟩, HT⟩
  isplitr [HT]
  · isplitr [Hg]
    · iexists (⟨d0, d1, d2⟩ : St F)
      isplitr; · ipureintro; exact T.init _
      isplitl [HS0]; · iexact HS0
      isplitl [HS1]; · iexact HS1
      iexact HS2
    iexact Hg
  iexact HT

/-- After the last point the scratch contents are let go. -/
theorem phi_out (hO : Ok m) (c : Dev nD) (T : Track m hO c) : (rdats m hO c T).Φ (Fin.last (cfgM m hO).N) ⊢ Pipeline.ΦA spec0 c := by
  rw [show (rdats m hO c T).Φ (Fin.last (cfgM m hO).N) = iprop((scr c (T.inv (cfgM m hO).N) ∗ ∃ r, prngReg c r) ∗ Pipeline.ΦT pre0 (tbl m) c) from rfl, PhiA0_eq]
  unfold scr
  iintro ⟨⟨⟨%s, -, HS0, HS1, HS2⟩, Hg⟩, -⟩
  isplitr [Hg]
  · isplitl [HS0]; · iexists _; iexact HS0
    isplitl [HS1]; · iexists _; iexact HS1
    iexists _; iexact HS2
  iexact Hg

set_option backward.isDefEq.respectTransparency.types false in
/-- The launch: every fair execution ends, with every array as the proof data relate it, every other buffer as the region
    found it, and every semaphore counter at zero. -/
theorem run_main_quiescent (hO : Ok m) (T : (c : Dev nD) → Track m hO c) : θ_run defs (onTc (τ := τ) (main (F := F))) (s₀ m ρ) (fun r => RDat.FramePost (cfgM m hO) (fun c => rdats m hO c (T c)) (V m) r ∧ r.2.sem = fun _ => 0) :=
  Pipeline.RDat.θ_run_frameP_track (Q' := _) pcfgs (fun _ => adm m hO) (0 : Fin 1) launch0 defs₀ Variants.none (fun c => rdats m hO c (T c)) m ρ main
    (hbody := fun c => body_obligation m hO c (T c)) (hshare := fun c => (dats m hO c (T c)).share_full fun _ => rfl)
    (howed := fun _ _ => rfl) (V := V m) (hmain := hmain m Variants.none) (hA := fun c => A_eq m hO c (T c)) (hpf := V_pre m)
    (hin := fun c => phi_in m hO c (T c)) (hout := fun c => phi_out m hO c (T c))

/-- The argument arrays end as they were. -/
theorem args_kept (hO : Ok m) (T : (c : Dev nD) → Track m hO c) (r : PUnit × MemSt nD τ sig (Elt F)) (h : RDat.FramePost (cfgM m hO) (fun c => rdats m hO c (T c)) (V m) r) (c : Dev nD) :
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((cast (congrFun ((rdats m hO c (T c)).ArrAt_in 0 rfl _) _) ((h c).1 0)).trans (A_eq m hO c (T c) 0)).trans (V_main_arg5 m c),
      ((cast (congrFun ((rdats m hO c (T c)).ArrAt_in 1 rfl _) _) ((h c).1 1)).trans (A_eq m hO c (T c) 1)).trans (V_main_arg6 m c),
      ((cast (congrFun ((rdats m hO c (T c)).ArrAt_in 2 rfl _) _) ((h c).1 2)).trans (A_eq m hO c (T c) 2)).trans (V_main_arg7 m c),
      ((h c).2 main_arg8 (by decide : main_arg8 ∈ Pipeline.restRefs sig spec0)).trans (V_main_arg8 m c),
      ((cast (congrFun ((rdats m hO c (T c)).ArrAt_in 4 rfl _) _) ((h c).1 4)).trans (A_eq m hO c (T c) 4)).trans (V_main_arg9 m c),
      ((h c).2 main_arg10 (by decide : main_arg10 ∈ Pipeline.restRefs sig spec0)).trans (V_main_arg10 m c)⟩

/-- The frame: every fair execution ends with the argument arrays as they were and every semaphore counter at zero. -/
theorem frame (hO : Ok m) : θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => args_kept m hO (fun c => Track.none m hO c) r h.1 c, h.2⟩) (run_main_quiescent m ρ hO fun c => Track.none m hO c)

end Cert.UpExIdeal.Gen

end
-- ==== Proof.UpExBlocks.lean ====
/- The arrays after the run: every row's codes and scale, of its hidden activations with its expert. -/
module

public import proofs.«01_k».proof.Proof.UpExChain
public import proofs.«01_k».proof.Proof.UpExIdealOk
public import proofs.«01_k».proof.Proof.UpExPoint
public import proofs.«01_k».proof.Proof.UpExIdealFrame
public import Idealize.ShloMosaic.Lib.Pipeline.ArrRel

@[expose] public section

set_option maxRecDepth 16384

noncomputable section

namespace Cert.UpExIdeal.Gen

open Idealize.ShloMosaic Idealize.ShloMosaic.TcCoe Idealize.SL Idealize.SL.Sem Cert.Quant Cert.Up
open Idealize.ShloMosaic.Pipeline (Dat RDat Cfg Window)

variable (m : (ℓ : Loc nD τ sig) → Buf (Elt Ideal) ℓ) (hO : Ok m) (hw : Items m)

theorem point_lt (t : Fin (cfgM m hO).N) : t.val < 105 := t.isLt
/-- Grid point `t`'s item and chunk. -/
abbrev item (t : Fin (cfgM m hO).N) : Fin 35 := ⟨t.val / 3, by have := point_lt m hO t; omega⟩

theorem point_val (t : Fin (cfgM m hO).N) : (grid0.coords t 0).val = (item m hO t).val :=
  (by decide +kernel : ∀ t : Fin grid0.N, (grid0.coords t 0).val = t.val / 3) t
theorem chunk_val (t : Fin (cfgM m hO).N) : (grid0.coords t 1).val = t.val % 3 :=
  (by decide +kernel : ∀ t : Fin grid0.N, (grid0.coords t 1).val = t.val % 3) t

/-! ## The words the body reads -/

theorem word_tile (t : Fin (cfgM m hO).N) : kernelRun0_A.sl.r 0 (grid0.coords t) (tbl m 0) = wTile m (item m hO t) :=
  (congrArg (tbl m 0) (idx_point (grid0.coords t) (item m hO t) (point_val m hO t) numel1_S1)).trans (congrFun (V_main_arg1 m 0) _)

theorem word_lo (t : Fin (cfgM m hO).N) : kernelRun0_A.sl.r_1 0 (grid0.coords t) (tbl m 2) = wLo m (item m hO t) :=
  (congrArg (tbl m 2) (idx_point (grid0.coords t) (item m hO t) (point_val m hO t) numel1_S1)).trans (congrFun (V_main_arg3 m 0) _)

theorem word_hi (t : Fin (cfgM m hO).N) : kernelRun0_A.sl.r_2 0 (grid0.coords t) (tbl m 3) = wHi m (item m hO t) :=
  (congrArg (tbl m 3) (idx_point (grid0.coords t) (item m hO t) (point_val m hO t) numel1_S1)).trans (congrFun (V_main_arg4 m 0) _)

theorem idx_off (off : Fin 1 → ℕ) (inb : ∀ a, off a + S1.size a ≤ S35.size a) (t : Fin 35) (ht : off 0 = t.val) (h1 : (Rect.unit (s := S35) off S1.size inb).shape.numel = 1) :
    (Rect.unit (s := S35) off S1.size inb).emb (Shape.Idx.first (h1.symm ▸ Nat.one_pos)) = ix1 t := by
  funext d
  obtain rfl : d = 0 := Subsingleton.elim _ _
  refine Fin.ext ?_
  have q (j : (Rect.unit (s := S35) off S1.size inb).shape.Idx) : (j 0).val = 0 := Nat.lt_one_iff.1 (j 0).isLt
  have z := q (Shape.Idx.first (h1.symm ▸ Nat.one_pos))
  show off 0 + 1 * (Shape.Idx.first (h1.symm ▸ Nat.one_pos) : (Rect.unit (s := S35) off S1.size inb).shape.Idx) 0 = t.val
  rw [z]; omega

/-- The next item, the last one's being itself. -/
abbrev nextI (t : Fin 35) : Fin 35 := ⟨min (t.val + 1) 34, by omega⟩

theorem off4_eq (i : grid0.Coords) (t : Fin 35) (ht : (i 0).val = t.val) : k0_off4 i 0 = (nextI t).val := by
  show (Scalar.indexCast (Scalar.minsi (Scalar.addi (BitVec.ofNat 32 (i 0).val) 1#32) 34#32)).toNat = _
  rw [ht]
  clear ht
  revert t; decide
theorem off5_eq (i : grid0.Coords) (t : Fin 35) (ht : (i 0).val = t.val) : k0_off5 i 0 = t.val := by
  show (BitVec.ofNat 32 (i 0).val).toNat = _
  rw [ht, BitVec.toNat_ofNat]; omega

theorem word_next (t : Fin (cfgM m hO).N) : kernelRun0_A.sl.r_40 0 (grid0.coords t) (tbl m 0) = wTile m (nextI (item m hO t)) :=
  (congrArg (tbl m 0) (idx_off _ (k0_off4_inb (grid0.coords t)) (nextI (item m hO t)) (off4_eq _ _ (point_val m hO t)) numel1_S1)).trans (congrFun (V_main_arg1 m 0) _)
theorem word_this (t : Fin (cfgM m hO).N) : kernelRun0_A.sl.r_41 0 (grid0.coords t) (tbl m 0) = wTile m (item m hO t) :=
  (congrArg (tbl m 0) (idx_off _ (k0_off5_inb (grid0.coords t)) (item m hO t) (off5_eq _ _ (point_val m hO t)) numel1_S1)).trans (congrFun (V_main_arg1 m 0) _)

/-- A bound inside a tile, less the tile's first row. -/
theorem sub_toNat (a b : BitVec 32) (hb : b.toNat < 32) (h1 : b.toNat * 512 ≤ a.toNat) :
    (Scalar.subi a (Scalar.muli b 512#32)).toNat = a.toNat - b.toNat * 512 := by
  have ha := a.isLt
  show (a - b * 512#32).toNat = _
  rw [BitVec.toNat_sub, BitVec.toNat_mul]
  have : (512#32).toNat = 512 := rfl
  rw [this]
  omega

/-- The codes and scales are written at the last chunk of a tile's last item. -/
theorem cond_ends (t : Fin (cfgM m hO).N) :
    k0_cond4 (grid0.coords t) (kernelRun0_A.sl.r_40 0 (grid0.coords t) (tbl m 0)) (kernelRun0_A.sl.r_41 0 (grid0.coords t) (tbl m 0)) = 1#1
      ↔ t.val % 3 = 2 ∧ Cert.Down.Ends (wTile m) (item m hO t) := by
  rw [cond4_iff, word_next, word_this, chunk_val m hO t, point_val m hO t]
  refine and_congr Iff.rfl ?_
  generalize item m hO t = k
  unfold Cert.Down.Ends
  by_cases h : k.val = 34
  · exact ⟨fun _ => .inl h, fun _ => .inl h⟩
  · have hk := k.isLt
    have e : nextI k = ⟨k.val + 1, by omega⟩ := Fin.ext (by show min (k.val + 1) 34 = k.val + 1; omega)
    rw [e]
    constructor
    · rintro (q | q)
      · exact absurd q h
      · exact .inr ⟨by omega, fun r => q (BitVec.eq_of_toNat_eq r)⟩
    · rintro (q | ⟨_, q⟩)
      · exact absurd q h
      · exact .inr fun r => q (congrArg BitVec.toNat r)

/-! ## The blocks -/

/-- The arguments: packed codes, scales, the two weights with their scales. -/
abbrev wordsA : Vec Ideal S16384x640 .i32 := m ((0 : Dev nD).tc.loc main_arg5)
abbrev scalesA : Vec Ideal S16384x1 .f32 := m ((0 : Dev nD).tc.loc main_arg6)
abbrev w1A : Vec Ideal S4x2560x6912 .fp8e4m3 := m ((0 : Dev nD).tc.loc main_arg7)
abbrev s1A : Vec Ideal S4x6912 .f32 := m ((0 : Dev nD).tc.loc main_arg8)
abbrev w3A : Vec Ideal S4x2560x6912 .fp8e4m3 := m ((0 : Dev nD).tc.loc main_arg9)
abbrev s3A : Vec Ideal S4x6912 .f32 := m ((0 : Dev nD).tc.loc main_arg10)

theorem blk0 (t : Fin (cfgM m hO).N) (r : Fin 512) (R : Fin 16384) (hR : R.val = (wTile m (item m hO t)).toNat * 512 + r.val) (k : Fin 640) :
    iblk m hO 0 0 t (ix2 r k) = wordsA m (ix2 R k) := by
  refine Eq.trans ?_ (congrFun (V_main_arg5 m 0) (ix2 R k))
  have e := (ix_row m (grid0.coords t) (item m hO t) (point_val m hO t)).1
  show V m 0 main_arg5 ((((cfgM m hO).win 0).rect t).emb (ix2 r k)) = _
  refine congrArg (V m 0 main_arg5) (funext fun a => Fin.ext ?_)
  refine (Window.rect_emb_val ((cfgM m hO).win 0) t (ix2 r k) a rfl).trans ?_
  show cc0_transform_0 k0_off1_inb numel1_S1 (tbl m) (grid0.coords t) a * _ + _ = _
  rw [e]
  match a with
  | ⟨0, _⟩ => exact hR.symm
  | ⟨1, _⟩ => show 0 * 640 + k.val = k.val; omega

theorem blk1 (t : Fin (cfgM m hO).N) (r : Fin 512) (R : Fin 16384) (hR : R.val = (wTile m (item m hO t)).toNat * 512 + r.val) :
    iblk m hO 0 1 t (ix2 r 0) = scalesA m (ix2 R 0) := by
  refine Eq.trans ?_ (congrFun (V_main_arg6 m 0) (ix2 R 0))
  have e := (ix_row m (grid0.coords t) (item m hO t) (point_val m hO t)).2.1
  show V m 0 main_arg6 ((((cfgM m hO).win 1).rect t).emb (ix2 r 0)) = _
  refine congrArg (V m 0 main_arg6) (funext fun a => Fin.ext ?_)
  refine (Window.rect_emb_val ((cfgM m hO).win 1) t (ix2 r 0) a rfl).trans ?_
  show cc0_transform_1 k0_off1_inb numel1_S1 (tbl m) (grid0.coords t) a * _ + _ = _
  rw [e]
  match a with
  | ⟨0, _⟩ => exact hR.symm
  | ⟨1, _⟩ => rfl

theorem blk2 (t : Fin (cfgM m hO).N) (x : Fin 4) (hx : x.val = (wEx m (item m hO t)).toNat) (k : Fin 2560) (n : Fin 2304) (c : Fin 6912) (hc : c.val = 2304 * (t.val % 3) + n.val) :
    iblk m hO 0 2 t (ix3 0 k n) = w1A m (ix3 x k c) := by
  refine Eq.trans ?_ (congrFun (V_main_arg7 m 0) (ix3 x k c))
  have e := (ix_row m (grid0.coords t) (item m hO t) (point_val m hO t)).2.2.1
  show V m 0 main_arg7 ((((cfgM m hO).win 2).rect t).emb (ix3 0 k n)) = _
  refine congrArg (V m 0 main_arg7) (funext fun a => Fin.ext ?_)
  refine (Window.rect_emb_val ((cfgM m hO).win 2) t (ix3 0 k n) a rfl).trans ?_
  show cc0_transform_2 k0_off1_inb numel1_S1 (tbl m) (grid0.coords t) a * _ + _ = _
  rw [e, chunk_val m hO t]
  match a with
  | ⟨0, _⟩ => show _ * 1 + 0 = x.val; rw [hx]; exact Nat.mul_one _
  | ⟨1, _⟩ => show 0 * 2560 + k.val = k.val; omega
  | ⟨2, _⟩ => show (t.val % 3) * 2304 + n.val = c.val; omega

theorem blk4 (t : Fin (cfgM m hO).N) (x : Fin 4) (hx : x.val = (wEx m (item m hO t)).toNat) (k : Fin 2560) (n : Fin 2304) (c : Fin 6912) (hc : c.val = 2304 * (t.val % 3) + n.val) :
    iblk m hO 0 4 t (ix3 0 k n) = w3A m (ix3 x k c) := by
  refine Eq.trans ?_ (congrFun (V_main_arg9 m 0) (ix3 x k c))
  have e := (ix_row m (grid0.coords t) (item m hO t) (point_val m hO t)).2.2.2.2.1
  show V m 0 main_arg9 ((((cfgM m hO).win 4).rect t).emb (ix3 0 k n)) = _
  refine congrArg (V m 0 main_arg9) (funext fun a => Fin.ext ?_)
  refine (Window.rect_emb_val ((cfgM m hO).win 4) t (ix3 0 k n) a rfl).trans ?_
  show cc0_transform_4 k0_off1_inb numel1_S1 (tbl m) (grid0.coords t) a * _ + _ = _
  rw [e, chunk_val m hO t]
  match a with
  | ⟨0, _⟩ => show _ * 1 + 0 = x.val; rw [hx]; exact Nat.mul_one _
  | ⟨1, _⟩ => show 0 * 2560 + k.val = k.val; omega
  | ⟨2, _⟩ => show (t.val % 3) * 2304 + n.val = c.val; omega

theorem hostScale3 (x : Fin 4) (n : Fin 6912) : V m 0 main_v0 (ix3 x 0 n : S4x1x6912.Idx) = s1A m (ix2 x n) := by
  unfold V hostOps0
  simp only [StableHlo.after_cons, StableHlo.after_nil]
  rw [StableHlo.unary_result_ne (h := by decide), StableHlo.unary_result]
  pointwise []

theorem blk3 (t : Fin (cfgM m hO).N) (x : Fin 4) (hx : x.val = (wEx m (item m hO t)).toNat) (n : Fin 2304) (c : Fin 6912) (hc : c.val = 2304 * (t.val % 3) + n.val) :
    iblk m hO 0 3 t (ix3 0 0 n) = s1A m (ix2 x c) := by
  refine Eq.trans ?_ (hostScale3 m x c)
  have e := (ix_row m (grid0.coords t) (item m hO t) (point_val m hO t)).2.2.2.1
  show V m 0 main_v0 ((((cfgM m hO).win 3).rect t).emb (ix3 0 0 n)) = _
  refine congrArg (V m 0 main_v0) (funext fun a => Fin.ext ?_)
  refine (Window.rect_emb_val ((cfgM m hO).win 3) t (ix3 0 0 n) a rfl).trans ?_
  show cc0_transform_3 k0_off1_inb numel1_S1 (tbl m) (grid0.coords t) a * _ + _ = _
  rw [e, chunk_val m hO t]
  match a with
  | ⟨0, _⟩ => show _ * 1 + 0 = x.val; rw [hx]; exact Nat.mul_one _
  | ⟨1, _⟩ => rfl
  | ⟨2, _⟩ => show (t.val % 3) * 2304 + n.val = c.val; omega

theorem hostScale5 (x : Fin 4) (n : Fin 6912) : V m 0 main_v1 (ix3 x 0 n : S4x1x6912.Idx) = s3A m (ix2 x n) := by
  unfold V hostOps0
  simp only [StableHlo.after_cons, StableHlo.after_nil]
  rw [StableHlo.unary_result]
  rw [StableHlo.unary_result_ne (h := by decide)]
  pointwise []

theorem blk5 (t : Fin (cfgM m hO).N) (x : Fin 4) (hx : x.val = (wEx m (item m hO t)).toNat) (n : Fin 2304) (c : Fin 6912) (hc : c.val = 2304 * (t.val % 3) + n.val) :
    iblk m hO 0 5 t (ix3 0 0 n) = s3A m (ix2 x c) := by
  refine Eq.trans ?_ (hostScale5 m x c)
  have e := (ix_row m (grid0.coords t) (item m hO t) (point_val m hO t)).2.2.2.2.2.1
  show V m 0 main_v1 ((((cfgM m hO).win 5).rect t).emb (ix3 0 0 n)) = _
  refine congrArg (V m 0 main_v1) (funext fun a => Fin.ext ?_)
  refine (Window.rect_emb_val ((cfgM m hO).win 5) t (ix3 0 0 n) a rfl).trans ?_
  show cc0_transform_5 k0_off1_inb numel1_S1 (tbl m) (grid0.coords t) a * _ + _ = _
  rw [e, chunk_val m hO t]
  match a with
  | ⟨0, _⟩ => show _ * 1 + 0 = x.val; rw [hx]; exact Nat.mul_one _
  | ⟨1, _⟩ => rfl
  | ⟨2, _⟩ => show (t.val % 3) * 2304 + n.val = c.val; omega

/-! ## The targets -/

/-- The expert of row `R`, as an index. -/
def exF (R : Fin 16384) : Fin 4 := ⟨(rowEx m R).toNat % 4, Nat.mod_lt _ (by omega)⟩
/-- The codes of row `R`. -/
def xT (R : Fin 16384) (k : Fin 2560) : EReal := decAt (fun q => wordsA m (ix2 R q)) k
/-- Its hidden activations. -/
def hT (R : Fin 16384) : Fin 6912 → EReal :=
  hRow (xT m R) (scalesA m (ix2 R 0)) (fun k n => w1A m (ix3 (exF m R) k n)) (fun n => s1A m (ix2 (exF m R) n)) (fun k n => w3A m (ix3 (exF m R) k n)) (fun n => s3A m (ix2 (exF m R) n))
def hTn (R : Fin 16384) (n : ℕ) : EReal := if h : n < 6912 then hT m R ⟨n, h⟩ else 0
theorem hTn_val (R : Fin 16384) (n : Fin 6912) : hTn m R n.val = hT m R n := dif_pos n.isLt
/-- Its scale, -/
def scaleT (R : Fin 16384) : EReal := scaleOf (rowMax (hT m R))
/-- and its codes. -/
def codeT (R : Fin 16384) (n : Fin 6912) : EReal := codeOf (scaleT m R) (hT m R n)

include hw in
theorem exF_own (R : Fin 16384) (t : Fin 35) (h1 : (wLo m t).toNat ≤ R.val) (h2 : R.val < (wHi m t).toNat) : (exF m R).val = (wEx m t).toNat := by
  have b := hw.own R t h1 h2
  have c := hw.ex_lt t
  show (rowEx m R).toNat % 4 = _
  rw [b]
  exact Nat.mod_eq_of_lt c

/-- The point's computed activations are the rows'. -/
theorem hF_target (t : Fin (cfgM m hO).N) (X : S512x2560.Idx → EReal) (p : Fin 512) (R : Fin 16384) (hR : R.val = (wTile m (item m hO t)).toNat * 512 + p.val)
    (hx : ∀ k, X (ix2 p k) = xT m R k) (he : (exF m R).val = (wEx m (item m hO t)).toNat) (n : ℕ) (hn : n < 2304) :
    hF (iblk m hO 0 1 t) (iblk m hO 0 2 t) (iblk m hO 0 3 t) (iblk m hO 0 4 t) (iblk m hO 0 5 t) X p n = hTn m R (2304 * (t.val % 3) + n) := by
  unfold hF
  rw [dif_pos hn]
  have hc : 2304 * (t.val % 3) + n < 6912 := by omega
  unfold hTn
  rw [dif_pos hc, blk1 m hO t p R hR, blk3 m hO t (exF m R) he ⟨n, hn⟩ ⟨_, hc⟩ rfl, blk5 m hO t (exF m R) he ⟨n, hn⟩ ⟨_, hc⟩ rfl]
  unfold hT hRow
  refine congrArg₂ hid (congrArg (· * _ * _) (Finset.sum_congr rfl fun k _ => ?_)) (congrArg (· * _ * _) (Finset.sum_congr rfl fun k _ => ?_))
  · rw [hx, blk2 m hO t (exF m R) he k ⟨n, hn⟩ ⟨_, hc⟩ rfl]
  · rw [hx, blk4 m hO t (exF m R) he k ⟨n, hn⟩ ⟨_, hc⟩ rfl]

end Cert.UpExIdeal.Gen

end
-- ==== Proof.UpExValue.lean ====
/- The invariant that the expert kernel's run keeps, and the arrays after the run: every row's codes and scale. -/
module

public import proofs.«01_k».proof.Proof.UpExBlocks

@[expose] public section

set_option maxRecDepth 16384

noncomputable section

namespace Cert.UpExIdeal.Gen

open Idealize.ShloMosaic Idealize.ShloMosaic.TcCoe Idealize.SL Idealize.SL.Sem Cert.Quant Cert.Up
open Idealize.ShloMosaic.Pipeline (Dat RDat Cfg Window)

variable (m : (ℓ : Loc nD τ sig) → Buf (Elt Ideal) ℓ) (hO : Ok m) (hw : Items m)

section point
variable (t : Fin (cfgM m hO).N) (Y6 : Vec Ideal S512x6912 .fp8e4m3) (Y7 : Vec Ideal S512x1 .f32) (s : St Ideal)

theorem step_x (y : S512x2560.Idx) : (stepS m hO 0 t Y6 Y7 s).x8 y = xV (grid0.coords t) (iblk m hO 0 0 t) s.x8 y := by
  show scM0_0.view.read (Elt Ideal) (runAt m hO 0 t Y6 Y7 s).2.2.1 y = _
  exact rd8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO 0 0 t) (iblk m hO 0 1 t) (iblk m hO 0 2 t) (iblk m hO 0 3 t) (iblk m hO 0 4 t) (iblk m hO 0 5 t) Y6 Y7 s.x8 s.h s.amax (tbl m 0) (tbl m 1) (tbl m 2) (tbl m 3) y

/-- The item's bounds within its tile. -/
abbrev loV : ℕ := (loP 0 (grid0.coords t) (tbl m 0) (tbl m 2)).toNat
abbrev hiV : ℕ := (hiP 0 (grid0.coords t) (tbl m 0) (tbl m 3)).toNat

include hw in
theorem lo_val : loV m hO t = (wLo m (item m hO t)).toNat - (wTile m (item m hO t)).toNat * 512 := by
  show (Scalar.subi (kernelRun0_A.sl.r_1 0 (grid0.coords t) (tbl m 2)) (Scalar.muli (kernelRun0_A.sl.r 0 (grid0.coords t) (tbl m 0)) 512#32)).toNat = _
  rw [word_tile, word_lo]
  exact sub_toNat _ _ (hw.tile_lt _) (hw.tile_le _)
include hw in
theorem hi_val : hiV m hO t = (wHi m (item m hO t)).toNat - (wTile m (item m hO t)).toNat * 512 := by
  show (Scalar.subi (kernelRun0_A.sl.r_2 0 (grid0.coords t) (tbl m 3)) (Scalar.muli (kernelRun0_A.sl.r 0 (grid0.coords t) (tbl m 0)) 512#32)).toNat = _
  rw [word_tile, word_hi]
  exact sub_toNat _ _ (hw.tile_lt _) ((hw.tile_le _).trans (hw.le _))

/-- The activations computed at the point. -/
abbrev hAt : Fin 512 → ℕ → EReal := hW (grid0.coords t) (iblk m hO 0 0 t) (iblk m hO 0 1 t) (iblk m hO 0 2 t) (iblk m hO 0 3 t) (iblk m hO 0 4 t) (iblk m hO 0 5 t) s.x8

include hw in
theorem step_h (y : S512x6912.Idx) : (stepS m hO 0 t Y6 Y7 s).h y = blockH (hAt m hO t s) s.h (loV m hO t) (hiV m hO t) 512 (t.val % 3) y := by
  have a1 := lo_val m hO hw t
  have a2 := hi_val m hO hw t
  have a3 := hw.le_tile (item m hO t)
  have a4 := hw.le (item m hO t)
  show scM0_1.view.read (Elt Ideal) (runAt m hO 0 t Y6 Y7 s).2.2.2.1 y = _
  rw [← chunk_val m hO t]
  exact rd9 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO 0 0 t) (iblk m hO 0 1 t) (iblk m hO 0 2 t) (iblk m hO 0 3 t) (iblk m hO 0 4 t) (iblk m hO 0 5 t) Y6 Y7 s.x8 s.h s.amax (tbl m 0) (tbl m 1) (tbl m 2) (tbl m 3) (by show loV m hO t ≤ 512; omega) (by show hiV m hO t ≤ 512; omega) y

include hw in
theorem step_a (y : S512x128.Idx) : (stepS m hO 0 t Y6 Y7 s).amax y = blockA (hAt m hO t s) s.amax (loV m hO t) (hiV m hO t) 512 (t.val % 3) y := by
  have a1 := lo_val m hO hw t
  have a2 := hi_val m hO hw t
  have a3 := hw.le_tile (item m hO t)
  have a4 := hw.le (item m hO t)
  show scM0_2.view.read (Elt Ideal) (runAt m hO 0 t Y6 Y7 s).2.2.2.2.1 y = _
  rw [← chunk_val m hO t]
  exact rd10 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO 0 0 t) (iblk m hO 0 1 t) (iblk m hO 0 2 t) (iblk m hO 0 3 t) (iblk m hO 0 4 t) (iblk m hO 0 5 t) Y6 Y7 s.x8 s.h s.amax (tbl m 0) (tbl m 1) (tbl m 2) (tbl m 3) (by show loV m hO t ≤ 512; omega) (by show hiV m hO t ≤ 512; omega) y

theorem left6_eq (y : S512x6912.Idx) (he : t.val % 3 = 2 ∧ Cert.Down.Ends (wTile m) (item m hO t)) :
    left6 m hO 0 t Y6 Y7 s y = cG (stepS m hO 0 t Y6 Y7 s).amax (stepS m hO 0 t Y6 Y7 s).h y := by
  have hc := (cond_ends m hO t).2 he
  show (ms0_6 m hO t).view.read (Elt Ideal) (runAt m hO 0 t Y6 Y7 s).1 y
    = cG (scM0_2.view.read (Elt Ideal) (runAt m hO 0 t Y6 Y7 s).2.2.2.2.1) (scM0_1.view.read (Elt Ideal) (runAt m hO 0 t Y6 Y7 s).2.2.2.1) y
  exact rd6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO 0 0 t) (iblk m hO 0 1 t) (iblk m hO 0 2 t) (iblk m hO 0 3 t) (iblk m hO 0 4 t) (iblk m hO 0 5 t) Y6 Y7 s.x8 s.h s.amax (tbl m 0) (tbl m 1) (tbl m 2) (tbl m 3) hc y

theorem left7_eq (r : Fin 512) (he : t.val % 3 = 2 ∧ Cert.Down.Ends (wTile m) (item m hO t)) :
    left7 m hO 0 t Y6 Y7 s (ix2 r 0) = sG (stepS m hO 0 t Y6 Y7 s).amax r := by
  have hc := (cond_ends m hO t).2 he
  show (ms0_7 m hO t).view.read (Elt Ideal) (runAt m hO 0 t Y6 Y7 s).2.1 (ix2 r 0) = sG (scM0_2.view.read (Elt Ideal) (runAt m hO 0 t Y6 Y7 s).2.2.2.2.1) r
  exact rd7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) (iblk m hO 0 0 t) (iblk m hO 0 1 t) (iblk m hO 0 2 t) (iblk m hO 0 3 t) (iblk m hO 0 4 t) (iblk m hO 0 5 t) Y6 Y7 s.x8 s.h s.amax (tbl m 0) (tbl m 1) (tbl m 2) (tbl m 3) hc r

/-- The invariant, of scratch contents. -/
def InvS (k : Fin 35) (j : ℕ) (s : St Ideal) : Prop :=
  Inv (xT m) (hTn m) (wTile m) (wLo m) (wHi m) k j (fun p k => s.x8 (ix2 p k)) (fun p c => s.h (ix2 p c)) (fun p l => s.amax (ix2 p l))

include hw in
theorem step_inv (I : InvS m (item m hO t) (t.val % 3) s) : InvS m (item m hO t) (t.val % 3 + 1) (stepS m hO 0 t Y6 Y7 s) := by
  have a1 := lo_val m hO hw t
  have a2 := hi_val m hO hw t
  have a5 := hw.tile_le (item m hO t)
  have a4 := hw.le (item m hO t)
  have hx (p : Fin 512) (R : Fin 16384) (hR : R.val = (wTile m (item m hO t)).toNat * 512 + p.val) (k : Fin 2560) : xV (grid0.coords t) (iblk m hO 0 0 t) s.x8 (ix2 p k) = xT m R k := by
    unfold xV
    rw [chunk_val m hO t]
    split
    · refine (decG_ix (iblk m hO 0 0 t) p k).trans ?_
      unfold xT
      exact congrArg (decAt · k) (funext fun q => blk0 m hO t p R hR q)
    · rename_i hj
      exact I.codes (by omega) p R hR k
  refine Inv.step I (fun p R hR k => (step_x m hO t Y6 Y7 s _).trans (hx p R hR k)) (fun p R hR h1 h2 => ⟨fun c => ?_, hAt m hO t s p, fun n hn => ?_, fun l => ?_⟩) (fun p R hR hn => ⟨fun c => ?_, fun l => ?_⟩)
  · refine (step_h m hO hw t Y6 Y7 s (ix2 p c)).trans ?_
    unfold blockH
    have hp := p.isLt
    by_cases hc : 2304 * (t.val % 3) ≤ c.val ∧ c.val < 2304 * (t.val % 3) + 2304
    · rw [if_pos hc, if_pos ⟨⟨by show _ ≤ p.val; omega, by show p.val < _; omega⟩, hp, hc⟩]
      refine (hF_target m hO t _ p R hR (hx p R hR) (exF_own m hw R _ h1 h2) (c.val - 2304 * (t.val % 3)) (by omega)).trans ?_
      congr 1
      omega
    · rw [if_neg hc, if_neg fun k => hc k.2.2]
  · exact hF_target m hO t _ p R hR (hx p R hR) (exF_own m hw R _ h1 h2) n hn
  · refine (step_a m hO hw t Y6 Y7 s (ix2 p l)).trans ?_
    unfold blockA
    have hp := p.isLt
    exact if_pos ⟨⟨by show _ ≤ p.val; omega, by show p.val < _; omega⟩, hp⟩
  · refine (step_h m hO hw t Y6 Y7 s (ix2 p c)).trans (if_neg fun k => hn ?_)
    have k1 : loV m hO t ≤ p.val := k.1.1
    have k2 : p.val < hiV m hO t := k.1.2
    omega
  · refine (step_a m hO hw t Y6 Y7 s (ix2 p l)).trans (if_neg fun k => hn ?_)
    have k1 : loV m hO t ≤ p.val := k.1.1
    have k2 : p.val < hiV m hO t := k.1.2
    omega
end point

/-- What a point must leave in its output blocks: at the last chunk of a tile's last item, the tile's codes and scales. -/
def Post6 (t : Fin (cfgM m hO).N) (X : Vec Ideal S512x6912 .fp8e4m3) : Prop :=
  t.val % 3 = 2 ∧ Cert.Down.Ends (wTile m) (item m hO t) → ∀ (p : Fin 512) (R : Fin 16384), R.val = (wTile m (item m hO t)).toNat * 512 + p.val → ∀ n, X (ix2 p n) = codeT m R n
def Post7 (t : Fin (cfgM m hO).N) (X : Vec Ideal S512x1 .f32) : Prop :=
  t.val % 3 = 2 ∧ Cert.Down.Ends (wTile m) (item m hO t) → ∀ (p : Fin 512) (R : Fin 16384), R.val = (wTile m (item m hO t)).toNat * 512 + p.val → X (ix2 p 0) = scaleT m R

include hw in
theorem scale_done (k : Fin 35) (s : St Ideal) (I : InvS m k 3 s) (he : Cert.Down.Ends (wTile m) k) (p : Fin 512) (R : Fin 16384) (hR : R.val = (wTile m k).toNat * 512 + p.val) :
    sG s.amax p = scaleT m R ∧ ∀ n, s.h (ix2 p n) = hT m R n := by
  have d := Inv.done hw I he p R hR
  refine ⟨?_, fun n => (d.1 n).trans (hTn_val m R n)⟩
  unfold sG scaleT
  rw [← lanes_row (hTn m R) (hT m R) (hTn_val m R)]
  exact congrArg (fun f => scaleOf (Finset.univ.fold max ⊥ f)) (funext d.2)

/-- The invariant and what the points leave. -/
def track (hw : Items m) : Track m hO 0 where
  inv n s := ∀ h : n < 105, InvS m ⟨n / 3, by omega⟩ (n % 3) s
  post6 := Post6 m hO
  post7 := Post7 m hO
  init s _ := Inv.start hw
  step t Y6 Y7 s I := by
    have ht := point_lt m hO t
    have J := step_inv m hO hw t Y6 Y7 s (I ht)
    refine ⟨fun h => ?_, fun he p R hR n => ?_, fun he p R hR => ?_⟩
    · by_cases h2 : t.val % 3 = 2
      · have J' : InvS m (item m hO t) 3 (stepS m hO 0 t Y6 Y7 s) := by rw [h2] at J; exact J
        have h35 : t.val / 3 + 1 < 35 := by omega
        have K : InvS m ⟨t.val / 3 + 1, h35⟩ 0 (stepS m hO 0 t Y6 Y7 s) := Inv.carry hw h35 J'
        have e1 : (⟨(t.val + 1) / 3, by omega⟩ : Fin 35) = ⟨t.val / 3 + 1, h35⟩ := Fin.ext (by show (t.val + 1) / 3 = t.val / 3 + 1; omega)
        have e2 : (t.val + 1) % 3 = 0 := by omega
        rw [e1, e2]
        exact K
      · have e1 : (⟨(t.val + 1) / 3, by omega⟩ : Fin 35) = item m hO t := Fin.ext (by show (t.val + 1) / 3 = t.val / 3; omega)
        have e2 : (t.val + 1) % 3 = t.val % 3 + 1 := by omega
        rw [e1, e2]
        exact J
    · have J' : InvS m (item m hO t) 3 (stepS m hO 0 t Y6 Y7 s) := by rw [he.1] at J; exact J
      have d := scale_done m hw _ _ J' he.2 p R hR
      rw [left6_eq m hO t Y6 Y7 s (ix2 p n) he, cG_ix, d.1, d.2 n]
      rfl
    · have J' : InvS m (item m hO t) 3 (stepS m hO 0 t Y6 Y7 s) := by rw [he.1] at J; exact J
      exact (left7_eq m hO t Y6 Y7 s p he).trans (scale_done m hw _ _ J' he.2 p R hR).1

/-! ## The arrays -/

theorem index6 (t : Fin (cfgM m hO).N) : ((cfgM m hO).win 6).index t = ![(wTile m (item m hO t)).toNat, 0] :=
  (ix_row m (grid0.coords t) (item m hO t) (point_val m hO t)).2.2.2.2.2.2.1

/-- The block is written back at the last chunk of a tile's last item. -/
theorem flush6_iff (t : Fin (cfgM m hO).N) : ((cfgM m hO).win 6).flush t = true ↔ t.val % 3 = 2 ∧ Cert.Down.Ends (wTile m) (item m hO t) := by
  have ht := point_lt m hO t
  unfold Window.flush Cert.Down.Ends
  rw [show ((cfgM m hO).win 6).isOut = true from rfl, Bool.true_and, Bool.or_eq_true, decide_eq_true_iff, decide_eq_true_iff]
  have e1 : (t.val + 1 = (cfgM m hO).N) ↔ t.val = 104 := by
    show t.val + 1 = 105 ↔ _
    omega
  rw [e1]
  constructor
  · rintro (h | ⟨h, k⟩)
    · exact ⟨by omega, .inl (by show t.val / 3 = 34; omega)⟩
    · rw [index6, index6] at k
      have h' : t.val + 1 < 105 := h
      have h2 : t.val % 3 = 2 := by
        by_contra h2
        have e : item m hO ⟨t.val + 1, h⟩ = item m hO t := Fin.ext (by show (t.val + 1) / 3 = t.val / 3; omega)
        exact k (by rw [e])
      refine ⟨h2, .inr ⟨by show t.val / 3 + 1 < 35; omega, fun q => k ?_⟩⟩
      have e : item m hO ⟨t.val + 1, h⟩ = ⟨t.val / 3 + 1, by omega⟩ := Fin.ext (by show (t.val + 1) / 3 = t.val / 3 + 1; omega)
      rw [e]
      have q' : (wTile m ⟨t.val / 3 + 1, by omega⟩).toNat = (wTile m (item m hO t)).toNat := q
      rw [q']
  · rintro ⟨h2, h | ⟨h, k⟩⟩
    · have h' : t.val / 3 = 34 := h
      exact .inl (by omega)
    · have h' : t.val / 3 + 1 < 35 := h
      have hN : t.val + 1 < (cfgM m hO).N := by show t.val + 1 < 105; omega
      refine .inr ⟨hN, ?_⟩
      rw [index6, index6]
      intro q
      have e : item m hO ⟨t.val + 1, hN⟩ = ⟨t.val / 3 + 1, by omega⟩ := Fin.ext (by show (t.val + 1) / 3 = t.val / 3 + 1; omega)
      rw [e] at q
      exact k (congrFun q 0)

include hw in
theorem covered6 (i : S16384x6912.Idx) : ∃ t : Fin (cfgM m hO).N, ((cfgM m hO).win 6).flush t = true ∧ i ∈ (((cfgM m hO).win 6).blk t).view.set := by
  obtain ⟨k, ht, h1, h2⟩ := hw.ender (i 0).val (i 0).isLt
  obtain ⟨t, rfl, h3⟩ : ∃ u : Fin (cfgM m hO).N, k = item m hO u ∧ u.val % 3 = 2 :=
    ⟨⟨3 * k.val + 2, by show 3 * k.val + 2 < 105; omega⟩, Fin.ext (by show k.val = (3 * k.val + 2) / 3; omega), by show (3 * k.val + 2) % 3 = 2; omega⟩
  refine ⟨t, (flush6_iff m hO t).2 ⟨h3, ht⟩, ?_⟩
  have h : (((cfgM m hO).win 6).blk t).view.emb (ix2 (⟨(i 0).val - (wTile m (item m hO t)).toNat * 512, by omega⟩ : Fin 512) (i 1 : Fin 6912) : S512x6912.Idx) = i := ?_
  · exact h ▸ View.emb_mem_set _ _
  funext a
  refine Fin.ext ?_
  refine (Window.rect_emb_val ((cfgM m hO).win 6) t _ a rfl).trans ?_
  rw [index6]
  match a with
  | ⟨0, _⟩ => show (wTile m (item m hO t)).toNat * 512 + ((i 0).val - (wTile m (item m hO t)).toNat * 512) = (i 0).val; omega
  | ⟨1, _⟩ => show 0 * 6912 + (i 1).val = (i 1).val; omega

include hw in
theorem arr6 (T : Track m hO 0) (hT : T = track m hO hw) (after : (w : Fin (cfgM m hO).W) → Fin (cfgM m hO).N → ((cfgM m hO).win w).block.Idx → Elt Ideal ((cfgM m hO).win w).elt)
    (hL : ∀ w u, ((cfgM m hO).win w).flush u = true → (rdats m hO 0 T).Leaves w u (after w u)) :
    ((rdats m hO 0 T).withAfter after).arrAt 6 (cfgM m hO).N = fun y : S16384x6912.Idx => codeT m (y 0) (y 1) := by
  subst hT
  refine Dat.arrAt_eq_of_emb _ 6 _ (fun t hf y => ?_) (covered6 m hO hw)
  revert y
  suffices key : ∀ (y : S512x6912.Idx) (z : S16384x6912.Idx), (∀ a : Fin 2, (z a).val = (![(wTile m (item m hO t)).toNat, 0] : Fin 2 → ℕ) a * S512x6912.size a + (y a).val) →
      (after 6 t : Vec Ideal S512x6912 .fp8e4m3) y = codeT m (z 0) (z 1) from fun y => key y _ fun a =>
        (Window.rect_emb_val ((cfgM m hO).win 6) t y a rfl).trans (by rw [index6]; rfl)
  intro y z hz
  obtain ⟨p, n, rfl⟩ : ∃ (p : Fin 512) (n : Fin 6912), y = (ix2 p n : S512x6912.Idx) := ⟨y 0, y 1, by ext a; fin_cases a <;> rfl⟩
  obtain ⟨Y, -, hY⟩ := hL 6 t hf
  have hp : Post6 m hO t (after 6 t) := (rafter0_6 m hO 0 (track m hO hw) t Y (after 6 t)).1 hY
  have h1 : z 1 = n := Fin.ext ((hz 1).trans (by show 0 * 6912 + n.val = n.val; omega))
  rw [h1]
  exact hp ((flush6_iff m hO t).1 hf) p (z 0) (hz 0) n

theorem index7 (t : Fin (cfgM m hO).N) : ((cfgM m hO).win 7).index t = ![(wTile m (item m hO t)).toNat, 0] :=
  (ix_row m (grid0.coords t) (item m hO t) (point_val m hO t)).2.2.2.2.2.2.2

/-- The block is written back at the last chunk of a tile's last item. -/
theorem flush7_iff (t : Fin (cfgM m hO).N) : ((cfgM m hO).win 7).flush t = true ↔ t.val % 3 = 2 ∧ Cert.Down.Ends (wTile m) (item m hO t) := by
  have ht := point_lt m hO t
  unfold Window.flush Cert.Down.Ends
  rw [show ((cfgM m hO).win 7).isOut = true from rfl, Bool.true_and, Bool.or_eq_true, decide_eq_true_iff, decide_eq_true_iff]
  have e1 : (t.val + 1 = (cfgM m hO).N) ↔ t.val = 104 := by
    show t.val + 1 = 105 ↔ _
    omega
  rw [e1]
  constructor
  · rintro (h | ⟨h, k⟩)
    · exact ⟨by omega, .inl (by show t.val / 3 = 34; omega)⟩
    · rw [index7, index7] at k
      have h' : t.val + 1 < 105 := h
      have h2 : t.val % 3 = 2 := by
        by_contra h2
        have e : item m hO ⟨t.val + 1, h⟩ = item m hO t := Fin.ext (by show (t.val + 1) / 3 = t.val / 3; omega)
        exact k (by rw [e])
      refine ⟨h2, .inr ⟨by show t.val / 3 + 1 < 35; omega, fun q => k ?_⟩⟩
      have e : item m hO ⟨t.val + 1, h⟩ = ⟨t.val / 3 + 1, by omega⟩ := Fin.ext (by show (t.val + 1) / 3 = t.val / 3 + 1; omega)
      rw [e]
      have q' : (wTile m ⟨t.val / 3 + 1, by omega⟩).toNat = (wTile m (item m hO t)).toNat := q
      rw [q']
  · rintro ⟨h2, h | ⟨h, k⟩⟩
    · have h' : t.val / 3 = 34 := h
      exact .inl (by omega)
    · have h' : t.val / 3 + 1 < 35 := h
      have hN : t.val + 1 < (cfgM m hO).N := by show t.val + 1 < 105; omega
      refine .inr ⟨hN, ?_⟩
      rw [index7, index7]
      intro q
      have e : item m hO ⟨t.val + 1, hN⟩ = ⟨t.val / 3 + 1, by omega⟩ := Fin.ext (by show (t.val + 1) / 3 = t.val / 3 + 1; omega)
      rw [e] at q
      exact k (congrFun q 0)

include hw in
theorem covered7 (i : S16384x1.Idx) : ∃ t : Fin (cfgM m hO).N, ((cfgM m hO).win 7).flush t = true ∧ i ∈ (((cfgM m hO).win 7).blk t).view.set := by
  obtain ⟨k, ht, h1, h2⟩ := hw.ender (i 0).val (i 0).isLt
  obtain ⟨t, rfl, h3⟩ : ∃ u : Fin (cfgM m hO).N, k = item m hO u ∧ u.val % 3 = 2 :=
    ⟨⟨3 * k.val + 2, by show 3 * k.val + 2 < 105; omega⟩, Fin.ext (by show k.val = (3 * k.val + 2) / 3; omega), by show (3 * k.val + 2) % 3 = 2; omega⟩
  refine ⟨t, (flush7_iff m hO t).2 ⟨h3, ht⟩, ?_⟩
  have h : (((cfgM m hO).win 7).blk t).view.emb (ix2 (⟨(i 0).val - (wTile m (item m hO t)).toNat * 512, by omega⟩ : Fin 512) (i 1 : Fin 1) : S512x1.Idx) = i := ?_
  · exact h ▸ View.emb_mem_set _ _
  funext a
  refine Fin.ext ?_
  refine (Window.rect_emb_val ((cfgM m hO).win 7) t _ a rfl).trans ?_
  rw [index7]
  match a with
  | ⟨0, _⟩ => show (wTile m (item m hO t)).toNat * 512 + ((i 0).val - (wTile m (item m hO t)).toNat * 512) = (i 0).val; omega
  | ⟨1, _⟩ => show 0 * 1 + (i 1).val = (i 1).val; omega

include hw in
theorem arr7 (T : Track m hO 0) (hT : T = track m hO hw) (after : (w : Fin (cfgM m hO).W) → Fin (cfgM m hO).N → ((cfgM m hO).win w).block.Idx → Elt Ideal ((cfgM m hO).win w).elt)
    (hL : ∀ w u, ((cfgM m hO).win w).flush u = true → (rdats m hO 0 T).Leaves w u (after w u)) :
    ((rdats m hO 0 T).withAfter after).arrAt 7 (cfgM m hO).N = fun y : S16384x1.Idx => scaleT m (y 0) := by
  subst hT
  refine Dat.arrAt_eq_of_emb _ 7 _ (fun t hf y => ?_) (covered7 m hO hw)
  revert y
  suffices key : ∀ (y : S512x1.Idx) (z : S16384x1.Idx), (∀ a : Fin 2, (z a).val = (![(wTile m (item m hO t)).toNat, 0] : Fin 2 → ℕ) a * S512x1.size a + (y a).val) →
      (after 7 t : Vec Ideal S512x1 .f32) y = scaleT m (z 0) from fun y => key y _ fun a =>
        (Window.rect_emb_val ((cfgM m hO).win 7) t y a rfl).trans (by rw [index7]; rfl)
  intro y z hz
  obtain ⟨p, n, rfl⟩ : ∃ (p : Fin 512) (n : Fin 1), y = (ix2 p n : S512x1.Idx) := ⟨y 0, y 1, by ext a; fin_cases a <;> rfl⟩
  obtain ⟨Y, -, hY⟩ := hL 7 t hf
  have hp : Post7 m hO t (after 7 t) := (rafter0_7 m hO 0 (track m hO hw) t Y (after 7 t)).1 hY
  obtain rfl : n = 0 := Subsingleton.elim _ _
  exact hp ((flush7_iff m hO t).1 hf) p (z 0) (hz 0)

include hw in
/-- The run: the result arrays end holding the targets, the arguments as they were. -/
theorem run_target (ρ : Dev nD → PrngReg) : θ_run defs (onTc (τ := τ) (main (F := Ideal))) (s₀ m ρ) (fun r => ∀ c : Dev nD,
    (r.2.mem ((c.tc : Thread nD τ).loc main_v2_0) = (fun y : S16384x6912.Idx => codeT m (y 0) (y 1))
      ∧ r.2.mem ((c.tc : Thread nD τ).loc main_v2_1) = (fun y : S16384x1.Idx => scaleT m (y 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have hO := ok_of_items m hw
  obtain ⟨T, hT⟩ : ∃ T : (c : Dev nD) → Track m hO c, T 0 = track m hO hw := ⟨fun c => Subsingleton.elim (0 : Dev nD) c ▸ track m hO hw, rfl⟩
  refine (θ_run _ _ _).mono (fun r h c => ⟨?_, args_kept m hO T r h.1 c⟩) (run_main_quiescent m ρ hO T)
  obtain rfl : c = 0 := Subsingleton.elim _ _
  obtain ⟨after, hL, hA⟩ := h.1.exists_exact 0
  exact ⟨(hA 6).trans (arr6 m hO hw (T 0) hT after hL), (hA 7).trans (arr7 m hO hw (T 0) hT after hL)⟩

end Cert.UpExIdeal.Gen

end
-- ==== Proof.UpExRefValue.lean ====
/- The expert reference's two result arrays after the run: every row's hidden activations with its expert, chosen by
   comparisons, and the codes and the scale that the quantiser takes from them. -/
module

public import proofs.«01_k».proof.Proof.Gen.UpExRefIdeal.Value
public import proofs.«01_k».proof.Proof.UpExMath
public import Idealize.ShloMosaic.Lib.Pipeline.ValueKit
public import Idealize.ShloMosaic.Lib.Pointwise
public import Idealize.ShloMosaic.Lib.WordCmp

@[expose] public section

set_option maxRecDepth 16384

noncomputable section

namespace Cert.UpExRefValue

open Idealize.ShloMosaic Idealize.ShloMosaic.TcCoe Idealize.SL.Sem Idealize.ShloMosaic.WordCmp Cert.UpExRefIdeal Cert.UpExRefIdeal.Gen Cert.Quant Cert.Up

/-- One expert's linear map on one row. -/
def lin (X : Vec Ideal S16384x2560 .fp8e4m3) (S : Vec Ideal S16384x1 .f32) (W : Vec Ideal S1x2560x6912 .fp8e4m3) (T : Vec Ideal S1x1x6912 .f32)
    (r : Fin 16384) (n : Fin 6912) : EReal :=
  (∑ k : Fin 2560, X (ix2 r k) * W (ix3 0 k n)) * S (ix2 r 0) * T (ix3 0 0 n)

/-- The choice by comparisons. -/
def sel4 (e : BitVec 32) (f : Fin 4 → EReal) : EReal :=
  if e = 3#32 then f 3 else if e = 2#32 then f 2 else if e = 1#32 then f 1 else if e = 0#32 then f 0 else 0

theorem sel4_of_lt {e : BitVec 32} (f : Fin 4 → EReal) (a : Fin 4) (h : e.toNat = a.val) : sel4 e f = f a := by
  obtain rfl : e = BitVec.ofNat 32 a.val := BitVec.eq_of_toNat_eq (by rw [h, BitVec.toNat_ofNat]; have := a.isLt; omega)
  fin_cases a <;> rfl

/-- A row's hidden activations, its expert chosen by comparisons. -/
def hidF (e : BitVec 32) (x : Fin 2560 → EReal) (s : EReal) (w1 : Fin 4 → Fin 2560 → Fin 6912 → EReal) (s1 : Fin 4 → Fin 6912 → EReal)
    (w3 : Fin 4 → Fin 2560 → Fin 6912 → EReal) (s3 : Fin 4 → Fin 6912 → EReal) (n : Fin 6912) : EReal :=
  hid (sel4 e fun a => (∑ k, x k * w1 a k n) * s * s1 a n) (sel4 e fun a => (∑ k, x k * w3 a k n) * s * s3 a n)

theorem hidF_of_lt {e : BitVec 32} (x : Fin 2560 → EReal) (s : EReal) (w1 : Fin 4 → Fin 2560 → Fin 6912 → EReal) (s1 : Fin 4 → Fin 6912 → EReal)
    (w3 : Fin 4 → Fin 2560 → Fin 6912 → EReal) (s3 : Fin 4 → Fin 6912 → EReal) (a : Fin 4) (h : e.toNat = a.val) :
    hidF e x s w1 s1 w3 s3 = hRow x s (w1 a) (s1 a) (w3 a) (s3 a) := by
  funext n
  unfold hidF hRow
  rw [sel4_of_lt _ a h, sel4_of_lt _ a h]

theorem hidF_congr {e e' : BitVec 32} {x x' : Fin 2560 → EReal} {s s' : EReal} {w1 w1' w3 w3' : Fin 4 → Fin 2560 → Fin 6912 → EReal} {s1 s1' s3 s3' : Fin 4 → Fin 6912 → EReal}
    (h0 : e = e') (h1 : ∀ k, x k = x' k) (h2 : s = s') (h3 : ∀ a k n, w1 a k n = w1' a k n) (h4 : ∀ a n, s1 a n = s1' a n)
    (h5 : ∀ a k n, w3 a k n = w3' a k n) (h6 : ∀ a n, s3 a n = s3' a n) : hidF e x s w1 s1 w3 s3 = hidF e' x' s' w1' s1' w3' s3' := by
  obtain rfl : x = x' := funext h1
  obtain rfl : w1 = w1' := funext fun a => funext fun k => funext (h3 a k)
  obtain rfl : s1 = s1' := funext fun a => funext (h4 a)
  obtain rfl : w3 = w3' := funext fun a => funext fun k => funext (h5 a k)
  obtain rfl : s3 = s3' := funext fun a => funext (h6 a)
  rw [h0, h2]

/-! ## The payloads -/

theorem codes_apply (Wd : Vec Ideal S16384x640 .i32) (r : Fin 16384) (k : Fin 2560) :
    k0_pay1 Wd (ix2 r k) = decAt (fun q => Wd (ix2 r q)) k := by
  have hk := k.isLt
  pointwise [k0_pay1]
  split
  · exact (decAt_eq (fun q => Wd (ix2 r q)) 0 ⟨k.val, by omega⟩ k (by show k.val = 640 * 0 + k.val; omega)).symm
  split
  · exact (decAt_eq (fun q => Wd (ix2 r q)) 1 ⟨k.val - 640, by omega⟩ k (by show k.val = 640 * 1 + (k.val - 640); omega)).symm
  split
  · exact (decAt_eq (fun q => Wd (ix2 r q)) 2 ⟨k.val - 640 - 640, by omega⟩ k (by show k.val = 640 * 2 + (k.val - 640 - 640); omega)).symm
  · exact (decAt_eq (fun q => Wd (ix2 r q)) 3 ⟨k.val - 640 - 640 - 640, by omega⟩ k (by show k.val = 640 * 3 + (k.val - 640 - 640 - 640); omega)).symm

section payloads
variable (E : Vec Ideal S16384x1 .i32) (Wd : Vec Ideal S16384x640 .i32) (X : Vec Ideal S16384x2560 .fp8e4m3) (S : Vec Ideal S16384x1 .f32)
  (W0 W1 W2 W3 : Vec Ideal S1x2560x6912 .fp8e4m3) (T0 T1 T2 T3 : Vec Ideal S1x1x6912 .f32)

theorem sel_eq (a b : BitVec 32) (x y : EReal) : Scalar.select (IntOp.cmpi .eq a b) x y = if a = b then x else y := by
  by_cases h : a = b
  · rw [if_pos h, h, show IntOp.cmpi .eq b b = 1#1 from by unfold IntOp.cmpi; simp]; rfl
  · rw [if_neg h, show IntOp.cmpi .eq a b = 0#1 from by show BitVec.ofBool (a == b) = 0#1; rw [beq_false_of_ne h]; rfl]; rfl

theorem gate01 (r : Fin 16384) (n : Fin 6912) (D : FVec Ideal S16384x6912 .f32) (hD : D = k0_pay5 Wd W0) (hX : X = k0_pay1 Wd) :
    k0_pay7 X k0_pay2 (k0_pay3 E) (k0_pay4 T0) D (k0_pay6 S) E S W1 T1 (ix2 r n)
      = if E (ix2 r 0) = 1#32 then lin X S W1 T1 r n else if E (ix2 r 0) = 0#32 then lin X S W0 T0 r n else 0 := by
  have eD : D (ix2 r n) = ∑ k : Fin 2560, X (ix2 r k) * W0 (ix3 0 k n) := by
    rw [hD, hX]
    generalize hz : k0_pay1 Wd = Z
    unfold k0_pay5
    rw [hz]
    pointwise []
  rw [← sel_eq, ← sel_eq]
  unfold lin
  rw [← eD]
  clear eD hD hX
  pointwise [k0_pay7, k0_pay2, k0_pay3, k0_pay4, k0_pay6]

theorem gate23 (r : Fin 16384) (n : Fin 6912) (A : FVec Ideal S16384x6912 .f32) (g : EReal)
    (hg : g = if E (ix2 r 0) = 3#32 then lin X S W3 T3 r n else if E (ix2 r 0) = 2#32 then lin X S W2 T2 r n else A (ix2 r n)) :
    k0_pay10 X A (k0_pay8 X S W2 T2) (k0_pay9 E) E S W3 T3 (ix2 r n) = g * Ideal.logistic g := by
  rw [hg, ← sel_eq, ← sel_eq]
  pointwise [k0_pay10, k0_pay8, k0_pay9]
  rfl

theorem up012 (r : Fin 16384) (n : Fin 6912) :
    k0_pay14 X k0_pay11 (k0_pay12 X S W0 T0) (k0_pay13 E) E S W1 T1 E S W2 T2 (ix2 r n)
      = if E (ix2 r 0) = 2#32 then lin X S W2 T2 r n else if E (ix2 r 0) = 1#32 then lin X S W1 T1 r n else if E (ix2 r 0) = 0#32 then lin X S W0 T0 r n else 0 := by
  rw [← sel_eq, ← sel_eq, ← sel_eq]
  pointwise [k0_pay14, k0_pay11, k0_pay12, k0_pay13]
  rfl

theorem up3 (r : Fin 16384) (n : Fin 6912) (G A : FVec Ideal S16384x6912 .f32) :
    k0_pay15 X G A E S W3 T3 (ix2 r n) = G (ix2 r n) * (if E (ix2 r 0) = 3#32 then lin X S W3 T3 r n else A (ix2 r n)) := by
  rw [← sel_eq]
  pointwise [k0_pay15]
  rfl

theorem code_lay (r : Fin 16384) (n : Fin 6912) (G A : FVec Ideal S16384x6912 .f32) :
    k0_pay17 X G A E S W3 T3 (ix2 r n) = codeOf (k0_pay16 X G A E S W3 T3 (ix2 r 0)) (k0_pay15 X G A E S W3 T3 (ix2 r n)) := by
  unfold k0_pay17
  generalize k0_pay16 X G A E S W3 T3 = M
  generalize k0_pay15 X G A E S W3 T3 = H
  have e : broadcastTo S16384x6912 M broadcasts_S16384x1_S16384x6912 (ix2 r n) = M (ix2 r 0) := by pointwise []
  rw [← e]
  clear e
  generalize broadcastTo S16384x6912 M broadcasts_S16384x1_S16384x6912 = K
  exact code_vec H K (ix2 r n) _

theorem scale_lay (r : Fin 16384) (G A : FVec Ideal S16384x6912 .f32) (h : Fin 6912 → EReal) (hh : ∀ n, k0_pay15 X G A E S W3 T3 (ix2 r n) = h n) :
    k0_pay16 X G A E S W3 T3 (ix2 r 0) = scaleOf (rowMax h) := by
  unfold k0_pay16
  revert hh
  generalize k0_pay15 X G A E S W3 T3 = H
  intro hh
  have e2 : multiReduction (F := Ideal) .maximumf [1] S16384 (absf H) 0xFF800000#32 reduces_S16384x6912_S16384 (.inl rfl) rfl (ix1 r) = rowMax h := by
    refine (rowmax_apply _ _ _ _ r).trans ?_
    unfold rowMax
    refine congrArg (fun f => Finset.fold max ⊥ f Finset.univ) (funext fun k => ?_)
    rw [← hh]
    rfl
  rw [← e2]
  clear e2
  generalize multiReduction (F := Ideal) .maximumf [1] S16384 (absf H) 0xFF800000#32 reduces_S16384x6912_S16384 (.inl rfl) rfl = M
  have e : shapeCast S16384x1 M shapeCasts_S16384_S16384x1 (ix2 r 0) = M (ix1 r) := by pointwise []
  rw [← e]
  clear e
  generalize shapeCast S16384x1 M shapeCasts_S16384_S16384x1 = K
  exact scale_vec K (ix2 r 0)

end payloads

/-! ## The loads -/

theorem lin0 (X : Vec Ideal S16384x2560 .fp8e4m3) (S : Vec Ideal S16384x1 .f32) (x : Vec Ideal S4x2560x6912 .fp8e4m3) (z : Vec Ideal S4x1x6912 .f32)
    (r : Fin 16384) (n : Fin 6912) : lin X S (View.ld x r0_2) (View.ld z r0_3) r n
      = (∑ k : Fin 2560, X (ix2 r k) * x (ix3 0 k n)) * S (ix2 r 0) * z (ix3 0 0 n) :=
  congrArg₂ (fun a b : EReal => a * S (ix2 r 0) * b)
    (Finset.sum_congr rfl fun k _ => congrArg (fun b : EReal => X (ix2 r k) * b) (congrArg x (funext fun a => Fin.ext (match a with
      | ⟨0, _⟩ => rfl
      | ⟨1, _⟩ => by show 0 + 1 * k.val = k.val; omega
      | ⟨2, _⟩ => by show 0 + 1 * n.val = n.val; omega))))
    (congrArg z (funext fun a => Fin.ext (match a with
      | ⟨0, _⟩ => rfl
      | ⟨1, _⟩ => rfl
      | ⟨2, _⟩ => by show 0 + 1 * n.val = n.val; omega)))

theorem lin1 (X : Vec Ideal S16384x2560 .fp8e4m3) (S : Vec Ideal S16384x1 .f32) (x : Vec Ideal S4x2560x6912 .fp8e4m3) (z : Vec Ideal S4x1x6912 .f32)
    (r : Fin 16384) (n : Fin 6912) : lin X S (View.ld x r0_4) (View.ld z r0_5) r n
      = (∑ k : Fin 2560, X (ix2 r k) * x (ix3 1 k n)) * S (ix2 r 0) * z (ix3 1 0 n) :=
  congrArg₂ (fun a b : EReal => a * S (ix2 r 0) * b)
    (Finset.sum_congr rfl fun k _ => congrArg (fun b : EReal => X (ix2 r k) * b) (congrArg x (funext fun a => Fin.ext (match a with
      | ⟨0, _⟩ => rfl
      | ⟨1, _⟩ => by show 0 + 1 * k.val = k.val; omega
      | ⟨2, _⟩ => by show 0 + 1 * n.val = n.val; omega))))
    (congrArg z (funext fun a => Fin.ext (match a with
      | ⟨0, _⟩ => rfl
      | ⟨1, _⟩ => rfl
      | ⟨2, _⟩ => by show 0 + 1 * n.val = n.val; omega)))

theorem lin2 (X : Vec Ideal S16384x2560 .fp8e4m3) (S : Vec Ideal S16384x1 .f32) (x : Vec Ideal S4x2560x6912 .fp8e4m3) (z : Vec Ideal S4x1x6912 .f32)
    (r : Fin 16384) (n : Fin 6912) : lin X S (View.ld x r0_6) (View.ld z r0_7) r n
      = (∑ k : Fin 2560, X (ix2 r k) * x (ix3 2 k n)) * S (ix2 r 0) * z (ix3 2 0 n) :=
  congrArg₂ (fun a b : EReal => a * S (ix2 r 0) * b)
    (Finset.sum_congr rfl fun k _ => congrArg (fun b : EReal => X (ix2 r k) * b) (congrArg x (funext fun a => Fin.ext (match a with
      | ⟨0, _⟩ => rfl
      | ⟨1, _⟩ => by show 0 + 1 * k.val = k.val; omega
      | ⟨2, _⟩ => by show 0 + 1 * n.val = n.val; omega))))
    (congrArg z (funext fun a => Fin.ext (match a with
      | ⟨0, _⟩ => rfl
      | ⟨1, _⟩ => rfl
      | ⟨2, _⟩ => by show 0 + 1 * n.val = n.val; omega)))

theorem lin3 (X : Vec Ideal S16384x2560 .fp8e4m3) (S : Vec Ideal S16384x1 .f32) (x : Vec Ideal S4x2560x6912 .fp8e4m3) (z : Vec Ideal S4x1x6912 .f32)
    (r : Fin 16384) (n : Fin 6912) : lin X S (View.ld x r0_8) (View.ld z r0_9) r n
      = (∑ k : Fin 2560, X (ix2 r k) * x (ix3 3 k n)) * S (ix2 r 0) * z (ix3 3 0 n) :=
  congrArg₂ (fun a b : EReal => a * S (ix2 r 0) * b)
    (Finset.sum_congr rfl fun k _ => congrArg (fun b : EReal => X (ix2 r k) * b) (congrArg x (funext fun a => Fin.ext (match a with
      | ⟨0, _⟩ => rfl
      | ⟨1, _⟩ => by show 0 + 1 * k.val = k.val; omega
      | ⟨2, _⟩ => by show 0 + 1 * n.val = n.val; omega))))
    (congrArg z (funext fun a => Fin.ext (match a with
      | ⟨0, _⟩ => rfl
      | ⟨1, _⟩ => rfl
      | ⟨2, _⟩ => by show 0 + 1 * n.val = n.val; omega)))

theorem ld_whole {e : EltTy} (x : Vec Ideal S16384x1 e) : View.ld x r0_1 = x :=
  funext fun y => congrArg x (funext fun a => Fin.ext (by show (![0, 0] : Fin 2 → ℕ) a + 1 * (y a).val = (y a).val; fin_cases a <;> simp))
theorem ld_words (x : Vec Ideal S16384x640 .i32) : View.ld x r0_0 = x :=
  funext fun y => congrArg x (funext fun a => Fin.ext (by show (![0, 0] : Fin 2 → ℕ) a + 1 * (y a).val = (y a).val; fin_cases a <;> simp))

section block
variable (x0 : Vec Ideal S16384x1 .i32) (x1 : Vec Ideal S16384x640 .i32) (x2 : Vec Ideal S16384x1 .f32) (x3 : Vec Ideal S4x2560x6912 .fp8e4m3)
  (x4 : Vec Ideal S4x1x6912 .f32) (x5 : Vec Ideal S4x2560x6912 .fp8e4m3) (x6 : Vec Ideal S4x1x6912 .f32)

/-- A row's hidden activations, from the body's blocks. -/
def hB (r : Fin 16384) : Fin 6912 → EReal :=
  hidF (x0 (ix2 r 0)) (fun k => decAt (fun q => x1 (ix2 r q)) k) (x2 (ix2 r 0)) (fun a k n => x3 (ix3 a k n)) (fun a n => x4 (ix3 a 0 n))
    (fun a k n => x5 (ix3 a k n)) (fun a n => x6 (ix3 a 0 n))

theorem hidden_ld (r : Fin 16384) (n : Fin 6912) :
    k0_pay15 (k0_pay18 x0 x1 x2 x3 x4 x5 x6) (k0_pay19 x0 x1 x2 x3 x4 x5 x6) (k0_pay20 x0 x1 x2 x3 x4 x5 x6) (View.ld x0 r0_1) (View.ld x2 r0_1) (View.ld x5 r0_8) (View.ld x6 r0_9) (ix2 r n)
      = hB x0 x1 x2 x3 x4 x5 x6 r n := by
  rw [up3]
  unfold k0_pay19 k0_pay20
  rw [gate23 (hg := rfl), up012, gate01 (Wd := View.ld x1 r0_0) (X := k0_pay18 x0 x1 x2 x3 x4 x5 x6) (W0 := View.ld x3 r0_2) (hD := rfl) (hX := rfl)]
  rw [lin0, lin1, lin2, lin3, lin0, lin1, lin2, lin3, ld_whole, ld_whole]
  have hx (k : Fin 2560) : k0_pay18 x0 x1 x2 x3 x4 x5 x6 (ix2 r k) = decAt (fun q => x1 (ix2 r q)) k := by
    unfold k0_pay18
    rw [ld_words]
    exact codes_apply x1 r k
  simp only [hx]
  rfl

theorem hidden_apply (r : Fin 16384) (n : Fin 6912) :
    k0_pay15 (k0_pay18 x0 x1 x2 x3 x4 x5 x6) (k0_pay19 x0 x1 x2 x3 x4 x5 x6) (k0_pay20 x0 x1 x2 x3 x4 x5 x6) x0 x2 (View.ld x5 r0_8) (View.ld x6 r0_9) (ix2 r n)
      = hB x0 x1 x2 x3 x4 x5 x6 r n := by
  have h := hidden_ld x0 x1 x2 x3 x4 x5 x6 r n
  rw [ld_whole x0, ld_whole x2] at h
  exact h

theorem scale_apply (r : Fin 16384) : out0_8 x0 x1 x2 x3 x4 x5 x6 (ix2 r 0) = scaleOf (rowMax (hB x0 x1 x2 x3 x4 x5 x6 r)) := by
  frame_out
  exact scale_lay _ _ _ _ _ r _ _ _ (hidden_apply x0 x1 x2 x3 x4 x5 x6 r)

theorem code_apply (r : Fin 16384) (n : Fin 6912) : out0_7 x0 x1 x2 x3 x4 x5 x6 (ix2 r n)
    = codeOf (scaleOf (rowMax (hB x0 x1 x2 x3 x4 x5 x6 r))) (hB x0 x1 x2 x3 x4 x5 x6 r n) := by
  frame_out
  refine (code_lay _ _ _ _ _ r n _ _).trans ?_
  exact congrArg₂ codeOf (scale_lay _ _ _ _ _ r _ _ _ (hidden_apply x0 x1 x2 x3 x4 x5 x6 r)) (hidden_apply x0 x1 x2 x3 x4 x5 x6 r n)

end block

/-! ## The arrays -/

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0, 0]
    ∧ win0_4.index t = ![0, 0, 0] ∧ win0_5.index t = ![0, 0, 0] ∧ win0_6.index t = ![0, 0, 0] ∧ win0_7.index t = ![0, 0] ∧ win0_8.index t = ![0, 0] :=
  (by decide +kernel : ∀ t : Fin grid0.N, _)

/-- A row's hidden activations, from the arguments. -/
def hE (c : Dev nD) (R : Fin 16384) : Fin 6912 → EReal :=
  hidF (m ((c : Thread nD τ).loc main_arg0) (ix2 R (0 : Fin 1))) (fun k => decAt (fun q => m ((c : Thread nD τ).loc main_arg5) (ix2 R q)) k)
    (m ((c : Thread nD τ).loc main_arg6) (ix2 R (0 : Fin 1))) (fun a k n => m ((c : Thread nD τ).loc main_arg7) (ix3 a k n))
    (fun a n => m ((c : Thread nD τ).loc main_arg8) (ix2 a n)) (fun a k n => m ((c : Thread nD τ).loc main_arg9) (ix3 a k n))
    (fun a n => m ((c : Thread nD τ).loc main_arg10) (ix2 a n))

theorem hostScale4 (c : Dev nD) (x : Fin 4) (n : Fin 6912) : V m c main_v0 (ix3 x 0 n : S4x1x6912.Idx) = m ((c : Thread nD τ).loc main_arg8) (ix2 x n) := by
  unfold V hostOps0
  simp only [StableHlo.after_cons, StableHlo.after_nil]
  rw [StableHlo.unary_result_ne (h := by decide), StableHlo.unary_result]
  pointwise []

theorem hostScale6 (c : Dev nD) (x : Fin 4) (n : Fin 6912) : V m c main_v1 (ix3 x 0 n : S4x1x6912.Idx) = m ((c : Thread nD τ).loc main_arg10) (ix2 x n) := by
  unfold V hostOps0
  simp only [StableHlo.after_cons, StableHlo.after_nil]
  rw [StableHlo.unary_result]
  rw [StableHlo.unary_result_ne (h := by decide)]
  pointwise []

theorem hB_eq (c : Dev nD) (t : Fin cfg0.N) (r : Fin 16384) :
    hB (iblk m c 0 t) (iblk m c 1 t) (iblk m c 2 t) (iblk m c 3 t) (iblk m c 4 t) (iblk m c 5 t) (iblk m c 6 t) r = hE m c r := by
  have e0 : iblk m c 0 t (ix2 r 0) = m ((c : Thread nD τ).loc main_arg0) (ix2 r 0) := by blk_ext [iblk, V, idx t]
  have e1 (k : Fin 640) : iblk m c 1 t (ix2 r k) = m ((c : Thread nD τ).loc main_arg5) (ix2 r k) := by blk_ext [iblk, V, idx t]
  have e2 : iblk m c 2 t (ix2 r 0) = m ((c : Thread nD τ).loc main_arg6) (ix2 r 0) := by blk_ext [iblk, V, idx t]
  have e3 (e : Fin 4) (k : Fin 2560) (n : Fin 6912) : iblk m c 3 t (ix3 e k n) = m ((c : Thread nD τ).loc main_arg7) (ix3 e k n) := by blk_ext [iblk, V, idx t]
  have e5 (e : Fin 4) (k : Fin 2560) (n : Fin 6912) : iblk m c 5 t (ix3 e k n) = m ((c : Thread nD τ).loc main_arg9) (ix3 e k n) := by blk_ext [iblk, V, idx t]
  have e4 (e : Fin 4) (n : Fin 6912) : iblk m c 4 t (ix3 e 0 n) = m ((c : Thread nD τ).loc main_arg8) (ix2 e n) := by
    refine Eq.trans ?_ (hostScale4 m c e n)
    blk_ext [iblk, idx t]
  have e6 (e : Fin 4) (n : Fin 6912) : iblk m c 6 t (ix3 e 0 n) = m ((c : Thread nD τ).loc main_arg10) (ix2 e n) := by
    refine Eq.trans ?_ (hostScale6 m c e n)
    blk_ext [iblk, idx t]
  exact hidF_congr e0 (fun k => congrArg (fun w => decAt w k) (funext e1)) e2 e3 e4 e5 e6

theorem out8 (c : Dev nD) : (dats m 0 c).arrAt 8 cfg0.N = fun y : S16384x1.Idx => scaleOf (rowMax (hE m c (y 0))) := by
  refine (dats m 0 c).arrAt_eq_of_covers 8 _ (by decide +kernel) fun t hf y => ?_
  rw [after0_8]
  blk_simp
  obtain ⟨r, rfl⟩ : ∃ r : Fin 16384, y = (ix2 r 0 : S16384x1.Idx) := ⟨y 0, by
    funext a
    fin_cases a
    · rfl
    · exact Subsingleton.elim (α := Fin 1) _ _⟩
  rw [scale_apply, hB_eq m c t r]
  have h0 : (win0_8.blk t).view.emb (ix2 r 0 : S16384x1.Idx) 0 = r := Fin.ext (by blk_simp [idx t])
  rw [h0]

theorem out7 (c : Dev nD) : (dats m 0 c).arrAt 7 cfg0.N
    = fun y : S16384x6912.Idx => codeOf (scaleOf (rowMax (hE m c (y 0)))) (hE m c (y 0) (y 1)) := by
  refine (dats m 0 c).arrAt_eq_of_covers 7 _ (by decide +kernel) fun t hf y => ?_
  rw [after0_7]
  blk_simp
  obtain ⟨r, n, rfl⟩ : ∃ (r : Fin 16384) (n : Fin 6912), y = (ix2 r n : S16384x6912.Idx) := ⟨y 0, y 1, by ext a; fin_cases a <;> rfl⟩
  rw [code_apply, hB_eq m c t r]
  have h0 : (win0_7.blk t).view.emb (ix2 r n : S16384x6912.Idx) 0 = r := Fin.ext (by blk_simp [idx t])
  have h1 : (win0_7.blk t).view.emb (ix2 r n : S16384x6912.Idx) 1 = n := Fin.ext (by blk_simp [idx t])
  rw [h0, h1]

end Cert.UpExRefValue

end
-- ==== Proof.DownShBlock.lean ====
/- What one grid point of the shared experts' down projection leaves in its output block, read from the blocks it was given:
   the row of the residual plus the gate times the linear map and the routed row. The kernel computes the row in five
   pieces of 512 columns. -/
module

public import proofs.«01_k».proof.Proof.Gen.DownShIdeal.Value
public import proofs.«01_k».proof.Proof.UpBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownShBlock

open Idealize.ShloMosaic Idealize.ShloMosaic.TcCoe Idealize.SL.Sem Cert.DownShIdeal Cert.DownShIdeal.Gen

/-- One element of the result, from the row's codes and scale, the column's weights and scale, and the residual, gate and
    routed elements. -/
def elem {f : ℕ} (x w : Fin f → EReal) (s t a g q : EReal) : EReal := a + g * ((∑ k, x k * w k) * s * t + q)

/-- An element of a piece, placed in the block. -/
theorem emb_piece (o : ℕ) (h : ∀ a, (![0, 0, o] : Fin 3 → ℕ) a + (![1, 256, 512] : Fin 3 → ℕ) a ≤ S1x256x2560.size a) (ho : o + 512 ≤ 2560)
    (r : Fin 256) (l : Fin 512) : (Rect.unit (s := S1x256x2560) ![0, 0, o] ![1, 256, 512] h).emb (ix3 0 r l) = ix3 0 r ⟨o + l, by omega⟩ := by
  funext a
  apply Fin.ext
  fin_cases a <;> simp [Rect.emb, Rect.unit]

variable (x0 : Vec Ideal S1x256x3584 .fp8e4m3) (x1 : Vec Ideal S1x256x1 .f32) (x2 : Vec Ideal S3584x2560 .fp8e4m3) (x3 : Vec Ideal S1x2560 .f32)
  (x4 : Vec Ideal S1x256x2560 .f32) (x5 : Vec Ideal S1x12x2560 .f32) (x6 : Vec Ideal S1x256x2560 .f32)

/-- The block's element at row `r`, column `n`. -/
def elemB (r : Fin 256) (n : Fin 2560) : EReal :=
  elem (fun k : Fin 3584 => x0 (ix3 0 r k)) (fun k => x2 (ix2 k n)) (x1 (ix3 0 r 0)) (x3 (ix2 0 n)) (x4 (ix3 0 r n)) (x5 (ix3 0 5 n)) (x6 (ix3 0 r n))

theorem piece0 (r : Fin 256) (l : Fin 512) :
    k0_pay5 (View.ld x0 r0_0) (View.ld x1 r0_1) (View.ld x5 r0_2) (View.ld x2 r0_3) (View.ld x3 r0_4) (View.ld x6 r0_5) (View.ld x4 r0_5) (ix3 0 r l)
      = elemB x0 x1 x2 x3 x4 x5 x6 r ⟨0 + l, by omega⟩ := by
  pointwise [k0_pay5, k0_pay2, k0_pay3, k0_pay4]
  unfold elemB elem
  rfl

theorem piece1 (r : Fin 256) (l : Fin 512) :
    k0_pay7 (k0_pay14 x0 x1 x2 x3 x4 x5 x6) (k0_pay6 (View.ld x0 r0_0) (View.ld x1 r0_1) (View.ld x2 r0_6)) (View.ld x3 r0_7) (View.ld x6 r0_8) (View.ld x4 r0_8) (ix3 0 r l)
      = elemB x0 x1 x2 x3 x4 x5 x6 r ⟨512 + l, by omega⟩ := by
  pointwise [k0_pay7, k0_pay6, k0_pay14, k0_pay2, k0_pay3, k0_pay4]
  unfold elemB elem
  rfl

theorem piece2 (r : Fin 256) (l : Fin 512) :
    k0_pay9 (k0_pay8 (k0_pay12 x0 x1 x2 x3 x4 x5 x6) (k0_pay13 x0 x1 x2 x3 x4 x5 x6) (k0_pay14 x0 x1 x2 x3 x4 x5 x6) (View.ld x2 r0_9) (View.ld x3 r0_10) (View.ld x6 r0_11) (View.ld x4 r0_11)) (ix3 0 r l)
      = elemB x0 x1 x2 x3 x4 x5 x6 r ⟨1024 + l, by omega⟩ := by
  pointwise [k0_pay9, k0_pay8, k0_pay12, k0_pay13, k0_pay14, k0_pay2, k0_pay3, k0_pay4]
  unfold elemB elem
  rfl

theorem piece3 (r : Fin 256) (l : Fin 512) :
    k0_pay10 (k0_pay12 x0 x1 x2 x3 x4 x5 x6) (k0_pay13 x0 x1 x2 x3 x4 x5 x6) (k0_pay14 x0 x1 x2 x3 x4 x5 x6) (View.ld x2 r0_12) (View.ld x3 r0_13) (View.ld x6 r0_14) (View.ld x4 r0_14) (ix3 0 r l)
      = elemB x0 x1 x2 x3 x4 x5 x6 r ⟨1536 + l, by omega⟩ := by
  pointwise [k0_pay10, k0_pay12, k0_pay13, k0_pay14, k0_pay2, k0_pay3, k0_pay4]
  unfold elemB elem
  rfl

theorem piece4 (r : Fin 256) (l : Fin 512) :
    k0_pay1 (k0_pay14 x0 x1 x2 x3 x4 x5 x6) (k0_pay11 (k0_pay12 x0 x1 x2 x3 x4 x5 x6) (k0_pay13 x0 x1 x2 x3 x4 x5 x6) (View.ld x2 r0_15) (View.ld x3 r0_16) (View.ld x6 r0_17)) (View.ld x4 r0_17) (ix3 0 r l)
      = elemB x0 x1 x2 x3 x4 x5 x6 r ⟨2048 + l, by omega⟩ := by
  pointwise [k0_pay1, k0_pay11, k0_pay12, k0_pay13, k0_pay14, k0_pay2, k0_pay3, k0_pay4]
  unfold elemB elem
  rfl

theorem out7_apply (r : Fin 256) (n : Fin 2560) :
    out0_7 x0 x1 x2 x3 x4 x5 x6 (ix3 0 r n) = elemB x0 x1 x2 x3 x4 x5 x6 r n := by
  unfold out0_7
  refine Cert.UpBlock.canon_of_pieces (e := EltTy.bf16) (fun y : S1x256x2560.Idx => elemB x0 x1 x2 x3 x4 x5 x6 (y 1) (y 2)) _ ?_ (ix3 0 r n) ?_
  · refine ⟨?_, ?_, ?_, ?_, ?_, trivial⟩
    all_goals
      intro x
      obtain ⟨r, l, rfl⟩ : ∃ (r : Fin 256) (l : Fin 512), x = ix3 0 r l := ⟨x 1, x 2, by
        funext a
        match a with
        | ⟨0, _⟩ => exact Subsingleton.elim (α := Fin 1) _ _
        | ⟨1, _⟩ => rfl
        | ⟨2, _⟩ => rfl⟩
      rw [emb_piece _ _ (by omega)]
    · exact piece4 x0 x1 x2 x3 x4 x5 x6 r l
    · exact piece3 x0 x1 x2 x3 x4 x5 x6 r l
    · exact piece2 x0 x1 x2 x3 x4 x5 x6 r l
    · exact piece1 x0 x1 x2 x3 x4 x5 x6 r l
    · exact piece0 x0 x1 x2 x3 x4 x5 x6 r l
  · exact View.cover_of_tiledL (s := S1x256x2560) _ (![1, 256, 512]) (by sl_kernel_rfl) _

variable (m : (ℓ : Loc nD τ sig) → Buf (Elt Ideal) ℓ)

/-- The result's element at batch `b`, row `r`, column `n`, from the arguments. -/
def elemA (X : Vec Ideal S2x4096x3584 .fp8e4m3) (S : Vec Ideal S2x4096x1 .f32) (W : Vec Ideal S3584x2560 .fp8e4m3) (T : Vec Ideal S2560 .f32)
    (A : Vec Ideal S2x4096x2560 .f32) (G : Vec Ideal S2x12x2560 .f32) (Q : Vec Ideal S2x4096x2560 .f32) (b : Fin 2) (r : Fin 4096) (n : Fin 2560) : EReal :=
  elem (fun k : Fin 3584 => X (ix3 b r k)) (fun k => W (ix2 k n)) (S (ix3 b r 0)) (T (ix1 n)) (A (ix3 b r n)) (G (ix3 b 5 n)) (Q (ix3 b r n))

/-- The block point `t` computes: batch `t / 16`, rows from `256 * (t % 16)`. -/
theorem idx : ∀ t : Fin cfg0.N, win0_0.index t = ![t.val / 16, t.val % 16, 0] ∧ win0_1.index t = ![t.val / 16, t.val % 16, 0]
    ∧ win0_2.index t = ![0, 0] ∧ win0_3.index t = ![0, 0] ∧ win0_4.index t = ![t.val / 16, t.val % 16, 0] ∧ win0_5.index t = ![t.val / 16, 0, 0]
    ∧ win0_6.index t = ![t.val / 16, t.val % 16, 0] ∧ win0_7.index t = ![t.val / 16, t.val % 16, 0] :=
  (by decide +kernel : ∀ t : Fin grid0.N, _)

theorem elem_congr {f : ℕ} {x x' w w' : Fin f → EReal} {s s' t t' a a' g g' q q' : EReal} (h0 : ∀ k, x k = x' k) (h1 : ∀ k, w k = w' k)
    (h2 : s = s') (h3 : t = t') (h4 : a = a') (h5 : g = g') (h6 : q = q') : elem x w s t a g q = elem x' w' s' t' a' g' q' := by
  obtain rfl : x = x' := funext h0
  obtain rfl : w = w' := funext h1
  rw [h2, h3, h4, h5, h6]

/-- A block's element is the arguments' element. -/
theorem elemB_eq (c : Dev nD) (t : Fin cfg0.N) (r : Fin 256) (n : Fin 2560) (b : Fin 2) (R : Fin 4096) (N : Fin 2560)
    (hb : (b : ℕ) = t.val / 16) (hR : (R : ℕ) = t.val % 16 * 256 + r) (hN : N = n) :
    elemB (iblk m c 0 t) (iblk m c 1 t) (iblk m c 2 t) (iblk m c 3 t) (iblk m c 4 t) (iblk m c 5 t) (iblk m c 6 t) r n
      = elemA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b R N := by
  subst hN
  have e0 (k : Fin 3584) : iblk m c 0 t (ix3 0 r k) = m ((c : Thread nD τ).loc main_arg0) (ix3 b R k) := by blk_ext [iblk, V, idx t]
  have e1 : iblk m c 1 t (ix3 0 r 0) = m ((c : Thread nD τ).loc main_arg1) (ix3 b R 0) := by blk_ext [iblk, V, idx t]
  have e2 (k : Fin 3584) : iblk m c 2 t (ix2 k N) = m ((c : Thread nD τ).loc main_arg2) (ix2 k N) := by blk_ext [iblk, V, idx t]
  have e3 : iblk m c 3 t (ix2 0 N) = m ((c : Thread nD τ).loc main_arg3) (ix1 N) := by blk_ext! [iblk, V, idx t]
  have e4 : iblk m c 4 t (ix3 0 r N) = m ((c : Thread nD τ).loc main_arg4) (ix3 b R N) := by blk_ext [iblk, V, idx t]
  have e5 : iblk m c 5 t (ix3 0 5 N) = m ((c : Thread nD τ).loc main_arg5) (ix3 b 5 N) := by blk_ext [iblk, V, idx t]
  have e6 : iblk m c 6 t (ix3 0 r N) = m ((c : Thread nD τ).loc main_arg6) (ix3 b R N) := by blk_ext [iblk, V, idx t]
  exact elem_congr e0 e2 e1 e3 e4 e5 e6

/-- The array left after the run. -/
theorem out7 (c : Dev nD) : (dats m 0 c).arrAt 7 cfg0.N = fun y : S2x4096x2560.Idx =>
    elemA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (y 0) (y 1) (y 2) := by
  refine (dats m 0 c).arrAt_eq_of_covers 7 _ (by decide +kernel) fun t hf y => ?_
  rw [after0_7]
  blk_simp
  obtain ⟨r, n, rfl⟩ : ∃ (r : Fin 256) (n : Fin 2560), y = (ix3 0 r n : S1x256x2560.Idx) := ⟨y 1, y 2, by
    funext a
    match a with
    | ⟨0, _⟩ => exact Subsingleton.elim (α := Fin 1) _ _
    | ⟨1, _⟩ => rfl
    | ⟨2, _⟩ => rfl⟩
  rw [out7_apply]
  exact elemB_eq m c t r n ((win0_7.blk t).view.emb (ix3 0 r n : S1x256x2560.Idx) 0) ((win0_7.blk t).view.emb (ix3 0 r n : S1x256x2560.Idx) 1)
    ((win0_7.blk t).view.emb (ix3 0 r n : S1x256x2560.Idx) 2) (by blk_simp [idx t]; exact Nat.add_zero _) (by blk_simp [idx t]) (Fin.ext (by blk_simp [idx t]))

end Cert.DownShBlock

end
-- ==== Proof.DownShRefValue.lean ====
/- The array the reference of the shared expert's down projection leaves after the run: the same function of its arguments. -/
module

public import proofs.«01_k».proof.Proof.Gen.DownShRefIdeal.Value
public import proofs.«01_k».proof.Proof.DownShBlock

@[expose] public section

set_option maxRecDepth 16384

noncomputable section

namespace Cert.DownShRefValue

open Idealize.ShloMosaic Idealize.ShloMosaic.TcCoe Idealize.SL.Sem Cert.DownShRefIdeal Cert.DownShRefIdeal.Gen
open Cert.DownShBlock (elem elem_congr)

/-- A batch's element, placed in the array. -/
theorem emb_piece (o : ℕ) (h : ∀ a, (![o, 0, 0] : Fin 3 → ℕ) a + (![1, 4096, 2560] : Fin 3 → ℕ) a ≤ S2x4096x2560.size a) (ho : o < 2)
    (r : Fin 4096) (n : Fin 2560) : (Rect.unit (s := S2x4096x2560) ![o, 0, 0] ![1, 4096, 2560] h).emb (ix3 0 r n) = ix3 ⟨o, ho⟩ r n := by
  funext a
  apply Fin.ext
  fin_cases a <;> simp [Rect.emb, Rect.unit]

variable (x0 : Vec Ideal S2x4096x3584 .fp8e4m3) (x1 : Vec Ideal S2x4096x1 .f32) (x2 : Vec Ideal S3584x2560 .fp8e4m3) (x3 : Vec Ideal S1x2560 .f32)
  (x4 : Vec Ideal S2x4096x2560 .f32) (x5 : Vec Ideal S2x1x2560 .f32) (x6 : Vec Ideal S2x4096x2560 .f32)

/-- The element at batch `b`, row `r`, column `n`. -/
def elemB (b : Fin 2) (r : Fin 4096) (n : Fin 2560) : EReal :=
  elem (fun k : Fin 3584 => x0 (ix3 b r k)) (fun k => x2 (ix2 k n)) (x1 (ix3 b r 0)) (x3 (ix2 0 n)) (x4 (ix3 b r n)) (x5 (ix3 b 0 n)) (x6 (ix3 b r n))

theorem piece0 (r : Fin 4096) (n : Fin 2560) :
    k0_pay2 (View.ld x0 r0_0) (View.ld x1 r0_1) (View.ld x2 r0_2) (View.ld x3 r0_3) (View.ld x4 r0_4) (View.ld x5 r0_5) (View.ld x6 r0_4) (ix3 0 r n)
      = elemB x0 x1 x2 x3 x4 x5 x6 0 r n := by
  pointwise [k0_pay2]
  unfold elemB elem
  rfl

theorem piece1 (r : Fin 4096) (n : Fin 2560) :
    k0_pay1 (k0_pay3 (View.ld x0 r0_6)) (k0_pay4 (View.ld x1 r0_7)) (View.ld x2 r0_2) (View.ld x3 r0_3) (View.ld x4 r0_8) (View.ld x5 r0_9) (View.ld x6 r0_8) (ix3 0 r n)
      = elemB x0 x1 x2 x3 x4 x5 x6 1 r n := by
  pointwise [k0_pay1, k0_pay3, k0_pay4]
  unfold elemB elem
  rfl

theorem out7_apply (b : Fin 2) (r : Fin 4096) (n : Fin 2560) :
    out0_7 x0 x1 x2 x3 x4 x5 x6 (ix3 b r n) = elemB x0 x1 x2 x3 x4 x5 x6 b r n := by
  unfold out0_7
  refine Cert.UpBlock.canon_of_pieces (e := EltTy.bf16) (fun y : S2x4096x2560.Idx => elemB x0 x1 x2 x3 x4 x5 x6 (y 0) (y 1) (y 2)) _ ?_ (ix3 b r n) ?_
  · refine ⟨?_, ?_, trivial⟩
    all_goals
      intro x
      obtain ⟨r, n, rfl⟩ : ∃ (r : Fin 4096) (n : Fin 2560), x = ix3 0 r n := ⟨x 1, x 2, by
        funext a
        match a with
        | ⟨0, _⟩ => exact Subsingleton.elim (α := Fin 1) _ _
        | ⟨1, _⟩ => rfl
        | ⟨2, _⟩ => rfl⟩
      rw [emb_piece _ _ (by omega)]
    · exact piece1 x0 x1 x2 x3 x4 x5 x6 r n
    · exact piece0 x0 x1 x2 x3 x4 x5 x6 r n
  · exact View.cover_of_tiledL (s := S2x4096x2560) _ (![1, 4096, 2560]) (by sl_kernel_rfl) _

variable (m : (ℓ : Loc nD τ sig) → Buf (Elt Ideal) ℓ)

/-- The result's element at batch `b`, row `r`, column `n`, from the arguments. -/
def elemA (X : Vec Ideal S2x4096x3584 .fp8e4m3) (S : Vec Ideal S2x4096x1 .f32) (W : Vec Ideal S3584x2560 .fp8e4m3) (T : Vec Ideal S2560 .f32)
    (A : Vec Ideal S2x4096x2560 .f32) (G : Vec Ideal S2x12x2560 .f32) (Q : Vec Ideal S2x4096x2560 .f32) (b : Fin 2) (r : Fin 4096) (n : Fin 2560) : EReal :=
  elem (fun k : Fin 3584 => X (ix3 b r k)) (fun k => W (ix2 k n)) (S (ix3 b r 0)) (T (ix1 n)) (A (ix3 b r n)) (G (ix3 b 5 n)) (Q (ix3 b r n))

theorem idx : ∀ t : Fin cfg0.N, win0_0.index t = ![0, 0, 0] ∧ win0_1.index t = ![0, 0, 0]
    ∧ win0_2.index t = ![0, 0] ∧ win0_3.index t = ![0, 0] ∧ win0_4.index t = ![0, 0, 0] ∧ win0_5.index t = ![0, 0, 0]
    ∧ win0_6.index t = ![0, 0, 0] ∧ win0_7.index t = ![0, 0, 0] :=
  (by decide +kernel : ∀ t : Fin grid0.N, _)

theorem hostGate (c : Dev nD) (b : Fin 2) (n : Fin 2560) : V m c main_v0 (ix3 b 0 n : S2x1x2560.Idx) = m ((c : Thread nD τ).loc main_arg5) (ix3 b 5 n) := by
  unfold V hostOps0
  simp only [StableHlo.after_cons, StableHlo.after_nil]
  rw [StableHlo.unary_result_ne (h := by decide), StableHlo.unary_result]
  pointwise []

/-- An element is the arguments' element. -/
theorem elemB_eq (c : Dev nD) (t : Fin cfg0.N) (b B : Fin 2) (r R : Fin 4096) (n N : Fin 2560) (hB : B = b) (hR : R = r) (hN : N = n) :
    elemB (iblk m c 0 t) (iblk m c 1 t) (iblk m c 2 t) (iblk m c 3 t) (iblk m c 4 t) (iblk m c 5 t) (iblk m c 6 t) b r n
      = elemA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) B R N := by
  subst hN hR hB
  have e0 (k : Fin 3584) : iblk m c 0 t (ix3 B R k) = m ((c : Thread nD τ).loc main_arg0) (ix3 B R k) := by blk_ext [iblk, V, idx t]
  have e1 : iblk m c 1 t (ix3 B R 0) = m ((c : Thread nD τ).loc main_arg1) (ix3 B R 0) := by blk_ext [iblk, V, idx t]
  have e2 (k : Fin 3584) : iblk m c 2 t (ix2 k N) = m ((c : Thread nD τ).loc main_arg2) (ix2 k N) := by blk_ext [iblk, V, idx t]
  have e3 : iblk m c 3 t (ix2 0 N) = m ((c : Thread nD τ).loc main_arg3) (ix1 N) := by blk_ext! [iblk, V, idx t]
  have e4 : iblk m c 4 t (ix3 B R N) = m ((c : Thread nD τ).loc main_arg4) (ix3 B R N) := by blk_ext [iblk, V, idx t]
  have e5 : iblk m c 5 t (ix3 B 0 N) = m ((c : Thread nD τ).loc main_arg5) (ix3 B 5 N) := by
    refine Eq.trans ?_ (hostGate m c B N)
    blk_ext [iblk, idx t]
  have e6 : iblk m c 6 t (ix3 B R N) = m ((c : Thread nD τ).loc main_arg6) (ix3 B R N) := by blk_ext [iblk, V, idx t]
  exact elem_congr e0 e2 e1 e3 e4 e5 e6

/-- The array left after the run. -/
theorem out7 (c : Dev nD) : (dats m 0 c).arrAt 7 cfg0.N = fun y : S2x4096x2560.Idx =>
    elemA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (y 0) (y 1) (y 2) := by
  refine (dats m 0 c).arrAt_eq_of_covers 7 _ (by decide +kernel) fun t hf y => ?_
  rw [after0_7]
  blk_simp
  obtain ⟨b, r, n, rfl⟩ : ∃ (b : Fin 2) (r : Fin 4096) (n : Fin 2560), y = (ix3 b r n : S2x4096x2560.Idx) :=
    ⟨y 0, y 1, y 2, by ext a; fin_cases a <;> rfl⟩
  rw [out7_apply]
  exact elemB_eq m c t b _ r _ n _ (Fin.ext (by blk_simp [idx t])) (Fin.ext (by blk_simp [idx t])) (Fin.ext (by blk_simp [idx t]))

end Cert.DownShRefValue

end
-- ==== Proof.DownTxBlock.lean ====
/- What one grid point of the text stream's down projection leaves in its output block, read from the blocks it was given:
   the row of the residual plus the gate times the linear map. The kernel computes the row in five
   pieces of 512 columns. -/
module

public import proofs.«01_k».proof.Proof.Gen.DownTxIdeal.Value
public import proofs.«01_k».proof.Proof.UpBlock
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownTxBlock

open Idealize.ShloMosaic Idealize.ShloMosaic.TcCoe Idealize.SL.Sem Cert.DownTxIdeal Cert.DownTxIdeal.Gen

/-- One element of the result, from the row's codes and scale, the column's weights and scale, and the residual and
    gate elements. -/
def elem {f : ℕ} (x w : Fin f → EReal) (s t a g : EReal) : EReal := a + g * ((∑ k, x k * w k) * s * t)

/-- An element of a piece, placed in the block. -/
theorem emb_piece (o : ℕ) (h : ∀ a, (![0, 0, o] : Fin 3 → ℕ) a + (![1, 256, 512] : Fin 3 → ℕ) a ≤ S1x256x2560.size a) (ho : o + 512 ≤ 2560)
    (r : Fin 256) (l : Fin 512) : (Rect.unit (s := S1x256x2560) ![0, 0, o] ![1, 256, 512] h).emb (ix3 0 r l) = ix3 0 r ⟨o + l, by omega⟩ := by
  funext a
  apply Fin.ext
  fin_cases a <;> simp [Rect.emb, Rect.unit]

variable (x0 : Vec Ideal S1x256x6912 .fp8e4m3) (x1 : Vec Ideal S1x256x1 .f32) (x2 : Vec Ideal S6912x2560 .fp8e4m3) (x3 : Vec Ideal S1x2560 .f32)
  (x4 : Vec Ideal S1x256x2560 .f32) (x5 : Vec Ideal S1x12x2560 .f32)

/-- The block's element at row `r`, column `n`. -/
def elemB (r : Fin 256) (n : Fin 2560) : EReal :=
  elem (fun k : Fin 6912 => x0 (ix3 0 r k)) (fun k => x2 (ix2 k n)) (x1 (ix3 0 r 0)) (x3 (ix2 0 n)) (x4 (ix3 0 r n)) (x5 (ix3 0 11 n))

theorem piece0 (r : Fin 256) (l : Fin 512) :
    k0_pay6 (View.ld x0 r0_0) (View.ld x1 r0_1) (View.ld x5 r0_2) (View.ld x2 r0_3) (View.ld x3 r0_4) (View.ld x4 r0_5) (ix3 0 r l)
      = elemB x0 x1 x2 x3 x4 x5 r ⟨0 + l, by omega⟩ := by
  pointwise [k0_pay6, k0_pay3, k0_pay4, k0_pay5]
  unfold elemB elem
  rfl

theorem piece1 (r : Fin 256) (l : Fin 512) :
    k0_pay8 (k0_pay13 x0 x1 x2 x3 x4 x5) (k0_pay7 (View.ld x0 r0_0) (View.ld x1 r0_1) (View.ld x2 r0_6) (View.ld x3 r0_7)) (View.ld x4 r0_8) (ix3 0 r l)
      = elemB x0 x1 x2 x3 x4 x5 r ⟨512 + l, by omega⟩ := by
  pointwise [k0_pay8, k0_pay7, k0_pay13, k0_pay3, k0_pay4, k0_pay5]
  unfold elemB elem
  rfl

theorem piece2 (r : Fin 256) (l : Fin 512) :
    k0_pay9 (k0_pay11 x0 x1 x2 x3 x4 x5) (k0_pay12 x0 x1 x2 x3 x4 x5) (k0_pay13 x0 x1 x2 x3 x4 x5) (View.ld x2 r0_9) (View.ld x3 r0_10) (View.ld x4 r0_11) (ix3 0 r l)
      = elemB x0 x1 x2 x3 x4 x5 r ⟨1024 + l, by omega⟩ := by
  pointwise [k0_pay9, k0_pay11, k0_pay12, k0_pay13, k0_pay3, k0_pay4, k0_pay5]
  unfold elemB elem
  rfl

theorem piece3 (r : Fin 256) (l : Fin 512) :
    k0_pay1 (k0_pay13 x0 x1 x2 x3 x4 x5) (k0_pay10 (k0_pay11 x0 x1 x2 x3 x4 x5) (k0_pay12 x0 x1 x2 x3 x4 x5) (View.ld x2 r0_12) (View.ld x3 r0_13)) (View.ld x4 r0_14) (ix3 0 r l)
      = elemB x0 x1 x2 x3 x4 x5 r ⟨1536 + l, by omega⟩ := by
  pointwise [k0_pay1, k0_pay10, k0_pay11, k0_pay12, k0_pay13, k0_pay3, k0_pay4, k0_pay5]
  unfold elemB elem
  rfl

theorem piece4 (r : Fin 256) (l : Fin 512) :
    k0_pay2 (k0_pay11 x0 x1 x2 x3 x4 x5) (k0_pay12 x0 x1 x2 x3 x4 x5) (k0_pay13 x0 x1 x2 x3 x4 x5) (View.ld x2 r0_15) (View.ld x3 r0_16) (View.ld x4 r0_17) (ix3 0 r l)
      = elemB x0 x1 x2 x3 x4 x5 r ⟨2048 + l, by omega⟩ := by
  pointwise [k0_pay2, k0_pay11, k0_pay12, k0_pay13, k0_pay3, k0_pay4, k0_pay5]
  unfold elemB elem
  rfl

theorem out6_apply (r : Fin 256) (n : Fin 2560) :
    out0_6 x0 x1 x2 x3 x4 x5 (ix3 0 r n) = elemB x0 x1 x2 x3 x4 x5 r n := by
  unfold out0_6
  refine Cert.UpBlock.canon_of_pieces (e := EltTy.bf16) (fun y : S1x256x2560.Idx => elemB x0 x1 x2 x3 x4 x5 (y 1) (y 2)) _ ?_ (ix3 0 r n) ?_
  · refine ⟨?_, ?_, ?_, ?_, ?_, trivial⟩
    all_goals
      intro x
      obtain ⟨r, l, rfl⟩ : ∃ (r : Fin 256) (l : Fin 512), x = ix3 0 r l := ⟨x 1, x 2, by
        funext a
        match a with
        | ⟨0, _⟩ => exact Subsingleton.elim (α := Fin 1) _ _
        | ⟨1, _⟩ => rfl
        | ⟨2, _⟩ => rfl⟩
      rw [emb_piece _ _ (by omega)]
    · exact piece4 x0 x1 x2 x3 x4 x5 r l
    · exact piece3 x0 x1 x2 x3 x4 x5 r l
    · exact piece2 x0 x1 x2 x3 x4 x5 r l
    · exact piece1 x0 x1 x2 x3 x4 x5 r l
    · exact piece0 x0 x1 x2 x3 x4 x5 r l
  · exact View.cover_of_tiledL (s := S1x256x2560) _ (![1, 256, 512]) (by sl_kernel_rfl) _

variable (m : (ℓ : Loc nD τ sig) → Buf (Elt Ideal) ℓ)

/-- The result's element at batch `b`, row `r`, column `n`, from the arguments. -/
def elemA (X : Vec Ideal S2x256x6912 .fp8e4m3) (S : Vec Ideal S2x256x1 .f32) (W : Vec Ideal S6912x2560 .fp8e4m3) (T : Vec Ideal S2560 .f32)
    (A : Vec Ideal S2x256x2560 .f32) (G : Vec Ideal S2x12x2560 .f32) (b : Fin 2) (r : Fin 256) (n : Fin 2560) : EReal :=
  elem (fun k : Fin 6912 => X (ix3 b r k)) (fun k => W (ix2 k n)) (S (ix3 b r 0)) (T (ix1 n)) (A (ix3 b r n)) (G (ix3 b 11 n))

/-- The block point `t` computes: batch `t`. -/
theorem idx : ∀ t : Fin cfg0.N, win0_0.index t = ![t.val, 0, 0] ∧ win0_1.index t = ![t.val, 0, 0]
    ∧ win0_2.index t = ![0, 0] ∧ win0_3.index t = ![0, 0] ∧ win0_4.index t = ![t.val, 0, 0] ∧ win0_5.index t = ![t.val, 0, 0]
    ∧ win0_6.index t = ![t.val, 0, 0] :=
  (by decide +kernel : ∀ t : Fin grid0.N, _)

theorem elem_congr {f : ℕ} {x x' w w' : Fin f → EReal} {s s' t t' a a' g g' : EReal} (h0 : ∀ k, x k = x' k) (h1 : ∀ k, w k = w' k)
    (h2 : s = s') (h3 : t = t') (h4 : a = a') (h5 : g = g') : elem x w s t a g = elem x' w' s' t' a' g' := by
  obtain rfl : x = x' := funext h0
  obtain rfl : w = w' := funext h1
  rw [h2, h3, h4, h5]

/-- A block's element is the arguments' element. -/
theorem elemB_eq (c : Dev nD) (t : Fin cfg0.N) (r : Fin 256) (n : Fin 2560) (b : Fin 2) (R : Fin 256) (N : Fin 2560)
    (hb : (b : ℕ) = t.val) (hR : (R : ℕ) = r) (hN : N = n) :
    elemB (iblk m c 0 t) (iblk m c 1 t) (iblk m c 2 t) (iblk m c 3 t) (iblk m c 4 t) (iblk m c 5 t) r n
      = elemA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b R N := by
  subst hN
  have e0 (k : Fin 6912) : iblk m c 0 t (ix3 0 r k) = m ((c : Thread nD τ).loc main_arg0) (ix3 b R k) := by blk_ext [iblk, V, idx t]
  have e1 : iblk m c 1 t (ix3 0 r 0) = m ((c : Thread nD τ).loc main_arg1) (ix3 b R 0) := by blk_ext [iblk, V, idx t]
  have e2 (k : Fin 6912) : iblk m c 2 t (ix2 k N) = m ((c : Thread nD τ).loc main_arg2) (ix2 k N) := by blk_ext [iblk, V, idx t]
  have e3 : iblk m c 3 t (ix2 0 N) = m ((c : Thread nD τ).loc main_arg3) (ix1 N) := by blk_ext! [iblk, V, idx t]
  have e4 : iblk m c 4 t (ix3 0 r N) = m ((c : Thread nD τ).loc main_arg4) (ix3 b R N) := by blk_ext [iblk, V, idx t]
  have e5 : iblk m c 5 t (ix3 0 11 N) = m ((c : Thread nD τ).loc main_arg5) (ix3 b 11 N) := by blk_ext [iblk, V, idx t]
  exact elem_congr e0 e2 e1 e3 e4 e5

/-- The array left after the run. -/
theorem out6 (c : Dev nD) : (dats m 0 c).arrAt 6 cfg0.N = fun y : S2x256x2560.Idx =>
    elemA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) (y 2) := by
  refine (dats m 0 c).arrAt_eq_of_covers 6 _ (by decide +kernel) fun t hf y => ?_
  rw [after0_6]
  blk_simp
  obtain ⟨r, n, rfl⟩ : ∃ (r : Fin 256) (n : Fin 2560), y = (ix3 0 r n : S1x256x2560.Idx) := ⟨y 1, y 2, by
    funext a
    match a with
    | ⟨0, _⟩ => exact Subsingleton.elim (α := Fin 1) _ _
    | ⟨1, _⟩ => rfl
    | ⟨2, _⟩ => rfl⟩
  rw [out6_apply]
  exact elemB_eq m c t r n ((win0_6.blk t).view.emb (ix3 0 r n : S1x256x2560.Idx) 0) ((win0_6.blk t).view.emb (ix3 0 r n : S1x256x2560.Idx) 1)
    ((win0_6.blk t).view.emb (ix3 0 r n : S1x256x2560.Idx) 2) (by blk_simp [idx t]; exact Nat.add_zero _) (by blk_simp [idx t]) (Fin.ext (by blk_simp [idx t]))

end Cert.DownTxBlock

end
-- ==== Proof.DownTxRefValue.lean ====
/- The array the reference of the text stream's down projection leaves after the run: the same function of its arguments. -/
module

public import proofs.«01_k».proof.Proof.Gen.DownTxRefIdeal.Value
public import proofs.«01_k».proof.Proof.DownTxBlock

@[expose] public section

set_option maxRecDepth 16384

noncomputable section

namespace Cert.DownTxRefValue

open Idealize.ShloMosaic Idealize.ShloMosaic.TcCoe Idealize.SL.Sem Cert.DownTxRefIdeal Cert.DownTxRefIdeal.Gen
open Cert.DownTxBlock (elem elem_congr)

/-- A batch's element, placed in the array. -/
theorem emb_piece (o : ℕ) (h : ∀ a, (![o, 0, 0] : Fin 3 → ℕ) a + (![1, 256, 2560] : Fin 3 → ℕ) a ≤ S2x256x2560.size a) (ho : o < 2)
    (r : Fin 256) (n : Fin 2560) : (Rect.unit (s := S2x256x2560) ![o, 0, 0] ![1, 256, 2560] h).emb (ix3 0 r n) = ix3 ⟨o, ho⟩ r n := by
  funext a
  apply Fin.ext
  fin_cases a <;> simp [Rect.emb, Rect.unit]

variable (x0 : Vec Ideal S2x256x6912 .fp8e4m3) (x1 : Vec Ideal S2x256x1 .f32) (x2 : Vec Ideal S6912x2560 .fp8e4m3) (x3 : Vec Ideal S1x2560 .f32)
  (x4 : Vec Ideal S2x256x2560 .f32) (x5 : Vec Ideal S2x1x2560 .f32)

/-- The element at batch `b`, row `r`, column `n`. -/
def elemB (b : Fin 2) (r : Fin 256) (n : Fin 2560) : EReal :=
  elem (fun k : Fin 6912 => x0 (ix3 b r k)) (fun k => x2 (ix2 k n)) (x1 (ix3 b r 0)) (x3 (ix2 0 n)) (x4 (ix3 b r n)) (x5 (ix3 b 0 n))

theorem piece0 (r : Fin 256) (n : Fin 2560) :
    k0_pay2 (View.ld x0 r0_0) (View.ld x1 r0_1) (View.ld x2 r0_2) (View.ld x3 r0_3) (View.ld x4 r0_4) (View.ld x5 r0_5) (ix3 0 r n)
      = elemB x0 x1 x2 x3 x4 x5 0 r n := by
  pointwise [k0_pay2]
  unfold elemB elem
  rfl

theorem piece1 (r : Fin 256) (n : Fin 2560) :
    k0_pay1 (k0_pay3 (View.ld x0 r0_6)) (k0_pay4 (View.ld x1 r0_7)) (View.ld x2 r0_2) (View.ld x3 r0_3) (View.ld x4 r0_8) (View.ld x5 r0_9) (ix3 0 r n)
      = elemB x0 x1 x2 x3 x4 x5 1 r n := by
  pointwise [k0_pay1, k0_pay3, k0_pay4]
  unfold elemB elem
  rfl

theorem out6_apply (b : Fin 2) (r : Fin 256) (n : Fin 2560) :
    out0_6 x0 x1 x2 x3 x4 x5 (ix3 b r n) = elemB x0 x1 x2 x3 x4 x5 b r n := by
  unfold out0_6
  refine Cert.UpBlock.canon_of_pieces (e := EltTy.bf16) (fun y : S2x256x2560.Idx => elemB x0 x1 x2 x3 x4 x5 (y 0) (y 1) (y 2)) _ ?_ (ix3 b r n) ?_
  · refine ⟨?_, ?_, trivial⟩
    all_goals
      intro x
      obtain ⟨r, n, rfl⟩ : ∃ (r : Fin 256) (n : Fin 2560), x = ix3 0 r n := ⟨x 1, x 2, by
        funext a
        match a with
        | ⟨0, _⟩ => exact Subsingleton.elim (α := Fin 1) _ _
        | ⟨1, _⟩ => rfl
        | ⟨2, _⟩ => rfl⟩
      rw [emb_piece _ _ (by omega)]
    · exact piece1 x0 x1 x2 x3 x4 x5 r n
    · exact piece0 x0 x1 x2 x3 x4 x5 r n
  · exact View.cover_of_tiledL (s := S2x256x2560) _ (![1, 256, 2560]) (by sl_kernel_rfl) _

variable (m : (ℓ : Loc nD τ sig) → Buf (Elt Ideal) ℓ)

/-- The result's element at batch `b`, row `r`, column `n`, from the arguments. -/
def elemA (X : Vec Ideal S2x256x6912 .fp8e4m3) (S : Vec Ideal S2x256x1 .f32) (W : Vec Ideal S6912x2560 .fp8e4m3) (T : Vec Ideal S2560 .f32)
    (A : Vec Ideal S2x256x2560 .f32) (G : Vec Ideal S2x12x2560 .f32) (b : Fin 2) (r : Fin 256) (n : Fin 2560) : EReal :=
  elem (fun k : Fin 6912 => X (ix3 b r k)) (fun k => W (ix2 k n)) (S (ix3 b r 0)) (T (ix1 n)) (A (ix3 b r n)) (G (ix3 b 11 n))

theorem idx : ∀ t : Fin cfg0.N, win0_0.index t = ![0, 0, 0] ∧ win0_1.index t = ![0, 0, 0]
    ∧ win0_2.index t = ![0, 0] ∧ win0_3.index t = ![0, 0] ∧ win0_4.index t = ![0, 0, 0] ∧ win0_5.index t = ![0, 0, 0]
    ∧ win0_6.index t = ![0, 0, 0] :=
  (by decide +kernel : ∀ t : Fin grid0.N, _)

theorem hostGate (c : Dev nD) (b : Fin 2) (n : Fin 2560) : V m c main_v0 (ix3 b 0 n : S2x1x2560.Idx) = m ((c : Thread nD τ).loc main_arg5) (ix3 b 11 n) := by
  unfold V hostOps0
  simp only [StableHlo.after_cons, StableHlo.after_nil]
  rw [StableHlo.unary_result_ne (h := by decide), StableHlo.unary_result]
  pointwise []

/-- An element is the arguments' element. -/
theorem elemB_eq (c : Dev nD) (t : Fin cfg0.N) (b B : Fin 2) (r R : Fin 256) (n N : Fin 2560) (hB : B = b) (hR : R = r) (hN : N = n) :
    elemB (iblk m c 0 t) (iblk m c 1 t) (iblk m c 2 t) (iblk m c 3 t) (iblk m c 4 t) (iblk m c 5 t) b r n
      = elemA (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) B R N := by
  subst hN hR hB
  have e0 (k : Fin 6912) : iblk m c 0 t (ix3 B R k) = m ((c : Thread nD τ).loc main_arg0) (ix3 B R k) := by blk_ext [iblk, V, idx t]
  have e1 : iblk m c 1 t (ix3 B R 0) = m ((c : Thread nD τ).loc main_arg1) (ix3 B R 0) := by blk_ext [iblk, V, idx t]
  have e2 (k : Fin 6912) : iblk m c 2 t (ix2 k N) = m ((c : Thread nD τ).loc main_arg2) (ix2 k N) := by blk_ext [iblk, V, idx t]
  have e3 : iblk m c 3 t (ix2 0 N) = m ((c : Thread nD τ).loc main_arg3) (ix1 N) := by blk_ext! [iblk, V, idx t]
  have e4 : iblk m c 4 t (ix3 B R N) = m ((c : Thread nD τ).loc main_arg4) (ix3 B R N) := by blk_ext [iblk, V, idx t]
  have e5 : iblk m c 5 t (ix3 B 0 N) = m ((c : Thread nD τ).loc main_arg5) (ix3 B 11 N) := by
    refine Eq.trans ?_ (hostGate m c B N)
    blk_ext [iblk, idx t]
  exact elem_congr e0 e2 e1 e3 e4 e5

/-- The array left after the run. -/
theorem out6 (c : Dev nD) : (dats m 0 c).arrAt 6 cfg0.N = fun y : S2x256x2560.Idx =>
    elemA (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) (y 2) := by
  refine (dats m 0 c).arrAt_eq_of_covers 6 _ (by decide +kernel) fun t hf y => ?_
  rw [after0_6]
  blk_simp
  obtain ⟨b, r, n, rfl⟩ : ∃ (b : Fin 2) (r : Fin 256) (n : Fin 2560), y = (ix3 b r n : S2x256x2560.Idx) :=
    ⟨y 0, y 1, y 2, by ext a; fin_cases a <;> rfl⟩
  rw [out6_apply]
  exact elemB_eq m c t b _ r _ n _ (Fin.ext (by blk_simp [idx t])) (Fin.ext (by blk_simp [idx t])) (Fin.ext (by blk_simp [idx t]))

end Cert.DownTxRefValue

end
-- ==== Proof.lean ====
module

public import proofs.«01_k».proof.Proof.Gen.KernelIdeal.Value
public import proofs.«01_k».proof.Proof.Gen.ReferenceIdeal.Value
public import proofs.«01_k».proof.Proof.Gen.DownExRefIdeal.Value
public import proofs.«01_k».proof.Proof.Gen.UpExRefIdeal.Value
public import proofs.«01_k».proof.Proof.Gen.DownShIdeal.Value
public import proofs.«01_k».proof.Proof.Gen.DownShRefIdeal.Value
public import proofs.«01_k».proof.Proof.Gen.DownTxIdeal.Value
public import proofs.«01_k».proof.Proof.Gen.DownTxRefIdeal.Value
public import proofs.«01_k».proof.Proof.LnImBlock
public import proofs.«01_k».proof.Proof.LnImRefValue
public import proofs.«01_k».proof.Proof.LnTxBlock
public import proofs.«01_k».proof.Proof.LnTxRefValue
public import proofs.«01_k».proof.Proof.Gen.LnImIdeal.Value
public import proofs.«01_k».proof.Proof.Gen.LnImRefIdeal.Value
public import proofs.«01_k».proof.Proof.Gen.LnTxIdeal.Value
public import proofs.«01_k».proof.Proof.Gen.LnTxRefIdeal.Value
public import proofs.«01_k».proof.Proof.UpValue
public import proofs.«01_k».proof.Proof.RefValue
public import proofs.«01_k».proof.Proof.DownBitsFrame
public import proofs.«01_k».proof.Proof.DownBitsOk
public import proofs.«01_k».proof.Proof.DownIdealValue
public import proofs.«01_k».proof.Proof.DownRefValue
public import proofs.«01_k».proof.Proof.UpExBitsFrame
public import proofs.«01_k».proof.Proof.UpExBitsOk
public import proofs.«01_k».proof.Proof.UpExValue
public import proofs.«01_k».proof.Proof.UpExRefValue
public import proofs.«01_k».proof.Proof.DownShBlock
public import proofs.«01_k».proof.Proof.DownShRefValue
public import proofs.«01_k».proof.Proof.DownTxBlock
public import proofs.«01_k».proof.Proof.DownTxRefValue
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.DownEx
public import proofs.«01_k».proof.Proof.Gen.DownEx.Skeleton
public import proofs.«01_k».proof.Proof.Gen.DownEx.Launch
public import proofs.«01_k».proof.Proof.Gen.DownEx.Flash
public import proofs.«01_k».proof.Proof.Gen.DownExIdeal
public import proofs.«01_k».proof.Proof.Gen.DownExIdeal.Skeleton
public import proofs.«01_k».proof.Proof.Gen.DownExIdeal.Launch
public import proofs.«01_k».proof.Proof.Gen.DownExIdeal.Flash
public import proofs.«01_k».proof.Proof.Gen.DownExRefIdeal
public import proofs.«01_k».proof.Proof.Gen.DownExRefIdeal.Skeleton
public import proofs.«01_k».proof.Proof.Gen.DownExRefIdeal.Launch
public import proofs.«01_k».proof.Proof.Gen.DownExRefIdeal.Points
public import proofs.«01_k».proof.Proof.Gen.DownExRefIdeal.Frame
public import proofs.«01_k».proof.Proof.Gen.UpEx
public import proofs.«01_k».proof.Proof.Gen.UpEx.Skeleton
public import proofs.«01_k».proof.Proof.Gen.UpEx.Launch
public import proofs.«01_k».proof.Proof.Gen.UpEx.Flash
public import proofs.«01_k».proof.Proof.Gen.UpExIdeal
public import proofs.«01_k».proof.Proof.Gen.UpExIdeal.Skeleton
public import proofs.«01_k».proof.Proof.Gen.UpExIdeal.Launch
public import proofs.«01_k».proof.Proof.Gen.UpExIdeal.Flash
public import proofs.«01_k».proof.Proof.Gen.UpExRefIdeal
public import proofs.«01_k».proof.Proof.Gen.UpExRefIdeal.Skeleton
public import proofs.«01_k».proof.Proof.Gen.UpExRefIdeal.Launch
public import proofs.«01_k».proof.Proof.Gen.UpExRefIdeal.Points
public import proofs.«01_k».proof.Proof.Gen.UpExRefIdeal.Frame
public import proofs.«01_k».proof.Proof.Gen.DownSh
public import proofs.«01_k».proof.Proof.Gen.DownSh.Skeleton
public import proofs.«01_k».proof.Proof.Gen.DownSh.Launch
public import proofs.«01_k».proof.Proof.Gen.DownSh.Points
public import proofs.«01_k».proof.Proof.Gen.DownSh.Frame
public import proofs.«01_k».proof.Proof.Gen.DownShIdeal
public import proofs.«01_k».proof.Proof.Gen.DownShIdeal.Skeleton
public import proofs.«01_k».proof.Proof.Gen.DownShIdeal.Launch
public import proofs.«01_k».proof.Proof.Gen.DownShIdeal.Points
public import proofs.«01_k».proof.Proof.Gen.DownShIdeal.Frame
public import proofs.«01_k».proof.Proof.Gen.DownShRefIdeal
public import proofs.«01_k».proof.Proof.Gen.DownShRefIdeal.Skeleton
public import proofs.«01_k».proof.Proof.Gen.DownShRefIdeal.Launch
public import proofs.«01_k».proof.Proof.Gen.DownShRefIdeal.Points
public import proofs.«01_k».proof.Proof.Gen.DownShRefIdeal.Frame
public import proofs.«01_k».proof.Proof.Gen.DownTx
public import proofs.«01_k».proof.Proof.Gen.DownTx.Skeleton
public import proofs.«01_k».proof.Proof.Gen.DownTx.Launch
public import proofs.«01_k».proof.Proof.Gen.DownTx.Points
public import proofs.«01_k».proof.Proof.Gen.DownTx.Frame
public import proofs.«01_k».proof.Proof.Gen.DownTxIdeal
public import proofs.«01_k».proof.Proof.Gen.DownTxIdeal.Skeleton
public import proofs.«01_k».proof.Proof.Gen.DownTxIdeal.Launch
public import proofs.«01_k».proof.Proof.Gen.DownTxIdeal.Points
public import proofs.«01_k».proof.Proof.Gen.DownTxIdeal.Frame
public import proofs.«01_k».proof.Proof.Gen.DownTxRefIdeal
public import proofs.«01_k».proof.Proof.Gen.DownTxRefIdeal.Skeleton
public import proofs.«01_k».proof.Proof.Gen.DownTxRefIdeal.Launch
public import proofs.«01_k».proof.Proof.Gen.DownTxRefIdeal.Points
public import proofs.«01_k».proof.Proof.Gen.DownTxRefIdeal.Frame
public import proofs.«01_k».proof.Proof.Gen.LnIm
public import proofs.«01_k».proof.Proof.Gen.LnIm.Skeleton
public import proofs.«01_k».proof.Proof.Gen.LnIm.Launch
public import proofs.«01_k».proof.Proof.Gen.LnIm.Points
public import proofs.«01_k».proof.Proof.Gen.LnIm.Frame
public import proofs.«01_k».proof.Proof.Gen.LnImIdeal
public import proofs.«01_k».proof.Proof.Gen.LnImIdeal.Skeleton
public import proofs.«01_k».proof.Proof.Gen.LnImIdeal.Launch
public import proofs.«01_k».proof.Proof.Gen.LnImIdeal.Points
public import proofs.«01_k».proof.Proof.Gen.LnImIdeal.Frame
public import proofs.«01_k».proof.Proof.Gen.LnImRefIdeal
public import proofs.«01_k».proof.Proof.Gen.LnImRefIdeal.Skeleton
public import proofs.«01_k».proof.Proof.Gen.LnImRefIdeal.Launch
public import proofs.«01_k».proof.Proof.Gen.LnImRefIdeal.Points
public import proofs.«01_k».proof.Proof.Gen.LnImRefIdeal.Frame
public import proofs.«01_k».proof.Proof.Gen.LnTx
public import proofs.«01_k».proof.Proof.Gen.LnTx.Skeleton
public import proofs.«01_k».proof.Proof.Gen.LnTx.Launch
public import proofs.«01_k».proof.Proof.Gen.LnTx.Points
public import proofs.«01_k».proof.Proof.Gen.LnTx.Frame
public import proofs.«01_k».proof.Proof.Gen.LnTxIdeal
public import proofs.«01_k».proof.Proof.Gen.LnTxIdeal.Skeleton
public import proofs.«01_k».proof.Proof.Gen.LnTxIdeal.Launch
public import proofs.«01_k».proof.Proof.Gen.LnTxIdeal.Points
public import proofs.«01_k».proof.Proof.Gen.LnTxIdeal.Frame
public import proofs.«01_k».proof.Proof.Gen.LnTxRefIdeal
public import proofs.«01_k».proof.Proof.Gen.LnTxRefIdeal.Skeleton
public import proofs.«01_k».proof.Proof.Gen.LnTxRefIdeal.Launch
public import proofs.«01_k».proof.Proof.Gen.LnTxRefIdeal.Points
public import proofs.«01_k».proof.Proof.Gen.LnTxRefIdeal.Frame
public import proofs.«01_k».proof.Proof.Gen.Pre_down_work_list
public import proofs.«01_k».proof.Proof.Gen.Pre_up_work_list
public import Idealize.ShloMosaic.Adequacy
public import Idealize.ShloMosaic.Init

@[expose] public section

noncomputable section

namespace Cert.Proof

open Idealize.ShloMosaic Idealize.SL.Sem Cert.Kernel

/-- The shared expert's up projection and its quantiser: kernel and reference end with the same codes and scales. -/
theorem algebraic_up : algebraic_KernelIdeal_ReferenceIdeal := by
  intro m ρ m' ρ' _ hm
  refine ⟨fun c => (Cert.KernelIdeal.Gen.dats m 0 c).arrAt 6 Cert.KernelIdeal.cfg0.N,
    fun c => (Cert.KernelIdeal.Gen.dats m 0 c).arrAt 7 Cert.KernelIdeal.cfg0.N,
    Cert.KernelIdeal.Value.run_blocks m ρ, ?_⟩
  refine (θ_run _ _ _).mono (fun r h c => ?_) (Cert.ReferenceIdeal.Value.run_blocks m' ρ')
  obtain ⟨h6, h7, hk⟩ := h c
  obtain ⟨e0, e1, e2, e3, e4, e5⟩ := hm c
  refine ⟨h6.trans ?_, h7.trans ?_, hk⟩
  · refine (Cert.RefValue.out6 m' c).trans (Eq.trans ?_ (Cert.UpValue.out6 m c).symm)
    unfold Cert.RefValue.hM Cert.UpValue.hM
    rw [e0, e1, e2, e3, e4, e5]
  · refine (Cert.RefValue.out7 m' c).trans (Eq.trans ?_ (Cert.UpValue.out7 m c).symm)
    unfold Cert.RefValue.hM Cert.UpValue.hM
    rw [e0, e1, e2, e3, e4, e5]

/-- The routed experts' down projection: kernel and reference end with the same rows. -/
theorem algebraic_down : algebraic_DownExIdeal_DownExRefIdeal := by
  intro m ρ m' ρ' hpre hm
  have hw := Cert.DownExIdeal.Gen.items_of_pre m hpre
  refine ⟨fun _ => fun y : Cert.DownExIdeal.S16384x2560.Idx => Cert.DownExIdeal.Gen.target m (y 0) (y 1),
    Cert.DownExIdeal.Gen.run_target m hw ρ, ?_⟩
  refine (θ_run _ _ _).mono (fun r h c => ?_) (Cert.DownExRefIdeal.Value.run_blocks m' ρ')
  obtain ⟨h5, hk⟩ := h c
  obtain ⟨e0, e1, e2, e3, e4, e5, e6, e7, e8⟩ := hm c
  obtain rfl : c = 0 := Subsingleton.elim _ _
  refine ⟨h5.trans ((Cert.DownRefValue.out5 m' 0).trans (funext fun y => ?_)), hk⟩
  unfold Cert.DownRefValue.pick
  rw [e0, e5, e6, e7, e8]
  refine (Cert.DownRefValue.pickF_of_lt _ _ _ _ (Cert.DownExIdeal.Gen.exF m (y 0)) ?_).trans rfl
  exact (Nat.mod_eq_of_lt (hw.row_lt (y 0))).symm

/-- The routed experts' up projections and their quantiser: kernel and reference end with the same codes and scales. -/
theorem algebraic_upex : algebraic_UpExIdeal_UpExRefIdeal := by
  intro m ρ m' ρ' hpre hm
  have hw := Cert.UpExIdeal.Gen.items_of_pre m hpre
  refine ⟨fun _ => fun y : Cert.UpExIdeal.S16384x6912.Idx => Cert.UpExIdeal.Gen.codeT m (y 0) (y 1),
    fun _ => fun y : Cert.UpExIdeal.S16384x1.Idx => Cert.UpExIdeal.Gen.scaleT m (y 0), ?_, ?_⟩
  · refine (θ_run _ _ _).mono (fun r h c => ?_) (Cert.UpExIdeal.Gen.run_target m hw ρ)
    obtain ⟨⟨h7, h8⟩, hk⟩ := h c
    exact ⟨h7, h8, hk⟩
  refine (θ_run _ _ _).mono (fun r h c => ?_) (Cert.UpExRefIdeal.Value.run_blocks m' ρ')
  obtain ⟨h7, h8, hk⟩ := h c
  obtain ⟨e0, e1, e2, e3, e4, e5, e6, e7, e8, e9, e10⟩ := hm c
  obtain rfl : c = 0 := Subsingleton.elim _ _
  have hR (R : Fin 16384) : Cert.UpExRefValue.hE m' 0 R = Cert.UpExIdeal.Gen.hT m R := by
    unfold Cert.UpExRefValue.hE
    rw [e0, e5, e6, e7, e8, e9, e10]
    refine (Cert.UpExRefValue.hidF_of_lt _ _ _ _ _ _ (Cert.UpExIdeal.Gen.exF m R) ?_).trans rfl
    exact (Nat.mod_eq_of_lt (hw.row_lt R)).symm
  refine ⟨h7.trans ((Cert.UpExRefValue.out7 m' 0).trans (funext fun y => ?_)), h8.trans ((Cert.UpExRefValue.out8 m' 0).trans (funext fun y => ?_)), hk⟩
  · exact congrArg (fun g : Fin 6912 → EReal => Cert.Quant.codeOf (Cert.Quant.scaleOf (Cert.Quant.rowMax g)) (g (y 1))) (hR (y 0))
  · exact congrArg (fun g : Fin 6912 → EReal => Cert.Quant.scaleOf (Cert.Quant.rowMax g)) (hR (y 0))

/-- The shared expert's down projection, with the routed rows, the gate and the residual: kernel and reference end with the same array. -/
theorem algebraic_downsh : algebraic_DownShIdeal_DownShRefIdeal := by
  intro m ρ m' ρ' _ hm
  refine ⟨fun c => (Cert.DownShIdeal.Gen.dats m 0 c).arrAt 7 Cert.DownShIdeal.cfg0.N, Cert.DownShIdeal.Value.run_blocks m ρ, ?_⟩
  refine (θ_run _ _ _).mono (fun r h c => ?_) (Cert.DownShRefIdeal.Value.run_blocks m' ρ')
  obtain ⟨h0, hk⟩ := h c
  obtain ⟨e0, e1, e2, e3, e4, e5, e6⟩ := hm c
  refine ⟨h0.trans ?_, hk⟩
  refine (Cert.DownShRefValue.out7 m' c).trans (Eq.trans ?_ (Cert.DownShBlock.out7 m c).symm)
  rw [e0, e1, e2, e3, e4, e5, e6]
  rfl

/-- The text stream's down projection, with the gate and the residual: kernel and reference end with the same array. -/
theorem algebraic_downtx : algebraic_DownTxIdeal_DownTxRefIdeal := by
  intro m ρ m' ρ' _ hm
  refine ⟨fun c => (Cert.DownTxIdeal.Gen.dats m 0 c).arrAt 6 Cert.DownTxIdeal.cfg0.N, Cert.DownTxIdeal.Value.run_blocks m ρ, ?_⟩
  refine (θ_run _ _ _).mono (fun r h c => ?_) (Cert.DownTxRefIdeal.Value.run_blocks m' ρ')
  obtain ⟨h0, hk⟩ := h c
  obtain ⟨e0, e1, e2, e3, e4, e5⟩ := hm c
  refine ⟨h0.trans ?_, hk⟩
  refine (Cert.DownTxRefValue.out6 m' c).trans (Eq.trans ?_ (Cert.DownTxBlock.out6 m c).symm)
  rw [e0, e1, e2, e3, e4, e5]
  rfl

/-- The image rows' layer norm, modulated and quantised: kernel and reference end with the same codes and scales. -/
theorem algebraic_lnim : algebraic_LnImIdeal_LnImRefIdeal := by
  intro m ρ m' ρ' _ hm
  refine ⟨fun c => (Cert.LnImIdeal.Gen.dats m 0 c).arrAt 2 Cert.LnImIdeal.cfg0.N, fun c => (Cert.LnImIdeal.Gen.dats m 0 c).arrAt 3 Cert.LnImIdeal.cfg0.N,
    Cert.LnImIdeal.Value.run_blocks m ρ, ?_⟩
  refine (θ_run _ _ _).mono (fun r h c => ?_) (Cert.LnImRefIdeal.Value.run_blocks m' ρ')
  obtain ⟨h0, h1, hk⟩ := h c
  obtain ⟨e0, e1⟩ := hm c
  have hR : Cert.LnImRefValue.nM m' c = Cert.LnImBlock.nM m c := by
    unfold Cert.LnImRefValue.nM Cert.LnImBlock.nM
    rw [e0, e1]
    rfl
  refine ⟨h0.trans ?_, h1.trans ?_, hk⟩
  · refine (Cert.LnImRefValue.out3 m' c).trans (Eq.trans ?_ (Cert.LnImBlock.out2 m c).symm)
    rw [hR]
  · refine (Cert.LnImRefValue.out4 m' c).trans (Eq.trans ?_ (Cert.LnImBlock.out3 m c).symm)
    rw [hR]

/-- The text rows' layer norm, modulated and quantised: kernel and reference end with the same codes and scales. -/
theorem algebraic_lntx : algebraic_LnTxIdeal_LnTxRefIdeal := by
  intro m ρ m' ρ' _ hm
  refine ⟨fun c => (Cert.LnTxIdeal.Gen.dats m 0 c).arrAt 2 Cert.LnTxIdeal.cfg0.N, fun c => (Cert.LnTxIdeal.Gen.dats m 0 c).arrAt 3 Cert.LnTxIdeal.cfg0.N,
    Cert.LnTxIdeal.Value.run_blocks m ρ, ?_⟩
  refine (θ_run _ _ _).mono (fun r h c => ?_) (Cert.LnTxRefIdeal.Value.run_blocks m' ρ')
  obtain ⟨h0, h1, hk⟩ := h c
  obtain ⟨e0, e1⟩ := hm c
  have hR : Cert.LnTxRefValue.nM m' c = Cert.LnTxBlock.nM m c := by
    unfold Cert.LnTxRefValue.nM Cert.LnTxBlock.nM
    rw [e0, e1]
    rfl
  refine ⟨h0.trans ?_, h1.trans ?_, hk⟩
  · refine (Cert.LnTxRefValue.out3 m' c).trans (Eq.trans ?_ (Cert.LnTxBlock.out2 m c).symm)
    rw [hR]
  · refine (Cert.LnTxRefValue.out4 m' c).trans (Eq.trans ?_ (Cert.LnTxBlock.out3 m c).symm)
    rw [hR]

theorem claim : Cert.Claim := ⟨Cert.Kernel.Gen.facts, Cert.KernelIdeal.Gen.facts, Cert.ReferenceIdeal.Gen.facts, Cert.DownEx.Gen.facts, Cert.DownExIdeal.Gen.facts, Cert.DownExRefIdeal.Gen.facts, Cert.UpEx.Gen.facts, Cert.UpExIdeal.Gen.facts, Cert.UpExRefIdeal.Gen.facts, Cert.DownSh.Gen.facts, Cert.DownShIdeal.Gen.facts, Cert.DownShRefIdeal.Gen.facts, Cert.DownTx.Gen.facts, Cert.DownTxIdeal.Gen.facts, Cert.DownTxRefIdeal.Gen.facts, Cert.LnIm.Gen.facts, Cert.LnImIdeal.Gen.facts, Cert.LnImRefIdeal.Gen.facts, Cert.LnTx.Gen.facts, Cert.LnTxIdeal.Gen.facts, Cert.LnTxRefIdeal.Gen.facts, Cert.Pre_down_work_list.Gen.facts, Cert.Pre_up_work_list.Gen.facts,
  fun m ρ _ => Cert.Kernel.Gen.frame m ρ, fun m ρ _ => Cert.KernelIdeal.Gen.frame m ρ, fun m ρ _ => Cert.ReferenceIdeal.Gen.frame m ρ,
  fun m ρ h => Cert.DownEx.Gen.frame m ρ (Cert.DownEx.Gen.ok_of_items m (Cert.DownEx.Gen.items_of_pre m h)),
  fun m ρ h => Cert.DownExIdeal.Gen.frame m ρ (Cert.DownExIdeal.Gen.ok_of_items m (Cert.DownExIdeal.Gen.items_of_pre m h)),
  fun m ρ _ => Cert.DownExRefIdeal.Gen.frame m ρ,
  fun m ρ h => Cert.UpEx.Gen.frame m ρ (Cert.UpEx.Gen.ok_of_items m (Cert.UpEx.Gen.items_of_pre m h)),
  fun m ρ h => Cert.UpExIdeal.Gen.frame m ρ (Cert.UpExIdeal.Gen.ok_of_items m (Cert.UpExIdeal.Gen.items_of_pre m h)),
  fun m ρ _ => Cert.UpExRefIdeal.Gen.frame m ρ,
  fun m ρ _ => Cert.DownSh.Gen.frame m ρ,
  fun m ρ _ => Cert.DownShIdeal.Gen.frame m ρ,
  fun m ρ _ => Cert.DownShRefIdeal.Gen.frame m ρ,
  fun m ρ _ => Cert.DownTx.Gen.frame m ρ,
  fun m ρ _ => Cert.DownTxIdeal.Gen.frame m ρ,
  fun m ρ _ => Cert.DownTxRefIdeal.Gen.frame m ρ,
  fun m ρ _ => Cert.LnIm.Gen.frame m ρ,
  fun m ρ _ => Cert.LnImIdeal.Gen.frame m ρ,
  fun m ρ _ => Cert.LnImRefIdeal.Gen.frame m ρ,
  fun m ρ _ => Cert.LnTx.Gen.frame m ρ,
  fun m ρ _ => Cert.LnTxIdeal.Gen.frame m ρ,
  fun m ρ _ => Cert.LnTxRefIdeal.Gen.frame m ρ,
  trivial, algebraic_up, trivial, algebraic_down, trivial, algebraic_upex, trivial, algebraic_downsh, trivial, algebraic_downtx, trivial, algebraic_lnim, trivial, algebraic_lntx⟩

end Cert.Proof

end
